-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))) = (fun _ => 1#1)

def Pre_Dif (m : (ℓ : Loc Cert.Dif.nD Cert.Dif.τ Cert.Dif.sig) → Buf (Elt Bits) ℓ) : Prop :=
  True

def Pre_DifIdeal (m : (ℓ : Loc Cert.DifIdeal.nD Cert.DifIdeal.τ Cert.DifIdeal.sig) → Buf (Elt Ideal) ℓ) : Prop :=
  True

def Pre_DifIdeal_finite_diff [hPre_finite_diff : Cert.Pre_finite_diff.Facts] (m : (ℓ : Loc Cert.DifIdeal.nD Cert.DifIdeal.τ Cert.DifIdeal.sig) → Buf (Elt Ideal) ℓ) : Prop :=
  ∀ c : Dev Cert.DifIdeal.nD,
    (Cert.Pre_finite_diff.fn (F := Ideal) (m ((c.tc : Thread Cert.DifIdeal.nD Cert.DifIdeal.τ).loc Cert.DifIdeal.main_arg0)) (m ((c.tc : Thread Cert.DifIdeal.nD Cert.DifIdeal.τ).loc Cert.DifIdeal.main_arg1)) (m ((c.tc : Thread Cert.DifIdeal.nD Cert.DifIdeal.τ).loc Cert.DifIdeal.main_arg2)) (m ((c.tc : Thread Cert.DifIdeal.nD Cert.DifIdeal.τ).loc Cert.DifIdeal.main_arg3)) (m ((c.tc : Thread Cert.DifIdeal.nD Cert.DifIdeal.τ).loc Cert.DifIdeal.main_arg4)) (m ((c.tc : Thread Cert.DifIdeal.nD Cert.DifIdeal.τ).loc Cert.DifIdeal.main_arg5)) (m ((c.tc : Thread Cert.DifIdeal.nD Cert.DifIdeal.τ).loc Cert.DifIdeal.main_arg6)) (m ((c.tc : Thread Cert.DifIdeal.nD Cert.DifIdeal.τ).loc Cert.DifIdeal.main_arg7)) (m ((c.tc : Thread Cert.DifIdeal.nD Cert.DifIdeal.τ).loc Cert.DifIdeal.main_arg8)) (m ((c.tc : Thread Cert.DifIdeal.nD Cert.DifIdeal.τ).loc Cert.DifIdeal.main_arg9)) (m ((c.tc : Thread Cert.DifIdeal.nD Cert.DifIdeal.τ).loc Cert.DifIdeal.main_arg10))) = (fun _ => 1#1)

def Pre_DifRefIdeal (m : (ℓ : Loc Cert.DifRefIdeal.nD Cert.DifRefIdeal.τ Cert.DifRefIdeal.sig) → Buf (Elt Ideal) ℓ) : Prop :=
  True

def Pre_DifRefIdeal_finite_diff [hPre_finite_diff : Cert.Pre_finite_diff.Facts] (m : (ℓ : Loc Cert.DifRefIdeal.nD Cert.DifRefIdeal.τ Cert.DifRefIdeal.sig) → Buf (Elt Ideal) ℓ) : Prop :=
  ∀ c : Dev Cert.DifRefIdeal.nD,
    (Cert.Pre_finite_diff.fn (F := Ideal) (m ((c.tc : Thread Cert.DifRefIdeal.nD Cert.DifRefIdeal.τ).loc Cert.DifRefIdeal.main_arg0)) (m ((c.tc : Thread Cert.DifRefIdeal.nD Cert.DifRefIdeal.τ).loc Cert.DifRefIdeal.main_arg1)) (m ((c.tc : Thread Cert.DifRefIdeal.nD Cert.DifRefIdeal.τ).loc Cert.DifRefIdeal.main_arg2)) (m ((c.tc : Thread Cert.DifRefIdeal.nD Cert.DifRefIdeal.τ).loc Cert.DifRefIdeal.main_arg3)) (m ((c.tc : Thread Cert.DifRefIdeal.nD Cert.DifRefIdeal.τ).loc Cert.DifRefIdeal.main_arg4)) (m ((c.tc : Thread Cert.DifRefIdeal.nD Cert.DifRefIdeal.τ).loc Cert.DifRefIdeal.main_arg5)) (m ((c.tc : Thread Cert.DifRefIdeal.nD Cert.DifRefIdeal.τ).loc Cert.DifRefIdeal.main_arg6)) (m ((c.tc : Thread Cert.DifRefIdeal.nD Cert.DifRefIdeal.τ).loc Cert.DifRefIdeal.main_arg7)) (m ((c.tc : Thread Cert.DifRefIdeal.nD Cert.DifRefIdeal.τ).loc Cert.DifRefIdeal.main_arg8)) (m ((c.tc : Thread Cert.DifRefIdeal.nD Cert.DifRefIdeal.τ).loc Cert.DifRefIdeal.main_arg9)) (m ((c.tc : Thread Cert.DifRefIdeal.nD Cert.DifRefIdeal.τ).loc Cert.DifRefIdeal.main_arg10))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gat (m : (ℓ : Loc Cert.Gat.nD Cert.Gat.τ Cert.Gat.sig) → Buf (Elt Bits) ℓ) : Prop :=
  True

def Pre_GatIdeal (m : (ℓ : Loc Cert.GatIdeal.nD Cert.GatIdeal.τ Cert.GatIdeal.sig) → Buf (Elt Ideal) ℓ) : Prop :=
  True

def Pre_GatRefIdeal (m : (ℓ : Loc Cert.GatRefIdeal.nD Cert.GatRefIdeal.τ Cert.GatRefIdeal.sig) → Buf (Elt Ideal) ℓ) : Prop :=
  True

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_Rop (m : (ℓ : Loc Cert.Rop.nD Cert.Rop.τ Cert.Rop.sig) → Buf (Elt Bits) ℓ) : Prop :=
  True

def Pre_RopIdeal (m : (ℓ : Loc Cert.RopIdeal.nD Cert.RopIdeal.τ Cert.RopIdeal.sig) → Buf (Elt Ideal) ℓ) : Prop :=
  True

def Pre_RopRefIdeal (m : (ℓ : Loc Cert.RopRefIdeal.nD Cert.RopRefIdeal.τ Cert.RopRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Swk (m : (ℓ : Loc Cert.Swk.nD Cert.Swk.τ Cert.Swk.sig) → Buf (Elt Bits) ℓ) : Prop :=
  True

def Pre_SwkIdeal (m : (ℓ : Loc Cert.SwkIdeal.nD Cert.SwkIdeal.τ Cert.SwkIdeal.sig) → Buf (Elt Ideal) ℓ) : Prop :=
  True

def Pre_SwkRefIdeal (m : (ℓ : Loc Cert.SwkRefIdeal.nD Cert.SwkRefIdeal.τ Cert.SwkRefIdeal.sig) → Buf (Elt Ideal) ℓ) : Prop :=
  True

def Pre_Swv (m : (ℓ : Loc Cert.Swv.nD Cert.Swv.τ Cert.Swv.sig) → Buf (Elt Bits) ℓ) : Prop :=
  True

def Pre_SwvIdeal (m : (ℓ : Loc Cert.SwvIdeal.nD Cert.SwvIdeal.τ Cert.SwvIdeal.sig) → Buf (Elt Ideal) ℓ) : Prop :=
  True

def Pre_SwvRefIdeal (m : (ℓ : Loc Cert.SwvRefIdeal.nD Cert.SwvRefIdeal.τ Cert.SwvRefIdeal.sig) → Buf (Elt Ideal) ℓ) : Prop :=
  True

def Pre_Mlv (m : (ℓ : Loc Cert.Mlv.nD Cert.Mlv.τ Cert.Mlv.sig) → Buf (Elt Bits) ℓ) : Prop :=
  True

def Pre_MlvIdeal (m : (ℓ : Loc Cert.MlvIdeal.nD Cert.MlvIdeal.τ Cert.MlvIdeal.sig) → Buf (Elt Ideal) ℓ) : Prop :=
  True

def Pre_MlvRefIdeal (m : (ℓ : Loc Cert.MlvRefIdeal.nD Cert.MlvRefIdeal.τ Cert.MlvRefIdeal.sig) → Buf (Elt Ideal) ℓ) : Prop :=
  True

def Pre_Mcq (m : (ℓ : Loc Cert.Mcq.nD Cert.Mcq.τ Cert.Mcq.sig) → Buf (Elt Bits) ℓ) : Prop :=
  True

def Pre_McqIdeal (m : (ℓ : Loc Cert.McqIdeal.nD Cert.McqIdeal.τ Cert.McqIdeal.sig) → Buf (Elt Ideal) ℓ) : Prop :=
  True

def Pre_McqRefIdeal (m : (ℓ : Loc Cert.McqRefIdeal.nD Cert.McqRefIdeal.τ Cert.McqRefIdeal.sig) → Buf (Elt Ideal) ℓ) : Prop :=
  True

def Pre_Mck (m : (ℓ : Loc Cert.Mck.nD Cert.Mck.τ Cert.Mck.sig) → Buf (Elt Bits) ℓ) : Prop :=
  True

def Pre_MckIdeal (m : (ℓ : Loc Cert.MckIdeal.nD Cert.MckIdeal.τ Cert.MckIdeal.sig) → Buf (Elt Ideal) ℓ) : Prop :=
  True

def Pre_MckRefIdeal (m : (ℓ : Loc Cert.MckRefIdeal.nD Cert.MckRefIdeal.τ Cert.MckRefIdeal.sig) → Buf (Elt Ideal) ℓ) : Prop :=
  True

def Pre_Mkn (m : (ℓ : Loc Cert.Mkn.nD Cert.Mkn.τ Cert.Mkn.sig) → Buf (Elt Bits) ℓ) : Prop :=
  True

def Pre_MknIdeal (m : (ℓ : Loc Cert.MknIdeal.nD Cert.MknIdeal.τ Cert.MknIdeal.sig) → Buf (Elt Ideal) ℓ) : Prop :=
  True

def Pre_MknRefIdeal (m : (ℓ : Loc Cert.MknRefIdeal.nD Cert.MknRefIdeal.τ Cert.MknRefIdeal.sig) → Buf (Elt Ideal) ℓ) : Prop :=
  True

def Pre_Mlq (m : (ℓ : Loc Cert.Mlq.nD Cert.Mlq.τ Cert.Mlq.sig) → Buf (Elt Bits) ℓ) : Prop :=
  True

def Pre_MlqIdeal (m : (ℓ : Loc Cert.MlqIdeal.nD Cert.MlqIdeal.τ Cert.MlqIdeal.sig) → Buf (Elt Ideal) ℓ) : Prop :=
  True

def Pre_MlqRefIdeal (m : (ℓ : Loc Cert.MlqRefIdeal.nD Cert.MlqRefIdeal.τ Cert.MlqRefIdeal.sig) → Buf (Elt Ideal) ℓ) : Prop :=
  True

def Pre_Mkr (m : (ℓ : Loc Cert.Mkr.nD Cert.Mkr.τ Cert.Mkr.sig) → Buf (Elt Bits) ℓ) : Prop :=
  True

def Pre_MkrIdeal (m : (ℓ : Loc Cert.MkrIdeal.nD Cert.MkrIdeal.τ Cert.MkrIdeal.sig) → Buf (Elt Ideal) ℓ) : Prop :=
  True

def Pre_MkrRefIdeal (m : (ℓ : Loc Cert.MkrRefIdeal.nD Cert.MkrRefIdeal.τ Cert.MkrRefIdeal.sig) → Buf (Elt Ideal) ℓ) : Prop :=
  True

def Pre_Cou (m : (ℓ : Loc Cert.Cou.nD Cert.Cou.τ Cert.Cou.sig) → Buf (Elt Bits) ℓ) : Prop :=
  True

def Pre_CouIdeal (m : (ℓ : Loc Cert.CouIdeal.nD Cert.CouIdeal.τ Cert.CouIdeal.sig) → Buf (Elt Ideal) ℓ) : Prop :=
  True

def Pre_CouRefIdeal (m : (ℓ : Loc Cert.CouRefIdeal.nD Cert.CouRefIdeal.τ Cert.CouRefIdeal.sig) → Buf (Elt Ideal) ℓ) : Prop :=
  True

def Pre_Cga (m : (ℓ : Loc Cert.Cga.nD Cert.Cga.τ Cert.Cga.sig) → Buf (Elt Bits) ℓ) : Prop :=
  True

def Pre_CgaIdeal (m : (ℓ : Loc Cert.CgaIdeal.nD Cert.CgaIdeal.τ Cert.CgaIdeal.sig) → Buf (Elt Ideal) ℓ) : Prop :=
  True

def Pre_CgaRefIdeal (m : (ℓ : Loc Cert.CgaRefIdeal.nD Cert.CgaRefIdeal.τ Cert.CgaRefIdeal.sig) → Buf (Elt Ideal) ℓ) : Prop :=
  True

def Pre_Cli (m : (ℓ : Loc Cert.Cli.nD Cert.Cli.τ Cert.Cli.sig) → Buf (Elt Bits) ℓ) : Prop :=
  True

def Pre_CliIdeal (m : (ℓ : Loc Cert.CliIdeal.nD Cert.CliIdeal.τ Cert.CliIdeal.sig) → Buf (Elt Ideal) ℓ) : Prop :=
  True

def Pre_CliRefIdeal (m : (ℓ : Loc Cert.CliRefIdeal.nD Cert.CliRefIdeal.τ Cert.CliRefIdeal.sig) → Buf (Elt Ideal) ℓ) : Prop :=
  True

def Pre_Chn (m : (ℓ : Loc Cert.Chn.nD Cert.Chn.τ Cert.Chn.sig) → Buf (Elt Bits) ℓ) : Prop :=
  True

def Pre_ChnIdeal (m : (ℓ : Loc Cert.ChnIdeal.nD Cert.ChnIdeal.τ Cert.ChnIdeal.sig) → Buf (Elt Ideal) ℓ) : Prop :=
  True

def Pre_ChnRefIdeal (m : (ℓ : Loc Cert.ChnRefIdeal.nD Cert.ChnRefIdeal.τ Cert.ChnRefIdeal.sig) → Buf (Elt Ideal) ℓ) : Prop :=
  True

def Pre_Cva (m : (ℓ : Loc Cert.Cva.nD Cert.Cva.τ Cert.Cva.sig) → Buf (Elt Bits) ℓ) : Prop :=
  True

def Pre_CvaIdeal (m : (ℓ : Loc Cert.CvaIdeal.nD Cert.CvaIdeal.τ Cert.CvaIdeal.sig) → Buf (Elt Ideal) ℓ) : Prop :=
  True

def Pre_CvaRefIdeal (m : (ℓ : Loc Cert.CvaRefIdeal.nD Cert.CvaRefIdeal.τ Cert.CvaRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mno (m : (ℓ : Loc Cert.Mno.nD Cert.Mno.τ Cert.Mno.sig) → Buf (Elt Bits) ℓ) : Prop :=
  True

def Pre_MnoIdeal (m : (ℓ : Loc Cert.MnoIdeal.nD Cert.MnoIdeal.τ Cert.MnoIdeal.sig) → Buf (Elt Ideal) ℓ) : Prop :=
  True

def Pre_MnoRefIdeal (m : (ℓ : Loc Cert.MnoRefIdeal.nD Cert.MnoRefIdeal.τ Cert.MnoRefIdeal.sig) → Buf (Elt Ideal) ℓ) : Prop :=
  True

def Pre_Cmn (m : (ℓ : Loc Cert.Cmn.nD Cert.Cmn.τ Cert.Cmn.sig) → Buf (Elt Bits) ℓ) : Prop :=
  True

def Pre_CmnIdeal (m : (ℓ : Loc Cert.CmnIdeal.nD Cert.CmnIdeal.τ Cert.CmnIdeal.sig) → Buf (Elt Ideal) ℓ) : Prop :=
  True

def Pre_CmnRefIdeal (m : (ℓ : Loc Cert.CmnRefIdeal.nD Cert.CmnRefIdeal.τ Cert.CmnRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_Dif [hDif : Cert.Dif.Facts] : Prop :=
  ∀ (m : (ℓ : Loc Cert.Dif.nD Cert.Dif.τ Cert.Dif.sig) → Buf (Elt Bits) ℓ) (g : Dev Cert.Dif.nD → PrngReg), Pre_Dif m →
    θ_run (Cert.Dif.defs (F := Bits)) (onTc (τ := Cert.Dif.τ) (Cert.Dif.main (F := Bits))) ⟨m, fun _ => 0, g⟩ (fun r => (∀ c : Dev Cert.Dif.nD,
      r.2.mem ((c.tc : Thread Cert.Dif.nD Cert.Dif.τ).loc Cert.Dif.main_arg0) = m ((c.tc : Thread Cert.Dif.nD Cert.Dif.τ).loc Cert.Dif.main_arg0)
      ∧ r.2.mem ((c.tc : Thread Cert.Dif.nD Cert.Dif.τ).loc Cert.Dif.main_arg1) = m ((c.tc : Thread Cert.Dif.nD Cert.Dif.τ).loc Cert.Dif.main_arg1)
      ∧ r.2.mem ((c.tc : Thread Cert.Dif.nD Cert.Dif.τ).loc Cert.Dif.main_arg2) = m ((c.tc : Thread Cert.Dif.nD Cert.Dif.τ).loc Cert.Dif.main_arg2)
      ∧ r.2.mem ((c.tc : Thread Cert.Dif.nD Cert.Dif.τ).loc Cert.Dif.main_arg3) = m ((c.tc : Thread Cert.Dif.nD Cert.Dif.τ).loc Cert.Dif.main_arg3)
      ∧ r.2.mem ((c.tc : Thread Cert.Dif.nD Cert.Dif.τ).loc Cert.Dif.main_arg4) = m ((c.tc : Thread Cert.Dif.nD Cert.Dif.τ).loc Cert.Dif.main_arg4)
      ∧ r.2.mem ((c.tc : Thread Cert.Dif.nD Cert.Dif.τ).loc Cert.Dif.main_arg5) = m ((c.tc : Thread Cert.Dif.nD Cert.Dif.τ).loc Cert.Dif.main_arg5)
      ∧ r.2.mem ((c.tc : Thread Cert.Dif.nD Cert.Dif.τ).loc Cert.Dif.main_arg6) = m ((c.tc : Thread Cert.Dif.nD Cert.Dif.τ).loc Cert.Dif.main_arg6)
      ∧ r.2.mem ((c.tc : Thread Cert.Dif.nD Cert.Dif.τ).loc Cert.Dif.main_arg7) = m ((c.tc : Thread Cert.Dif.nD Cert.Dif.τ).loc Cert.Dif.main_arg7)
      ∧ r.2.mem ((c.tc : Thread Cert.Dif.nD Cert.Dif.τ).loc Cert.Dif.main_arg8) = m ((c.tc : Thread Cert.Dif.nD Cert.Dif.τ).loc Cert.Dif.main_arg8)
      ∧ r.2.mem ((c.tc : Thread Cert.Dif.nD Cert.Dif.τ).loc Cert.Dif.main_arg9) = m ((c.tc : Thread Cert.Dif.nD Cert.Dif.τ).loc Cert.Dif.main_arg9)
      ∧ r.2.mem ((c.tc : Thread Cert.Dif.nD Cert.Dif.τ).loc Cert.Dif.main_arg10) = m ((c.tc : Thread Cert.Dif.nD Cert.Dif.τ).loc Cert.Dif.main_arg10))
      ∧ r.2.sem = fun _ => 0)

def quiescent_DifIdeal [hDifIdeal : Cert.DifIdeal.Facts] : Prop :=
  ∀ (m : (ℓ : Loc Cert.DifIdeal.nD Cert.DifIdeal.τ Cert.DifIdeal.sig) → Buf (Elt Ideal) ℓ) (g : Dev Cert.DifIdeal.nD → PrngReg), Pre_DifIdeal m →
    θ_run (Cert.DifIdeal.defs (F := Ideal)) (onTc (τ := Cert.DifIdeal.τ) (Cert.DifIdeal.main (F := Ideal))) ⟨m, fun _ => 0, g⟩ (fun r => (∀ c : Dev Cert.DifIdeal.nD,
      r.2.mem ((c.tc : Thread Cert.DifIdeal.nD Cert.DifIdeal.τ).loc Cert.DifIdeal.main_arg0) = m ((c.tc : Thread Cert.DifIdeal.nD Cert.DifIdeal.τ).loc Cert.DifIdeal.main_arg0)
      ∧ r.2.mem ((c.tc : Thread Cert.DifIdeal.nD Cert.DifIdeal.τ).loc Cert.DifIdeal.main_arg1) = m ((c.tc : Thread Cert.DifIdeal.nD Cert.DifIdeal.τ).loc Cert.DifIdeal.main_arg1)
      ∧ r.2.mem ((c.tc : Thread Cert.DifIdeal.nD Cert.DifIdeal.τ).loc Cert.DifIdeal.main_arg2) = m ((c.tc : Thread Cert.DifIdeal.nD Cert.DifIdeal.τ).loc Cert.DifIdeal.main_arg2)
      ∧ r.2.mem ((c.tc : Thread Cert.DifIdeal.nD Cert.DifIdeal.τ).loc Cert.DifIdeal.main_arg3) = m ((c.tc : Thread Cert.DifIdeal.nD Cert.DifIdeal.τ).loc Cert.DifIdeal.main_arg3)
      ∧ r.2.mem ((c.tc : Thread Cert.DifIdeal.nD Cert.DifIdeal.τ).loc Cert.DifIdeal.main_arg4) = m ((c.tc : Thread Cert.DifIdeal.nD Cert.DifIdeal.τ).loc Cert.DifIdeal.main_arg4)
      ∧ r.2.mem ((c.tc : Thread Cert.DifIdeal.nD Cert.DifIdeal.τ).loc Cert.DifIdeal.main_arg5) = m ((c.tc : Thread Cert.DifIdeal.nD Cert.DifIdeal.τ).loc Cert.DifIdeal.main_arg5)
      ∧ r.2.mem ((c.tc : Thread Cert.DifIdeal.nD Cert.DifIdeal.τ).loc Cert.DifIdeal.main_arg6) = m ((c.tc : Thread Cert.DifIdeal.nD Cert.DifIdeal.τ).loc Cert.DifIdeal.main_arg6)
      ∧ r.2.mem ((c.tc : Thread Cert.DifIdeal.nD Cert.DifIdeal.τ).loc Cert.DifIdeal.main_arg7) = m ((c.tc : Thread Cert.DifIdeal.nD Cert.DifIdeal.τ).loc Cert.DifIdeal.main_arg7)
      ∧ r.2.mem ((c.tc : Thread Cert.DifIdeal.nD Cert.DifIdeal.τ).loc Cert.DifIdeal.main_arg8) = m ((c.tc : Thread Cert.DifIdeal.nD Cert.DifIdeal.τ).loc Cert.DifIdeal.main_arg8)
      ∧ r.2.mem ((c.tc : Thread Cert.DifIdeal.nD Cert.DifIdeal.τ).loc Cert.DifIdeal.main_arg9) = m ((c.tc : Thread Cert.DifIdeal.nD Cert.DifIdeal.τ).loc Cert.DifIdeal.main_arg9)
      ∧ r.2.mem ((c.tc : Thread Cert.DifIdeal.nD Cert.DifIdeal.τ).loc Cert.DifIdeal.main_arg10) = m ((c.tc : Thread Cert.DifIdeal.nD Cert.DifIdeal.τ).loc Cert.DifIdeal.main_arg10))
      ∧ r.2.sem = fun _ => 0)

def quiescent_DifIdeal_pre_finite_diff [hDifIdeal : Cert.DifIdeal.Facts] [hPre_finite_diff : Cert.Pre_finite_diff.Facts] : Prop :=
  ∀ (m : (ℓ : Loc Cert.DifIdeal.nD Cert.DifIdeal.τ Cert.DifIdeal.sig) → Buf (Elt Ideal) ℓ) (g : Dev Cert.DifIdeal.nD → PrngReg), Pre_DifIdeal_finite_diff m →
    θ_run (Cert.DifIdeal.defs (F := Ideal)) (onTc (τ := Cert.DifIdeal.τ) (Cert.DifIdeal.main (F := Ideal))) ⟨m, fun _ => 0, g⟩ (fun r => (∀ c : Dev Cert.DifIdeal.nD,
      r.2.mem ((c.tc : Thread Cert.DifIdeal.nD Cert.DifIdeal.τ).loc Cert.DifIdeal.main_arg0) = m ((c.tc : Thread Cert.DifIdeal.nD Cert.DifIdeal.τ).loc Cert.DifIdeal.main_arg0)
      ∧ r.2.mem ((c.tc : Thread Cert.DifIdeal.nD Cert.DifIdeal.τ).loc Cert.DifIdeal.main_arg1) = m ((c.tc : Thread Cert.DifIdeal.nD Cert.DifIdeal.τ).loc Cert.DifIdeal.main_arg1)
      ∧ r.2.mem ((c.tc : Thread Cert.DifIdeal.nD Cert.DifIdeal.τ).loc Cert.DifIdeal.main_arg2) = m ((c.tc : Thread Cert.DifIdeal.nD Cert.DifIdeal.τ).loc Cert.DifIdeal.main_arg2)
      ∧ r.2.mem ((c.tc : Thread Cert.DifIdeal.nD Cert.DifIdeal.τ).loc Cert.DifIdeal.main_arg3) = m ((c.tc : Thread Cert.DifIdeal.nD Cert.DifIdeal.τ).loc Cert.DifIdeal.main_arg3)
      ∧ r.2.mem ((c.tc : Thread Cert.DifIdeal.nD Cert.DifIdeal.τ).loc Cert.DifIdeal.main_arg4) = m ((c.tc : Thread Cert.DifIdeal.nD Cert.DifIdeal.τ).loc Cert.DifIdeal.main_arg4)
      ∧ r.2.mem ((c.tc : Thread Cert.DifIdeal.nD Cert.DifIdeal.τ).loc Cert.DifIdeal.main_arg5) = m ((c.tc : Thread Cert.DifIdeal.nD Cert.DifIdeal.τ).loc Cert.DifIdeal.main_arg5)
      ∧ r.2.mem ((c.tc : Thread Cert.DifIdeal.nD Cert.DifIdeal.τ).loc Cert.DifIdeal.main_arg6) = m ((c.tc : Thread Cert.DifIdeal.nD Cert.DifIdeal.τ).loc Cert.DifIdeal.main_arg6)
      ∧ r.2.mem ((c.tc : Thread Cert.DifIdeal.nD Cert.DifIdeal.τ).loc Cert.DifIdeal.main_arg7) = m ((c.tc : Thread Cert.DifIdeal.nD Cert.DifIdeal.τ).loc Cert.DifIdeal.main_arg7)
      ∧ r.2.mem ((c.tc : Thread Cert.DifIdeal.nD Cert.DifIdeal.τ).loc Cert.DifIdeal.main_arg8) = m ((c.tc : Thread Cert.DifIdeal.nD Cert.DifIdeal.τ).loc Cert.DifIdeal.main_arg8)
      ∧ r.2.mem ((c.tc : Thread Cert.DifIdeal.nD Cert.DifIdeal.τ).loc Cert.DifIdeal.main_arg9) = m ((c.tc : Thread Cert.DifIdeal.nD Cert.DifIdeal.τ).loc Cert.DifIdeal.main_arg9)
      ∧ r.2.mem ((c.tc : Thread Cert.DifIdeal.nD Cert.DifIdeal.τ).loc Cert.DifIdeal.main_arg10) = m ((c.tc : Thread Cert.DifIdeal.nD Cert.DifIdeal.τ).loc Cert.DifIdeal.main_arg10))
      ∧ r.2.sem = fun _ => 0)

def quiescent_DifRefIdeal [hDifRefIdeal : Cert.DifRefIdeal.Facts] : Prop :=
  ∀ (m : (ℓ : Loc Cert.DifRefIdeal.nD Cert.DifRefIdeal.τ Cert.DifRefIdeal.sig) → Buf (Elt Ideal) ℓ) (g : Dev Cert.DifRefIdeal.nD → PrngReg), Pre_DifRefIdeal m →
    θ_run (Cert.DifRefIdeal.defs (F := Ideal)) (onTc (τ := Cert.DifRefIdeal.τ) (Cert.DifRefIdeal.main (F := Ideal))) ⟨m, fun _ => 0, g⟩ (fun r => (∀ c : Dev Cert.DifRefIdeal.nD,
      r.2.mem ((c.tc : Thread Cert.DifRefIdeal.nD Cert.DifRefIdeal.τ).loc Cert.DifRefIdeal.main_arg0) = m ((c.tc : Thread Cert.DifRefIdeal.nD Cert.DifRefIdeal.τ).loc Cert.DifRefIdeal.main_arg0)
      ∧ r.2.mem ((c.tc : Thread Cert.DifRefIdeal.nD Cert.DifRefIdeal.τ).loc Cert.DifRefIdeal.main_arg1) = m ((c.tc : Thread Cert.DifRefIdeal.nD Cert.DifRefIdeal.τ).loc Cert.DifRefIdeal.main_arg1)
      ∧ r.2.mem ((c.tc : Thread Cert.DifRefIdeal.nD Cert.DifRefIdeal.τ).loc Cert.DifRefIdeal.main_arg2) = m ((c.tc : Thread Cert.DifRefIdeal.nD Cert.DifRefIdeal.τ).loc Cert.DifRefIdeal.main_arg2)
      ∧ r.2.mem ((c.tc : Thread Cert.DifRefIdeal.nD Cert.DifRefIdeal.τ).loc Cert.DifRefIdeal.main_arg3) = m ((c.tc : Thread Cert.DifRefIdeal.nD Cert.DifRefIdeal.τ).loc Cert.DifRefIdeal.main_arg3)
      ∧ r.2.mem ((c.tc : Thread Cert.DifRefIdeal.nD Cert.DifRefIdeal.τ).loc Cert.DifRefIdeal.main_arg4) = m ((c.tc : Thread Cert.DifRefIdeal.nD Cert.DifRefIdeal.τ).loc Cert.DifRefIdeal.main_arg4)
      ∧ r.2.mem ((c.tc : Thread Cert.DifRefIdeal.nD Cert.DifRefIdeal.τ).loc Cert.DifRefIdeal.main_arg5) = m ((c.tc : Thread Cert.DifRefIdeal.nD Cert.DifRefIdeal.τ).loc Cert.DifRefIdeal.main_arg5)
      ∧ r.2.mem ((c.tc : Thread Cert.DifRefIdeal.nD Cert.DifRefIdeal.τ).loc Cert.DifRefIdeal.main_arg6) = m ((c.tc : Thread Cert.DifRefIdeal.nD Cert.DifRefIdeal.τ).loc Cert.DifRefIdeal.main_arg6)
      ∧ r.2.mem ((c.tc : Thread Cert.DifRefIdeal.nD Cert.DifRefIdeal.τ).loc Cert.DifRefIdeal.main_arg7) = m ((c.tc : Thread Cert.DifRefIdeal.nD Cert.DifRefIdeal.τ).loc Cert.DifRefIdeal.main_arg7)
      ∧ r.2.mem ((c.tc : Thread Cert.DifRefIdeal.nD Cert.DifRefIdeal.τ).loc Cert.DifRefIdeal.main_arg8) = m ((c.tc : Thread Cert.DifRefIdeal.nD Cert.DifRefIdeal.τ).loc Cert.DifRefIdeal.main_arg8)
      ∧ r.2.mem ((c.tc : Thread Cert.DifRefIdeal.nD Cert.DifRefIdeal.τ).loc Cert.DifRefIdeal.main_arg9) = m ((c.tc : Thread Cert.DifRefIdeal.nD Cert.DifRefIdeal.τ).loc Cert.DifRefIdeal.main_arg9)
      ∧ r.2.mem ((c.tc : Thread Cert.DifRefIdeal.nD Cert.DifRefIdeal.τ).loc Cert.DifRefIdeal.main_arg10) = m ((c.tc : Thread Cert.DifRefIdeal.nD Cert.DifRefIdeal.τ).loc Cert.DifRefIdeal.main_arg10))
      ∧ r.2.sem = fun _ => 0)

def quiescent_DifRefIdeal_pre_finite_diff [hDifRefIdeal : Cert.DifRefIdeal.Facts] [hPre_finite_diff : Cert.Pre_finite_diff.Facts] : Prop :=
  ∀ (m : (ℓ : Loc Cert.DifRefIdeal.nD Cert.DifRefIdeal.τ Cert.DifRefIdeal.sig) → Buf (Elt Ideal) ℓ) (g : Dev Cert.DifRefIdeal.nD → PrngReg), Pre_DifRefIdeal_finite_diff m →
    θ_run (Cert.DifRefIdeal.defs (F := Ideal)) (onTc (τ := Cert.DifRefIdeal.τ) (Cert.DifRefIdeal.main (F := Ideal))) ⟨m, fun _ => 0, g⟩ (fun r => (∀ c : Dev Cert.DifRefIdeal.nD,
      r.2.mem ((c.tc : Thread Cert.DifRefIdeal.nD Cert.DifRefIdeal.τ).loc Cert.DifRefIdeal.main_arg0) = m ((c.tc : Thread Cert.DifRefIdeal.nD Cert.DifRefIdeal.τ).loc Cert.DifRefIdeal.main_arg0)
      ∧ r.2.mem ((c.tc : Thread Cert.DifRefIdeal.nD Cert.DifRefIdeal.τ).loc Cert.DifRefIdeal.main_arg1) = m ((c.tc : Thread Cert.DifRefIdeal.nD Cert.DifRefIdeal.τ).loc Cert.DifRefIdeal.main_arg1)
      ∧ r.2.mem ((c.tc : Thread Cert.DifRefIdeal.nD Cert.DifRefIdeal.τ).loc Cert.DifRefIdeal.main_arg2) = m ((c.tc : Thread Cert.DifRefIdeal.nD Cert.DifRefIdeal.τ).loc Cert.DifRefIdeal.main_arg2)
      ∧ r.2.mem ((c.tc : Thread Cert.DifRefIdeal.nD Cert.DifRefIdeal.τ).loc Cert.DifRefIdeal.main_arg3) = m ((c.tc : Thread Cert.DifRefIdeal.nD Cert.DifRefIdeal.τ).loc Cert.DifRefIdeal.main_arg3)
      ∧ r.2.mem ((c.tc : Thread Cert.DifRefIdeal.nD Cert.DifRefIdeal.τ).loc Cert.DifRefIdeal.main_arg4) = m ((c.tc : Thread Cert.DifRefIdeal.nD Cert.DifRefIdeal.τ).loc Cert.DifRefIdeal.main_arg4)
      ∧ r.2.mem ((c.tc : Thread Cert.DifRefIdeal.nD Cert.DifRefIdeal.τ).loc Cert.DifRefIdeal.main_arg5) = m ((c.tc : Thread Cert.DifRefIdeal.nD Cert.DifRefIdeal.τ).loc Cert.DifRefIdeal.main_arg5)
      ∧ r.2.mem ((c.tc : Thread Cert.DifRefIdeal.nD Cert.DifRefIdeal.τ).loc Cert.DifRefIdeal.main_arg6) = m ((c.tc : Thread Cert.DifRefIdeal.nD Cert.DifRefIdeal.τ).loc Cert.DifRefIdeal.main_arg6)
      ∧ r.2.mem ((c.tc : Thread Cert.DifRefIdeal.nD Cert.DifRefIdeal.τ).loc Cert.DifRefIdeal.main_arg7) = m ((c.tc : Thread Cert.DifRefIdeal.nD Cert.DifRefIdeal.τ).loc Cert.DifRefIdeal.main_arg7)
      ∧ r.2.mem ((c.tc : Thread Cert.DifRefIdeal.nD Cert.DifRefIdeal.τ).loc Cert.DifRefIdeal.main_arg8) = m ((c.tc : Thread Cert.DifRefIdeal.nD Cert.DifRefIdeal.τ).loc Cert.DifRefIdeal.main_arg8)
      ∧ r.2.mem ((c.tc : Thread Cert.DifRefIdeal.nD Cert.DifRefIdeal.τ).loc Cert.DifRefIdeal.main_arg9) = m ((c.tc : Thread Cert.DifRefIdeal.nD Cert.DifRefIdeal.τ).loc Cert.DifRefIdeal.main_arg9)
      ∧ r.2.mem ((c.tc : Thread Cert.DifRefIdeal.nD Cert.DifRefIdeal.τ).loc Cert.DifRefIdeal.main_arg10) = m ((c.tc : Thread Cert.DifRefIdeal.nD Cert.DifRefIdeal.τ).loc Cert.DifRefIdeal.main_arg10))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gat [hGat : Cert.Gat.Facts] : Prop :=
  ∀ (m : (ℓ : Loc Cert.Gat.nD Cert.Gat.τ Cert.Gat.sig) → Buf (Elt Bits) ℓ) (g : Dev Cert.Gat.nD → PrngReg), Pre_Gat m →
    θ_run (Cert.Gat.defs (F := Bits)) (onTc (τ := Cert.Gat.τ) (Cert.Gat.main (F := Bits))) ⟨m, fun _ => 0, g⟩ (fun r => (∀ c : Dev Cert.Gat.nD,
      r.2.mem ((c.tc : Thread Cert.Gat.nD Cert.Gat.τ).loc Cert.Gat.main_arg0) = m ((c.tc : Thread Cert.Gat.nD Cert.Gat.τ).loc Cert.Gat.main_arg0)
      ∧ r.2.mem ((c.tc : Thread Cert.Gat.nD Cert.Gat.τ).loc Cert.Gat.main_arg1) = m ((c.tc : Thread Cert.Gat.nD Cert.Gat.τ).loc Cert.Gat.main_arg1))
      ∧ r.2.sem = fun _ => 0)

def quiescent_GatIdeal [hGatIdeal : Cert.GatIdeal.Facts] : Prop :=
  ∀ (m : (ℓ : Loc Cert.GatIdeal.nD Cert.GatIdeal.τ Cert.GatIdeal.sig) → Buf (Elt Ideal) ℓ) (g : Dev Cert.GatIdeal.nD → PrngReg), Pre_GatIdeal m →
    θ_run (Cert.GatIdeal.defs (F := Ideal)) (onTc (τ := Cert.GatIdeal.τ) (Cert.GatIdeal.main (F := Ideal))) ⟨m, fun _ => 0, g⟩ (fun r => (∀ c : Dev Cert.GatIdeal.nD,
      r.2.mem ((c.tc : Thread Cert.GatIdeal.nD Cert.GatIdeal.τ).loc Cert.GatIdeal.main_arg0) = m ((c.tc : Thread Cert.GatIdeal.nD Cert.GatIdeal.τ).loc Cert.GatIdeal.main_arg0)
      ∧ r.2.mem ((c.tc : Thread Cert.GatIdeal.nD Cert.GatIdeal.τ).loc Cert.GatIdeal.main_arg1) = m ((c.tc : Thread Cert.GatIdeal.nD Cert.GatIdeal.τ).loc Cert.GatIdeal.main_arg1))
      ∧ r.2.sem = fun _ => 0)

def quiescent_GatRefIdeal [hGatRefIdeal : Cert.GatRefIdeal.Facts] : Prop :=
  ∀ (m : (ℓ : Loc Cert.GatRefIdeal.nD Cert.GatRefIdeal.τ Cert.GatRefIdeal.sig) → Buf (Elt Ideal) ℓ) (g : Dev Cert.GatRefIdeal.nD → PrngReg), Pre_GatRefIdeal m →
    θ_run (Cert.GatRefIdeal.defs (F := Ideal)) (onTc (τ := Cert.GatRefIdeal.τ) (Cert.GatRefIdeal.main (F := Ideal))) ⟨m, fun _ => 0, g⟩ (fun r => (∀ c : Dev Cert.GatRefIdeal.nD,
      r.2.mem ((c.tc : Thread Cert.GatRefIdeal.nD Cert.GatRefIdeal.τ).loc Cert.GatRefIdeal.main_arg0) = m ((c.tc : Thread Cert.GatRefIdeal.nD Cert.GatRefIdeal.τ).loc Cert.GatRefIdeal.main_arg0)
      ∧ r.2.mem ((c.tc : Thread Cert.GatRefIdeal.nD Cert.GatRefIdeal.τ).loc Cert.GatRefIdeal.main_arg1) = m ((c.tc : Thread Cert.GatRefIdeal.nD Cert.GatRefIdeal.τ).loc Cert.GatRefIdeal.main_arg1))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1))
      ∧ r.2.sem = fun _ => 0)

def quiescent_Rop [hRop : Cert.Rop.Facts] : Prop :=
  ∀ (m : (ℓ : Loc Cert.Rop.nD Cert.Rop.τ Cert.Rop.sig) → Buf (Elt Bits) ℓ) (g : Dev Cert.Rop.nD → PrngReg), Pre_Rop m →
    θ_run (Cert.Rop.defs (F := Bits)) (onTc (τ := Cert.Rop.τ) (Cert.Rop.main (F := Bits))) ⟨m, fun _ => 0, g⟩ (fun r => (∀ c : Dev Cert.Rop.nD,
      r.2.mem ((c.tc : Thread Cert.Rop.nD Cert.Rop.τ).loc Cert.Rop.main_arg0) = m ((c.tc : Thread Cert.Rop.nD Cert.Rop.τ).loc Cert.Rop.main_arg0)
      ∧ r.2.mem ((c.tc : Thread Cert.Rop.nD Cert.Rop.τ).loc Cert.Rop.main_arg1) = m ((c.tc : Thread Cert.Rop.nD Cert.Rop.τ).loc Cert.Rop.main_arg1)
      ∧ r.2.mem ((c.tc : Thread Cert.Rop.nD Cert.Rop.τ).loc Cert.Rop.main_arg2) = m ((c.tc : Thread Cert.Rop.nD Cert.Rop.τ).loc Cert.Rop.main_arg2))
      ∧ r.2.sem = fun _ => 0)

def quiescent_RopIdeal [hRopIdeal : Cert.RopIdeal.Facts] : Prop :=
  ∀ (m : (ℓ : Loc Cert.RopIdeal.nD Cert.RopIdeal.τ Cert.RopIdeal.sig) → Buf (Elt Ideal) ℓ) (g : Dev Cert.RopIdeal.nD → PrngReg), Pre_RopIdeal m →
    θ_run (Cert.RopIdeal.defs (F := Ideal)) (onTc (τ := Cert.RopIdeal.τ) (Cert.RopIdeal.main (F := Ideal))) ⟨m, fun _ => 0, g⟩ (fun r => (∀ c : Dev Cert.RopIdeal.nD,
      r.2.mem ((c.tc : Thread Cert.RopIdeal.nD Cert.RopIdeal.τ).loc Cert.RopIdeal.main_arg0) = m ((c.tc : Thread Cert.RopIdeal.nD Cert.RopIdeal.τ).loc Cert.RopIdeal.main_arg0)
      ∧ r.2.mem ((c.tc : Thread Cert.RopIdeal.nD Cert.RopIdeal.τ).loc Cert.RopIdeal.main_arg1) = m ((c.tc : Thread Cert.RopIdeal.nD Cert.RopIdeal.τ).loc Cert.RopIdeal.main_arg1)
      ∧ r.2.mem ((c.tc : Thread Cert.RopIdeal.nD Cert.RopIdeal.τ).loc Cert.RopIdeal.main_arg2) = m ((c.tc : Thread Cert.RopIdeal.nD Cert.RopIdeal.τ).loc Cert.RopIdeal.main_arg2))
      ∧ r.2.sem = fun _ => 0)

def quiescent_RopRefIdeal [hRopRefIdeal : Cert.RopRefIdeal.Facts] : Prop :=
  ∀ (m : (ℓ : Loc Cert.RopRefIdeal.nD Cert.RopRefIdeal.τ Cert.RopRefIdeal.sig) → Buf (Elt Ideal) ℓ) (g : Dev Cert.RopRefIdeal.nD → PrngReg), Pre_RopRefIdeal m →
    θ_run (Cert.RopRefIdeal.defs (F := Ideal)) (onTc (τ := Cert.RopRefIdeal.τ) (Cert.RopRefIdeal.main (F := Ideal))) ⟨m, fun _ => 0, g⟩ (fun r => (∀ c : Dev Cert.RopRefIdeal.nD,
      r.2.mem ((c.tc : Thread Cert.RopRefIdeal.nD Cert.RopRefIdeal.τ).loc Cert.RopRefIdeal.main_arg0) = m ((c.tc : Thread Cert.RopRefIdeal.nD Cert.RopRefIdeal.τ).loc Cert.RopRefIdeal.main_arg0)
      ∧ r.2.mem ((c.tc : Thread Cert.RopRefIdeal.nD Cert.RopRefIdeal.τ).loc Cert.RopRefIdeal.main_arg1) = m ((c.tc : Thread Cert.RopRefIdeal.nD Cert.RopRefIdeal.τ).loc Cert.RopRefIdeal.main_arg1)
      ∧ r.2.mem ((c.tc : Thread Cert.RopRefIdeal.nD Cert.RopRefIdeal.τ).loc Cert.RopRefIdeal.main_arg2) = m ((c.tc : Thread Cert.RopRefIdeal.nD Cert.RopRefIdeal.τ).loc Cert.RopRefIdeal.main_arg2))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1))
      ∧ r.2.sem = fun _ => 0)

def quiescent_Swk [hSwk : Cert.Swk.Facts] : Prop :=
  ∀ (m : (ℓ : Loc Cert.Swk.nD Cert.Swk.τ Cert.Swk.sig) → Buf (Elt Bits) ℓ) (g : Dev Cert.Swk.nD → PrngReg), Pre_Swk m →
    θ_run (Cert.Swk.defs (F := Bits)) (onTc (τ := Cert.Swk.τ) (Cert.Swk.main (F := Bits))) ⟨m, fun _ => 0, g⟩ (fun r => (∀ c : Dev Cert.Swk.nD,
      r.2.mem ((c.tc : Thread Cert.Swk.nD Cert.Swk.τ).loc Cert.Swk.main_arg0) = m ((c.tc : Thread Cert.Swk.nD Cert.Swk.τ).loc Cert.Swk.main_arg0)
      ∧ r.2.mem ((c.tc : Thread Cert.Swk.nD Cert.Swk.τ).loc Cert.Swk.main_arg1) = m ((c.tc : Thread Cert.Swk.nD Cert.Swk.τ).loc Cert.Swk.main_arg1)
      ∧ r.2.mem ((c.tc : Thread Cert.Swk.nD Cert.Swk.τ).loc Cert.Swk.main_arg2) = m ((c.tc : Thread Cert.Swk.nD Cert.Swk.τ).loc Cert.Swk.main_arg2))
      ∧ r.2.sem = fun _ => 0)

def quiescent_SwkIdeal [hSwkIdeal : Cert.SwkIdeal.Facts] : Prop :=
  ∀ (m : (ℓ : Loc Cert.SwkIdeal.nD Cert.SwkIdeal.τ Cert.SwkIdeal.sig) → Buf (Elt Ideal) ℓ) (g : Dev Cert.SwkIdeal.nD → PrngReg), Pre_SwkIdeal m →
    θ_run (Cert.SwkIdeal.defs (F := Ideal)) (onTc (τ := Cert.SwkIdeal.τ) (Cert.SwkIdeal.main (F := Ideal))) ⟨m, fun _ => 0, g⟩ (fun r => (∀ c : Dev Cert.SwkIdeal.nD,
      r.2.mem ((c.tc : Thread Cert.SwkIdeal.nD Cert.SwkIdeal.τ).loc Cert.SwkIdeal.main_arg0) = m ((c.tc : Thread Cert.SwkIdeal.nD Cert.SwkIdeal.τ).loc Cert.SwkIdeal.main_arg0)
      ∧ r.2.mem ((c.tc : Thread Cert.SwkIdeal.nD Cert.SwkIdeal.τ).loc Cert.SwkIdeal.main_arg1) = m ((c.tc : Thread Cert.SwkIdeal.nD Cert.SwkIdeal.τ).loc Cert.SwkIdeal.main_arg1)
      ∧ r.2.mem ((c.tc : Thread Cert.SwkIdeal.nD Cert.SwkIdeal.τ).loc Cert.SwkIdeal.main_arg2) = m ((c.tc : Thread Cert.SwkIdeal.nD Cert.SwkIdeal.τ).loc Cert.SwkIdeal.main_arg2))
      ∧ r.2.sem = fun _ => 0)

def quiescent_SwkRefIdeal [hSwkRefIdeal : Cert.SwkRefIdeal.Facts] : Prop :=
  ∀ (m : (ℓ : Loc Cert.SwkRefIdeal.nD Cert.SwkRefIdeal.τ Cert.SwkRefIdeal.sig) → Buf (Elt Ideal) ℓ) (g : Dev Cert.SwkRefIdeal.nD → PrngReg), Pre_SwkRefIdeal m →
    θ_run (Cert.SwkRefIdeal.defs (F := Ideal)) (onTc (τ := Cert.SwkRefIdeal.τ) (Cert.SwkRefIdeal.main (F := Ideal))) ⟨m, fun _ => 0, g⟩ (fun r => (∀ c : Dev Cert.SwkRefIdeal.nD,
      r.2.mem ((c.tc : Thread Cert.SwkRefIdeal.nD Cert.SwkRefIdeal.τ).loc Cert.SwkRefIdeal.main_arg0) = m ((c.tc : Thread Cert.SwkRefIdeal.nD Cert.SwkRefIdeal.τ).loc Cert.SwkRefIdeal.main_arg0)
      ∧ r.2.mem ((c.tc : Thread Cert.SwkRefIdeal.nD Cert.SwkRefIdeal.τ).loc Cert.SwkRefIdeal.main_arg1) = m ((c.tc : Thread Cert.SwkRefIdeal.nD Cert.SwkRefIdeal.τ).loc Cert.SwkRefIdeal.main_arg1)
      ∧ r.2.mem ((c.tc : Thread Cert.SwkRefIdeal.nD Cert.SwkRefIdeal.τ).loc Cert.SwkRefIdeal.main_arg2) = m ((c.tc : Thread Cert.SwkRefIdeal.nD Cert.SwkRefIdeal.τ).loc Cert.SwkRefIdeal.main_arg2))
      ∧ r.2.sem = fun _ => 0)

def quiescent_Swv [hSwv : Cert.Swv.Facts] : Prop :=
  ∀ (m : (ℓ : Loc Cert.Swv.nD Cert.Swv.τ Cert.Swv.sig) → Buf (Elt Bits) ℓ) (g : Dev Cert.Swv.nD → PrngReg), Pre_Swv m →
    θ_run (Cert.Swv.defs (F := Bits)) (onTc (τ := Cert.Swv.τ) (Cert.Swv.main (F := Bits))) ⟨m, fun _ => 0, g⟩ (fun r => (∀ c : Dev Cert.Swv.nD,
      r.2.mem ((c.tc : Thread Cert.Swv.nD Cert.Swv.τ).loc Cert.Swv.main_arg0) = m ((c.tc : Thread Cert.Swv.nD Cert.Swv.τ).loc Cert.Swv.main_arg0)
      ∧ r.2.mem ((c.tc : Thread Cert.Swv.nD Cert.Swv.τ).loc Cert.Swv.main_arg1) = m ((c.tc : Thread Cert.Swv.nD Cert.Swv.τ).loc Cert.Swv.main_arg1))
      ∧ r.2.sem = fun _ => 0)

def quiescent_SwvIdeal [hSwvIdeal : Cert.SwvIdeal.Facts] : Prop :=
  ∀ (m : (ℓ : Loc Cert.SwvIdeal.nD Cert.SwvIdeal.τ Cert.SwvIdeal.sig) → Buf (Elt Ideal) ℓ) (g : Dev Cert.SwvIdeal.nD → PrngReg), Pre_SwvIdeal m →
    θ_run (Cert.SwvIdeal.defs (F := Ideal)) (onTc (τ := Cert.SwvIdeal.τ) (Cert.SwvIdeal.main (F := Ideal))) ⟨m, fun _ => 0, g⟩ (fun r => (∀ c : Dev Cert.SwvIdeal.nD,
      r.2.mem ((c.tc : Thread Cert.SwvIdeal.nD Cert.SwvIdeal.τ).loc Cert.SwvIdeal.main_arg0) = m ((c.tc : Thread Cert.SwvIdeal.nD Cert.SwvIdeal.τ).loc Cert.SwvIdeal.main_arg0)
      ∧ r.2.mem ((c.tc : Thread Cert.SwvIdeal.nD Cert.SwvIdeal.τ).loc Cert.SwvIdeal.main_arg1) = m ((c.tc : Thread Cert.SwvIdeal.nD Cert.SwvIdeal.τ).loc Cert.SwvIdeal.main_arg1))
      ∧ r.2.sem = fun _ => 0)

def quiescent_SwvRefIdeal [hSwvRefIdeal : Cert.SwvRefIdeal.Facts] : Prop :=
  ∀ (m : (ℓ : Loc Cert.SwvRefIdeal.nD Cert.SwvRefIdeal.τ Cert.SwvRefIdeal.sig) → Buf (Elt Ideal) ℓ) (g : Dev Cert.SwvRefIdeal.nD → PrngReg), Pre_SwvRefIdeal m →
    θ_run (Cert.SwvRefIdeal.defs (F := Ideal)) (onTc (τ := Cert.SwvRefIdeal.τ) (Cert.SwvRefIdeal.main (F := Ideal))) ⟨m, fun _ => 0, g⟩ (fun r => (∀ c : Dev Cert.SwvRefIdeal.nD,
      r.2.mem ((c.tc : Thread Cert.SwvRefIdeal.nD Cert.SwvRefIdeal.τ).loc Cert.SwvRefIdeal.main_arg0) = m ((c.tc : Thread Cert.SwvRefIdeal.nD Cert.SwvRefIdeal.τ).loc Cert.SwvRefIdeal.main_arg0)
      ∧ r.2.mem ((c.tc : Thread Cert.SwvRefIdeal.nD Cert.SwvRefIdeal.τ).loc Cert.SwvRefIdeal.main_arg1) = m ((c.tc : Thread Cert.SwvRefIdeal.nD Cert.SwvRefIdeal.τ).loc Cert.SwvRefIdeal.main_arg1))
      ∧ r.2.sem = fun _ => 0)

def quiescent_Mlv [hMlv : Cert.Mlv.Facts] : Prop :=
  ∀ (m : (ℓ : Loc Cert.Mlv.nD Cert.Mlv.τ Cert.Mlv.sig) → Buf (Elt Bits) ℓ) (g : Dev Cert.Mlv.nD → PrngReg), Pre_Mlv m →
    θ_run (Cert.Mlv.defs (F := Bits)) (onTc (τ := Cert.Mlv.τ) (Cert.Mlv.main (F := Bits))) ⟨m, fun _ => 0, g⟩ (fun r => (∀ c : Dev Cert.Mlv.nD,
      r.2.mem ((c.tc : Thread Cert.Mlv.nD Cert.Mlv.τ).loc Cert.Mlv.main_arg0) = m ((c.tc : Thread Cert.Mlv.nD Cert.Mlv.τ).loc Cert.Mlv.main_arg0)
      ∧ r.2.mem ((c.tc : Thread Cert.Mlv.nD Cert.Mlv.τ).loc Cert.Mlv.main_arg1) = m ((c.tc : Thread Cert.Mlv.nD Cert.Mlv.τ).loc Cert.Mlv.main_arg1))
      ∧ r.2.sem = fun _ => 0)

def quiescent_MlvIdeal [hMlvIdeal : Cert.MlvIdeal.Facts] : Prop :=
  ∀ (m : (ℓ : Loc Cert.MlvIdeal.nD Cert.MlvIdeal.τ Cert.MlvIdeal.sig) → Buf (Elt Ideal) ℓ) (g : Dev Cert.MlvIdeal.nD → PrngReg), Pre_MlvIdeal m →
    θ_run (Cert.MlvIdeal.defs (F := Ideal)) (onTc (τ := Cert.MlvIdeal.τ) (Cert.MlvIdeal.main (F := Ideal))) ⟨m, fun _ => 0, g⟩ (fun r => (∀ c : Dev Cert.MlvIdeal.nD,
      r.2.mem ((c.tc : Thread Cert.MlvIdeal.nD Cert.MlvIdeal.τ).loc Cert.MlvIdeal.main_arg0) = m ((c.tc : Thread Cert.MlvIdeal.nD Cert.MlvIdeal.τ).loc Cert.MlvIdeal.main_arg0)
      ∧ r.2.mem ((c.tc : Thread Cert.MlvIdeal.nD Cert.MlvIdeal.τ).loc Cert.MlvIdeal.main_arg1) = m ((c.tc : Thread Cert.MlvIdeal.nD Cert.MlvIdeal.τ).loc Cert.MlvIdeal.main_arg1))
      ∧ r.2.sem = fun _ => 0)

def quiescent_MlvRefIdeal [hMlvRefIdeal : Cert.MlvRefIdeal.Facts] : Prop :=
  ∀ (m : (ℓ : Loc Cert.MlvRefIdeal.nD Cert.MlvRefIdeal.τ Cert.MlvRefIdeal.sig) → Buf (Elt Ideal) ℓ) (g : Dev Cert.MlvRefIdeal.nD → PrngReg), Pre_MlvRefIdeal m →
    θ_run (Cert.MlvRefIdeal.defs (F := Ideal)) (onTc (τ := Cert.MlvRefIdeal.τ) (Cert.MlvRefIdeal.main (F := Ideal))) ⟨m, fun _ => 0, g⟩ (fun r => (∀ c : Dev Cert.MlvRefIdeal.nD,
      r.2.mem ((c.tc : Thread Cert.MlvRefIdeal.nD Cert.MlvRefIdeal.τ).loc Cert.MlvRefIdeal.main_arg0) = m ((c.tc : Thread Cert.MlvRefIdeal.nD Cert.MlvRefIdeal.τ).loc Cert.MlvRefIdeal.main_arg0)
      ∧ r.2.mem ((c.tc : Thread Cert.MlvRefIdeal.nD Cert.MlvRefIdeal.τ).loc Cert.MlvRefIdeal.main_arg1) = m ((c.tc : Thread Cert.MlvRefIdeal.nD Cert.MlvRefIdeal.τ).loc Cert.MlvRefIdeal.main_arg1))
      ∧ r.2.sem = fun _ => 0)

def quiescent_Mcq [hMcq : Cert.Mcq.Facts] : Prop :=
  ∀ (m : (ℓ : Loc Cert.Mcq.nD Cert.Mcq.τ Cert.Mcq.sig) → Buf (Elt Bits) ℓ) (g : Dev Cert.Mcq.nD → PrngReg), Pre_Mcq m →
    θ_run (Cert.Mcq.defs (F := Bits)) (onTc (τ := Cert.Mcq.τ) (Cert.Mcq.main (F := Bits))) ⟨m, fun _ => 0, g⟩ (fun r => (∀ c : Dev Cert.Mcq.nD,
      r.2.mem ((c.tc : Thread Cert.Mcq.nD Cert.Mcq.τ).loc Cert.Mcq.main_arg0) = m ((c.tc : Thread Cert.Mcq.nD Cert.Mcq.τ).loc Cert.Mcq.main_arg0)
      ∧ r.2.mem ((c.tc : Thread Cert.Mcq.nD Cert.Mcq.τ).loc Cert.Mcq.main_arg1) = m ((c.tc : Thread Cert.Mcq.nD Cert.Mcq.τ).loc Cert.Mcq.main_arg1)
      ∧ r.2.mem ((c.tc : Thread Cert.Mcq.nD Cert.Mcq.τ).loc Cert.Mcq.main_arg2) = m ((c.tc : Thread Cert.Mcq.nD Cert.Mcq.τ).loc Cert.Mcq.main_arg2))
      ∧ r.2.sem = fun _ => 0)

def quiescent_McqIdeal [hMcqIdeal : Cert.McqIdeal.Facts] : Prop :=
  ∀ (m : (ℓ : Loc Cert.McqIdeal.nD Cert.McqIdeal.τ Cert.McqIdeal.sig) → Buf (Elt Ideal) ℓ) (g : Dev Cert.McqIdeal.nD → PrngReg), Pre_McqIdeal m →
    θ_run (Cert.McqIdeal.defs (F := Ideal)) (onTc (τ := Cert.McqIdeal.τ) (Cert.McqIdeal.main (F := Ideal))) ⟨m, fun _ => 0, g⟩ (fun r => (∀ c : Dev Cert.McqIdeal.nD,
      r.2.mem ((c.tc : Thread Cert.McqIdeal.nD Cert.McqIdeal.τ).loc Cert.McqIdeal.main_arg0) = m ((c.tc : Thread Cert.McqIdeal.nD Cert.McqIdeal.τ).loc Cert.McqIdeal.main_arg0)
      ∧ r.2.mem ((c.tc : Thread Cert.McqIdeal.nD Cert.McqIdeal.τ).loc Cert.McqIdeal.main_arg1) = m ((c.tc : Thread Cert.McqIdeal.nD Cert.McqIdeal.τ).loc Cert.McqIdeal.main_arg1)
      ∧ r.2.mem ((c.tc : Thread Cert.McqIdeal.nD Cert.McqIdeal.τ).loc Cert.McqIdeal.main_arg2) = m ((c.tc : Thread Cert.McqIdeal.nD Cert.McqIdeal.τ).loc Cert.McqIdeal.main_arg2))
      ∧ r.2.sem = fun _ => 0)

def quiescent_McqRefIdeal [hMcqRefIdeal : Cert.McqRefIdeal.Facts] : Prop :=
  ∀ (m : (ℓ : Loc Cert.McqRefIdeal.nD Cert.McqRefIdeal.τ Cert.McqRefIdeal.sig) → Buf (Elt Ideal) ℓ) (g : Dev Cert.McqRefIdeal.nD → PrngReg), Pre_McqRefIdeal m →
    θ_run (Cert.McqRefIdeal.defs (F := Ideal)) (onTc (τ := Cert.McqRefIdeal.τ) (Cert.McqRefIdeal.main (F := Ideal))) ⟨m, fun _ => 0, g⟩ (fun r => (∀ c : Dev Cert.McqRefIdeal.nD,
      r.2.mem ((c.tc : Thread Cert.McqRefIdeal.nD Cert.McqRefIdeal.τ).loc Cert.McqRefIdeal.main_arg0) = m ((c.tc : Thread Cert.McqRefIdeal.nD Cert.McqRefIdeal.τ).loc Cert.McqRefIdeal.main_arg0)
      ∧ r.2.mem ((c.tc : Thread Cert.McqRefIdeal.nD Cert.McqRefIdeal.τ).loc Cert.McqRefIdeal.main_arg1) = m ((c.tc : Thread Cert.McqRefIdeal.nD Cert.McqRefIdeal.τ).loc Cert.McqRefIdeal.main_arg1)
      ∧ r.2.mem ((c.tc : Thread Cert.McqRefIdeal.nD Cert.McqRefIdeal.τ).loc Cert.McqRefIdeal.main_arg2) = m ((c.tc : Thread Cert.McqRefIdeal.nD Cert.McqRefIdeal.τ).loc Cert.McqRefIdeal.main_arg2))
      ∧ r.2.sem = fun _ => 0)

def quiescent_Mck [hMck : Cert.Mck.Facts] : Prop :=
  ∀ (m : (ℓ : Loc Cert.Mck.nD Cert.Mck.τ Cert.Mck.sig) → Buf (Elt Bits) ℓ) (g : Dev Cert.Mck.nD → PrngReg), Pre_Mck m →
    θ_run (Cert.Mck.defs (F := Bits)) (onTc (τ := Cert.Mck.τ) (Cert.Mck.main (F := Bits))) ⟨m, fun _ => 0, g⟩ (fun r => (∀ c : Dev Cert.Mck.nD,
      r.2.mem ((c.tc : Thread Cert.Mck.nD Cert.Mck.τ).loc Cert.Mck.main_arg0) = m ((c.tc : Thread Cert.Mck.nD Cert.Mck.τ).loc Cert.Mck.main_arg0)
      ∧ r.2.mem ((c.tc : Thread Cert.Mck.nD Cert.Mck.τ).loc Cert.Mck.main_arg1) = m ((c.tc : Thread Cert.Mck.nD Cert.Mck.τ).loc Cert.Mck.main_arg1)
      ∧ r.2.mem ((c.tc : Thread Cert.Mck.nD Cert.Mck.τ).loc Cert.Mck.main_arg2) = m ((c.tc : Thread Cert.Mck.nD Cert.Mck.τ).loc Cert.Mck.main_arg2))
      ∧ r.2.sem = fun _ => 0)

def quiescent_MckIdeal [hMckIdeal : Cert.MckIdeal.Facts] : Prop :=
  ∀ (m : (ℓ : Loc Cert.MckIdeal.nD Cert.MckIdeal.τ Cert.MckIdeal.sig) → Buf (Elt Ideal) ℓ) (g : Dev Cert.MckIdeal.nD → PrngReg), Pre_MckIdeal m →
    θ_run (Cert.MckIdeal.defs (F := Ideal)) (onTc (τ := Cert.MckIdeal.τ) (Cert.MckIdeal.main (F := Ideal))) ⟨m, fun _ => 0, g⟩ (fun r => (∀ c : Dev Cert.MckIdeal.nD,
      r.2.mem ((c.tc : Thread Cert.MckIdeal.nD Cert.MckIdeal.τ).loc Cert.MckIdeal.main_arg0) = m ((c.tc : Thread Cert.MckIdeal.nD Cert.MckIdeal.τ).loc Cert.MckIdeal.main_arg0)
      ∧ r.2.mem ((c.tc : Thread Cert.MckIdeal.nD Cert.MckIdeal.τ).loc Cert.MckIdeal.main_arg1) = m ((c.tc : Thread Cert.MckIdeal.nD Cert.MckIdeal.τ).loc Cert.MckIdeal.main_arg1)
      ∧ r.2.mem ((c.tc : Thread Cert.MckIdeal.nD Cert.MckIdeal.τ).loc Cert.MckIdeal.main_arg2) = m ((c.tc : Thread Cert.MckIdeal.nD Cert.MckIdeal.τ).loc Cert.MckIdeal.main_arg2))
      ∧ r.2.sem = fun _ => 0)

def quiescent_MckRefIdeal [hMckRefIdeal : Cert.MckRefIdeal.Facts] : Prop :=
  ∀ (m : (ℓ : Loc Cert.MckRefIdeal.nD Cert.MckRefIdeal.τ Cert.MckRefIdeal.sig) → Buf (Elt Ideal) ℓ) (g : Dev Cert.MckRefIdeal.nD → PrngReg), Pre_MckRefIdeal m →
    θ_run (Cert.MckRefIdeal.defs (F := Ideal)) (onTc (τ := Cert.MckRefIdeal.τ) (Cert.MckRefIdeal.main (F := Ideal))) ⟨m, fun _ => 0, g⟩ (fun r => (∀ c : Dev Cert.MckRefIdeal.nD,
      r.2.mem ((c.tc : Thread Cert.MckRefIdeal.nD Cert.MckRefIdeal.τ).loc Cert.MckRefIdeal.main_arg0) = m ((c.tc : Thread Cert.MckRefIdeal.nD Cert.MckRefIdeal.τ).loc Cert.MckRefIdeal.main_arg0)
      ∧ r.2.mem ((c.tc : Thread Cert.MckRefIdeal.nD Cert.MckRefIdeal.τ).loc Cert.MckRefIdeal.main_arg1) = m ((c.tc : Thread Cert.MckRefIdeal.nD Cert.MckRefIdeal.τ).loc Cert.MckRefIdeal.main_arg1)
      ∧ r.2.mem ((c.tc : Thread Cert.MckRefIdeal.nD Cert.MckRefIdeal.τ).loc Cert.MckRefIdeal.main_arg2) = m ((c.tc : Thread Cert.MckRefIdeal.nD Cert.MckRefIdeal.τ).loc Cert.MckRefIdeal.main_arg2))
      ∧ r.2.sem = fun _ => 0)

def quiescent_Mkn [hMkn : Cert.Mkn.Facts] : Prop :=
  ∀ (m : (ℓ : Loc Cert.Mkn.nD Cert.Mkn.τ Cert.Mkn.sig) → Buf (Elt Bits) ℓ) (g : Dev Cert.Mkn.nD → PrngReg), Pre_Mkn m →
    θ_run (Cert.Mkn.defs (F := Bits)) (onTc (τ := Cert.Mkn.τ) (Cert.Mkn.main (F := Bits))) ⟨m, fun _ => 0, g⟩ (fun r => (∀ c : Dev Cert.Mkn.nD,
      r.2.mem ((c.tc : Thread Cert.Mkn.nD Cert.Mkn.τ).loc Cert.Mkn.main_arg0) = m ((c.tc : Thread Cert.Mkn.nD Cert.Mkn.τ).loc Cert.Mkn.main_arg0)
      ∧ r.2.mem ((c.tc : Thread Cert.Mkn.nD Cert.Mkn.τ).loc Cert.Mkn.main_arg1) = m ((c.tc : Thread Cert.Mkn.nD Cert.Mkn.τ).loc Cert.Mkn.main_arg1)
      ∧ r.2.mem ((c.tc : Thread Cert.Mkn.nD Cert.Mkn.τ).loc Cert.Mkn.main_arg2) = m ((c.tc : Thread Cert.Mkn.nD Cert.Mkn.τ).loc Cert.Mkn.main_arg2))
      ∧ r.2.sem = fun _ => 0)

def quiescent_MknIdeal [hMknIdeal : Cert.MknIdeal.Facts] : Prop :=
  ∀ (m : (ℓ : Loc Cert.MknIdeal.nD Cert.MknIdeal.τ Cert.MknIdeal.sig) → Buf (Elt Ideal) ℓ) (g : Dev Cert.MknIdeal.nD → PrngReg), Pre_MknIdeal m →
    θ_run (Cert.MknIdeal.defs (F := Ideal)) (onTc (τ := Cert.MknIdeal.τ) (Cert.MknIdeal.main (F := Ideal))) ⟨m, fun _ => 0, g⟩ (fun r => (∀ c : Dev Cert.MknIdeal.nD,
      r.2.mem ((c.tc : Thread Cert.MknIdeal.nD Cert.MknIdeal.τ).loc Cert.MknIdeal.main_arg0) = m ((c.tc : Thread Cert.MknIdeal.nD Cert.MknIdeal.τ).loc Cert.MknIdeal.main_arg0)
      ∧ r.2.mem ((c.tc : Thread Cert.MknIdeal.nD Cert.MknIdeal.τ).loc Cert.MknIdeal.main_arg1) = m ((c.tc : Thread Cert.MknIdeal.nD Cert.MknIdeal.τ).loc Cert.MknIdeal.main_arg1)
      ∧ r.2.mem ((c.tc : Thread Cert.MknIdeal.nD Cert.MknIdeal.τ).loc Cert.MknIdeal.main_arg2) = m ((c.tc : Thread Cert.MknIdeal.nD Cert.MknIdeal.τ).loc Cert.MknIdeal.main_arg2))
      ∧ r.2.sem = fun _ => 0)

def quiescent_MknRefIdeal [hMknRefIdeal : Cert.MknRefIdeal.Facts] : Prop :=
  ∀ (m : (ℓ : Loc Cert.MknRefIdeal.nD Cert.MknRefIdeal.τ Cert.MknRefIdeal.sig) → Buf (Elt Ideal) ℓ) (g : Dev Cert.MknRefIdeal.nD → PrngReg), Pre_MknRefIdeal m →
    θ_run (Cert.MknRefIdeal.defs (F := Ideal)) (onTc (τ := Cert.MknRefIdeal.τ) (Cert.MknRefIdeal.main (F := Ideal))) ⟨m, fun _ => 0, g⟩ (fun r => (∀ c : Dev Cert.MknRefIdeal.nD,
      r.2.mem ((c.tc : Thread Cert.MknRefIdeal.nD Cert.MknRefIdeal.τ).loc Cert.MknRefIdeal.main_arg0) = m ((c.tc : Thread Cert.MknRefIdeal.nD Cert.MknRefIdeal.τ).loc Cert.MknRefIdeal.main_arg0)
      ∧ r.2.mem ((c.tc : Thread Cert.MknRefIdeal.nD Cert.MknRefIdeal.τ).loc Cert.MknRefIdeal.main_arg1) = m ((c.tc : Thread Cert.MknRefIdeal.nD Cert.MknRefIdeal.τ).loc Cert.MknRefIdeal.main_arg1)
      ∧ r.2.mem ((c.tc : Thread Cert.MknRefIdeal.nD Cert.MknRefIdeal.τ).loc Cert.MknRefIdeal.main_arg2) = m ((c.tc : Thread Cert.MknRefIdeal.nD Cert.MknRefIdeal.τ).loc Cert.MknRefIdeal.main_arg2))
      ∧ r.2.sem = fun _ => 0)

def quiescent_Mlq [hMlq : Cert.Mlq.Facts] : Prop :=
  ∀ (m : (ℓ : Loc Cert.Mlq.nD Cert.Mlq.τ Cert.Mlq.sig) → Buf (Elt Bits) ℓ) (g : Dev Cert.Mlq.nD → PrngReg), Pre_Mlq m →
    θ_run (Cert.Mlq.defs (F := Bits)) (onTc (τ := Cert.Mlq.τ) (Cert.Mlq.main (F := Bits))) ⟨m, fun _ => 0, g⟩ (fun r => (∀ c : Dev Cert.Mlq.nD,
      r.2.mem ((c.tc : Thread Cert.Mlq.nD Cert.Mlq.τ).loc Cert.Mlq.main_arg0) = m ((c.tc : Thread Cert.Mlq.nD Cert.Mlq.τ).loc Cert.Mlq.main_arg0)
      ∧ r.2.mem ((c.tc : Thread Cert.Mlq.nD Cert.Mlq.τ).loc Cert.Mlq.main_arg1) = m ((c.tc : Thread Cert.Mlq.nD Cert.Mlq.τ).loc Cert.Mlq.main_arg1)
      ∧ r.2.mem ((c.tc : Thread Cert.Mlq.nD Cert.Mlq.τ).loc Cert.Mlq.main_arg2) = m ((c.tc : Thread Cert.Mlq.nD Cert.Mlq.τ).loc Cert.Mlq.main_arg2)
      ∧ r.2.mem ((c.tc : Thread Cert.Mlq.nD Cert.Mlq.τ).loc Cert.Mlq.main_arg3) = m ((c.tc : Thread Cert.Mlq.nD Cert.Mlq.τ).loc Cert.Mlq.main_arg3))
      ∧ r.2.sem = fun _ => 0)

def quiescent_MlqIdeal [hMlqIdeal : Cert.MlqIdeal.Facts] : Prop :=
  ∀ (m : (ℓ : Loc Cert.MlqIdeal.nD Cert.MlqIdeal.τ Cert.MlqIdeal.sig) → Buf (Elt Ideal) ℓ) (g : Dev Cert.MlqIdeal.nD → PrngReg), Pre_MlqIdeal m →
    θ_run (Cert.MlqIdeal.defs (F := Ideal)) (onTc (τ := Cert.MlqIdeal.τ) (Cert.MlqIdeal.main (F := Ideal))) ⟨m, fun _ => 0, g⟩ (fun r => (∀ c : Dev Cert.MlqIdeal.nD,
      r.2.mem ((c.tc : Thread Cert.MlqIdeal.nD Cert.MlqIdeal.τ).loc Cert.MlqIdeal.main_arg0) = m ((c.tc : Thread Cert.MlqIdeal.nD Cert.MlqIdeal.τ).loc Cert.MlqIdeal.main_arg0)
      ∧ r.2.mem ((c.tc : Thread Cert.MlqIdeal.nD Cert.MlqIdeal.τ).loc Cert.MlqIdeal.main_arg1) = m ((c.tc : Thread Cert.MlqIdeal.nD Cert.MlqIdeal.τ).loc Cert.MlqIdeal.main_arg1)
      ∧ r.2.mem ((c.tc : Thread Cert.MlqIdeal.nD Cert.MlqIdeal.τ).loc Cert.MlqIdeal.main_arg2) = m ((c.tc : Thread Cert.MlqIdeal.nD Cert.MlqIdeal.τ).loc Cert.MlqIdeal.main_arg2)
      ∧ r.2.mem ((c.tc : Thread Cert.MlqIdeal.nD Cert.MlqIdeal.τ).loc Cert.MlqIdeal.main_arg3) = m ((c.tc : Thread Cert.MlqIdeal.nD Cert.MlqIdeal.τ).loc Cert.MlqIdeal.main_arg3))
      ∧ r.2.sem = fun _ => 0)

def quiescent_MlqRefIdeal [hMlqRefIdeal : Cert.MlqRefIdeal.Facts] : Prop :=
  ∀ (m : (ℓ : Loc Cert.MlqRefIdeal.nD Cert.MlqRefIdeal.τ Cert.MlqRefIdeal.sig) → Buf (Elt Ideal) ℓ) (g : Dev Cert.MlqRefIdeal.nD → PrngReg), Pre_MlqRefIdeal m →
    θ_run (Cert.MlqRefIdeal.defs (F := Ideal)) (onTc (τ := Cert.MlqRefIdeal.τ) (Cert.MlqRefIdeal.main (F := Ideal))) ⟨m, fun _ => 0, g⟩ (fun r => (∀ c : Dev Cert.MlqRefIdeal.nD,
      r.2.mem ((c.tc : Thread Cert.MlqRefIdeal.nD Cert.MlqRefIdeal.τ).loc Cert.MlqRefIdeal.main_arg0) = m ((c.tc : Thread Cert.MlqRefIdeal.nD Cert.MlqRefIdeal.τ).loc Cert.MlqRefIdeal.main_arg0)
      ∧ r.2.mem ((c.tc : Thread Cert.MlqRefIdeal.nD Cert.MlqRefIdeal.τ).loc Cert.MlqRefIdeal.main_arg1) = m ((c.tc : Thread Cert.MlqRefIdeal.nD Cert.MlqRefIdeal.τ).loc Cert.MlqRefIdeal.main_arg1)
      ∧ r.2.mem ((c.tc : Thread Cert.MlqRefIdeal.nD Cert.MlqRefIdeal.τ).loc Cert.MlqRefIdeal.main_arg2) = m ((c.tc : Thread Cert.MlqRefIdeal.nD Cert.MlqRefIdeal.τ).loc Cert.MlqRefIdeal.main_arg2)
      ∧ r.2.mem ((c.tc : Thread Cert.MlqRefIdeal.nD Cert.MlqRefIdeal.τ).loc Cert.MlqRefIdeal.main_arg3) = m ((c.tc : Thread Cert.MlqRefIdeal.nD Cert.MlqRefIdeal.τ).loc Cert.MlqRefIdeal.main_arg3))
      ∧ r.2.sem = fun _ => 0)

def quiescent_Mkr [hMkr : Cert.Mkr.Facts] : Prop :=
  ∀ (m : (ℓ : Loc Cert.Mkr.nD Cert.Mkr.τ Cert.Mkr.sig) → Buf (Elt Bits) ℓ) (g : Dev Cert.Mkr.nD → PrngReg), Pre_Mkr m →
    θ_run (Cert.Mkr.defs (F := Bits)) (onTc (τ := Cert.Mkr.τ) (Cert.Mkr.main (F := Bits))) ⟨m, fun _ => 0, g⟩ (fun r => (∀ c : Dev Cert.Mkr.nD,
      r.2.mem ((c.tc : Thread Cert.Mkr.nD Cert.Mkr.τ).loc Cert.Mkr.main_arg0) = m ((c.tc : Thread Cert.Mkr.nD Cert.Mkr.τ).loc Cert.Mkr.main_arg0)
      ∧ r.2.mem ((c.tc : Thread Cert.Mkr.nD Cert.Mkr.τ).loc Cert.Mkr.main_arg1) = m ((c.tc : Thread Cert.Mkr.nD Cert.Mkr.τ).loc Cert.Mkr.main_arg1)
      ∧ r.2.mem ((c.tc : Thread Cert.Mkr.nD Cert.Mkr.τ).loc Cert.Mkr.main_arg2) = m ((c.tc : Thread Cert.Mkr.nD Cert.Mkr.τ).loc Cert.Mkr.main_arg2))
      ∧ r.2.sem = fun _ => 0)

def quiescent_MkrIdeal [hMkrIdeal : Cert.MkrIdeal.Facts] : Prop :=
  ∀ (m : (ℓ : Loc Cert.MkrIdeal.nD Cert.MkrIdeal.τ Cert.MkrIdeal.sig) → Buf (Elt Ideal) ℓ) (g : Dev Cert.MkrIdeal.nD → PrngReg), Pre_MkrIdeal m →
    θ_run (Cert.MkrIdeal.defs (F := Ideal)) (onTc (τ := Cert.MkrIdeal.τ) (Cert.MkrIdeal.main (F := Ideal))) ⟨m, fun _ => 0, g⟩ (fun r => (∀ c : Dev Cert.MkrIdeal.nD,
      r.2.mem ((c.tc : Thread Cert.MkrIdeal.nD Cert.MkrIdeal.τ).loc Cert.MkrIdeal.main_arg0) = m ((c.tc : Thread Cert.MkrIdeal.nD Cert.MkrIdeal.τ).loc Cert.MkrIdeal.main_arg0)
      ∧ r.2.mem ((c.tc : Thread Cert.MkrIdeal.nD Cert.MkrIdeal.τ).loc Cert.MkrIdeal.main_arg1) = m ((c.tc : Thread Cert.MkrIdeal.nD Cert.MkrIdeal.τ).loc Cert.MkrIdeal.main_arg1)
      ∧ r.2.mem ((c.tc : Thread Cert.MkrIdeal.nD Cert.MkrIdeal.τ).loc Cert.MkrIdeal.main_arg2) = m ((c.tc : Thread Cert.MkrIdeal.nD Cert.MkrIdeal.τ).loc Cert.MkrIdeal.main_arg2))
      ∧ r.2.sem = fun _ => 0)

def quiescent_MkrRefIdeal [hMkrRefIdeal : Cert.MkrRefIdeal.Facts] : Prop :=
  ∀ (m : (ℓ : Loc Cert.MkrRefIdeal.nD Cert.MkrRefIdeal.τ Cert.MkrRefIdeal.sig) → Buf (Elt Ideal) ℓ) (g : Dev Cert.MkrRefIdeal.nD → PrngReg), Pre_MkrRefIdeal m →
    θ_run (Cert.MkrRefIdeal.defs (F := Ideal)) (onTc (τ := Cert.MkrRefIdeal.τ) (Cert.MkrRefIdeal.main (F := Ideal))) ⟨m, fun _ => 0, g⟩ (fun r => (∀ c : Dev Cert.MkrRefIdeal.nD,
      r.2.mem ((c.tc : Thread Cert.MkrRefIdeal.nD Cert.MkrRefIdeal.τ).loc Cert.MkrRefIdeal.main_arg0) = m ((c.tc : Thread Cert.MkrRefIdeal.nD Cert.MkrRefIdeal.τ).loc Cert.MkrRefIdeal.main_arg0)
      ∧ r.2.mem ((c.tc : Thread Cert.MkrRefIdeal.nD Cert.MkrRefIdeal.τ).loc Cert.MkrRefIdeal.main_arg1) = m ((c.tc : Thread Cert.MkrRefIdeal.nD Cert.MkrRefIdeal.τ).loc Cert.MkrRefIdeal.main_arg1)
      ∧ r.2.mem ((c.tc : Thread Cert.MkrRefIdeal.nD Cert.MkrRefIdeal.τ).loc Cert.MkrRefIdeal.main_arg2) = m ((c.tc : Thread Cert.MkrRefIdeal.nD Cert.MkrRefIdeal.τ).loc Cert.MkrRefIdeal.main_arg2))
      ∧ r.2.sem = fun _ => 0)

def quiescent_Cou [hCou : Cert.Cou.Facts] : Prop :=
  ∀ (m : (ℓ : Loc Cert.Cou.nD Cert.Cou.τ Cert.Cou.sig) → Buf (Elt Bits) ℓ) (g : Dev Cert.Cou.nD → PrngReg), Pre_Cou m →
    θ_run (Cert.Cou.defs (F := Bits)) (onTc (τ := Cert.Cou.τ) (Cert.Cou.main (F := Bits))) ⟨m, fun _ => 0, g⟩ (fun r => (∀ c : Dev Cert.Cou.nD,
      r.2.mem ((c.tc : Thread Cert.Cou.nD Cert.Cou.τ).loc Cert.Cou.main_arg0) = m ((c.tc : Thread Cert.Cou.nD Cert.Cou.τ).loc Cert.Cou.main_arg0)
      ∧ r.2.mem ((c.tc : Thread Cert.Cou.nD Cert.Cou.τ).loc Cert.Cou.main_arg1) = m ((c.tc : Thread Cert.Cou.nD Cert.Cou.τ).loc Cert.Cou.main_arg1)
      ∧ r.2.mem ((c.tc : Thread Cert.Cou.nD Cert.Cou.τ).loc Cert.Cou.main_arg2) = m ((c.tc : Thread Cert.Cou.nD Cert.Cou.τ).loc Cert.Cou.main_arg2)
      ∧ r.2.mem ((c.tc : Thread Cert.Cou.nD Cert.Cou.τ).loc Cert.Cou.main_arg3) = m ((c.tc : Thread Cert.Cou.nD Cert.Cou.τ).loc Cert.Cou.main_arg3))
      ∧ r.2.sem = fun _ => 0)

def quiescent_CouIdeal [hCouIdeal : Cert.CouIdeal.Facts] : Prop :=
  ∀ (m : (ℓ : Loc Cert.CouIdeal.nD Cert.CouIdeal.τ Cert.CouIdeal.sig) → Buf (Elt Ideal) ℓ) (g : Dev Cert.CouIdeal.nD → PrngReg), Pre_CouIdeal m →
    θ_run (Cert.CouIdeal.defs (F := Ideal)) (onTc (τ := Cert.CouIdeal.τ) (Cert.CouIdeal.main (F := Ideal))) ⟨m, fun _ => 0, g⟩ (fun r => (∀ c : Dev Cert.CouIdeal.nD,
      r.2.mem ((c.tc : Thread Cert.CouIdeal.nD Cert.CouIdeal.τ).loc Cert.CouIdeal.main_arg0) = m ((c.tc : Thread Cert.CouIdeal.nD Cert.CouIdeal.τ).loc Cert.CouIdeal.main_arg0)
      ∧ r.2.mem ((c.tc : Thread Cert.CouIdeal.nD Cert.CouIdeal.τ).loc Cert.CouIdeal.main_arg1) = m ((c.tc : Thread Cert.CouIdeal.nD Cert.CouIdeal.τ).loc Cert.CouIdeal.main_arg1)
      ∧ r.2.mem ((c.tc : Thread Cert.CouIdeal.nD Cert.CouIdeal.τ).loc Cert.CouIdeal.main_arg2) = m ((c.tc : Thread Cert.CouIdeal.nD Cert.CouIdeal.τ).loc Cert.CouIdeal.main_arg2)
      ∧ r.2.mem ((c.tc : Thread Cert.CouIdeal.nD Cert.CouIdeal.τ).loc Cert.CouIdeal.main_arg3) = m ((c.tc : Thread Cert.CouIdeal.nD Cert.CouIdeal.τ).loc Cert.CouIdeal.main_arg3))
      ∧ r.2.sem = fun _ => 0)

def quiescent_CouRefIdeal [hCouRefIdeal : Cert.CouRefIdeal.Facts] : Prop :=
  ∀ (m : (ℓ : Loc Cert.CouRefIdeal.nD Cert.CouRefIdeal.τ Cert.CouRefIdeal.sig) → Buf (Elt Ideal) ℓ) (g : Dev Cert.CouRefIdeal.nD → PrngReg), Pre_CouRefIdeal m →
    θ_run (Cert.CouRefIdeal.defs (F := Ideal)) (onTc (τ := Cert.CouRefIdeal.τ) (Cert.CouRefIdeal.main (F := Ideal))) ⟨m, fun _ => 0, g⟩ (fun r => (∀ c : Dev Cert.CouRefIdeal.nD,
      r.2.mem ((c.tc : Thread Cert.CouRefIdeal.nD Cert.CouRefIdeal.τ).loc Cert.CouRefIdeal.main_arg0) = m ((c.tc : Thread Cert.CouRefIdeal.nD Cert.CouRefIdeal.τ).loc Cert.CouRefIdeal.main_arg0)
      ∧ r.2.mem ((c.tc : Thread Cert.CouRefIdeal.nD Cert.CouRefIdeal.τ).loc Cert.CouRefIdeal.main_arg1) = m ((c.tc : Thread Cert.CouRefIdeal.nD Cert.CouRefIdeal.τ).loc Cert.CouRefIdeal.main_arg1)
      ∧ r.2.mem ((c.tc : Thread Cert.CouRefIdeal.nD Cert.CouRefIdeal.τ).loc Cert.CouRefIdeal.main_arg2) = m ((c.tc : Thread Cert.CouRefIdeal.nD Cert.CouRefIdeal.τ).loc Cert.CouRefIdeal.main_arg2)
      ∧ r.2.mem ((c.tc : Thread Cert.CouRefIdeal.nD Cert.CouRefIdeal.τ).loc Cert.CouRefIdeal.main_arg3) = m ((c.tc : Thread Cert.CouRefIdeal.nD Cert.CouRefIdeal.τ).loc Cert.CouRefIdeal.main_arg3))
      ∧ r.2.sem = fun _ => 0)

def quiescent_Cga [hCga : Cert.Cga.Facts] : Prop :=
  ∀ (m : (ℓ : Loc Cert.Cga.nD Cert.Cga.τ Cert.Cga.sig) → Buf (Elt Bits) ℓ) (g : Dev Cert.Cga.nD → PrngReg), Pre_Cga m →
    θ_run (Cert.Cga.defs (F := Bits)) (onTc (τ := Cert.Cga.τ) (Cert.Cga.main (F := Bits))) ⟨m, fun _ => 0, g⟩ (fun r => (∀ c : Dev Cert.Cga.nD,
      r.2.mem ((c.tc : Thread Cert.Cga.nD Cert.Cga.τ).loc Cert.Cga.main_arg0) = m ((c.tc : Thread Cert.Cga.nD Cert.Cga.τ).loc Cert.Cga.main_arg0)
      ∧ r.2.mem ((c.tc : Thread Cert.Cga.nD Cert.Cga.τ).loc Cert.Cga.main_arg1) = m ((c.tc : Thread Cert.Cga.nD Cert.Cga.τ).loc Cert.Cga.main_arg1))
      ∧ r.2.sem = fun _ => 0)

def quiescent_CgaIdeal [hCgaIdeal : Cert.CgaIdeal.Facts] : Prop :=
  ∀ (m : (ℓ : Loc Cert.CgaIdeal.nD Cert.CgaIdeal.τ Cert.CgaIdeal.sig) → Buf (Elt Ideal) ℓ) (g : Dev Cert.CgaIdeal.nD → PrngReg), Pre_CgaIdeal m →
    θ_run (Cert.CgaIdeal.defs (F := Ideal)) (onTc (τ := Cert.CgaIdeal.τ) (Cert.CgaIdeal.main (F := Ideal))) ⟨m, fun _ => 0, g⟩ (fun r => (∀ c : Dev Cert.CgaIdeal.nD,
      r.2.mem ((c.tc : Thread Cert.CgaIdeal.nD Cert.CgaIdeal.τ).loc Cert.CgaIdeal.main_arg0) = m ((c.tc : Thread Cert.CgaIdeal.nD Cert.CgaIdeal.τ).loc Cert.CgaIdeal.main_arg0)
      ∧ r.2.mem ((c.tc : Thread Cert.CgaIdeal.nD Cert.CgaIdeal.τ).loc Cert.CgaIdeal.main_arg1) = m ((c.tc : Thread Cert.CgaIdeal.nD Cert.CgaIdeal.τ).loc Cert.CgaIdeal.main_arg1))
      ∧ r.2.sem = fun _ => 0)

def quiescent_CgaRefIdeal [hCgaRefIdeal : Cert.CgaRefIdeal.Facts] : Prop :=
  ∀ (m : (ℓ : Loc Cert.CgaRefIdeal.nD Cert.CgaRefIdeal.τ Cert.CgaRefIdeal.sig) → Buf (Elt Ideal) ℓ) (g : Dev Cert.CgaRefIdeal.nD → PrngReg), Pre_CgaRefIdeal m →
    θ_run (Cert.CgaRefIdeal.defs (F := Ideal)) (onTc (τ := Cert.CgaRefIdeal.τ) (Cert.CgaRefIdeal.main (F := Ideal))) ⟨m, fun _ => 0, g⟩ (fun r => (∀ c : Dev Cert.CgaRefIdeal.nD,
      r.2.mem ((c.tc : Thread Cert.CgaRefIdeal.nD Cert.CgaRefIdeal.τ).loc Cert.CgaRefIdeal.main_arg0) = m ((c.tc : Thread Cert.CgaRefIdeal.nD Cert.CgaRefIdeal.τ).loc Cert.CgaRefIdeal.main_arg0)
      ∧ r.2.mem ((c.tc : Thread Cert.CgaRefIdeal.nD Cert.CgaRefIdeal.τ).loc Cert.CgaRefIdeal.main_arg1) = m ((c.tc : Thread Cert.CgaRefIdeal.nD Cert.CgaRefIdeal.τ).loc Cert.CgaRefIdeal.main_arg1))
      ∧ r.2.sem = fun _ => 0)

def quiescent_Cli [hCli : Cert.Cli.Facts] : Prop :=
  ∀ (m : (ℓ : Loc Cert.Cli.nD Cert.Cli.τ Cert.Cli.sig) → Buf (Elt Bits) ℓ) (g : Dev Cert.Cli.nD → PrngReg), Pre_Cli m →
    θ_run (Cert.Cli.defs (F := Bits)) (onTc (τ := Cert.Cli.τ) (Cert.Cli.main (F := Bits))) ⟨m, fun _ => 0, g⟩ (fun r => (∀ c : Dev Cert.Cli.nD,
      r.2.mem ((c.tc : Thread Cert.Cli.nD Cert.Cli.τ).loc Cert.Cli.main_arg0) = m ((c.tc : Thread Cert.Cli.nD Cert.Cli.τ).loc Cert.Cli.main_arg0)
      ∧ r.2.mem ((c.tc : Thread Cert.Cli.nD Cert.Cli.τ).loc Cert.Cli.main_arg1) = m ((c.tc : Thread Cert.Cli.nD Cert.Cli.τ).loc Cert.Cli.main_arg1))
      ∧ r.2.sem = fun _ => 0)

def quiescent_CliIdeal [hCliIdeal : Cert.CliIdeal.Facts] : Prop :=
  ∀ (m : (ℓ : Loc Cert.CliIdeal.nD Cert.CliIdeal.τ Cert.CliIdeal.sig) → Buf (Elt Ideal) ℓ) (g : Dev Cert.CliIdeal.nD → PrngReg), Pre_CliIdeal m →
    θ_run (Cert.CliIdeal.defs (F := Ideal)) (onTc (τ := Cert.CliIdeal.τ) (Cert.CliIdeal.main (F := Ideal))) ⟨m, fun _ => 0, g⟩ (fun r => (∀ c : Dev Cert.CliIdeal.nD,
      r.2.mem ((c.tc : Thread Cert.CliIdeal.nD Cert.CliIdeal.τ).loc Cert.CliIdeal.main_arg0) = m ((c.tc : Thread Cert.CliIdeal.nD Cert.CliIdeal.τ).loc Cert.CliIdeal.main_arg0)
      ∧ r.2.mem ((c.tc : Thread Cert.CliIdeal.nD Cert.CliIdeal.τ).loc Cert.CliIdeal.main_arg1) = m ((c.tc : Thread Cert.CliIdeal.nD Cert.CliIdeal.τ).loc Cert.CliIdeal.main_arg1))
      ∧ r.2.sem = fun _ => 0)

def quiescent_CliRefIdeal [hCliRefIdeal : Cert.CliRefIdeal.Facts] : Prop :=
  ∀ (m : (ℓ : Loc Cert.CliRefIdeal.nD Cert.CliRefIdeal.τ Cert.CliRefIdeal.sig) → Buf (Elt Ideal) ℓ) (g : Dev Cert.CliRefIdeal.nD → PrngReg), Pre_CliRefIdeal m →
    θ_run (Cert.CliRefIdeal.defs (F := Ideal)) (onTc (τ := Cert.CliRefIdeal.τ) (Cert.CliRefIdeal.main (F := Ideal))) ⟨m, fun _ => 0, g⟩ (fun r => (∀ c : Dev Cert.CliRefIdeal.nD,
      r.2.mem ((c.tc : Thread Cert.CliRefIdeal.nD Cert.CliRefIdeal.τ).loc Cert.CliRefIdeal.main_arg0) = m ((c.tc : Thread Cert.CliRefIdeal.nD Cert.CliRefIdeal.τ).loc Cert.CliRefIdeal.main_arg0)
      ∧ r.2.mem ((c.tc : Thread Cert.CliRefIdeal.nD Cert.CliRefIdeal.τ).loc Cert.CliRefIdeal.main_arg1) = m ((c.tc : Thread Cert.CliRefIdeal.nD Cert.CliRefIdeal.τ).loc Cert.CliRefIdeal.main_arg1))
      ∧ r.2.sem = fun _ => 0)

def quiescent_Chn [hChn : Cert.Chn.Facts] : Prop :=
  ∀ (m : (ℓ : Loc Cert.Chn.nD Cert.Chn.τ Cert.Chn.sig) → Buf (Elt Bits) ℓ) (g : Dev Cert.Chn.nD → PrngReg), Pre_Chn m →
    θ_run (Cert.Chn.defs (F := Bits)) (onTc (τ := Cert.Chn.τ) (Cert.Chn.main (F := Bits))) ⟨m, fun _ => 0, g⟩ (fun r => (∀ c : Dev Cert.Chn.nD,
      r.2.mem ((c.tc : Thread Cert.Chn.nD Cert.Chn.τ).loc Cert.Chn.main_arg0) = m ((c.tc : Thread Cert.Chn.nD Cert.Chn.τ).loc Cert.Chn.main_arg0)
      ∧ r.2.mem ((c.tc : Thread Cert.Chn.nD Cert.Chn.τ).loc Cert.Chn.main_arg1) = m ((c.tc : Thread Cert.Chn.nD Cert.Chn.τ).loc Cert.Chn.main_arg1)
      ∧ r.2.mem ((c.tc : Thread Cert.Chn.nD Cert.Chn.τ).loc Cert.Chn.main_arg2) = m ((c.tc : Thread Cert.Chn.nD Cert.Chn.τ).loc Cert.Chn.main_arg2))
      ∧ r.2.sem = fun _ => 0)

def quiescent_ChnIdeal [hChnIdeal : Cert.ChnIdeal.Facts] : Prop :=
  ∀ (m : (ℓ : Loc Cert.ChnIdeal.nD Cert.ChnIdeal.τ Cert.ChnIdeal.sig) → Buf (Elt Ideal) ℓ) (g : Dev Cert.ChnIdeal.nD → PrngReg), Pre_ChnIdeal m →
    θ_run (Cert.ChnIdeal.defs (F := Ideal)) (onTc (τ := Cert.ChnIdeal.τ) (Cert.ChnIdeal.main (F := Ideal))) ⟨m, fun _ => 0, g⟩ (fun r => (∀ c : Dev Cert.ChnIdeal.nD,
      r.2.mem ((c.tc : Thread Cert.ChnIdeal.nD Cert.ChnIdeal.τ).loc Cert.ChnIdeal.main_arg0) = m ((c.tc : Thread Cert.ChnIdeal.nD Cert.ChnIdeal.τ).loc Cert.ChnIdeal.main_arg0)
      ∧ r.2.mem ((c.tc : Thread Cert.ChnIdeal.nD Cert.ChnIdeal.τ).loc Cert.ChnIdeal.main_arg1) = m ((c.tc : Thread Cert.ChnIdeal.nD Cert.ChnIdeal.τ).loc Cert.ChnIdeal.main_arg1)
      ∧ r.2.mem ((c.tc : Thread Cert.ChnIdeal.nD Cert.ChnIdeal.τ).loc Cert.ChnIdeal.main_arg2) = m ((c.tc : Thread Cert.ChnIdeal.nD Cert.ChnIdeal.τ).loc Cert.ChnIdeal.main_arg2))
      ∧ r.2.sem = fun _ => 0)

def quiescent_ChnRefIdeal [hChnRefIdeal : Cert.ChnRefIdeal.Facts] : Prop :=
  ∀ (m : (ℓ : Loc Cert.ChnRefIdeal.nD Cert.ChnRefIdeal.τ Cert.ChnRefIdeal.sig) → Buf (Elt Ideal) ℓ) (g : Dev Cert.ChnRefIdeal.nD → PrngReg), Pre_ChnRefIdeal m →
    θ_run (Cert.ChnRefIdeal.defs (F := Ideal)) (onTc (τ := Cert.ChnRefIdeal.τ) (Cert.ChnRefIdeal.main (F := Ideal))) ⟨m, fun _ => 0, g⟩ (fun r => (∀ c : Dev Cert.ChnRefIdeal.nD,
      r.2.mem ((c.tc : Thread Cert.ChnRefIdeal.nD Cert.ChnRefIdeal.τ).loc Cert.ChnRefIdeal.main_arg0) = m ((c.tc : Thread Cert.ChnRefIdeal.nD Cert.ChnRefIdeal.τ).loc Cert.ChnRefIdeal.main_arg0)
      ∧ r.2.mem ((c.tc : Thread Cert.ChnRefIdeal.nD Cert.ChnRefIdeal.τ).loc Cert.ChnRefIdeal.main_arg1) = m ((c.tc : Thread Cert.ChnRefIdeal.nD Cert.ChnRefIdeal.τ).loc Cert.ChnRefIdeal.main_arg1)
      ∧ r.2.mem ((c.tc : Thread Cert.ChnRefIdeal.nD Cert.ChnRefIdeal.τ).loc Cert.ChnRefIdeal.main_arg2) = m ((c.tc : Thread Cert.ChnRefIdeal.nD Cert.ChnRefIdeal.τ).loc Cert.ChnRefIdeal.main_arg2))
      ∧ r.2.sem = fun _ => 0)

def quiescent_Cva [hCva : Cert.Cva.Facts] : Prop :=
  ∀ (m : (ℓ : Loc Cert.Cva.nD Cert.Cva.τ Cert.Cva.sig) → Buf (Elt Bits) ℓ) (g : Dev Cert.Cva.nD → PrngReg), Pre_Cva m →
    θ_run (Cert.Cva.defs (F := Bits)) (onTc (τ := Cert.Cva.τ) (Cert.Cva.main (F := Bits))) ⟨m, fun _ => 0, g⟩ (fun r => (∀ c : Dev Cert.Cva.nD,
      r.2.mem ((c.tc : Thread Cert.Cva.nD Cert.Cva.τ).loc Cert.Cva.main_arg0) = m ((c.tc : Thread Cert.Cva.nD Cert.Cva.τ).loc Cert.Cva.main_arg0)
      ∧ r.2.mem ((c.tc : Thread Cert.Cva.nD Cert.Cva.τ).loc Cert.Cva.main_arg1) = m ((c.tc : Thread Cert.Cva.nD Cert.Cva.τ).loc Cert.Cva.main_arg1))
      ∧ r.2.sem = fun _ => 0)

def quiescent_CvaIdeal [hCvaIdeal : Cert.CvaIdeal.Facts] : Prop :=
  ∀ (m : (ℓ : Loc Cert.CvaIdeal.nD Cert.CvaIdeal.τ Cert.CvaIdeal.sig) → Buf (Elt Ideal) ℓ) (g : Dev Cert.CvaIdeal.nD → PrngReg), Pre_CvaIdeal m →
    θ_run (Cert.CvaIdeal.defs (F := Ideal)) (onTc (τ := Cert.CvaIdeal.τ) (Cert.CvaIdeal.main (F := Ideal))) ⟨m, fun _ => 0, g⟩ (fun r => (∀ c : Dev Cert.CvaIdeal.nD,
      r.2.mem ((c.tc : Thread Cert.CvaIdeal.nD Cert.CvaIdeal.τ).loc Cert.CvaIdeal.main_arg0) = m ((c.tc : Thread Cert.CvaIdeal.nD Cert.CvaIdeal.τ).loc Cert.CvaIdeal.main_arg0)
      ∧ r.2.mem ((c.tc : Thread Cert.CvaIdeal.nD Cert.CvaIdeal.τ).loc Cert.CvaIdeal.main_arg1) = m ((c.tc : Thread Cert.CvaIdeal.nD Cert.CvaIdeal.τ).loc Cert.CvaIdeal.main_arg1))
      ∧ r.2.sem = fun _ => 0)

def quiescent_CvaRefIdeal [hCvaRefIdeal : Cert.CvaRefIdeal.Facts] : Prop :=
  ∀ (m : (ℓ : Loc Cert.CvaRefIdeal.nD Cert.CvaRefIdeal.τ Cert.CvaRefIdeal.sig) → Buf (Elt Ideal) ℓ) (g : Dev Cert.CvaRefIdeal.nD → PrngReg), Pre_CvaRefIdeal m →
    θ_run (Cert.CvaRefIdeal.defs (F := Ideal)) (onTc (τ := Cert.CvaRefIdeal.τ) (Cert.CvaRefIdeal.main (F := Ideal))) ⟨m, fun _ => 0, g⟩ (fun r => (∀ c : Dev Cert.CvaRefIdeal.nD,
      r.2.mem ((c.tc : Thread Cert.CvaRefIdeal.nD Cert.CvaRefIdeal.τ).loc Cert.CvaRefIdeal.main_arg0) = m ((c.tc : Thread Cert.CvaRefIdeal.nD Cert.CvaRefIdeal.τ).loc Cert.CvaRefIdeal.main_arg0)
      ∧ r.2.mem ((c.tc : Thread Cert.CvaRefIdeal.nD Cert.CvaRefIdeal.τ).loc Cert.CvaRefIdeal.main_arg1) = m ((c.tc : Thread Cert.CvaRefIdeal.nD Cert.CvaRefIdeal.τ).loc Cert.CvaRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Mno [hMno : Cert.Mno.Facts] : Prop :=
  ∀ (m : (ℓ : Loc Cert.Mno.nD Cert.Mno.τ Cert.Mno.sig) → Buf (Elt Bits) ℓ) (g : Dev Cert.Mno.nD → PrngReg), Pre_Mno m →
    θ_run (Cert.Mno.defs (F := Bits)) (onTc (τ := Cert.Mno.τ) (Cert.Mno.main (F := Bits))) ⟨m, fun _ => 0, g⟩ (fun r => (∀ c : Dev Cert.Mno.nD,
      r.2.mem ((c.tc : Thread Cert.Mno.nD Cert.Mno.τ).loc Cert.Mno.main_arg0) = m ((c.tc : Thread Cert.Mno.nD Cert.Mno.τ).loc Cert.Mno.main_arg0)
      ∧ r.2.mem ((c.tc : Thread Cert.Mno.nD Cert.Mno.τ).loc Cert.Mno.main_arg1) = m ((c.tc : Thread Cert.Mno.nD Cert.Mno.τ).loc Cert.Mno.main_arg1)
      ∧ r.2.mem ((c.tc : Thread Cert.Mno.nD Cert.Mno.τ).loc Cert.Mno.main_arg2) = m ((c.tc : Thread Cert.Mno.nD Cert.Mno.τ).loc Cert.Mno.main_arg2)
      ∧ r.2.mem ((c.tc : Thread Cert.Mno.nD Cert.Mno.τ).loc Cert.Mno.main_arg3) = m ((c.tc : Thread Cert.Mno.nD Cert.Mno.τ).loc Cert.Mno.main_arg3))
      ∧ r.2.sem = fun _ => 0)

def quiescent_MnoIdeal [hMnoIdeal : Cert.MnoIdeal.Facts] : Prop :=
  ∀ (m : (ℓ : Loc Cert.MnoIdeal.nD Cert.MnoIdeal.τ Cert.MnoIdeal.sig) → Buf (Elt Ideal) ℓ) (g : Dev Cert.MnoIdeal.nD → PrngReg), Pre_MnoIdeal m →
    θ_run (Cert.MnoIdeal.defs (F := Ideal)) (onTc (τ := Cert.MnoIdeal.τ) (Cert.MnoIdeal.main (F := Ideal))) ⟨m, fun _ => 0, g⟩ (fun r => (∀ c : Dev Cert.MnoIdeal.nD,
      r.2.mem ((c.tc : Thread Cert.MnoIdeal.nD Cert.MnoIdeal.τ).loc Cert.MnoIdeal.main_arg0) = m ((c.tc : Thread Cert.MnoIdeal.nD Cert.MnoIdeal.τ).loc Cert.MnoIdeal.main_arg0)
      ∧ r.2.mem ((c.tc : Thread Cert.MnoIdeal.nD Cert.MnoIdeal.τ).loc Cert.MnoIdeal.main_arg1) = m ((c.tc : Thread Cert.MnoIdeal.nD Cert.MnoIdeal.τ).loc Cert.MnoIdeal.main_arg1)
      ∧ r.2.mem ((c.tc : Thread Cert.MnoIdeal.nD Cert.MnoIdeal.τ).loc Cert.MnoIdeal.main_arg2) = m ((c.tc : Thread Cert.MnoIdeal.nD Cert.MnoIdeal.τ).loc Cert.MnoIdeal.main_arg2)
      ∧ r.2.mem ((c.tc : Thread Cert.MnoIdeal.nD Cert.MnoIdeal.τ).loc Cert.MnoIdeal.main_arg3) = m ((c.tc : Thread Cert.MnoIdeal.nD Cert.MnoIdeal.τ).loc Cert.MnoIdeal.main_arg3))
      ∧ r.2.sem = fun _ => 0)

def quiescent_MnoRefIdeal [hMnoRefIdeal : Cert.MnoRefIdeal.Facts] : Prop :=
  ∀ (m : (ℓ : Loc Cert.MnoRefIdeal.nD Cert.MnoRefIdeal.τ Cert.MnoRefIdeal.sig) → Buf (Elt Ideal) ℓ) (g : Dev Cert.MnoRefIdeal.nD → PrngReg), Pre_MnoRefIdeal m →
    θ_run (Cert.MnoRefIdeal.defs (F := Ideal)) (onTc (τ := Cert.MnoRefIdeal.τ) (Cert.MnoRefIdeal.main (F := Ideal))) ⟨m, fun _ => 0, g⟩ (fun r => (∀ c : Dev Cert.MnoRefIdeal.nD,
      r.2.mem ((c.tc : Thread Cert.MnoRefIdeal.nD Cert.MnoRefIdeal.τ).loc Cert.MnoRefIdeal.main_arg0) = m ((c.tc : Thread Cert.MnoRefIdeal.nD Cert.MnoRefIdeal.τ).loc Cert.MnoRefIdeal.main_arg0)
      ∧ r.2.mem ((c.tc : Thread Cert.MnoRefIdeal.nD Cert.MnoRefIdeal.τ).loc Cert.MnoRefIdeal.main_arg1) = m ((c.tc : Thread Cert.MnoRefIdeal.nD Cert.MnoRefIdeal.τ).loc Cert.MnoRefIdeal.main_arg1)
      ∧ r.2.mem ((c.tc : Thread Cert.MnoRefIdeal.nD Cert.MnoRefIdeal.τ).loc Cert.MnoRefIdeal.main_arg2) = m ((c.tc : Thread Cert.MnoRefIdeal.nD Cert.MnoRefIdeal.τ).loc Cert.MnoRefIdeal.main_arg2)
      ∧ r.2.mem ((c.tc : Thread Cert.MnoRefIdeal.nD Cert.MnoRefIdeal.τ).loc Cert.MnoRefIdeal.main_arg3) = m ((c.tc : Thread Cert.MnoRefIdeal.nD Cert.MnoRefIdeal.τ).loc Cert.MnoRefIdeal.main_arg3))
      ∧ r.2.sem = fun _ => 0)

def quiescent_Cmn [hCmn : Cert.Cmn.Facts] : Prop :=
  ∀ (m : (ℓ : Loc Cert.Cmn.nD Cert.Cmn.τ Cert.Cmn.sig) → Buf (Elt Bits) ℓ) (g : Dev Cert.Cmn.nD → PrngReg), Pre_Cmn m →
    θ_run (Cert.Cmn.defs (F := Bits)) (onTc (τ := Cert.Cmn.τ) (Cert.Cmn.main (F := Bits))) ⟨m, fun _ => 0, g⟩ (fun r => (∀ c : Dev Cert.Cmn.nD,
      r.2.mem ((c.tc : Thread Cert.Cmn.nD Cert.Cmn.τ).loc Cert.Cmn.main_arg0) = m ((c.tc : Thread Cert.Cmn.nD Cert.Cmn.τ).loc Cert.Cmn.main_arg0)
      ∧ r.2.mem ((c.tc : Thread Cert.Cmn.nD Cert.Cmn.τ).loc Cert.Cmn.main_arg1) = m ((c.tc : Thread Cert.Cmn.nD Cert.Cmn.τ).loc Cert.Cmn.main_arg1)
      ∧ r.2.mem ((c.tc : Thread Cert.Cmn.nD Cert.Cmn.τ).loc Cert.Cmn.main_arg2) = m ((c.tc : Thread Cert.Cmn.nD Cert.Cmn.τ).loc Cert.Cmn.main_arg2)
      ∧ r.2.mem ((c.tc : Thread Cert.Cmn.nD Cert.Cmn.τ).loc Cert.Cmn.main_arg3) = m ((c.tc : Thread Cert.Cmn.nD Cert.Cmn.τ).loc Cert.Cmn.main_arg3))
      ∧ r.2.sem = fun _ => 0)

def quiescent_CmnIdeal [hCmnIdeal : Cert.CmnIdeal.Facts] : Prop :=
  ∀ (m : (ℓ : Loc Cert.CmnIdeal.nD Cert.CmnIdeal.τ Cert.CmnIdeal.sig) → Buf (Elt Ideal) ℓ) (g : Dev Cert.CmnIdeal.nD → PrngReg), Pre_CmnIdeal m →
    θ_run (Cert.CmnIdeal.defs (F := Ideal)) (onTc (τ := Cert.CmnIdeal.τ) (Cert.CmnIdeal.main (F := Ideal))) ⟨m, fun _ => 0, g⟩ (fun r => (∀ c : Dev Cert.CmnIdeal.nD,
      r.2.mem ((c.tc : Thread Cert.CmnIdeal.nD Cert.CmnIdeal.τ).loc Cert.CmnIdeal.main_arg0) = m ((c.tc : Thread Cert.CmnIdeal.nD Cert.CmnIdeal.τ).loc Cert.CmnIdeal.main_arg0)
      ∧ r.2.mem ((c.tc : Thread Cert.CmnIdeal.nD Cert.CmnIdeal.τ).loc Cert.CmnIdeal.main_arg1) = m ((c.tc : Thread Cert.CmnIdeal.nD Cert.CmnIdeal.τ).loc Cert.CmnIdeal.main_arg1)
      ∧ r.2.mem ((c.tc : Thread Cert.CmnIdeal.nD Cert.CmnIdeal.τ).loc Cert.CmnIdeal.main_arg2) = m ((c.tc : Thread Cert.CmnIdeal.nD Cert.CmnIdeal.τ).loc Cert.CmnIdeal.main_arg2)
      ∧ r.2.mem ((c.tc : Thread Cert.CmnIdeal.nD Cert.CmnIdeal.τ).loc Cert.CmnIdeal.main_arg3) = m ((c.tc : Thread Cert.CmnIdeal.nD Cert.CmnIdeal.τ).loc Cert.CmnIdeal.main_arg3))
      ∧ r.2.sem = fun _ => 0)

def quiescent_CmnRefIdeal [hCmnRefIdeal : Cert.CmnRefIdeal.Facts] : Prop :=
  ∀ (m : (ℓ : Loc Cert.CmnRefIdeal.nD Cert.CmnRefIdeal.τ Cert.CmnRefIdeal.sig) → Buf (Elt Ideal) ℓ) (g : Dev Cert.CmnRefIdeal.nD → PrngReg), Pre_CmnRefIdeal m →
    θ_run (Cert.CmnRefIdeal.defs (F := Ideal)) (onTc (τ := Cert.CmnRefIdeal.τ) (Cert.CmnRefIdeal.main (F := Ideal))) ⟨m, fun _ => 0, g⟩ (fun r => (∀ c : Dev Cert.CmnRefIdeal.nD,
      r.2.mem ((c.tc : Thread Cert.CmnRefIdeal.nD Cert.CmnRefIdeal.τ).loc Cert.CmnRefIdeal.main_arg0) = m ((c.tc : Thread Cert.CmnRefIdeal.nD Cert.CmnRefIdeal.τ).loc Cert.CmnRefIdeal.main_arg0)
      ∧ r.2.mem ((c.tc : Thread Cert.CmnRefIdeal.nD Cert.CmnRefIdeal.τ).loc Cert.CmnRefIdeal.main_arg1) = m ((c.tc : Thread Cert.CmnRefIdeal.nD Cert.CmnRefIdeal.τ).loc Cert.CmnRefIdeal.main_arg1)
      ∧ r.2.mem ((c.tc : Thread Cert.CmnRefIdeal.nD Cert.CmnRefIdeal.τ).loc Cert.CmnRefIdeal.main_arg2) = m ((c.tc : Thread Cert.CmnRefIdeal.nD Cert.CmnRefIdeal.τ).loc Cert.CmnRefIdeal.main_arg2)
      ∧ r.2.mem ((c.tc : Thread Cert.CmnRefIdeal.nD Cert.CmnRefIdeal.τ).loc Cert.CmnRefIdeal.main_arg3) = m ((c.tc : Thread Cert.CmnRefIdeal.nD Cert.CmnRefIdeal.τ).loc Cert.CmnRefIdeal.main_arg3))
      ∧ r.2.sem = fun _ => 0)

def preserves_Mla_MlaIdeal : Prop :=
  True

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)) →
    ∃ (v0 : (c : Dev Cert.MlaIdeal.nD) → Buf (Elt Ideal) ((c.tc : Thread Cert.MlaIdeal.nD Cert.MlaIdeal.τ).loc Cert.MlaIdeal.main_v26)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v26) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8))

def preserves_Dif_DifIdeal : Prop :=
  True

def algebraic_DifIdeal_DifRefIdeal_pre_finite_diff [hDifIdeal : Cert.DifIdeal.Facts] [hDifRefIdeal : Cert.DifRefIdeal.Facts] [hPre_finite_diff : Cert.Pre_finite_diff.Facts] : Prop :=
  ∀ (m : (ℓ : Loc Cert.DifIdeal.nD Cert.DifIdeal.τ Cert.DifIdeal.sig) → Buf (Elt Ideal) ℓ) (g : Dev Cert.DifIdeal.nD → PrngReg)
    (m' : (ℓ : Loc Cert.DifRefIdeal.nD Cert.DifRefIdeal.τ Cert.DifRefIdeal.sig) → Buf (Elt Ideal) ℓ) (g' : Dev Cert.DifRefIdeal.nD → PrngReg), Pre_DifIdeal_finite_diff m →
    (∀ c : Dev Cert.DifIdeal.nD,
      m' ((c.tc : Thread Cert.DifRefIdeal.nD Cert.DifRefIdeal.τ).loc Cert.DifRefIdeal.main_arg0) = m ((c.tc : Thread Cert.DifIdeal.nD Cert.DifIdeal.τ).loc Cert.DifIdeal.main_arg0)
      ∧ m' ((c.tc : Thread Cert.DifRefIdeal.nD Cert.DifRefIdeal.τ).loc Cert.DifRefIdeal.main_arg1) = m ((c.tc : Thread Cert.DifIdeal.nD Cert.DifIdeal.τ).loc Cert.DifIdeal.main_arg1)
      ∧ m' ((c.tc : Thread Cert.DifRefIdeal.nD Cert.DifRefIdeal.τ).loc Cert.DifRefIdeal.main_arg2) = m ((c.tc : Thread Cert.DifIdeal.nD Cert.DifIdeal.τ).loc Cert.DifIdeal.main_arg2)
      ∧ m' ((c.tc : Thread Cert.DifRefIdeal.nD Cert.DifRefIdeal.τ).loc Cert.DifRefIdeal.main_arg3) = m ((c.tc : Thread Cert.DifIdeal.nD Cert.DifIdeal.τ).loc Cert.DifIdeal.main_arg3)
      ∧ m' ((c.tc : Thread Cert.DifRefIdeal.nD Cert.DifRefIdeal.τ).loc Cert.DifRefIdeal.main_arg4) = m ((c.tc : Thread Cert.DifIdeal.nD Cert.DifIdeal.τ).loc Cert.DifIdeal.main_arg4)
      ∧ m' ((c.tc : Thread Cert.DifRefIdeal.nD Cert.DifRefIdeal.τ).loc Cert.DifRefIdeal.main_arg5) = m ((c.tc : Thread Cert.DifIdeal.nD Cert.DifIdeal.τ).loc Cert.DifIdeal.main_arg5)
      ∧ m' ((c.tc : Thread Cert.DifRefIdeal.nD Cert.DifRefIdeal.τ).loc Cert.DifRefIdeal.main_arg6) = m ((c.tc : Thread Cert.DifIdeal.nD Cert.DifIdeal.τ).loc Cert.DifIdeal.main_arg6)
      ∧ m' ((c.tc : Thread Cert.DifRefIdeal.nD Cert.DifRefIdeal.τ).loc Cert.DifRefIdeal.main_arg7) = m ((c.tc : Thread Cert.DifIdeal.nD Cert.DifIdeal.τ).loc Cert.DifIdeal.main_arg7)
      ∧ m' ((c.tc : Thread Cert.DifRefIdeal.nD Cert.DifRefIdeal.τ).loc Cert.DifRefIdeal.main_arg8) = m ((c.tc : Thread Cert.DifIdeal.nD Cert.DifIdeal.τ).loc Cert.DifIdeal.main_arg8)
      ∧ m' ((c.tc : Thread Cert.DifRefIdeal.nD Cert.DifRefIdeal.τ).loc Cert.DifRefIdeal.main_arg9) = m ((c.tc : Thread Cert.DifIdeal.nD Cert.DifIdeal.τ).loc Cert.DifIdeal.main_arg9)
      ∧ m' ((c.tc : Thread Cert.DifRefIdeal.nD Cert.DifRefIdeal.τ).loc Cert.DifRefIdeal.main_arg10) = m ((c.tc : Thread Cert.DifIdeal.nD Cert.DifIdeal.τ).loc Cert.DifIdeal.main_arg10)) →
    ∃ (v0 : (c : Dev Cert.DifIdeal.nD) → Buf (Elt Ideal) ((c.tc : Thread Cert.DifIdeal.nD Cert.DifIdeal.τ).loc Cert.DifIdeal.main_v26)),
      θ_run (Cert.DifIdeal.defs (F := Ideal)) (onTc (τ := Cert.DifIdeal.τ) (Cert.DifIdeal.main (F := Ideal))) ⟨m, fun _ => 0, g⟩ (fun r => ∀ c : Dev Cert.DifIdeal.nD,
          r.2.mem ((c.tc : Thread Cert.DifIdeal.nD Cert.DifIdeal.τ).loc Cert.DifIdeal.main_v26) = v0 c
          ∧ r.2.mem ((c.tc : Thread Cert.DifIdeal.nD Cert.DifIdeal.τ).loc Cert.DifIdeal.main_arg0) = m ((c.tc : Thread Cert.DifIdeal.nD Cert.DifIdeal.τ).loc Cert.DifIdeal.main_arg0)
          ∧ r.2.mem ((c.tc : Thread Cert.DifIdeal.nD Cert.DifIdeal.τ).loc Cert.DifIdeal.main_arg1) = m ((c.tc : Thread Cert.DifIdeal.nD Cert.DifIdeal.τ).loc Cert.DifIdeal.main_arg1)
          ∧ r.2.mem ((c.tc : Thread Cert.DifIdeal.nD Cert.DifIdeal.τ).loc Cert.DifIdeal.main_arg2) = m ((c.tc : Thread Cert.DifIdeal.nD Cert.DifIdeal.τ).loc Cert.DifIdeal.main_arg2)
          ∧ r.2.mem ((c.tc : Thread Cert.DifIdeal.nD Cert.DifIdeal.τ).loc Cert.DifIdeal.main_arg3) = m ((c.tc : Thread Cert.DifIdeal.nD Cert.DifIdeal.τ).loc Cert.DifIdeal.main_arg3)
          ∧ r.2.mem ((c.tc : Thread Cert.DifIdeal.nD Cert.DifIdeal.τ).loc Cert.DifIdeal.main_arg4) = m ((c.tc : Thread Cert.DifIdeal.nD Cert.DifIdeal.τ).loc Cert.DifIdeal.main_arg4)
          ∧ r.2.mem ((c.tc : Thread Cert.DifIdeal.nD Cert.DifIdeal.τ).loc Cert.DifIdeal.main_arg5) = m ((c.tc : Thread Cert.DifIdeal.nD Cert.DifIdeal.τ).loc Cert.DifIdeal.main_arg5)
          ∧ r.2.mem ((c.tc : Thread Cert.DifIdeal.nD Cert.DifIdeal.τ).loc Cert.DifIdeal.main_arg6) = m ((c.tc : Thread Cert.DifIdeal.nD Cert.DifIdeal.τ).loc Cert.DifIdeal.main_arg6)
          ∧ r.2.mem ((c.tc : Thread Cert.DifIdeal.nD Cert.DifIdeal.τ).loc Cert.DifIdeal.main_arg7) = m ((c.tc : Thread Cert.DifIdeal.nD Cert.DifIdeal.τ).loc Cert.DifIdeal.main_arg7)
          ∧ r.2.mem ((c.tc : Thread Cert.DifIdeal.nD Cert.DifIdeal.τ).loc Cert.DifIdeal.main_arg8) = m ((c.tc : Thread Cert.DifIdeal.nD Cert.DifIdeal.τ).loc Cert.DifIdeal.main_arg8)
          ∧ r.2.mem ((c.tc : Thread Cert.DifIdeal.nD Cert.DifIdeal.τ).loc Cert.DifIdeal.main_arg9) = m ((c.tc : Thread Cert.DifIdeal.nD Cert.DifIdeal.τ).loc Cert.DifIdeal.main_arg9)
          ∧ r.2.mem ((c.tc : Thread Cert.DifIdeal.nD Cert.DifIdeal.τ).loc Cert.DifIdeal.main_arg10) = m ((c.tc : Thread Cert.DifIdeal.nD Cert.DifIdeal.τ).loc Cert.DifIdeal.main_arg10))
      ∧ θ_run (Cert.DifRefIdeal.defs (F := Ideal)) (onTc (τ := Cert.DifRefIdeal.τ) (Cert.DifRefIdeal.main (F := Ideal))) ⟨m', fun _ => 0, g'⟩ (fun r => ∀ c : Dev Cert.DifRefIdeal.nD,
          r.2.mem ((c.tc : Thread Cert.DifRefIdeal.nD Cert.DifRefIdeal.τ).loc Cert.DifRefIdeal.main_v50) = v0 c
          ∧ r.2.mem ((c.tc : Thread Cert.DifRefIdeal.nD Cert.DifRefIdeal.τ).loc Cert.DifRefIdeal.main_arg0) = m' ((c.tc : Thread Cert.DifRefIdeal.nD Cert.DifRefIdeal.τ).loc Cert.DifRefIdeal.main_arg0)
          ∧ r.2.mem ((c.tc : Thread Cert.DifRefIdeal.nD Cert.DifRefIdeal.τ).loc Cert.DifRefIdeal.main_arg1) = m' ((c.tc : Thread Cert.DifRefIdeal.nD Cert.DifRefIdeal.τ).loc Cert.DifRefIdeal.main_arg1)
          ∧ r.2.mem ((c.tc : Thread Cert.DifRefIdeal.nD Cert.DifRefIdeal.τ).loc Cert.DifRefIdeal.main_arg2) = m' ((c.tc : Thread Cert.DifRefIdeal.nD Cert.DifRefIdeal.τ).loc Cert.DifRefIdeal.main_arg2)
          ∧ r.2.mem ((c.tc : Thread Cert.DifRefIdeal.nD Cert.DifRefIdeal.τ).loc Cert.DifRefIdeal.main_arg3) = m' ((c.tc : Thread Cert.DifRefIdeal.nD Cert.DifRefIdeal.τ).loc Cert.DifRefIdeal.main_arg3)
          ∧ r.2.mem ((c.tc : Thread Cert.DifRefIdeal.nD Cert.DifRefIdeal.τ).loc Cert.DifRefIdeal.main_arg4) = m' ((c.tc : Thread Cert.DifRefIdeal.nD Cert.DifRefIdeal.τ).loc Cert.DifRefIdeal.main_arg4)
          ∧ r.2.mem ((c.tc : Thread Cert.DifRefIdeal.nD Cert.DifRefIdeal.τ).loc Cert.DifRefIdeal.main_arg5) = m' ((c.tc : Thread Cert.DifRefIdeal.nD Cert.DifRefIdeal.τ).loc Cert.DifRefIdeal.main_arg5)
          ∧ r.2.mem ((c.tc : Thread Cert.DifRefIdeal.nD Cert.DifRefIdeal.τ).loc Cert.DifRefIdeal.main_arg6) = m' ((c.tc : Thread Cert.DifRefIdeal.nD Cert.DifRefIdeal.τ).loc Cert.DifRefIdeal.main_arg6)
          ∧ r.2.mem ((c.tc : Thread Cert.DifRefIdeal.nD Cert.DifRefIdeal.τ).loc Cert.DifRefIdeal.main_arg7) = m' ((c.tc : Thread Cert.DifRefIdeal.nD Cert.DifRefIdeal.τ).loc Cert.DifRefIdeal.main_arg7)
          ∧ r.2.mem ((c.tc : Thread Cert.DifRefIdeal.nD Cert.DifRefIdeal.τ).loc Cert.DifRefIdeal.main_arg8) = m' ((c.tc : Thread Cert.DifRefIdeal.nD Cert.DifRefIdeal.τ).loc Cert.DifRefIdeal.main_arg8)
          ∧ r.2.mem ((c.tc : Thread Cert.DifRefIdeal.nD Cert.DifRefIdeal.τ).loc Cert.DifRefIdeal.main_arg9) = m' ((c.tc : Thread Cert.DifRefIdeal.nD Cert.DifRefIdeal.τ).loc Cert.DifRefIdeal.main_arg9)
          ∧ r.2.mem ((c.tc : Thread Cert.DifRefIdeal.nD Cert.DifRefIdeal.τ).loc Cert.DifRefIdeal.main_arg10) = m' ((c.tc : Thread Cert.DifRefIdeal.nD Cert.DifRefIdeal.τ).loc Cert.DifRefIdeal.main_arg10))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gat_GatIdeal : Prop :=
  True

def algebraic_GatIdeal_GatRefIdeal [hGatIdeal : Cert.GatIdeal.Facts] [hGatRefIdeal : Cert.GatRefIdeal.Facts] : Prop :=
  ∀ (m : (ℓ : Loc Cert.GatIdeal.nD Cert.GatIdeal.τ Cert.GatIdeal.sig) → Buf (Elt Ideal) ℓ) (g : Dev Cert.GatIdeal.nD → PrngReg)
    (m' : (ℓ : Loc Cert.GatRefIdeal.nD Cert.GatRefIdeal.τ Cert.GatRefIdeal.sig) → Buf (Elt Ideal) ℓ) (g' : Dev Cert.GatRefIdeal.nD → PrngReg), Pre_GatIdeal m →
    (∀ c : Dev Cert.GatIdeal.nD,
      m' ((c.tc : Thread Cert.GatRefIdeal.nD Cert.GatRefIdeal.τ).loc Cert.GatRefIdeal.main_arg0) = m ((c.tc : Thread Cert.GatIdeal.nD Cert.GatIdeal.τ).loc Cert.GatIdeal.main_arg0)
      ∧ m' ((c.tc : Thread Cert.GatRefIdeal.nD Cert.GatRefIdeal.τ).loc Cert.GatRefIdeal.main_arg1) = m ((c.tc : Thread Cert.GatIdeal.nD Cert.GatIdeal.τ).loc Cert.GatIdeal.main_arg1)) →
    ∃ (v0 : (c : Dev Cert.GatIdeal.nD) → Buf (Elt Ideal) ((c.tc : Thread Cert.GatIdeal.nD Cert.GatIdeal.τ).loc Cert.GatIdeal.main_v1)),
      θ_run (Cert.GatIdeal.defs (F := Ideal)) (onTc (τ := Cert.GatIdeal.τ) (Cert.GatIdeal.main (F := Ideal))) ⟨m, fun _ => 0, g⟩ (fun r => ∀ c : Dev Cert.GatIdeal.nD,
          r.2.mem ((c.tc : Thread Cert.GatIdeal.nD Cert.GatIdeal.τ).loc Cert.GatIdeal.main_v1) = v0 c
          ∧ r.2.mem ((c.tc : Thread Cert.GatIdeal.nD Cert.GatIdeal.τ).loc Cert.GatIdeal.main_arg0) = m ((c.tc : Thread Cert.GatIdeal.nD Cert.GatIdeal.τ).loc Cert.GatIdeal.main_arg0)
          ∧ r.2.mem ((c.tc : Thread Cert.GatIdeal.nD Cert.GatIdeal.τ).loc Cert.GatIdeal.main_arg1) = m ((c.tc : Thread Cert.GatIdeal.nD Cert.GatIdeal.τ).loc Cert.GatIdeal.main_arg1))
      ∧ θ_run (Cert.GatRefIdeal.defs (F := Ideal)) (onTc (τ := Cert.GatRefIdeal.τ) (Cert.GatRefIdeal.main (F := Ideal))) ⟨m', fun _ => 0, g'⟩ (fun r => ∀ c : Dev Cert.GatRefIdeal.nD,
          r.2.mem ((c.tc : Thread Cert.GatRefIdeal.nD Cert.GatRefIdeal.τ).loc Cert.GatRefIdeal.main_v3) = v0 c
          ∧ r.2.mem ((c.tc : Thread Cert.GatRefIdeal.nD Cert.GatRefIdeal.τ).loc Cert.GatRefIdeal.main_arg0) = m' ((c.tc : Thread Cert.GatRefIdeal.nD Cert.GatRefIdeal.τ).loc Cert.GatRefIdeal.main_arg0)
          ∧ r.2.mem ((c.tc : Thread Cert.GatRefIdeal.nD Cert.GatRefIdeal.τ).loc Cert.GatRefIdeal.main_arg1) = m' ((c.tc : Thread Cert.GatRefIdeal.nD Cert.GatRefIdeal.τ).loc Cert.GatRefIdeal.main_arg1))

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)) →
    ∃ (v0 : (c : Dev Cert.LinIdeal.nD) → Buf (Elt Ideal) ((c.tc : Thread Cert.LinIdeal.nD Cert.LinIdeal.τ).loc Cert.LinIdeal.main_v1)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v1) = v0 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v1) = v0 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1))

def preserves_Rop_RopIdeal : Prop :=
  True

def algebraic_RopIdeal_RopRefIdeal [hRopIdeal : Cert.RopIdeal.Facts] [hRopRefIdeal : Cert.RopRefIdeal.Facts] : Prop :=
  ∀ (m : (ℓ : Loc Cert.RopIdeal.nD Cert.RopIdeal.τ Cert.RopIdeal.sig) → Buf (Elt Ideal) ℓ) (g : Dev Cert.RopIdeal.nD → PrngReg)
    (m' : (ℓ : Loc Cert.RopRefIdeal.nD Cert.RopRefIdeal.τ Cert.RopRefIdeal.sig) → Buf (Elt Ideal) ℓ) (g' : Dev Cert.RopRefIdeal.nD → PrngReg), Pre_RopIdeal m →
    (∀ c : Dev Cert.RopIdeal.nD,
      m' ((c.tc : Thread Cert.RopRefIdeal.nD Cert.RopRefIdeal.τ).loc Cert.RopRefIdeal.main_arg0) = m ((c.tc : Thread Cert.RopIdeal.nD Cert.RopIdeal.τ).loc Cert.RopIdeal.main_arg0)
      ∧ m' ((c.tc : Thread Cert.RopRefIdeal.nD Cert.RopRefIdeal.τ).loc Cert.RopRefIdeal.main_arg1) = m ((c.tc : Thread Cert.RopIdeal.nD Cert.RopIdeal.τ).loc Cert.RopIdeal.main_arg1)
      ∧ m' ((c.tc : Thread Cert.RopRefIdeal.nD Cert.RopRefIdeal.τ).loc Cert.RopRefIdeal.main_arg2) = m ((c.tc : Thread Cert.RopIdeal.nD Cert.RopIdeal.τ).loc Cert.RopIdeal.main_arg2)) →
    ∃ (v0 : (c : Dev Cert.RopIdeal.nD) → Buf (Elt Ideal) ((c.tc : Thread Cert.RopIdeal.nD Cert.RopIdeal.τ).loc Cert.RopIdeal.main_v42)),
      θ_run (Cert.RopIdeal.defs (F := Ideal)) (onTc (τ := Cert.RopIdeal.τ) (Cert.RopIdeal.main (F := Ideal))) ⟨m, fun _ => 0, g⟩ (fun r => ∀ c : Dev Cert.RopIdeal.nD,
          r.2.mem ((c.tc : Thread Cert.RopIdeal.nD Cert.RopIdeal.τ).loc Cert.RopIdeal.main_v42) = v0 c
          ∧ r.2.mem ((c.tc : Thread Cert.RopIdeal.nD Cert.RopIdeal.τ).loc Cert.RopIdeal.main_arg0) = m ((c.tc : Thread Cert.RopIdeal.nD Cert.RopIdeal.τ).loc Cert.RopIdeal.main_arg0)
          ∧ r.2.mem ((c.tc : Thread Cert.RopIdeal.nD Cert.RopIdeal.τ).loc Cert.RopIdeal.main_arg1) = m ((c.tc : Thread Cert.RopIdeal.nD Cert.RopIdeal.τ).loc Cert.RopIdeal.main_arg1)
          ∧ r.2.mem ((c.tc : Thread Cert.RopIdeal.nD Cert.RopIdeal.τ).loc Cert.RopIdeal.main_arg2) = m ((c.tc : Thread Cert.RopIdeal.nD Cert.RopIdeal.τ).loc Cert.RopIdeal.main_arg2))
      ∧ θ_run (Cert.RopRefIdeal.defs (F := Ideal)) (onTc (τ := Cert.RopRefIdeal.τ) (Cert.RopRefIdeal.main (F := Ideal))) ⟨m', fun _ => 0, g'⟩ (fun r => ∀ c : Dev Cert.RopRefIdeal.nD,
          r.2.mem ((c.tc : Thread Cert.RopRefIdeal.nD Cert.RopRefIdeal.τ).loc Cert.RopRefIdeal.main_v64) = v0 c
          ∧ r.2.mem ((c.tc : Thread Cert.RopRefIdeal.nD Cert.RopRefIdeal.τ).loc Cert.RopRefIdeal.main_arg0) = m' ((c.tc : Thread Cert.RopRefIdeal.nD Cert.RopRefIdeal.τ).loc Cert.RopRefIdeal.main_arg0)
          ∧ r.2.mem ((c.tc : Thread Cert.RopRefIdeal.nD Cert.RopRefIdeal.τ).loc Cert.RopRefIdeal.main_arg1) = m' ((c.tc : Thread Cert.RopRefIdeal.nD Cert.RopRefIdeal.τ).loc Cert.RopRefIdeal.main_arg1)
          ∧ r.2.mem ((c.tc : Thread Cert.RopRefIdeal.nD Cert.RopRefIdeal.τ).loc Cert.RopRefIdeal.main_arg2) = m' ((c.tc : Thread Cert.RopRefIdeal.nD Cert.RopRefIdeal.τ).loc Cert.RopRefIdeal.main_arg2))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v2)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v2) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v4) = v0 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1))

def preserves_Swk_SwkIdeal : Prop :=
  True

def algebraic_SwkIdeal_SwkRefIdeal [hSwkIdeal : Cert.SwkIdeal.Facts] [hSwkRefIdeal : Cert.SwkRefIdeal.Facts] : Prop :=
  ∀ (m : (ℓ : Loc Cert.SwkIdeal.nD Cert.SwkIdeal.τ Cert.SwkIdeal.sig) → Buf (Elt Ideal) ℓ) (g : Dev Cert.SwkIdeal.nD → PrngReg)
    (m' : (ℓ : Loc Cert.SwkRefIdeal.nD Cert.SwkRefIdeal.τ Cert.SwkRefIdeal.sig) → Buf (Elt Ideal) ℓ) (g' : Dev Cert.SwkRefIdeal.nD → PrngReg), Pre_SwkIdeal m →
    (∀ c : Dev Cert.SwkIdeal.nD,
      m' ((c.tc : Thread Cert.SwkRefIdeal.nD Cert.SwkRefIdeal.τ).loc Cert.SwkRefIdeal.main_arg0) = m ((c.tc : Thread Cert.SwkIdeal.nD Cert.SwkIdeal.τ).loc Cert.SwkIdeal.main_arg0)
      ∧ m' ((c.tc : Thread Cert.SwkRefIdeal.nD Cert.SwkRefIdeal.τ).loc Cert.SwkRefIdeal.main_arg1) = m ((c.tc : Thread Cert.SwkIdeal.nD Cert.SwkIdeal.τ).loc Cert.SwkIdeal.main_arg1)
      ∧ m' ((c.tc : Thread Cert.SwkRefIdeal.nD Cert.SwkRefIdeal.τ).loc Cert.SwkRefIdeal.main_arg2) = m ((c.tc : Thread Cert.SwkIdeal.nD Cert.SwkIdeal.τ).loc Cert.SwkIdeal.main_arg2)) →
    ∃ (v0 : (c : Dev Cert.SwkIdeal.nD) → Buf (Elt Ideal) ((c.tc : Thread Cert.SwkIdeal.nD Cert.SwkIdeal.τ).loc Cert.SwkIdeal.main_v42)),
      θ_run (Cert.SwkIdeal.defs (F := Ideal)) (onTc (τ := Cert.SwkIdeal.τ) (Cert.SwkIdeal.main (F := Ideal))) ⟨m, fun _ => 0, g⟩ (fun r => ∀ c : Dev Cert.SwkIdeal.nD,
          r.2.mem ((c.tc : Thread Cert.SwkIdeal.nD Cert.SwkIdeal.τ).loc Cert.SwkIdeal.main_v42) = v0 c
          ∧ r.2.mem ((c.tc : Thread Cert.SwkIdeal.nD Cert.SwkIdeal.τ).loc Cert.SwkIdeal.main_arg0) = m ((c.tc : Thread Cert.SwkIdeal.nD Cert.SwkIdeal.τ).loc Cert.SwkIdeal.main_arg0)
          ∧ r.2.mem ((c.tc : Thread Cert.SwkIdeal.nD Cert.SwkIdeal.τ).loc Cert.SwkIdeal.main_arg1) = m ((c.tc : Thread Cert.SwkIdeal.nD Cert.SwkIdeal.τ).loc Cert.SwkIdeal.main_arg1)
          ∧ r.2.mem ((c.tc : Thread Cert.SwkIdeal.nD Cert.SwkIdeal.τ).loc Cert.SwkIdeal.main_arg2) = m ((c.tc : Thread Cert.SwkIdeal.nD Cert.SwkIdeal.τ).loc Cert.SwkIdeal.main_arg2))
      ∧ θ_run (Cert.SwkRefIdeal.defs (F := Ideal)) (onTc (τ := Cert.SwkRefIdeal.τ) (Cert.SwkRefIdeal.main (F := Ideal))) ⟨m', fun _ => 0, g'⟩ (fun r => ∀ c : Dev Cert.SwkRefIdeal.nD,
          r.2.mem ((c.tc : Thread Cert.SwkRefIdeal.nD Cert.SwkRefIdeal.τ).loc Cert.SwkRefIdeal.main_v64) = v0 c
          ∧ r.2.mem ((c.tc : Thread Cert.SwkRefIdeal.nD Cert.SwkRefIdeal.τ).loc Cert.SwkRefIdeal.main_arg0) = m' ((c.tc : Thread Cert.SwkRefIdeal.nD Cert.SwkRefIdeal.τ).loc Cert.SwkRefIdeal.main_arg0)
          ∧ r.2.mem ((c.tc : Thread Cert.SwkRefIdeal.nD Cert.SwkRefIdeal.τ).loc Cert.SwkRefIdeal.main_arg1) = m' ((c.tc : Thread Cert.SwkRefIdeal.nD Cert.SwkRefIdeal.τ).loc Cert.SwkRefIdeal.main_arg1)
          ∧ r.2.mem ((c.tc : Thread Cert.SwkRefIdeal.nD Cert.SwkRefIdeal.τ).loc Cert.SwkRefIdeal.main_arg2) = m' ((c.tc : Thread Cert.SwkRefIdeal.nD Cert.SwkRefIdeal.τ).loc Cert.SwkRefIdeal.main_arg2))

def preserves_Swv_SwvIdeal : Prop :=
  True

def algebraic_SwvIdeal_SwvRefIdeal [hSwvIdeal : Cert.SwvIdeal.Facts] [hSwvRefIdeal : Cert.SwvRefIdeal.Facts] : Prop :=
  ∀ (m : (ℓ : Loc Cert.SwvIdeal.nD Cert.SwvIdeal.τ Cert.SwvIdeal.sig) → Buf (Elt Ideal) ℓ) (g : Dev Cert.SwvIdeal.nD → PrngReg)
    (m' : (ℓ : Loc Cert.SwvRefIdeal.nD Cert.SwvRefIdeal.τ Cert.SwvRefIdeal.sig) → Buf (Elt Ideal) ℓ) (g' : Dev Cert.SwvRefIdeal.nD → PrngReg), Pre_SwvIdeal m →
    (∀ c : Dev Cert.SwvIdeal.nD,
      m' ((c.tc : Thread Cert.SwvRefIdeal.nD Cert.SwvRefIdeal.τ).loc Cert.SwvRefIdeal.main_arg0) = m ((c.tc : Thread Cert.SwvIdeal.nD Cert.SwvIdeal.τ).loc Cert.SwvIdeal.main_arg0)
      ∧ m' ((c.tc : Thread Cert.SwvRefIdeal.nD Cert.SwvRefIdeal.τ).loc Cert.SwvRefIdeal.main_arg1) = m ((c.tc : Thread Cert.SwvIdeal.nD Cert.SwvIdeal.τ).loc Cert.SwvIdeal.main_arg1)) →
    ∃ (v0 : (c : Dev Cert.SwvIdeal.nD) → Buf (Elt Ideal) ((c.tc : Thread Cert.SwvIdeal.nD Cert.SwvIdeal.τ).loc Cert.SwvIdeal.main_v2)),
      θ_run (Cert.SwvIdeal.defs (F := Ideal)) (onTc (τ := Cert.SwvIdeal.τ) (Cert.SwvIdeal.main (F := Ideal))) ⟨m, fun _ => 0, g⟩ (fun r => ∀ c : Dev Cert.SwvIdeal.nD,
          r.2.mem ((c.tc : Thread Cert.SwvIdeal.nD Cert.SwvIdeal.τ).loc Cert.SwvIdeal.main_v2) = v0 c
          ∧ r.2.mem ((c.tc : Thread Cert.SwvIdeal.nD Cert.SwvIdeal.τ).loc Cert.SwvIdeal.main_arg0) = m ((c.tc : Thread Cert.SwvIdeal.nD Cert.SwvIdeal.τ).loc Cert.SwvIdeal.main_arg0)
          ∧ r.2.mem ((c.tc : Thread Cert.SwvIdeal.nD Cert.SwvIdeal.τ).loc Cert.SwvIdeal.main_arg1) = m ((c.tc : Thread Cert.SwvIdeal.nD Cert.SwvIdeal.τ).loc Cert.SwvIdeal.main_arg1))
      ∧ θ_run (Cert.SwvRefIdeal.defs (F := Ideal)) (onTc (τ := Cert.SwvRefIdeal.τ) (Cert.SwvRefIdeal.main (F := Ideal))) ⟨m', fun _ => 0, g'⟩ (fun r => ∀ c : Dev Cert.SwvRefIdeal.nD,
          r.2.mem ((c.tc : Thread Cert.SwvRefIdeal.nD Cert.SwvRefIdeal.τ).loc Cert.SwvRefIdeal.main_v4) = v0 c
          ∧ r.2.mem ((c.tc : Thread Cert.SwvRefIdeal.nD Cert.SwvRefIdeal.τ).loc Cert.SwvRefIdeal.main_arg0) = m' ((c.tc : Thread Cert.SwvRefIdeal.nD Cert.SwvRefIdeal.τ).loc Cert.SwvRefIdeal.main_arg0)
          ∧ r.2.mem ((c.tc : Thread Cert.SwvRefIdeal.nD Cert.SwvRefIdeal.τ).loc Cert.SwvRefIdeal.main_arg1) = m' ((c.tc : Thread Cert.SwvRefIdeal.nD Cert.SwvRefIdeal.τ).loc Cert.SwvRefIdeal.main_arg1))

def preserves_Mlv_MlvIdeal : Prop :=
  True

def algebraic_MlvIdeal_MlvRefIdeal [hMlvIdeal : Cert.MlvIdeal.Facts] [hMlvRefIdeal : Cert.MlvRefIdeal.Facts] : Prop :=
  ∀ (m : (ℓ : Loc Cert.MlvIdeal.nD Cert.MlvIdeal.τ Cert.MlvIdeal.sig) → Buf (Elt Ideal) ℓ) (g : Dev Cert.MlvIdeal.nD → PrngReg)
    (m' : (ℓ : Loc Cert.MlvRefIdeal.nD Cert.MlvRefIdeal.τ Cert.MlvRefIdeal.sig) → Buf (Elt Ideal) ℓ) (g' : Dev Cert.MlvRefIdeal.nD → PrngReg), Pre_MlvIdeal m →
    (∀ c : Dev Cert.MlvIdeal.nD,
      m' ((c.tc : Thread Cert.MlvRefIdeal.nD Cert.MlvRefIdeal.τ).loc Cert.MlvRefIdeal.main_arg0) = m ((c.tc : Thread Cert.MlvIdeal.nD Cert.MlvIdeal.τ).loc Cert.MlvIdeal.main_arg0)
      ∧ m' ((c.tc : Thread Cert.MlvRefIdeal.nD Cert.MlvRefIdeal.τ).loc Cert.MlvRefIdeal.main_arg1) = m ((c.tc : Thread Cert.MlvIdeal.nD Cert.MlvIdeal.τ).loc Cert.MlvIdeal.main_arg1)) →
    ∃ (v0 : (c : Dev Cert.MlvIdeal.nD) → Buf (Elt Ideal) ((c.tc : Thread Cert.MlvIdeal.nD Cert.MlvIdeal.τ).loc Cert.MlvIdeal.main_v2)),
      θ_run (Cert.MlvIdeal.defs (F := Ideal)) (onTc (τ := Cert.MlvIdeal.τ) (Cert.MlvIdeal.main (F := Ideal))) ⟨m, fun _ => 0, g⟩ (fun r => ∀ c : Dev Cert.MlvIdeal.nD,
          r.2.mem ((c.tc : Thread Cert.MlvIdeal.nD Cert.MlvIdeal.τ).loc Cert.MlvIdeal.main_v2) = v0 c
          ∧ r.2.mem ((c.tc : Thread Cert.MlvIdeal.nD Cert.MlvIdeal.τ).loc Cert.MlvIdeal.main_arg0) = m ((c.tc : Thread Cert.MlvIdeal.nD Cert.MlvIdeal.τ).loc Cert.MlvIdeal.main_arg0)
          ∧ r.2.mem ((c.tc : Thread Cert.MlvIdeal.nD Cert.MlvIdeal.τ).loc Cert.MlvIdeal.main_arg1) = m ((c.tc : Thread Cert.MlvIdeal.nD Cert.MlvIdeal.τ).loc Cert.MlvIdeal.main_arg1))
      ∧ θ_run (Cert.MlvRefIdeal.defs (F := Ideal)) (onTc (τ := Cert.MlvRefIdeal.τ) (Cert.MlvRefIdeal.main (F := Ideal))) ⟨m', fun _ => 0, g'⟩ (fun r => ∀ c : Dev Cert.MlvRefIdeal.nD,
          r.2.mem ((c.tc : Thread Cert.MlvRefIdeal.nD Cert.MlvRefIdeal.τ).loc Cert.MlvRefIdeal.main_v4) = v0 c
          ∧ r.2.mem ((c.tc : Thread Cert.MlvRefIdeal.nD Cert.MlvRefIdeal.τ).loc Cert.MlvRefIdeal.main_arg0) = m' ((c.tc : Thread Cert.MlvRefIdeal.nD Cert.MlvRefIdeal.τ).loc Cert.MlvRefIdeal.main_arg0)
          ∧ r.2.mem ((c.tc : Thread Cert.MlvRefIdeal.nD Cert.MlvRefIdeal.τ).loc Cert.MlvRefIdeal.main_arg1) = m' ((c.tc : Thread Cert.MlvRefIdeal.nD Cert.MlvRefIdeal.τ).loc Cert.MlvRefIdeal.main_arg1))

def preserves_Mcq_McqIdeal : Prop :=
  True

def algebraic_McqIdeal_McqRefIdeal [hMcqIdeal : Cert.McqIdeal.Facts] [hMcqRefIdeal : Cert.McqRefIdeal.Facts] : Prop :=
  ∀ (m : (ℓ : Loc Cert.McqIdeal.nD Cert.McqIdeal.τ Cert.McqIdeal.sig) → Buf (Elt Ideal) ℓ) (g : Dev Cert.McqIdeal.nD → PrngReg)
    (m' : (ℓ : Loc Cert.McqRefIdeal.nD Cert.McqRefIdeal.τ Cert.McqRefIdeal.sig) → Buf (Elt Ideal) ℓ) (g' : Dev Cert.McqRefIdeal.nD → PrngReg), Pre_McqIdeal m →
    (∀ c : Dev Cert.McqIdeal.nD,
      m' ((c.tc : Thread Cert.McqRefIdeal.nD Cert.McqRefIdeal.τ).loc Cert.McqRefIdeal.main_arg0) = m ((c.tc : Thread Cert.McqIdeal.nD Cert.McqIdeal.τ).loc Cert.McqIdeal.main_arg0)
      ∧ m' ((c.tc : Thread Cert.McqRefIdeal.nD Cert.McqRefIdeal.τ).loc Cert.McqRefIdeal.main_arg1) = m ((c.tc : Thread Cert.McqIdeal.nD Cert.McqIdeal.τ).loc Cert.McqIdeal.main_arg1)
      ∧ m' ((c.tc : Thread Cert.McqRefIdeal.nD Cert.McqRefIdeal.τ).loc Cert.McqRefIdeal.main_arg2) = m ((c.tc : Thread Cert.McqIdeal.nD Cert.McqIdeal.τ).loc Cert.McqIdeal.main_arg2)) →
    ∃ (v0 : (c : Dev Cert.McqIdeal.nD) → Buf (Elt Ideal) ((c.tc : Thread Cert.McqIdeal.nD Cert.McqIdeal.τ).loc Cert.McqIdeal.main_v2)),
      θ_run (Cert.McqIdeal.defs (F := Ideal)) (onTc (τ := Cert.McqIdeal.τ) (Cert.McqIdeal.main (F := Ideal))) ⟨m, fun _ => 0, g⟩ (fun r => ∀ c : Dev Cert.McqIdeal.nD,
          r.2.mem ((c.tc : Thread Cert.McqIdeal.nD Cert.McqIdeal.τ).loc Cert.McqIdeal.main_v2) = v0 c
          ∧ r.2.mem ((c.tc : Thread Cert.McqIdeal.nD Cert.McqIdeal.τ).loc Cert.McqIdeal.main_arg0) = m ((c.tc : Thread Cert.McqIdeal.nD Cert.McqIdeal.τ).loc Cert.McqIdeal.main_arg0)
          ∧ r.2.mem ((c.tc : Thread Cert.McqIdeal.nD Cert.McqIdeal.τ).loc Cert.McqIdeal.main_arg1) = m ((c.tc : Thread Cert.McqIdeal.nD Cert.McqIdeal.τ).loc Cert.McqIdeal.main_arg1)
          ∧ r.2.mem ((c.tc : Thread Cert.McqIdeal.nD Cert.McqIdeal.τ).loc Cert.McqIdeal.main_arg2) = m ((c.tc : Thread Cert.McqIdeal.nD Cert.McqIdeal.τ).loc Cert.McqIdeal.main_arg2))
      ∧ θ_run (Cert.McqRefIdeal.defs (F := Ideal)) (onTc (τ := Cert.McqRefIdeal.τ) (Cert.McqRefIdeal.main (F := Ideal))) ⟨m', fun _ => 0, g'⟩ (fun r => ∀ c : Dev Cert.McqRefIdeal.nD,
          r.2.mem ((c.tc : Thread Cert.McqRefIdeal.nD Cert.McqRefIdeal.τ).loc Cert.McqRefIdeal.main_v15) = v0 c
          ∧ r.2.mem ((c.tc : Thread Cert.McqRefIdeal.nD Cert.McqRefIdeal.τ).loc Cert.McqRefIdeal.main_arg0) = m' ((c.tc : Thread Cert.McqRefIdeal.nD Cert.McqRefIdeal.τ).loc Cert.McqRefIdeal.main_arg0)
          ∧ r.2.mem ((c.tc : Thread Cert.McqRefIdeal.nD Cert.McqRefIdeal.τ).loc Cert.McqRefIdeal.main_arg1) = m' ((c.tc : Thread Cert.McqRefIdeal.nD Cert.McqRefIdeal.τ).loc Cert.McqRefIdeal.main_arg1)
          ∧ r.2.mem ((c.tc : Thread Cert.McqRefIdeal.nD Cert.McqRefIdeal.τ).loc Cert.McqRefIdeal.main_arg2) = m' ((c.tc : Thread Cert.McqRefIdeal.nD Cert.McqRefIdeal.τ).loc Cert.McqRefIdeal.main_arg2))

def preserves_Mck_MckIdeal : Prop :=
  True

def algebraic_MckIdeal_MckRefIdeal [hMckIdeal : Cert.MckIdeal.Facts] [hMckRefIdeal : Cert.MckRefIdeal.Facts] : Prop :=
  ∀ (m : (ℓ : Loc Cert.MckIdeal.nD Cert.MckIdeal.τ Cert.MckIdeal.sig) → Buf (Elt Ideal) ℓ) (g : Dev Cert.MckIdeal.nD → PrngReg)
    (m' : (ℓ : Loc Cert.MckRefIdeal.nD Cert.MckRefIdeal.τ Cert.MckRefIdeal.sig) → Buf (Elt Ideal) ℓ) (g' : Dev Cert.MckRefIdeal.nD → PrngReg), Pre_MckIdeal m →
    (∀ c : Dev Cert.MckIdeal.nD,
      m' ((c.tc : Thread Cert.MckRefIdeal.nD Cert.MckRefIdeal.τ).loc Cert.MckRefIdeal.main_arg0) = m ((c.tc : Thread Cert.MckIdeal.nD Cert.MckIdeal.τ).loc Cert.MckIdeal.main_arg0)
      ∧ m' ((c.tc : Thread Cert.MckRefIdeal.nD Cert.MckRefIdeal.τ).loc Cert.MckRefIdeal.main_arg1) = m ((c.tc : Thread Cert.MckIdeal.nD Cert.MckIdeal.τ).loc Cert.MckIdeal.main_arg1)
      ∧ m' ((c.tc : Thread Cert.MckRefIdeal.nD Cert.MckRefIdeal.τ).loc Cert.MckRefIdeal.main_arg2) = m ((c.tc : Thread Cert.MckIdeal.nD Cert.MckIdeal.τ).loc Cert.MckIdeal.main_arg2)) →
    ∃ (v0 : (c : Dev Cert.MckIdeal.nD) → Buf (Elt Ideal) ((c.tc : Thread Cert.MckIdeal.nD Cert.MckIdeal.τ).loc Cert.MckIdeal.main_v2)),
      θ_run (Cert.MckIdeal.defs (F := Ideal)) (onTc (τ := Cert.MckIdeal.τ) (Cert.MckIdeal.main (F := Ideal))) ⟨m, fun _ => 0, g⟩ (fun r => ∀ c : Dev Cert.MckIdeal.nD,
          r.2.mem ((c.tc : Thread Cert.MckIdeal.nD Cert.MckIdeal.τ).loc Cert.MckIdeal.main_v2) = v0 c
          ∧ r.2.mem ((c.tc : Thread Cert.MckIdeal.nD Cert.MckIdeal.τ).loc Cert.MckIdeal.main_arg0) = m ((c.tc : Thread Cert.MckIdeal.nD Cert.MckIdeal.τ).loc Cert.MckIdeal.main_arg0)
          ∧ r.2.mem ((c.tc : Thread Cert.MckIdeal.nD Cert.MckIdeal.τ).loc Cert.MckIdeal.main_arg1) = m ((c.tc : Thread Cert.MckIdeal.nD Cert.MckIdeal.τ).loc Cert.MckIdeal.main_arg1)
          ∧ r.2.mem ((c.tc : Thread Cert.MckIdeal.nD Cert.MckIdeal.τ).loc Cert.MckIdeal.main_arg2) = m ((c.tc : Thread Cert.MckIdeal.nD Cert.MckIdeal.τ).loc Cert.MckIdeal.main_arg2))
      ∧ θ_run (Cert.MckRefIdeal.defs (F := Ideal)) (onTc (τ := Cert.MckRefIdeal.τ) (Cert.MckRefIdeal.main (F := Ideal))) ⟨m', fun _ => 0, g'⟩ (fun r => ∀ c : Dev Cert.MckRefIdeal.nD,
          r.2.mem ((c.tc : Thread Cert.MckRefIdeal.nD Cert.MckRefIdeal.τ).loc Cert.MckRefIdeal.main_v15) = v0 c
          ∧ r.2.mem ((c.tc : Thread Cert.MckRefIdeal.nD Cert.MckRefIdeal.τ).loc Cert.MckRefIdeal.main_arg0) = m' ((c.tc : Thread Cert.MckRefIdeal.nD Cert.MckRefIdeal.τ).loc Cert.MckRefIdeal.main_arg0)
          ∧ r.2.mem ((c.tc : Thread Cert.MckRefIdeal.nD Cert.MckRefIdeal.τ).loc Cert.MckRefIdeal.main_arg1) = m' ((c.tc : Thread Cert.MckRefIdeal.nD Cert.MckRefIdeal.τ).loc Cert.MckRefIdeal.main_arg1)
          ∧ r.2.mem ((c.tc : Thread Cert.MckRefIdeal.nD Cert.MckRefIdeal.τ).loc Cert.MckRefIdeal.main_arg2) = m' ((c.tc : Thread Cert.MckRefIdeal.nD Cert.MckRefIdeal.τ).loc Cert.MckRefIdeal.main_arg2))

def preserves_Mkn_MknIdeal : Prop :=
  True

def algebraic_MknIdeal_MknRefIdeal [hMknIdeal : Cert.MknIdeal.Facts] [hMknRefIdeal : Cert.MknRefIdeal.Facts] : Prop :=
  ∀ (m : (ℓ : Loc Cert.MknIdeal.nD Cert.MknIdeal.τ Cert.MknIdeal.sig) → Buf (Elt Ideal) ℓ) (g : Dev Cert.MknIdeal.nD → PrngReg)
    (m' : (ℓ : Loc Cert.MknRefIdeal.nD Cert.MknRefIdeal.τ Cert.MknRefIdeal.sig) → Buf (Elt Ideal) ℓ) (g' : Dev Cert.MknRefIdeal.nD → PrngReg), Pre_MknIdeal m →
    (∀ c : Dev Cert.MknIdeal.nD,
      m' ((c.tc : Thread Cert.MknRefIdeal.nD Cert.MknRefIdeal.τ).loc Cert.MknRefIdeal.main_arg0) = m ((c.tc : Thread Cert.MknIdeal.nD Cert.MknIdeal.τ).loc Cert.MknIdeal.main_arg0)
      ∧ m' ((c.tc : Thread Cert.MknRefIdeal.nD Cert.MknRefIdeal.τ).loc Cert.MknRefIdeal.main_arg1) = m ((c.tc : Thread Cert.MknIdeal.nD Cert.MknIdeal.τ).loc Cert.MknIdeal.main_arg1)
      ∧ m' ((c.tc : Thread Cert.MknRefIdeal.nD Cert.MknRefIdeal.τ).loc Cert.MknRefIdeal.main_arg2) = m ((c.tc : Thread Cert.MknIdeal.nD Cert.MknIdeal.τ).loc Cert.MknIdeal.main_arg2)) →
    ∃ (v0 : (c : Dev Cert.MknIdeal.nD) → Buf (Elt Ideal) ((c.tc : Thread Cert.MknIdeal.nD Cert.MknIdeal.τ).loc Cert.MknIdeal.main_v2)),
      θ_run (Cert.MknIdeal.defs (F := Ideal)) (onTc (τ := Cert.MknIdeal.τ) (Cert.MknIdeal.main (F := Ideal))) ⟨m, fun _ => 0, g⟩ (fun r => ∀ c : Dev Cert.MknIdeal.nD,
          r.2.mem ((c.tc : Thread Cert.MknIdeal.nD Cert.MknIdeal.τ).loc Cert.MknIdeal.main_v2) = v0 c
          ∧ r.2.mem ((c.tc : Thread Cert.MknIdeal.nD Cert.MknIdeal.τ).loc Cert.MknIdeal.main_arg0) = m ((c.tc : Thread Cert.MknIdeal.nD Cert.MknIdeal.τ).loc Cert.MknIdeal.main_arg0)
          ∧ r.2.mem ((c.tc : Thread Cert.MknIdeal.nD Cert.MknIdeal.τ).loc Cert.MknIdeal.main_arg1) = m ((c.tc : Thread Cert.MknIdeal.nD Cert.MknIdeal.τ).loc Cert.MknIdeal.main_arg1)
          ∧ r.2.mem ((c.tc : Thread Cert.MknIdeal.nD Cert.MknIdeal.τ).loc Cert.MknIdeal.main_arg2) = m ((c.tc : Thread Cert.MknIdeal.nD Cert.MknIdeal.τ).loc Cert.MknIdeal.main_arg2))
      ∧ θ_run (Cert.MknRefIdeal.defs (F := Ideal)) (onTc (τ := Cert.MknRefIdeal.τ) (Cert.MknRefIdeal.main (F := Ideal))) ⟨m', fun _ => 0, g'⟩ (fun r => ∀ c : Dev Cert.MknRefIdeal.nD,
          r.2.mem ((c.tc : Thread Cert.MknRefIdeal.nD Cert.MknRefIdeal.τ).loc Cert.MknRefIdeal.main_v17) = v0 c
          ∧ r.2.mem ((c.tc : Thread Cert.MknRefIdeal.nD Cert.MknRefIdeal.τ).loc Cert.MknRefIdeal.main_arg0) = m' ((c.tc : Thread Cert.MknRefIdeal.nD Cert.MknRefIdeal.τ).loc Cert.MknRefIdeal.main_arg0)
          ∧ r.2.mem ((c.tc : Thread Cert.MknRefIdeal.nD Cert.MknRefIdeal.τ).loc Cert.MknRefIdeal.main_arg1) = m' ((c.tc : Thread Cert.MknRefIdeal.nD Cert.MknRefIdeal.τ).loc Cert.MknRefIdeal.main_arg1)
          ∧ r.2.mem ((c.tc : Thread Cert.MknRefIdeal.nD Cert.MknRefIdeal.τ).loc Cert.MknRefIdeal.main_arg2) = m' ((c.tc : Thread Cert.MknRefIdeal.nD Cert.MknRefIdeal.τ).loc Cert.MknRefIdeal.main_arg2))

def preserves_Mlq_MlqIdeal : Prop :=
  True

def algebraic_MlqIdeal_MlqRefIdeal [hMlqIdeal : Cert.MlqIdeal.Facts] [hMlqRefIdeal : Cert.MlqRefIdeal.Facts] : Prop :=
  ∀ (m : (ℓ : Loc Cert.MlqIdeal.nD Cert.MlqIdeal.τ Cert.MlqIdeal.sig) → Buf (Elt Ideal) ℓ) (g : Dev Cert.MlqIdeal.nD → PrngReg)
    (m' : (ℓ : Loc Cert.MlqRefIdeal.nD Cert.MlqRefIdeal.τ Cert.MlqRefIdeal.sig) → Buf (Elt Ideal) ℓ) (g' : Dev Cert.MlqRefIdeal.nD → PrngReg), Pre_MlqIdeal m →
    (∀ c : Dev Cert.MlqIdeal.nD,
      m' ((c.tc : Thread Cert.MlqRefIdeal.nD Cert.MlqRefIdeal.τ).loc Cert.MlqRefIdeal.main_arg0) = m ((c.tc : Thread Cert.MlqIdeal.nD Cert.MlqIdeal.τ).loc Cert.MlqIdeal.main_arg0)
      ∧ m' ((c.tc : Thread Cert.MlqRefIdeal.nD Cert.MlqRefIdeal.τ).loc Cert.MlqRefIdeal.main_arg1) = m ((c.tc : Thread Cert.MlqIdeal.nD Cert.MlqIdeal.τ).loc Cert.MlqIdeal.main_arg1)
      ∧ m' ((c.tc : Thread Cert.MlqRefIdeal.nD Cert.MlqRefIdeal.τ).loc Cert.MlqRefIdeal.main_arg2) = m ((c.tc : Thread Cert.MlqIdeal.nD Cert.MlqIdeal.τ).loc Cert.MlqIdeal.main_arg2)
      ∧ m' ((c.tc : Thread Cert.MlqRefIdeal.nD Cert.MlqRefIdeal.τ).loc Cert.MlqRefIdeal.main_arg3) = m ((c.tc : Thread Cert.MlqIdeal.nD Cert.MlqIdeal.τ).loc Cert.MlqIdeal.main_arg3)) →
    ∃ (v0 : (c : Dev Cert.MlqIdeal.nD) → Buf (Elt Ideal) ((c.tc : Thread Cert.MlqIdeal.nD Cert.MlqIdeal.τ).loc Cert.MlqIdeal.main_v49)),
      θ_run (Cert.MlqIdeal.defs (F := Ideal)) (onTc (τ := Cert.MlqIdeal.τ) (Cert.MlqIdeal.main (F := Ideal))) ⟨m, fun _ => 0, g⟩ (fun r => ∀ c : Dev Cert.MlqIdeal.nD,
          r.2.mem ((c.tc : Thread Cert.MlqIdeal.nD Cert.MlqIdeal.τ).loc Cert.MlqIdeal.main_v49) = v0 c
          ∧ r.2.mem ((c.tc : Thread Cert.MlqIdeal.nD Cert.MlqIdeal.τ).loc Cert.MlqIdeal.main_arg0) = m ((c.tc : Thread Cert.MlqIdeal.nD Cert.MlqIdeal.τ).loc Cert.MlqIdeal.main_arg0)
          ∧ r.2.mem ((c.tc : Thread Cert.MlqIdeal.nD Cert.MlqIdeal.τ).loc Cert.MlqIdeal.main_arg1) = m ((c.tc : Thread Cert.MlqIdeal.nD Cert.MlqIdeal.τ).loc Cert.MlqIdeal.main_arg1)
          ∧ r.2.mem ((c.tc : Thread Cert.MlqIdeal.nD Cert.MlqIdeal.τ).loc Cert.MlqIdeal.main_arg2) = m ((c.tc : Thread Cert.MlqIdeal.nD Cert.MlqIdeal.τ).loc Cert.MlqIdeal.main_arg2)
          ∧ r.2.mem ((c.tc : Thread Cert.MlqIdeal.nD Cert.MlqIdeal.τ).loc Cert.MlqIdeal.main_arg3) = m ((c.tc : Thread Cert.MlqIdeal.nD Cert.MlqIdeal.τ).loc Cert.MlqIdeal.main_arg3))
      ∧ θ_run (Cert.MlqRefIdeal.defs (F := Ideal)) (onTc (τ := Cert.MlqRefIdeal.τ) (Cert.MlqRefIdeal.main (F := Ideal))) ⟨m', fun _ => 0, g'⟩ (fun r => ∀ c : Dev Cert.MlqRefIdeal.nD,
          r.2.mem ((c.tc : Thread Cert.MlqRefIdeal.nD Cert.MlqRefIdeal.τ).loc Cert.MlqRefIdeal.main_v81) = v0 c
          ∧ r.2.mem ((c.tc : Thread Cert.MlqRefIdeal.nD Cert.MlqRefIdeal.τ).loc Cert.MlqRefIdeal.main_arg0) = m' ((c.tc : Thread Cert.MlqRefIdeal.nD Cert.MlqRefIdeal.τ).loc Cert.MlqRefIdeal.main_arg0)
          ∧ r.2.mem ((c.tc : Thread Cert.MlqRefIdeal.nD Cert.MlqRefIdeal.τ).loc Cert.MlqRefIdeal.main_arg1) = m' ((c.tc : Thread Cert.MlqRefIdeal.nD Cert.MlqRefIdeal.τ).loc Cert.MlqRefIdeal.main_arg1)
          ∧ r.2.mem ((c.tc : Thread Cert.MlqRefIdeal.nD Cert.MlqRefIdeal.τ).loc Cert.MlqRefIdeal.main_arg2) = m' ((c.tc : Thread Cert.MlqRefIdeal.nD Cert.MlqRefIdeal.τ).loc Cert.MlqRefIdeal.main_arg2)
          ∧ r.2.mem ((c.tc : Thread Cert.MlqRefIdeal.nD Cert.MlqRefIdeal.τ).loc Cert.MlqRefIdeal.main_arg3) = m' ((c.tc : Thread Cert.MlqRefIdeal.nD Cert.MlqRefIdeal.τ).loc Cert.MlqRefIdeal.main_arg3))

def preserves_Mkr_MkrIdeal : Prop :=
  True

def algebraic_MkrIdeal_MkrRefIdeal [hMkrIdeal : Cert.MkrIdeal.Facts] [hMkrRefIdeal : Cert.MkrRefIdeal.Facts] : Prop :=
  ∀ (m : (ℓ : Loc Cert.MkrIdeal.nD Cert.MkrIdeal.τ Cert.MkrIdeal.sig) → Buf (Elt Ideal) ℓ) (g : Dev Cert.MkrIdeal.nD → PrngReg)
    (m' : (ℓ : Loc Cert.MkrRefIdeal.nD Cert.MkrRefIdeal.τ Cert.MkrRefIdeal.sig) → Buf (Elt Ideal) ℓ) (g' : Dev Cert.MkrRefIdeal.nD → PrngReg), Pre_MkrIdeal m →
    (∀ c : Dev Cert.MkrIdeal.nD,
      m' ((c.tc : Thread Cert.MkrRefIdeal.nD Cert.MkrRefIdeal.τ).loc Cert.MkrRefIdeal.main_arg0) = m ((c.tc : Thread Cert.MkrIdeal.nD Cert.MkrIdeal.τ).loc Cert.MkrIdeal.main_arg0)
      ∧ m' ((c.tc : Thread Cert.MkrRefIdeal.nD Cert.MkrRefIdeal.τ).loc Cert.MkrRefIdeal.main_arg1) = m ((c.tc : Thread Cert.MkrIdeal.nD Cert.MkrIdeal.τ).loc Cert.MkrIdeal.main_arg1)
      ∧ m' ((c.tc : Thread Cert.MkrRefIdeal.nD Cert.MkrRefIdeal.τ).loc Cert.MkrRefIdeal.main_arg2) = m ((c.tc : Thread Cert.MkrIdeal.nD Cert.MkrIdeal.τ).loc Cert.MkrIdeal.main_arg2)) →
    ∃ (v0 : (c : Dev Cert.MkrIdeal.nD) → Buf (Elt Ideal) ((c.tc : Thread Cert.MkrIdeal.nD Cert.MkrIdeal.τ).loc Cert.MkrIdeal.main_v46)),
      θ_run (Cert.MkrIdeal.defs (F := Ideal)) (onTc (τ := Cert.MkrIdeal.τ) (Cert.MkrIdeal.main (F := Ideal))) ⟨m, fun _ => 0, g⟩ (fun r => ∀ c : Dev Cert.MkrIdeal.nD,
          r.2.mem ((c.tc : Thread Cert.MkrIdeal.nD Cert.MkrIdeal.τ).loc Cert.MkrIdeal.main_v46) = v0 c
          ∧ r.2.mem ((c.tc : Thread Cert.MkrIdeal.nD Cert.MkrIdeal.τ).loc Cert.MkrIdeal.main_arg0) = m ((c.tc : Thread Cert.MkrIdeal.nD Cert.MkrIdeal.τ).loc Cert.MkrIdeal.main_arg0)
          ∧ r.2.mem ((c.tc : Thread Cert.MkrIdeal.nD Cert.MkrIdeal.τ).loc Cert.MkrIdeal.main_arg1) = m ((c.tc : Thread Cert.MkrIdeal.nD Cert.MkrIdeal.τ).loc Cert.MkrIdeal.main_arg1)
          ∧ r.2.mem ((c.tc : Thread Cert.MkrIdeal.nD Cert.MkrIdeal.τ).loc Cert.MkrIdeal.main_arg2) = m ((c.tc : Thread Cert.MkrIdeal.nD Cert.MkrIdeal.τ).loc Cert.MkrIdeal.main_arg2))
      ∧ θ_run (Cert.MkrRefIdeal.defs (F := Ideal)) (onTc (τ := Cert.MkrRefIdeal.τ) (Cert.MkrRefIdeal.main (F := Ideal))) ⟨m', fun _ => 0, g'⟩ (fun r => ∀ c : Dev Cert.MkrRefIdeal.nD,
          r.2.mem ((c.tc : Thread Cert.MkrRefIdeal.nD Cert.MkrRefIdeal.τ).loc Cert.MkrRefIdeal.main_v64) = v0 c
          ∧ r.2.mem ((c.tc : Thread Cert.MkrRefIdeal.nD Cert.MkrRefIdeal.τ).loc Cert.MkrRefIdeal.main_arg0) = m' ((c.tc : Thread Cert.MkrRefIdeal.nD Cert.MkrRefIdeal.τ).loc Cert.MkrRefIdeal.main_arg0)
          ∧ r.2.mem ((c.tc : Thread Cert.MkrRefIdeal.nD Cert.MkrRefIdeal.τ).loc Cert.MkrRefIdeal.main_arg1) = m' ((c.tc : Thread Cert.MkrRefIdeal.nD Cert.MkrRefIdeal.τ).loc Cert.MkrRefIdeal.main_arg1)
          ∧ r.2.mem ((c.tc : Thread Cert.MkrRefIdeal.nD Cert.MkrRefIdeal.τ).loc Cert.MkrRefIdeal.main_arg2) = m' ((c.tc : Thread Cert.MkrRefIdeal.nD Cert.MkrRefIdeal.τ).loc Cert.MkrRefIdeal.main_arg2))

def preserves_Cou_CouIdeal : Prop :=
  True

def algebraic_CouIdeal_CouRefIdeal [hCouIdeal : Cert.CouIdeal.Facts] [hCouRefIdeal : Cert.CouRefIdeal.Facts] : Prop :=
  ∀ (m : (ℓ : Loc Cert.CouIdeal.nD Cert.CouIdeal.τ Cert.CouIdeal.sig) → Buf (Elt Ideal) ℓ) (g : Dev Cert.CouIdeal.nD → PrngReg)
    (m' : (ℓ : Loc Cert.CouRefIdeal.nD Cert.CouRefIdeal.τ Cert.CouRefIdeal.sig) → Buf (Elt Ideal) ℓ) (g' : Dev Cert.CouRefIdeal.nD → PrngReg), Pre_CouIdeal m →
    (∀ c : Dev Cert.CouIdeal.nD,
      m' ((c.tc : Thread Cert.CouRefIdeal.nD Cert.CouRefIdeal.τ).loc Cert.CouRefIdeal.main_arg0) = m ((c.tc : Thread Cert.CouIdeal.nD Cert.CouIdeal.τ).loc Cert.CouIdeal.main_arg0)
      ∧ m' ((c.tc : Thread Cert.CouRefIdeal.nD Cert.CouRefIdeal.τ).loc Cert.CouRefIdeal.main_arg1) = m ((c.tc : Thread Cert.CouIdeal.nD Cert.CouIdeal.τ).loc Cert.CouIdeal.main_arg1)
      ∧ m' ((c.tc : Thread Cert.CouRefIdeal.nD Cert.CouRefIdeal.τ).loc Cert.CouRefIdeal.main_arg2) = m ((c.tc : Thread Cert.CouIdeal.nD Cert.CouIdeal.τ).loc Cert.CouIdeal.main_arg2)
      ∧ m' ((c.tc : Thread Cert.CouRefIdeal.nD Cert.CouRefIdeal.τ).loc Cert.CouRefIdeal.main_arg3) = m ((c.tc : Thread Cert.CouIdeal.nD Cert.CouIdeal.τ).loc Cert.CouIdeal.main_arg3)) →
    ∃ (v0 : (c : Dev Cert.CouIdeal.nD) → Buf (Elt Ideal) ((c.tc : Thread Cert.CouIdeal.nD Cert.CouIdeal.τ).loc Cert.CouIdeal.main_v2)),
      θ_run (Cert.CouIdeal.defs (F := Ideal)) (onTc (τ := Cert.CouIdeal.τ) (Cert.CouIdeal.main (F := Ideal))) ⟨m, fun _ => 0, g⟩ (fun r => ∀ c : Dev Cert.CouIdeal.nD,
          r.2.mem ((c.tc : Thread Cert.CouIdeal.nD Cert.CouIdeal.τ).loc Cert.CouIdeal.main_v2) = v0 c
          ∧ r.2.mem ((c.tc : Thread Cert.CouIdeal.nD Cert.CouIdeal.τ).loc Cert.CouIdeal.main_arg0) = m ((c.tc : Thread Cert.CouIdeal.nD Cert.CouIdeal.τ).loc Cert.CouIdeal.main_arg0)
          ∧ r.2.mem ((c.tc : Thread Cert.CouIdeal.nD Cert.CouIdeal.τ).loc Cert.CouIdeal.main_arg1) = m ((c.tc : Thread Cert.CouIdeal.nD Cert.CouIdeal.τ).loc Cert.CouIdeal.main_arg1)
          ∧ r.2.mem ((c.tc : Thread Cert.CouIdeal.nD Cert.CouIdeal.τ).loc Cert.CouIdeal.main_arg2) = m ((c.tc : Thread Cert.CouIdeal.nD Cert.CouIdeal.τ).loc Cert.CouIdeal.main_arg2)
          ∧ r.2.mem ((c.tc : Thread Cert.CouIdeal.nD Cert.CouIdeal.τ).loc Cert.CouIdeal.main_arg3) = m ((c.tc : Thread Cert.CouIdeal.nD Cert.CouIdeal.τ).loc Cert.CouIdeal.main_arg3))
      ∧ θ_run (Cert.CouRefIdeal.defs (F := Ideal)) (onTc (τ := Cert.CouRefIdeal.τ) (Cert.CouRefIdeal.main (F := Ideal))) ⟨m', fun _ => 0, g'⟩ (fun r => ∀ c : Dev Cert.CouRefIdeal.nD,
          r.2.mem ((c.tc : Thread Cert.CouRefIdeal.nD Cert.CouRefIdeal.τ).loc Cert.CouRefIdeal.main_v5) = v0 c
          ∧ r.2.mem ((c.tc : Thread Cert.CouRefIdeal.nD Cert.CouRefIdeal.τ).loc Cert.CouRefIdeal.main_arg0) = m' ((c.tc : Thread Cert.CouRefIdeal.nD Cert.CouRefIdeal.τ).loc Cert.CouRefIdeal.main_arg0)
          ∧ r.2.mem ((c.tc : Thread Cert.CouRefIdeal.nD Cert.CouRefIdeal.τ).loc Cert.CouRefIdeal.main_arg1) = m' ((c.tc : Thread Cert.CouRefIdeal.nD Cert.CouRefIdeal.τ).loc Cert.CouRefIdeal.main_arg1)
          ∧ r.2.mem ((c.tc : Thread Cert.CouRefIdeal.nD Cert.CouRefIdeal.τ).loc Cert.CouRefIdeal.main_arg2) = m' ((c.tc : Thread Cert.CouRefIdeal.nD Cert.CouRefIdeal.τ).loc Cert.CouRefIdeal.main_arg2)
          ∧ r.2.mem ((c.tc : Thread Cert.CouRefIdeal.nD Cert.CouRefIdeal.τ).loc Cert.CouRefIdeal.main_arg3) = m' ((c.tc : Thread Cert.CouRefIdeal.nD Cert.CouRefIdeal.τ).loc Cert.CouRefIdeal.main_arg3))

def preserves_Cga_CgaIdeal : Prop :=
  True

def algebraic_CgaIdeal_CgaRefIdeal [hCgaIdeal : Cert.CgaIdeal.Facts] [hCgaRefIdeal : Cert.CgaRefIdeal.Facts] : Prop :=
  ∀ (m : (ℓ : Loc Cert.CgaIdeal.nD Cert.CgaIdeal.τ Cert.CgaIdeal.sig) → Buf (Elt Ideal) ℓ) (g : Dev Cert.CgaIdeal.nD → PrngReg)
    (m' : (ℓ : Loc Cert.CgaRefIdeal.nD Cert.CgaRefIdeal.τ Cert.CgaRefIdeal.sig) → Buf (Elt Ideal) ℓ) (g' : Dev Cert.CgaRefIdeal.nD → PrngReg), Pre_CgaIdeal m →
    (∀ c : Dev Cert.CgaIdeal.nD,
      m' ((c.tc : Thread Cert.CgaRefIdeal.nD Cert.CgaRefIdeal.τ).loc Cert.CgaRefIdeal.main_arg0) = m ((c.tc : Thread Cert.CgaIdeal.nD Cert.CgaIdeal.τ).loc Cert.CgaIdeal.main_arg0)
      ∧ m' ((c.tc : Thread Cert.CgaRefIdeal.nD Cert.CgaRefIdeal.τ).loc Cert.CgaRefIdeal.main_arg1) = m ((c.tc : Thread Cert.CgaIdeal.nD Cert.CgaIdeal.τ).loc Cert.CgaIdeal.main_arg1)) →
    ∃ (v0 : (c : Dev Cert.CgaIdeal.nD) → Buf (Elt Ideal) ((c.tc : Thread Cert.CgaIdeal.nD Cert.CgaIdeal.τ).loc Cert.CgaIdeal.main_v1)),
      θ_run (Cert.CgaIdeal.defs (F := Ideal)) (onTc (τ := Cert.CgaIdeal.τ) (Cert.CgaIdeal.main (F := Ideal))) ⟨m, fun _ => 0, g⟩ (fun r => ∀ c : Dev Cert.CgaIdeal.nD,
          r.2.mem ((c.tc : Thread Cert.CgaIdeal.nD Cert.CgaIdeal.τ).loc Cert.CgaIdeal.main_v1) = v0 c
          ∧ r.2.mem ((c.tc : Thread Cert.CgaIdeal.nD Cert.CgaIdeal.τ).loc Cert.CgaIdeal.main_arg0) = m ((c.tc : Thread Cert.CgaIdeal.nD Cert.CgaIdeal.τ).loc Cert.CgaIdeal.main_arg0)
          ∧ r.2.mem ((c.tc : Thread Cert.CgaIdeal.nD Cert.CgaIdeal.τ).loc Cert.CgaIdeal.main_arg1) = m ((c.tc : Thread Cert.CgaIdeal.nD Cert.CgaIdeal.τ).loc Cert.CgaIdeal.main_arg1))
      ∧ θ_run (Cert.CgaRefIdeal.defs (F := Ideal)) (onTc (τ := Cert.CgaRefIdeal.τ) (Cert.CgaRefIdeal.main (F := Ideal))) ⟨m', fun _ => 0, g'⟩ (fun r => ∀ c : Dev Cert.CgaRefIdeal.nD,
          r.2.mem ((c.tc : Thread Cert.CgaRefIdeal.nD Cert.CgaRefIdeal.τ).loc Cert.CgaRefIdeal.main_v3) = v0 c
          ∧ r.2.mem ((c.tc : Thread Cert.CgaRefIdeal.nD Cert.CgaRefIdeal.τ).loc Cert.CgaRefIdeal.main_arg0) = m' ((c.tc : Thread Cert.CgaRefIdeal.nD Cert.CgaRefIdeal.τ).loc Cert.CgaRefIdeal.main_arg0)
          ∧ r.2.mem ((c.tc : Thread Cert.CgaRefIdeal.nD Cert.CgaRefIdeal.τ).loc Cert.CgaRefIdeal.main_arg1) = m' ((c.tc : Thread Cert.CgaRefIdeal.nD Cert.CgaRefIdeal.τ).loc Cert.CgaRefIdeal.main_arg1))

def preserves_Cli_CliIdeal : Prop :=
  True

def algebraic_CliIdeal_CliRefIdeal [hCliIdeal : Cert.CliIdeal.Facts] [hCliRefIdeal : Cert.CliRefIdeal.Facts] : Prop :=
  ∀ (m : (ℓ : Loc Cert.CliIdeal.nD Cert.CliIdeal.τ Cert.CliIdeal.sig) → Buf (Elt Ideal) ℓ) (g : Dev Cert.CliIdeal.nD → PrngReg)
    (m' : (ℓ : Loc Cert.CliRefIdeal.nD Cert.CliRefIdeal.τ Cert.CliRefIdeal.sig) → Buf (Elt Ideal) ℓ) (g' : Dev Cert.CliRefIdeal.nD → PrngReg), Pre_CliIdeal m →
    (∀ c : Dev Cert.CliIdeal.nD,
      m' ((c.tc : Thread Cert.CliRefIdeal.nD Cert.CliRefIdeal.τ).loc Cert.CliRefIdeal.main_arg0) = m ((c.tc : Thread Cert.CliIdeal.nD Cert.CliIdeal.τ).loc Cert.CliIdeal.main_arg0)
      ∧ m' ((c.tc : Thread Cert.CliRefIdeal.nD Cert.CliRefIdeal.τ).loc Cert.CliRefIdeal.main_arg1) = m ((c.tc : Thread Cert.CliIdeal.nD Cert.CliIdeal.τ).loc Cert.CliIdeal.main_arg1)) →
    ∃ (v0 : (c : Dev Cert.CliIdeal.nD) → Buf (Elt Ideal) ((c.tc : Thread Cert.CliIdeal.nD Cert.CliIdeal.τ).loc Cert.CliIdeal.main_v1)),
      θ_run (Cert.CliIdeal.defs (F := Ideal)) (onTc (τ := Cert.CliIdeal.τ) (Cert.CliIdeal.main (F := Ideal))) ⟨m, fun _ => 0, g⟩ (fun r => ∀ c : Dev Cert.CliIdeal.nD,
          r.2.mem ((c.tc : Thread Cert.CliIdeal.nD Cert.CliIdeal.τ).loc Cert.CliIdeal.main_v1) = v0 c
          ∧ r.2.mem ((c.tc : Thread Cert.CliIdeal.nD Cert.CliIdeal.τ).loc Cert.CliIdeal.main_arg0) = m ((c.tc : Thread Cert.CliIdeal.nD Cert.CliIdeal.τ).loc Cert.CliIdeal.main_arg0)
          ∧ r.2.mem ((c.tc : Thread Cert.CliIdeal.nD Cert.CliIdeal.τ).loc Cert.CliIdeal.main_arg1) = m ((c.tc : Thread Cert.CliIdeal.nD Cert.CliIdeal.τ).loc Cert.CliIdeal.main_arg1))
      ∧ θ_run (Cert.CliRefIdeal.defs (F := Ideal)) (onTc (τ := Cert.CliRefIdeal.τ) (Cert.CliRefIdeal.main (F := Ideal))) ⟨m', fun _ => 0, g'⟩ (fun r => ∀ c : Dev Cert.CliRefIdeal.nD,
          r.2.mem ((c.tc : Thread Cert.CliRefIdeal.nD Cert.CliRefIdeal.τ).loc Cert.CliRefIdeal.main_v1) = v0 c
          ∧ r.2.mem ((c.tc : Thread Cert.CliRefIdeal.nD Cert.CliRefIdeal.τ).loc Cert.CliRefIdeal.main_arg0) = m' ((c.tc : Thread Cert.CliRefIdeal.nD Cert.CliRefIdeal.τ).loc Cert.CliRefIdeal.main_arg0)
          ∧ r.2.mem ((c.tc : Thread Cert.CliRefIdeal.nD Cert.CliRefIdeal.τ).loc Cert.CliRefIdeal.main_arg1) = m' ((c.tc : Thread Cert.CliRefIdeal.nD Cert.CliRefIdeal.τ).loc Cert.CliRefIdeal.main_arg1))

def preserves_Chn_ChnIdeal : Prop :=
  True

def algebraic_ChnIdeal_ChnRefIdeal [hChnIdeal : Cert.ChnIdeal.Facts] [hChnRefIdeal : Cert.ChnRefIdeal.Facts] : Prop :=
  ∀ (m : (ℓ : Loc Cert.ChnIdeal.nD Cert.ChnIdeal.τ Cert.ChnIdeal.sig) → Buf (Elt Ideal) ℓ) (g : Dev Cert.ChnIdeal.nD → PrngReg)
    (m' : (ℓ : Loc Cert.ChnRefIdeal.nD Cert.ChnRefIdeal.τ Cert.ChnRefIdeal.sig) → Buf (Elt Ideal) ℓ) (g' : Dev Cert.ChnRefIdeal.nD → PrngReg), Pre_ChnIdeal m →
    (∀ c : Dev Cert.ChnIdeal.nD,
      m' ((c.tc : Thread Cert.ChnRefIdeal.nD Cert.ChnRefIdeal.τ).loc Cert.ChnRefIdeal.main_arg0) = m ((c.tc : Thread Cert.ChnIdeal.nD Cert.ChnIdeal.τ).loc Cert.ChnIdeal.main_arg0)
      ∧ m' ((c.tc : Thread Cert.ChnRefIdeal.nD Cert.ChnRefIdeal.τ).loc Cert.ChnRefIdeal.main_arg1) = m ((c.tc : Thread Cert.ChnIdeal.nD Cert.ChnIdeal.τ).loc Cert.ChnIdeal.main_arg1)
      ∧ m' ((c.tc : Thread Cert.ChnRefIdeal.nD Cert.ChnRefIdeal.τ).loc Cert.ChnRefIdeal.main_arg2) = m ((c.tc : Thread Cert.ChnIdeal.nD Cert.ChnIdeal.τ).loc Cert.ChnIdeal.main_arg2)) →
    ∃ (v0 : (c : Dev Cert.ChnIdeal.nD) → Buf (Elt Ideal) ((c.tc : Thread Cert.ChnIdeal.nD Cert.ChnIdeal.τ).loc Cert.ChnIdeal.main_v2)),
      θ_run (Cert.ChnIdeal.defs (F := Ideal)) (onTc (τ := Cert.ChnIdeal.τ) (Cert.ChnIdeal.main (F := Ideal))) ⟨m, fun _ => 0, g⟩ (fun r => ∀ c : Dev Cert.ChnIdeal.nD,
          r.2.mem ((c.tc : Thread Cert.ChnIdeal.nD Cert.ChnIdeal.τ).loc Cert.ChnIdeal.main_v2) = v0 c
          ∧ r.2.mem ((c.tc : Thread Cert.ChnIdeal.nD Cert.ChnIdeal.τ).loc Cert.ChnIdeal.main_arg0) = m ((c.tc : Thread Cert.ChnIdeal.nD Cert.ChnIdeal.τ).loc Cert.ChnIdeal.main_arg0)
          ∧ r.2.mem ((c.tc : Thread Cert.ChnIdeal.nD Cert.ChnIdeal.τ).loc Cert.ChnIdeal.main_arg1) = m ((c.tc : Thread Cert.ChnIdeal.nD Cert.ChnIdeal.τ).loc Cert.ChnIdeal.main_arg1)
          ∧ r.2.mem ((c.tc : Thread Cert.ChnIdeal.nD Cert.ChnIdeal.τ).loc Cert.ChnIdeal.main_arg2) = m ((c.tc : Thread Cert.ChnIdeal.nD Cert.ChnIdeal.τ).loc Cert.ChnIdeal.main_arg2))
      ∧ θ_run (Cert.ChnRefIdeal.defs (F := Ideal)) (onTc (τ := Cert.ChnRefIdeal.τ) (Cert.ChnRefIdeal.main (F := Ideal))) ⟨m', fun _ => 0, g'⟩ (fun r => ∀ c : Dev Cert.ChnRefIdeal.nD,
          r.2.mem ((c.tc : Thread Cert.ChnRefIdeal.nD Cert.ChnRefIdeal.τ).loc Cert.ChnRefIdeal.main_v17) = v0 c
          ∧ r.2.mem ((c.tc : Thread Cert.ChnRefIdeal.nD Cert.ChnRefIdeal.τ).loc Cert.ChnRefIdeal.main_arg0) = m' ((c.tc : Thread Cert.ChnRefIdeal.nD Cert.ChnRefIdeal.τ).loc Cert.ChnRefIdeal.main_arg0)
          ∧ r.2.mem ((c.tc : Thread Cert.ChnRefIdeal.nD Cert.ChnRefIdeal.τ).loc Cert.ChnRefIdeal.main_arg1) = m' ((c.tc : Thread Cert.ChnRefIdeal.nD Cert.ChnRefIdeal.τ).loc Cert.ChnRefIdeal.main_arg1)
          ∧ r.2.mem ((c.tc : Thread Cert.ChnRefIdeal.nD Cert.ChnRefIdeal.τ).loc Cert.ChnRefIdeal.main_arg2) = m' ((c.tc : Thread Cert.ChnRefIdeal.nD Cert.ChnRefIdeal.τ).loc Cert.ChnRefIdeal.main_arg2))

def preserves_Cva_CvaIdeal : Prop :=
  True

def algebraic_CvaIdeal_CvaRefIdeal [hCvaIdeal : Cert.CvaIdeal.Facts] [hCvaRefIdeal : Cert.CvaRefIdeal.Facts] : Prop :=
  ∀ (m : (ℓ : Loc Cert.CvaIdeal.nD Cert.CvaIdeal.τ Cert.CvaIdeal.sig) → Buf (Elt Ideal) ℓ) (g : Dev Cert.CvaIdeal.nD → PrngReg)
    (m' : (ℓ : Loc Cert.CvaRefIdeal.nD Cert.CvaRefIdeal.τ Cert.CvaRefIdeal.sig) → Buf (Elt Ideal) ℓ) (g' : Dev Cert.CvaRefIdeal.nD → PrngReg), Pre_CvaIdeal m →
    (∀ c : Dev Cert.CvaIdeal.nD,
      m' ((c.tc : Thread Cert.CvaRefIdeal.nD Cert.CvaRefIdeal.τ).loc Cert.CvaRefIdeal.main_arg0) = m ((c.tc : Thread Cert.CvaIdeal.nD Cert.CvaIdeal.τ).loc Cert.CvaIdeal.main_arg0)
      ∧ m' ((c.tc : Thread Cert.CvaRefIdeal.nD Cert.CvaRefIdeal.τ).loc Cert.CvaRefIdeal.main_arg1) = m ((c.tc : Thread Cert.CvaIdeal.nD Cert.CvaIdeal.τ).loc Cert.CvaIdeal.main_arg1)) →
    ∃ (v0 : (c : Dev Cert.CvaIdeal.nD) → Buf (Elt Ideal) ((c.tc : Thread Cert.CvaIdeal.nD Cert.CvaIdeal.τ).loc Cert.CvaIdeal.main_v2)),
      θ_run (Cert.CvaIdeal.defs (F := Ideal)) (onTc (τ := Cert.CvaIdeal.τ) (Cert.CvaIdeal.main (F := Ideal))) ⟨m, fun _ => 0, g⟩ (fun r => ∀ c : Dev Cert.CvaIdeal.nD,
          r.2.mem ((c.tc : Thread Cert.CvaIdeal.nD Cert.CvaIdeal.τ).loc Cert.CvaIdeal.main_v2) = v0 c
          ∧ r.2.mem ((c.tc : Thread Cert.CvaIdeal.nD Cert.CvaIdeal.τ).loc Cert.CvaIdeal.main_arg0) = m ((c.tc : Thread Cert.CvaIdeal.nD Cert.CvaIdeal.τ).loc Cert.CvaIdeal.main_arg0)
          ∧ r.2.mem ((c.tc : Thread Cert.CvaIdeal.nD Cert.CvaIdeal.τ).loc Cert.CvaIdeal.main_arg1) = m ((c.tc : Thread Cert.CvaIdeal.nD Cert.CvaIdeal.τ).loc Cert.CvaIdeal.main_arg1))
      ∧ θ_run (Cert.CvaRefIdeal.defs (F := Ideal)) (onTc (τ := Cert.CvaRefIdeal.τ) (Cert.CvaRefIdeal.main (F := Ideal))) ⟨m', fun _ => 0, g'⟩ (fun r => ∀ c : Dev Cert.CvaRefIdeal.nD,
          r.2.mem ((c.tc : Thread Cert.CvaRefIdeal.nD Cert.CvaRefIdeal.τ).loc Cert.CvaRefIdeal.main_v4) = v0 c
          ∧ r.2.mem ((c.tc : Thread Cert.CvaRefIdeal.nD Cert.CvaRefIdeal.τ).loc Cert.CvaRefIdeal.main_arg0) = m' ((c.tc : Thread Cert.CvaRefIdeal.nD Cert.CvaRefIdeal.τ).loc Cert.CvaRefIdeal.main_arg0)
          ∧ r.2.mem ((c.tc : Thread Cert.CvaRefIdeal.nD Cert.CvaRefIdeal.τ).loc Cert.CvaRefIdeal.main_arg1) = m' ((c.tc : Thread Cert.CvaRefIdeal.nD Cert.CvaRefIdeal.τ).loc Cert.CvaRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Mno_MnoIdeal : Prop :=
  True

def algebraic_MnoIdeal_MnoRefIdeal [hMnoIdeal : Cert.MnoIdeal.Facts] [hMnoRefIdeal : Cert.MnoRefIdeal.Facts] : Prop :=
  ∀ (m : (ℓ : Loc Cert.MnoIdeal.nD Cert.MnoIdeal.τ Cert.MnoIdeal.sig) → Buf (Elt Ideal) ℓ) (g : Dev Cert.MnoIdeal.nD → PrngReg)
    (m' : (ℓ : Loc Cert.MnoRefIdeal.nD Cert.MnoRefIdeal.τ Cert.MnoRefIdeal.sig) → Buf (Elt Ideal) ℓ) (g' : Dev Cert.MnoRefIdeal.nD → PrngReg), Pre_MnoIdeal m →
    (∀ c : Dev Cert.MnoIdeal.nD,
      m' ((c.tc : Thread Cert.MnoRefIdeal.nD Cert.MnoRefIdeal.τ).loc Cert.MnoRefIdeal.main_arg0) = m ((c.tc : Thread Cert.MnoIdeal.nD Cert.MnoIdeal.τ).loc Cert.MnoIdeal.main_arg0)
      ∧ m' ((c.tc : Thread Cert.MnoRefIdeal.nD Cert.MnoRefIdeal.τ).loc Cert.MnoRefIdeal.main_arg1) = m ((c.tc : Thread Cert.MnoIdeal.nD Cert.MnoIdeal.τ).loc Cert.MnoIdeal.main_arg1)
      ∧ m' ((c.tc : Thread Cert.MnoRefIdeal.nD Cert.MnoRefIdeal.τ).loc Cert.MnoRefIdeal.main_arg2) = m ((c.tc : Thread Cert.MnoIdeal.nD Cert.MnoIdeal.τ).loc Cert.MnoIdeal.main_arg2)
      ∧ m' ((c.tc : Thread Cert.MnoRefIdeal.nD Cert.MnoRefIdeal.τ).loc Cert.MnoRefIdeal.main_arg3) = m ((c.tc : Thread Cert.MnoIdeal.nD Cert.MnoIdeal.τ).loc Cert.MnoIdeal.main_arg3)) →
    ∃ (v0 : (c : Dev Cert.MnoIdeal.nD) → Buf (Elt Ideal) ((c.tc : Thread Cert.MnoIdeal.nD Cert.MnoIdeal.τ).loc Cert.MnoIdeal.main_v3)),
      θ_run (Cert.MnoIdeal.defs (F := Ideal)) (onTc (τ := Cert.MnoIdeal.τ) (Cert.MnoIdeal.main (F := Ideal))) ⟨m, fun _ => 0, g⟩ (fun r => ∀ c : Dev Cert.MnoIdeal.nD,
          r.2.mem ((c.tc : Thread Cert.MnoIdeal.nD Cert.MnoIdeal.τ).loc Cert.MnoIdeal.main_v3) = v0 c
          ∧ r.2.mem ((c.tc : Thread Cert.MnoIdeal.nD Cert.MnoIdeal.τ).loc Cert.MnoIdeal.main_arg0) = m ((c.tc : Thread Cert.MnoIdeal.nD Cert.MnoIdeal.τ).loc Cert.MnoIdeal.main_arg0)
          ∧ r.2.mem ((c.tc : Thread Cert.MnoIdeal.nD Cert.MnoIdeal.τ).loc Cert.MnoIdeal.main_arg1) = m ((c.tc : Thread Cert.MnoIdeal.nD Cert.MnoIdeal.τ).loc Cert.MnoIdeal.main_arg1)
          ∧ r.2.mem ((c.tc : Thread Cert.MnoIdeal.nD Cert.MnoIdeal.τ).loc Cert.MnoIdeal.main_arg2) = m ((c.tc : Thread Cert.MnoIdeal.nD Cert.MnoIdeal.τ).loc Cert.MnoIdeal.main_arg2)
          ∧ r.2.mem ((c.tc : Thread Cert.MnoIdeal.nD Cert.MnoIdeal.τ).loc Cert.MnoIdeal.main_arg3) = m ((c.tc : Thread Cert.MnoIdeal.nD Cert.MnoIdeal.τ).loc Cert.MnoIdeal.main_arg3))
      ∧ θ_run (Cert.MnoRefIdeal.defs (F := Ideal)) (onTc (τ := Cert.MnoRefIdeal.τ) (Cert.MnoRefIdeal.main (F := Ideal))) ⟨m', fun _ => 0, g'⟩ (fun r => ∀ c : Dev Cert.MnoRefIdeal.nD,
          r.2.mem ((c.tc : Thread Cert.MnoRefIdeal.nD Cert.MnoRefIdeal.τ).loc Cert.MnoRefIdeal.main_v21) = v0 c
          ∧ r.2.mem ((c.tc : Thread Cert.MnoRefIdeal.nD Cert.MnoRefIdeal.τ).loc Cert.MnoRefIdeal.main_arg0) = m' ((c.tc : Thread Cert.MnoRefIdeal.nD Cert.MnoRefIdeal.τ).loc Cert.MnoRefIdeal.main_arg0)
          ∧ r.2.mem ((c.tc : Thread Cert.MnoRefIdeal.nD Cert.MnoRefIdeal.τ).loc Cert.MnoRefIdeal.main_arg1) = m' ((c.tc : Thread Cert.MnoRefIdeal.nD Cert.MnoRefIdeal.τ).loc Cert.MnoRefIdeal.main_arg1)
          ∧ r.2.mem ((c.tc : Thread Cert.MnoRefIdeal.nD Cert.MnoRefIdeal.τ).loc Cert.MnoRefIdeal.main_arg2) = m' ((c.tc : Thread Cert.MnoRefIdeal.nD Cert.MnoRefIdeal.τ).loc Cert.MnoRefIdeal.main_arg2)
          ∧ r.2.mem ((c.tc : Thread Cert.MnoRefIdeal.nD Cert.MnoRefIdeal.τ).loc Cert.MnoRefIdeal.main_arg3) = m' ((c.tc : Thread Cert.MnoRefIdeal.nD Cert.MnoRefIdeal.τ).loc Cert.MnoRefIdeal.main_arg3))

def preserves_Cmn_CmnIdeal : Prop :=
  True

def algebraic_CmnIdeal_CmnRefIdeal [hCmnIdeal : Cert.CmnIdeal.Facts] [hCmnRefIdeal : Cert.CmnRefIdeal.Facts] : Prop :=
  ∀ (m : (ℓ : Loc Cert.CmnIdeal.nD Cert.CmnIdeal.τ Cert.CmnIdeal.sig) → Buf (Elt Ideal) ℓ) (g : Dev Cert.CmnIdeal.nD → PrngReg)
    (m' : (ℓ : Loc Cert.CmnRefIdeal.nD Cert.CmnRefIdeal.τ Cert.CmnRefIdeal.sig) → Buf (Elt Ideal) ℓ) (g' : Dev Cert.CmnRefIdeal.nD → PrngReg), Pre_CmnIdeal m →
    (∀ c : Dev Cert.CmnIdeal.nD,
      m' ((c.tc : Thread Cert.CmnRefIdeal.nD Cert.CmnRefIdeal.τ).loc Cert.CmnRefIdeal.main_arg0) = m ((c.tc : Thread Cert.CmnIdeal.nD Cert.CmnIdeal.τ).loc Cert.CmnIdeal.main_arg0)
      ∧ m' ((c.tc : Thread Cert.CmnRefIdeal.nD Cert.CmnRefIdeal.τ).loc Cert.CmnRefIdeal.main_arg1) = m ((c.tc : Thread Cert.CmnIdeal.nD Cert.CmnIdeal.τ).loc Cert.CmnIdeal.main_arg1)
      ∧ m' ((c.tc : Thread Cert.CmnRefIdeal.nD Cert.CmnRefIdeal.τ).loc Cert.CmnRefIdeal.main_arg2) = m ((c.tc : Thread Cert.CmnIdeal.nD Cert.CmnIdeal.τ).loc Cert.CmnIdeal.main_arg2)
      ∧ m' ((c.tc : Thread Cert.CmnRefIdeal.nD Cert.CmnRefIdeal.τ).loc Cert.CmnRefIdeal.main_arg3) = m ((c.tc : Thread Cert.CmnIdeal.nD Cert.CmnIdeal.τ).loc Cert.CmnIdeal.main_arg3)) →
    ∃ (v0 : (c : Dev Cert.CmnIdeal.nD) → Buf (Elt Ideal) ((c.tc : Thread Cert.CmnIdeal.nD Cert.CmnIdeal.τ).loc Cert.CmnIdeal.main_v3)),
      θ_run (Cert.CmnIdeal.defs (F := Ideal)) (onTc (τ := Cert.CmnIdeal.τ) (Cert.CmnIdeal.main (F := Ideal))) ⟨m, fun _ => 0, g⟩ (fun r => ∀ c : Dev Cert.CmnIdeal.nD,
          r.2.mem ((c.tc : Thread Cert.CmnIdeal.nD Cert.CmnIdeal.τ).loc Cert.CmnIdeal.main_v3) = v0 c
          ∧ r.2.mem ((c.tc : Thread Cert.CmnIdeal.nD Cert.CmnIdeal.τ).loc Cert.CmnIdeal.main_arg0) = m ((c.tc : Thread Cert.CmnIdeal.nD Cert.CmnIdeal.τ).loc Cert.CmnIdeal.main_arg0)
          ∧ r.2.mem ((c.tc : Thread Cert.CmnIdeal.nD Cert.CmnIdeal.τ).loc Cert.CmnIdeal.main_arg1) = m ((c.tc : Thread Cert.CmnIdeal.nD Cert.CmnIdeal.τ).loc Cert.CmnIdeal.main_arg1)
          ∧ r.2.mem ((c.tc : Thread Cert.CmnIdeal.nD Cert.CmnIdeal.τ).loc Cert.CmnIdeal.main_arg2) = m ((c.tc : Thread Cert.CmnIdeal.nD Cert.CmnIdeal.τ).loc Cert.CmnIdeal.main_arg2)
          ∧ r.2.mem ((c.tc : Thread Cert.CmnIdeal.nD Cert.CmnIdeal.τ).loc Cert.CmnIdeal.main_arg3) = m ((c.tc : Thread Cert.CmnIdeal.nD Cert.CmnIdeal.τ).loc Cert.CmnIdeal.main_arg3))
      ∧ θ_run (Cert.CmnRefIdeal.defs (F := Ideal)) (onTc (τ := Cert.CmnRefIdeal.τ) (Cert.CmnRefIdeal.main (F := Ideal))) ⟨m', fun _ => 0, g'⟩ (fun r => ∀ c : Dev Cert.CmnRefIdeal.nD,
          r.2.mem ((c.tc : Thread Cert.CmnRefIdeal.nD Cert.CmnRefIdeal.τ).loc Cert.CmnRefIdeal.main_v21) = v0 c
          ∧ r.2.mem ((c.tc : Thread Cert.CmnRefIdeal.nD Cert.CmnRefIdeal.τ).loc Cert.CmnRefIdeal.main_arg0) = m' ((c.tc : Thread Cert.CmnRefIdeal.nD Cert.CmnRefIdeal.τ).loc Cert.CmnRefIdeal.main_arg0)
          ∧ r.2.mem ((c.tc : Thread Cert.CmnRefIdeal.nD Cert.CmnRefIdeal.τ).loc Cert.CmnRefIdeal.main_arg1) = m' ((c.tc : Thread Cert.CmnRefIdeal.nD Cert.CmnRefIdeal.τ).loc Cert.CmnRefIdeal.main_arg1)
          ∧ r.2.mem ((c.tc : Thread Cert.CmnRefIdeal.nD Cert.CmnRefIdeal.τ).loc Cert.CmnRefIdeal.main_arg2) = m' ((c.tc : Thread Cert.CmnRefIdeal.nD Cert.CmnRefIdeal.τ).loc Cert.CmnRefIdeal.main_arg2)
          ∧ r.2.mem ((c.tc : Thread Cert.CmnRefIdeal.nD Cert.CmnRefIdeal.τ).loc Cert.CmnRefIdeal.main_arg3) = m' ((c.tc : Thread Cert.CmnRefIdeal.nD Cert.CmnRefIdeal.τ).loc Cert.CmnRefIdeal.main_arg3))

def Claim : Prop :=
  ∃ (hMla : Cert.Mla.Facts) (hMlaIdeal : Cert.MlaIdeal.Facts) (hMlaRefIdeal : Cert.MlaRefIdeal.Facts) (hDif : Cert.Dif.Facts) (hDifIdeal : Cert.DifIdeal.Facts) (hDifRefIdeal : Cert.DifRefIdeal.Facts) (hOut : Cert.Out.Facts) (hOutIdeal : Cert.OutIdeal.Facts) (hOutRefIdeal : Cert.OutRefIdeal.Facts) (hGat : Cert.Gat.Facts) (hGatIdeal : Cert.GatIdeal.Facts) (hGatRefIdeal : Cert.GatRefIdeal.Facts) (hLin : Cert.Lin.Facts) (hLinIdeal : Cert.LinIdeal.Facts) (hLinRefIdeal : Cert.LinRefIdeal.Facts) (hRop : Cert.Rop.Facts) (hRopIdeal : Cert.RopIdeal.Facts) (hRopRefIdeal : Cert.RopRefIdeal.Facts) (hVal : Cert.Val.Facts) (hValIdeal : Cert.ValIdeal.Facts) (hValRefIdeal : Cert.ValRefIdeal.Facts) (hSwk : Cert.Swk.Facts) (hSwkIdeal : Cert.SwkIdeal.Facts) (hSwkRefIdeal : Cert.SwkRefIdeal.Facts) (hSwv : Cert.Swv.Facts) (hSwvIdeal : Cert.SwvIdeal.Facts) (hSwvRefIdeal : Cert.SwvRefIdeal.Facts) (hMlv : Cert.Mlv.Facts) (hMlvIdeal : Cert.MlvIdeal.Facts) (hMlvRefIdeal : Cert.MlvRefIdeal.Facts) (hMcq : Cert.Mcq.Facts) (hMcqIdeal : Cert.McqIdeal.Facts) (hMcqRefIdeal : Cert.McqRefIdeal.Facts) (hMck : Cert.Mck.Facts) (hMckIdeal : Cert.MckIdeal.Facts) (hMckRefIdeal : Cert.MckRefIdeal.Facts) (hMkn : Cert.Mkn.Facts) (hMknIdeal : Cert.MknIdeal.Facts) (hMknRefIdeal : Cert.MknRefIdeal.Facts) (hMlq : Cert.Mlq.Facts) (hMlqIdeal : Cert.MlqIdeal.Facts) (hMlqRefIdeal : Cert.MlqRefIdeal.Facts) (hMkr : Cert.Mkr.Facts) (hMkrIdeal : Cert.MkrIdeal.Facts) (hMkrRefIdeal : Cert.MkrRefIdeal.Facts) (hCou : Cert.Cou.Facts) (hCouIdeal : Cert.CouIdeal.Facts) (hCouRefIdeal : Cert.CouRefIdeal.Facts) (hCga : Cert.Cga.Facts) (hCgaIdeal : Cert.CgaIdeal.Facts) (hCgaRefIdeal : Cert.CgaRefIdeal.Facts) (hCli : Cert.Cli.Facts) (hCliIdeal : Cert.CliIdeal.Facts) (hCliRefIdeal : Cert.CliRefIdeal.Facts) (hChn : Cert.Chn.Facts) (hChnIdeal : Cert.ChnIdeal.Facts) (hChnRefIdeal : Cert.ChnRefIdeal.Facts) (hCva : Cert.Cva.Facts) (hCvaIdeal : Cert.CvaIdeal.Facts) (hCvaRefIdeal : Cert.CvaRefIdeal.Facts) (hAda : Cert.Ada.Facts) (hAdaIdeal : Cert.AdaIdeal.Facts) (hAdaRefIdeal : Cert.AdaRefIdeal.Facts) (hMno : Cert.Mno.Facts) (hMnoIdeal : Cert.MnoIdeal.Facts) (hMnoRefIdeal : Cert.MnoRefIdeal.Facts) (hCmn : Cert.Cmn.Facts) (hCmnIdeal : Cert.CmnIdeal.Facts) (hCmnRefIdeal : Cert.CmnRefIdeal.Facts) (hPre_finite : Cert.Pre_finite.Facts) (hPre_finite_diff : Cert.Pre_finite_diff.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_Dif (hDif := hDif)
    ∧ quiescent_DifIdeal (hDifIdeal := hDifIdeal)
    ∧ quiescent_DifIdeal_pre_finite_diff (hDifIdeal := hDifIdeal) (hPre_finite_diff := hPre_finite_diff)
    ∧ quiescent_DifRefIdeal (hDifRefIdeal := hDifRefIdeal)
    ∧ quiescent_DifRefIdeal_pre_finite_diff (hDifRefIdeal := hDifRefIdeal) (hPre_finite_diff := hPre_finite_diff)
    ∧ quiescent_Out (hOut := hOut)
    ∧ quiescent_OutIdeal (hOutIdeal := hOutIdeal)
    ∧ quiescent_OutRefIdeal (hOutRefIdeal := hOutRefIdeal)
    ∧ quiescent_Gat (hGat := hGat)
    ∧ quiescent_GatIdeal (hGatIdeal := hGatIdeal)
    ∧ quiescent_GatRefIdeal (hGatRefIdeal := hGatRefIdeal)
    ∧ quiescent_Lin (hLin := hLin)
    ∧ quiescent_LinIdeal (hLinIdeal := hLinIdeal)
    ∧ quiescent_LinRefIdeal (hLinRefIdeal := hLinRefIdeal)
    ∧ quiescent_Rop (hRop := hRop)
    ∧ quiescent_RopIdeal (hRopIdeal := hRopIdeal)
    ∧ quiescent_RopRefIdeal (hRopRefIdeal := hRopRefIdeal)
    ∧ quiescent_Val (hVal := hVal)
    ∧ quiescent_ValIdeal (hValIdeal := hValIdeal)
    ∧ quiescent_ValRefIdeal (hValRefIdeal := hValRefIdeal)
    ∧ quiescent_Swk (hSwk := hSwk)
    ∧ quiescent_SwkIdeal (hSwkIdeal := hSwkIdeal)
    ∧ quiescent_SwkRefIdeal (hSwkRefIdeal := hSwkRefIdeal)
    ∧ quiescent_Swv (hSwv := hSwv)
    ∧ quiescent_SwvIdeal (hSwvIdeal := hSwvIdeal)
    ∧ quiescent_SwvRefIdeal (hSwvRefIdeal := hSwvRefIdeal)
    ∧ quiescent_Mlv (hMlv := hMlv)
    ∧ quiescent_MlvIdeal (hMlvIdeal := hMlvIdeal)
    ∧ quiescent_MlvRefIdeal (hMlvRefIdeal := hMlvRefIdeal)
    ∧ quiescent_Mcq (hMcq := hMcq)
    ∧ quiescent_McqIdeal (hMcqIdeal := hMcqIdeal)
    ∧ quiescent_McqRefIdeal (hMcqRefIdeal := hMcqRefIdeal)
    ∧ quiescent_Mck (hMck := hMck)
    ∧ quiescent_MckIdeal (hMckIdeal := hMckIdeal)
    ∧ quiescent_MckRefIdeal (hMckRefIdeal := hMckRefIdeal)
    ∧ quiescent_Mkn (hMkn := hMkn)
    ∧ quiescent_MknIdeal (hMknIdeal := hMknIdeal)
    ∧ quiescent_MknRefIdeal (hMknRefIdeal := hMknRefIdeal)
    ∧ quiescent_Mlq (hMlq := hMlq)
    ∧ quiescent_MlqIdeal (hMlqIdeal := hMlqIdeal)
    ∧ quiescent_MlqRefIdeal (hMlqRefIdeal := hMlqRefIdeal)
    ∧ quiescent_Mkr (hMkr := hMkr)
    ∧ quiescent_MkrIdeal (hMkrIdeal := hMkrIdeal)
    ∧ quiescent_MkrRefIdeal (hMkrRefIdeal := hMkrRefIdeal)
    ∧ quiescent_Cou (hCou := hCou)
    ∧ quiescent_CouIdeal (hCouIdeal := hCouIdeal)
    ∧ quiescent_CouRefIdeal (hCouRefIdeal := hCouRefIdeal)
    ∧ quiescent_Cga (hCga := hCga)
    ∧ quiescent_CgaIdeal (hCgaIdeal := hCgaIdeal)
    ∧ quiescent_CgaRefIdeal (hCgaRefIdeal := hCgaRefIdeal)
    ∧ quiescent_Cli (hCli := hCli)
    ∧ quiescent_CliIdeal (hCliIdeal := hCliIdeal)
    ∧ quiescent_CliRefIdeal (hCliRefIdeal := hCliRefIdeal)
    ∧ quiescent_Chn (hChn := hChn)
    ∧ quiescent_ChnIdeal (hChnIdeal := hChnIdeal)
    ∧ quiescent_ChnRefIdeal (hChnRefIdeal := hChnRefIdeal)
    ∧ quiescent_Cva (hCva := hCva)
    ∧ quiescent_CvaIdeal (hCvaIdeal := hCvaIdeal)
    ∧ quiescent_CvaRefIdeal (hCvaRefIdeal := hCvaRefIdeal)
    ∧ quiescent_Ada (hAda := hAda)
    ∧ quiescent_AdaIdeal (hAdaIdeal := hAdaIdeal)
    ∧ quiescent_AdaRefIdeal (hAdaRefIdeal := hAdaRefIdeal)
    ∧ quiescent_Mno (hMno := hMno)
    ∧ quiescent_MnoIdeal (hMnoIdeal := hMnoIdeal)
    ∧ quiescent_MnoRefIdeal (hMnoRefIdeal := hMnoRefIdeal)
    ∧ quiescent_Cmn (hCmn := hCmn)
    ∧ quiescent_CmnIdeal (hCmnIdeal := hCmnIdeal)
    ∧ quiescent_CmnRefIdeal (hCmnRefIdeal := hCmnRefIdeal)
    ∧ preserves_Mla_MlaIdeal
    ∧ algebraic_MlaIdeal_MlaRefIdeal_pre_finite (hMlaIdeal := hMlaIdeal) (hMlaRefIdeal := hMlaRefIdeal) (hPre_finite := hPre_finite)
    ∧ preserves_Dif_DifIdeal
    ∧ algebraic_DifIdeal_DifRefIdeal_pre_finite_diff (hDifIdeal := hDifIdeal) (hDifRefIdeal := hDifRefIdeal) (hPre_finite_diff := hPre_finite_diff)
    ∧ preserves_Out_OutIdeal
    ∧ algebraic_OutIdeal_OutRefIdeal (hOutIdeal := hOutIdeal) (hOutRefIdeal := hOutRefIdeal)
    ∧ preserves_Gat_GatIdeal
    ∧ algebraic_GatIdeal_GatRefIdeal (hGatIdeal := hGatIdeal) (hGatRefIdeal := hGatRefIdeal)
    ∧ preserves_Lin_LinIdeal
    ∧ algebraic_LinIdeal_LinRefIdeal (hLinIdeal := hLinIdeal) (hLinRefIdeal := hLinRefIdeal)
    ∧ preserves_Rop_RopIdeal
    ∧ algebraic_RopIdeal_RopRefIdeal (hRopIdeal := hRopIdeal) (hRopRefIdeal := hRopRefIdeal)
    ∧ preserves_Val_ValIdeal
    ∧ algebraic_ValIdeal_ValRefIdeal (hValIdeal := hValIdeal) (hValRefIdeal := hValRefIdeal)
    ∧ preserves_Swk_SwkIdeal
    ∧ algebraic_SwkIdeal_SwkRefIdeal (hSwkIdeal := hSwkIdeal) (hSwkRefIdeal := hSwkRefIdeal)
    ∧ preserves_Swv_SwvIdeal
    ∧ algebraic_SwvIdeal_SwvRefIdeal (hSwvIdeal := hSwvIdeal) (hSwvRefIdeal := hSwvRefIdeal)
    ∧ preserves_Mlv_MlvIdeal
    ∧ algebraic_MlvIdeal_MlvRefIdeal (hMlvIdeal := hMlvIdeal) (hMlvRefIdeal := hMlvRefIdeal)
    ∧ preserves_Mcq_McqIdeal
    ∧ algebraic_McqIdeal_McqRefIdeal (hMcqIdeal := hMcqIdeal) (hMcqRefIdeal := hMcqRefIdeal)
    ∧ preserves_Mck_MckIdeal
    ∧ algebraic_MckIdeal_MckRefIdeal (hMckIdeal := hMckIdeal) (hMckRefIdeal := hMckRefIdeal)
    ∧ preserves_Mkn_MknIdeal
    ∧ algebraic_MknIdeal_MknRefIdeal (hMknIdeal := hMknIdeal) (hMknRefIdeal := hMknRefIdeal)
    ∧ preserves_Mlq_MlqIdeal
    ∧ algebraic_MlqIdeal_MlqRefIdeal (hMlqIdeal := hMlqIdeal) (hMlqRefIdeal := hMlqRefIdeal)
    ∧ preserves_Mkr_MkrIdeal
    ∧ algebraic_MkrIdeal_MkrRefIdeal (hMkrIdeal := hMkrIdeal) (hMkrRefIdeal := hMkrRefIdeal)
    ∧ preserves_Cou_CouIdeal
    ∧ algebraic_CouIdeal_CouRefIdeal (hCouIdeal := hCouIdeal) (hCouRefIdeal := hCouRefIdeal)
    ∧ preserves_Cga_CgaIdeal
    ∧ algebraic_CgaIdeal_CgaRefIdeal (hCgaIdeal := hCgaIdeal) (hCgaRefIdeal := hCgaRefIdeal)
    ∧ preserves_Cli_CliIdeal
    ∧ algebraic_CliIdeal_CliRefIdeal (hCliIdeal := hCliIdeal) (hCliRefIdeal := hCliRefIdeal)
    ∧ preserves_Chn_ChnIdeal
    ∧ algebraic_ChnIdeal_ChnRefIdeal (hChnIdeal := hChnIdeal) (hChnRefIdeal := hChnRefIdeal)
    ∧ preserves_Cva_CvaIdeal
    ∧ algebraic_CvaIdeal_CvaRefIdeal (hCvaIdeal := hCvaIdeal) (hCvaRefIdeal := hCvaRefIdeal)
    ∧ preserves_Ada_AdaIdeal
    ∧ algebraic_AdaIdeal_AdaRefIdeal (hAdaIdeal := hAdaIdeal) (hAdaRefIdeal := hAdaRefIdeal)
    ∧ preserves_Mno_MnoIdeal
    ∧ algebraic_MnoIdeal_MnoRefIdeal (hMnoIdeal := hMnoIdeal) (hMnoRefIdeal := hMnoRefIdeal)
    ∧ preserves_Cmn_CmnIdeal
    ∧ algebraic_CmnIdeal_CmnRefIdeal (hCmnIdeal := hCmnIdeal) (hCmnRefIdeal := hCmnRefIdeal)
-- ==== Pre_finite.lean ====
abbrev S8192x16x128 : Shape := ⟨3, ![8192, 16, 128]⟩
abbrev S8192x16x64 : Shape := ⟨3, ![8192, 16, 64]⟩
abbrev S8192x64 : Shape := ⟨2, ![8192, 64]⟩
abbrev S256x16x128 : Shape := ⟨3, ![256, 16, 128]⟩
abbrev S256x64 : Shape := ⟨2, ![256, 64]⟩
abbrev S8192x2048 : Shape := ⟨2, ![8192, 2048]⟩
abbrev S_ : Shape := ⟨0, ![]⟩

class Facts : Prop where
  bcast_S_S8192x16x128 : S_.BroadcastsInDim S8192x16x128 (![] : Fin 0 → Fin S8192x16x128.rank)
  reducesTo_S8192x16x128_S_d0_1_2 : S8192x16x128.ReducesTo [0, 1, 2] S_
  h_S_ : 0 < S_.numel
  bcast_S_S8192x16x64 : S_.BroadcastsInDim S8192x16x64 (![] : Fin 0 → Fin S8192x16x64.rank)
  reducesTo_S8192x16x64_S_d0_1_2 : S8192x16x64.ReducesTo [0, 1, 2] S_
  bcast_S_S8192x64 : S_.BroadcastsInDim S8192x64 (![] : Fin 0 → Fin S8192x64.rank)
  reducesTo_S8192x64_S_d0_1 : S8192x64.ReducesTo [0, 1] S_
  bcast_S_S256x16x128 : S_.BroadcastsInDim S256x16x128 (![] : Fin 0 → Fin S256x16x128.rank)
  reducesTo_S256x16x128_S_d0_1_2 : S256x16x128.ReducesTo [0, 1, 2] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg5 : FVec F S256x16x128 .f32) (main_arg6 : FVec F S256x64 .f32) (main_v3 : IVec S_ 1) (main_v7 : IVec S_ 1) (main_v11 : IVec S_ 1) (main_v15 : IVec S_ 1) : IVec S_ 1 :=
  let main_v16 : FVec F S256x16x128 .f32 := Host.absf main_arg5
  let main_cst_6 : FVec F S_ .f32 := constant S_ .f32 0x7F800000#32
  let main_v17 : FVec F S256x16x128 .f32 := broadcastInDim S256x16x128 ![] bcast_S_S256x16x128 main_cst_6
  let main_v18 : IVec S256x16x128 1 := cmpf .olt main_v16 main_v17
  let main_c_7 : IVec S_ 1 := constantI S_ 1 1#1
  let main_v19 : IVec S_ 1 := (fun x v => Host.reduce IntOp.andi x v reducesTo_S256x16x128_S_d0_1_2 h_S_) main_v18 main_c_7
  let main_v20 : FVec F S256x64 .f32 := Host.absf main_arg6
  let main_cst_8 : FVec F S_ .f32 := constant S_ .f32 0x7F800000#32
  let main_v21 : FVec F S256x64 .f32 := broadcastInDim S256x64 ![] bcast_S_S256x64 main_cst_8
  let main_v22 : IVec S256x64 1 := cmpf .olt main_v20 main_v21
  let main_c_9 : IVec S_ 1 := constantI S_ 1 1#1
  let main_v23 : IVec S_ 1 := (fun x v => Host.reduce IntOp.andi x v reducesTo_S256x64_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) (main_arg5 : FVec F S256x16x128 .f32) (main_arg6 : FVec F S256x64 .f32) (main_arg7 : FVec F S256x16x128 .f32) (main_arg8 : FVec F S8192x2048 .f32) : IVec S_ 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_c : IVec S_ 1 := constantI S_ 1 1#1
  let main_v3 : IVec S_ 1 := (fun x v => Host.reduce IntOp.andi x v reducesTo_S8192x16x128_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : FVec F S8192x16x128 .f32 := Host.absf main_arg2
  let main_cst_2 : FVec F S_ .f32 := constant S_ .f32 0x7F800000#32
  let main_v9 : FVec F S8192x16x128 .f32 := broadcastInDim S8192x16x128 ![] bcast_S_S8192x16x128 main_cst_2
  let main_v10 : IVec S8192x16x128 1 := cmpf .olt main_v8 main_v9
  let main_c_3 : IVec S_ 1 := constantI S_ 1 1#1
  let main_v11 : IVec S_ 1 := (fun x v => Host.reduce IntOp.andi x v reducesTo_S8192x16x128_S_d0_1_2 h_S_) main_v10 main_c_3
  let main_v12 : FVec F S8192x64 .f32 := Host.absf main_arg3
  let main_cst_4 : FVec F S_ .f32 := constant S_ .f32 0x7F800000#32
  let main_v13 : FVec F S8192x64 .f32 := broadcastInDim S8192x64 ![] bcast_S_S8192x64 main_cst_4
  let main_v14 : IVec S8192x64 1 := cmpf .olt main_v12 main_v13
  let main_c_5 : IVec S_ 1 := constantI S_ 1 1#1
  let main_v15 : IVec S_ 1 := (fun x v => Host.reduce IntOp.andi x v reducesTo_S8192x64_S_d0_1 h_S_) main_v14 main_c_5
  fn_part1 (F := F) main_arg5 main_arg6 main_v3 main_v7 main_v11 main_v15
-- ==== Pre_finite_diff.lean ====
abbrev S8192x8x2x128 : Shape := ⟨4, ![8192, 8, 2, 128]⟩
abbrev S8192x8x256 : Shape := ⟨3, ![8192, 8, 256]⟩
abbrev S256x8x2x128 : Shape := ⟨4, ![256, 8, 2, 128]⟩
abbrev S256x8x256 : Shape := ⟨3, ![256, 8, 256]⟩
abbrev S128 : Shape := ⟨1, ![128]⟩
abbrev S256 : Shape := ⟨1, ![256]⟩
abbrev S8192x2048 : Shape := ⟨2, ![8192, 2048]⟩
abbrev S_ : Shape := ⟨0, ![]⟩

class Facts : Prop where
  bcast_S_S8192x8x2x128 : S_.BroadcastsInDim S8192x8x2x128 (![] : Fin 0 → Fin S8192x8x2x128.rank)
  reducesTo_S8192x8x2x128_S_d0_1_2_3 : S8192x8x2x128.ReducesTo [0, 1, 2, 3] S_
  h_S_ : 0 < S_.numel
  bcast_S_S8192x8x256 : S_.BroadcastsInDim S8192x8x256 (![] : Fin 0 → Fin S8192x8x256.rank)
  reducesTo_S8192x8x256_S_d0_1_2 : S8192x8x256.ReducesTo [0, 1, 2] S_
  bcast_S_S256x8x2x128 : S_.BroadcastsInDim S256x8x2x128 (![] : Fin 0 → Fin S256x8x2x128.rank)
  reducesTo_S256x8x2x128_S_d0_1_2_3 : S256x8x2x128.ReducesTo [0, 1, 2, 3] S_
  bcast_S_S256x8x256 : S_.BroadcastsInDim S256x8x256 (![] : Fin 0 → Fin S256x8x256.rank)
  reducesTo_S256x8x256_S_d0_1_2 : S256x8x256.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128 .f32 := Host.absf main_arg8
  let main_cst_14 : FVec F S_ .f32 := constant S_ .f32 0x7F800000#32
  let main_v33 : FVec F S128 .f32 := broadcastInDim S128 ![] bcast_S_S128 main_cst_14
  let main_v34 : IVec S128 1 := cmpf .olt main_v32 main_v33
  let main_c_15 : IVec S_ 1 := constantI S_ 1 1#1
  let main_v35 : IVec S_ 1 := (fun x v => Host.reduce IntOp.andi x v reducesTo_S128_S_d0 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S256x8x256 .f32) (main_arg5 : FVec F S128 .f32) (main_arg6 : FVec F S128 .f32) (main_arg7 : FVec F S128 .f32) (main_arg8 : FVec F S128 .f32) (main_v3 : IVec S_ 1) (main_v7 : IVec S_ 1) (main_v11 : IVec S_ 1) (main_v15 : IVec S_ 1) : IVec S_ 1 :=
  let main_v16 : FVec F S256x8x256 .f32 := Host.absf main_arg4
  let main_cst_6 : FVec F S_ .f32 := constant S_ .f32 0x7F800000#32
  let main_v17 : FVec F S256x8x256 .f32 := broadcastInDim S256x8x256 ![] bcast_S_S256x8x256 main_cst_6
  let main_v18 : IVec S256x8x256 1 := cmpf .olt main_v16 main_v17
  let main_c_7 : IVec S_ 1 := constantI S_ 1 1#1
  let main_v19 : IVec S_ 1 := (fun x v => Host.reduce IntOp.andi x v reducesTo_S256x8x256_S_d0_1_2 h_S_) main_v18 main_c_7
  let main_v20 : FVec F S128 .f32 := Host.absf main_arg5
  let main_cst_8 : FVec F S_ .f32 := constant S_ .f32 0x7F800000#32
  let main_v21 : FVec F S128 .f32 := broadcastInDim S128 ![] bcast_S_S128 main_cst_8
  let main_v22 : IVec S128 1 := cmpf .olt main_v20 main_v21
  let main_c_9 : IVec S_ 1 := constantI S_ 1 1#1
  let main_v23 : IVec S_ 1 := (fun x v => Host.reduce IntOp.andi x v reducesTo_S128_S_d0 h_S_) main_v22 main_c_9
  let main_v24 : FVec F S128 .f32 := Host.absf main_arg6
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S128 .f32 := Host.absf main_arg7
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg8 main_v3 main_v7 main_v11 main_v15 main_v19 main_v23 main_v27 main_v31

def fn {F : FTy → Type} [FloatOps F] (main_arg0 : FVec F S8192x8x2x128 .f32) (main_arg1 : FVec F S8192x8x2x128 .f32) (main_arg2 : FVec F S8192x8x256 .f32) (main_arg3 : FVec F S256x8x2x128 .f32) (main_arg4 : FVec F S256x8x256 .f32) (main_arg5 : FVec F S128 .f32) (main_arg6 : FVec F S128 .f32) (main_arg7 : FVec F S128 .f32) (main_arg8 : FVec F S128 .f32) (main_arg9 : FVec F S256 .f32) (main_arg10 : FVec F S8192x2048 .f32) : IVec S_ 1 :=
  let main_v0 : FVec F S8192x8x2x128 .f32 := Host.absf main_arg0
  let main_cst : FVec F S_ .f32 := constant S_ .f32 0x7F800000#32
  let main_v1 : FVec F S8192x8x2x128 .f32 := broadcastInDim S8192x8x2x128 ![] bcast_S_S8192x8x2x128 main_cst
  let main_v2 : IVec S8192x8x2x128 1 := cmpf .olt main_v0 main_v1
  let main_c : IVec S_ 1 := constantI S_ 1 1#1
  let main_v3 : IVec S_ 1 := (fun x v => Host.reduce IntOp.andi x v reducesTo_S8192x8x2x128_S_d0_1_2_3 h_S_) main_v2 main_c
  let main_v4 : FVec F S8192x8x2x128 .f32 := Host.absf main_arg1
  let main_cst_0 : FVec F S_ .f32 := constant S_ .f32 0x7F800000#32
  let main_v5 : FVec F S8192x8x2x128 .f32 := broadcastInDim S8192x8x2x128 ![] bcast_S_S8192x8x2x128 main_cst_0
  let main_v6 : IVec S8192x8x2x128 1 := cmpf .olt main_v4 main_v5
  let main_c_1 : IVec S_ 1 := constantI S_ 1 1#1
  let main_v7 : IVec S_ 1 := (fun x v => Host.reduce IntOp.andi x v reducesTo_S8192x8x2x128_S_d0_1_2_3 h_S_) main_v6 main_c_1
  let main_v8 : FVec F S8192x8x256 .f32 := Host.absf main_arg2
  let main_cst_2 : FVec F S_ .f32 := constant S_ .f32 0x7F800000#32
  let main_v9 : FVec F S8192x8x256 .f32 := broadcastInDim S8192x8x256 ![] bcast_S_S8192x8x256 main_cst_2
  let main_v10 : IVec S8192x8x256 1 := cmpf .olt main_v8 main_v9
  let main_c_3 : IVec S_ 1 := constantI S_ 1 1#1
  let main_v11 : IVec S_ 1 := (fun x v => Host.reduce IntOp.andi x v reducesTo_S8192x8x256_S_d0_1_2 h_S_) main_v10 main_c_3
  let main_v12 : FVec F S256x8x2x128 .f32 := Host.absf main_arg3
  let main_cst_4 : FVec F S_ .f32 := constant S_ .f32 0x7F800000#32
  let main_v13 : FVec F S256x8x2x128 .f32 := broadcastInDim S256x8x2x128 ![] bcast_S_S256x8x2x128 main_cst_4
  let main_v14 : IVec S256x8x2x128 1 := cmpf .olt main_v12 main_v13
  let main_c_5 : IVec S_ 1 := constantI S_ 1 1#1
  let main_v15 : IVec S_ 1 := (fun x v => Host.reduce IntOp.andi x v reducesTo_S256x8x2x128_S_d0_1_2_3 h_S_) main_v14 main_c_5
  fn_part1 (F := F) main_arg4 main_arg5 main_arg6 main_arg7 main_arg8 main_v3 main_v7 main_v11 main_v15
-- ==== Mla.lean ====
abbrev S8192x16x128 : Shape := ⟨3, ![8192, 16, 128]⟩
abbrev S8192x16x64 : Shape := ⟨3, ![8192, 16, 64]⟩
abbrev S8192x64 : Shape := ⟨2, ![8192, 64]⟩
abbrev S256x16x128 : Shape := ⟨3, ![256, 16, 128]⟩
abbrev S256x64 : Shape := ⟨2, ![256, 64]⟩
abbrev S8192x2048 : Shape := ⟨2, ![8192, 2048]⟩
abbrev S_ : Shape := ⟨0, ![]⟩
abbrev S8192x16x256 : Shape := ⟨3, ![8192, 16, 256]⟩
abbrev S8192x4096 : Shape := ⟨2, ![8192, 4096]⟩
abbrev S8192x128 : Shape := ⟨2, ![8192, 128]⟩
abbrev S16x128x8192 : Shape := ⟨3, ![16, 128, 8192]⟩
abbrev S16x128x32x256 : Shape := ⟨4, ![16, 128, 32, 256]⟩
abbrev S16x32x128x256 : Shape := ⟨4, ![16, 32, 128, 256]⟩
abbrev S256x2048 : Shape := ⟨2, ![256, 2048]⟩
abbrev S256x128 : Shape := ⟨2, ![256, 128]⟩
abbrev S16x128x256 : Shape := ⟨3, ![16, 128, 256]⟩
abbrev S16x128x1x256 : Shape := ⟨4, ![16, 128, 1, 256]⟩
abbrev S16x1x128x256 : Shape := ⟨4, ![16, 1, 128, 256]⟩
abbrev S512x256 : Shape := ⟨2, ![512, 256]⟩
abbrev S1x32x128x256 : Shape := ⟨4, ![1, 32, 128, 256]⟩
abbrev S1x1x128x256 : Shape := ⟨4, ![1, 1, 128, 256]⟩
abbrev S512x128 : Shape := ⟨2, ![512, 128]⟩
abbrev S1x1x512 : Shape := ⟨3, ![1, 1, 512]⟩
abbrev S1x128x512 : Shape := ⟨3, ![1, 128, 512]⟩
abbrev S16x256 : Shape := ⟨2, ![16, 256]⟩
abbrev S1x512 : Shape := ⟨2, ![1, 512]⟩
abbrev S128x512 : Shape := ⟨2, ![128, 512]⟩
abbrev S256x256 : Shape := ⟨2, ![256, 256]⟩
abbrev S256x512 : Shape := ⟨2, ![256, 512]⟩
abbrev S128x256 : Shape := ⟨2, ![128, 256]⟩
abbrev S144x256 : Shape := ⟨2, ![144, 256]⟩
abbrev S512 : Shape := ⟨1, ![512]⟩
abbrev S144x512 : Shape := ⟨2, ![144, 512]⟩

abbrev nBuf : Space → Nat
  | .hbm => 45
  | .vmem => 19
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S256x16x128, .f32⟩
  | .hbm, ⟨6, _⟩ => ⟨S256x64, .f32⟩
  | .hbm, ⟨7, _⟩ => ⟨S256x16x128, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S_, .f32⟩
  | .hbm, ⟨17, _⟩ => ⟨S8192x16x128, .f32⟩
  | .hbm, ⟨18, _⟩ => ⟨S8192x16x256, .f32⟩
  | .hbm, ⟨19, _⟩ => ⟨S8192x16x256, .f32⟩
  | .hbm, ⟨20, _⟩ => ⟨S8192x16x256, .f32⟩
  | .hbm, ⟨21, _⟩ => ⟨S8192x4096, .f32⟩
  | .hbm, ⟨22, _⟩ => ⟨S8192x4096, .bf16⟩
  | .hbm, ⟨23, _⟩ => ⟨S8192x2048, .f32⟩
  | .hbm, ⟨24, _⟩ => ⟨S8192x2048, .bf16⟩
  | .hbm, ⟨25, _⟩ => ⟨S_, .i32⟩
  | .hbm, ⟨26, _⟩ => ⟨S_, .f32⟩
  | .hbm, ⟨27, _⟩ => ⟨S8192x128, .f32⟩
  | .hbm, ⟨28, _⟩ => ⟨S8192x128, .bf16⟩
  | .hbm, ⟨29, _⟩ => ⟨S16x128x8192, .f32⟩
  | .hbm, ⟨30, _⟩ => ⟨S16x128x32x256, .f32⟩
  | .hbm, ⟨31, _⟩ => ⟨S16x32x128x256, .f32⟩
  | .hbm, ⟨32, _⟩ => ⟨S16x32x128x256, .bf16⟩
  | .hbm, ⟨33, _⟩ => ⟨S256x2048, .f32⟩
  | .hbm, ⟨34, _⟩ => ⟨S256x2048, .bf16⟩
  | .hbm, ⟨35, _⟩ => ⟨S_, .i32⟩
  | .hbm, ⟨36, _⟩ => ⟨S_, .f32⟩
  | .hbm, ⟨37, _⟩ => ⟨S256x128, .f32⟩
  | .hbm, ⟨38, _⟩ => ⟨S256x128, .bf16⟩
  | .hbm, ⟨39, _⟩ => ⟨S16x128x256, .f32⟩
  | .hbm, ⟨40, _⟩ => ⟨S16x128x1x256, .f32⟩
  | .hbm, ⟨41, _⟩ => ⟨S16x1x128x256, .f32⟩
  | .hbm, ⟨42, _⟩ => ⟨S16x1x128x256, .bf16⟩
  | .hbm, ⟨43, _⟩ => ⟨S8192x2048, .bf16⟩
  | .hbm, ⟨44, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S1x32x128x256, .bf16⟩
  | .local _ .vmem, ⟨6, _⟩ => ⟨S1x32x128x256, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x1x128x256, .bf16⟩
  | .local _ .vmem, ⟨11, _⟩ => ⟨S1x1x128x256, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x1x512, .f32⟩
  | .local _ .vmem, ⟨17, _⟩ => ⟨S1x1x512, .f32⟩
  | .local _ .vmem, ⟨18, _⟩ => ⟨S1x128x512, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_call2_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v77 : BitVec 32 := Scalar.muli arg14 c8_i32
  let c0_i32_54 : BitVec 32 := 0#32
  let v78 : BitVec 32 := Scalar.addi v77 c0_i32_54
  let c256_i32_73 : BitVec 32 := 256#32
  let v99 : BitVec 32 := Scalar.muli v78 c256_i32_73
  v99
def k0_off1 (k0_t1 : Fin k0_t1_loop.trips) (c0_i32_54 : BitVec 32) : Fin 2 → Nat :=
  let c0_i32 : BitVec 32 := 0#32
  let c1_i32 : BitVec 32 := 1#32
  let arg14 : BitVec 32 := Scf.iv c0_i32 c1_i32 k0_t1
  let c8_i32 : BitVec 32 := 8#32
  let v77 : BitVec 32 := Scalar.muli arg14 c8_i32
  let v78 : BitVec 32 := Scalar.addi v77 c0_i32_54
  let c256_i32_73 : BitVec 32 := 256#32
  let v99 : BitVec 32 := Scalar.muli v78 c256_i32_73
  let v100 : BitVec 32 := v99
  let v103 : Index := Scalar.indexCast v100
  let c0_76 : Index := 0#32
  ![v103.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_55 : BitVec 32 := 8#32
  let v79 : BitVec 32 := Scalar.muli arg14 c8_i32_55
  let c1_i32_56 : BitVec 32 := 1#32
  let v80 : BitVec 32 := Scalar.addi v79 c1_i32_56
  let c256_i32_79 : BitVec 32 := 256#32
  let v111 : BitVec 32 := Scalar.muli v80 c256_i32_79
  v111
def k0_off2 (k0_t1 : Fin k0_t1_loop.trips) (c0_i32_54 : BitVec 32) : Fin 4 → Nat :=
  let c0_85 : Index := 0#32
  let c0_i32 : BitVec 32 := 0#32
  let c1_i32 : BitVec 32 := 1#32
  let arg14 : BitVec 32 := Scf.iv c0_i32 c1_i32 k0_t1
  let c8_i32 : BitVec 32 := 8#32
  let v77 : BitVec 32 := Scalar.muli arg14 c8_i32
  let v78 : BitVec 32 := Scalar.addi v77 c0_i32_54
  let v123 : Index := Scalar.indexCast v78
  let c0_86 : Index := 0#32
  let c0_87 : Index := 0#32
  ![0, v123.toNat, 0, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_57 : BitVec 32 := 8#32
  let v81 : BitVec 32 := Scalar.muli arg14 c8_i32_57
  let c2_i32 : BitVec 32 := 2#32
  let v82 : BitVec 32 := Scalar.addi v81 c2_i32
  let c256_i32_90 : BitVec 32 := 256#32
  let v144 : BitVec 32 := Scalar.muli v82 c256_i32_90
  v144
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_58 : BitVec 32 := 8#32
  let v83 : BitVec 32 := Scalar.muli arg14 c8_i32_58
  let c3_i32 : BitVec 32 := 3#32
  let v84 : BitVec 32 := Scalar.addi v83 c3_i32
  let c256_i32_101 : BitVec 32 := 256#32
  let v177 : BitVec 32 := Scalar.muli v84 c256_i32_101
  v177
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_59 : BitVec 32 := 8#32
  let v85 : BitVec 32 := Scalar.muli arg14 c8_i32_59
  let c4_i32_60 : BitVec 32 := 4#32
  let v86 : BitVec 32 := Scalar.addi v85 c4_i32_60
  let c256_i32_112 : BitVec 32 := 256#32
  let v210 : BitVec 32 := Scalar.muli v86 c256_i32_112
  v210
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_61 : BitVec 32 := 8#32
  let v87 : BitVec 32 := Scalar.muli arg14 c8_i32_61
  let c5_i32 : BitVec 32 := 5#32
  let v88 : BitVec 32 := Scalar.addi v87 c5_i32
  let c256_i32_123 : BitVec 32 := 256#32
  let v243 : BitVec 32 := Scalar.muli v88 c256_i32_123
  v243
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_62 : BitVec 32 := 8#32
  let v89 : BitVec 32 := Scalar.muli arg14 c8_i32_62
  let c6_i32 : BitVec 32 := 6#32
  let v90 : BitVec 32 := Scalar.addi v89 c6_i32
  let c256_i32_134 : BitVec 32 := 256#32
  let v276 : BitVec 32 := Scalar.muli v90 c256_i32_134
  v276
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_63 : BitVec 32 := 8#32
  let v91 : BitVec 32 := Scalar.muli arg14 c8_i32_63
  let c7_i32 : BitVec 32 := 7#32
  let v92 : BitVec 32 := Scalar.addi v91 c7_i32
  let c256_i32_145 : BitVec 32 := 256#32
  let v309 : BitVec 32 := Scalar.muli v92 c256_i32_145
  v309
def k0_mult9 : BitVec 32 :=
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let c256_i32 : BitVec 32 := 256#32
  let v22 : BitVec 32 := Scalar.muli v15 c256_i32
  v22
def k0_off3 : Fin 2 → Nat :=
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let c256_i32 : BitVec 32 := 256#32
  let v22 : BitVec 32 := Scalar.muli v15 c256_i32
  let v23 : BitVec 32 := v22
  let v26 : Index := Scalar.indexCast v23
  let c0_26 : Index := 0#32
  ![v26.toNat, 0]
def k0_off4 : Fin 4 → Nat :=
  let c0_29 : Index := 0#32
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let v34 : Index := Scalar.indexCast v15
  let c0_30 : Index := 0#32
  let c0_31 : Index := 0#32
  ![0, v34.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaRefIdeal.lean ====
abbrev S8192x16x128 : Shape := ⟨3, ![8192, 16, 128]⟩
abbrev S8192x16x64 : Shape := ⟨3, ![8192, 16, 64]⟩
abbrev S8192x64 : Shape := ⟨2, ![8192, 64]⟩
abbrev S256x16x128 : Shape := ⟨3, ![256, 16, 128]⟩
abbrev S256x64 : Shape := ⟨2, ![256, 64]⟩
abbrev S8192x2048 : Shape := ⟨2, ![8192, 2048]⟩
abbrev S8448x16x128 : Shape := ⟨3, ![8448, 16, 128]⟩
abbrev S8448x64 : Shape := ⟨2, ![8448, 64]⟩
abbrev S16x8192x8448 : Shape := ⟨3, ![16, 8192, 8448]⟩
abbrev S8448x8192x16 : Shape := ⟨3, ![8448, 8192, 16]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S256x16x128, .f32⟩
  | .hbm, ⟨6, _⟩ => ⟨S256x64, .f32⟩
  | .hbm, ⟨7, _⟩ => ⟨S256x16x128, .f32⟩
  | .hbm, ⟨8, _⟩ => ⟨S8192x2048, .f32⟩
  | .hbm, ⟨9, _⟩ => ⟨S8448x16x128, .f32⟩
  | .hbm, ⟨10, _⟩ => ⟨S8448x64, .f32⟩
  | .hbm, ⟨11, _⟩ => ⟨S8448x16x128, .f32⟩
  | .hbm, ⟨12, _⟩ => ⟨S16x8192x8448, .f32⟩
  | .hbm, ⟨13, _⟩ => ⟨S8448x8192x16, .f32⟩
  | .hbm, ⟨14, _⟩ => ⟨S16x8192x8448, .f32⟩
  | .hbm, ⟨15, _⟩ => ⟨S16x8192x8448, .f32⟩
  | .hbm, ⟨16, _⟩ => ⟨S_, .f32⟩
  | .hbm, ⟨17, _⟩ => ⟨S16x8192x8448, .f32⟩
  | .hbm, ⟨18, _⟩ => ⟨S16x8192x8448, .f32⟩
  | .hbm, ⟨19, _⟩ => ⟨S_, .f32⟩
  | .hbm, ⟨20, _⟩ => ⟨S16x8192, .f32⟩
  | .hbm, ⟨21, _⟩ => ⟨S_, .f32⟩
  | .hbm, ⟨22, _⟩ => ⟨S16x8192, .f32⟩
  | .hbm, ⟨23, _⟩ => ⟨S16x8192, .f32⟩
  | .hbm, ⟨24, _⟩ => ⟨S16x8192x1, .f32⟩
  | .hbm, ⟨25, _⟩ => ⟨S16x8192x8448, .f32⟩
  | .hbm, ⟨26, _⟩ => ⟨S16x8192x8448, .f32⟩
  | .hbm, ⟨27, _⟩ => ⟨S16x8192x8448, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8448, .f32⟩
  | .hbm, ⟨32, _⟩ => ⟨S16x8192x8448, .f32⟩
  | .hbm, ⟨33, _⟩ => ⟨S16x128x8192, .f32⟩
  | .hbm, ⟨34, _⟩ => ⟨S8192x16x128, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Dif.lean ====
abbrev S8192x8x2x128 : Shape := ⟨4, ![8192, 8, 2, 128]⟩
abbrev S8192x8x256 : Shape := ⟨3, ![8192, 8, 256]⟩
abbrev S256x8x2x128 : Shape := ⟨4, ![256, 8, 2, 128]⟩
abbrev S256x8x256 : Shape := ⟨3, ![256, 8, 256]⟩
abbrev S128 : Shape := ⟨1, ![128]⟩
abbrev S256 : Shape := ⟨1, ![256]⟩
abbrev S8192x2048 : Shape := ⟨2, ![8192, 2048]⟩
abbrev S_ : Shape := ⟨0, ![]⟩
abbrev S1x128 : Shape := ⟨2, ![1, 128]⟩
abbrev S4x128 : Shape := ⟨2, ![4, 128]⟩
abbrev S1x256 : Shape := ⟨2, ![1, 256]⟩
abbrev S8x256x8192 : Shape := ⟨3, ![8, 256, 8192]⟩
abbrev S8x256x32x256 : Shape := ⟨4, ![8, 256, 32, 256]⟩
abbrev S8x32x256x256 : Shape := ⟨4, ![8, 32, 256, 256]⟩
abbrev S256x2048 : Shape := ⟨2, ![256, 2048]⟩
abbrev S8x256x256 : Shape := ⟨3, ![8, 256, 256]⟩
abbrev S8x256x1x256 : Shape := ⟨4, ![8, 256, 1, 256]⟩
abbrev S8x1x256x256 : Shape := ⟨4, ![8, 1, 256, 256]⟩
abbrev S512x256 : Shape := ⟨2, ![512, 256]⟩
abbrev S8192x256 : Shape := ⟨2, ![8192, 256]⟩
abbrev S1x32x256x256 : Shape := ⟨4, ![1, 32, 256, 256]⟩
abbrev S256x256 : Shape := ⟨2, ![256, 256]⟩
abbrev S1x1x256x256 : Shape := ⟨4, ![1, 1, 256, 256]⟩
abbrev S2x1x512 : Shape := ⟨3, ![2, 1, 512]⟩
abbrev S2x256x512 : Shape := ⟨3, ![2, 256, 512]⟩
abbrev S16x256 : Shape := ⟨2, ![16, 256]⟩
abbrev S1x1x512 : Shape := ⟨3, ![1, 1, 512]⟩
abbrev S1x512 : Shape := ⟨2, ![1, 512]⟩
abbrev S1x256x512 : Shape := ⟨3, ![1, 256, 512]⟩
abbrev S256x512 : Shape := ⟨2, ![256, 512]⟩
abbrev S512x128 : Shape := ⟨2, ![512, 128]⟩
abbrev S256x128 : Shape := ⟨2, ![256, 128]⟩
abbrev S272x256 : Shape := ⟨2, ![272, 256]⟩
abbrev S512 : Shape := ⟨1, ![512]⟩
abbrev S272x512 : Shape := ⟨2, ![272, 512]⟩
abbrev S1 : Shape := ⟨1, ![1]⟩
abbrev S1x1 : Shape := ⟨2, ![1, 1]⟩
abbrev S512x1 : Shape := ⟨2, ![512, 1]⟩

abbrev nBuf : Space → Nat
  | .hbm => 41
  | .vmem => 19
  | .smem => 0
  | _ => 0

abbrev bufTy : (tb : Table) → Fin (tcTables nBuf tb) → BufTy
  | .hbm, ⟨0, _⟩ => ⟨S8192x8x2x128, .f32⟩
  | .hbm, ⟨1, _⟩ => ⟨S8192x8x2x128, .f32⟩
  | .hbm, ⟨2, _⟩ => ⟨S8192x8x256, .f32⟩
  | .hbm, ⟨3, _⟩ => ⟨S256x8x2x128, .f32⟩
  | .hbm, ⟨4, _⟩ => ⟨S256x8x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x8x2x128, .f32⟩
  | .hbm, ⟨18, _⟩ => ⟨S8192x8x2x128, .f32⟩
  | .hbm, ⟨19, _⟩ => ⟨S8192x2048, .f32⟩
  | .hbm, ⟨20, _⟩ => ⟨S8192x2048, .bf16⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S1x256, .f32⟩
  | .hbm, ⟨27, _⟩ => ⟨S8192x2048, .f32⟩
  | .hbm, ⟨28, _⟩ => ⟨S8192x2048, .bf16⟩
  | .hbm, ⟨29, _⟩ => ⟨S8x256x8192, .f32⟩
  | .hbm, ⟨30, _⟩ => ⟨S8x256x32x256, .f32⟩
  | .hbm, ⟨31, _⟩ => ⟨S8x32x256x256, .f32⟩
  | .hbm, ⟨32, _⟩ => ⟨S8x32x256x256, .bf16⟩
  | .hbm, ⟨33, _⟩ => ⟨S256x2048, .f32⟩
  | .hbm, ⟨34, _⟩ => ⟨S256x2048, .bf16⟩
  | .hbm, ⟨35, _⟩ => ⟨S8x256x256, .f32⟩
  | .hbm, ⟨36, _⟩ => ⟨S8x256x1x256, .f32⟩
  | .hbm, ⟨37, _⟩ => ⟨S8x1x256x256, .f32⟩
  | .hbm, ⟨38, _⟩ => ⟨S8x1x256x256, .bf16⟩
  | .hbm, ⟨39, _⟩ => ⟨S8192x2048, .bf16⟩
  | .hbm, ⟨40, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S1x32x256x256, .bf16⟩
  | .local _ .vmem, ⟨5, _⟩ => ⟨S1x32x256x256, .bf16⟩
  | .local _ .vmem, ⟨6, _⟩ => ⟨S256x256, .bf16⟩
  | .local _ .vmem, ⟨7, _⟩ => ⟨S256x256, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S512x256, .bf16⟩
  | .local _ .vmem, ⟨11, _⟩ => ⟨S512x256, .bf16⟩
  | .local _ .vmem, ⟨12, _⟩ => ⟨S4x128, .f32⟩
  | .local _ .vmem, ⟨13, _⟩ => ⟨S1x256, .f32⟩
  | .local _ .vmem, ⟨14, _⟩ => ⟨S512x256, .bf16⟩
  | .local _ .vmem, ⟨15, _⟩ => ⟨S512x256, .bf16⟩
  | .local _ .vmem, ⟨16, _⟩ => ⟨S2x1x512, .f32⟩
  | .local _ .vmem, ⟨17, _⟩ => ⟨S2x1x512, .f32⟩
  | .local _ .vmem, ⟨18, _⟩ => ⟨S2x256x512, .f32⟩
  | _, _ => ⟨S8192x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v155 : BitVec 32 := Scalar.muli arg14 c4_i32
  let c0_i32_96 : BitVec 32 := 0#32
  let v156 : BitVec 32 := Scalar.addi v155 c0_i32_96
  let c256_i32_119 : BitVec 32 := 256#32
  let v175 : BitVec 32 := Scalar.muli v156 c256_i32_119
  v175
def k0_off1 (k0_t1 : Fin k0_t1_loop.trips) (c0_i32_96 : BitVec 32) : Fin 2 → Nat :=
  let c0_i32 : BitVec 32 := 0#32
  let c1_i32 : BitVec 32 := 1#32
  let arg14 : BitVec 32 := Scf.iv c0_i32 c1_i32 k0_t1
  let c4_i32 : BitVec 32 := 4#32
  let v155 : BitVec 32 := Scalar.muli arg14 c4_i32
  let v156 : BitVec 32 := Scalar.addi v155 c0_i32_96
  let c256_i32_119 : BitVec 32 := 256#32
  let v175 : BitVec 32 := Scalar.muli v156 c256_i32_119
  let v176 : BitVec 32 := v175
  let v179 : Index := Scalar.indexCast v176
  let c0_122 : Index := 0#32
  ![v179.toNat, 0]
def k0_off2 (k0_t1 : Fin k0_t1_loop.trips) (c0_i32_96 : BitVec 32) : Fin 2 → Nat :=
  let c0_i32 : BitVec 32 := 0#32
  let c1_i32 : BitVec 32 := 1#32
  let arg14 : BitVec 32 := Scf.iv c0_i32 c1_i32 k0_t1
  let c4_i32 : BitVec 32 := 4#32
  let v155 : BitVec 32 := Scalar.muli arg14 c4_i32
  let v156 : BitVec 32 := Scalar.addi v155 c0_i32_96
  let c256_i32_119 : BitVec 32 := 256#32
  let v175 : BitVec 32 := Scalar.muli v156 c256_i32_119
  let v176 : BitVec 32 := v175
  let v185 : Index := Scalar.indexCast v176
  let c128_126 : Index := 128#32
  ![v185.toNat, 128]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_97 : BitVec 32 := 4#32
  let v157 : BitVec 32 := Scalar.muli arg14 c4_i32_97
  let c1_i32_98 : BitVec 32 := 1#32
  let v158 : BitVec 32 := Scalar.addi v157 c1_i32_98
  let c256_i32_128 : BitVec 32 := 256#32
  let v189 : BitVec 32 := Scalar.muli v158 c256_i32_128
  v189
def k0_off3 (k0_t1 : Fin k0_t1_loop.trips) (c0_i32_96 : BitVec 32) : Fin 4 → Nat :=
  let c0_137 : Index := 0#32
  let c0_i32 : BitVec 32 := 0#32
  let c1_i32 : BitVec 32 := 1#32
  let arg14 : BitVec 32 := Scf.iv c0_i32 c1_i32 k0_t1
  let c4_i32 : BitVec 32 := 4#32
  let v155 : BitVec 32 := Scalar.muli arg14 c4_i32
  let v156 : BitVec 32 := Scalar.addi v155 c0_i32_96
  let v203 : Index := Scalar.indexCast v156
  let c0_138 : Index := 0#32
  let c0_139 : Index := 0#32
  ![0, v203.toNat, 0, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_99 : BitVec 32 := 4#32
  let v159 : BitVec 32 := Scalar.muli arg14 c4_i32_99
  let c2_i32 : BitVec 32 := 2#32
  let v160 : BitVec 32 := Scalar.addi v159 c2_i32
  let c256_i32_144 : BitVec 32 := 256#32
  let v241 : BitVec 32 := Scalar.muli v160 c256_i32_144
  v241
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_100 : BitVec 32 := 4#32
  let v161 : BitVec 32 := Scalar.muli arg14 c4_i32_100
  let c3_i32 : BitVec 32 := 3#32
  let v162 : BitVec 32 := Scalar.addi v161 c3_i32
  let c256_i32_160 : BitVec 32 := 256#32
  let v293 : BitVec 32 := Scalar.muli v162 c256_i32_160
  v293
def k0_mult5 : BitVec 32 :=
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let c256_i32 : BitVec 32 := 256#32
  let v28 : BitVec 32 := Scalar.muli v15 c256_i32
  v28
def k0_off4 : Fin 2 → Nat :=
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let c256_i32 : BitVec 32 := 256#32
  let v28 : BitVec 32 := Scalar.muli v15 c256_i32
  let v29 : BitVec 32 := v28
  let v32 : Index := Scalar.indexCast v29
  let c0_34 : Index := 0#32
  ![v32.toNat, 0]
def k0_off5 : Fin 2 → Nat :=
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let c256_i32 : BitVec 32 := 256#32
  let v28 : BitVec 32 := Scalar.muli v15 c256_i32
  let v29 : BitVec 32 := v28
  let v38 : Index := Scalar.indexCast v29
  let c128_37 : Index := 128#32
  ![v38.toNat, 128]
def k0_off6 : Fin 4 → Nat :=
  let c0_39 : Index := 0#32
  let c0_i32_12 : BitVec 32 := 0#32
  let c1_i32_13 : BitVec 32 := 1#32
  let v14 : BitVec 32 := Scalar.muli c0_i32_12 c1_i32_13
  let c0_i32_14 : BitVec 32 := 0#32
  let v15 : BitVec 32 := Scalar.addi v14 c0_i32_14
  let v42 : Index := Scalar.indexCast v15
  let c0_40 : Index := 0#32
  let c0_41 : Index := 0#32
  ![0, v42.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DifRefIdeal.lean ====
abbrev S8192x8x2x128 : Shape := ⟨4, ![8192, 8, 2, 128]⟩
abbrev S8192x8x256 : Shape := ⟨3, ![8192, 8, 256]⟩
abbrev S256x8x2x128 : Shape := ⟨4, ![256, 8, 2, 128]⟩
abbrev S256x8x256 : Shape := ⟨3, ![256, 8, 256]⟩
abbrev S128 : Shape := ⟨1, ![128]⟩
abbrev S256 : Shape := ⟨1, ![256]⟩
abbrev S8192x2048 : Shape := ⟨2, ![8192, 2048]⟩
abbrev S_ : Shape := ⟨0, ![]⟩
abbrev S8448x8x2x128 : Shape := ⟨4, ![8448, 8, 2, 128]⟩
abbrev S8448x8x256 : Shape := ⟨3, ![8448, 8, 256]⟩
abbrev S2x8x8192x8448 : Shape := ⟨4, ![2, 8, 8192, 8448]⟩
abbrev S2x8x8192 : Shape := ⟨3, ![2, 8, 8192]⟩
abbrev S2x8x8192x1 : Shape := ⟨4, ![2, 8, 8192, 1]⟩
abbrev S1x8x8192x8448 : Shape := ⟨4, ![1, 8, 8192, 8448]⟩
abbrev S8x8192x8448 : Shape := ⟨3, ![8, 8192, 8448]⟩
abbrev S8x256x8192 : Shape := ⟨3, ![8, 256, 8192]⟩
abbrev S8192x8 : Shape := ⟨2, ![8192, 8]⟩
abbrev S8192x8x1 : Shape := ⟨3, ![8192, 8, 1]⟩
abbrev S1x1x256 : Shape := ⟨3, ![1, 1, 256]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x2x128, .f32⟩
  | .hbm, ⟨1, _⟩ => ⟨S8192x8x2x128, .f32⟩
  | .hbm, ⟨2, _⟩ => ⟨S8192x8x256, .f32⟩
  | .hbm, ⟨3, _⟩ => ⟨S256x8x2x128, .f32⟩
  | .hbm, ⟨4, _⟩ => ⟨S256x8x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256, .f32⟩
  | .hbm, ⟨10, _⟩ => ⟨S8192x2048, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8448x8x2x128, .f32⟩
  | .hbm, ⟨23, _⟩ => ⟨S8448x8x256, .f32⟩
  | .hbm, ⟨24, _⟩ => ⟨S2x8x8192x8448, .f32⟩
  | .hbm, ⟨25, _⟩ => ⟨S_, .f32⟩
  | .hbm, ⟨26, _⟩ => ⟨S2x8x8192x8448, .f32⟩
  | .hbm, ⟨27, _⟩ => ⟨S2x8x8192x8448, .f32⟩
  | .hbm, ⟨28, _⟩ => ⟨S_, .f32⟩
  | .hbm, ⟨29, _⟩ => ⟨S2x8x8192, .f32⟩
  | .hbm, ⟨30, _⟩ => ⟨S_, .f32⟩
  | .hbm, ⟨31, _⟩ => ⟨S2x8x8192, .f32⟩
  | .hbm, ⟨32, _⟩ => ⟨S2x8x8192, .f32⟩
  | .hbm, ⟨33, _⟩ => ⟨S2x8x8192x1, .f32⟩
  | .hbm, ⟨34, _⟩ => ⟨S2x8x8192x8448, .f32⟩
  | .hbm, ⟨35, _⟩ => ⟨S2x8x8192x8448, .f32⟩
  | .hbm, ⟨36, _⟩ => ⟨S2x8x8192x8448, .f32⟩
  | .hbm, ⟨37, _⟩ => ⟨S_, .f32⟩
  | .hbm, ⟨38, _⟩ => ⟨S2x8x8192, .f32⟩
  | .hbm, ⟨39, _⟩ => ⟨S2x8x8192x1, .f32⟩
  | .hbm, ⟨40, _⟩ => ⟨S2x8x8192x8448, .f32⟩
  | .hbm, ⟨41, _⟩ => ⟨S2x8x8192x8448, .f32⟩
  | .hbm, ⟨42, _⟩ => ⟨S1x8x8192x8448, .f32⟩
  | .hbm, ⟨43, _⟩ => ⟨S8x8192x8448, .f32⟩
  | .hbm, ⟨44, _⟩ => ⟨S1x8x8192x8448, .f32⟩
  | .hbm, ⟨45, _⟩ => ⟨S8x8192x8448, .f32⟩
  | .hbm, ⟨46, _⟩ => ⟨S8x8192x8448, .f32⟩
  | .hbm, ⟨47, _⟩ => ⟨S8x8192x8448, .f32⟩
  | .hbm, ⟨48, _⟩ => ⟨S8x8192x8448, .f32⟩
  | .hbm, ⟨49, _⟩ => ⟨S8x256x8192, .f32⟩
  | .hbm, ⟨50, _⟩ => ⟨S8192x8x256, .f32⟩
  | .hbm, ⟨51, _⟩ => ⟨S8192x8x256, .f32⟩
  | .hbm, ⟨52, _⟩ => ⟨S_, .f32⟩
  | .hbm, ⟨53, _⟩ => ⟨S8192x8, .f32⟩
  | .hbm, ⟨54, _⟩ => ⟨S8192x8x1, .f32⟩
  | .hbm, ⟨55, _⟩ => ⟨S_, .f32⟩
  | .hbm, ⟨56, _⟩ => ⟨S8192x8x1, .f32⟩
  | .hbm, ⟨57, _⟩ => ⟨S8192x8x1, .f32⟩
  | .hbm, ⟨58, _⟩ => ⟨S_, .f32⟩
  | .hbm, ⟨59, _⟩ => ⟨S8192x8x1, .f32⟩
  | .hbm, ⟨60, _⟩ => ⟨S8192x8x1, .f32⟩
  | .hbm, ⟨61, _⟩ => ⟨S8192x8x1, .f32⟩
  | .hbm, ⟨62, _⟩ => ⟨S8192x8x256, .f32⟩
  | .hbm, ⟨63, _⟩ => ⟨S8192x8x256, .f32⟩
  | .hbm, ⟨64, _⟩ => ⟨S1x1x256, .f32⟩
  | .hbm, ⟨65, _⟩ => ⟨S8192x8x256, .f32⟩
  | .hbm, ⟨66, _⟩ => ⟨S8192x8x256, .f32⟩
  | .hbm, ⟨67, _⟩ => ⟨S_, .f32⟩
  | .hbm, ⟨68, _⟩ => ⟨S8192x8x256, .f32⟩
  | .hbm, ⟨69, _⟩ => ⟨S8192x8x256, .f32⟩
  | .hbm, ⟨70, _⟩ => ⟨S8192x2048, .f32⟩
  | .hbm, ⟨71, _⟩ => ⟨S8192x2048, .f32⟩
  | .hbm, ⟨72, _⟩ => ⟨S8192x2048, .bf16⟩
  | _, _ => ⟨S8192x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩
abbrev S256x2048 : Shape := ⟨2, ![256, 2048]⟩
abbrev S256x512 : Shape := ⟨2, ![256, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩
abbrev S256x2048 : Shape := ⟨2, ![256, 2048]⟩
abbrev S256x512 : Shape := ⟨2, ![256, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gat.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatIdeal.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Lin.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S2048x6144, .bf16⟩
  | .hbm, ⟨3, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LinIdeal.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S2048x6144, .bf16⟩
  | .hbm, ⟨3, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LinRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Rop.lean ====
abbrev S8192x2048 : Shape := ⟨2, ![8192, 2048]⟩
abbrev S2048x2048 : Shape := ⟨2, ![2048, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x128 : Shape := ⟨2, ![1, 128]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 77
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S128, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S_, .i1⟩
  | .hbm, ⟨54, _⟩ => ⟨S128, .i1⟩
  | .hbm, ⟨55, _⟩ => ⟨S128, .i1⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S1x128, .f32⟩
  | .hbm, ⟨72, _⟩ => ⟨S8192x128, .f32⟩
  | .hbm, ⟨73, _⟩ => ⟨S8192x128, .f32⟩
  | .hbm, ⟨74, _⟩ => ⟨S2048x2048, .bf16⟩
  | .hbm, ⟨75, _⟩ => ⟨S1x128, .f32⟩
  | .hbm, ⟨76, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopIdeal.lean ====
abbrev S8192x2048 : Shape := ⟨2, ![8192, 2048]⟩
abbrev S2048x2048 : Shape := ⟨2, ![2048, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x128 : Shape := ⟨2, ![1, 128]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 77
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S128, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S_, .i1⟩
  | .hbm, ⟨54, _⟩ => ⟨S128, .i1⟩
  | .hbm, ⟨55, _⟩ => ⟨S128, .i1⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S1x128, .f32⟩
  | .hbm, ⟨72, _⟩ => ⟨S8192x128, .f32⟩
  | .hbm, ⟨73, _⟩ => ⟨S8192x128, .f32⟩
  | .hbm, ⟨74, _⟩ => ⟨S2048x2048, .bf16⟩
  | .hbm, ⟨75, _⟩ => ⟨S1x128, .f32⟩
  | .hbm, ⟨76, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopRefIdeal.lean ====
abbrev S8192x2048 : Shape := ⟨2, ![8192, 2048]⟩
abbrev S2048x2048 : Shape := ⟨2, ![2048, 2048]⟩
abbrev S128 : Shape := ⟨1, ![128]⟩
abbrev S8192x16x128 : Shape := ⟨3, ![8192, 16, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x16 : Shape := ⟨2, ![8192, 16]⟩
abbrev S8192x16x1 : Shape := ⟨3, ![8192, 16, 1]⟩
abbrev S1x1x128 : Shape := ⟨3, ![1, 1, 128]⟩
abbrev S8192x16x64 : Shape := ⟨3, ![8192, 16, 64]⟩
abbrev S8192x16x32 : Shape := ⟨3, ![8192, 16, 32]⟩
abbrev S8192x1x128 : Shape := ⟨3, ![8192, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S128, .f32⟩
  | .hbm, ⟨3, _⟩ => ⟨S8192x2048, .f32⟩
  | .hbm, ⟨4, _⟩ => ⟨S8192x2048, .f32⟩
  | .hbm, ⟨5, _⟩ => ⟨S8192x16x128, .f32⟩
  | .hbm, ⟨6, _⟩ => ⟨S128, .f32⟩
  | .hbm, ⟨7, _⟩ => ⟨S128x64, .f32⟩
  | .hbm, ⟨8, _⟩ => ⟨S8192, .f32⟩
  | .hbm, ⟨9, _⟩ => ⟨S64, .f32⟩
  | .hbm, ⟨10, _⟩ => ⟨S1x64, .f32⟩
  | .hbm, ⟨11, _⟩ => ⟨S128x64, .f32⟩
  | .hbm, ⟨12, _⟩ => ⟨S8192, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x16x128, .f32⟩
  | .hbm, ⟨43, _⟩ => ⟨S_, .f32⟩
  | .hbm, ⟨44, _⟩ => ⟨S8192x16, .f32⟩
  | .hbm, ⟨45, _⟩ => ⟨S8192x16x1, .f32⟩
  | .hbm, ⟨46, _⟩ => ⟨S_, .f32⟩
  | .hbm, ⟨47, _⟩ => ⟨S8192x16x1, .f32⟩
  | .hbm, ⟨48, _⟩ => ⟨S8192x16x1, .f32⟩
  | .hbm, ⟨49, _⟩ => ⟨S_, .f32⟩
  | .hbm, ⟨50, _⟩ => ⟨S8192x16x1, .f32⟩
  | .hbm, ⟨51, _⟩ => ⟨S8192x16x1, .f32⟩
  | .hbm, ⟨52, _⟩ => ⟨S8192x16x1, .f32⟩
  | .hbm, ⟨53, _⟩ => ⟨S8192x16x128, .f32⟩
  | .hbm, ⟨54, _⟩ => ⟨S8192x16x128, .f32⟩
  | .hbm, ⟨55, _⟩ => ⟨S1x1x128, .f32⟩
  | .hbm, ⟨56, _⟩ => ⟨S8192x16x128, .f32⟩
  | .hbm, ⟨57, _⟩ => ⟨S8192x16x128, .f32⟩
  | .hbm, ⟨58, _⟩ => ⟨S8192x16x64, .f32⟩
  | .hbm, ⟨59, _⟩ => ⟨S8192x16x64, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x128, .f32⟩
  | .hbm, ⟨67, _⟩ => ⟨S8192x1x128, .f32⟩
  | .hbm, ⟨68, _⟩ => ⟨S8192x16x128, .f32⟩
  | .hbm, ⟨69, _⟩ => ⟨S8192x16x128, .f32⟩
  | .hbm, ⟨70, _⟩ => ⟨S8192x1x128, .f32⟩
  | .hbm, ⟨71, _⟩ => ⟨S8192x16x128, .f32⟩
  | .hbm, ⟨72, _⟩ => ⟨S8192x16x128, .f32⟩
  | .hbm, ⟨73, _⟩ => ⟨S8192x16x128, .f32⟩
  | .hbm, ⟨74, _⟩ => ⟨S8192x2048, .f32⟩
  | .hbm, ⟨75, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩

abbrev nD : Nat := 1
abbrev τ : Topo := Topo.v7x

variable {F : FTy → Type} [FloatOps F]
-- ==== Val.lean ====
abbrev S8192x2048 : Shape := ⟨2, ![8192, 2048]⟩
abbrev S2048x2048 : Shape := ⟨2, ![2048, 2048]⟩
abbrev S8x32x256x256 : Shape := ⟨4, ![8, 32, 256, 256]⟩
abbrev S256x2048 : Shape := ⟨2, ![256, 2048]⟩
abbrev S1024x2048 : Shape := ⟨2, ![1024, 2048]⟩
abbrev S1x4x256x256 : Shape := ⟨4, ![1, 4, 256, 256]⟩
abbrev S256x1024 : Shape := ⟨2, ![256, 1024]⟩
abbrev S256x256 : Shape := ⟨2, ![256, 256]⟩
abbrev S1x1x256x256 : Shape := ⟨4, ![1, 1, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S8x32x256x256, .bf16⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4x256x256, .bf16⟩
  | .local _ .vmem, ⟨5, _⟩ => ⟨S1x4x256x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValIdeal.lean ====
abbrev S8192x2048 : Shape := ⟨2, ![8192, 2048]⟩
abbrev S2048x2048 : Shape := ⟨2, ![2048, 2048]⟩
abbrev S8x32x256x256 : Shape := ⟨4, ![8, 32, 256, 256]⟩
abbrev S256x2048 : Shape := ⟨2, ![256, 2048]⟩
abbrev S1024x2048 : Shape := ⟨2, ![1024, 2048]⟩
abbrev S1x4x256x256 : Shape := ⟨4, ![1, 4, 256, 256]⟩
abbrev S256x1024 : Shape := ⟨2, ![256, 1024]⟩
abbrev S256x256 : Shape := ⟨2, ![256, 256]⟩
abbrev S1x1x256x256 : Shape := ⟨4, ![1, 1, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S8x32x256x256, .bf16⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4x256x256, .bf16⟩
  | .local _ .vmem, ⟨5, _⟩ => ⟨S1x4x256x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValRefIdeal.lean ====
abbrev S8192x2048 : Shape := ⟨2, ![8192, 2048]⟩
abbrev S2048x2048 : Shape := ⟨2, ![2048, 2048]⟩
abbrev S32x256x8x256 : Shape := ⟨4, ![32, 256, 8, 256]⟩
abbrev S8x32x256x256 : Shape := ⟨4, ![8, 32, 256, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S32x256x8x256, .f32⟩
  | .hbm, ⟨5, _⟩ => ⟨S8x32x256x256, .f32⟩
  | .hbm, ⟨6, _⟩ => ⟨S8x32x256x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Swk.lean ====
abbrev S8192x2048 : Shape := ⟨2, ![8192, 2048]⟩
abbrev S2048x512 : Shape := ⟨2, ![2048, 512]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x128 : Shape := ⟨2, ![1, 128]⟩
abbrev S8192x512 : Shape := ⟨2, ![8192, 512]⟩
abbrev S1024x2048 : Shape := ⟨2, ![1024, 2048]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 77
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S128, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S_, .i1⟩
  | .hbm, ⟨54, _⟩ => ⟨S128, .i1⟩
  | .hbm, ⟨55, _⟩ => ⟨S128, .i1⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S1x128, .f32⟩
  | .hbm, ⟨72, _⟩ => ⟨S8192x128, .f32⟩
  | .hbm, ⟨73, _⟩ => ⟨S8192x128, .f32⟩
  | .hbm, ⟨74, _⟩ => ⟨S2048x512, .bf16⟩
  | .hbm, ⟨75, _⟩ => ⟨S1x128, .f32⟩
  | .hbm, ⟨76, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwkRefIdeal.lean ====
abbrev S8192x2048 : Shape := ⟨2, ![8192, 2048]⟩
abbrev S2048x512 : Shape := ⟨2, ![2048, 512]⟩
abbrev S128 : Shape := ⟨1, ![128]⟩
abbrev S8192x512 : Shape := ⟨2, ![8192, 512]⟩
abbrev S8192x4x128 : Shape := ⟨3, ![8192, 4, 128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x4 : Shape := ⟨2, ![8192, 4]⟩
abbrev S8192x4x1 : Shape := ⟨3, ![8192, 4, 1]⟩
abbrev S1x1x128 : Shape := ⟨3, ![1, 1, 128]⟩
abbrev S8192x4x64 : Shape := ⟨3, ![8192, 4, 64]⟩
abbrev S8192x4x32 : Shape := ⟨3, ![8192, 4, 32]⟩
abbrev S8192x1x128 : Shape := ⟨3, ![8192, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S128, .f32⟩
  | .hbm, ⟨3, _⟩ => ⟨S8192x2048, .f32⟩
  | .hbm, ⟨4, _⟩ => ⟨S8192x512, .f32⟩
  | .hbm, ⟨5, _⟩ => ⟨S8192x4x128, .f32⟩
  | .hbm, ⟨6, _⟩ => ⟨S128, .f32⟩
  | .hbm, ⟨7, _⟩ => ⟨S128x64, .f32⟩
  | .hbm, ⟨8, _⟩ => ⟨S8192, .f32⟩
  | .hbm, ⟨9, _⟩ => ⟨S64, .f32⟩
  | .hbm, ⟨10, _⟩ => ⟨S1x64, .f32⟩
  | .hbm, ⟨11, _⟩ => ⟨S128x64, .f32⟩
  | .hbm, ⟨12, _⟩ => ⟨S8192, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S8192x1, .f32⟩
  | .hbm, ⟨30, _⟩ => ⟨S1x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x4x128, .f32⟩
  | .hbm, ⟨43, _⟩ => ⟨S_, .f32⟩
  | .hbm, ⟨44, _⟩ => ⟨S8192x4, .f32⟩
  | .hbm, ⟨45, _⟩ => ⟨S8192x4x1, .f32⟩
  | .hbm, ⟨46, _⟩ => ⟨S_, .f32⟩
  | .hbm, ⟨47, _⟩ => ⟨S8192x4x1, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S8192x4x1, .f32⟩
  | .hbm, ⟨52, _⟩ => ⟨S8192x4x1, .f32⟩
  | .hbm, ⟨53, _⟩ => ⟨S8192x4x128, .f32⟩
  | .hbm, ⟨54, _⟩ => ⟨S8192x4x128, .f32⟩
  | .hbm, ⟨55, _⟩ => ⟨S1x1x128, .f32⟩
  | .hbm, ⟨56, _⟩ => ⟨S8192x4x128, .f32⟩
  | .hbm, ⟨57, _⟩ => ⟨S8192x4x128, .f32⟩
  | .hbm, ⟨58, _⟩ => ⟨S8192x4x64, .f32⟩
  | .hbm, ⟨59, _⟩ => ⟨S8192x4x64, .f32⟩
  | .hbm, ⟨60, _⟩ => ⟨S8192x4x32, .f32⟩
  | .hbm, ⟨61, _⟩ => ⟨S8192x4x32, .f32⟩
  | .hbm, ⟨62, _⟩ => ⟨S8192x4x32, .f32⟩
  | .hbm, ⟨63, _⟩ => ⟨S8192x4x32, .f32⟩
  | .hbm, ⟨64, _⟩ => ⟨S8192x4x32, .f32⟩
  | .hbm, ⟨65, _⟩ => ⟨S8192x4x32, .f32⟩
  | .hbm, ⟨66, _⟩ => ⟨S8192x4x128, .f32⟩
  | .hbm, ⟨67, _⟩ => ⟨S8192x1x128, .f32⟩
  | .hbm, ⟨68, _⟩ => ⟨S8192x4x128, .f32⟩
  | .hbm, ⟨69, _⟩ => ⟨S8192x4x128, .f32⟩
  | .hbm, ⟨70, _⟩ => ⟨S8192x1x128, .f32⟩
  | .hbm, ⟨71, _⟩ => ⟨S8192x4x128, .f32⟩
  | .hbm, ⟨72, _⟩ => ⟨S8192x4x128, .f32⟩
  | .hbm, ⟨73, _⟩ => ⟨S8192x4x128, .f32⟩
  | .hbm, ⟨74, _⟩ => ⟨S8192x512, .f32⟩
  | .hbm, ⟨75, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩

abbrev nD : Nat := 1
abbrev τ : Topo := Topo.v7x

variable {F : FTy → Type} [FloatOps F]
-- ==== Swv.lean ====
abbrev S8192x2048 : Shape := ⟨2, ![8192, 2048]⟩
abbrev S2048x512 : Shape := ⟨2, ![2048, 512]⟩
abbrev S512x2048 : Shape := ⟨2, ![512, 2048]⟩
abbrev S4x32x128x256 : Shape := ⟨4, ![4, 32, 128, 256]⟩
abbrev S128x2048 : Shape := ⟨2, ![128, 2048]⟩
abbrev S1024x2048 : Shape := ⟨2, ![1024, 2048]⟩
abbrev S1x4x128x256 : Shape := ⟨4, ![1, 4, 128, 256]⟩
abbrev S128x1024 : Shape := ⟨2, ![128, 1024]⟩
abbrev S128x256 : Shape := ⟨2, ![128, 256]⟩
abbrev S1x1x128x256 : Shape := ⟨4, ![1, 1, 128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S2048x512, .bf16⟩
  | .hbm, ⟨3, _⟩ => ⟨S512x2048, .bf16⟩
  | .hbm, ⟨4, _⟩ => ⟨S4x32x128x256, .bf16⟩
  | .local _ .vmem, ⟨0, _⟩ => ⟨S128x2048, .bf16⟩
  | .local _ .vmem, ⟨1, _⟩ => ⟨S128x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4x128x256, .bf16⟩
  | .local _ .vmem, ⟨5, _⟩ => ⟨S1x4x128x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwvIdeal.lean ====
abbrev S8192x2048 : Shape := ⟨2, ![8192, 2048]⟩
abbrev S2048x512 : Shape := ⟨2, ![2048, 512]⟩
abbrev S512x2048 : Shape := ⟨2, ![512, 2048]⟩
abbrev S4x32x128x256 : Shape := ⟨4, ![4, 32, 128, 256]⟩
abbrev S128x2048 : Shape := ⟨2, ![128, 2048]⟩
abbrev S1024x2048 : Shape := ⟨2, ![1024, 2048]⟩
abbrev S1x4x128x256 : Shape := ⟨4, ![1, 4, 128, 256]⟩
abbrev S128x1024 : Shape := ⟨2, ![128, 1024]⟩
abbrev S128x256 : Shape := ⟨2, ![128, 256]⟩
abbrev S1x1x128x256 : Shape := ⟨4, ![1, 1, 128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S2048x512, .bf16⟩
  | .hbm, ⟨3, _⟩ => ⟨S512x2048, .bf16⟩
  | .hbm, ⟨4, _⟩ => ⟨S4x32x128x256, .bf16⟩
  | .local _ .vmem, ⟨0, _⟩ => ⟨S128x2048, .bf16⟩
  | .local _ .vmem, ⟨1, _⟩ => ⟨S128x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4x128x256, .bf16⟩
  | .local _ .vmem, ⟨5, _⟩ => ⟨S1x4x128x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwvRefIdeal.lean ====
abbrev S8192x2048 : Shape := ⟨2, ![8192, 2048]⟩
abbrev S2048x512 : Shape := ⟨2, ![2048, 512]⟩
abbrev S8192x512 : Shape := ⟨2, ![8192, 512]⟩
abbrev S32x256x4x128 : Shape := ⟨4, ![32, 256, 4, 128]⟩
abbrev S4x32x128x256 : Shape := ⟨4, ![4, 32, 128, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S8192x2048, .f32⟩
  | .hbm, ⟨3, _⟩ => ⟨S8192x512, .f32⟩
  | .hbm, ⟨4, _⟩ => ⟨S32x256x4x128, .f32⟩
  | .hbm, ⟨5, _⟩ => ⟨S4x32x128x256, .f32⟩
  | .hbm, ⟨6, _⟩ => ⟨S4x32x128x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mlv.lean ====
abbrev S8192x256 : Shape := ⟨2, ![8192, 256]⟩
abbrev S256x2048 : Shape := ⟨2, ![256, 2048]⟩
abbrev S2048x256 : Shape := ⟨2, ![2048, 256]⟩
abbrev S16x32x128x256 : Shape := ⟨4, ![16, 32, 128, 256]⟩
abbrev S128x256 : Shape := ⟨2, ![128, 256]⟩
abbrev S1024x256 : Shape := ⟨2, ![1024, 256]⟩
abbrev S1x4x128x256 : Shape := ⟨4, ![1, 4, 128, 256]⟩
abbrev S128x1024 : Shape := ⟨2, ![128, 1024]⟩
abbrev S1x1x128x256 : Shape := ⟨4, ![1, 1, 128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S256x2048, .bf16⟩
  | .hbm, ⟨3, _⟩ => ⟨S2048x256, .bf16⟩
  | .hbm, ⟨4, _⟩ => ⟨S16x32x128x256, .bf16⟩
  | .local _ .vmem, ⟨0, _⟩ => ⟨S128x256, .bf16⟩
  | .local _ .vmem, ⟨1, _⟩ => ⟨S128x256, .bf16⟩
  | .local _ .vmem, ⟨2, _⟩ => ⟨S1024x256, .bf16⟩
  | .local _ .vmem, ⟨3, _⟩ => ⟨S1024x256, .bf16⟩
  | .local _ .vmem, ⟨4, _⟩ => ⟨S1x4x128x256, .bf16⟩
  | .local _ .vmem, ⟨5, _⟩ => ⟨S1x4x128x256, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlvIdeal.lean ====
abbrev S8192x256 : Shape := ⟨2, ![8192, 256]⟩
abbrev S256x2048 : Shape := ⟨2, ![256, 2048]⟩
abbrev S2048x256 : Shape := ⟨2, ![2048, 256]⟩
abbrev S16x32x128x256 : Shape := ⟨4, ![16, 32, 128, 256]⟩
abbrev S128x256 : Shape := ⟨2, ![128, 256]⟩
abbrev S1024x256 : Shape := ⟨2, ![1024, 256]⟩
abbrev S1x4x128x256 : Shape := ⟨4, ![1, 4, 128, 256]⟩
abbrev S128x1024 : Shape := ⟨2, ![128, 1024]⟩
abbrev S1x1x128x256 : Shape := ⟨4, ![1, 1, 128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S256x2048, .bf16⟩
  | .hbm, ⟨3, _⟩ => ⟨S2048x256, .bf16⟩
  | .hbm, ⟨4, _⟩ => ⟨S16x32x128x256, .bf16⟩
  | .local _ .vmem, ⟨0, _⟩ => ⟨S128x256, .bf16⟩
  | .local _ .vmem, ⟨1, _⟩ => ⟨S128x256, .bf16⟩
  | .local _ .vmem, ⟨2, _⟩ => ⟨S1024x256, .bf16⟩
  | .local _ .vmem, ⟨3, _⟩ => ⟨S1024x256, .bf16⟩
  | .local _ .vmem, ⟨4, _⟩ => ⟨S1x4x128x256, .bf16⟩
  | .local _ .vmem, ⟨5, _⟩ => ⟨S1x4x128x256, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlvRefIdeal.lean ====
abbrev S8192x256 : Shape := ⟨2, ![8192, 256]⟩
abbrev S256x2048 : Shape := ⟨2, ![256, 2048]⟩
abbrev S8192x2048 : Shape := ⟨2, ![8192, 2048]⟩
abbrev S32x256x16x128 : Shape := ⟨4, ![32, 256, 16, 128]⟩
abbrev S16x32x128x256 : Shape := ⟨4, ![16, 32, 128, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S8192x256, .f32⟩
  | .hbm, ⟨3, _⟩ => ⟨S8192x2048, .f32⟩
  | .hbm, ⟨4, _⟩ => ⟨S32x256x16x128, .f32⟩
  | .hbm, ⟨5, _⟩ => ⟨S16x32x128x256, .f32⟩
  | .hbm, ⟨6, _⟩ => ⟨S16x32x128x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mcq.lean ====
abbrev S8192x2048 : Shape := ⟨2, ![8192, 2048]⟩
abbrev S2048x512 : Shape := ⟨2, ![2048, 512]⟩
abbrev S512 : Shape := ⟨1, ![512]⟩
abbrev S1x512 : Shape := ⟨2, ![1, 512]⟩
abbrev S8192x512 : Shape := ⟨2, ![8192, 512]⟩
abbrev S1024x2048 : Shape := ⟨2, ![1024, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S512, .f32⟩
  | .hbm, ⟨3, _⟩ => ⟨S2048x512, .bf16⟩
  | .hbm, ⟨4, _⟩ => ⟨S1x512, .f32⟩
  | .hbm, ⟨5, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== McqIdeal.lean ====
abbrev S8192x2048 : Shape := ⟨2, ![8192, 2048]⟩
abbrev S2048x512 : Shape := ⟨2, ![2048, 512]⟩
abbrev S512 : Shape := ⟨1, ![512]⟩
abbrev S1x512 : Shape := ⟨2, ![1, 512]⟩
abbrev S8192x512 : Shape := ⟨2, ![8192, 512]⟩
abbrev S1024x2048 : Shape := ⟨2, ![1024, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S512, .f32⟩
  | .hbm, ⟨3, _⟩ => ⟨S2048x512, .bf16⟩
  | .hbm, ⟨4, _⟩ => ⟨S1x512, .f32⟩
  | .hbm, ⟨5, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== McqRefIdeal.lean ====
abbrev S8192x2048 : Shape := ⟨2, ![8192, 2048]⟩
abbrev S2048x512 : Shape := ⟨2, ![2048, 512]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S512, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Mck.lean ====
abbrev S8192x2048 : Shape := ⟨2, ![8192, 2048]⟩
abbrev S2048x256 : Shape := ⟨2, ![2048, 256]⟩
abbrev S256 : Shape := ⟨1, ![256]⟩
abbrev S1x256 : Shape := ⟨2, ![1, 256]⟩
abbrev S8192x256 : Shape := ⟨2, ![8192, 256]⟩
abbrev S1024x2048 : Shape := ⟨2, ![1024, 2048]⟩
abbrev S1024x256 : Shape := ⟨2, ![1024, 256]⟩
abbrev S256x2048 : Shape := ⟨2, ![256, 2048]⟩
abbrev S256x256 : Shape := ⟨2, ![256, 256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x256, .f32⟩
  | .hbm, ⟨2, _⟩ => ⟨S256, .f32⟩
  | .hbm, ⟨3, _⟩ => ⟨S2048x256, .bf16⟩
  | .hbm, ⟨4, _⟩ => ⟨S1x256, .f32⟩
  | .hbm, ⟨5, _⟩ => ⟨S8192x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MckRefIdeal.lean ====
abbrev S8192x2048 : Shape := ⟨2, ![8192, 2048]⟩
abbrev S2048x256 : Shape := ⟨2, ![2048, 256]⟩
abbrev S256 : Shape := ⟨1, ![256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x256, .f32⟩
  | .hbm, ⟨2, _⟩ => ⟨S256, .f32⟩
  | .hbm, ⟨3, _⟩ => ⟨S8192x2048, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S8192x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Mkn.lean ====
abbrev S8192x256 : Shape := ⟨2, ![8192, 256]⟩
abbrev S256x2048 : Shape := ⟨2, ![256, 2048]⟩
abbrev S128 : Shape := ⟨1, ![128]⟩
abbrev S1x128 : Shape := ⟨2, ![1, 128]⟩
abbrev S8192x2048 : Shape := ⟨2, ![8192, 2048]⟩
abbrev S1024x256 : Shape := ⟨2, ![1024, 256]⟩
abbrev S256x512 : Shape := ⟨2, ![256, 512]⟩
abbrev S1024x512 : Shape := ⟨2, ![1024, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S128, .f32⟩
  | .hbm, ⟨3, _⟩ => ⟨S256x2048, .bf16⟩
  | .hbm, ⟨4, _⟩ => ⟨S1x128, .f32⟩
  | .hbm, ⟨5, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MknIdeal.lean ====
abbrev S8192x256 : Shape := ⟨2, ![8192, 256]⟩
abbrev S256x2048 : Shape := ⟨2, ![256, 2048]⟩
abbrev S128 : Shape := ⟨1, ![128]⟩
abbrev S1x128 : Shape := ⟨2, ![1, 128]⟩
abbrev S8192x2048 : Shape := ⟨2, ![8192, 2048]⟩
abbrev S1024x256 : Shape := ⟨2, ![1024, 256]⟩
abbrev S256x512 : Shape := ⟨2, ![256, 512]⟩
abbrev S1024x512 : Shape := ⟨2, ![1024, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S128, .f32⟩
  | .hbm, ⟨3, _⟩ => ⟨S256x2048, .bf16⟩
  | .hbm, ⟨4, _⟩ => ⟨S1x128, .f32⟩
  | .hbm, ⟨5, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MknRefIdeal.lean ====
abbrev S8192x256 : Shape := ⟨2, ![8192, 256]⟩
abbrev S256x2048 : Shape := ⟨2, ![256, 2048]⟩
abbrev S128 : Shape := ⟨1, ![128]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S128, .f32⟩
  | .hbm, ⟨3, _⟩ => ⟨S8192x256, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S_, .f32⟩
  | .hbm, ⟨8, _⟩ => ⟨S8192x16, .f32⟩
  | .hbm, ⟨9, _⟩ => ⟨S8192x16x1, .f32⟩
  | .hbm, ⟨10, _⟩ => ⟨S_, .f32⟩
  | .hbm, ⟨11, _⟩ => ⟨S8192x16x1, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S8192x16x1, .f32⟩
  | .hbm, ⟨17, _⟩ => ⟨S8192x16x128, .f32⟩
  | .hbm, ⟨18, _⟩ => ⟨S8192x16x128, .f32⟩
  | .hbm, ⟨19, _⟩ => ⟨S1x1x128, .f32⟩
  | .hbm, ⟨20, _⟩ => ⟨S8192x16x128, .f32⟩
  | .hbm, ⟨21, _⟩ => ⟨S8192x16x128, .f32⟩
  | .hbm, ⟨22, _⟩ => ⟨S8192x2048, .f32⟩
  | .hbm, ⟨23, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mlq.lean ====
abbrev S8192x512 : Shape := ⟨2, ![8192, 512]⟩
abbrev S512x3072 : Shape := ⟨2, ![512, 3072]⟩
abbrev S128 : Shape := ⟨1, ![128]⟩
abbrev S64 : Shape := ⟨1, ![64]⟩
abbrev S512x16x192 : Shape := ⟨3, ![512, 16, 192]⟩
abbrev S_ : Shape := ⟨0, ![]⟩
abbrev S512x16x256 : Shape := ⟨3, ![512, 16, 256]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S512x4096 : Shape := ⟨2, ![512, 4096]⟩
abbrev S1x128 : Shape := ⟨2, ![1, 128]⟩
abbrev S8192x128 : Shape := ⟨2, ![8192, 128]⟩
abbrev S8192x4096 : Shape := ⟨2, ![8192, 4096]⟩
abbrev S1024x512 : Shape := ⟨2, ![1024, 512]⟩
abbrev S512x512 : Shape := ⟨2, ![512, 512]⟩
abbrev S1024x128 : Shape := ⟨2, ![1024, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 93
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S512x3072, .f32⟩
  | .hbm, ⟨2, _⟩ => ⟨S128, .f32⟩
  | .hbm, ⟨3, _⟩ => ⟨S64, .f32⟩
  | .hbm, ⟨4, _⟩ => ⟨S512x16x192, .f32⟩
  | .hbm, ⟨5, _⟩ => ⟨S_, .i32⟩
  | .hbm, ⟨6, _⟩ => ⟨S_, .f32⟩
  | .hbm, ⟨7, _⟩ => ⟨S512x16x256, .f32⟩
  | .hbm, ⟨8, _⟩ => ⟨S128, .f32⟩
  | .hbm, ⟨9, _⟩ => ⟨S128x64, .f32⟩
  | .hbm, ⟨10, _⟩ => ⟨S8192, .f32⟩
  | .hbm, ⟨11, _⟩ => ⟨S64, .f32⟩
  | .hbm, ⟨12, _⟩ => ⟨S1x64, .f32⟩
  | .hbm, ⟨13, _⟩ => ⟨S128x64, .f32⟩
  | .hbm, ⟨14, _⟩ => ⟨S8192, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S8192x1, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x1, .f32⟩
  | .hbm, ⟨37, _⟩ => ⟨S1x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x64, .f32⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S_, .i32⟩
  | .hbm, ⟨58, _⟩ => ⟨S_, .i1⟩
  | .hbm, ⟨59, _⟩ => ⟨S64, .i1⟩
  | .hbm, ⟨60, _⟩ => ⟨S64, .i1⟩
  | .hbm, ⟨61, _⟩ => ⟨S64, .i1⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S_, .i32⟩
  | .hbm, ⟨66, _⟩ => ⟨S64, .i32⟩
  | .hbm, ⟨67, _⟩ => ⟨S64, .i1⟩
  | .hbm, ⟨68, _⟩ => ⟨S_, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S8192x64, .f32⟩
  | .hbm, ⟨74, _⟩ => ⟨S8192x64, .f32⟩
  | .hbm, ⟨75, _⟩ => ⟨S1x64, .f32⟩
  | .hbm, ⟨76, _⟩ => ⟨S1x64, .f32⟩
  | .hbm, ⟨77, _⟩ => ⟨S8192x64, .f32⟩
  | .hbm, ⟨78, _⟩ => ⟨S8192x64, .f32⟩
  | .hbm, ⟨79, _⟩ => ⟨S512x4096, .f32⟩
  | .hbm, ⟨80, _⟩ => ⟨S512x4096, .bf16⟩
  | .hbm, ⟨81, _⟩ => ⟨S1x128, .f32⟩
  | .hbm, ⟨82, _⟩ => ⟨S1x64, .f32⟩
  | .hbm, ⟨83, _⟩ => ⟨S_, .i32⟩
  | .hbm, ⟨84, _⟩ => ⟨S_, .f32⟩
  | .hbm, ⟨85, _⟩ => ⟨S1x128, .f32⟩
  | .hbm, ⟨86, _⟩ => ⟨S_, .i32⟩
  | .hbm, ⟨87, _⟩ => ⟨S_, .f32⟩
  | .hbm, ⟨88, _⟩ => ⟨S8192x128, .f32⟩
  | .hbm, ⟨89, _⟩ => ⟨S_, .i32⟩
  | .hbm, ⟨90, _⟩ => ⟨S_, .f32⟩
  | .hbm, ⟨91, _⟩ => ⟨S8192x128, .f32⟩
  | .hbm, ⟨92, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_8 : Ref sig .tc := ⟨.hbm, 83, rfl⟩
abbrev main_call3_v0 : Ref sig .tc := ⟨.hbm, 84, rfl⟩
abbrev main_v46 : Ref sig .tc := ⟨.hbm, 85, rfl⟩
abbrev main_c_9 : Ref sig .tc := ⟨.hbm, 86, rfl⟩
abbrev main_call4_v0 : Ref sig .tc := ⟨.hbm, 87, rfl⟩
abbrev main_v47 : Ref sig .tc := ⟨.hbm, 88, rfl⟩
abbrev main_c_10 : Ref sig .tc := ⟨.hbm, 89, rfl⟩
abbrev main_call5_v0 : Ref sig .tc := ⟨.hbm, 90, rfl⟩
abbrev main_v48 : Ref sig .tc := ⟨.hbm, 91, rfl⟩
abbrev main_v49 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlqRefIdeal.lean ====
abbrev S8192x512 : Shape := ⟨2, ![8192, 512]⟩
abbrev S512x3072 : Shape := ⟨2, ![512, 3072]⟩
abbrev S128 : Shape := ⟨1, ![128]⟩
abbrev S64 : Shape := ⟨1, ![64]⟩
abbrev S8192x3072 : Shape := ⟨2, ![8192, 3072]⟩
abbrev S8192x16x192 : Shape := ⟨3, ![8192, 16, 192]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x16x128 : Shape := ⟨3, ![8192, 16, 128]⟩
abbrev S8192x16x1 : Shape := ⟨3, ![8192, 16, 1]⟩
abbrev S1x1x128 : Shape := ⟨3, ![1, 1, 128]⟩
abbrev S8192x16x64 : Shape := ⟨3, ![8192, 16, 64]⟩
abbrev S1x1x64 : Shape := ⟨3, ![1, 1, 64]⟩
abbrev S8192x16x32 : Shape := ⟨3, ![8192, 16, 32]⟩
abbrev S8192x16x16 : Shape := ⟨3, ![8192, 16, 16]⟩
abbrev S8192x1x64 : Shape := ⟨3, ![8192, 1, 64]⟩
abbrev S8192x16x256 : Shape := ⟨3, ![8192, 16, 256]⟩
abbrev S8192x4096 : Shape := ⟨2, ![8192, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x3072, .f32⟩
  | .hbm, ⟨2, _⟩ => ⟨S128, .f32⟩
  | .hbm, ⟨3, _⟩ => ⟨S64, .f32⟩
  | .hbm, ⟨4, _⟩ => ⟨S8192x512, .f32⟩
  | .hbm, ⟨5, _⟩ => ⟨S8192x3072, .f32⟩
  | .hbm, ⟨6, _⟩ => ⟨S8192x16x192, .f32⟩
  | .hbm, ⟨7, _⟩ => ⟨S128, .f32⟩
  | .hbm, ⟨8, _⟩ => ⟨S128x64, .f32⟩
  | .hbm, ⟨9, _⟩ => ⟨S8192, .f32⟩
  | .hbm, ⟨10, _⟩ => ⟨S64, .f32⟩
  | .hbm, ⟨11, _⟩ => ⟨S1x64, .f32⟩
  | .hbm, ⟨12, _⟩ => ⟨S128x64, .f32⟩
  | .hbm, ⟨13, _⟩ => ⟨S8192, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x1, .f32⟩
  | .hbm, ⟨36, _⟩ => ⟨S1x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x16x128, .f32⟩
  | .hbm, ⟨44, _⟩ => ⟨S8192x16x128, .f32⟩
  | .hbm, ⟨45, _⟩ => ⟨S_, .f32⟩
  | .hbm, ⟨46, _⟩ => ⟨S8192x16, .f32⟩
  | .hbm, ⟨47, _⟩ => ⟨S8192x16x1, .f32⟩
  | .hbm, ⟨48, _⟩ => ⟨S_, .f32⟩
  | .hbm, ⟨49, _⟩ => ⟨S8192x16x1, .f32⟩
  | .hbm, ⟨50, _⟩ => ⟨S8192x16x1, .f32⟩
  | .hbm, ⟨51, _⟩ => ⟨S_, .f32⟩
  | .hbm, ⟨52, _⟩ => ⟨S8192x16x1, .f32⟩
  | .hbm, ⟨53, _⟩ => ⟨S8192x16x1, .f32⟩
  | .hbm, ⟨54, _⟩ => ⟨S8192x16x1, .f32⟩
  | .hbm, ⟨55, _⟩ => ⟨S8192x16x128, .f32⟩
  | .hbm, ⟨56, _⟩ => ⟨S8192x16x128, .f32⟩
  | .hbm, ⟨57, _⟩ => ⟨S1x1x128, .f32⟩
  | .hbm, ⟨58, _⟩ => ⟨S8192x16x128, .f32⟩
  | .hbm, ⟨59, _⟩ => ⟨S8192x16x128, .f32⟩
  | .hbm, ⟨60, _⟩ => ⟨S8192x16x64, .f32⟩
  | .hbm, ⟨61, _⟩ => ⟨S8192x16x64, .f32⟩
  | .hbm, ⟨62, _⟩ => ⟨S_, .f32⟩
  | .hbm, ⟨63, _⟩ => ⟨S8192x16, .f32⟩
  | .hbm, ⟨64, _⟩ => ⟨S8192x16x1, .f32⟩
  | .hbm, ⟨65, _⟩ => ⟨S_, .f32⟩
  | .hbm, ⟨66, _⟩ => ⟨S8192x16x1, .f32⟩
  | .hbm, ⟨67, _⟩ => ⟨S8192x16x1, .f32⟩
  | .hbm, ⟨68, _⟩ => ⟨S_, .f32⟩
  | .hbm, ⟨69, _⟩ => ⟨S8192x16x1, .f32⟩
  | .hbm, ⟨70, _⟩ => ⟨S8192x16x1, .f32⟩
  | .hbm, ⟨71, _⟩ => ⟨S8192x16x1, .f32⟩
  | .hbm, ⟨72, _⟩ => ⟨S8192x16x64, .f32⟩
  | .hbm, ⟨73, _⟩ => ⟨S8192x16x64, .f32⟩
  | .hbm, ⟨74, _⟩ => ⟨S1x1x64, .f32⟩
  | .hbm, ⟨75, _⟩ => ⟨S8192x16x64, .f32⟩
  | .hbm, ⟨76, _⟩ => ⟨S8192x16x64, .f32⟩
  | .hbm, ⟨77, _⟩ => ⟨S8192x16x32, .f32⟩
  | .hbm, ⟨78, _⟩ => ⟨S8192x16x32, .f32⟩
  | .hbm, ⟨79, _⟩ => ⟨S8192x16x16, .f32⟩
  | .hbm, ⟨80, _⟩ => ⟨S8192x16x16, .f32⟩
  | .hbm, ⟨81, _⟩ => ⟨S8192x16x16, .f32⟩
  | .hbm, ⟨82, _⟩ => ⟨S8192x16x16, .f32⟩
  | .hbm, ⟨83, _⟩ => ⟨S8192x16x16, .f32⟩
  | .hbm, ⟨84, _⟩ => ⟨S8192x16x16, .f32⟩
  | .hbm, ⟨85, _⟩ => ⟨S8192x16x64, .f32⟩
  | .hbm, ⟨86, _⟩ => ⟨S8192x1x64, .f32⟩
  | .hbm, ⟨87, _⟩ => ⟨S8192x16x64, .f32⟩
  | .hbm, ⟨88, _⟩ => ⟨S8192x16x64, .f32⟩
  | .hbm, ⟨89, _⟩ => ⟨S8192x1x64, .f32⟩
  | .hbm, ⟨90, _⟩ => ⟨S8192x16x64, .f32⟩
  | .hbm, ⟨91, _⟩ => ⟨S8192x16x64, .f32⟩
  | .hbm, ⟨92, _⟩ => ⟨S8192x16x64, .f32⟩
  | .hbm, ⟨93, _⟩ => ⟨S_, .f32⟩
  | .hbm, ⟨94, _⟩ => ⟨S8192x16x64, .f32⟩
  | .hbm, ⟨95, _⟩ => ⟨S8192x16x256, .f32⟩
  | .hbm, ⟨96, _⟩ => ⟨S8192x4096, .f32⟩
  | .hbm, ⟨97, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_10 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Mkr.lean ====
abbrev S8192x2048 : Shape := ⟨2, ![8192, 2048]⟩
abbrev S2048x64 : Shape := ⟨2, ![2048, 64]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S2048x128 : Shape := ⟨2, ![2048, 128]⟩
abbrev S1x128 : Shape := ⟨2, ![1, 128]⟩
abbrev S8192x128 : Shape := ⟨2, ![8192, 128]⟩
abbrev S1024x2048 : Shape := ⟨2, ![1024, 2048]⟩
abbrev S1024x128 : Shape := ⟨2, ![1024, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 89
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x64, .f32⟩
  | .hbm, ⟨2, _⟩ => ⟨S64, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x1, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x64, .f32⟩
  | .hbm, ⟨37, _⟩ => ⟨S64, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S_, .i1⟩
  | .hbm, ⟨54, _⟩ => ⟨S64, .i1⟩
  | .hbm, ⟨55, _⟩ => ⟨S64, .i1⟩
  | .hbm, ⟨56, _⟩ => ⟨S64, .i1⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S64, .i32⟩
  | .hbm, ⟨62, _⟩ => ⟨S64, .i1⟩
  | .hbm, ⟨63, _⟩ => ⟨S_, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S8192x64, .f32⟩
  | .hbm, ⟨69, _⟩ => ⟨S8192x64, .f32⟩
  | .hbm, ⟨70, _⟩ => ⟨S1x64, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S_, .i32⟩
  | .hbm, ⟨75, _⟩ => ⟨S_, .f32⟩
  | .hbm, ⟨76, _⟩ => ⟨S2048x128, .f32⟩
  | .hbm, ⟨77, _⟩ => ⟨S2048x128, .bf16⟩
  | .hbm, ⟨78, _⟩ => ⟨S1x64, .f32⟩
  | .hbm, ⟨79, _⟩ => ⟨S_, .i32⟩
  | .hbm, ⟨80, _⟩ => ⟨S_, .f32⟩
  | .hbm, ⟨81, _⟩ => ⟨S1x128, .f32⟩
  | .hbm, ⟨82, _⟩ => ⟨S_, .i32⟩
  | .hbm, ⟨83, _⟩ => ⟨S_, .f32⟩
  | .hbm, ⟨84, _⟩ => ⟨S8192x128, .f32⟩
  | .hbm, ⟨85, _⟩ => ⟨S_, .i32⟩
  | .hbm, ⟨86, _⟩ => ⟨S_, .f32⟩
  | .hbm, ⟨87, _⟩ => ⟨S8192x128, .f32⟩
  | .hbm, ⟨88, _⟩ => ⟨S8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_call2_v0 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_8 : Ref sig .tc := ⟨.hbm, 79, rfl⟩
abbrev main_call3_v0 : Ref sig .tc := ⟨.hbm, 80, rfl⟩
abbrev main_v43 : Ref sig .tc := ⟨.hbm, 81, rfl⟩
abbrev main_c_9 : Ref sig .tc := ⟨.hbm, 82, rfl⟩
abbrev main_call4_v0 : Ref sig .tc := ⟨.hbm, 83, rfl⟩
abbrev main_v44 : Ref sig .tc := ⟨.hbm, 84, rfl⟩
abbrev main_c_10 : Ref sig .tc := ⟨.hbm, 85, rfl⟩
abbrev main_call5_v0 : Ref sig .tc := ⟨.hbm, 86, rfl⟩
abbrev main_v45 : Ref sig .tc := ⟨.hbm, 87, rfl⟩
abbrev main_v46 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MkrRefIdeal.lean ====
abbrev S8192x2048 : Shape := ⟨2, ![8192, 2048]⟩
abbrev S2048x64 : Shape := ⟨2, ![2048, 64]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x1x64 : Shape := ⟨3, ![8192, 1, 64]⟩
abbrev S8192x1x32 : Shape := ⟨3, ![8192, 1, 32]⟩
abbrev S8192x1x16 : Shape := ⟨3, ![8192, 1, 16]⟩
abbrev S8192x128 : Shape := ⟨2, ![8192, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x64, .f32⟩
  | .hbm, ⟨2, _⟩ => ⟨S64, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x1, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S8192x2048, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x64, .f32⟩
  | .hbm, ⟨53, _⟩ => ⟨S8192x64, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S8192x1x64, .f32⟩
  | .hbm, ⟨58, _⟩ => ⟨S8192x1x32, .f32⟩
  | .hbm, ⟨59, _⟩ => ⟨S8192x1x32, .f32⟩
  | .hbm, ⟨60, _⟩ => ⟨S8192x1x16, .f32⟩
  | .hbm, ⟨61, _⟩ => ⟨S8192x1x16, .f32⟩
  | .hbm, ⟨62, _⟩ => ⟨S8192x1x16, .f32⟩
  | .hbm, ⟨63, _⟩ => ⟨S8192x1x16, .f32⟩
  | .hbm, ⟨64, _⟩ => ⟨S8192x1x16, .f32⟩
  | .hbm, ⟨65, _⟩ => ⟨S8192x1x16, .f32⟩
  | .hbm, ⟨66, _⟩ => ⟨S8192x1x64, .f32⟩
  | .hbm, ⟨67, _⟩ => ⟨S8192x1x64, .f32⟩
  | .hbm, ⟨68, _⟩ => ⟨S8192x1x64, .f32⟩
  | .hbm, ⟨69, _⟩ => ⟨S8192x1x64, .f32⟩
  | .hbm, ⟨70, _⟩ => ⟨S8192x1x64, .f32⟩
  | .hbm, ⟨71, _⟩ => ⟨S8192x1x64, .f32⟩
  | .hbm, ⟨72, _⟩ => ⟨S8192x64, .f32⟩
  | .hbm, ⟨73, _⟩ => ⟨S_, .f32⟩
  | .hbm, ⟨74, _⟩ => ⟨S8192x64, .f32⟩
  | .hbm, ⟨75, _⟩ => ⟨S8192x128, .f32⟩
  | .hbm, ⟨76, _⟩ => ⟨S8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Cou.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S2048x512 : Shape := ⟨2, ![2048, 512]⟩
abbrev S256x512 : Shape := ⟨2, ![256, 512]⟩
abbrev S1x512 : Shape := ⟨2, ![1, 512]⟩

abbrev nBuf : Space → Nat
  | .hbm => 7
  | .vmem => 9
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S256x2048, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | .local _ .vmem, ⟨5, _⟩ => ⟨S1x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CouRefIdeal.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S256x2048, .f32⟩
  | .hbm, ⟨6, _⟩ => ⟨S1x2048, .f32⟩
  | .hbm, ⟨7, _⟩ => ⟨S256x2048, .f32⟩
  | .hbm, ⟨8, _⟩ => ⟨S256x2048, .f32⟩
  | .hbm, ⟨9, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Cga.lean ====
abbrev S256x2048 : Shape := ⟨2, ![256, 2048]⟩
abbrev S2048x2048 : Shape := ⟨2, ![2048, 2048]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .bf16⟩
  | .hbm, ⟨3, _⟩ => ⟨S256x2048, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CgaRefIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Cli.lean ====
abbrev S256x2048 : Shape := ⟨2, ![256, 2048]⟩
abbrev S2048x6144 : Shape := ⟨2, ![2048, 6144]⟩
abbrev S256x6144 : Shape := ⟨2, ![256, 6144]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x6144, .f32⟩
  | .hbm, ⟨2, _⟩ => ⟨S2048x6144, .bf16⟩
  | .hbm, ⟨3, _⟩ => ⟨S256x6144, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CliRefIdeal.lean ====
abbrev S256x2048 : Shape := ⟨2, ![256, 2048]⟩
abbrev S2048x6144 : Shape := ⟨2, ![2048, 6144]⟩
abbrev S256x6144 : Shape := ⟨2, ![256, 6144]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x6144, .f32⟩
  | .hbm, ⟨2, _⟩ => ⟨S256x2048, .f32⟩
  | .hbm, ⟨3, _⟩ => ⟨S256x6144, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Chn.lean ====
abbrev S256x2048 : Shape := ⟨2, ![256, 2048]⟩
abbrev S2048x2048 : Shape := ⟨2, ![2048, 2048]⟩
abbrev S128 : Shape := ⟨1, ![128]⟩
abbrev S1x128 : Shape := ⟨2, ![1, 128]⟩
abbrev S2048x512 : Shape := ⟨2, ![2048, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S128, .f32⟩
  | .hbm, ⟨3, _⟩ => ⟨S2048x2048, .bf16⟩
  | .hbm, ⟨4, _⟩ => ⟨S1x128, .f32⟩
  | .hbm, ⟨5, _⟩ => ⟨S256x2048, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S1x128, .f32⟩
  | .local _ .vmem, ⟨4, _⟩ => ⟨S256x512, .bf16⟩
  | .local _ .vmem, ⟨5, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChnRefIdeal.lean ====
abbrev S256x2048 : Shape := ⟨2, ![256, 2048]⟩
abbrev S2048x2048 : Shape := ⟨2, ![2048, 2048]⟩
abbrev S128 : Shape := ⟨1, ![128]⟩
abbrev S256x16x128 : Shape := ⟨3, ![256, 16, 128]⟩
abbrev S_ : Shape := ⟨0, ![]⟩
abbrev S256x16 : Shape := ⟨2, ![256, 16]⟩
abbrev S256x16x1 : Shape := ⟨3, ![256, 16, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S128, .f32⟩
  | .hbm, ⟨3, _⟩ => ⟨S256x2048, .f32⟩
  | .hbm, ⟨4, _⟩ => ⟨S256x2048, .f32⟩
  | .hbm, ⟨5, _⟩ => ⟨S256x16x128, .f32⟩
  | .hbm, ⟨6, _⟩ => ⟨S256x16x128, .f32⟩
  | .hbm, ⟨7, _⟩ => ⟨S_, .f32⟩
  | .hbm, ⟨8, _⟩ => ⟨S256x16, .f32⟩
  | .hbm, ⟨9, _⟩ => ⟨S256x16x1, .f32⟩
  | .hbm, ⟨10, _⟩ => ⟨S_, .f32⟩
  | .hbm, ⟨11, _⟩ => ⟨S256x16x1, .f32⟩
  | .hbm, ⟨12, _⟩ => ⟨S256x16x1, .f32⟩
  | .hbm, ⟨13, _⟩ => ⟨S_, .f32⟩
  | .hbm, ⟨14, _⟩ => ⟨S256x16x1, .f32⟩
  | .hbm, ⟨15, _⟩ => ⟨S256x16x1, .f32⟩
  | .hbm, ⟨16, _⟩ => ⟨S256x16x1, .f32⟩
  | .hbm, ⟨17, _⟩ => ⟨S256x16x128, .f32⟩
  | .hbm, ⟨18, _⟩ => ⟨S256x16x128, .f32⟩
  | .hbm, ⟨19, _⟩ => ⟨S1x1x128, .f32⟩
  | .hbm, ⟨20, _⟩ => ⟨S256x16x128, .f32⟩
  | .hbm, ⟨21, _⟩ => ⟨S256x16x128, .f32⟩
  | .hbm, ⟨22, _⟩ => ⟨S256x2048, .f32⟩
  | .hbm, ⟨23, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Cva.lean ====
abbrev S256x2048 : Shape := ⟨2, ![256, 2048]⟩
abbrev S2048x2048 : Shape := ⟨2, ![2048, 2048]⟩
abbrev S8x1x256x256 : Shape := ⟨4, ![8, 1, 256, 256]⟩
abbrev S1x1x256x256 : Shape := ⟨4, ![1, 1, 256, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S8x1x256x256, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S1x1x256x256, .bf16⟩
  | .local _ .vmem, ⟨4, _⟩ => ⟨S1x1x256x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CvaRefIdeal.lean ====
abbrev S256x2048 : Shape := ⟨2, ![256, 2048]⟩
abbrev S2048x2048 : Shape := ⟨2, ![2048, 2048]⟩
abbrev S1x256x8x256 : Shape := ⟨4, ![1, 256, 8, 256]⟩
abbrev S8x1x256x256 : Shape := ⟨4, ![8, 1, 256, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S256x2048, .f32⟩
  | .hbm, ⟨4, _⟩ => ⟨S1x256x8x256, .f32⟩
  | .hbm, ⟨5, _⟩ => ⟨S8x1x256x256, .f32⟩
  | .hbm, ⟨6, _⟩ => ⟨S8x1x256x256, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ada.lean ====
abbrev S2048 : Shape := ⟨1, ![2048]⟩
abbrev S4x2048x6144 : Shape := ⟨3, ![4, 2048, 6144]⟩
abbrev S4x6144 : Shape := ⟨2, ![4, 6144]⟩
abbrev S2048x1 : Shape := ⟨2, ![2048, 1]⟩
abbrev S2048x2 : Shape := ⟨2, ![2048, 2]⟩
abbrev S4x1x6144 : Shape := ⟨3, ![4, 1, 6144]⟩
abbrev S4x2x6144 : Shape := ⟨3, ![4, 2, 6144]⟩
abbrev S1x2048x512 : Shape := ⟨3, ![1, 2048, 512]⟩
abbrev S1x1x512 : Shape := ⟨3, ![1, 1, 512]⟩
abbrev S1x2x512 : Shape := ⟨3, ![1, 2, 512]⟩
abbrev S2048x512 : Shape := ⟨2, ![2048, 512]⟩
abbrev S512 : Shape := ⟨1, ![512]⟩
abbrev S1x512 : Shape := ⟨2, ![1, 512]⟩
abbrev S2x512 : Shape := ⟨2, ![2, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S2048x1, .f32⟩
  | .hbm, ⟨5, _⟩ => ⟨S2048x1, .f32⟩
  | .hbm, ⟨6, _⟩ => ⟨S2048x2, .f32⟩
  | .hbm, ⟨7, _⟩ => ⟨S4x1x6144, .f32⟩
  | .hbm, ⟨8, _⟩ => ⟨S4x2x6144, .f32⟩
  | .local _ .vmem, ⟨0, _⟩ => ⟨S2048x2, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x2x512, .f32⟩
  | .local _ .vmem, ⟨6, _⟩ => ⟨S1x2x512, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2048 : Shape := ⟨1, ![2048]⟩
abbrev S4x2048x6144 : Shape := ⟨3, ![4, 2048, 6144]⟩
abbrev S4x6144 : Shape := ⟨2, ![4, 6144]⟩
abbrev S_ : Shape := ⟨0, ![]⟩
abbrev S4x1x6144 : Shape := ⟨3, ![4, 1, 6144]⟩
abbrev S4x2x6144 : Shape := ⟨3, ![4, 2, 6144]⟩

abbrev nBuf : Space → Nat
  | .hbm => 29
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S4x6144, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S4x1x6144, .f32⟩
  | .hbm, ⟨27, _⟩ => ⟨S4x1x6144, .f32⟩
  | .hbm, ⟨28, _⟩ => ⟨S4x2x6144, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Mno.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MnoIdeal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MnoRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Cmn.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CmnRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.MlaTrip.lean ====
/-
  The latent attention's kernel body: one tile of 256 keys as a step of the running
  maximum, sum and weighted values (`tile`), one trip of the loop as eight tiles (`trip`), and what a grid point writes
  as the quotient after four trips and the context tile (`out_eq`).
-/
module

public import proofs.«01_k».proof.Proof.Gen.MlaIdeal.Value
public import Idealize.ShloMosaic.Lib.Tactic
public import Idealize.ShloMosaic.Lib.VecWindow
public import Idealize.ShloMosaic.Lib.Pointwise

@[expose] public section

set_option maxRecDepth 16384

noncomputable section

namespace Cert.MlaIdeal.Body

open Cert.MlaIdeal Cert.MlaIdeal.Gen Idealize.ShloMosaic Idealize.ShloMosaic.TcCoe Idealize.SL.Sem
open Idealize.ShloMosaic.Pipeline (Dat)

variable {F : FTy → Type} [FloatOps F]

/-- The running maximum, sum and weighted values of a block of queries. -/
abbrev St (F : FTy → Type) [FloatOps F] := FVec F S1x512 .f32 × FVec F S1x512 .f32 × FVec F S128x512 .f32

/-- The same as the scratch buffers hold them. -/
abbrev Buf3 (F : FTy → Type) [FloatOps F] := Vec F S1x1x512 .f32 × Vec F S1x1x512 .f32 × Vec F S1x128x512 .f32

/-- One tile of keys: scores `s`, values `v`. -/
def tile (s : FVec F S256x512 .f32) (v : Vec F S1x1x128x256 .bf16) (st : St F) : St F :=
  (k0_pay17 s st.1, k0_pay20 k0_pay59 s st.1 st.2.1 v, k0_pay21 k0_pay59 s st.1 st.2.2 v)

/-- The tile's scores from the queries and the two parts of the keys. -/
abbrev score (q : Vec F S512x256 .bf16) (a b : Vec F S256x128 .bf16) : FVec F S256x512 .f32 := k0_pay9 q a b

/-- What the body reads of the scratch buffers. -/
def down (b : Buf3 F) : St F := (k0_pay3 b.1, k0_pay4 b.2.1, k0_pay5 b.2.2)

/-- What the body stores to the scratch buffers. -/
def up (st : St F) : Buf3 F :=
  (shapeCast S1x1x512 st.1 shapeCasts_S1x512_S1x1x512, shapeCast S1x1x512 st.2.1 shapeCasts_S1x512_S1x1x512, k0_pay1 st.2.2)

/-- The first `n` of a trip's tiles. -/
def tiles (q : Vec F S512x256 .bf16) (a b : ℕ → Vec F S256x128 .bf16) (v : ℕ → Vec F S1x1x128x256 .bf16) (st : St F) : ℕ → St F
  | 0 => st
  | n + 1 => tile (score q (a n) (b n)) (v n) (tiles q a b v st n)

/-- One trip of the loop: eight tiles. -/
def trip (q : Vec F S512x256 .bf16) (a b : Fin 8 → Vec F S256x128 .bf16) (v : Fin 8 → Vec F S1x1x128x256 .bf16) (st : St F) : St F :=
  tile (score q (a 7) (b 7)) (v 7) (tile (score q (a 6) (b 6)) (v 6) (tile (score q (a 5) (b 5)) (v 5) (tile (score q (a 4) (b 4)) (v 4)
    (tile (score q (a 3) (b 3)) (v 3) (tile (score q (a 2) (b 2)) (v 2) (tile (score q (a 1) (b 1)) (v 1) (tile (score q (a 0) (b 0)) (v 0) st)))))))

variable (c : Dev nD) (i : grid0.Coords) (arg2 : Memref sig .tc .vmem S512x256 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x32x128x256 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x1x128x256 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x1x512 .f32) (harg11 : arg11.IsWhole) (arg12 : Memref sig .tc .vmem S1x1x512 .f32) (harg12 : arg12.IsWhole) (arg13 : Memref sig .tc .vmem S1x128x512 .f32) (harg13 : arg13.IsWhole)

/-- The pieces one trip writes, in terms of `trip`. -/
theorem tripL_eq (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (f_arg11 : BufTy.Contents (Elt F) arg11.view.ty) (f_arg12 : BufTy.Contents (Elt F) arg12.view.ty) (f_arg13 : BufTy.Contents (Elt F) arg13.view.ty)
    (q : Vec F S512x256 .bf16) (a b : Fin 8 → Vec F S256x128 .bf16) (v : Fin 8 → Vec F S1x1x128x256 .bf16) (st : Buf3 F)
    (hq : View.readAt (Elt F) arg2.view (Rect.unit (s := S512x256) ![0, 0] S512x256.size inb_S512x256_S512x256_0_0).toLoadRect X_arg2 = q)
    (ha : ∀ r : Fin 8, View.readAt (Elt F) arg3.view (Rect.unit (s := S8192x128) (k0_off1 k (BitVec.ofNat 32 r.val)) S256x128.size (k0_off1_inb k r)).toLoadRect X_arg3 = a r)
    (hb : ∀ r : Fin 8, View.readAt (Elt F) arg4.view (Rect.unit (s := S8192x128) (k0_off1 k (BitVec.ofNat 32 r.val)) S256x128.size (k0_off1_inb k r)).toLoadRect X_arg4 = b r)
    (hv : ∀ r : Fin 8, View.readAt (Elt F) arg5.view (Rect.unit (s := S1x32x128x256) (k0_off2 k (BitVec.ofNat 32 r.val)) S1x1x128x256.size (k0_off2_inb k r)).toLoadRect X_arg5 = v r)
    (hm : View.readAt (Elt F) arg11.view (Rect.unit (s := S1x1x512) ![0, 0, 0] S1x1x512.size inb_S1x1x512_S1x1x512_0_0_0).toLoadRect f_arg11 = st.1)
    (hl : View.readAt (Elt F) arg12.view (Rect.unit (s := S1x1x512) ![0, 0, 0] S1x1x512.size inb_S1x1x512_S1x1x512_0_0_0).toLoadRect f_arg12 = st.2.1)
    (hacc : View.readAt (Elt F) arg13.view (Rect.unit (s := S1x128x512) ![0, 0, 0] S1x128x512.size inb_S1x128x512_S1x128x512_0_0_0).toLoadRect f_arg13 = st.2.2) :
    tripL_k0_t1 (F := F) Variants.none c none i arg2 harg2 arg3 harg3 arg4 harg4 arg5 harg5 arg6 harg6 arg7 harg7 arg8 harg8 arg9 harg9 arg10 harg10 arg11 harg11 arg12 harg12 arg13 harg13 X_arg2 X_arg3 X_arg4 X_arg5 k f_arg11 f_arg12 f_arg13
      = ([⟨Rect.unit ![0, 0, 0] S1x1x512.size inb_S1x1x512_S1x1x512_0_0_0, (up (trip q a b v (down st))).1⟩],
         [⟨Rect.unit ![0, 0, 0] S1x1x512.size inb_S1x1x512_S1x1x512_0_0_0, (up (trip q a b v (down st))).2.1⟩],
         [⟨Rect.unit ![0, 0, 0] S1x128x512.size inb_S1x128x512_S1x128x512_0_0_0, (up (trip q a b v (down st))).2.2⟩]) := by
  obtain ⟨m, l, acc⟩ := st
  obtain rfl := hq
  obtain rfl : _ = a := funext ha
  obtain rfl : _ = b := funext hb
  obtain rfl : _ = v := funext hv
  dsimp only at hm hl hacc
  subst hm hl hacc
  unfold tripL_k0_t1 trip_k0_t1
  dsimp only
  refine Prod.ext ?_ (Prod.ext ?_ ?_)
  · rfl
  · rfl
  · rfl

/-- The keys of tile `t`: rows `256·t …` of the array. -/
def keyTile (x : Vec F S8192x128 .bf16) (t : ℕ) : Vec F S256x128 .bf16 :=
  fun y => x (ix2 (⟨(256 * t + (y 0).val) % 8192, Nat.mod_lt _ (by norm_num)⟩ : Fin 8192) (y 1 : Fin 128))

/-- The values of tile `t`. -/
def valTile (x : Vec F S1x32x128x256 .bf16) (t : ℕ) : Vec F S1x1x128x256 .bf16 :=
  fun y => x (ix4 (y 0 : Fin 1) (⟨(t + (y 1).val) % 32, Nat.mod_lt _ (by norm_num)⟩ : Fin 32) (y 2 : Fin 128) (y 3 : Fin 256))

/-- What the scratch buffers hold at the loop's entry. -/
def start : Buf3 F := (k0_pay60, k0_pay61, k0_pay62)

theorem down_up (st : St F) : down (up st) = st := by
  obtain ⟨m, l, a⟩ := st
  exact Prod.ext (shapeCast_shapeCast _ _ _) (Prod.ext (shapeCast_shapeCast _ _ _) (shapeCast_shapeCast _ _ _))

theorem up_down (b : Buf3 F) : up (down b) = b := by
  obtain ⟨m, l, a⟩ := b
  exact Prod.ext (shapeCast_shapeCast _ _ _) (Prod.ext (shapeCast_shapeCast _ _ _) (shapeCast_shapeCast _ _ _))

/-- A trip from tile `n` on is eight more tiles. -/
theorem trip_tiles (q : Vec F S512x256 .bf16) (a b : ℕ → Vec F S256x128 .bf16) (v : ℕ → Vec F S1x1x128x256 .bf16) (st : St F) (n : ℕ) :
    trip q (fun r => a (n + r.val)) (fun r => b (n + r.val)) (fun r => v (n + r.val)) (tiles q a b v st n) = tiles q a b v st (n + 8) := rfl

/-- The rows a trip's load of keys reads. -/
theorem load_keys (v : View sig .tc .vmem S8192x128 .bf16) (X : BufTy.Contents (Elt F) v.ty) (x : Vec F S8192x128 .bf16) (hx : v.read (Elt F) X = x) (k : Fin k0_t1_loop.trips) (r : Fin 8) :
    View.readAt (Elt F) v (Rect.unit (s := S8192x128) (k0_off1 k (BitVec.ofNat 32 r.val)) S256x128.size (k0_off1_inb k r)).toLoadRect X
      = keyTile x (8 * k.val + r.val) := by
  have hk : k.val < 4 := k.isLt
  have hr := r.isLt
  rw [View.readAt_unit v X _ (k0_off1_eq k r) (by rw [← k0_off1_eq k r]; exact k0_off1_inb k r), hx]
  funext y
  have h0 : (y 0).val < 256 := (y 0).isLt
  refine congrArg x (funext fun a => Fin.ext ?_)
  match a with
  | ⟨0, _⟩ =>
    show 2048 * k.val + 256 * r.val + 1 * (y 0).val = (256 * (8 * k.val + r.val) + (y 0).val) % 8192
    rw [Nat.mod_eq_of_lt (by omega)]; omega
  | ⟨1, _⟩ =>
    show 0 + 1 * (y 1).val = (y 1).val
    omega

/-- The tile a trip's load of values reads. -/
theorem load_vals (v : View sig .tc .vmem S1x32x128x256 .bf16) (X : BufTy.Contents (Elt F) v.ty) (x : Vec F S1x32x128x256 .bf16) (hx : v.read (Elt F) X = x) (k : Fin k0_t1_loop.trips) (r : Fin 8) :
    View.readAt (Elt F) v (Rect.unit (s := S1x32x128x256) (k0_off2 k (BitVec.ofNat 32 r.val)) S1x1x128x256.size (k0_off2_inb k r)).toLoadRect X
      = valTile x (8 * k.val + r.val) := by
  have hk : k.val < 4 := k.isLt
  have hr := r.isLt
  rw [View.readAt_unit v X _ (k0_off2_eq k r) (by rw [← k0_off2_eq k r]; exact k0_off2_inb k r), hx]
  funext y
  have h1 : (y 1).val < 1 := (y 1).isLt
  refine congrArg x (funext fun a => Fin.ext ?_)
  match a with
  | ⟨0, _⟩ => show 0 + 1 * (y 0).val = (y 0).val; omega
  | ⟨1, _⟩ =>
    show 8 * k.val + r.val + 1 * (y 1).val = (8 * k.val + r.val + (y 1).val) % 32
    rw [Nat.mod_eq_of_lt (by omega)]; omega
  | ⟨2, _⟩ => show 0 + 1 * (y 2).val = (y 2).val; omega
  | ⟨3, _⟩ => show 0 + 1 * (y 3).val = (y 3).val; omega

/-- The scratch buffers after `k` trips hold the state after `8·k` tiles. -/
theorem buf_eq (x0 : Vec F S512x256 .bf16) (x1 : Vec F S8192x128 .bf16) (x2 : Vec F S8192x128 .bf16) (x3 : Vec F S1x32x128x256 .bf16) (b : Buf3 F)
    (G_arg11 : BufTy.Contents (Elt F) arg11.view.ty) (G_arg12 : BufTy.Contents (Elt F) arg12.view.ty) (G_arg13 : BufTy.Contents (Elt F) arg13.view.ty)
    (h11 : arg11.view.read (Elt F) G_arg11 = b.1) (h12 : arg12.view.read (Elt F) G_arg12 = b.2.1) (h13 : arg13.view.read (Elt F) G_arg13 = b.2.2) :
    ∀ k ≤ k0_t1_loop.trips,
      View.read (Elt F) arg11.view (arg11.view.writes (Elt F) G_arg11 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) G_arg11 G_arg12 G_arg13 k).1)
          = (up (tiles x0 (keyTile x1) (keyTile x2) (valTile x3) (down b) (8 * k))).1
      ∧ View.read (Elt F) arg12.view (arg12.view.writes (Elt F) G_arg12 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) G_arg11 G_arg12 G_arg13 k).2.1)
          = (up (tiles x0 (keyTile x1) (keyTile x2) (valTile x3) (down b) (8 * k))).2.1
      ∧ View.read (Elt F) arg13.view (arg13.view.writes (Elt F) G_arg13 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) G_arg11 G_arg12 G_arg13 k).2.2)
          = (up (tiles x0 (keyTile x1) (keyTile x2) (valTile x3) (down b) (8 * k))).2.2 := by
  intro k
  induction k with
  | zero =>
    intro _
    have e : up (tiles x0 (keyTile x1) (keyTile x2) (valTile x3) (down b) (8 * 0)) = b := up_down b
    rw [e]
    exact ⟨h11, h12, h13⟩
  | succ k ih =>
    intro hk
    obtain ⟨i11, i12, i13⟩ := ih (Nat.le_of_succ_le hk)
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) G_arg11 G_arg12 G_arg13 ⟨k, hk⟩
    have t := tripL_eq c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) ⟨k, hk⟩ _ _ _
      x0 (fun r => keyTile x1 (8 * k + r.val)) (fun r => keyTile x2 (8 * k + r.val)) (fun r => valTile x3 (8 * k + r.val))
      (up (tiles x0 (keyTile x1) (keyTile x2) (valTile x3) (down b) (8 * k)))
      ((View.readAt_full arg2.view _ _).trans (harg2.read_unread x0))
      (fun r => load_keys arg3.view _ x1 (harg3.read_unread x1) ⟨k, hk⟩ r)
      (fun r => load_keys arg4.view _ x2 (harg4.read_unread x2) ⟨k, hk⟩ r)
      (fun r => load_vals arg5.view _ x3 (harg5.read_unread x3) ⟨k, hk⟩ r)
      ((View.readAt_full arg11.view _ _).trans i11) ((View.readAt_full arg12.view _ _).trans i12) ((View.readAt_full arg13.view _ _).trans i13)
    rw [down_up, trip_tiles] at t
    rw [t] at e
    rw [show k + 1 = (⟨k, hk⟩ : Fin k0_t1_loop.trips).val + 1 from rfl, e]
    refine ⟨?_, ?_, ?_⟩
    · exact View.read_writes_full arg11.view _ _ _ _
    · exact View.read_writes_full arg12.view _ _ _ _
    · exact View.read_writes_full arg13.view _ _ _ _

/-- A block's state after its 32 tiles of the sequence and the tile of the context. -/
def final (x0 : Vec F S512x256 .bf16) (x1 : Vec F S8192x128 .bf16) (x2 : Vec F S8192x128 .bf16) (x3 : Vec F S1x32x128x256 .bf16) (x4 : Vec F S256x128 .bf16) (x5 : Vec F S256x128 .bf16) (x6 : Vec F S1x1x128x256 .bf16) : St F :=
  tile (score x0 x4 x5) x6 (tiles x0 (keyTile x1) (keyTile x2) (valTile x3) (down start) 32)

section
variable (x0 : Vec F S512x256 .bf16) (x1 : Vec F S8192x128 .bf16) (x2 : Vec F S8192x128 .bf16) (x3 : Vec F S1x32x128x256 .bf16) (x4 : Vec F S256x128 .bf16) (x5 : Vec F S256x128 .bf16) (x6 : Vec F S1x1x128x256 .bf16)

/-- The context tile's weighted values, from the buffers after the loop. -/
theorem last_acc (M : Vec F S1x1x512 .f32) (A : Vec F S1x128x512 .f32) (q : Vec F S512x256 .bf16) (a b : Vec F S256x128 .bf16) (v : Vec F S1x1x128x256 .bf16)
    (hM : M = (up (tiles x0 (keyTile x1) (keyTile x2) (valTile x3) (down start) 32)).1)
    (hA : A = (up (tiles x0 (keyTile x1) (keyTile x2) (valTile x3) (down start) 32)).2.2)
    (hq : q = x0) (ha : a = x4) (hb : b = x5) (hv : v = x6) :
    k0_pay1 (k0_pay70 k0_pay59 (k0_pay63 M) (k0_pay65 A) q a b v) = (up (final x0 x1 x2 x3 x4 x5 x6)).2.2 := by
  have e := down_up (tiles x0 (keyTile x1) (keyTile x2) (valTile x3) (down start) 32)
  have e1 : k0_pay63 M = (tiles x0 (keyTile x1) (keyTile x2) (valTile x3) (down start) 32).1 := by rw [hM]; exact congrArg Prod.fst e
  have e2 : k0_pay65 A = (tiles x0 (keyTile x1) (keyTile x2) (valTile x3) (down start) 32).2.2 := by rw [hA]; exact congrArg (fun s => s.2.2) e
  rw [e1, e2, hq, ha, hb, hv]
  rfl

/-- The context tile's sum, from the buffers after the loop. -/
theorem last_l (M : Vec F S1x1x512 .f32) (A : Vec F S1x1x512 .f32) (q : Vec F S512x256 .bf16) (a b : Vec F S256x128 .bf16) (v : Vec F S1x1x128x256 .bf16)
    (hM : M = (up (tiles x0 (keyTile x1) (keyTile x2) (valTile x3) (down start) 32)).1)
    (hA : A = (up (tiles x0 (keyTile x1) (keyTile x2) (valTile x3) (down start) 32)).2.1)
    (hq : q = x0) (ha : a = x4) (hb : b = x5) (hv : v = x6) :
    k0_pay72 k0_pay59 (k0_pay63 M) (k0_pay64 A) q a b v = (up (final x0 x1 x2 x3 x4 x5 x6)).2.1 := by
  have e := down_up (tiles x0 (keyTile x1) (keyTile x2) (valTile x3) (down start) 32)
  have e1 : k0_pay63 M = (tiles x0 (keyTile x1) (keyTile x2) (valTile x3) (down start) 32).1 := by rw [hM]; exact congrArg Prod.fst e
  have e2 : k0_pay64 A = (tiles x0 (keyTile x1) (keyTile x2) (valTile x3) (down start) 32).2.1 := by rw [hA]; exact congrArg (fun s => s.2.1) e
  rw [e1, e2, hq, ha, hb, hv]
  rfl

end

/-- What a grid point writes to the result's block. -/
theorem out_eq (x0 : Vec F S512x256 .bf16) (x1 : Vec F S8192x128 .bf16) (x2 : Vec F S8192x128 .bf16) (x3 : Vec F S1x32x128x256 .bf16) (x4 : Vec F S256x128 .bf16) (x5 : Vec F S256x128 .bf16) (x6 : Vec F S1x1x128x256 .bf16) (x7 : Vec F S512x128 .bf16) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7
      = k0_pay2 x7 (up (final x0 x1 x2 x3 x4 x5 x6)).2.2 (up (final x0 x1 x2 x3 x4 x5 x6)).2.1 := by
  have hz : (![0, 0] : Fin 2 → ℕ) = 0 := by funext a; fin_cases a <;> rfl
  obtain ⟨b11, b12, b13⟩ := buf_eq c i arg2 harg2 arg3 harg3 arg4 harg4 arg5 harg5 arg6 harg6 arg7 harg7 arg8 harg8 arg9 harg9 arg10 harg10 arg11 harg11 arg12 harg12 arg13 harg13 x0 x1 x2 x3 start
    (arg11.view.writes (Elt F) arg11.view.junk [⟨Rect.unit ![0, 0, 0] S1x1x512.size inb_S1x1x512_S1x1x512_0_0_0, k0_pay60⟩])
    (arg12.view.writes (Elt F) arg12.view.junk [⟨Rect.unit ![0, 0, 0] S1x1x512.size inb_S1x1x512_S1x1x512_0_0_0, k0_pay61⟩])
    (arg13.view.writes (Elt F) arg13.view.junk [⟨Rect.unit ![0, 0, 0] S1x128x512.size inb_S1x128x512_S1x128x512_0_0_0, k0_pay62⟩])
    (View.read_writes_full arg11.view _ _ _ _) (View.read_writes_full arg12.view _ _ _ _) (View.read_writes_full arg13.view _ _ _ _)
    k0_t1_loop.trips le_rfl
  have hs : 8 * k0_t1_loop.trips = 32 := rfl
  rw [hs] at b11 b12 b13
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  have e9 := (View.readAt_full arg9.view (harg9.unread x7) inb_S512x128_S512x128_0_0).trans (harg9.read_unread x7)
  have e2 := (View.readAt_full arg2.view (harg2.unread x0) inb_S512x256_S512x256_0_0).trans (harg2.read_unread x0)
  have e6 : ∀ (off : Fin 2 → ℕ) (h), View.readAt (Elt F) arg6.view (Rect.unit (s := S256x128) off S256x128.size h).toLoadRect (harg6.unread x4) = x4 :=
    fun off h => (View.readAt_full arg6.view (harg6.unread x4) h).trans (harg6.read_unread x4)
  have e7 : ∀ (off : Fin 2 → ℕ) (h), View.readAt (Elt F) arg7.view (Rect.unit (s := S256x128) off S256x128.size h).toLoadRect (harg7.unread x5) = x5 :=
    fun off h => (View.readAt_full arg7.view (harg7.unread x5) h).trans (harg7.read_unread x5)
  have e8 : ∀ (off : Fin 4 → ℕ) (h), View.readAt (Elt F) arg8.view (Rect.unit (s := S1x1x128x256) off S1x1x128x256.size h).toLoadRect (harg8.unread x6) = x6 :=
    fun off h => (View.readAt_full arg8.view (harg8.unread x6) h).trans (harg8.read_unread x6)
  have m11 := (View.readAt_full arg11.view _ inb_S1x1x512_S1x1x512_0_0_0).trans ((congrArg _ (View.writes_append arg11.view _ _ _)).trans b11)
  have m12 := (View.readAt_full arg12.view _ inb_S1x1x512_S1x1x512_0_0_0).trans ((congrArg _ (View.writes_append arg12.view _ _ _)).trans b12)
  have m13 := (View.readAt_full arg13.view _ inb_S1x128x512_S1x128x512_0_0_0).trans ((congrArg _ (View.writes_append arg13.view _ _ _)).trans b13)
  refine congr (congr (congrArg k0_pay2 e9) ?_) ?_
  · refine (View.readCov_full arg13.view _ _ _ _).trans ?_
    exact last_acc x0 x1 x2 x3 x4 x5 x6 _ _ _ _ _ _ m11 m13 e2 (e6 _ _) (e7 _ _) (e8 _ _)
  · refine (View.readCov_full arg12.view _ _ _ _).trans ?_
    exact last_l x0 x1 x2 x3 x4 x5 x6 _ _ _ _ _ _ m11 m12 e2 (e6 _ _) (e7 _ _) (e8 _ _)

end Cert.MlaIdeal.Body
-- ==== Proof.Flash.lean ====
/-
  The mathematics of a softmax taken tile by tile: a running maximum, a running sum of powers of two and a running
  weighted sum, rescaled when the maximum moves, hold the plain softmax average of all keys when the last tile is in.
-/
module

public import Idealize.ShloMosaic.PureOps.Ideal
public import Mathlib.Analysis.SpecialFunctions.Pow.Real

@[expose] public section

noncomputable section

namespace Cert.Flash

open Idealize.ShloMosaic Finset

/-- Before key `n`: the running maximum is a real `μ`, the running sum is that of the powers `2 ^ (s k - μ)` over the
    keys before `n`, the running average that of the values weighted by the same powers. -/
def Inv (s : ℕ → ℝ) (v : ℕ → EReal) (n : ℕ) (m l a : EReal) : Prop :=
  ∃ μ : ℝ, m = (μ : EReal) ∧ l = ((∑ k ∈ range n, (2 : ℝ) ^ (s k - μ) : ℝ) : EReal)
    ∧ a = ∑ k ∈ range n, v k * (((2 : ℝ) ^ (s k - μ) : ℝ) : EReal)

/-- A nonnegative real factor goes into a sum of extended reals. -/
theorem coe_mul_sum {ι : Type*} (t : Finset ι) (f : ι → EReal) (c : ℝ) (hc : 0 ≤ c) :
    (c : EReal) * ∑ k ∈ t, f k = ∑ k ∈ t, (c : EReal) * f k := by
  classical
  induction t using Finset.induction_on with
  | empty => simp
  | insert a t ha ih => rw [Finset.sum_insert ha, Finset.sum_insert ha, EReal.left_distrib_of_nonneg_of_ne_top (EReal.coe_nonneg.mpr hc) (EReal.coe_ne_top c), ih]

/-- The coercion of the reals goes into a sum. -/
theorem coe_sum {ι : Type*} (t : Finset ι) (f : ι → ℝ) :
    ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- A power of two of a difference of reals. -/
theorem exp2_sub (x y : ℝ) : Ideal.exp2 ((x : EReal) - (y : EReal)) = (((2 : ℝ) ^ (x - y) : ℝ) : EReal) := by
  rw [← EReal.coe_sub, Ideal.exp2_coe]; rfl

/-- Before the first key. -/
theorem Inv.zero (s : ℕ → ℝ) (v : ℕ → EReal) (c : ℝ) : Inv s v 0 (c : EReal) 0 0 :=
  ⟨c, rfl, by simp, by simp⟩

/-- The running maximum is a real. -/
theorem Inv.real {s : ℕ → ℝ} {v : ℕ → EReal} {n : ℕ} {m l a : EReal} (h : Inv s v n m l a) :
    ∃ μ : ℝ, m = (μ : EReal) := let ⟨μ, h, _⟩ := h; ⟨μ, h⟩

/-- One tile of `T` keys, whatever real the new maximum is. -/
theorem Inv.step {s : ℕ → ℝ} {v : ℕ → EReal} {n : ℕ} {m l a : EReal} (h : Inv s v n m l a) {T : ℕ}
    (S V : Fin T → EReal) (hS : ∀ k : Fin T, S k = ((s (n + k.val) : ℝ) : EReal))
    (hV : ∀ k : Fin T, V k = v (n + k.val)) {m' : EReal} (hm' : ∃ μ : ℝ, m' = (μ : EReal)) :
    Inv s v (n + T) m' (Ideal.exp2 (m - m') * l + ∑ k, Ideal.exp2 (S k - m'))
      (Ideal.exp2 (m - m') * a + ∑ k, V k * Ideal.exp2 (S k - m')) := by
  obtain ⟨μ, rfl, rfl, rfl⟩ := h
  obtain ⟨μ', rfl⟩ := hm'
  have e : ∀ k, (2 : ℝ) ^ (μ - μ') * (2 : ℝ) ^ (s k - μ) = (2 : ℝ) ^ (s k - μ') := fun k => by
    rw [← Real.rpow_add (by norm_num)]; congr 1; ring
  refine ⟨μ', rfl, ?_, ?_⟩
  · rw [exp2_sub, ← EReal.coe_mul, Finset.mul_sum]
    simp only [hS, exp2_sub, e]
    rw [← coe_sum, ← EReal.coe_add, Finset.sum_range_add, Finset.sum_range (fun k => (2 : ℝ) ^ (s (n + k) - μ'))]
  · rw [exp2_sub, coe_mul_sum _ _ _ (by positivity), Finset.sum_range_add,
      Finset.sum_range (fun k => v (n + k) * (((2 : ℝ) ^ (s (n + k) - μ') : ℝ) : EReal))]
    simp only [hS, hV, exp2_sub]
    congr 1
    refine Finset.sum_congr rfl fun k _ => ?_
    rw [mul_left_comm, ← EReal.coe_mul, e]

/-- The softmax weight of key `k` among the first `n`, in powers of two. -/
def wt (s : ℕ → ℝ) (n k : ℕ) : ℝ := (2 : ℝ) ^ s k / ∑ j ∈ range n, (2 : ℝ) ^ s j

/-- After the last key the quotient is the average under the softmax weights. -/
theorem Inv.out {s : ℕ → ℝ} {v : ℕ → EReal} {n : ℕ} {m l a : EReal} (h : Inv s v n m l a) (hn : 0 < n) :
    Ideal.div a l = ∑ k ∈ range n, v k * ((wt s n k : ℝ) : EReal) := by
  obtain ⟨μ, rfl, rfl, rfl⟩ := h
  have e : ∀ k, (2 : ℝ) ^ (s k - μ) = (2 : ℝ) ^ (-μ) * (2 : ℝ) ^ s k := fun k => by
    rw [← Real.rpow_add (by norm_num)]; congr 1; ring
  have hL : (0 : ℝ) < ∑ k ∈ range n, (2 : ℝ) ^ (s k - μ) :=
    Finset.sum_pos (fun _ _ => by positivity) ⟨0, Finset.mem_range.mpr hn⟩
  have hμ : (0 : ℝ) < (2 : ℝ) ^ (-μ) := by positivity
  unfold Ideal.div
  rw [if_neg (by rw [EReal.coe_eq_zero]; exact hL.ne'), ← EReal.coe_inv, mul_comm,
    coe_mul_sum _ _ _ (inv_nonneg.mpr hL.le)]
  refine Finset.sum_congr rfl fun k _ => ?_
  rw [mul_left_comm, ← EReal.coe_mul]
  congr 2
  unfold wt
  simp only [e, ← Finset.mul_sum]
  rw [inv_mul_eq_div, mul_div_mul_left _ _ hμ.ne']

/-- The weight that a softmax in powers of `e`, its scores `log 2` times as large and shifted by any real, gives. -/
theorem soft {n : ℕ} (hn : 0 < n) (s : ℕ → ℝ) (t : Fin n → EReal)
    (ht : ∀ k : Fin n, t k = ((s k.val * Real.log 2 : ℝ) : EReal)) {M : EReal} (hM : ∃ μ : ℝ, M = (μ : EReal)) (k : Fin n) :
    Ideal.div (Ideal.exp (t k - M)) (∑ j, Ideal.exp (t j - M)) = ((wt s n k.val : ℝ) : EReal) := by
  obtain ⟨μ, rfl⟩ := hM
  have e : ∀ k : ℕ, Ideal.exp (((s k * Real.log 2 : ℝ) : EReal) - (μ : EReal)) = ((Real.exp (-μ) * (2 : ℝ) ^ s k : ℝ) : EReal) := by
    intro k
    rw [← EReal.coe_sub, Ideal.exp_coe, Real.rpow_def_of_pos (by norm_num), ← Real.exp_add]
    congr 2; ring
  simp only [ht, e]
  rw [← coe_sum, ← Finset.mul_sum, ← Finset.sum_range (fun j => (2 : ℝ) ^ s j)]
  have hL : (0 : ℝ) < ∑ k ∈ range n, (2 : ℝ) ^ s k :=
    Finset.sum_pos (fun _ _ => by positivity) ⟨0, Finset.mem_range.mpr hn⟩
  have hμ : (0 : ℝ) < Real.exp (-μ) := Real.exp_pos _
  unfold Ideal.div
  rw [if_neg (by rw [EReal.coe_eq_zero]; positivity), ← EReal.coe_inv, ← EReal.coe_mul]
  congr 1
  unfold wt
  rw [← div_eq_mul_inv, mul_div_mul_left _ _ hμ.ne']

/-- A running maximum of real numbers is a real number, whatever other than `⊤` it starts from. -/
theorem max_fold_real {ι : Type} [Fintype ι] {m c : EReal} (hm : ∃ r : ℝ, m = (r : EReal)) (hc : c ≠ ⊤) {f : ι → EReal}
    (hf : ∀ k, ∃ r : ℝ, f k = (r : EReal)) : ∃ r : ℝ, max m (Finset.fold max c f Finset.univ) = (r : EReal) := by
  obtain ⟨r, rfl⟩ := hm
  have ht : max (r : EReal) (Finset.fold max c f Finset.univ) < ⊤ := by
    refine max_lt (EReal.coe_lt_top r) ((Finset.fold_max_lt ⊤).mpr ⟨lt_top_iff_ne_top.mpr hc, fun k _ => ?_⟩)
    obtain ⟨x, hx⟩ := hf k
    rw [hx]
    exact EReal.coe_lt_top x
  have hb : (⊥ : EReal) < max (r : EReal) (Finset.fold max c f Finset.univ) := lt_max_of_lt_left (EReal.bot_lt_coe r)
  exact ⟨_, (EReal.coe_toReal ht.ne hb.ne').symm⟩

/-- A maximum of real numbers over an inhabited index is a real number. -/
theorem fold_real {ι : Type} [Fintype ι] [Nonempty ι] {c : EReal} (hc : c ≠ ⊤) {f : ι → EReal}
    (hf : ∀ k, ∃ r : ℝ, f k = (r : EReal)) : ∃ r : ℝ, Finset.fold max c f Finset.univ = (r : EReal) := by
  obtain ⟨i⟩ := ‹Nonempty ι›
  obtain ⟨r, hr⟩ := max_fold_real (hf i) hc hf
  refine ⟨r, ?_⟩
  rw [← hr]
  exact (max_eq_right ((Finset.le_fold_max _).mpr (Or.inr ⟨i, Finset.mem_univ i, le_rfl⟩))).symm

/-- The word of `−∞` is not `⊤`. -/
theorem negInf_ne_top : Ideal.ofBits .f32 4286578688#32 ≠ ⊤ := by
  show Ideal.ieee 8 23 (4286578688#32) ≠ ⊤
  unfold Ideal.ieee
  dsimp only
  rw [if_pos (by decide), if_pos (by decide), if_pos (by decide)]
  exact bot_ne_top

/-- The word of the running maximum's start is a real number. -/
theorem lowest_real : ∃ r : ℝ, Ideal.ofBits .f32 0xF149F2CA#32 = (r : EReal) := by
  show ∃ r : ℝ, Ideal.ieee 8 23 (0xF149F2CA#32) = (r : EReal)
  unfold Ideal.ieee
  dsimp only
  rw [if_neg (by decide), if_neg (by decide)]
  exact ⟨_, rfl⟩

end Cert.Flash

end
-- ==== Proof.MlaTile.lean ====
/-
  One tile of the latent attention's body at the idealized floats: its scores, the new maximum, and the running sum and
  weighted values, entry by entry; then the invariant of `Flash` carried over the tiles of a block.
-/
module

public import proofs.«01_k».proof.Proof.MlaTrip
public import proofs.«01_k».proof.Proof.Flash
public import Idealize.ShloMosaic.Lib.Pointwise

@[expose] public section

set_option maxRecDepth 16384

noncomputable section

namespace Cert.MlaIdeal.Body

open Cert.MlaIdeal Cert.MlaIdeal.Gen Idealize.ShloMosaic Idealize.ShloMosaic.TcCoe Idealize.SL.Sem

/-- A tile's scores: the products over the two parts of a head's dimensions. -/
theorem score_at (q : Vec Ideal S512x256 .bf16) (a b : Vec Ideal S256x128 .bf16) (k : Fin 256) (j : Fin 512) :
    score (F := Ideal) q a b (ix2 k j) = (∑ d : Fin 128, a (ix2 k d) * q (ix2 j (⟨d.val, by omega⟩ : Fin 256)))
      + ∑ d : Fin 128, b (ix2 k d) * q (ix2 j (⟨128 + d.val, by omega⟩ : Fin 256)) := by
  unfold score k0_pay9
  pointwise

/-- The new maximum is a real number where the scores and the old one are. -/
theorem max_real (s : FVec Ideal S256x512 .f32) (m : FVec Ideal S1x512 .f32) (j : Fin 512) (hs : ∀ k : Fin 256, ∃ r : ℝ, s (ix2 k j) = (r : EReal))
    (hm : ∃ r : ℝ, m (ix2 0 j) = (r : EReal)) : ∃ r : ℝ, k0_pay17 (F := Ideal) s m (ix2 0 j) = (r : EReal) := by
  have e : k0_pay17 (F := Ideal) s m (ix2 0 j)
      = max (m (ix2 0 j)) (Finset.fold max (Ideal.ofBits .f32 4286578688#32) (fun x : Fin 256 => s (ix2 x j)) Finset.univ) := by
    pointwise [k0_pay17]
  rw [e]
  exact Flash.max_fold_real hm Flash.negInf_ne_top hs

/-- The running sum after a tile. -/
theorem sum_at (s : FVec Ideal S256x512 .f32) (m l : FVec Ideal S1x512 .f32) (v : Vec Ideal S1x1x128x256 .bf16) (j : Fin 512) :
    k0_pay20 (F := Ideal) k0_pay59 s m l v (ix2 0 j) = Ideal.exp2 (m (ix2 0 j) - k0_pay17 (F := Ideal) s m (ix2 0 j)) * l (ix2 0 j)
      + ∑ k : Fin 256, Ideal.exp2 (s (ix2 k j) - k0_pay17 (F := Ideal) s m (ix2 0 j)) := by
  pointwise [k0_pay20, k0_pay19, k0_pay18, k0_pay59]
  rfl

/-- The weighted values after a tile. -/
theorem acc_at (s : FVec Ideal S256x512 .f32) (m : FVec Ideal S1x512 .f32) (acc : FVec Ideal S128x512 .f32) (v : Vec Ideal S1x1x128x256 .bf16) (d : Fin 128) (j : Fin 512) :
    k0_pay21 (F := Ideal) k0_pay59 s m acc v (ix2 d j) = Ideal.exp2 (m (ix2 0 j) - k0_pay17 (F := Ideal) s m (ix2 0 j)) * acc (ix2 d j)
      + ∑ k : Fin 256, v (ix4 0 0 d k) * Ideal.exp2 (s (ix2 k j) - k0_pay17 (F := Ideal) s m (ix2 0 j)) := by
  pointwise [k0_pay21, k0_pay19, k0_pay18, k0_pay59]
  rfl

/-- What is written: the quotient, gated. -/
theorem pay2_at (g : Vec Ideal S512x128 .bf16) (st : St Ideal) (d : Fin 128) (j : Fin 512) :
    k0_pay2 (F := Ideal) g (up st).2.2 (up st).2.1 (ix2 j d) = Ideal.div (st.2.2 (ix2 d j)) (st.2.1 (ix2 0 j)) * g (ix2 j d) := by
  pointwise [k0_pay2, up, k0_pay1]

/-- The invariant of the running sums for query `j` and column `d` after `n` keys. -/
def Good (σ : ℕ → ℝ) (ν : ℕ → EReal) (n : ℕ) (st : St Ideal) (j : Fin 512) (d : Fin 128) : Prop :=
  Flash.Inv σ ν n (st.1 (ix2 0 j)) (st.2.1 (ix2 0 j)) (st.2.2 (ix2 d j))

theorem good_start (σ : ℕ → ℝ) (ν : ℕ → EReal) (j : Fin 512) (d : Fin 128) : Good σ ν 0 (down (F := Ideal) start) j d := by
  obtain ⟨c, hc⟩ := Flash.lowest_real
  have e1 : (down (F := Ideal) start).1 (ix2 0 j) = (c : EReal) := by
    rw [← hc]
    pointwise [down, start, k0_pay3, k0_pay60]
  have e2 : (down (F := Ideal) start).2.1 (ix2 0 j) = 0 := by
    pointwise [down, start, k0_pay4, k0_pay61]
  have e3 : (down (F := Ideal) start).2.2 (ix2 d j) = 0 := by
    pointwise [down, start, k0_pay5, k0_pay62]
  unfold Good
  rw [e1, e2, e3]
  exact Flash.Inv.zero σ ν c

/-- A tile keeps the invariant. -/
theorem Good.tile {σ : ℕ → ℝ} {ν : ℕ → EReal} {n : ℕ} {st : St Ideal} {j : Fin 512} {d : Fin 128} (h : Good σ ν n st j d)
    (s : FVec Ideal S256x512 .f32) (v : Vec Ideal S1x1x128x256 .bf16) (hs : ∀ k : Fin 256, s (ix2 k j) = (σ (n + k.val) : EReal))
    (hv : ∀ k : Fin 256, v (ix4 0 0 d k) = ν (n + k.val)) : Good σ ν (n + 256) (Body.tile (F := Ideal) s v st) j d := by
  have hm := max_real s st.1 j (fun k => ⟨_, hs k⟩) h.real
  have e := Flash.Inv.step h (fun k : Fin 256 => s (ix2 k j)) (fun k => v (ix4 0 0 d k)) hs hv hm
  have e2 : (Body.tile (F := Ideal) s v st).2.1 (ix2 0 j) = _ := sum_at s st.1 st.2.1 v j
  have e3 : (Body.tile (F := Ideal) s v st).2.2 (ix2 d j) = _ := acc_at s st.1 st.2.2 v d j
  unfold Good
  rw [e2, e3]
  exact e

/-- The invariant after `t` tiles. -/
theorem good_tiles (σ : ℕ → ℝ) (ν : ℕ → EReal) (q : Vec Ideal S512x256 .bf16) (a b : ℕ → Vec Ideal S256x128 .bf16) (v : ℕ → Vec Ideal S1x1x128x256 .bf16)
    (j : Fin 512) (d : Fin 128) (T : ℕ) (hs : ∀ t < T, ∀ k : Fin 256, score (F := Ideal) q (a t) (b t) (ix2 k j) = (σ (256 * t + k.val) : EReal))
    (hv : ∀ t < T, ∀ k : Fin 256, v t (ix4 0 0 d k) = ν (256 * t + k.val)) :
    ∀ t ≤ T, Good σ ν (256 * t) (tiles (F := Ideal) q a b v (down start) t) j d := by
  intro t
  induction t with
  | zero => intro _; exact good_start σ ν j d
  | succ t ih =>
    intro ht
    exact (ih (Nat.le_of_succ_le ht)).tile _ _ (hs t ht) (hv t ht)

/-- What a block holds of query `j` and column `d`: the values weighted by the scores' powers of two, gated. -/
theorem final_at (σ : ℕ → ℝ) (ν : ℕ → EReal) (x0 : Vec Ideal S512x256 .bf16) (x1 : Vec Ideal S8192x128 .bf16) (x2 : Vec Ideal S8192x128 .bf16) (x3 : Vec Ideal S1x32x128x256 .bf16) (x4 : Vec Ideal S256x128 .bf16) (x5 : Vec Ideal S256x128 .bf16) (x6 : Vec Ideal S1x1x128x256 .bf16) (x7 : Vec Ideal S512x128 .bf16)
    (j : Fin 512) (d : Fin 128)
    (hs : ∀ t < 32, ∀ k : Fin 256, score (F := Ideal) x0 (keyTile x1 t) (keyTile x2 t) (ix2 k j) = (σ (256 * t + k.val) : EReal))
    (hv : ∀ t < 32, ∀ k : Fin 256, valTile x3 t (ix4 0 0 d k) = ν (256 * t + k.val))
    (hc : ∀ k : Fin 256, score (F := Ideal) x0 x4 x5 (ix2 k j) = (σ (8192 + k.val) : EReal))
    (hcv : ∀ k : Fin 256, x6 (ix4 0 0 d k) = ν (8192 + k.val)) :
    k0_pay2 (F := Ideal) x7 (up (final x0 x1 x2 x3 x4 x5 x6)).2.2 (up (final x0 x1 x2 x3 x4 x5 x6)).2.1 (ix2 j d)
      = (∑ k ∈ Finset.range 8448, ν k * ((Flash.wt σ 8448 k : ℝ) : EReal)) * x7 (ix2 j d) := by
  rw [pay2_at]
  have h := (good_tiles σ ν x0 (keyTile x1) (keyTile x2) (valTile x3) j d 32 hs hv 32 le_rfl).tile _ _ hc hcv
  rw [show Ideal.div ((final x0 x1 x2 x3 x4 x5 x6).2.2 (ix2 d j)) ((final x0 x1 x2 x3 x4 x5 x6).2.1 (ix2 0 j)) = _ from Flash.Inv.out h (by norm_num)]

end Cert.MlaIdeal.Body
-- ==== Proof.MlaMath.lean ====
/-
  The latent attention over the reals, away from either program: eight arrays and a gate, the scores of a query against
  the 8192 keys of the sequence and the 256 of the context, and the values weighted by the scores' powers of two.
-/
module

public import proofs.«01_k».proof.Proof.Flash

@[expose] public section

set_option maxRecDepth 16384

noncomputable section

namespace Cert.MlaMath

open Idealize.ShloMosaic

/-- The arrays of the latent attention by coordinates: queries and keys in their two parts, values, the context's keys and values, the gate. -/
structure In where
  qn : Fin 8192 → Fin 16 → Fin 128 → EReal
  qp : Fin 8192 → Fin 16 → Fin 64 → EReal
  kn : Fin 8192 → Fin 16 → Fin 128 → EReal
  kp : Fin 8192 → Fin 64 → EReal
  v : Fin 8192 → Fin 16 → Fin 128 → EReal
  ckn : Fin 256 → Fin 16 → Fin 128 → EReal
  ckp : Fin 256 → Fin 64 → EReal
  cv : Fin 256 → Fin 16 → Fin 128 → EReal
  gate : Fin 8192 → Fin 2048 → EReal

namespace In

variable (I : In)

/-- Key `k` of the joined sequence and context, its own part per head. -/
def keyN (k : ℕ) (h : Fin 16) (d : Fin 128) : EReal :=
  if hk : k < 8192 then I.kn ⟨k, hk⟩ h d else I.ckn ⟨(k - 8192) % 256, Nat.mod_lt _ (by norm_num)⟩ h d

/-- Key `k` of the joined sequence and context, the part that all heads share. -/
def keyP (k : ℕ) (d : Fin 64) : EReal :=
  if hk : k < 8192 then I.kp ⟨k, hk⟩ d else I.ckp ⟨(k - 8192) % 256, Nat.mod_lt _ (by norm_num)⟩ d

/-- Value `k` of the joined sequence and context. -/
def val (k : ℕ) (h : Fin 16) (d : Fin 128) : EReal :=
  if hk : k < 8192 then I.v ⟨k, hk⟩ h d else I.cv ⟨(k - 8192) % 256, Nat.mod_lt _ (by norm_num)⟩ h d

/-- The queries and the keys are real numbers. -/
structure Real : Prop where
  qn : ∀ n h d, I.qn n h d = ((I.qn n h d).toReal : EReal)
  qp : ∀ n h d, I.qp n h d = ((I.qp n h d).toReal : EReal)
  kn : ∀ n h d, I.kn n h d = ((I.kn n h d).toReal : EReal)
  kp : ∀ n d, I.kp n d = ((I.kp n d).toReal : EReal)
  ckn : ∀ n h d, I.ckn n h d = ((I.ckn n h d).toReal : EReal)
  ckp : ∀ n d, I.ckp n d = ((I.ckp n d).toReal : EReal)

/-- The product of query `n` and key `k` in head `h`. -/
def raw (n : Fin 8192) (h : Fin 16) (k : ℕ) : ℝ :=
  (∑ d : Fin 128, (I.keyN k h d).toReal * (I.qn n h d).toReal) + ∑ d : Fin 64, (I.keyP k d).toReal * (I.qp n h d).toReal

/-- The scale of the scores as the programs hold it. -/
def scale : ℝ := (Ideal.ofBits .f32 1033096506#32).toReal

/-- The score as the exponent of a power of two. -/
def sc (n : Fin 8192) (h : Fin 16) (k : ℕ) : ℝ := I.raw n h k * (scale / Real.log 2)

/-- The attention's result at query `n`, head `h`, column `d`. -/
def out (n : Fin 8192) (h : Fin 16) (d : Fin 128) : EReal :=
  (∑ k ∈ Finset.range 8448, I.val k h d * ((Flash.wt (I.sc n h) 8448 k : ℝ) : EReal)) * I.gate n ⟨128 * h.val + d.val, by omega⟩

variable {I}

theorem keyN_real (hI : I.Real) (k : ℕ) (h : Fin 16) (d : Fin 128) : I.keyN k h d = ((I.keyN k h d).toReal : EReal) := by
  unfold keyN
  split
  · exact hI.kn _ _ _
  · exact hI.ckn _ _ _

theorem keyP_real (hI : I.Real) (k : ℕ) (d : Fin 64) : I.keyP k d = ((I.keyP k d).toReal : EReal) := by
  unfold keyP
  split
  · exact hI.kp _ _
  · exact hI.ckp _ _

end In

/-- The scale's word is a real number. -/
theorem scale_eq : Ideal.ofBits .f32 1033096506#32 = ((In.scale : ℝ) : EReal) := by
  unfold In.scale
  have h : ∃ r : ℝ, Ideal.ofBits .f32 1033096506#32 = (r : EReal) := by
    show ∃ r : ℝ, Ideal.ieee 8 23 (1033096506#32) = (r : EReal)
    unfold Ideal.ieee
    dsimp only
    rw [if_neg (by decide), if_neg (by decide)]
    exact ⟨_, rfl⟩
  obtain ⟨r, hr⟩ := h
  rw [hr, EReal.toReal_coe]

/-- The logarithm of two as the programs take it. -/
theorem log_two : Ideal.log (Ideal.ofBits .f32 1073741824#32) = ((Real.log 2 : ℝ) : EReal) := by
  have e : Ideal.ofBits .f32 1073741824#32 = ((2 : ℝ) : EReal) := by
    show Ideal.ieee 8 23 (1073741824#32) = ((2 : ℝ) : EReal)
    unfold Ideal.ieee
    dsimp only
    rw [if_neg (by decide), if_neg (by decide)]
    have h1 : (BitVec.extractLsb' (8 + 23) 1 1073741824#32 == 1#1) = false := by decide
    have h2 : (BitVec.extractLsb' 23 8 1073741824#32).toNat = 128 := by decide
    have h3 : (BitVec.extractLsb' 0 23 1073741824#32).toNat = 0 := by decide
    rw [h1, h2, h3]
    refine congrArg _ ?_
    norm_num
  rw [e]
  show (if (2 : ℝ) ≤ 0 then (⊥ : EReal) else (Real.log 2 : EReal)) = _
  rw [if_neg (by norm_num)]

/-- The factor by which the kernel's queries come multiplied. -/
theorem factor_eq : Ideal.ofBits .f32 1033096506#32 * Ideal.div 1 (Ideal.log (Ideal.ofBits .f32 1073741824#32)) = ((In.scale / Real.log 2 : ℝ) : EReal) := by
  have hl : Real.log 2 ≠ 0 := (Real.log_pos (by norm_num)).ne'
  rw [scale_eq, log_two]
  unfold Ideal.div
  rw [if_neg (by exact_mod_cast hl), one_mul, ← EReal.coe_inv, ← EReal.coe_mul, div_eq_mul_inv]

/-- A padded dimension: its first 64 entries are a row's, the others zero. -/
def padded (f : Fin 64 → EReal) (d : Fin 128) : EReal := if hd : d.val < 64 then f ⟨d.val, hd⟩ else 0

/-- The sum over a padded dimension is the sum over the row. -/
theorem padded_sum (f g : Fin 64 → EReal) (w : EReal) :
    ∑ d : Fin 128, padded f d * (padded g d * w) = ∑ d : Fin 64, f d * (g d * w) := by
  refine (Fin.sum_univ_add (a := 64) (b := 64) (fun d : Fin 128 => padded f d * (padded g d * w))).trans ?_
  have h1 : ∀ d : Fin 64, padded f (Fin.castAdd 64 d) = f d := fun d => dif_pos d.isLt
  have h1' : ∀ d : Fin 64, padded g (Fin.castAdd 64 d) = g d := fun d => dif_pos d.isLt
  have h2 : ∀ d : Fin 64, padded f (Fin.natAdd 64 d) = 0 := fun d => dif_neg (by simp)
  simp only [h1, h1', h2, zero_mul, Finset.sum_const_zero, add_zero]

/-- The kernel's score of a query and a key: the two parts' products, the queries scaled. -/
theorem score_eq {I : In} (hI : I.Real) (n : Fin 8192) (h : Fin 16) (k : ℕ) {w : EReal} (hw : w = ((In.scale / Real.log 2 : ℝ) : EReal)) :
    (∑ d : Fin 128, I.keyN k h d * (I.qn n h d * w)) + ∑ d : Fin 128, padded (I.keyP k) d * (padded (I.qp n h) d * w) = ((I.sc n h k : ℝ) : EReal) := by
  have e1 : ∀ d : Fin 128, I.keyN k h d * (I.qn n h d * w) = (((I.keyN k h d).toReal * (I.qn n h d).toReal * (In.scale / Real.log 2) : ℝ) : EReal) := fun d => by
    rw [In.keyN_real hI, hI.qn, hw, EReal.toReal_coe, EReal.toReal_coe, ← EReal.coe_mul, ← EReal.coe_mul, mul_assoc]
  have e2 : ∀ d : Fin 64, I.keyP k d * (I.qp n h d * w) = (((I.keyP k d).toReal * (I.qp n h d).toReal * (In.scale / Real.log 2) : ℝ) : EReal) := fun d => by
    rw [In.keyP_real hI, hI.qp, hw, EReal.toReal_coe, EReal.toReal_coe, ← EReal.coe_mul, ← EReal.coe_mul, mul_assoc]
  rw [padded_sum]
  simp only [e1, e2]
  rw [← Flash.coe_sum, ← Flash.coe_sum, ← EReal.coe_add]
  refine congrArg _ ?_
  unfold In.sc In.raw
  rw [add_mul, Finset.sum_mul, Finset.sum_mul]

/-- The reference's score of a query and a key: the two parts' products, scaled afterwards. -/
theorem score_plain {I : In} (hI : I.Real) (n : Fin 8192) (h : Fin 16) (k : ℕ) :
    ((∑ d : Fin 128, I.qn n h d * I.keyN k h d) + ∑ d : Fin 64, I.keyP k d * I.qp n h d) * Ideal.ofBits .f32 1033096506#32
      = ((I.sc n h k * Real.log 2 : ℝ) : EReal) := by
  have hl : Real.log 2 ≠ 0 := (Real.log_pos (by norm_num)).ne'
  have e1 : ∀ d : Fin 128, I.qn n h d * I.keyN k h d = (((I.keyN k h d).toReal * (I.qn n h d).toReal : ℝ) : EReal) := fun d => by
    rw [In.keyN_real hI, hI.qn, EReal.toReal_coe, EReal.toReal_coe, ← EReal.coe_mul, mul_comm]
  have e2 : ∀ d : Fin 64, I.keyP k d * I.qp n h d = (((I.keyP k d).toReal * (I.qp n h d).toReal : ℝ) : EReal) := fun d => by
    rw [In.keyP_real hI, hI.qp, EReal.toReal_coe, EReal.toReal_coe, ← EReal.coe_mul]
  simp only [e1, e2]
  rw [← Flash.coe_sum, ← Flash.coe_sum, ← EReal.coe_add, scale_eq, ← EReal.coe_mul]
  refine congrArg _ ?_
  unfold In.sc In.raw
  rw [mul_assoc, div_mul_cancel₀ _ hl]

end Cert.MlaMath
-- ==== Proof.MlaValue.lean ====
/-
  The latent attention's kernel: what the prepared operands hold, what each window stages of them at a grid point, and
  so what the result's array holds after the run.
-/
module

public import proofs.«01_k».proof.Proof.MlaTile
public import proofs.«01_k».proof.Proof.MlaMath
public import Idealize.ShloMosaic.Lib.Pipeline.ValueKit
public import Idealize.ShloMosaic.Lib.StableHlo.ReadAt
public import Idealize.ShloMosaic.Lib.Claim

@[expose] public section

set_option maxRecDepth 16384

noncomputable section

namespace Cert.MlaIdeal.Body

open Cert.MlaIdeal Cert.MlaIdeal.Gen Idealize.ShloMosaic Idealize.ShloMosaic.TcCoe Idealize.SL.Sem
open Idealize.ShloMosaic.Pipeline (Dat)
open Cert.MlaMath (padded)

variable (m : (ℓ : Loc nD τ sig) → Buf (Elt Ideal) ℓ) (c : Dev nD)

/-- The arguments by coordinates. -/
def ins : MlaMath.In where
  qn n h d := m ((c : Thread nD τ).loc main_arg0) (ix3 n h d)
  qp n h d := m ((c : Thread nD τ).loc main_arg1) (ix3 n h d)
  kn n h d := m ((c : Thread nD τ).loc main_arg2) (ix3 n h d)
  kp n d := m ((c : Thread nD τ).loc main_arg3) (ix2 n d)
  v n h d := m ((c : Thread nD τ).loc main_arg4) (ix3 n h d)
  ckn n h d := m ((c : Thread nD τ).loc main_arg5) (ix3 n h d)
  ckp n d := m ((c : Thread nD τ).loc main_arg6) (ix2 n d)
  cv n h d := m ((c : Thread nD τ).loc main_arg7) (ix3 n h d)
  gate n d := m ((c : Thread nD τ).loc main_arg8) (ix2 n d)

/-- The factor of the queries, as the host makes it. -/
def factor : EReal := Ideal.ofBits .f32 1033096506#32 * Ideal.div 1 (Ideal.log (Ideal.ofBits .f32 1073741824#32))

theorem sitofp_zero : (FloatOps.sitofp (F := Ideal) .f32 (0#32 : BitVec 32) : EReal) = 0 := by
  show (((0#32 : BitVec 32).toInt : ℝ) : EReal) = 0
  simp

/-- The grid's indices of the windows: a head and a block of queries. -/
theorem idx : ∀ t : Fin cfg0.N, win0_0.index t = ![(grid0.coords t 1).val, (grid0.coords t 0).val]
    ∧ win0_1.index t = ![0, (grid0.coords t 0).val] ∧ win0_2.index t = ![0, 0] ∧ win0_3.index t = ![(grid0.coords t 0).val, 0, 0, 0]
    ∧ win0_4.index t = ![0, (grid0.coords t 0).val] ∧ win0_5.index t = ![0, 0] ∧ win0_6.index t = ![(grid0.coords t 0).val, 0, 0, 0]
    ∧ win0_7.index t = ![(grid0.coords t 1).val, (grid0.coords t 0).val] ∧ win0_8.index t = ![(grid0.coords t 1).val, (grid0.coords t 0).val] := by
  decide +kernel

/-- A grid point's head. -/
def hd (t : Fin cfg0.N) : Fin 16 := ⟨(grid0.coords t 0).val, (grid0.coords t 0).isLt⟩

/-- A grid point's query `j`. -/
def row (t : Fin cfg0.N) (j : Fin 512) : Fin 8192 :=
  ⟨512 * (grid0.coords t 1).val + j.val, by have : (grid0.coords t 1).val < 16 := (grid0.coords t 1).isLt; omega⟩

/-- The prepared queries, first half of a head. -/
theorem q_lo (n : Fin 8192) (h : Fin 16) (e : Fin 128) : (V m c main_v8 (ix2 n ⟨256 * h.val + e.val, by omega⟩) : EReal) = (ins m c).qn n h e * factor := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  after_reads_at
  rw [dif_pos (by omega)]
  refine congr (congrArg _ ?_) rfl
  exact congrArg (m ((c : Thread nD τ).loc main_arg0)) (congr (congrArg _ (Fin.ext (by dsimp only; omega))) (Fin.ext (by dsimp only; omega)))
/-- The prepared queries, second half of a head. -/
theorem q_hi (n : Fin 8192) (h : Fin 16) (e : Fin 128) : (V m c main_v8 (ix2 n ⟨256 * h.val + (128 + e.val), by omega⟩) : EReal) = padded ((ins m c).qp n h) e * factor := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  after_reads_at
  rw [dif_neg (by omega)]
  refine congrArg (· * factor) ?_
  by_cases he : e.val < 64
  · refine (dif_pos (by omega)).trans (Eq.trans ?_ (dif_pos he).symm)
    exact congrArg (m ((c : Thread nD τ).loc main_arg1)) (congr (congrArg _ (Fin.ext (by dsimp only; omega))) (Fin.ext (by dsimp only; omega)))
  · exact ((dif_neg (by omega)).trans sitofp_zero).trans (dif_neg he).symm
/-- The prepared keys per head. -/
theorem kn_at (n : Fin 8192) (h : Fin 16) (e : Fin 128) : (V m c main_v10 (ix2 n ⟨128 * h.val + e.val, by omega⟩) : EReal) = (ins m c).kn n h e := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  exact congrArg (m ((c : Thread nD τ).loc main_arg2)) (congr (congrArg _ (Fin.ext (by dsimp only; omega))) (Fin.ext (by dsimp only; omega)))
/-- The prepared shared keys. -/
theorem kp_at (n : Fin 8192) (e : Fin 128) : (V m c main_v12 (ix2 n e) : EReal) = padded ((ins m c).kp n) e := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  unfold padded
  by_cases he : e.val < 64
  · rw [dif_pos (by omega), dif_pos he]
    rfl
  · rw [dif_neg (by omega), dif_neg he]
    exact sitofp_zero
/-- The prepared values. -/
theorem v_at (h : Fin 16) (t : Fin 32) (d : Fin 128) (e : Fin 256) : (V m c main_v16 (ix4 h t d e) : EReal) = (ins m c).v ⟨256 * t.val + e.val, by omega⟩ h d := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  exact congrArg (m ((c : Thread nD τ).loc main_arg4)) (congrFun (congrFun (congrArg _ (Fin.ext (by dsimp only; omega))) _) _)
/-- The context's prepared keys per head. -/
theorem ckn_at (n : Fin 256) (h : Fin 16) (e : Fin 128) : (V m c main_v18 (ix2 n ⟨128 * h.val + e.val, by omega⟩) : EReal) = (ins m c).ckn n h e := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  exact congrArg (m ((c : Thread nD τ).loc main_arg5)) (congr (congrArg _ (Fin.ext (by dsimp only; omega))) (Fin.ext (by dsimp only; omega)))
/-- The context's prepared shared keys. -/
theorem ckp_at (n : Fin 256) (e : Fin 128) : (V m c main_v20 (ix2 n e) : EReal) = padded ((ins m c).ckp n) e := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  unfold padded
  by_cases he : e.val < 64
  · rw [dif_pos (by omega), dif_pos he]
    rfl
  · rw [dif_neg (by omega), dif_neg he]
    exact sitofp_zero
/-- The context's prepared values. -/
theorem cv_at (h : Fin 16) (d : Fin 128) (e : Fin 256) : (V m c main_v24 (ix4 h 0 d e) : EReal) = (ins m c).cv e h d := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  rfl
/-- The prepared gate. -/
theorem gate_at (n : Fin 8192) (d : Fin 2048) : (V m c main_v25 (ix2 n d) : EReal) = (ins m c).gate n d := by
  show StableHlo.after [hostOps0, hostOps0_1, hostOps0_2, hostOps0_3, hostOps0_4, hostOps0_5, hostOps0_6].flatten (fun b => m (c, b)) (Proc.tc.devRef _) _ = _
  simp only [hostOps0, hostOps0_1, hostOps0_2, hostOps0_3, hostOps0_4, hostOps0_5, hostOps0_6, List.flatten_cons, List.flatten_nil, List.cons_append, List.nil_append]
  after_reads_at
  rfl
/-- The staged queries, first half. -/
theorem blk_qlo (t : Fin cfg0.N) (j : Fin 512) (e : Fin 128) : (iblk m c 0 t (ix2 j (⟨e.val, by omega⟩ : Fin 256)) : EReal) = (ins m c).qn (row t j) (hd t) e * factor := by
  refine Eq.trans ?_ (q_lo m c (row t j) (hd t) e)
  blk_ext [iblk, idx t, hd, row]

/-- The staged queries, second half. -/
theorem blk_qhi (t : Fin cfg0.N) (j : Fin 512) (e : Fin 128) : (iblk m c 0 t (ix2 j (⟨128 + e.val, by omega⟩ : Fin 256)) : EReal) = padded ((ins m c).qp (row t j) (hd t)) e * factor := by
  refine Eq.trans ?_ (q_hi m c (row t j) (hd t) e)
  blk_ext [iblk, idx t, hd, row]

/-- The staged keys per head. -/
theorem blk_kn (t : Fin cfg0.N) (k : Fin 8192) (e : Fin 128) : (iblk m c 1 t (ix2 k e) : EReal) = (ins m c).kn k (hd t) e := by
  refine Eq.trans ?_ (kn_at m c k (hd t) e)
  blk_ext [iblk, idx t, hd, row]

/-- The staged shared keys. -/
theorem blk_kp (t : Fin cfg0.N) (k : Fin 8192) (e : Fin 128) : (iblk m c 2 t (ix2 k e) : EReal) = padded ((ins m c).kp k) e := by
  refine Eq.trans ?_ (kp_at m c k e)
  blk_ext [iblk, idx t, hd, row]

/-- The staged values. -/
theorem blk_v (t : Fin cfg0.N) (u : Fin 32) (d : Fin 128) (e : Fin 256) : (iblk m c 3 t (ix4 0 u d e) : EReal) = (ins m c).v ⟨256 * u.val + e.val, by omega⟩ (hd t) d := by
  refine Eq.trans ?_ (v_at m c (hd t) u d e)
  blk_ext [iblk, idx t, hd, row]

/-- The context's staged keys per head. -/
theorem blk_ckn (t : Fin cfg0.N) (k : Fin 256) (e : Fin 128) : (iblk m c 4 t (ix2 k e) : EReal) = (ins m c).ckn k (hd t) e := by
  refine Eq.trans ?_ (ckn_at m c k (hd t) e)
  blk_ext [iblk, idx t, hd, row]

/-- The context's staged shared keys. -/
theorem blk_ckp (t : Fin cfg0.N) (k : Fin 256) (e : Fin 128) : (iblk m c 5 t (ix2 k e) : EReal) = padded ((ins m c).ckp k) e := by
  refine Eq.trans ?_ (ckp_at m c k e)
  blk_ext [iblk, idx t, hd, row]

/-- The context's staged values. -/
theorem blk_cv (t : Fin cfg0.N) (d : Fin 128) (e : Fin 256) : (iblk m c 6 t (ix4 0 0 d e) : EReal) = (ins m c).cv e (hd t) d := by
  refine Eq.trans ?_ (cv_at m c (hd t) d e)
  blk_ext [iblk, idx t, hd, row]

/-- The staged gate. -/
theorem blk_gate (t : Fin cfg0.N) (j : Fin 512) (e : Fin 128) : (iblk m c 7 t (ix2 j e) : EReal) = (ins m c).gate (row t j) ⟨128 * (hd t).val + e.val, by have := (hd t).isLt; omega⟩ := by
  refine Eq.trans ?_ (gate_at m c (row t j) ⟨128 * (hd t).val + e.val, by have := (hd t).isLt; omega⟩)
  blk_ext [iblk, idx t, hd, row]

/-- The result's array by coordinates. -/
def result : Vec Ideal S8192x2048 .bf16 :=
  fun i => (ins m c).out (i 0 : Fin 8192) (⟨(i 1).val / 128, by have : (i 1).val < 2048 := (i 1).isLt; omega⟩ : Fin 16) (⟨(i 1).val % 128, Nat.mod_lt _ (by norm_num)⟩ : Fin 128)

/-- The result's array at a head's column. -/
theorem result_at (n : Fin 8192) (h : Fin 16) (d : Fin 128) : result m c (ix2 n (⟨128 * h.val + d.val, by omega⟩ : Fin 2048)) = (ins m c).out n h d := by
  unfold result
  have e1 : (⟨(128 * h.val + d.val) / 128, by omega⟩ : Fin 16) = h := Fin.ext (by dsimp only; omega)
  have e2 : (⟨(128 * h.val + d.val) % 128, Nat.mod_lt _ (by norm_num)⟩ : Fin 128) = d := Fin.ext (by dsimp only; omega)
  exact congr (congrArg ((ins m c).out n) e1) e2

/-- What a grid point leaves of query `j` and column `d`. -/
theorem point (hI : (ins m c).Real) (t : Fin cfg0.N) (j : Fin 512) (d : Fin 128) :
    k0_pay2 (F := Ideal) (iblk m c 7 t) (up (final (iblk m c 0 t) (iblk m c 1 t) (iblk m c 2 t) (iblk m c 3 t) (iblk m c 4 t) (iblk m c 5 t) (iblk m c 6 t))).2.2
        (up (final (iblk m c 0 t) (iblk m c 1 t) (iblk m c 2 t) (iblk m c 3 t) (iblk m c 4 t) (iblk m c 5 t) (iblk m c 6 t))).2.1 (ix2 j d)
      = (ins m c).out (row t j) (hd t) d := by
  refine (final_at ((ins m c).sc (row t j) (hd t)) (fun k => (ins m c).val k (hd t) d) _ _ _ _ _ _ _ _ j d ?_ ?_ ?_ ?_).trans ?_
  · intro u hu k
    rw [← MlaMath.score_eq hI (row t j) (hd t) (256 * u + k.val) MlaMath.factor_eq]
    refine (score_at _ _ _ k j).trans ?_
    have hk : 256 * u + k.val < 8192 := by omega
    refine congr (congrArg _ (Finset.sum_congr rfl fun e _ => ?_)) (Finset.sum_congr rfl fun e _ => ?_)
    · refine congr (congrArg _ ?_) (blk_qlo m c t j e)
      unfold MlaMath.In.keyN
      rw [dif_pos hk]
      refine Eq.trans ?_ (blk_kn m c t ⟨256 * u + k.val, hk⟩ e)
      exact congrArg (iblk m c 1 t) (congr (congrArg ix2 (Fin.ext (Nat.mod_eq_of_lt hk))) rfl)
    · refine congr (congrArg _ ?_) (blk_qhi m c t j e)
      rw [show (ins m c).keyP (256 * u + k.val) = (ins m c).kp ⟨256 * u + k.val, hk⟩ from funext fun d => dif_pos hk]
      refine Eq.trans ?_ (blk_kp m c t ⟨256 * u + k.val, hk⟩ e)
      exact congrArg (iblk m c 2 t) (congr (congrArg ix2 (Fin.ext (Nat.mod_eq_of_lt hk))) rfl)
  · intro u hu k
    have hk : 256 * u + k.val < 8192 := by omega
    unfold MlaMath.In.val
    rw [dif_pos hk]
    refine Eq.trans ?_ (blk_v m c t ⟨u, hu⟩ d k)
    exact congrArg (iblk m c 3 t) (congrFun (congrFun (congrArg (ix4 0) (Fin.ext (Nat.mod_eq_of_lt hu))) _) _)
  · intro k
    rw [← MlaMath.score_eq hI (row t j) (hd t) (8192 + k.val) MlaMath.factor_eq]
    refine (score_at _ _ _ k j).trans ?_
    have hk : ¬ 8192 + k.val < 8192 := by omega
    have ek : (⟨(8192 + k.val - 8192) % 256, Nat.mod_lt _ (by norm_num)⟩ : Fin 256) = k := Fin.ext (by dsimp only; omega)
    refine congr (congrArg _ (Finset.sum_congr rfl fun e _ => ?_)) (Finset.sum_congr rfl fun e _ => ?_)
    · refine congr (congrArg _ ?_) (blk_qlo m c t j e)
      unfold MlaMath.In.keyN
      rw [dif_neg hk, ek]
      exact blk_ckn m c t k e
    · refine congr (congrArg _ ?_) (blk_qhi m c t j e)
      rw [show (ins m c).keyP (8192 + k.val) = (ins m c).ckp k from funext fun d => (dif_neg hk).trans (by rw [ek])]
      exact blk_ckp m c t k e
  · intro k
    have hk : ¬ 8192 + k.val < 8192 := by omega
    have ek : (⟨(8192 + k.val - 8192) % 256, Nat.mod_lt _ (by norm_num)⟩ : Fin 256) = k := Fin.ext (by dsimp only; omega)
    unfold MlaMath.In.val
    rw [dif_neg hk, ek]
    exact blk_cv m c t d k
  · unfold MlaMath.In.out
    exact congrArg _ (blk_gate m c t j d)

/-- The result's array after the run. -/
theorem arr (hI : (ins m c).Real) : (dats m 0 c).arrAt 8 cfg0.N = result m c := by
  refine (dats m 0 c).arrAt_eq_of_covers 8 _ (by decide +kernel) (fun t hf y => ?_)
  refine (congrFun (Value.flushed8_A m c t) y).trans ?_
  rw [out_eq]
  have hy0 : (y 0).val < 512 := (y 0).isLt
  have hy1 : (y 1).val < 128 := (y 1).isLt
  have ez : ((cfg0.win 8).blk t).view.emb y = ix2 (row t ⟨(y 0).val, hy0⟩) (⟨128 * (hd t).val + (y 1).val, by have := (hd t).isLt; omega⟩ : Fin 2048) := by
    blk_ext [idx t, row, hd]
  refine Eq.trans ?_ ((point m c hI t ⟨(y 0).val, hy0⟩ ⟨(y 1).val, hy1⟩).trans ((result_at m c _ _ _).symm.trans (congrArg (result m c) ez.symm)))
  exact congrArg _ (by funext a; fin_cases a <;> rfl)

end Cert.MlaIdeal.Body
-- ==== Proof.Finite.lean ====
/-
  What a precondition "every entry's absolute value is below infinity" says of the entries: each is a real number.
-/
module

public import proofs.«01_k».proof.Proof.Flash
public import Idealize.ShloMosaic.Lib.Pointwise
public import Idealize.ShloMosaic.Lib.WordArith

@[expose] public section

set_option maxRecDepth 16384

noncomputable section

namespace Cert.Finite

open Idealize.ShloMosaic

/-- The word of `+∞` is `⊤`. -/
theorem inf_top : Ideal.ofBits .f32 2139095040#32 = ⊤ := by
  show Ideal.ieee 8 23 (2139095040#32) = ⊤
  unfold Ideal.ieee
  dsimp only
  rw [if_pos (by decide), if_pos (by decide), if_neg (by decide)]

/-- A number whose absolute value is below infinity is real. -/
theorem real_of_abs {x : EReal} (h : BitVec.ofBool (decide (FloatOps.absf (F := Ideal) (φ := .f32) x < Ideal.ofBits .f32 2139095040#32)) = 1#1) :
    x = (x.toReal : EReal) := by
  rw [inf_top] at h
  have h1 : FloatOps.absf (F := Ideal) (φ := .f32) x < ⊤ := by
    by_contra hn
    rw [decide_eq_false hn] at h
    exact absurd h (by decide)
  have h2 : max x (-x) < ⊤ := h1
  refine (EReal.coe_toReal ?_ ?_).symm
  · exact (lt_of_le_of_lt (le_max_left _ _) h2).ne
  · rintro rfl
    exact absurd h2 (by simp)

/-- A conjunction of bits over a finite index that is set has every bit set. -/
theorem of_fold {ι : Type} {f : ι → BitVec 1} (s : Finset ι) (h : Finset.fold IntOp.andi (1#1) f s = 1#1) : ∀ k ∈ s, f k = 1#1 := by
  classical
  induction s using Finset.induction_on with
  | empty => intro k hk; exact absurd hk (Finset.notMem_empty k)
  | insert a s ha ih =>
    rw [Finset.fold_insert ha] at h
    have h2 : f a = 1#1 ∧ Finset.fold IntOp.andi (1#1) f s = 1#1 := by
      revert h
      generalize f a = u
      generalize Finset.fold IntOp.andi (1#1) f s = w
      revert u w
      decide
    intro k hk
    rcases Finset.mem_insert.mp hk with rfl | hk
    · exact h2.1
    · exact ih h2.2 k hk

/-- The same over a whole index, for numbers each compared with infinity. -/
theorem all_real {ι : Type} [Fintype ι] (x : ι → EReal)
    (h : Finset.fold IntOp.andi (1#1) (fun k => BitVec.ofBool (decide (FloatOps.absf (F := Ideal) (φ := .f32) (x k) < Ideal.ofBits .f32 2139095040#32))) Finset.univ = 1#1) (k : ι) :
    x k = ((x k).toReal : EReal) := real_of_abs (of_fold _ h k (Finset.mem_univ k))

/-- Two bits whose conjunction is set are set. -/
theorem of_and : ∀ {u w : BitVec 1}, IntOp.andi u w = 1#1 → u = 1#1 ∧ w = 1#1 := by decide

/-- The host's maximum over one inhabited axis, from a start other than `⊤`, of real numbers is real. -/
theorem host_max_real {s t u : Shape} {a : Fin s.rank} (x : FVec Ideal s .f32) (init : FVec Ideal u .f32) (h' : s.ReducesTo [a] t) (h : s.Reduces [a] t)
    (hu : 0 < u.numel) (j : t.Idx) (hn : 0 < s.size a) (hi : (init (Shape.Idx.first hu) : EReal) ≠ ⊤) (hx : ∀ i, ∃ r : ℝ, (x i : EReal) = (r : EReal)) :
    ∃ r : ℝ, (show EReal from Host.reduce (α := Ideal .f32) FloatOps.maximumf x init h' hu j) = (r : EReal) := by
  haveI : Nonempty (Fin (s.size a)) := ⟨⟨0, hn⟩⟩
  rw [Host.reduce_eq_fold_single _ x init h' h hu j]
  exact Flash.fold_real hi fun k => hx _

/-- A maximum of two arrays at an index, the first entry other than `⊤` and the second real, is real. -/
theorem maximumf_real {s : Shape} (A B : FVec Ideal s .f32) (i : s.Idx) (ha : (A i : EReal) ≠ ⊤) (hb : ∃ r : ℝ, (B i : EReal) = (r : EReal)) :
    ∃ r : ℝ, (maximumf A B i : EReal) = (r : EReal) := by
  obtain ⟨r, hr⟩ := hb
  have e : (maximumf A B i : EReal) = max (A i : EReal) (r : EReal) := by rw [← hr]; rfl
  have ht : (max (A i : EReal) (r : EReal)) < ⊤ := max_lt (lt_top_iff_ne_top.mpr ha) (EReal.coe_lt_top r)
  have hb : (⊥ : EReal) < max (A i : EReal) (r : EReal) := lt_max_of_lt_right (EReal.bot_lt_coe r)
  exact ⟨_, e.trans (EReal.coe_toReal ht.ne hb.ne').symm⟩

end Cert.Finite
-- ==== Proof.MlaRefValue.lean ====
/-
  The latent attention's reference: what its result holds, read index by index.
-/
module

public import proofs.«01_k».proof.Proof.MlaMath
public import proofs.«01_k».proof.Proof.Finite
public import proofs.«01_k».proof.Proof.Gen.MlaRefIdeal.Run
public import Idealize.ShloMosaic.Lib.Pointwise
public import Idealize.ShloMosaic.Lib.Claim

@[expose] public section

set_option maxRecDepth 16384

noncomputable section

namespace Cert.MlaRefIdeal.Body

open Cert.MlaRefIdeal Cert.MlaRefIdeal.Gen Idealize.ShloMosaic Idealize.ShloMosaic.TcCoe Idealize.SL.Sem

variable (m : (ℓ : Loc nD τ sig) → Buf (Elt Ideal) ℓ) (c : Dev nD)

/-- The arguments by coordinates. -/
def ins : MlaMath.In where
  qn n h d := m ((c.tc : Thread nD τ).loc main_arg0) (ix3 n h d)
  qp n h d := m ((c.tc : Thread nD τ).loc main_arg1) (ix3 n h d)
  kn n h d := m ((c.tc : Thread nD τ).loc main_arg2) (ix3 n h d)
  kp n d := m ((c.tc : Thread nD τ).loc main_arg3) (ix2 n d)
  v n h d := m ((c.tc : Thread nD τ).loc main_arg4) (ix3 n h d)
  ckn n h d := m ((c.tc : Thread nD τ).loc main_arg5) (ix3 n h d)
  ckp n d := m ((c.tc : Thread nD τ).loc main_arg6) (ix2 n d)
  cv n h d := m ((c.tc : Thread nD τ).loc main_arg7) (ix3 n h d)
  gate n d := m ((c.tc : Thread nD τ).loc main_arg8) (ix2 n d)

section Terms

variable (a0 : FVec Ideal S8192x16x128 .f32) (a1 : FVec Ideal S8192x16x64 .f32) (a2 : FVec Ideal S8192x16x128 .f32) (a3 : FVec Ideal S8192x64 .f32)
  (a4 : FVec Ideal S8192x16x128 .f32) (a5 : FVec Ideal S256x16x128 .f32) (a6 : FVec Ideal S256x64 .f32) (a7 : FVec Ideal S256x16x128 .f32) (a8 : FVec Ideal S8192x2048 .f32)

/-- The scaled scores. -/
def scores : FVec Ideal S16x8192x8448 .f32 :=
  mulf (addf (Host.dotGeneral dot_S8192x16x128_S8448x16x128_S16x8192x8448_2_2_0_0_1_1 none a0 (concatenate S8448x16x128 0 [⟨S8192x16x128, a2⟩, ⟨S256x16x128, a5⟩] concatenates_S8192x16x128_S256x16x128_S8448x16x128_d0)) (transpose S16x8192x8448 [2, 1, 0] (Host.dotGeneral dot_S8448x64_S8192x16x64_S8448x8192x16_1_2_0_01_n_n none (concatenate S8448x64 0 [⟨S8192x64, a3⟩, ⟨S256x64, a6⟩] concatenates_S8192x64_S256x64_S8448x64_d0) a1) transposes_S8448x8192x16_S16x8192x8448_2_1_0)) (broadcastInDim S16x8192x8448 ![] bcast_S_S16x8192x8448 (constant S_ .f32 0x3D93CD3A#32))

/-- The largest score of each query. -/
def top (s : FVec Ideal S16x8192x8448 .f32) : FVec Ideal S16x8192 .f32 :=
  maximumf (broadcastInDim S16x8192 ![] bcast_S_S16x8192 (constant S_ .f32 0xFF800000#32)) (Host.reduce FloatOps.maximumf s (constant S_ .f32 0xFF800000#32) reducesTo_S16x8192x8448_S16x8192_d2 h_S_)

/-- The scores' exponentials under a shift. -/
def expo (s : FVec Ideal S16x8192x8448 .f32) (t : FVec Ideal S16x8192 .f32) : FVec Ideal S16x8192x8448 .f32 :=
  Host.exp (subf s (broadcastInDim S16x8192x8448 ![0, 1, 2] bcast_S16x8192x1_S16x8192x8448_0_1_2 (broadcastInDim S16x8192x1 ![0, 1] bcast_S16x8192_S16x8192x1_0_1 t)))

/-- The exponentials over their sums. -/
def prob (e : FVec Ideal S16x8192x8448 .f32) : FVec Ideal S16x8192x8448 .f32 :=
  Host.divf e (broadcastInDim S16x8192x8448 ![0, 1, 2] bcast_S16x8192x1_S16x8192x8448_0_1_2 (broadcastInDim S16x8192x1 ![0, 1] bcast_S16x8192_S16x8192x1_0_1 (Host.reduceAdd e (constant S_ .f32 0x00000000#32) reducesTo_S16x8192x8448_S16x8192_d2 h_S_)))

/-- The weighted values times the gate. -/
def mixed (p : FVec Ideal S16x8192x8448 .f32) : FVec Ideal S8192x2048 .bf16 :=
  truncf .bf16 (mulf (shapeCast _ (transpose S8192x16x128 [2, 0, 1] (Host.dotGeneral dot_S8448x16x128_S16x8192x8448_S16x128x8192_0_2_2_1_1_0 none (concatenate S8448x16x128 0 [⟨S8192x16x128, a4⟩, ⟨S256x16x128, a7⟩] concatenates_S8192x16x128_S256x16x128_S8448x16x128_d0) p) transposes_S16x128x8192_S8192x16x128_2_0_1) shapeCasts_S8192x16x128_S8192x2048) a8) bitsLt_bf16_f32

theorem res_eq : Value.res_main_v24 m c =
    mixed (m ((c.tc : Thread nD τ).loc main_arg4)) (m ((c.tc : Thread nD τ).loc main_arg7)) (m ((c.tc : Thread nD τ).loc main_arg8))
      (prob (expo (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))
        (top (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))))) := rfl

/-- The maximum over the last axis of real numbers is real. -/
theorem top_real (s : FVec Ideal S16x8192x8448 .f32) (hs : ∀ i, ∃ r : ℝ, (s i : EReal) = (r : EReal)) (i : S16x8192.Idx) : ∃ r : ℝ, (top s i : EReal) = (r : EReal) := by
  unfold top
  exact Finite.maximumf_real _ _ i Flash.negInf_ne_top
    (Finite.host_max_real s _ reducesTo_S16x8192x8448_S16x8192_d2 (by decide) h_S_ i (by decide) Flash.negInf_ne_top hs)

theorem expo_at (s : FVec Ideal S16x8192x8448 .f32) (t : FVec Ideal S16x8192 .f32) (h : Fin 16) (n : Fin 8192) (k : Fin 8448) :
    (expo s t (ix3 h n k) : EReal) = Ideal.exp (s (ix3 h n k) - t (ix2 h n)) := by
  pointwise [expo]

theorem prob_at (s : FVec Ideal S16x8192x8448 .f32) (h : Fin 16) (n : Fin 8192) (k : Fin 8448) :
    (prob s (ix3 h n k) : EReal) = Ideal.div (s (ix3 h n k)) (∑ x : Fin 8448, s (ix3 h n x)) := by
  pointwise [prob]

theorem mixed_at (s : FVec Ideal S16x8192x8448 .f32) (n : Fin 8192) (h : Fin 16) (d : Fin 128) :
    (mixed a4 a7 a8 s (ix2 n ⟨128 * h.val + d.val, by omega⟩) : EReal)
      = (∑ x : Fin 8192, a4 (ix3 x h d) * s (ix3 h n ⟨x.val, by omega⟩) + ∑ x : Fin 256, a7 (ix3 x h d) * s (ix3 h n ⟨8192 + x.val, by omega⟩)) * a8 (ix2 n ⟨128 * h.val + d.val, by omega⟩) := by
  pointwise [mixed]

theorem scores_at (h : Fin 16) (n : Fin 8192) (k : Fin 8448) : (scores a0 a1 a2 a3 a5 a6 (ix3 h n k) : EReal) =
    ((∑ x : Fin 128, a0 (ix3 n h x) * (if hk : k.val < 8192 then a2 (ix3 ⟨k.val, hk⟩ h x) else a5 (ix3 ⟨k.val - 8192, by omega⟩ h x)))
      + ∑ x : Fin 64, (if hk : k.val < 8192 then a3 (ix2 ⟨k.val, hk⟩ x) else a6 (ix2 ⟨k.val - 8192, by omega⟩ x)) * a1 (ix3 n h x)) * Ideal.ofBits .f32 1033096506#32 := by
  pointwise [scores]

end Terms

/-- A score of the reference. -/
theorem score_val (hI : (ins m c).Real) (h : Fin 16) (n : Fin 8192) (k : Fin 8448) :
    (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (ix3 h n k) : EReal)
      = (((ins m c).sc n h k.val * Real.log 2 : ℝ) : EReal) := by
  rw [scores_at, ← MlaMath.score_plain hI n h k.val]
  have e1 : ∀ x, (ins m c).keyN k.val h x = if hk : k.val < 8192 then (ins m c).kn ⟨k.val, hk⟩ h x else (ins m c).ckn ⟨k.val - 8192, by omega⟩ h x := by
    intro x
    unfold MlaMath.In.keyN
    by_cases hk : k.val < 8192
    · rw [dif_pos hk, dif_pos hk]
    · rw [dif_neg hk, dif_neg hk]
      exact congrArg (fun j => (ins m c).ckn j h x) (Fin.ext (Nat.mod_eq_of_lt (by omega)))
  have e2 : ∀ x, (ins m c).keyP k.val x = if hk : k.val < 8192 then (ins m c).kp ⟨k.val, hk⟩ x else (ins m c).ckp ⟨k.val - 8192, by omega⟩ x := by
    intro x
    unfold MlaMath.In.keyP
    by_cases hk : k.val < 8192
    · rw [dif_pos hk, dif_pos hk]
    · rw [dif_neg hk, dif_neg hk]
      exact congrArg (fun j => (ins m c).ckp j x) (Fin.ext (Nat.mod_eq_of_lt (by omega)))
  refine congrArg (· * _) (congr (congrArg _ (Finset.sum_congr rfl fun x _ => ?_)) (Finset.sum_congr rfl fun x _ => ?_))
  · rw [e1]; rfl
  · rw [e2]; rfl

/-- The reference's result by coordinates. -/
theorem res_at (hI : (ins m c).Real) (n : Fin 8192) (h : Fin 16) (d : Fin 128) :
    (Value.res_main_v24 m c (ix2 n (⟨128 * h.val + d.val, by omega⟩ : Fin 2048)) : EReal) = (ins m c).out n h d := by
  rw [res_eq]
  refine (mixed_at _ _ _ _ n h d).trans ?_
  have hp : ∀ k : Fin 8448, (prob (expo (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))
        (top (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))))) (ix3 h n k) : EReal)
      = ((Flash.wt ((ins m c).sc n h) 8448 k.val : ℝ) : EReal) := by
    intro k
    rw [prob_at]
    simp only [expo_at]
    refine Flash.soft (by norm_num) _ _ (fun k => score_val m c hI h n k) (top_real _ (fun i => ?_) (ix2 h n)) k
    rw [show i = ix3 (i 0 : Fin 16) (i 1 : Fin 8192) (i 2 : Fin 8448) from by funext a; fin_cases a <;> rfl]
    exact ⟨_, score_val m c hI _ _ _⟩
  simp only [hp]
  unfold MlaMath.In.out
  refine congrArg (· * _) ?_
  rw [← Fin.sum_univ_eq_sum_range (fun k => (ins m c).val k h d * ((Flash.wt ((ins m c).sc n h) 8448 k : ℝ) : EReal)) 8448]
  refine Eq.trans ?_ (Fin.sum_univ_add (a := 8192) (b := 256) (fun k : Fin 8448 => (ins m c).val k.val h d * ((Flash.wt ((ins m c).sc n h) 8448 k.val : ℝ) : EReal))).symm
  refine congr (congrArg _ (Finset.sum_congr rfl fun x _ => congrArg (· * _) ?_)) (Finset.sum_congr rfl fun x _ => congrArg (· * _) ?_)
  · unfold MlaMath.In.val
    have hk : (Fin.castAdd 256 x).val < 8192 := x.isLt
    refine Eq.trans ?_ (dif_pos hk).symm
    rfl
  · unfold MlaMath.In.val
    have hk : ¬ 8192 + x.val < 8192 := by omega
    refine Eq.trans ?_ (dif_neg hk).symm
    exact congrArg (fun j => (ins m c).cv j h d) (Fin.ext (show x.val = (8192 + x.val - 8192) % 256 by omega))

end Cert.MlaRefIdeal.Body
-- ==== Proof.MlaPre.lean ====
/-
  The latent attention's precondition: the entries of the queries and the keys are real numbers.
-/
module

public import proofs.«01_k».proof.Proof.Finite
public import proofs.«01_k».proof.Proof.Gen.Pre_finite
public import Idealize.ShloMosaic.Lib.Pointwise
public import Idealize.ShloMosaic.Lib.Claim

@[expose] public section

set_option maxRecDepth 16384

noncomputable section

namespace Cert.Pre_finite.Body

open Cert.Pre_finite Cert.Pre_finite.Gen Idealize.ShloMosaic

/-- Under the precondition the six arrays hold real numbers. -/
theorem decode (a0 : FVec Ideal S8192x16x128 .f32) (a1 : FVec Ideal S8192x16x64 .f32) (a2 : FVec Ideal S8192x16x128 .f32) (a3 : FVec Ideal S8192x64 .f32)
    (a4 : FVec Ideal S8192x16x128 .f32) (a5 : FVec Ideal S256x16x128 .f32) (a6 : FVec Ideal S256x64 .f32) (a7 : FVec Ideal S256x16x128 .f32) (a8 : FVec Ideal S8192x2048 .f32)
    (h : fn a0 a1 a2 a3 a4 a5 a6 a7 a8 = fun _ => 1#1) :
    (∀ n h d, (a0 (ix3 n h d) : EReal) = ((a0 (ix3 n h d) : EReal).toReal : EReal)) ∧ (∀ n h d, (a1 (ix3 n h d) : EReal) = ((a1 (ix3 n h d) : EReal).toReal : EReal))
      ∧ (∀ n h d, (a2 (ix3 n h d) : EReal) = ((a2 (ix3 n h d) : EReal).toReal : EReal)) ∧ (∀ n d, (a3 (ix2 n d) : EReal) = ((a3 (ix2 n d) : EReal).toReal : EReal))
      ∧ (∀ n h d, (a5 (ix3 n h d) : EReal) = ((a5 (ix3 n h d) : EReal).toReal : EReal)) ∧ (∀ n d, (a6 (ix2 n d) : EReal) = ((a6 (ix2 n d) : EReal).toReal : EReal)) := by
  have h0 := congrFun h ix0
  pointwise [fn, fn_part1] at h0
  obtain ⟨h0, e6⟩ := Finite.of_and h0
  obtain ⟨h0, e5⟩ := Finite.of_and h0
  obtain ⟨h0, e3⟩ := Finite.of_and h0
  obtain ⟨h0, e2⟩ := Finite.of_and h0
  obtain ⟨e0, e1⟩ := Finite.of_and h0
  exact ⟨fun n h d => Finite.all_real (fun k : Fin 8192 × Fin 16 × Fin 128 => a0 (ix3 k.1 k.2.1 k.2.2)) e0 (n, h, d),
    fun n h d => Finite.all_real (fun k : Fin 8192 × Fin 16 × Fin 64 => a1 (ix3 k.1 k.2.1 k.2.2)) e1 (n, h, d),
    fun n h d => Finite.all_real (fun k : Fin 8192 × Fin 16 × Fin 128 => a2 (ix3 k.1 k.2.1 k.2.2)) e2 (n, h, d),
    fun n d => Finite.all_real (fun k : Fin 8192 × Fin 64 => a3 (ix2 k.1 k.2)) e3 (n, d),
    fun n h d => Finite.all_real (fun k : Fin 256 × Fin 16 × Fin 128 => a5 (ix3 k.1 k.2.1 k.2.2)) e5 (n, h, d),
    fun n d => Finite.all_real (fun k : Fin 256 × Fin 64 => a6 (ix2 k.1 k.2)) e6 (n, d)⟩

end Cert.Pre_finite.Body
-- ==== Proof.MlaClaims.lean ====
/-
  The latent attention's claims.
-/
module

public import proofs.«01_k».proof.Defs
public import proofs.«01_k».proof.Proof.MlaValue
public import proofs.«01_k».proof.Proof.MlaRefValue
public import proofs.«01_k».proof.Proof.MlaPre
public import proofs.«01_k».proof.Proof.Gen.Mla.Frame
public import proofs.«01_k».proof.Proof.Gen.MlaIdeal.Value
public import Idealize.ShloMosaic.Adequacy
public import Idealize.ShloMosaic.Init

@[expose] public section

noncomputable section

namespace Cert.Proof.MlaClaims

open Idealize.ShloMosaic Idealize.ShloMosaic.TcCoe Idealize.SL.Sem

/-- The reference ends with its arguments and every counter as they were. -/
theorem frame_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The precondition makes the kernel's queries and keys real numbers. -/
theorem ins_real (m : (ℓ : Loc Cert.MlaIdeal.nD Cert.MlaIdeal.τ Cert.MlaIdeal.sig) → Buf (Elt Ideal) ℓ) (hp : Cert.Pre_MlaIdeal_finite m) (c : Dev Cert.MlaIdeal.nD) :
    (Cert.MlaIdeal.Body.ins m c).Real := by
  obtain ⟨h0, h1, h2, h3, h5, h6⟩ := Cert.Pre_finite.Body.decode _ _ _ _ _ _ _ _ _ (hp c)
  exact ⟨h0, h1, h2, h3, h5, h6⟩

/-- Kernel and reference leave the same array. -/
theorem algebraic : Cert.algebraic_MlaIdeal_MlaRefIdeal_pre_finite := by
  intro m ρ m' ρ' hp hagree
  refine ⟨fun c => Cert.MlaIdeal.Body.result m c,
    (θ_run Cert.MlaIdeal.defs _ _).mono (fun r h c => ⟨(h c).1.trans (Cert.MlaIdeal.Body.arr m c (ins_real m hp c)), (h c).2⟩)
      (Cert.MlaIdeal.Value.run_blocks m ρ), ?_⟩
  refine (θ_run Cert.MlaRefIdeal.defs _ _).mono (fun r h c => ⟨(h c).1.trans ?_, (h c).2⟩) (Cert.MlaRefIdeal.Value.run (F := Ideal) m' ρ')
  have e : Cert.MlaRefIdeal.Body.ins m' c = Cert.MlaIdeal.Body.ins m c := by
    unfold Cert.MlaRefIdeal.Body.ins Cert.MlaIdeal.Body.ins
    obtain ⟨h0, h1, h2, h3, h4, h5, h6, h7, h8⟩ := hagree c
    rw [h0, h1, h2, h3, h4, h5, h6, h7, h8]
  have hI : (Cert.MlaRefIdeal.Body.ins m' c).Real := e ▸ ins_real m hp c
  funext i
  have h1 : (i 1).val < 2048 := (i 1).isLt
  have ei : i = ix2 (i 0 : Fin 8192) (⟨128 * ((i 1).val / 128) + (i 1).val % 128, by omega⟩ : Fin 2048) := by
    funext a
    fin_cases a
    · rfl
    · exact Fin.ext (show (i 1).val = 128 * ((i 1).val / 128) + (i 1).val % 128 by omega)
  rw [ei]
  refine (Cert.MlaRefIdeal.Body.res_at m' c hI (i 0 : Fin 8192) ⟨(i 1).val / 128, by omega⟩ ⟨(i 1).val % 128, by omega⟩).trans ?_
  rw [e]
  exact (Cert.MlaIdeal.Body.result_at m c _ ⟨(i 1).val / 128, by omega⟩ ⟨(i 1).val % 128, by omega⟩).symm

end Cert.Proof.MlaClaims
-- ==== Proof.DifTrip.lean ====
/-
  The differential attention's kernel body: one tile of 256 keys as a step of one map's running maximum, sum and
  weighted values (`tile`), one trip of the loop as four tiles of either map (`trip`), and what a grid point writes
  from the two maps' states after eight trips and the context tile (`out_eq`).
-/
module

public import proofs.«01_k».proof.Proof.Gen.DifIdeal.Value
public import Idealize.ShloMosaic.Lib.Tactic
public import Idealize.ShloMosaic.Lib.VecWindow
public import Idealize.ShloMosaic.Lib.WritesUnit
public import Idealize.ShloMosaic.Lib.Pointwise

@[expose] public section

set_option maxRecDepth 16384

noncomputable section

namespace Cert.DifIdeal.Body

open Cert.DifIdeal Cert.DifIdeal.Gen Idealize.ShloMosaic Idealize.ShloMosaic.TcCoe Idealize.SL.Sem
open Idealize.ShloMosaic.Pipeline (Dat)

variable {F : FTy → Type} [FloatOps F]

/-- One map's running maximum, sum and weighted values of a block of queries. -/
abbrev St (F : FTy → Type) [FloatOps F] := FVec F S1x512 .f32 × FVec F S1x512 .f32 × FVec F S256x512 .f32

/-- The same as a slice of the scratch buffers holds them. -/
abbrev Buf3 (F : FTy → Type) [FloatOps F] := Vec F S1x1x512 .f32 × Vec F S1x1x512 .f32 × Vec F S1x256x512 .f32

/-- One tile of keys: scores `s`, values `v`. -/
def tile (s : FVec F S256x512 .f32) (v : Vec F S1x1x256x256 .bf16) (st : St F) : St F :=
  (k0_pay13 st.1 s, k0_pay16 k0_pay62 st.1 st.2.1 s v, k0_pay17 k0_pay62 st.1 st.2.2 s v)

/-- The tile's scores from one map's queries and keys. -/
abbrev score (q : Vec F S512x128 .bf16) (a : Vec F S256x128 .bf16) : FVec F S256x512 .f32 := k0_pay8 q a

/-- What the body reads of the scratch buffers' slice. -/
def down (b : Buf3 F) : St F := (k0_pay2 b.1, k0_pay4 b.2.1, k0_pay6 b.2.2)

/-- What the body stores to the scratch buffers' slice. -/
def up (st : St F) : Buf3 F :=
  (shapeCast S1x1x512 st.1 shapeCasts_S1x512_S1x1x512, shapeCast S1x1x512 st.2.1 shapeCasts_S1x512_S1x1x512, k0_pay58 st.2.2)

/-- The first `n` tiles. -/
def tiles (q : Vec F S512x128 .bf16) (a : ℕ → Vec F S256x128 .bf16) (v : ℕ → Vec F S1x1x256x256 .bf16) (st : St F) : ℕ → St F
  | 0 => st
  | n + 1 => tile (score q (a n)) (v n) (tiles q a v st n)

/-- One trip of the loop: four tiles. -/
def trip (q : Vec F S512x128 .bf16) (a : Fin 4 → Vec F S256x128 .bf16) (v : Fin 4 → Vec F S1x1x256x256 .bf16) (st : St F) : St F :=
  tile (score q (a 3)) (v 3) (tile (score q (a 2)) (v 2) (tile (score q (a 1)) (v 1) (tile (score q (a 0)) (v 0) st)))

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S1x32x256x256 .bf16) (harg4 : arg4.IsWhole) (arg5 : Memref sig .tc .vmem S256x256 .bf16) (harg5 : arg5.IsWhole) (arg6 : Memref sig .tc .vmem S1x1x256x256 .bf16) (harg6 : arg6.IsWhole) (arg7 : Memref sig .tc .vmem S512x256 .bf16) (harg7 : arg7.IsWhole) (arg8 : Memref sig .tc .vmem S4x128 .f32) (harg8 : arg8.IsWhole) (arg9 : Memref sig .tc .vmem S1x256 .f32) (harg9 : arg9.IsWhole) (arg10 : Memref sig .tc .vmem S512x256 .bf16) (harg10 : arg10.IsWhole) (arg11 : Memref sig .tc .vmem S2x1x512 .f32) (harg11 : arg11.IsWhole) (arg12 : Memref sig .tc .vmem S2x1x512 .f32) (harg12 : arg12.IsWhole) (arg13 : Memref sig .tc .vmem S2x256x512 .f32) (harg13 : arg13.IsWhole)

/-- The pieces one trip writes, in terms of `trip`. -/
theorem tripL_eq (X_arg2 : BufTy.Contents (Elt F) arg2.view.ty) (X_arg3 : BufTy.Contents (Elt F) arg3.view.ty) (X_arg4 : BufTy.Contents (Elt F) arg4.view.ty) (k : Fin k0_t1_loop.trips) (f_arg11 : BufTy.Contents (Elt F) arg11.view.ty) (f_arg12 : BufTy.Contents (Elt F) arg12.view.ty) (f_arg13 : BufTy.Contents (Elt F) arg13.view.ty)
    (q q' : Vec F S512x128 .bf16) (a a' : Fin 4 → Vec F S256x128 .bf16) (v : Fin 4 → Vec F S1x1x256x256 .bf16) (st st' : Buf3 F)
    (hq : View.readAt (Elt F) arg2.view (Rect.unit (s := S512x256) ![0, 0] S512x128.size inb_S512x256_S512x128_0_0).toLoadRect X_arg2 = q)
    (hq' : View.readAt (Elt F) arg2.view (Rect.unit (s := S512x256) ![0, 128] S512x128.size inb_S512x256_S512x128_0_128).toLoadRect X_arg2 = q')
    (ha : ∀ r : Fin 4, View.readAt (Elt F) arg3.view (Rect.unit (s := S8192x256) (k0_off1 k (BitVec.ofNat 32 r.val)) S256x128.size (k0_off1_inb k r)).toLoadRect X_arg3 = a r)
    (ha' : ∀ r : Fin 4, View.readAt (Elt F) arg3.view (Rect.unit (s := S8192x256) (k0_off2 k (BitVec.ofNat 32 r.val)) S256x128.size (k0_off2_inb k r)).toLoadRect X_arg3 = a' r)
    (hv : ∀ r : Fin 4, View.readAt (Elt F) arg4.view (Rect.unit (s := S1x32x256x256) (k0_off3 k (BitVec.ofNat 32 r.val)) S1x1x256x256.size (k0_off3_inb k r)).toLoadRect X_arg4 = v r)
    (hm : View.readAt (Elt F) arg11.view (Rect.unit (s := S2x1x512) ![0, 0, 0] S1x1x512.size inb_S2x1x512_S1x1x512_0_0_0).toLoadRect f_arg11 = st.1)
    (hm' : View.readAt (Elt F) arg11.view (Rect.unit (s := S2x1x512) ![1, 0, 0] S1x1x512.size inb_S2x1x512_S1x1x512_1_0_0).toLoadRect f_arg11 = st'.1)
    (hl : View.readAt (Elt F) arg12.view (Rect.unit (s := S2x1x512) ![0, 0, 0] S1x1x512.size inb_S2x1x512_S1x1x512_0_0_0).toLoadRect f_arg12 = st.2.1)
    (hl' : View.readAt (Elt F) arg12.view (Rect.unit (s := S2x1x512) ![1, 0, 0] S1x1x512.size inb_S2x1x512_S1x1x512_1_0_0).toLoadRect f_arg12 = st'.2.1)
    (hacc : View.readAt (Elt F) arg13.view (Rect.unit (s := S2x256x512) ![0, 0, 0] S1x256x512.size inb_S2x256x512_S1x256x512_0_0_0).toLoadRect f_arg13 = st.2.2)
    (hacc' : View.readAt (Elt F) arg13.view (Rect.unit (s := S2x256x512) ![1, 0, 0] S1x256x512.size inb_S2x256x512_S1x256x512_1_0_0).toLoadRect f_arg13 = st'.2.2) :
    tripL_k0_t1 (F := F) Variants.none c none i arg2 harg2 arg3 harg3 arg4 harg4 arg5 harg5 arg6 harg6 arg7 harg7 arg8 harg8 arg9 harg9 arg10 harg10 arg11 harg11 arg12 harg12 arg13 harg13 X_arg2 X_arg3 X_arg4 k f_arg11 f_arg12 f_arg13
      = ([⟨(Rect.unit (s := S2x1x512) ![1, 0, 0] S1x1x512.size inb_S2x1x512_S1x1x512_1_0_0), (up (trip q' a' v (down st'))).1⟩, ⟨(Rect.unit (s := S2x1x512) ![0, 0, 0] S1x1x512.size inb_S2x1x512_S1x1x512_0_0_0), (up (trip q a v (down st))).1⟩],
         [⟨(Rect.unit (s := S2x1x512) ![1, 0, 0] S1x1x512.size inb_S2x1x512_S1x1x512_1_0_0), (up (trip q' a' v (down st'))).2.1⟩, ⟨(Rect.unit (s := S2x1x512) ![0, 0, 0] S1x1x512.size inb_S2x1x512_S1x1x512_0_0_0), (up (trip q a v (down st))).2.1⟩],
         [⟨(Rect.unit (s := S2x256x512) ![1, 0, 0] S1x256x512.size inb_S2x256x512_S1x256x512_1_0_0), (up (trip q' a' v (down st'))).2.2⟩, ⟨(Rect.unit (s := S2x256x512) ![0, 0, 0] S1x256x512.size inb_S2x256x512_S1x256x512_0_0_0), (up (trip q a v (down st))).2.2⟩]) := by
  obtain ⟨m, l, acc⟩ := st
  obtain ⟨m', l', acc'⟩ := st'
  obtain rfl := hq
  obtain rfl := hq'
  obtain rfl : _ = a := funext ha
  obtain rfl : _ = a' := funext ha'
  obtain rfl : _ = v := funext hv
  dsimp only at hm hl hacc hm' hl' hacc'
  subst hm hl hacc hm' hl' hacc'
  unfold tripL_k0_t1 trip_k0_t1
  dsimp only
  refine Prod.ext ?_ (Prod.ext ?_ ?_)
  · rfl
  · rfl
  · rfl

/-- Of two slices written, the second reads the second. -/
theorem second_one (v : View sig .tc .vmem S2x1x512 .f32) (f : BufTy.Contents (Elt F) v.ty) (a b : Vec F S1x1x512 .f32) (L : List (View.Piece (Elt F) S2x1x512 .f32)) :
    View.readAt (Elt F) v (Rect.unit (s := S2x1x512) ![1, 0, 0] S1x1x512.size inb_S2x1x512_S1x1x512_1_0_0).toLoadRect (v.writes (Elt F) f (⟨(Rect.unit (s := S2x1x512) ![1, 0, 0] S1x1x512.size inb_S2x1x512_S1x1x512_1_0_0), b⟩ :: ⟨(Rect.unit (s := S2x1x512) ![0, 0, 0] S1x1x512.size inb_S2x1x512_S1x1x512_0_0_0), a⟩ :: L)) = b := by
  funext y
  exact View.read_writes_cons_emb v f (Rect.unit (s := S2x1x512) ![1, 0, 0] S1x1x512.size inb_S2x1x512_S1x1x512_1_0_0) b _ y

/-- Of two slices written, the first reads the first. -/
theorem first_one (v : View sig .tc .vmem S2x1x512 .f32) (f : BufTy.Contents (Elt F) v.ty) (a b : Vec F S1x1x512 .f32) (L : List (View.Piece (Elt F) S2x1x512 .f32)) :
    View.readAt (Elt F) v (Rect.unit (s := S2x1x512) ![0, 0, 0] S1x1x512.size inb_S2x1x512_S1x1x512_0_0_0).toLoadRect (v.writes (Elt F) f (⟨(Rect.unit (s := S2x1x512) ![1, 0, 0] S1x1x512.size inb_S2x1x512_S1x1x512_1_0_0), b⟩ :: ⟨(Rect.unit (s := S2x1x512) ![0, 0, 0] S1x1x512.size inb_S2x1x512_S1x1x512_0_0_0), a⟩ :: L)) = a := by
  funext y
  refine (View.read_writes_cons_unit_of_not_mem v f _ b _ ((Rect.unit (s := S2x1x512) ![0, 0, 0] S1x1x512.size inb_S2x1x512_S1x1x512_0_0_0).emb y) rfl 0 (Or.inl ?_)).trans
    (View.read_writes_cons_emb v f (Rect.unit (s := S2x1x512) ![0, 0, 0] S1x1x512.size inb_S2x1x512_S1x1x512_0_0_0) a L y)
  have h0 : (y 0).val < 1 := (y 0).isLt
  show 0 + 1 * (y 0).val < 1
  omega

/-- Of two slices written, the second reads the second. -/
theorem second_wide (v : View sig .tc .vmem S2x256x512 .f32) (f : BufTy.Contents (Elt F) v.ty) (a b : Vec F S1x256x512 .f32) (L : List (View.Piece (Elt F) S2x256x512 .f32)) :
    View.readAt (Elt F) v (Rect.unit (s := S2x256x512) ![1, 0, 0] S1x256x512.size inb_S2x256x512_S1x256x512_1_0_0).toLoadRect (v.writes (Elt F) f (⟨(Rect.unit (s := S2x256x512) ![1, 0, 0] S1x256x512.size inb_S2x256x512_S1x256x512_1_0_0), b⟩ :: ⟨(Rect.unit (s := S2x256x512) ![0, 0, 0] S1x256x512.size inb_S2x256x512_S1x256x512_0_0_0), a⟩ :: L)) = b := by
  funext y
  exact View.read_writes_cons_emb v f (Rect.unit (s := S2x256x512) ![1, 0, 0] S1x256x512.size inb_S2x256x512_S1x256x512_1_0_0) b _ y

/-- Of two slices written, the first reads the first. -/
theorem first_wide (v : View sig .tc .vmem S2x256x512 .f32) (f : BufTy.Contents (Elt F) v.ty) (a b : Vec F S1x256x512 .f32) (L : List (View.Piece (Elt F) S2x256x512 .f32)) :
    View.readAt (Elt F) v (Rect.unit (s := S2x256x512) ![0, 0, 0] S1x256x512.size inb_S2x256x512_S1x256x512_0_0_0).toLoadRect (v.writes (Elt F) f (⟨(Rect.unit (s := S2x256x512) ![1, 0, 0] S1x256x512.size inb_S2x256x512_S1x256x512_1_0_0), b⟩ :: ⟨(Rect.unit (s := S2x256x512) ![0, 0, 0] S1x256x512.size inb_S2x256x512_S1x256x512_0_0_0), a⟩ :: L)) = a := by
  funext y
  refine (View.read_writes_cons_unit_of_not_mem v f _ b _ ((Rect.unit (s := S2x256x512) ![0, 0, 0] S1x256x512.size inb_S2x256x512_S1x256x512_0_0_0).emb y) rfl 0 (Or.inl ?_)).trans
    (View.read_writes_cons_emb v f (Rect.unit (s := S2x256x512) ![0, 0, 0] S1x256x512.size inb_S2x256x512_S1x256x512_0_0_0) a L y)
  have h0 : (y 0).val < 1 := (y 0).isLt
  show 0 + 1 * (y 0).val < 1
  omega

/-- One map's half of the queries. -/
def qHalf (p : Fin 2) (x : Vec F S512x256 .bf16) : Vec F S512x128 .bf16 :=
  fun y => x (ix2 (y 0 : Fin 512) (⟨128 * p.val + (y 1).val, by have h1 : (y 1).val < 128 := (y 1).isLt; have := p.isLt; omega⟩ : Fin 256))

/-- One map's half of a tile of keys. -/
def kHalf (p : Fin 2) (x : Vec F S256x256 .bf16) : Vec F S256x128 .bf16 :=
  fun y => x (ix2 (y 0 : Fin 256) (⟨128 * p.val + (y 1).val, by have h1 : (y 1).val < 128 := (y 1).isLt; have := p.isLt; omega⟩ : Fin 256))

/-- One map's keys of tile `t`: rows `256·t …` of the array. -/
def keyTile (p : Fin 2) (x : Vec F S8192x256 .bf16) (t : ℕ) : Vec F S256x128 .bf16 :=
  fun y => x (ix2 (⟨(256 * t + (y 0).val) % 8192, Nat.mod_lt _ (by norm_num)⟩ : Fin 8192) (⟨128 * p.val + (y 1).val, by have h1 : (y 1).val < 128 := (y 1).isLt; have := p.isLt; omega⟩ : Fin 256))

/-- The values of tile `t`. -/
def valTile (x : Vec F S1x32x256x256 .bf16) (t : ℕ) : Vec F S1x1x256x256 .bf16 :=
  fun y => x (ix4 (y 0 : Fin 1) (⟨(t + (y 1).val) % 32, Nat.mod_lt _ (by norm_num)⟩ : Fin 32) (y 2 : Fin 256) (y 3 : Fin 256))

/-- One of the four rows the factor of the second map is made from. -/
def rowOf (x : Vec F S4x128 .f32) (r : Fin 4) : Vec F S1x128 .f32 := fun y => x (ix2 r (y 1 : Fin 128))

/-- What a slice of the scratch buffers holds at the loop's entry. -/
def start : Buf3 F := (fun _ => Scalar.ofBits .f32 0xF149F2CA#32, fun _ => Scalar.ofBits .f32 0x00000000#32, fun _ => Scalar.ofBits .f32 0x00000000#32)

theorem down_up (st : St F) : down (up st) = st := by
  obtain ⟨m, l, a⟩ := st
  exact Prod.ext (shapeCast_shapeCast _ _ _) (Prod.ext (shapeCast_shapeCast _ _ _) (shapeCast_shapeCast _ _ _))

theorem up_down (b : Buf3 F) : up (down b) = b := by
  obtain ⟨m, l, a⟩ := b
  exact Prod.ext (shapeCast_shapeCast _ _ _) (Prod.ext (shapeCast_shapeCast _ _ _) (shapeCast_shapeCast _ _ _))

/-- A trip from tile `n` on is four more tiles. -/
theorem trip_tiles (q : Vec F S512x128 .bf16) (a : ℕ → Vec F S256x128 .bf16) (v : ℕ → Vec F S1x1x256x256 .bf16) (st : St F) (n : ℕ) :
    trip q (fun r => a (n + r.val)) (fun r => v (n + r.val)) (tiles q a v st n) = tiles q a v st (n + 4) := rfl

/-- The first map's half of the queries, as loaded. -/
theorem load_q0 (v : View sig .tc .vmem S512x256 .bf16) (X : BufTy.Contents (Elt F) v.ty) (x : Vec F S512x256 .bf16) (hx : v.read (Elt F) X = x) :
    View.readAt (Elt F) v (Rect.unit (s := S512x256) ![0, 0] S512x128.size inb_S512x256_S512x128_0_0).toLoadRect X = qHalf 0 x := by
  rw [View.readAt_unit v X _ rfl inb_S512x256_S512x128_0_0, hx]
  funext y
  refine congrArg x (funext fun a => Fin.ext ?_)
  match a with
  | ⟨0, _⟩ => show 0 + 1 * (y 0).val = (y 0).val; omega
  | ⟨1, _⟩ => show 0 + 1 * (y 1).val = 128 * 0 + (y 1).val; omega

/-- The rows a trip's load of the first map's keys reads. -/
theorem load_keys0 (v : View sig .tc .vmem S8192x256 .bf16) (X : BufTy.Contents (Elt F) v.ty) (x : Vec F S8192x256 .bf16) (hx : v.read (Elt F) X = x) (k : Fin k0_t1_loop.trips) (r : Fin 4) :
    View.readAt (Elt F) v (Rect.unit (s := S8192x256) (k0_off1 k (BitVec.ofNat 32 r.val)) S256x128.size (k0_off1_inb k r)).toLoadRect X
      = keyTile 0 x (4 * k.val + r.val) := by
  have hk : k.val < 8 := k.isLt
  have hr := r.isLt
  rw [View.readAt_unit v X _ (k0_off1_eq k r) (by rw [← k0_off1_eq k r]; exact k0_off1_inb k r), hx]
  funext y
  have h0 : (y 0).val < 256 := (y 0).isLt
  refine congrArg x (funext fun a => Fin.ext ?_)
  match a with
  | ⟨0, _⟩ =>
    show 1024 * k.val + 256 * r.val + 1 * (y 0).val = (256 * (4 * k.val + r.val) + (y 0).val) % 8192
    rw [Nat.mod_eq_of_lt (by omega)]; omega
  | ⟨1, _⟩ =>
    show 0 + 1 * (y 1).val = 128 * 0 + (y 1).val
    omega

/-- The first map's half of the context's keys, as loaded. -/
theorem load_ck0 (v : View sig .tc .vmem S256x256 .bf16) (X : BufTy.Contents (Elt F) v.ty) (x : Vec F S256x256 .bf16) (hx : v.read (Elt F) X = x) (off : Fin 2 → ℕ) (h) (ho : off = ![0, 0]) :
    View.readAt (Elt F) v (Rect.unit (s := S256x256) off S256x128.size h).toLoadRect X = kHalf 0 x := by
  subst ho
  rw [View.readAt_unit v X _ rfl h, hx]
  funext y
  refine congrArg x (funext fun a => Fin.ext ?_)
  match a with
  | ⟨0, _⟩ => show 0 + 1 * (y 0).val = (y 0).val; omega
  | ⟨1, _⟩ => show 0 + 1 * (y 1).val = 128 * 0 + (y 1).val; omega

/-- The second map's half of the queries, as loaded. -/
theorem load_q1 (v : View sig .tc .vmem S512x256 .bf16) (X : BufTy.Contents (Elt F) v.ty) (x : Vec F S512x256 .bf16) (hx : v.read (Elt F) X = x) :
    View.readAt (Elt F) v (Rect.unit (s := S512x256) ![0, 128] S512x128.size inb_S512x256_S512x128_0_128).toLoadRect X = qHalf 1 x := by
  rw [View.readAt_unit v X _ rfl inb_S512x256_S512x128_0_128, hx]
  funext y
  refine congrArg x (funext fun a => Fin.ext ?_)
  match a with
  | ⟨0, _⟩ => show 0 + 1 * (y 0).val = (y 0).val; omega
  | ⟨1, _⟩ => show 128 + 1 * (y 1).val = 128 * 1 + (y 1).val; omega

/-- The rows a trip's load of the second map's keys reads. -/
theorem load_keys1 (v : View sig .tc .vmem S8192x256 .bf16) (X : BufTy.Contents (Elt F) v.ty) (x : Vec F S8192x256 .bf16) (hx : v.read (Elt F) X = x) (k : Fin k0_t1_loop.trips) (r : Fin 4) :
    View.readAt (Elt F) v (Rect.unit (s := S8192x256) (k0_off2 k (BitVec.ofNat 32 r.val)) S256x128.size (k0_off2_inb k r)).toLoadRect X
      = keyTile 1 x (4 * k.val + r.val) := by
  have hk : k.val < 8 := k.isLt
  have hr := r.isLt
  rw [View.readAt_unit v X _ (k0_off2_eq k r) (by rw [← k0_off2_eq k r]; exact k0_off2_inb k r), hx]
  funext y
  have h0 : (y 0).val < 256 := (y 0).isLt
  refine congrArg x (funext fun a => Fin.ext ?_)
  match a with
  | ⟨0, _⟩ =>
    show 1024 * k.val + 256 * r.val + 1 * (y 0).val = (256 * (4 * k.val + r.val) + (y 0).val) % 8192
    rw [Nat.mod_eq_of_lt (by omega)]; omega
  | ⟨1, _⟩ =>
    show 128 + 1 * (y 1).val = 128 * 1 + (y 1).val
    omega

/-- The second map's half of the context's keys, as loaded. -/
theorem load_ck1 (v : View sig .tc .vmem S256x256 .bf16) (X : BufTy.Contents (Elt F) v.ty) (x : Vec F S256x256 .bf16) (hx : v.read (Elt F) X = x) (off : Fin 2 → ℕ) (h) (ho : off = ![0, 128]) :
    View.readAt (Elt F) v (Rect.unit (s := S256x256) off S256x128.size h).toLoadRect X = kHalf 1 x := by
  subst ho
  rw [View.readAt_unit v X _ rfl h, hx]
  funext y
  refine congrArg x (funext fun a => Fin.ext ?_)
  match a with
  | ⟨0, _⟩ => show 0 + 1 * (y 0).val = (y 0).val; omega
  | ⟨1, _⟩ => show 128 + 1 * (y 1).val = 128 * 1 + (y 1).val; omega

/-- One row, as loaded. -/
theorem load_row (v : View sig .tc .vmem S4x128 .f32) (X : BufTy.Contents (Elt F) v.ty) (x : Vec F S4x128 .f32) (hx : v.read (Elt F) X = x) (r : Fin 4) (h) :
    View.readAt (Elt F) v (Rect.unit (s := S4x128) ![r.val, 0] S1x128.size h).toLoadRect X = rowOf x r := by
  rw [View.readAt_unit v X _ rfl h, hx]
  funext y
  have h0 : (y 0).val < 1 := (y 0).isLt
  refine congrArg x (funext fun a => Fin.ext ?_)
  match a with
  | ⟨0, _⟩ => show r.val + 1 * (y 0).val = r.val; omega
  | ⟨1, _⟩ => show 0 + 1 * (y 1).val = (y 1).val; omega

/-- The tile a trip's load of values reads. -/
theorem load_vals (v : View sig .tc .vmem S1x32x256x256 .bf16) (X : BufTy.Contents (Elt F) v.ty) (x : Vec F S1x32x256x256 .bf16) (hx : v.read (Elt F) X = x) (k : Fin k0_t1_loop.trips) (r : Fin 4) :
    View.readAt (Elt F) v (Rect.unit (s := S1x32x256x256) (k0_off3 k (BitVec.ofNat 32 r.val)) S1x1x256x256.size (k0_off3_inb k r)).toLoadRect X
      = valTile x (4 * k.val + r.val) := by
  have hk : k.val < 8 := k.isLt
  have hr := r.isLt
  rw [View.readAt_unit v X _ (k0_off3_eq k r) (by rw [← k0_off3_eq k r]; exact k0_off3_inb k r), hx]
  funext y
  have h1 : (y 1).val < 1 := (y 1).isLt
  refine congrArg x (funext fun a => Fin.ext ?_)
  match a with
  | ⟨0, _⟩ => show 0 + 1 * (y 0).val = (y 0).val; omega
  | ⟨1, _⟩ =>
    show 4 * k.val + r.val + 1 * (y 1).val = (4 * k.val + r.val + (y 1).val) % 32
    rw [Nat.mod_eq_of_lt (by omega)]; omega
  | ⟨2, _⟩ => show 0 + 1 * (y 2).val = (y 2).val; omega
  | ⟨3, _⟩ => show 0 + 1 * (y 3).val = (y 3).val; omega

/-- The scratch buffers after `k` trips hold either map's state after `4·k` tiles. -/
theorem buf_eq (x0 : Vec F S512x256 .bf16) (x1 : Vec F S8192x256 .bf16) (x2 : Vec F S1x32x256x256 .bf16)
    (G_arg11 : BufTy.Contents (Elt F) arg11.view.ty) (G_arg12 : BufTy.Contents (Elt F) arg12.view.ty) (G_arg13 : BufTy.Contents (Elt F) arg13.view.ty)
    (h11a : View.readAt (Elt F) arg11.view (Rect.unit (s := S2x1x512) ![0, 0, 0] S1x1x512.size inb_S2x1x512_S1x1x512_0_0_0).toLoadRect (G_arg11) = (start (F := F)).1) (h11b : View.readAt (Elt F) arg11.view (Rect.unit (s := S2x1x512) ![1, 0, 0] S1x1x512.size inb_S2x1x512_S1x1x512_1_0_0).toLoadRect (G_arg11) = (start (F := F)).1) (h12a : View.readAt (Elt F) arg12.view (Rect.unit (s := S2x1x512) ![0, 0, 0] S1x1x512.size inb_S2x1x512_S1x1x512_0_0_0).toLoadRect (G_arg12) = (start (F := F)).2.1) (h12b : View.readAt (Elt F) arg12.view (Rect.unit (s := S2x1x512) ![1, 0, 0] S1x1x512.size inb_S2x1x512_S1x1x512_1_0_0).toLoadRect (G_arg12) = (start (F := F)).2.1) (h13a : View.readAt (Elt F) arg13.view (Rect.unit (s := S2x256x512) ![0, 0, 0] S1x256x512.size inb_S2x256x512_S1x256x512_0_0_0).toLoadRect (G_arg13) = (start (F := F)).2.2) (h13b : View.readAt (Elt F) arg13.view (Rect.unit (s := S2x256x512) ![1, 0, 0] S1x256x512.size inb_S2x256x512_S1x256x512_1_0_0).toLoadRect (G_arg13) = (start (F := F)).2.2) :
    ∀ k ≤ k0_t1_loop.trips,
      View.readAt (Elt F) arg11.view (Rect.unit (s := S2x1x512) ![0, 0, 0] S1x1x512.size inb_S2x1x512_S1x1x512_0_0_0).toLoadRect (arg11.view.writes (Elt F) G_arg11 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).1) = (up (tiles (qHalf 0 x0) (keyTile 0 x1) (valTile x2) (down start) (4 * k))).1
      ∧ View.readAt (Elt F) arg11.view (Rect.unit (s := S2x1x512) ![1, 0, 0] S1x1x512.size inb_S2x1x512_S1x1x512_1_0_0).toLoadRect (arg11.view.writes (Elt F) G_arg11 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).1) = (up (tiles (qHalf 1 x0) (keyTile 1 x1) (valTile x2) (down start) (4 * k))).1
      ∧ View.readAt (Elt F) arg12.view (Rect.unit (s := S2x1x512) ![0, 0, 0] S1x1x512.size inb_S2x1x512_S1x1x512_0_0_0).toLoadRect (arg12.view.writes (Elt F) G_arg12 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).2.1) = (up (tiles (qHalf 0 x0) (keyTile 0 x1) (valTile x2) (down start) (4 * k))).2.1
      ∧ View.readAt (Elt F) arg12.view (Rect.unit (s := S2x1x512) ![1, 0, 0] S1x1x512.size inb_S2x1x512_S1x1x512_1_0_0).toLoadRect (arg12.view.writes (Elt F) G_arg12 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).2.1) = (up (tiles (qHalf 1 x0) (keyTile 1 x1) (valTile x2) (down start) (4 * k))).2.1
      ∧ View.readAt (Elt F) arg13.view (Rect.unit (s := S2x256x512) ![0, 0, 0] S1x256x512.size inb_S2x256x512_S1x256x512_0_0_0).toLoadRect (arg13.view.writes (Elt F) G_arg13 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).2.2) = (up (tiles (qHalf 0 x0) (keyTile 0 x1) (valTile x2) (down start) (4 * k))).2.2
      ∧ View.readAt (Elt F) arg13.view (Rect.unit (s := S2x256x512) ![1, 0, 0] S1x256x512.size inb_S2x256x512_S1x256x512_1_0_0).toLoadRect (arg13.view.writes (Elt F) G_arg13 (pb_k0_t1 (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 k).2.2) = (up (tiles (qHalf 1 x0) (keyTile 1 x1) (valTile x2) (down start) (4 * k))).2.2 := by
  intro k
  induction k with
  | zero =>
    intro _
    have e0 : (up (tiles (qHalf 0 x0) (keyTile 0 x1) (valTile x2) (down start) (4 * 0))) = start (F := F) := up_down start
    have e1 : (up (tiles (qHalf 1 x0) (keyTile 1 x1) (valTile x2) (down start) (4 * 0))) = start (F := F) := up_down start
    rw [e0, e1]
    exact ⟨h11a, h11b, h12a, h12b, h13a, h13b⟩
  | succ k ih =>
    intro hk
    obtain ⟨i11a, i11b, i12a, i12b, i13a, i13b⟩ := ih (Nat.le_of_succ_le hk)
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) G_arg11 G_arg12 G_arg13 ⟨k, hk⟩
    have t := tripL_eq c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) ⟨k, hk⟩ _ _ _
      (qHalf 0 x0) (qHalf 1 x0) (fun r => keyTile 0 x1 (4 * k + r.val)) (fun r => keyTile 1 x1 (4 * k + r.val)) (fun r => valTile x2 (4 * k + r.val))
      (up (tiles (qHalf 0 x0) (keyTile 0 x1) (valTile x2) (down start) (4 * k))) (up (tiles (qHalf 1 x0) (keyTile 1 x1) (valTile x2) (down start) (4 * k)))
      (load_q0 arg2.view _ x0 (harg2.read_unread x0)) (load_q1 arg2.view _ x0 (harg2.read_unread x0))
      (fun r => load_keys0 arg3.view _ x1 (harg3.read_unread x1) ⟨k, hk⟩ r) (fun r => load_keys1 arg3.view _ x1 (harg3.read_unread x1) ⟨k, hk⟩ r)
      (fun r => load_vals arg4.view _ x2 (harg4.read_unread x2) ⟨k, hk⟩ r)
      i11a i11b i12a i12b i13a i13b
    rw [down_up, down_up, trip_tiles, trip_tiles] at t
    rw [t] at e
    rw [show k + 1 = (⟨k, hk⟩ : Fin k0_t1_loop.trips).val + 1 from rfl, e]
    exact ⟨first_one arg11.view _ _ _ _, second_one arg11.view _ _ _ _, first_one arg12.view _ _ _ _, second_one arg12.view _ _ _ _,
      first_wide arg13.view _ _ _ _, second_wide arg13.view _ _ _ _⟩

/-- A block's state of map `p` after its 32 tiles of the sequence and the tile of the context. -/
def final (p : Fin 2) (x0 : Vec F S512x256 .bf16) (x1 : Vec F S8192x256 .bf16) (x2 : Vec F S1x32x256x256 .bf16) (x3 : Vec F S256x256 .bf16) (x4 : Vec F S1x1x256x256 .bf16) : St F :=
  tile (score (qHalf p x0) (kHalf p x3)) x4 (tiles (qHalf p x0) (keyTile p x1) (valTile x2) (down start) 32)

/-- A slice of a buffer filled with one number. -/
theorem fill_one (v : View sig .tc .vmem S2x1x512 .f32) (f : BufTy.Contents (Elt F) v.ty) (w : Vec F S2x1x512 .f32) (x : F .f32) (hw : ∀ y, w y = x) (off : Fin 3 → ℕ) (h) :
    View.readAt (Elt F) v (Rect.unit (s := S2x1x512) off S1x1x512.size h).toLoadRect (v.writes (Elt F) f [⟨Rect.unit ![0, 0, 0] S2x1x512.size inb_S2x1x512_S2x1x512_0_0_0, w⟩]) = fun _ => x := by
  rw [View.readAt_unit v _ _ rfl h, View.read_writes_full]
  funext y
  exact hw _

/-- A slice of a buffer filled with one number. -/
theorem fill_wide (v : View sig .tc .vmem S2x256x512 .f32) (f : BufTy.Contents (Elt F) v.ty) (w : Vec F S2x256x512 .f32) (x : F .f32) (hw : ∀ y, w y = x) (off : Fin 3 → ℕ) (h) :
    View.readAt (Elt F) v (Rect.unit (s := S2x256x512) off S1x256x512.size h).toLoadRect (v.writes (Elt F) f [⟨Rect.unit ![0, 0, 0] S2x256x512.size inb_S2x256x512_S2x256x512_0_0_0, w⟩]) = fun _ => x := by
  rw [View.readAt_unit v _ _ rfl h, View.read_writes_full]
  funext y
  exact hw _

section
variable (T : St F) (q : Vec F S512x128 .bf16) (a : Vec F S256x128 .bf16) (v : Vec F S1x1x256x256 .bf16)

/-- The first map's weighted values after the context tile, from the buffers after the loop. -/
theorem last_acc0 (M : Vec F S1x1x512 .f32) (A : Vec F S1x256x512 .f32) (q' : Vec F S512x128 .bf16) (a' : Vec F S256x128 .bf16) (v' : Vec F S1x1x256x256 .bf16)
    (hM : M = (up T).1) (hA : A = (up T).2.2) (hq : q' = q) (ha : a' = a) (hv : v' = v) :
    k0_pay86 (k0_pay78 (k0_pay66 M) A q' a') (k0_pay79 k0_pay62 (k0_pay66 M) q' a' v') = (up (tile (score q a) v T)).2.2 := by
  obtain ⟨m, l, acc⟩ := T
  have e := down_up (m, l, acc)
  have e1 : k0_pay66 (up (m, l, acc)).1 = m := congrArg Prod.fst e
  have e2 : k0_pay6 (up (m, l, acc)).2.2 = acc := congrArg (fun s => s.2.2) e
  rw [hM, hA, hq, ha, hv]
  rw [e1]
  refine (show _ = (shapeCast S1x256x512 (addf (mulf (broadcastTo S256x512 (k0_pay75 m q a) broadcasts_S1x512_S256x512) (k0_pay6 (up (m, l, acc)).2.2)) (k0_pay79 k0_pay62 m q a v)) shapeCasts_S256x512_S1x256x512 : FVec F S1x256x512 .f32) from rfl).trans ?_
  rw [e2]
  rfl

/-- The second map's weighted values after the context tile, from the buffers after the loop. -/
theorem last_acc1 (M : Vec F S1x1x512 .f32) (A : Vec F S1x256x512 .f32) (q' : Vec F S512x128 .bf16) (a' : Vec F S256x128 .bf16) (v' : Vec F S1x1x256x256 .bf16)
    (hM : M = (up T).1) (hA : A = (up T).2.2) (hq : q' = q) (ha : a' = a) (hv : v' = v) :
    k0_pay89 (k0_pay83 (k0_pay67 M) (k0_pay70 A) (k0_pay72 q' a') (k0_pay73 k0_pay62 v')) = (up (tile (score q a) v T)).2.2 := by
  obtain ⟨m, l, acc⟩ := T
  have e := down_up (m, l, acc)
  have e1 : k0_pay67 (up (m, l, acc)).1 = m := congrArg Prod.fst e
  have e2 : k0_pay70 (up (m, l, acc)).2.2 = acc := congrArg (fun s => s.2.2) e
  rw [hM, hA, hq, ha, hv]
  rw [e1, e2]
  rfl

/-- The first map's sum after the context tile, from the buffers after the loop. -/
theorem last_l0 (M : Vec F S1x1x512 .f32) (A : Vec F S1x1x512 .f32) (q' : Vec F S512x128 .bf16) (a' : Vec F S256x128 .bf16) (v' : Vec F S1x1x256x256 .bf16)
    (hM : M = (up T).1) (hA : A = (up T).2.1) (hq : q' = q) (ha : a' = a) (hv : v' = v) :
    k0_pay85 (k0_pay77 k0_pay62 (k0_pay66 M) (k0_pay68 A) q' a' v') = (up (tile (score q a) v T)).2.1 := by
  obtain ⟨m, l, acc⟩ := T
  have e := down_up (m, l, acc)
  have e1 : k0_pay66 (up (m, l, acc)).1 = m := congrArg Prod.fst e
  have e2 : k0_pay68 (up (m, l, acc)).2.1 = l := congrArg (fun s => s.2.1) e
  rw [hM, hA, hq, ha, hv]
  rw [e1, e2]
  rfl

/-- The second map's sum after the context tile, from the buffers after the loop. -/
theorem last_l1 (M : Vec F S1x1x512 .f32) (A : Vec F S1x1x512 .f32) (q' : Vec F S512x128 .bf16) (a' : Vec F S256x128 .bf16) (v' : Vec F S1x1x256x256 .bf16)
    (hM : M = (up T).1) (hA : A = (up T).2.1) (hq : q' = q) (ha : a' = a) (hv : v' = v) :
    k0_pay88 (k0_pay67 M) (k0_pay69 A) (k0_pay72 q' a') (k0_pay73 k0_pay62 v') = (up (tile (score q a) v T)).2.1 := by
  obtain ⟨m, l, acc⟩ := T
  have e := down_up (m, l, acc)
  have e1 : k0_pay67 (up (m, l, acc)).1 = m := congrArg Prod.fst e
  have e2 : k0_pay69 (up (m, l, acc)).2.1 = l := congrArg (fun s => s.2.1) e
  rw [hM, hA, hq, ha, hv]
  rw [e1, e2]
  rfl

end

section
variable (x0 : Vec F S512x256 .bf16) (x1 : Vec F S8192x256 .bf16) (x2 : Vec F S1x32x256x256 .bf16) (x3 : Vec F S256x256 .bf16) (x4 : Vec F S1x1x256x256 .bf16)

/-- What a grid point writes to the result's block. -/
theorem out_eq (x5 : Vec F S512x256 .bf16) (x6 : Vec F S4x128 .f32) (x7 : Vec F S1x256 .f32) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7
      = k0_pay1 (k0_pay90 x5) (k0_pay91 (rowOf x6 0) (rowOf x6 1) (rowOf x6 2) (rowOf x6 3))
          (k0_pay92 (up (final 0 x0 x1 x2 x3 x4)).2.2 (up (final 0 x0 x1 x2 x3 x4)).2.1)
          (k0_pay93 (up (final 1 x0 x1 x2 x3 x4)).2.2) (k0_pay94 (up (final 1 x0 x1 x2 x3 x4)).2.1) x7 := by
  have hz : (![0, 0] : Fin 2 → ℕ) = 0 := by funext a; fin_cases a <;> rfl
  obtain ⟨b11a, b11b, b12a, b12b, b13a, b13b⟩ := buf_eq c i arg2 harg2 arg3 harg3 arg4 harg4 arg5 harg5 arg6 harg6 arg7 harg7 arg8 harg8 arg9 harg9 arg10 harg10 arg11 harg11 arg12 harg12 arg13 harg13 x0 x1 x2
    (arg11.view.writes (Elt F) arg11.view.junk [⟨Rect.unit ![0, 0, 0] S2x1x512.size inb_S2x1x512_S2x1x512_0_0_0, k0_pay63⟩])
    (arg12.view.writes (Elt F) arg12.view.junk [⟨Rect.unit ![0, 0, 0] S2x1x512.size inb_S2x1x512_S2x1x512_0_0_0, k0_pay64⟩])
    (arg13.view.writes (Elt F) arg13.view.junk [⟨Rect.unit ![0, 0, 0] S2x256x512.size inb_S2x256x512_S2x256x512_0_0_0, k0_pay65⟩])
    (fill_one arg11.view _ _ _ (fun _ => rfl) _ _) (fill_one arg11.view _ _ _ (fun _ => rfl) _ _)
    (fill_one arg12.view _ _ _ (fun _ => rfl) _ _) (fill_one arg12.view _ _ _ (fun _ => rfl) _ _)
    (fill_wide arg13.view _ _ _ (fun _ => rfl) _ _) (fill_wide arg13.view _ _ _ (fun _ => rfl) _ _)
    k0_t1_loop.trips le_rfl
  have hs : 4 * k0_t1_loop.trips = 32 := rfl
  rw [hs] at b11a b11b b12a b12b b13a b13b
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  have q0 := load_q0 arg2.view _ x0 (harg2.read_unread x0)
  have q1 := load_q1 arg2.view _ x0 (harg2.read_unread x0)
  have ck0 : ∀ (off : Fin 2 → ℕ) (h) (ho : off = ![0, 0]), View.readAt (Elt F) arg5.view (Rect.unit (s := S256x256) off S256x128.size h).toLoadRect (harg5.unread x3) = kHalf 0 x3 :=
    fun off h ho => load_ck0 arg5.view _ x3 (harg5.read_unread x3) off h ho
  have ck1 : ∀ (off : Fin 2 → ℕ) (h) (ho : off = ![0, 128]), View.readAt (Elt F) arg5.view (Rect.unit (s := S256x256) off S256x128.size h).toLoadRect (harg5.unread x3) = kHalf 1 x3 :=
    fun off h ho => load_ck1 arg5.view _ x3 (harg5.read_unread x3) off h ho
  have cv : ∀ (off : Fin 4 → ℕ) (h), View.readAt (Elt F) arg6.view (Rect.unit (s := S1x1x256x256) off S1x1x256x256.size h).toLoadRect (harg6.unread x4) = x4 :=
    fun off h => (View.readAt_full arg6.view (harg6.unread x4) h).trans (harg6.read_unread x4)
  have e7 := (View.readAt_full arg7.view (harg7.unread x5) inb_S512x256_S512x256_0_0).trans (harg7.read_unread x5)
  have e8 : ∀ (r : Fin 4) (h), View.readAt (Elt F) arg8.view (Rect.unit (s := S4x128) ![r.val, 0] S1x128.size h).toLoadRect (harg8.unread x6) = rowOf x6 r :=
    fun r h => load_row arg8.view _ x6 (harg8.read_unread x6) r h
  have e9 := (View.readAt_full arg9.view (harg9.unread x7) inb_S1x256_S1x256_0_0).trans (harg9.read_unread x7)
  have m11a := (congrArg (View.readAt (Elt F) arg11.view (Rect.unit (s := S2x1x512) ![0, 0, 0] S1x1x512.size inb_S2x1x512_S1x1x512_0_0_0).toLoadRect) (View.writes_append arg11.view _ _ _)).trans b11a
  have m11b := (congrArg (View.readAt (Elt F) arg11.view (Rect.unit (s := S2x1x512) ![1, 0, 0] S1x1x512.size inb_S2x1x512_S1x1x512_1_0_0).toLoadRect) (View.writes_append arg11.view _ _ _)).trans b11b
  have m12a := (congrArg (View.readAt (Elt F) arg12.view (Rect.unit (s := S2x1x512) ![0, 0, 0] S1x1x512.size inb_S2x1x512_S1x1x512_0_0_0).toLoadRect) (View.writes_append arg12.view _ _ _)).trans b12a
  have m12b := (congrArg (View.readAt (Elt F) arg12.view (Rect.unit (s := S2x1x512) ![1, 0, 0] S1x1x512.size inb_S2x1x512_S1x1x512_1_0_0).toLoadRect) (View.writes_append arg12.view _ _ _)).trans b12b
  have m13a := (congrArg (View.readAt (Elt F) arg13.view (Rect.unit (s := S2x256x512) ![0, 0, 0] S1x256x512.size inb_S2x256x512_S1x256x512_0_0_0).toLoadRect) (View.writes_append arg13.view _ _ _)).trans b13a
  have m13b := (congrArg (View.readAt (Elt F) arg13.view (Rect.unit (s := S2x256x512) ![1, 0, 0] S1x256x512.size inb_S2x256x512_S1x256x512_1_0_0).toLoadRect) (View.writes_append arg13.view _ _ _)).trans b13b
  have f0 := e8 0 inb_S4x128_S1x128_0_0
  have f1 := e8 1 inb_S4x128_S1x128_1_0
  have f2 := e8 2 inb_S4x128_S1x128_2_0
  have f3 := e8 3 inb_S4x128_S1x128_3_0
  refine congr (congr (congr (congr (congr (congrArg k0_pay1 (congrArg k0_pay90 e7)) (congr (congr (congr (congrArg k0_pay91 f0) f1) f2) f3)) (congr (congrArg k0_pay92 ?_) ?_)) (congrArg k0_pay93 ?_)) (congrArg k0_pay94 ?_)) e9
  · refine (first_wide arg13.view _ _ _ _).trans ?_
    exact last_acc0 _ (qHalf 0 x0) (kHalf 0 x3) x4 _ _ _ _ _ m11a m13a q0 (ck0 _ _ rfl) (cv _ _)
  · refine (first_one arg12.view _ _ _ _).trans ?_
    exact last_l0 _ (qHalf 0 x0) (kHalf 0 x3) x4 _ _ _ _ _ m11a m12a q0 (ck0 _ _ rfl) (cv _ _)
  · refine (second_wide arg13.view _ _ _ _).trans ?_
    exact last_acc1 _ (qHalf 1 x0) (kHalf 1 x3) x4 _ _ _ _ _ m11b m13b q1 (ck1 _ _ rfl) (cv _ _)
  · refine (second_one arg12.view _ _ _ _).trans ?_
    exact last_l1 _ (qHalf 1 x0) (kHalf 1 x3) x4 _ _ _ _ _ m11b m12b q1 (ck1 _ _ rfl) (cv _ _)

end

end Cert.DifIdeal.Body
-- ==== Proof.DifMath.lean ====
/-
  The differential attention over the reals, away from either program: two softmax averages of the same values, their
  difference under a learned factor, its root mean square and the gate.
-/
module

public import proofs.«01_k».proof.Proof.MlaMath

@[expose] public section

set_option maxRecDepth 16384

noncomputable section

namespace Cert.DifMath

open Idealize.ShloMosaic

/-- The arrays of the differential attention by coordinates: queries and keys of both maps, values, the context's keys and values, the four rows of the factor, the norm's weights, the gate. -/
structure In where
  q : Fin 8192 → Fin 8 → Fin 2 → Fin 128 → EReal
  k : Fin 8192 → Fin 8 → Fin 2 → Fin 128 → EReal
  v : Fin 8192 → Fin 8 → Fin 256 → EReal
  ck : Fin 256 → Fin 8 → Fin 2 → Fin 128 → EReal
  cv : Fin 256 → Fin 8 → Fin 256 → EReal
  lam : Fin 4 → Fin 128 → EReal
  g : Fin 256 → EReal
  gate : Fin 8192 → Fin 2048 → EReal

/-- The scale of the scores as the programs hold it. -/
def scale : ℝ := (Ideal.ofBits .f32 1035273459#32).toReal

/-- A difference scaled to a root mean square of one, weighted and gated. -/
def norm (o : Fin 256 → EReal) (g : EReal) (t : EReal) (d : Fin 256) : EReal :=
  o d * Ideal.rsqrt ((∑ e : Fin 256, o e * o e) * Ideal.ofBits .f32 998244352#32 + Ideal.ofBits .f32 897988541#32) * g * Ideal.ofBits .f32 1055083607#32 * t

namespace In

variable (I : In)

/-- Key `k` of the joined sequence and context. -/
def key (k : ℕ) (h : Fin 8) (p : Fin 2) (d : Fin 128) : EReal :=
  if hk : k < 8192 then I.k ⟨k, hk⟩ h p d else I.ck ⟨(k - 8192) % 256, Nat.mod_lt _ (by norm_num)⟩ h p d

/-- Value `k` of the joined sequence and context. -/
def val (k : ℕ) (h : Fin 8) (d : Fin 256) : EReal :=
  if hk : k < 8192 then I.v ⟨k, hk⟩ h d else I.cv ⟨(k - 8192) % 256, Nat.mod_lt _ (by norm_num)⟩ h d

/-- All arrays but the norm's weights and the gate hold real numbers. -/
structure Real : Prop where
  q : ∀ n h p d, I.q n h p d = ((I.q n h p d).toReal : EReal)
  k : ∀ n h p d, I.k n h p d = ((I.k n h p d).toReal : EReal)
  v : ∀ n h d, I.v n h d = ((I.v n h d).toReal : EReal)
  ck : ∀ n h p d, I.ck n h p d = ((I.ck n h p d).toReal : EReal)
  cv : ∀ n h d, I.cv n h d = ((I.cv n h d).toReal : EReal)
  lam : ∀ r d, I.lam r d = ((I.lam r d).toReal : EReal)

/-- The score of query `n` and key `k` in head `h` and map `p`, as the exponent of a power of two. -/
def sc (p : Fin 2) (n : Fin 8192) (h : Fin 8) (k : ℕ) : ℝ :=
  (∑ d : Fin 128, (I.key k h p d).toReal * (I.q n h p d).toReal) * (scale / Real.log 2)

/-- The factor of the second map. -/
def fac : EReal :=
  Ideal.exp (∑ d : Fin 128, I.lam 0 d * I.lam 1 d) - Ideal.exp (∑ d : Fin 128, I.lam 2 d * I.lam 3 d) + Ideal.ofBits .f32 1057905109#32

/-- One map's average of the values. -/
def avg (p : Fin 2) (n : Fin 8192) (h : Fin 8) (d : Fin 256) : EReal :=
  ∑ k ∈ Finset.range 8448, I.val k h d * ((Flash.wt (I.sc p n h) 8448 k : ℝ) : EReal)

/-- The maps' difference. -/
def dif (n : Fin 8192) (h : Fin 8) (d : Fin 256) : EReal := I.avg 0 n h d - I.fac * I.avg 1 n h d

/-- The attention's result at query `n`, head `h`, column `d`. -/
def out (n : Fin 8192) (h : Fin 8) (d : Fin 256) : EReal :=
  norm (I.dif n h) (I.g d) (I.gate n ⟨256 * h.val + d.val, by omega⟩) d

variable {I}

theorem key_real (hI : I.Real) (k : ℕ) (h : Fin 8) (p : Fin 2) (d : Fin 128) : I.key k h p d = ((I.key k h p d).toReal : EReal) := by
  unfold key
  split
  · exact hI.k _ _ _ _
  · exact hI.ck _ _ _ _

theorem val_real (hI : I.Real) (k : ℕ) (h : Fin 8) (d : Fin 256) : I.val k h d = ((I.val k h d).toReal : EReal) := by
  unfold val
  split
  · exact hI.v _ _ _
  · exact hI.cv _ _ _

/-- The factor of the second map is a real number. -/
theorem fac_real (hI : I.Real) : ∃ r : ℝ, I.fac = (r : EReal) := by
  have hw : ∃ r : ℝ, Ideal.ofBits .f32 1057905109#32 = (r : EReal) := by
    show ∃ r : ℝ, Ideal.ieee 8 23 (1057905109#32) = (r : EReal)
    unfold Ideal.ieee
    dsimp only
    rw [if_neg (by decide), if_neg (by decide)]
    exact ⟨_, rfl⟩
  obtain ⟨w, hw⟩ := hw
  have e : ∀ a b : Fin 4, ∑ d : Fin 128, I.lam a d * I.lam b d = ((∑ d : Fin 128, (I.lam a d).toReal * (I.lam b d).toReal : ℝ) : EReal) := fun a b => by
    rw [Flash.coe_sum]
    refine Finset.sum_congr rfl fun d _ => ?_
    rw [EReal.coe_mul, ← hI.lam, ← hI.lam]
  unfold fac
  rw [e, e, hw, Ideal.exp_coe, Ideal.exp_coe, ← EReal.coe_sub, ← EReal.coe_add]
  exact ⟨_, rfl⟩

/-- The difference of the averages is the average under the difference of the weights. -/
theorem dif_eq (hI : I.Real) (n : Fin 8192) (h : Fin 8) (d : Fin 256) :
    ∑ k ∈ Finset.range 8448, I.val k h d * (((Flash.wt (I.sc 0 n h) 8448 k : ℝ) : EReal) - I.fac * ((Flash.wt (I.sc 1 n h) 8448 k : ℝ) : EReal)) = I.dif n h d := by
  obtain ⟨r, hr⟩ := fac_real hI
  have e : ∀ (p : Fin 2), I.avg p n h d = ((∑ k ∈ Finset.range 8448, (I.val k h d).toReal * Flash.wt (I.sc p n h) 8448 k : ℝ) : EReal) := fun p => by
    unfold avg
    rw [Flash.coe_sum]
    refine Finset.sum_congr rfl fun k _ => ?_
    rw [EReal.coe_mul, ← val_real hI]
  have e2 : ∀ k, I.val k h d * (((Flash.wt (I.sc 0 n h) 8448 k : ℝ) : EReal) - I.fac * ((Flash.wt (I.sc 1 n h) 8448 k : ℝ) : EReal))
      = (((I.val k h d).toReal * Flash.wt (I.sc 0 n h) 8448 k - r * ((I.val k h d).toReal * Flash.wt (I.sc 1 n h) 8448 k) : ℝ) : EReal) := fun k => by
    rw [hr, ← EReal.coe_mul, ← EReal.coe_sub, val_real hI, EReal.toReal_coe, ← EReal.coe_mul]
    refine congrArg _ ?_
    ring
  rw [Finset.sum_congr rfl fun k _ => e2 k, ← Flash.coe_sum]
  unfold dif
  rw [e, e, hr, ← EReal.coe_mul, ← EReal.coe_sub]
  refine congrArg _ ?_
  rw [Finset.sum_sub_distrib, Finset.mul_sum]

end In

/-- The scale's word is a real number. -/
theorem scale_eq : Ideal.ofBits .f32 1035273459#32 = ((scale : ℝ) : EReal) := by
  unfold scale
  have h : ∃ r : ℝ, Ideal.ofBits .f32 1035273459#32 = (r : EReal) := by
    show ∃ r : ℝ, Ideal.ieee 8 23 (1035273459#32) = (r : EReal)
    unfold Ideal.ieee
    dsimp only
    rw [if_neg (by decide), if_neg (by decide)]
    exact ⟨_, rfl⟩
  obtain ⟨r, hr⟩ := h
  rw [hr, EReal.toReal_coe]

/-- The factor by which the kernel's queries come multiplied. -/
theorem factor_eq : Ideal.ofBits .f32 1035273459#32 * Ideal.div 1 (Ideal.log (Ideal.ofBits .f32 1073741824#32)) = ((scale / Real.log 2 : ℝ) : EReal) := by
  have hl : Real.log 2 ≠ 0 := (Real.log_pos (by norm_num)).ne'
  rw [scale_eq, MlaMath.log_two]
  unfold Ideal.div
  rw [if_neg (by exact_mod_cast hl), one_mul, ← EReal.coe_inv, ← EReal.coe_mul, div_eq_mul_inv]

/-- Dividing by the number of columns is multiplying by its inverse, exact as a word. -/
theorem mean_eq (x : EReal) : Ideal.div x (Ideal.ofBits .f32 1132462080#32) = x * Ideal.ofBits .f32 998244352#32 := by
  have e : Ideal.ofBits .f32 1132462080#32 = ((256 : ℝ) : EReal) := by
    show Ideal.ieee 8 23 (1132462080#32) = ((256 : ℝ) : EReal)
    unfold Ideal.ieee
    dsimp only
    rw [if_neg (by decide), if_neg (by decide)]
    have h1 : (BitVec.extractLsb' (8 + 23) 1 1132462080#32 == 1#1) = false := by decide
    have h2 : (BitVec.extractLsb' 23 8 1132462080#32).toNat = 135 := by decide
    have h3 : (BitVec.extractLsb' 0 23 1132462080#32).toNat = 0 := by decide
    rw [h1, h2, h3]
    refine congrArg _ ?_
    norm_num
  have e' : Ideal.ofBits .f32 998244352#32 = (((256 : ℝ)⁻¹ : ℝ) : EReal) := by
    show Ideal.ieee 8 23 (998244352#32) = (((256 : ℝ)⁻¹ : ℝ) : EReal)
    unfold Ideal.ieee
    dsimp only
    rw [if_neg (by decide), if_neg (by decide)]
    have h1 : (BitVec.extractLsb' (8 + 23) 1 998244352#32 == 1#1) = false := by decide
    have h2 : (BitVec.extractLsb' 23 8 998244352#32).toNat = 119 := by decide
    have h3 : (BitVec.extractLsb' 0 23 998244352#32).toNat = 0 := by decide
    rw [h1, h2, h3]
    refine congrArg _ ?_
    norm_num
  have h0 : (256 : ℝ) ≠ 0 := by norm_num
  rw [e, e']
  unfold Ideal.div
  rw [if_neg (by exact_mod_cast h0), ← EReal.coe_inv]

/-- The kernel's score of a query and a key, the queries scaled. -/
theorem score_eq {I : In} (hI : I.Real) (p : Fin 2) (n : Fin 8192) (h : Fin 8) (k : ℕ) {w : EReal} (hw : w = ((scale / Real.log 2 : ℝ) : EReal)) :
    (∑ d : Fin 128, I.key k h p d * (I.q n h p d * w)) = ((I.sc p n h k : ℝ) : EReal) := by
  have e1 : ∀ d : Fin 128, I.key k h p d * (I.q n h p d * w) = (((I.key k h p d).toReal * (I.q n h p d).toReal * (scale / Real.log 2) : ℝ) : EReal) := fun d => by
    rw [In.key_real hI, hI.q, hw, EReal.toReal_coe, EReal.toReal_coe, ← EReal.coe_mul, ← EReal.coe_mul, mul_assoc]
  simp only [e1]
  rw [← Flash.coe_sum]
  refine congrArg _ ?_
  unfold In.sc
  rw [Finset.sum_mul]

/-- The reference's score of a query and a key, scaled afterwards. -/
theorem score_plain {I : In} (hI : I.Real) (p : Fin 2) (n : Fin 8192) (h : Fin 8) (k : ℕ) :
    (∑ d : Fin 128, I.q n h p d * I.key k h p d) * Ideal.ofBits .f32 1035273459#32 = ((I.sc p n h k * Real.log 2 : ℝ) : EReal) := by
  have hl : Real.log 2 ≠ 0 := (Real.log_pos (by norm_num)).ne'
  have e1 : ∀ d : Fin 128, I.q n h p d * I.key k h p d = (((I.key k h p d).toReal * (I.q n h p d).toReal : ℝ) : EReal) := fun d => by
    rw [In.key_real hI, hI.q, EReal.toReal_coe, EReal.toReal_coe, ← EReal.coe_mul, mul_comm]
  simp only [e1]
  rw [← Flash.coe_sum, scale_eq, ← EReal.coe_mul]
  refine congrArg _ ?_
  unfold In.sc
  rw [mul_assoc, div_mul_cancel₀ _ hl]

end Cert.DifMath
-- ==== Proof.DifTile.lean ====
/-
  One tile of the differential attention's body at the idealized floats: its scores, the new maximum, and the running sum and
  weighted values, entry by entry; then the invariant of `Flash` carried over the tiles of a block.
-/
module

public import proofs.«01_k».proof.Proof.DifTrip
public import proofs.«01_k».proof.Proof.DifMath
public import Idealize.ShloMosaic.Lib.Pointwise

@[expose] public section

set_option maxRecDepth 16384

noncomputable section

namespace Cert.DifIdeal.Body

open Cert.DifIdeal Cert.DifIdeal.Gen Idealize.ShloMosaic Idealize.ShloMosaic.TcCoe Idealize.SL.Sem

/-- A tile's scores: the products over one map's dimensions. -/
theorem score_at (q : Vec Ideal S512x128 .bf16) (a : Vec Ideal S256x128 .bf16) (k : Fin 256) (j : Fin 512) :
    score (F := Ideal) q a (ix2 k j) = ∑ d : Fin 128, a (ix2 k d) * q (ix2 j d) := by
  unfold score
  pointwise [k0_pay8]

/-- The new maximum is a real number where the scores and the old one are. -/
theorem max_real (s : FVec Ideal S256x512 .f32) (m : FVec Ideal S1x512 .f32) (j : Fin 512) (hs : ∀ k : Fin 256, ∃ r : ℝ, s (ix2 k j) = (r : EReal))
    (hm : ∃ r : ℝ, m (ix2 0 j) = (r : EReal)) : ∃ r : ℝ, k0_pay13 (F := Ideal) m s (ix2 0 j) = (r : EReal) := by
  have e : k0_pay13 (F := Ideal) m s (ix2 0 j)
      = max (m (ix2 0 j)) (Finset.fold max (Ideal.ofBits .f32 4286578688#32) (fun x : Fin 256 => s (ix2 x j)) Finset.univ) := by
    pointwise [k0_pay13]
  rw [e]
  exact Flash.max_fold_real hm Flash.negInf_ne_top hs

/-- The running sum after a tile. -/
theorem sum_at (s : FVec Ideal S256x512 .f32) (m l : FVec Ideal S1x512 .f32) (v : Vec Ideal S1x1x256x256 .bf16) (j : Fin 512) :
    k0_pay16 (F := Ideal) k0_pay62 m l s v (ix2 0 j) = Ideal.exp2 (m (ix2 0 j) - k0_pay13 (F := Ideal) m s (ix2 0 j)) * l (ix2 0 j)
      + ∑ k : Fin 256, Ideal.exp2 (s (ix2 k j) - k0_pay13 (F := Ideal) m s (ix2 0 j)) := by
  pointwise [k0_pay16, k0_pay15, k0_pay14, k0_pay12, k0_pay62]
  rfl

/-- The weighted values after a tile. -/
theorem acc_at (s : FVec Ideal S256x512 .f32) (m : FVec Ideal S1x512 .f32) (acc : FVec Ideal S256x512 .f32) (v : Vec Ideal S1x1x256x256 .bf16) (d : Fin 256) (j : Fin 512) :
    k0_pay17 (F := Ideal) k0_pay62 m acc s v (ix2 d j) = Ideal.exp2 (m (ix2 0 j) - k0_pay13 (F := Ideal) m s (ix2 0 j)) * acc (ix2 d j)
      + ∑ k : Fin 256, v (ix4 0 0 d k) * Ideal.exp2 (s (ix2 k j) - k0_pay13 (F := Ideal) m s (ix2 0 j)) := by
  pointwise [k0_pay17, k0_pay15, k0_pay14, k0_pay12, k0_pay62]
  rfl

/-- A map's quotient. -/
theorem quot_at (st : St Ideal) (d : Fin 256) (j : Fin 512) :
    k0_pay92 (F := Ideal) (up st).2.2 (up st).2.1 (ix2 d j) = Ideal.div (st.2.2 (ix2 d j)) (st.2.1 (ix2 0 j)) := by
  pointwise [k0_pay92, up, k0_pay58]

/-- The invariant of the running sums for query `j` and column `d` after `n` keys. -/
def Good (σ : ℕ → ℝ) (ν : ℕ → EReal) (n : ℕ) (st : St Ideal) (j : Fin 512) (d : Fin 256) : Prop :=
  Flash.Inv σ ν n (st.1 (ix2 0 j)) (st.2.1 (ix2 0 j)) (st.2.2 (ix2 d j))

theorem good_start (σ : ℕ → ℝ) (ν : ℕ → EReal) (j : Fin 512) (d : Fin 256) : Good σ ν 0 (down (F := Ideal) start) j d := by
  obtain ⟨c, hc⟩ := Flash.lowest_real
  have e1 : (down (F := Ideal) start).1 (ix2 0 j) = (c : EReal) := by
    rw [← hc]
    pointwise [down, start, k0_pay2]
  have e2 : (down (F := Ideal) start).2.1 (ix2 0 j) = 0 := by
    pointwise [down, start, k0_pay4]
  have e3 : (down (F := Ideal) start).2.2 (ix2 d j) = 0 := by
    pointwise [down, start, k0_pay6]
  unfold Good
  rw [e1, e2, e3]
  exact Flash.Inv.zero σ ν c

/-- A tile keeps the invariant. -/
theorem Good.tile {σ : ℕ → ℝ} {ν : ℕ → EReal} {n : ℕ} {st : St Ideal} {j : Fin 512} {d : Fin 256} (h : Good σ ν n st j d)
    (s : FVec Ideal S256x512 .f32) (v : Vec Ideal S1x1x256x256 .bf16) (hs : ∀ k : Fin 256, s (ix2 k j) = (σ (n + k.val) : EReal))
    (hv : ∀ k : Fin 256, v (ix4 0 0 d k) = ν (n + k.val)) : Good σ ν (n + 256) (Body.tile (F := Ideal) s v st) j d := by
  have hm := max_real s st.1 j (fun k => ⟨_, hs k⟩) h.real
  have e := Flash.Inv.step h (fun k : Fin 256 => s (ix2 k j)) (fun k => v (ix4 0 0 d k)) hs hv hm
  have e2 : (Body.tile (F := Ideal) s v st).2.1 (ix2 0 j) = _ := sum_at s st.1 st.2.1 v j
  have e3 : (Body.tile (F := Ideal) s v st).2.2 (ix2 d j) = _ := acc_at s st.1 st.2.2 v d j
  unfold Good
  rw [e2, e3]
  exact e

/-- The invariant after `t` tiles. -/
theorem good_tiles (σ : ℕ → ℝ) (ν : ℕ → EReal) (q : Vec Ideal S512x128 .bf16) (a : ℕ → Vec Ideal S256x128 .bf16) (v : ℕ → Vec Ideal S1x1x256x256 .bf16)
    (j : Fin 512) (d : Fin 256) (T : ℕ) (hs : ∀ t < T, ∀ k : Fin 256, score (F := Ideal) q (a t) (ix2 k j) = (σ (256 * t + k.val) : EReal))
    (hv : ∀ t < T, ∀ k : Fin 256, v t (ix4 0 0 d k) = ν (256 * t + k.val)) :
    ∀ t ≤ T, Good σ ν (256 * t) (tiles (F := Ideal) q a v (down start) t) j d := by
  intro t
  induction t with
  | zero => intro _; exact good_start σ ν j d
  | succ t ih =>
    intro ht
    exact (ih (Nat.le_of_succ_le ht)).tile _ _ (hs t ht) (hv t ht)

/-- One map's average of the values for query `j` and column `d`: the values weighted by the scores' powers of two. -/
theorem final_at (σ : ℕ → ℝ) (ν : ℕ → EReal) (p : Fin 2) (x0 : Vec Ideal S512x256 .bf16) (x1 : Vec Ideal S8192x256 .bf16) (x2 : Vec Ideal S1x32x256x256 .bf16) (x3 : Vec Ideal S256x256 .bf16) (x4 : Vec Ideal S1x1x256x256 .bf16)
    (j : Fin 512) (d : Fin 256)
    (hs : ∀ t < 32, ∀ k : Fin 256, score (F := Ideal) (qHalf p x0) (keyTile p x1 t) (ix2 k j) = (σ (256 * t + k.val) : EReal))
    (hv : ∀ t < 32, ∀ k : Fin 256, valTile x2 t (ix4 0 0 d k) = ν (256 * t + k.val))
    (hc : ∀ k : Fin 256, score (F := Ideal) (qHalf p x0) (kHalf p x3) (ix2 k j) = (σ (8192 + k.val) : EReal))
    (hcv : ∀ k : Fin 256, x4 (ix4 0 0 d k) = ν (8192 + k.val)) :
    Ideal.div ((final p x0 x1 x2 x3 x4).2.2 (ix2 d j)) ((final p x0 x1 x2 x3 x4).2.1 (ix2 0 j))
      = ∑ k ∈ Finset.range 8448, ν k * ((Flash.wt σ 8448 k : ℝ) : EReal) :=
  Flash.Inv.out ((good_tiles σ ν (qHalf p x0) (keyTile p x1) (valTile x2) j d 32 hs hv 32 le_rfl).tile _ _ hc hcv) (by norm_num)

/-- The factor of the second map, from its four rows. -/
theorem fac_at (x : Vec Ideal S4x128 .f32) :
    k0_pay91 (F := Ideal) (rowOf x 0) (rowOf x 1) (rowOf x 2) (rowOf x 3) (ix2 0 0)
      = Ideal.exp (∑ d : Fin 128, x (ix2 0 d) * x (ix2 1 d)) - Ideal.exp (∑ d : Fin 128, x (ix2 2 d) * x (ix2 3 d)) + Ideal.ofBits .f32 1057905109#32 := by
  pointwise [k0_pay91, rowOf]

/-- What is written: the difference of the maps' quotients, normalised, weighted and gated. -/
theorem write_at (g : Vec Ideal S512x256 .bf16) (l : FVec Ideal S1x1 .f32) (a : FVec Ideal S256x512 .f32) (st : St Ideal) (w : Vec Ideal S1x256 .f32) (d : Fin 256) (j : Fin 512) :
    k0_pay1 (F := Ideal) (k0_pay90 g) l a (k0_pay93 (up st).2.2) (k0_pay94 (up st).2.1) w (ix2 j d)
      = DifMath.norm (fun e => a (ix2 e j) - l (ix2 0 0) * Ideal.div (st.2.2 (ix2 e j)) (st.2.1 (ix2 0 j))) (w (ix2 0 d)) (g (ix2 j d)) d := by
  unfold DifMath.norm
  pointwise [k0_pay1, k0_pay90, k0_pay93, k0_pay94, up, k0_pay58]

end Cert.DifIdeal.Body
-- ==== Proof.DifValue.lean ====
/-
  The differential attention's kernel: what the prepared operands hold, what each window stages of them at a grid point, and
  so what the result's array holds after the run.
-/
module

public import proofs.«01_k».proof.Proof.DifTile
public import proofs.«01_k».proof.Proof.DifMath
public import Idealize.ShloMosaic.Lib.Pipeline.ValueKit
public import Idealize.ShloMosaic.Lib.StableHlo.ReadAt
public import Idealize.ShloMosaic.Lib.Claim

@[expose] public section

set_option maxRecDepth 16384

noncomputable section

namespace Cert.DifIdeal.Body

open Cert.DifIdeal Cert.DifIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments by coordinates. -/
def ins : DifMath.In where
  q n h p d := m ((c : Thread nD τ).loc main_arg0) (ix4 n h p d)
  k n h p d := m ((c : Thread nD τ).loc main_arg1) (ix4 n h p d)
  v n h d := m ((c : Thread nD τ).loc main_arg2) (ix3 n h d)
  ck n h p d := m ((c : Thread nD τ).loc main_arg3) (ix4 n h p d)
  cv n h d := m ((c : Thread nD τ).loc main_arg4) (ix3 n h d)
  lam r d := match r with
    | 0 => m ((c : Thread nD τ).loc main_arg5) (ix1 d)
    | 1 => m ((c : Thread nD τ).loc main_arg6) (ix1 d)
    | 2 => m ((c : Thread nD τ).loc main_arg7) (ix1 d)
    | 3 => m ((c : Thread nD τ).loc main_arg8) (ix1 d)
  g d := m ((c : Thread nD τ).loc main_arg9) (ix1 d)
  gate n d := m ((c : Thread nD τ).loc main_arg10) (ix2 n d)

/-- The factor of the queries, as the host makes it. -/
def factor : EReal := Ideal.ofBits .f32 1035273459#32 * Ideal.div 1 (Ideal.log (Ideal.ofBits .f32 1073741824#32))

/-- The grid's indices of the windows: a head and a block of queries. -/
theorem idx : ∀ t : Fin cfg0.N, win0_0.index t = ![(grid0.coords t 1).val, (grid0.coords t 0).val]
    ∧ win0_1.index t = ![0, (grid0.coords t 0).val] ∧ win0_2.index t = ![(grid0.coords t 0).val, 0, 0, 0]
    ∧ win0_3.index t = ![0, (grid0.coords t 0).val] ∧ win0_4.index t = ![(grid0.coords t 0).val, 0, 0, 0]
    ∧ win0_5.index t = ![(grid0.coords t 1).val, (grid0.coords t 0).val] ∧ win0_6.index t = ![0, 0] ∧ win0_7.index t = ![0, 0]
    ∧ win0_8.index t = ![(grid0.coords t 1).val, (grid0.coords t 0).val] := by
  decide +kernel

/-- A grid point's head. -/
def hd (t : Fin cfg0.N) : Fin 8 := ⟨(grid0.coords t 0).val, (grid0.coords t 0).isLt⟩

/-- A grid point's query `j`. -/
def row (t : Fin cfg0.N) (j : Fin 512) : Fin 8192 :=
  ⟨512 * (grid0.coords t 1).val + j.val, by have : (grid0.coords t 1).val < 16 := (grid0.coords t 1).isLt; omega⟩

/-- The prepared queries. -/
theorem q_at (n : Fin 8192) (h : Fin 8) (p : Fin 2) (e : Fin 128) : (V m c main_v6 (ix2 n ⟨256 * h.val + (128 * p.val + e.val), by omega⟩) : EReal) = (ins m c).q n h p e * factor := by
  show StableHlo.after [hostOps0].flatten (fun b => m (c, b)) (Proc.tc.devRef _) _ = _
  simp only [hostOps0, List.flatten_cons, List.flatten_nil, List.cons_append, List.nil_append]
  after_reads_at
  refine congr (congrArg _ ?_) rfl
  exact congrArg (m ((c : Thread nD τ).loc main_arg0)) (congr (congr (congrArg _ (Fin.ext (by dsimp only; omega))) (Fin.ext (by dsimp only; omega))) (Fin.ext (by dsimp only; omega)))

/-- The prepared keys. -/
theorem k_at (n : Fin 8192) (h : Fin 8) (p : Fin 2) (e : Fin 128) : (V m c main_v14 (ix2 n ⟨256 * h.val + (128 * p.val + e.val), by omega⟩) : EReal) = (ins m c).k n h p e := by
  show StableHlo.after [hostOps0].flatten (fun b => m (c, b)) (Proc.tc.devRef _) _ = _
  simp only [hostOps0, List.flatten_cons, List.flatten_nil, List.cons_append, List.nil_append]
  after_reads_at
  exact congrArg (m ((c : Thread nD τ).loc main_arg1)) (congr (congr (congrArg _ (Fin.ext (by dsimp only; omega))) (Fin.ext (by dsimp only; omega))) (Fin.ext (by dsimp only; omega)))

/-- The prepared values. -/
theorem v_at (h : Fin 8) (t : Fin 32) (d : Fin 256) (e : Fin 256) : (V m c main_v18 (ix4 h t d e) : EReal) = (ins m c).v ⟨256 * t.val + e.val, by omega⟩ h d := by
  show StableHlo.after [hostOps0].flatten (fun b => m (c, b)) (Proc.tc.devRef _) _ = _
  simp only [hostOps0, List.flatten_cons, List.flatten_nil, List.cons_append, List.nil_append]
  after_reads_at
  exact congrArg (m ((c : Thread nD τ).loc main_arg2)) (congrFun (congrFun (congrArg _ (Fin.ext (by dsimp only; omega))) _) _)

/-- The context's prepared keys. -/
theorem ck_at (n : Fin 256) (h : Fin 8) (p : Fin 2) (e : Fin 128) : (V m c main_v20 (ix2 n ⟨256 * h.val + (128 * p.val + e.val), by omega⟩) : EReal) = (ins m c).ck n h p e := by
  show StableHlo.after [hostOps0].flatten (fun b => m (c, b)) (Proc.tc.devRef _) _ = _
  simp only [hostOps0, List.flatten_cons, List.flatten_nil, List.cons_append, List.nil_append]
  after_reads_at
  exact congrArg (m ((c : Thread nD τ).loc main_arg3)) (congr (congr (congrArg _ (Fin.ext (by dsimp only; omega))) (Fin.ext (by dsimp only; omega))) (Fin.ext (by dsimp only; omega)))

/-- The context's prepared values. -/
theorem cv_at (h : Fin 8) (d : Fin 256) (e : Fin 256) : (V m c main_v24 (ix4 h 0 d e) : EReal) = (ins m c).cv e h d := by
  show StableHlo.after [hostOps0].flatten (fun b => m (c, b)) (Proc.tc.devRef _) _ = _
  simp only [hostOps0, List.flatten_cons, List.flatten_nil, List.cons_append, List.nil_append]
  after_reads_at
  rfl

/-- The prepared gate. -/
theorem gate_at (n : Fin 8192) (d : Fin 2048) : (V m c main_v25 (ix2 n d) : EReal) = (ins m c).gate n d := by
  show StableHlo.after [hostOps0].flatten (fun b => m (c, b)) (Proc.tc.devRef _) _ = _
  simp only [hostOps0, List.flatten_cons, List.flatten_nil, List.cons_append, List.nil_append]
  after_reads_at
  rfl

/-- The prepared rows of the factor. -/
theorem lam_at (r : Fin 4) (d : Fin 128) : (V m c main_v11 (ix2 r d) : EReal) = (ins m c).lam r d := by
  show StableHlo.after [hostOps0].flatten (fun b => m (c, b)) (Proc.tc.devRef _) _ = _
  simp only [hostOps0, List.flatten_cons, List.flatten_nil, List.cons_append, List.nil_append]
  after_reads_at
  fin_cases r <;> after_reads_at <;> rfl

/-- The prepared weights of the norm. -/
theorem g_at (d : Fin 256) : (V m c main_v12 (ix2 0 d) : EReal) = (ins m c).g d := by
  show StableHlo.after [hostOps0].flatten (fun b => m (c, b)) (Proc.tc.devRef _) _ = _
  simp only [hostOps0, List.flatten_cons, List.flatten_nil, List.cons_append, List.nil_append]
  after_reads_at
  rfl

/-- The staged queries. -/
theorem blk_q (t : Fin cfg0.N) (j : Fin 512) (p : Fin 2) (e : Fin 128) : (iblk m c 0 t (ix2 j (⟨128 * p.val + e.val, by omega⟩ : Fin 256)) : EReal) = (ins m c).q (row t j) (hd t) p e * factor := by
  refine Eq.trans ?_ (q_at m c (row t j) (hd t) p e)
  blk_ext [iblk, idx t, hd, row]

/-- The staged keys. -/
theorem blk_k (t : Fin cfg0.N) (k : Fin 8192) (p : Fin 2) (e : Fin 128) : (iblk m c 1 t (ix2 k (⟨128 * p.val + e.val, by omega⟩ : Fin 256)) : EReal) = (ins m c).k k (hd t) p e := by
  refine Eq.trans ?_ (k_at m c k (hd t) p e)
  blk_ext [iblk, idx t, hd, row]

/-- The staged values. -/
theorem blk_v (t : Fin cfg0.N) (u : Fin 32) (d : Fin 256) (e : Fin 256) : (iblk m c 2 t (ix4 0 u d e) : EReal) = (ins m c).v ⟨256 * u.val + e.val, by omega⟩ (hd t) d := by
  refine Eq.trans ?_ (v_at m c (hd t) u d e)
  blk_ext [iblk, idx t, hd, row]

/-- The context's staged keys. -/
theorem blk_ck (t : Fin cfg0.N) (k : Fin 256) (p : Fin 2) (e : Fin 128) : (iblk m c 3 t (ix2 k (⟨128 * p.val + e.val, by omega⟩ : Fin 256)) : EReal) = (ins m c).ck k (hd t) p e := by
  refine Eq.trans ?_ (ck_at m c k (hd t) p e)
  blk_ext [iblk, idx t, hd, row]

/-- The context's staged values. -/
theorem blk_cv (t : Fin cfg0.N) (d : Fin 256) (e : Fin 256) : (iblk m c 4 t (ix4 0 0 d e) : EReal) = (ins m c).cv e (hd t) d := by
  refine Eq.trans ?_ (cv_at m c (hd t) d e)
  blk_ext [iblk, idx t, hd, row]

/-- The staged gate. -/
theorem blk_gate (t : Fin cfg0.N) (j : Fin 512) (e : Fin 256) : (iblk m c 5 t (ix2 j e) : EReal) = (ins m c).gate (row t j) ⟨256 * (hd t).val + e.val, by have := (hd t).isLt; omega⟩ := by
  refine Eq.trans ?_ (gate_at m c (row t j) ⟨256 * (hd t).val + e.val, by have := (hd t).isLt; omega⟩)
  blk_ext [iblk, idx t, hd, row]

/-- The staged rows of the factor. -/
theorem blk_lam (t : Fin cfg0.N) (r : Fin 4) (e : Fin 128) : (iblk m c 6 t (ix2 r e) : EReal) = (ins m c).lam r e := by
  refine Eq.trans ?_ (lam_at m c r e)
  blk_ext [iblk, idx t, hd, row]

/-- The staged weights of the norm. -/
theorem blk_g (t : Fin cfg0.N) (e : Fin 256) : (iblk m c 7 t (ix2 0 e) : EReal) = (ins m c).g e := by
  refine Eq.trans ?_ (g_at m c e)
  blk_ext [iblk, idx t, hd, row]

/-- The result's array by coordinates. -/
def result : Vec Ideal S8192x2048 .bf16 :=
  fun i => (ins m c).out (i 0 : Fin 8192) (⟨(i 1).val / 256, by have : (i 1).val < 2048 := (i 1).isLt; omega⟩ : Fin 8) (⟨(i 1).val % 256, Nat.mod_lt _ (by norm_num)⟩ : Fin 256)

/-- The result's array at a head's column. -/
theorem result_at (n : Fin 8192) (h : Fin 8) (d : Fin 256) : result m c (ix2 n (⟨256 * h.val + d.val, by omega⟩ : Fin 2048)) = (ins m c).out n h d := by
  unfold result
  have e1 : (⟨(256 * h.val + d.val) / 256, by omega⟩ : Fin 8) = h := Fin.ext (by dsimp only; omega)
  have e2 : (⟨(256 * h.val + d.val) % 256, Nat.mod_lt _ (by norm_num)⟩ : Fin 256) = d := Fin.ext (by dsimp only; omega)
  exact congr (congrArg ((ins m c).out n) e1) e2

/-- A map's quotient at a grid point is its average of the values. -/
theorem point_avg (hI : (ins m c).Real) (t : Fin cfg0.N) (p : Fin 2) (j : Fin 512) (d : Fin 256) :
    Ideal.div ((final (F := Ideal) p (iblk m c 0 t) (iblk m c 1 t) (iblk m c 2 t) (iblk m c 3 t) (iblk m c 4 t)).2.2 (ix2 d j))
        ((final (F := Ideal) p (iblk m c 0 t) (iblk m c 1 t) (iblk m c 2 t) (iblk m c 3 t) (iblk m c 4 t)).2.1 (ix2 0 j))
      = (ins m c).avg p (row t j) (hd t) d := by
  refine (final_at ((ins m c).sc p (row t j) (hd t)) (fun k => (ins m c).val k (hd t) d) p _ _ _ _ _ j d ?_ ?_ ?_ ?_)
  · intro u hu k
    rw [← DifMath.score_eq hI p (row t j) (hd t) (256 * u + k.val) DifMath.factor_eq]
    refine (score_at _ _ k j).trans ?_
    have hk : 256 * u + k.val < 8192 := by omega
    refine Finset.sum_congr rfl fun e _ => ?_
    refine congr (congrArg _ ?_) (blk_q m c t j p e)
    unfold DifMath.In.key
    rw [dif_pos hk]
    refine Eq.trans ?_ (blk_k m c t ⟨256 * u + k.val, hk⟩ p e)
    exact congrArg (iblk m c 1 t) (congr (congrArg ix2 (Fin.ext (Nat.mod_eq_of_lt hk))) rfl)
  · intro u hu k
    have hk : 256 * u + k.val < 8192 := by omega
    unfold DifMath.In.val
    rw [dif_pos hk]
    refine Eq.trans ?_ (blk_v m c t ⟨u, hu⟩ d k)
    exact congrArg (iblk m c 2 t) (congrFun (congrFun (congrArg (ix4 0) (Fin.ext (Nat.mod_eq_of_lt hu))) _) _)
  · intro k
    rw [← DifMath.score_eq hI p (row t j) (hd t) (8192 + k.val) DifMath.factor_eq]
    refine (score_at _ _ k j).trans ?_
    have hk : ¬ 8192 + k.val < 8192 := by omega
    have ek : (⟨(8192 + k.val - 8192) % 256, Nat.mod_lt _ (by norm_num)⟩ : Fin 256) = k := Fin.ext (by dsimp only; omega)
    refine Finset.sum_congr rfl fun e _ => ?_
    refine congr (congrArg _ ?_) (blk_q m c t j p e)
    unfold DifMath.In.key
    rw [dif_neg hk, ek]
    exact blk_ck m c t k p e
  · intro k
    have hk : ¬ 8192 + k.val < 8192 := by omega
    have ek : (⟨(8192 + k.val - 8192) % 256, Nat.mod_lt _ (by norm_num)⟩ : Fin 256) = k := Fin.ext (by dsimp only; omega)
    unfold DifMath.In.val
    rw [dif_neg hk, ek]
    exact blk_cv m c t d k

/-- The factor of the second map at a grid point. -/
theorem point_fac (t : Fin cfg0.N) :
    k0_pay91 (F := Ideal) (rowOf (iblk m c 6 t) 0) (rowOf (iblk m c 6 t) 1) (rowOf (iblk m c 6 t) 2) (rowOf (iblk m c 6 t) 3) (ix2 0 0) = (ins m c).fac := by
  refine (fac_at (iblk m c 6 t)).trans ?_
  unfold DifMath.In.fac
  have e : ∀ a b : Fin 4, ∑ d : Fin 128, @HMul.hMul EReal EReal EReal _ (iblk m c 6 t (ix2 a d)) (iblk m c 6 t (ix2 b d)) = ∑ d : Fin 128, (ins m c).lam a d * (ins m c).lam b d :=
    fun a b => Finset.sum_congr rfl fun d _ => congr (congrArg _ (blk_lam m c t a d)) (blk_lam m c t b d)
  exact congrArg (· + _) (congr (congrArg _ (congrArg Ideal.exp (e 0 1))) (congrArg Ideal.exp (e 2 3)))

/-- What a grid point leaves of query `j` and column `d`. -/
theorem point (hI : (ins m c).Real) (t : Fin cfg0.N) (j : Fin 512) (d : Fin 256) :
    k0_pay1 (F := Ideal) (k0_pay90 (iblk m c 5 t)) (k0_pay91 (rowOf (iblk m c 6 t) 0) (rowOf (iblk m c 6 t) 1) (rowOf (iblk m c 6 t) 2) (rowOf (iblk m c 6 t) 3))
          (k0_pay92 (up (final 0 (iblk m c 0 t) (iblk m c 1 t) (iblk m c 2 t) (iblk m c 3 t) (iblk m c 4 t))).2.2 (up (final 0 (iblk m c 0 t) (iblk m c 1 t) (iblk m c 2 t) (iblk m c 3 t) (iblk m c 4 t))).2.1)
          (k0_pay93 (up (final 1 (iblk m c 0 t) (iblk m c 1 t) (iblk m c 2 t) (iblk m c 3 t) (iblk m c 4 t))).2.2)
          (k0_pay94 (up (final 1 (iblk m c 0 t) (iblk m c 1 t) (iblk m c 2 t) (iblk m c 3 t) (iblk m c 4 t))).2.1) (iblk m c 7 t) (ix2 j d)
      = (ins m c).out (row t j) (hd t) d := by
  refine (write_at _ _ _ _ _ d j).trans ?_
  unfold DifMath.In.out
  refine congr (congr (congr (congrArg DifMath.norm (funext fun e => ?_)) (blk_g m c t d)) (blk_gate m c t j d)) rfl
  unfold DifMath.In.dif
  refine congr (congrArg _ ((quot_at _ e j).trans (point_avg m c hI t 0 j e))) ?_
  exact congr (congrArg _ (point_fac m c t)) (point_avg m c hI t 1 j e)

/-- The result's array after the run. -/
theorem arr (hI : (ins m c).Real) : (dats m 0 c).arrAt 8 cfg0.N = result m c := by
  refine (dats m 0 c).arrAt_eq_of_covers 8 _ (by decide +kernel) (fun t hf y => ?_)
  refine (congrFun (Value.flushed8_A m c t) y).trans ?_
  rw [out_eq]
  have hy0 : (y 0).val < 512 := (y 0).isLt
  have hy1 : (y 1).val < 256 := (y 1).isLt
  have ez : ((cfg0.win 8).blk t).view.emb y = ix2 (row t ⟨(y 0).val, hy0⟩) (⟨256 * (hd t).val + (y 1).val, by have := (hd t).isLt; omega⟩ : Fin 2048) := by
    blk_ext [idx t, row, hd]
  refine Eq.trans ?_ ((point m c hI t ⟨(y 0).val, hy0⟩ ⟨(y 1).val, hy1⟩).trans ((result_at m c _ _ _).symm.trans (congrArg (result m c) ez.symm)))
  exact congrArg _ (by funext a; fin_cases a <;> rfl)

end Cert.DifIdeal.Body
-- ==== Proof.DifRefValue.lean ====
/-
  The differential attention's reference: what its result holds, read index by index.
-/
module

public import proofs.«01_k».proof.Proof.DifMath
public import proofs.«01_k».proof.Proof.Finite
public import proofs.«01_k».proof.Proof.Gen.DifRefIdeal.Run
public import Idealize.ShloMosaic.Lib.Pointwise
public import Idealize.ShloMosaic.Lib.Claim

@[expose] public section

set_option maxRecDepth 16384

noncomputable section

namespace Cert.DifRefIdeal.Body

open Cert.DifRefIdeal Cert.DifRefIdeal.Gen Idealize.ShloMosaic Idealize.ShloMosaic.TcCoe Idealize.SL.Sem

variable (m : (ℓ : Loc nD τ sig) → Buf (Elt Ideal) ℓ) (c : Dev nD)

/-- The arguments by coordinates. -/
def ins : DifMath.In where
  q n h p d := m ((c.tc : Thread nD τ).loc main_arg0) (ix4 n h p d)
  k n h p d := m ((c.tc : Thread nD τ).loc main_arg1) (ix4 n h p d)
  v n h d := m ((c.tc : Thread nD τ).loc main_arg2) (ix3 n h d)
  ck n h p d := m ((c.tc : Thread nD τ).loc main_arg3) (ix4 n h p d)
  cv n h d := m ((c.tc : Thread nD τ).loc main_arg4) (ix3 n h d)
  lam r d := match r with
    | 0 => m ((c.tc : Thread nD τ).loc main_arg5) (ix1 d)
    | 1 => m ((c.tc : Thread nD τ).loc main_arg6) (ix1 d)
    | 2 => m ((c.tc : Thread nD τ).loc main_arg7) (ix1 d)
    | 3 => m ((c.tc : Thread nD τ).loc main_arg8) (ix1 d)
  g d := m ((c.tc : Thread nD τ).loc main_arg9) (ix1 d)
  gate n d := m ((c.tc : Thread nD τ).loc main_arg10) (ix2 n d)

section Terms

variable (a0 : FVec Ideal S8192x8x2x128 .f32) (a1 : FVec Ideal S8192x8x2x128 .f32) (a2 : FVec Ideal S8192x8x256 .f32) (a3 : FVec Ideal S256x8x2x128 .f32)
  (a4 : FVec Ideal S256x8x256 .f32) (a5 : FVec Ideal S128 .f32) (a6 : FVec Ideal S128 .f32) (a7 : FVec Ideal S128 .f32) (a8 : FVec Ideal S128 .f32)
  (a9 : FVec Ideal S256 .f32) (a10 : FVec Ideal S8192x2048 .f32)

/-- The scaled scores of both maps. -/
def scores : FVec Ideal S2x8x8192x8448 .f32 :=
  mulf (Host.dotGeneral dot_S8192x8x2x128_S8448x8x2x128_S2x8x8192x8448_3_3_0_0_21_21 none a0 (concatenate S8448x8x2x128 0 [⟨S8192x8x2x128, a1⟩, ⟨S256x8x2x128, a3⟩] concatenates_S8192x8x2x128_S256x8x2x128_S8448x8x2x128_d0)) (broadcastInDim S2x8x8192x8448 ![] bcast_S_S2x8x8192x8448 (constant S_ .f32 0x3DB504F3#32))

/-- The largest score of each query. -/
def top (s : FVec Ideal S2x8x8192x8448 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8448_S2x8x8192_d3 h_S_)

/-- The scores' exponentials under a shift. -/
def expo (s : FVec Ideal S2x8x8192x8448 .f32) (t : FVec Ideal S2x8x8192 .f32) : FVec Ideal S2x8x8192x8448 .f32 :=
  Host.exp (subf s (broadcastInDim S2x8x8192x8448 ![0, 1, 2, 3] bcast_S2x8x8192x1_S2x8x8192x8448_0_1_2_3 (broadcastInDim S2x8x8192x1 ![0, 1, 2] bcast_S2x8x8192_S2x8x8192x1_0_1_2 t)))

/-- The exponentials over their sums. -/
def prob (e : FVec Ideal S2x8x8192x8448 .f32) : FVec Ideal S2x8x8192x8448 .f32 :=
  Host.divf e (broadcastInDim S2x8x8192x8448 ![0, 1, 2, 3] bcast_S2x8x8192x1_S2x8x8192x8448_0_1_2_3 (broadcastInDim S2x8x8192x1 ![0, 1, 2] bcast_S2x8x8192_S2x8x8192x1_0_1_2 (Host.reduceAdd e (constant S_ .f32 0x00000000#32) reducesTo_S2x8x8192x8448_S2x8x8192_d3 h_S_)))

/-- The factor of the second map. -/
def lam : FVec Ideal S_ .f32 :=
  addf (subf (Host.exp (Host.reduceAdd (mulf a5 a6) (constant S_ .f32 0x00000000#32) reducesTo_S128_S_d0 h_S_)) (Host.exp (Host.reduceAdd (mulf a7 a8) (constant S_ .f32 0x00000000#32) reducesTo_S128_S_d0 h_S_))) (constant S_ .f32 0x3F0E59D5#32)

/-- The values under the difference of the maps. -/
def mixed (p : FVec Ideal S2x8x8192x8448 .f32) (l : FVec Ideal S_ .f32) : FVec Ideal S8192x8x256 .f32 :=
  transpose S8192x8x256 [2, 0, 1] (Host.dotGeneral dot_S8448x8x256_S8x8192x8448_S8x256x8192_0_2_2_1_1_0 none (concatenate S8448x8x256 0 [⟨S8192x8x256, a2⟩, ⟨S256x8x256, a4⟩] concatenates_S8192x8x256_S256x8x256_S8448x8x256_d0) (subf (shapeCast _ (extractStridedSlice S1x8x8192x8448 ![0, 0, 0, 0] p slices_S2x8x8192x8448_S1x8x8192x8448_0_0_0_0) shapeCasts_S1x8x8192x8448_S8x8192x8448) (mulf (broadcastInDim S8x8192x8448 ![] bcast_S_S8x8192x8448 l) (shapeCast _ (extractStridedSlice S1x8x8192x8448 ![1, 0, 0, 0] p slices_S2x8x8192x8448_S1x8x8192x8448_1_0_0_0) shapeCasts_S1x8x8192x8448_S8x8192x8448)))) transposes_S8x256x8192_S8192x8x256_2_0_1

/-- The norm and the gate. -/
def gated (o : FVec Ideal S8192x8x256 .f32) : FVec Ideal S8192x2048 .bf16 :=
  truncf .bf16 (mulf (shapeCast _ (mulf (mulf (mulf o (broadcastInDim S8192x8x256 ![0, 1, 2] bcast_S8192x8x1_S8192x8x256_0_1_2 (Host.rsqrt (addf (Host.divf (broadcastInDim S8192x8x1 ![0, 1] bcast_S8192x8_S8192x8x1_0_1 (Host.reduceAdd (mulf o o) (constant S_ .f32 0x00000000#32) reducesTo_S8192x8x256_S8192x8_d2 h_S_)) (broadcastInDim S8192x8x1 ![] bcast_S_S8192x8x1 (constant S_ .f32 0x43800000#32))) (broadcastInDim S8192x8x1 ![] bcast_S_S8192x8x1 (constant S_ .f32 0x358637BD#32)))))) (broadcastInDim S8192x8x256 ![0, 1, 2] bcast_S1x1x256_S8192x8x256_0_1_2 (broadcastInDim S1x1x256 ![2] bcast_S256_S1x1x256_2 a9))) (broadcastInDim S8192x8x256 ![] bcast_S_S8192x8x256 (constant S_ .f32 0x3EE34C57#32))) shapeCasts_S8192x8x256_S8192x2048) a10) bitsLt_bf16_f32

theorem res_eq : Value.res_main_v50 m c =
    gated (m ((c.tc : Thread nD τ).loc main_arg9)) (m ((c.tc : Thread nD τ).loc main_arg10)) (mixed (m ((c.tc : Thread nD τ).loc main_arg2)) (m ((c.tc : Thread nD τ).loc main_arg4)) (prob (expo (scores (m ((c.tc : Thread nD τ).loc main_arg0)) (m ((c.tc : Thread nD τ).loc main_arg1)) (m ((c.tc : Thread nD τ).loc main_arg3))) (top (scores (m ((c.tc : Thread nD τ).loc main_arg0)) (m ((c.tc : Thread nD τ).loc main_arg1)) (m ((c.tc : Thread nD τ).loc main_arg3)))))) (lam (m ((c.tc : Thread nD τ).loc main_arg5)) (m ((c.tc : Thread nD τ).loc main_arg6)) (m ((c.tc : Thread nD τ).loc main_arg7)) (m ((c.tc : Thread nD τ).loc main_arg8)))) := rfl

/-- The maximum over the last axis of real numbers is real. -/
theorem top_real (s : FVec Ideal S2x8x8192x8448 .f32) (hs : ∀ i, ∃ r : ℝ, (s i : EReal) = (r : EReal)) (i : S2x8x8192.Idx) : ∃ r : ℝ, (top s i : EReal) = (r : EReal) := by
  unfold top
  exact Finite.maximumf_real _ _ i Flash.negInf_ne_top
    (Finite.host_max_real s _ reducesTo_S2x8x8192x8448_S2x8x8192_d3 (by decide) h_S_ i (by decide) Flash.negInf_ne_top hs)

theorem expo_at (s : FVec Ideal S2x8x8192x8448 .f32) (t : FVec Ideal S2x8x8192 .f32) (p : Fin 2) (h : Fin 8) (n : Fin 8192) (k : Fin 8448) :
    (expo s t (ix4 p h n k) : EReal) = Ideal.exp (s (ix4 p h n k) - t (ix3 p h n)) := by
  pointwise [expo]

theorem prob_at (s : FVec Ideal S2x8x8192x8448 .f32) (p : Fin 2) (h : Fin 8) (n : Fin 8192) (k : Fin 8448) :
    (prob s (ix4 p h n k) : EReal) = Ideal.div (s (ix4 p h n k)) (∑ x : Fin 8448, s (ix4 p h n x)) := by
  pointwise [prob]

theorem lam_at : (lam a5 a6 a7 a8 ix0 : EReal) =
    Ideal.exp (∑ x : Fin 128, a5 (ix1 x) * a6 (ix1 x)) - Ideal.exp (∑ x : Fin 128, a7 (ix1 x) * a8 (ix1 x)) + Ideal.ofBits .f32 1057905109#32 := by
  pointwise [lam]

theorem mixed_at (s : FVec Ideal S2x8x8192x8448 .f32) (l : FVec Ideal S_ .f32) (n : Fin 8192) (h : Fin 8) (d : Fin 256) :
    (mixed a2 a4 s l (ix3 n h d) : EReal)
      = ∑ x : Fin 8192, a2 (ix3 x h d) * (s (ix4 0 h n ⟨x.val, by omega⟩) - l ix0 * s (ix4 1 h n ⟨x.val, by omega⟩))
        + ∑ x : Fin 256, a4 (ix3 x h d) * (s (ix4 0 h n ⟨8192 + x.val, by omega⟩) - l ix0 * s (ix4 1 h n ⟨8192 + x.val, by omega⟩)) := by
  pointwise [mixed]

theorem gated_at (o : FVec Ideal S8192x8x256 .f32) (n : Fin 8192) (h : Fin 8) (d : Fin 256) :
    (gated a9 a10 o (ix2 n ⟨256 * h.val + d.val, by omega⟩) : EReal)
      = o (ix3 n h d) * Ideal.rsqrt (Ideal.div (∑ e : Fin 256, o (ix3 n h e) * o (ix3 n h e)) (Ideal.ofBits .f32 1132462080#32) + Ideal.ofBits .f32 897988541#32) * a9 (ix1 d) * Ideal.ofBits .f32 1055083607#32 * a10 (ix2 n ⟨256 * h.val + d.val, by omega⟩) := by
  pointwise [gated]

theorem scores_at (p : Fin 2) (h : Fin 8) (n : Fin 8192) (k : Fin 8448) : (scores a0 a1 a3 (ix4 p h n k) : EReal) =
    (∑ x : Fin 128, a0 (ix4 n h p x) * (if hk : k.val < 8192 then a1 (ix4 ⟨k.val, hk⟩ h p x) else a3 (ix4 ⟨k.val - 8192, by omega⟩ h p x))) * Ideal.ofBits .f32 1035273459#32 := by
  pointwise [scores]

end Terms

/-- A score of the reference. -/
theorem score_val (hI : (ins m c).Real) (p : Fin 2) (h : Fin 8) (n : Fin 8192) (k : Fin 8448) :
    ((scores (m ((c.tc : Thread nD τ).loc main_arg0)) (m ((c.tc : Thread nD τ).loc main_arg1)) (m ((c.tc : Thread nD τ).loc main_arg3))) (ix4 p h n k) : EReal)
      = (((ins m c).sc p n h k.val * Real.log 2 : ℝ) : EReal) := by
  rw [scores_at, ← DifMath.score_plain hI p n h k.val]
  have e1 : ∀ x, (ins m c).key k.val h p x = if hk : k.val < 8192 then (ins m c).k ⟨k.val, hk⟩ h p x else (ins m c).ck ⟨k.val - 8192, by omega⟩ h p x := by
    intro x
    unfold DifMath.In.key
    by_cases hk : k.val < 8192
    · rw [dif_pos hk, dif_pos hk]
    · rw [dif_neg hk, dif_neg hk]
      exact congrArg (fun j => (ins m c).ck j h p x) (Fin.ext (Nat.mod_eq_of_lt (by omega)))
  refine congrArg (· * _) (Finset.sum_congr rfl fun x _ => ?_)
  rw [e1]; rfl

/-- A map of the reference. -/
theorem prob_val (hI : (ins m c).Real) (p : Fin 2) (h : Fin 8) (n : Fin 8192) (k : Fin 8448) :
    ((prob (expo (scores (m ((c.tc : Thread nD τ).loc main_arg0)) (m ((c.tc : Thread nD τ).loc main_arg1)) (m ((c.tc : Thread nD τ).loc main_arg3))) (top (scores (m ((c.tc : Thread nD τ).loc main_arg0)) (m ((c.tc : Thread nD τ).loc main_arg1)) (m ((c.tc : Thread nD τ).loc main_arg3)))))) (ix4 p h n k) : EReal)
      = ((Flash.wt ((ins m c).sc p n h) 8448 k.val : ℝ) : EReal) := by
  rw [prob_at]
  simp only [expo_at]
  refine Flash.soft (by norm_num) _ _ (fun k => score_val m c hI p h n k) (top_real _ (fun i => ?_) (ix3 p h n)) k
  rw [show i = ix4 (i 0 : Fin 2) (i 1 : Fin 8) (i 2 : Fin 8192) (i 3 : Fin 8448) from by funext a; fin_cases a <;> rfl]
  exact ⟨_, score_val m c hI _ _ _ _⟩

/-- The values under the difference of the maps are the difference of the averages. -/
theorem mixed_val (hI : (ins m c).Real) (n : Fin 8192) (h : Fin 8) (d : Fin 256) :
    (mixed (m ((c.tc : Thread nD τ).loc main_arg2)) (m ((c.tc : Thread nD τ).loc main_arg4)) (prob (expo (scores (m ((c.tc : Thread nD τ).loc main_arg0)) (m ((c.tc : Thread nD τ).loc main_arg1)) (m ((c.tc : Thread nD τ).loc main_arg3))) (top (scores (m ((c.tc : Thread nD τ).loc main_arg0)) (m ((c.tc : Thread nD τ).loc main_arg1)) (m ((c.tc : Thread nD τ).loc main_arg3)))))) (lam (m ((c.tc : Thread nD τ).loc main_arg5)) (m ((c.tc : Thread nD τ).loc main_arg6)) (m ((c.tc : Thread nD τ).loc main_arg7)) (m ((c.tc : Thread nD τ).loc main_arg8))) (ix3 n h d) : EReal) = (ins m c).dif n h d := by
  refine (mixed_at _ _ _ _ n h d).trans ?_
  have hl : ((lam (m ((c.tc : Thread nD τ).loc main_arg5)) (m ((c.tc : Thread nD τ).loc main_arg6)) (m ((c.tc : Thread nD τ).loc main_arg7)) (m ((c.tc : Thread nD τ).loc main_arg8))) ix0 : EReal) = (ins m c).fac := lam_at _ _ _ _
  simp only [prob_val m c hI, hl]
  rw [← DifMath.In.dif_eq hI n h d]
  rw [← Fin.sum_univ_eq_sum_range (fun k => (ins m c).val k h d * (((Flash.wt ((ins m c).sc 0 n h) 8448 k : ℝ) : EReal) - (ins m c).fac * ((Flash.wt ((ins m c).sc 1 n h) 8448 k : ℝ) : EReal))) 8448]
  refine Eq.trans ?_ (Fin.sum_univ_add (a := 8192) (b := 256) (fun k : Fin 8448 => (ins m c).val k.val h d * (((Flash.wt ((ins m c).sc 0 n h) 8448 k.val : ℝ) : EReal) - (ins m c).fac * ((Flash.wt ((ins m c).sc 1 n h) 8448 k.val : ℝ) : EReal)))).symm
  refine congr (congrArg _ (Finset.sum_congr rfl fun x _ => congrArg (· * _) ?_)) (Finset.sum_congr rfl fun x _ => congrArg (· * _) ?_)
  · unfold DifMath.In.val
    have hk : (Fin.castAdd 256 x).val < 8192 := x.isLt
    refine Eq.trans ?_ (dif_pos hk).symm
    rfl
  · unfold DifMath.In.val
    have hk : ¬ 8192 + x.val < 8192 := by omega
    refine Eq.trans ?_ (dif_neg hk).symm
    exact congrArg (fun j => (ins m c).cv j h d) (Fin.ext (show x.val = (8192 + x.val - 8192) % 256 by omega))

/-- The reference's result by coordinates. -/
theorem res_at (hI : (ins m c).Real) (n : Fin 8192) (h : Fin 8) (d : Fin 256) :
    (Value.res_main_v50 m c (ix2 n (⟨256 * h.val + d.val, by omega⟩ : Fin 2048)) : EReal) = (ins m c).out n h d := by
  rw [res_eq]
  refine (gated_at _ _ _ n h d).trans ?_
  simp only [mixed_val m c hI, DifMath.mean_eq]
  rfl

end Cert.DifRefIdeal.Body
-- ==== Proof.DifPre.lean ====
/-
  The differential attention's precondition: the entries of the queries, the keys, the values and the rows of the factor are real numbers.
-/
module

public import proofs.«01_k».proof.Proof.Finite
public import proofs.«01_k».proof.Proof.Gen.Pre_finite_diff
public import Idealize.ShloMosaic.Lib.Pointwise
public import Idealize.ShloMosaic.Lib.Claim

@[expose] public section

set_option maxRecDepth 16384

noncomputable section

namespace Cert.Pre_finite_diff.Body

open Cert.Pre_finite_diff Cert.Pre_finite_diff.Gen Idealize.ShloMosaic

/-- Numbers over part of an index, each compared with infinity and so found finite, are real. -/
theorem all_real_on {ι : Type} (x : ι → EReal) (S : Finset ι)
    (h : Finset.fold IntOp.andi (1#1) (fun k => BitVec.ofBool (decide (FloatOps.absf (F := Ideal) (φ := .f32) (x k) < Ideal.ofBits .f32 2139095040#32))) S = 1#1) (k : ι) (hk : k ∈ S) :
    x k = ((x k).toReal : EReal) := Finite.real_of_abs (Finite.of_fold _ h k hk)

/-- Under the precondition the nine arrays hold real numbers. -/
theorem decode (a0 : FVec Ideal S8192x8x2x128 .f32) (a1 : FVec Ideal S8192x8x2x128 .f32) (a2 : FVec Ideal S8192x8x256 .f32) (a3 : FVec Ideal S256x8x2x128 .f32) (a4 : FVec Ideal S256x8x256 .f32) (a5 : FVec Ideal S128 .f32) (a6 : FVec Ideal S128 .f32) (a7 : FVec Ideal S128 .f32) (a8 : FVec Ideal S128 .f32) (a9 : FVec Ideal S256 .f32) (a10 : FVec Ideal S8192x2048 .f32)
    (h : fn a0 a1 a2 a3 a4 a5 a6 a7 a8 a9 a10 = fun _ => 1#1) :
    (∀ n h p d, (a0 (ix4 n h p d) : EReal) = ((a0 (ix4 n h p d) : EReal).toReal : EReal))
      ∧ (∀ n h p d, (a1 (ix4 n h p d) : EReal) = ((a1 (ix4 n h p d) : EReal).toReal : EReal))
      ∧ (∀ n h d, (a2 (ix3 n h d) : EReal) = ((a2 (ix3 n h d) : EReal).toReal : EReal))
      ∧ (∀ n h p d, (a3 (ix4 n h p d) : EReal) = ((a3 (ix4 n h p d) : EReal).toReal : EReal))
      ∧ (∀ n h d, (a4 (ix3 n h d) : EReal) = ((a4 (ix3 n h d) : EReal).toReal : EReal))
      ∧ (∀ d, (a5 (ix1 d) : EReal) = ((a5 (ix1 d) : EReal).toReal : EReal))
      ∧ (∀ d, (a6 (ix1 d) : EReal) = ((a6 (ix1 d) : EReal).toReal : EReal))
      ∧ (∀ d, (a7 (ix1 d) : EReal) = ((a7 (ix1 d) : EReal).toReal : EReal))
      ∧ (∀ d, (a8 (ix1 d) : EReal) = ((a8 (ix1 d) : EReal).toReal : EReal)) := by
  have h0 := congrFun h ix0
  pointwise [fn, fn_part1, fn_part2] at h0
  obtain ⟨h0, e8⟩ := Finite.of_and h0
  obtain ⟨h0, e7⟩ := Finite.of_and h0
  obtain ⟨h0, e6⟩ := Finite.of_and h0
  obtain ⟨h0, e5⟩ := Finite.of_and h0
  obtain ⟨h0, e4⟩ := Finite.of_and h0
  obtain ⟨h0, e3⟩ := Finite.of_and h0
  obtain ⟨h0, e2⟩ := Finite.of_and h0
  obtain ⟨e0, e1⟩ := Finite.of_and h0
  exact ⟨fun n h p d => all_real_on a0 _ e0 (ix4 n h p d) (Finset.mem_filter.mpr ⟨Finset.mem_univ _, funext fun a => a.elim0⟩),
    fun n h p d => all_real_on a1 _ e1 (ix4 n h p d) (Finset.mem_filter.mpr ⟨Finset.mem_univ _, funext fun a => a.elim0⟩),
    fun n h d => Finite.all_real (fun k : Fin 8192 × Fin 8 × Fin 256 => a2 (ix3 k.1 k.2.1 k.2.2)) e2 (n, h, d),
    fun n h p d => all_real_on a3 _ e3 (ix4 n h p d) (Finset.mem_filter.mpr ⟨Finset.mem_univ _, funext fun a => a.elim0⟩),
    fun n h d => Finite.all_real (fun k : Fin 256 × Fin 8 × Fin 256 => a4 (ix3 k.1 k.2.1 k.2.2)) e4 (n, h, d),
    fun d => Finite.all_real (fun k : Fin 128 => a5 (ix1 k)) e5 d,
    fun d => Finite.all_real (fun k : Fin 128 => a6 (ix1 k)) e6 d,
    fun d => Finite.all_real (fun k : Fin 128 => a7 (ix1 k)) e7 d,
    fun d => Finite.all_real (fun k : Fin 128 => a8 (ix1 k)) e8 d⟩

end Cert.Pre_finite_diff.Body
-- ==== Proof.DifClaims.lean ====
/-
  The differential attention's claims.
-/
module

public import proofs.«01_k».proof.Defs
public import proofs.«01_k».proof.Proof.DifValue
public import proofs.«01_k».proof.Proof.DifRefValue
public import proofs.«01_k».proof.Proof.DifPre
public import proofs.«01_k».proof.Proof.Gen.Dif.Frame
public import proofs.«01_k».proof.Proof.Gen.DifIdeal.Value
public import Idealize.ShloMosaic.Adequacy
public import Idealize.ShloMosaic.Init

@[expose] public section

noncomputable section

namespace Cert.Proof.DifClaims

open Idealize.ShloMosaic Idealize.ShloMosaic.TcCoe Idealize.SL.Sem

/-- The reference ends with its arguments and every counter as they were. -/
theorem frame_ref : Cert.quiescent_DifRefIdeal := fun m ρ _ =>
  (θ_run Cert.DifRefIdeal.defs _ _).mono (fun r h => ⟨fun c => (h c).2, sem_eq_zero_of_no_sems (by decide) r.2⟩)
    (Cert.DifRefIdeal.Value.run (F := Ideal) m ρ)

/-- The precondition makes the kernel's arrays real numbers. -/
theorem ins_real (m : (ℓ : Loc Cert.DifIdeal.nD Cert.DifIdeal.τ Cert.DifIdeal.sig) → Buf (Elt Ideal) ℓ) (hp : Cert.Pre_DifIdeal_finite_diff m) (c : Dev Cert.DifIdeal.nD) :
    (Cert.DifIdeal.Body.ins m c).Real := by
  obtain ⟨h0, h1, h2, h3, h4, h5, h6, h7, h8⟩ := Cert.Pre_finite_diff.Body.decode _ _ _ _ _ _ _ _ _ _ _ (hp c)
  exact ⟨h0, h1, h2, h3, h4, fun r d => by fin_cases r <;> [exact h5 d; exact h6 d; exact h7 d; exact h8 d]⟩

/-- Kernel and reference leave the same array. -/
theorem algebraic : Cert.algebraic_DifIdeal_DifRefIdeal_pre_finite_diff := by
  intro m ρ m' ρ' hp hagree
  refine ⟨fun c => Cert.DifIdeal.Body.result m c,
    (θ_run Cert.DifIdeal.defs _ _).mono (fun r h c => ⟨(h c).1.trans (Cert.DifIdeal.Body.arr m c (ins_real m hp c)), (h c).2⟩)
      (Cert.DifIdeal.Value.run_blocks m ρ), ?_⟩
  refine (θ_run Cert.DifRefIdeal.defs _ _).mono (fun r h c => ⟨(h c).1.trans ?_, (h c).2⟩) (Cert.DifRefIdeal.Value.run (F := Ideal) m' ρ')
  have e : Cert.DifRefIdeal.Body.ins m' c = Cert.DifIdeal.Body.ins m c := by
    unfold Cert.DifRefIdeal.Body.ins Cert.DifIdeal.Body.ins
    obtain ⟨h0, h1, h2, h3, h4, h5, h6, h7, h8, h9, h10⟩ := hagree c
    rw [h0, h1, h2, h3, h4, h5, h6, h7, h8, h9, h10]
    congr 1
  have hI : (Cert.DifRefIdeal.Body.ins m' c).Real := e ▸ ins_real m hp c
  funext i
  have h1 : (i 1).val < 2048 := (i 1).isLt
  have ei : i = ix2 (i 0 : Fin 8192) (⟨256 * ((i 1).val / 256) + (i 1).val % 256, by omega⟩ : Fin 2048) := by
    funext a
    fin_cases a
    · rfl
    · exact Fin.ext (show (i 1).val = 256 * ((i 1).val / 256) + (i 1).val % 256 by omega)
  rw [ei]
  refine (Cert.DifRefIdeal.Body.res_at m' c hI (i 0 : Fin 8192) ⟨(i 1).val / 256, by omega⟩ ⟨(i 1).val % 256, by omega⟩).trans ?_
  rw [e]
  exact (Cert.DifIdeal.Body.result_at m c _ ⟨(i 1).val / 256, by omega⟩ ⟨(i 1).val % 256, by omega⟩).symm

end Cert.Proof.DifClaims
-- ==== Proof.OutClaims.lean ====
/-
  The output projection: the kernel's tiles are the reference's gated product added to the tokens it began with.
-/
module

public import proofs.«01_k».proof.Defs
public import proofs.«01_k».proof.Proof.Gen.Out.Frame
public import proofs.«01_k».proof.Proof.Gen.OutIdeal.Value
public import proofs.«01_k».proof.Proof.Gen.OutRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.OutIdeal.Body

open Cert.OutIdeal Cert.OutIdeal.Gen Idealize.ShloMosaic Idealize.ShloMosaic.TcCoe Idealize.SL.Sem
open Idealize.ShloMosaic.Pipeline (Dat)

/-- A tile of the result: token `i` of the staged tokens with column `d` of the staged weights, gated and added. -/
def tile (x : Vec Ideal S1024x2048 .bf16) (w : Vec Ideal S2048x512 .bf16) (r : Vec Ideal S1024x512 .f32) (g : Vec Ideal S1x512 .f32) (i : Fin 1024) (d : Fin 512) : EReal :=
  @HAdd.hAdd EReal EReal EReal _ (r (ix2 i d)) <| @HMul.hMul EReal EReal EReal _ (g (ix2 0 d)) <| ∑ k : Fin 2048, @HMul.hMul EReal EReal EReal _ (x (ix2 i k)) (w (ix2 k d))

/-- The first chunk's product. -/
theorem pay3_at (a : Vec Ideal S256x2048 .bf16) (w : Vec Ideal S2048x512 .bf16) (r : Vec Ideal S256x512 .f32) (g : Vec Ideal S1x512 .f32) (j : Fin 256) (d : Fin 512) :
    k0_pay3 a w r g (ix2 j d) = @HAdd.hAdd EReal EReal EReal _ (r (ix2 j d)) (@HMul.hMul EReal EReal EReal _ (g (ix2 0 d)) (∑ k : Fin 2048, @HMul.hMul EReal EReal EReal _ (a (ix2 j k)) (w (ix2 k d)))) := by
  pointwise [k0_pay3]

/-- The loads of chunk `o`'s rows and of all the weights give its rows of the tile. -/
theorem tile_of (x : Vec Ideal S1024x2048 .bf16) (w : Vec Ideal S2048x512 .bf16) (r : Vec Ideal S1024x512 .f32) (g : Vec Ideal S1x512 .f32) (o : Nat) (ho : o + 256 ≤ 1024)
    (h : ∀ a, (![o, 0] : Fin 2 → Nat) a + S256x2048.size a ≤ S1024x2048.size a) (h' : ∀ a, (![0, 0] : Fin 2 → Nat) a + S2048x512.size a ≤ S2048x512.size a)
    (h2 : ∀ a, (![o, 0] : Fin 2 → Nat) a + S256x512.size a ≤ S1024x512.size a) (h3 : ∀ a, (![0, 0] : Fin 2 → Nat) a + S1x512.size a ≤ S1x512.size a)
    (j : Fin 256) (d : Fin 512) :
    k0_pay3 (F := Ideal) (View.ld x (Rect.unit (s := S1024x2048) ![o, 0] S256x2048.size h)) (View.ld w (Rect.unit (s := S2048x512) ![0, 0] S2048x512.size h'))
        (View.ld r (Rect.unit (s := S1024x512) ![o, 0] S256x512.size h2)) (View.ld g (Rect.unit (s := S1x512) ![0, 0] S1x512.size h3)) (ix2 j d)
      = tile x w r g ⟨o + j.val, by omega⟩ d := by
  refine (pay3_at _ _ _ _ j d).trans (congr (congrArg _ (congrArg r ?_)) (congr (congrArg _ (congrArg g ?_)) (Finset.sum_congr rfl fun k _ => ?_)))
  · funext a; fin_cases a <;> exact Fin.ext (by simp [Rect.unit, Rect.emb, ix2])
  · funext a; fin_cases a <;> exact Fin.ext (by simp [Rect.unit, Rect.emb, ix2])
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S1024x2048 .bf16) (w : Vec Ideal S2048x512 .bf16) (r : Vec Ideal S1024x512 .f32) (g : Vec Ideal S1x512 .f32) (y : S1024x512.Idx) :
    out0_4 (F := Ideal) x w r g y = tile x w r g (y 0 : Fin 1024) (y 1 : Fin 512) := by
  unfold out0_4
  refine View.canon_apply_of_pieces (Val := Elt Ideal) (fun y : S1024x512.Idx => tile x w r g (y 0 : Fin 1024) (y 1 : Fin 512)) _ ?_ y (cover0_4 _ _ _ _ y)
  intro p hp z
  have ez : ∀ z : S256x512.Idx, z = ix2 (z 0 : Fin 256) (z 1 : Fin 512) := fun z => by funext a; fin_cases a <;> rfl
  simp only [List.mem_cons, List.mem_nil_iff, or_false] at hp
  rcases hp with rfl | rfl | rfl | rfl
  · refine (congrArg _ (ez z)).trans ((tile_of x w r g 768 (by norm_num) _ _ _ _ (z 0 : Fin 256) (z 1 : Fin 512)).trans ?_)
    exact congr (congrArg (tile x w r g) (Fin.ext (by simp [Rect.unit, Rect.emb]))) (Fin.ext (by simp [Rect.unit, Rect.emb]))
  · refine (congrArg _ (ez z)).trans ((tile_of x w r g 512 (by norm_num) _ _ _ _ (z 0 : Fin 256) (z 1 : Fin 512)).trans ?_)
    exact congr (congrArg (tile x w r g) (Fin.ext (by simp [Rect.unit, Rect.emb]))) (Fin.ext (by simp [Rect.unit, Rect.emb]))
  · refine (congrArg _ (ez z)).trans ((tile_of x w r g 256 (by norm_num) _ _ _ _ (z 0 : Fin 256) (z 1 : Fin 512)).trans ?_)
    exact congr (congrArg (tile x w r g) (Fin.ext (by simp [Rect.unit, Rect.emb]))) (Fin.ext (by simp [Rect.unit, Rect.emb]))
  · refine (congrArg _ (ez z)).trans ((tile_of x w r g 0 (by norm_num) _ _ _ _ (z 0 : Fin 256) (z 1 : Fin 512)).trans ?_)
    exact congr (congrArg (tile x w r g) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![0, (grid0.coords t 1).val]
    ∧ win0_4.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- The prepared weights. -/
theorem w_at (k : Fin 2048) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The prepared gate. -/
theorem g_at (d : Fin 2048) : V m c main_v1 (ix2 0 d) = m ((c : Thread nD τ).loc main_arg3) (ix1 d) := by
  show StableHlo.after hostOps0 (fun b => m (c, b)) (Proc.tc.devRef _) _ = _
  simp only [hostOps0]
  after_reads_at

/-- The staged addend. -/
theorem blk_r (t : Fin cfg0.N) (i : Fin 1024) (d : Fin 512) : iblk m c 2 t (ix2 i d) = m ((c : Thread nD τ).loc main_arg2) (ix2 (row t i) (col t d)) := by
  refine Eq.trans ?_ (congrFun (V_main_arg2 m c) (ix2 (row t i) (col t d)))
  blk_ext [iblk, idx t, row, col]

/-- The staged gate. -/
theorem blk_g (t : Fin cfg0.N) (d : Fin 512) : iblk m c 3 t (ix2 0 d) = m ((c : Thread nD τ).loc main_arg3) (ix1 (col t d)) := by
  refine Eq.trans ?_ (g_at m c (col t d))
  blk_ext [iblk, idx t, col]

/-- The gated product of tokens and weights added to the addend. -/
def prod (n : Fin 8192) (d : Fin 2048) : EReal :=
  @HAdd.hAdd EReal EReal EReal _ (m ((c : Thread nD τ).loc main_arg2) (ix2 n d)) <| @HMul.hMul EReal EReal EReal _ (m ((c : Thread nD τ).loc main_arg3) (ix1 d)) <|
    ∑ k : Fin 2048, @HMul.hMul EReal EReal EReal _ (m ((c : Thread nD τ).loc main_arg0) (ix2 n k)) (m ((c : Thread nD τ).loc main_arg1) (ix2 k d))

/-- The result's array by coordinates. -/
def result : Vec Ideal S8192x2048 .f32 := fun i => prod m c (i 0 : Fin 8192) (i 1 : Fin 2048)

/-- The result's array after the run. -/
theorem arr : (dats m 0 c).arrAt 4 cfg0.N = result m c := by
  refine (dats m 0 c).arrAt_eq_of_covers 4 _ (by decide +kernel) (fun t hf y => ?_)
  refine (congrFun (Value.flushed4 m c t) y).trans ?_
  have hy0 : (y 0).val < 1024 := (y 0).isLt
  have hy1 : (y 1).val < 512 := (y 1).isLt
  have ez : ((cfg0.win 4).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (iblk m c 3 t) (ix2 ⟨(y 0).val, hy0⟩ ⟨(y 1).val, hy1⟩)).trans ?_)
  · exact congrArg _ (by funext a; fin_cases a <;> rfl)
  · refine congr (congrArg _ (blk_r m c t ⟨(y 0).val, hy0⟩ ⟨(y 1).val, hy1⟩)) (congr (congrArg _ (blk_g m c t ⟨(y 1).val, hy1⟩)) (Finset.sum_congr rfl fun k _ => ?_))
    exact congr (congrArg _ (blk_x m c t ⟨(y 0).val, hy0⟩ k)) (blk_w m c t k ⟨(y 1).val, hy1⟩)

end Cert.OutIdeal.Body

namespace Cert.OutRefIdeal.Body

open Cert.OutRefIdeal Cert.OutRefIdeal.Gen Idealize.ShloMosaic Idealize.ShloMosaic.TcCoe

/-- The reference's result at an index. -/
theorem res_at (a0 : FVec Ideal S8192x2048 .bf16) (a1 : FVec Ideal S2048x2048 .f32) (a2 : FVec Ideal S8192x2048 .f32) (a3 : FVec Ideal S2048 .f32) (n : Fin 8192) (d : Fin 2048) :
    addf a2 (mulf (broadcastInDim S8192x2048 ![0, 1] bcast_S1x2048_S8192x2048_0_1 (broadcastInDim S1x2048 ![1] bcast_S2048_S1x2048_1 a3)) (Host.dotGeneral dot_S8192x2048_S2048x2048_S8192x2048_1_0_0_1_n_n none (extf .f32 a0 bitsLt_bf16_f32) a1)) (ix2 n d)
      = @HAdd.hAdd EReal EReal EReal _ (a2 (ix2 n d)) (@HMul.hMul EReal EReal EReal _ (a3 (ix1 d)) (∑ k : Fin 2048, @HMul.hMul EReal EReal EReal _ (a0 (ix2 n k)) (a1 (ix2 k d)))) := by
  pointwise

end Cert.OutRefIdeal.Body

namespace Cert.Proof.OutClaims

open Idealize.ShloMosaic Idealize.ShloMosaic.TcCoe Idealize.SL.Sem

/-- The reference ends with its arguments and every counter as they were. -/
theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Kernel and reference leave the same array. -/
theorem algebraic : Cert.algebraic_OutIdeal_OutRefIdeal := by
  intro m ρ m' ρ' _ hagree
  refine ⟨fun c => Cert.OutIdeal.Body.result m c,
    (θ_run Cert.OutIdeal.defs _ _).mono (fun r h c => ⟨(h c).1.trans (Cert.OutIdeal.Body.arr m c), (h c).2⟩)
      (Cert.OutIdeal.Value.run_blocks m ρ), ?_⟩
  refine (θ_run Cert.OutRefIdeal.defs _ _).mono (fun r h c => ⟨(h c).1.trans ?_, (h c).2⟩) (Cert.OutRefIdeal.Value.run (F := Ideal) m' ρ')
  obtain ⟨h0, h1, h2, h3⟩ := hagree c
  rw [h0, h1, h2, h3]
  funext i
  have ei : i = ix2 (i 0 : Fin 8192) (i 1 : Fin 2048) := by funext a; fin_cases a <;> rfl
  rw [ei]
  exact Cert.OutRefIdeal.Body.res_at _ _ _ _ (i 0 : Fin 8192) (i 1 : Fin 2048)

end Cert.Proof.OutClaims
-- ==== Proof.GatClaims.lean ====
/-
  The gate path: the kernel's tiles are the reference's product of the two matrices under the logistic unit.
-/
module

public import proofs.«01_k».proof.Defs
public import proofs.«01_k».proof.Proof.Gen.Gat.Frame
public import proofs.«01_k».proof.Proof.Gen.GatIdeal.Value
public import proofs.«01_k».proof.Proof.Gen.GatRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.GatIdeal.Body

open Cert.GatIdeal Cert.GatIdeal.Gen Idealize.ShloMosaic Idealize.ShloMosaic.TcCoe Idealize.SL.Sem
open Idealize.ShloMosaic.Pipeline (Dat)

/-- A number times its logistic value. -/
def silu (v : EReal) : EReal := v * Ideal.logistic v

/-- A tile of the result: token `i` of the staged tokens with column `d` of the staged weights. -/
def tile (x : Vec Ideal S1024x2048 .bf16) (w : Vec Ideal S2048x512 .bf16) (i : Fin 1024) (d : Fin 512) : EReal :=
  silu (∑ k : Fin 2048, @HMul.hMul EReal EReal EReal _ (x (ix2 i k)) (w (ix2 k d)))

/-- The first chunk's product. -/
theorem pay2_at (a : Vec Ideal S256x2048 .bf16) (w : Vec Ideal S2048x512 .bf16) (j : Fin 256) (d : Fin 512) :
    k0_pay2 a w (ix2 j d) = silu (∑ k : Fin 2048, @HMul.hMul EReal EReal EReal _ (a (ix2 j k)) (w (ix2 k d))) := by
  pointwise [k0_pay2]
  rfl

/-- The loads of chunk `o`'s rows and of all the weights give its rows of the tile. -/
theorem tile_of (x : Vec Ideal S1024x2048 .bf16) (w : Vec Ideal S2048x512 .bf16) (o : Nat) (ho : o + 256 ≤ 1024)
    (h : ∀ a, (![o, 0] : Fin 2 → Nat) a + S256x2048.size a ≤ S1024x2048.size a) (h' : ∀ a, (![0, 0] : Fin 2 → Nat) a + S2048x512.size a ≤ S2048x512.size a)
    (j : Fin 256) (d : Fin 512) :
    k0_pay2 (F := Ideal) (View.ld x (Rect.unit (s := S1024x2048) ![o, 0] S256x2048.size h)) (View.ld w (Rect.unit (s := S2048x512) ![0, 0] S2048x512.size h')) (ix2 j d)
      = tile x w ⟨o + j.val, by omega⟩ d := by
  refine (pay2_at _ _ j d).trans (congrArg silu (Finset.sum_congr rfl fun k _ => ?_))
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S1024x2048 .bf16) (w : Vec Ideal S2048x512 .bf16) (y : S1024x512.Idx) :
    out0_2 (F := Ideal) x w y = tile x w (y 0 : Fin 1024) (y 1 : Fin 512) := by
  unfold out0_2
  refine View.canon_apply_of_pieces (Val := Elt Ideal) (fun y : S1024x512.Idx => tile x w (y 0 : Fin 1024) (y 1 : Fin 512)) _ ?_ y (cover0_2 _ _ _ _ y)
  intro p hp z
  have ez : ∀ z : S256x512.Idx, z = ix2 (z 0 : Fin 256) (z 1 : Fin 512) := fun z => by funext a; fin_cases a <;> rfl
  simp only [List.mem_cons, List.mem_nil_iff, or_false] at hp
  rcases hp with rfl | rfl | rfl | rfl
  · refine (congrArg _ (ez z)).trans ((tile_of x w 768 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 512 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 256 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 0 (by norm_num) _ _ (z 0 : Fin 256) (z 1 : Fin 512)).trans ?_)
    exact congr (congrArg (tile x w) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- The prepared weights. -/
theorem w_at (k : Fin 2048) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The product of tokens and weights under the logistic unit. -/
def prod (n : Fin 8192) (d : Fin 2048) : EReal :=
  silu (∑ k : Fin 2048, @HMul.hMul EReal EReal EReal _ (m ((c : Thread nD τ).loc main_arg0) (ix2 n k)) (m ((c : Thread nD τ).loc main_arg1) (ix2 k d)))

/-- The result's array by coordinates. -/
def result : Vec Ideal S8192x2048 .bf16 := fun i => prod m c (i 0 : Fin 8192) (i 1 : Fin 2048)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1024 := (y 0).isLt
  have hy1 : (y 1).val < 512 := (y 1).isLt
  have ez : ((cfg0.win 2).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (ix2 ⟨(y 0).val, hy0⟩ ⟨(y 1).val, hy1⟩)).trans ?_)
  · exact congrArg _ (by funext a; fin_cases a <;> rfl)
  · refine congrArg silu (Finset.sum_congr rfl fun k _ => ?_)
    exact congr (congrArg _ (blk_x m c t ⟨(y 0).val, hy0⟩ k)) (blk_w m c t k ⟨(y 1).val, hy1⟩)

end Cert.GatIdeal.Body

namespace Cert.GatRefIdeal.Body

open Cert.GatRefIdeal Cert.GatRefIdeal.Gen Idealize.ShloMosaic Idealize.ShloMosaic.TcCoe

/-- The reference's result at an index. -/
theorem res_at (a0 : FVec Ideal S8192x2048 .bf16) (a1 : FVec Ideal S2048x2048 .f32) (n : Fin 8192) (d : Fin 2048) :
    truncf .bf16 (mulf (Host.dotGeneral dot_S8192x2048_S2048x2048_S8192x2048_1_0_0_1_n_n none (extf .f32 a0 bitsLt_bf16_f32) a1) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 a0 bitsLt_bf16_f32) a1)))))) bitsLt_bf16_f32 (ix2 n d)
      = Cert.GatIdeal.Body.silu (∑ k : Fin 2048, @HMul.hMul EReal EReal EReal _ (a0 (ix2 n k)) (a1 (ix2 k d))) := by
  pointwise
  rfl

end Cert.GatRefIdeal.Body

namespace Cert.Proof.GatClaims

open Idealize.ShloMosaic Idealize.ShloMosaic.TcCoe Idealize.SL.Sem

/-- The reference ends with its arguments and every counter as they were. -/
theorem frame_ref : Cert.quiescent_GatRefIdeal := fun m ρ _ =>
  (θ_run Cert.GatRefIdeal.defs _ _).mono (fun r h => ⟨fun c => (h c).2, sem_eq_zero_of_no_sems (by decide) r.2⟩)
    (Cert.GatRefIdeal.Value.run (F := Ideal) m ρ)

/-- Kernel and reference leave the same array. -/
theorem algebraic : Cert.algebraic_GatIdeal_GatRefIdeal := by
  intro m ρ m' ρ' _ hagree
  refine ⟨fun c => Cert.GatIdeal.Body.result m c,
    (θ_run Cert.GatIdeal.defs _ _).mono (fun r h c => ⟨(h c).1.trans (Cert.GatIdeal.Body.arr m c), (h c).2⟩)
      (Cert.GatIdeal.Value.run_blocks m ρ), ?_⟩
  refine (θ_run Cert.GatRefIdeal.defs _ _).mono (fun r h c => ⟨(h c).1.trans ?_, (h c).2⟩) (Cert.GatRefIdeal.Value.run (F := Ideal) m' ρ')
  obtain ⟨h0, h1⟩ := hagree c
  rw [h0, h1]
  funext i
  have ei : i = ix2 (i 0 : Fin 8192) (i 1 : Fin 2048) := by funext a; fin_cases a <;> rfl
  rw [ei]
  exact Cert.GatRefIdeal.Body.res_at _ _ (i 0 : Fin 8192) (i 1 : Fin 2048)

end Cert.Proof.GatClaims
-- ==== Proof.LinClaims.lean ====
/-
  The long convolution's input projection: the kernel's tiles are the reference's product of the two matrices.
-/
module

public import proofs.«01_k».proof.Defs
public import proofs.«01_k».proof.Proof.Gen.Lin.Frame
public import proofs.«01_k».proof.Proof.Gen.LinIdeal.Value
public import proofs.«01_k».proof.Proof.Gen.LinRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.LinIdeal.Body

open Cert.LinIdeal Cert.LinIdeal.Gen Idealize.ShloMosaic Idealize.ShloMosaic.TcCoe Idealize.SL.Sem
open Idealize.ShloMosaic.Pipeline (Dat)

/-- A tile of the product: token `i` of the staged tokens with column `d` of the staged weights. -/
def tile (x : Vec Ideal S1024x2048 .bf16) (w : Vec Ideal S2048x512 .bf16) (i : Fin 1024) (d : Fin 512) : EReal :=
  ∑ k : Fin 2048, @HMul.hMul EReal EReal EReal _ (x (ix2 i k)) (w (ix2 k d))

/-- The first chunk's product. -/
theorem pay1_at (a : Vec Ideal S256x2048 .bf16) (w : Vec Ideal S2048x512 .bf16) (j : Fin 256) (d : Fin 512) :
    k0_pay1 a w (ix2 j d) = ∑ k : Fin 2048, @HMul.hMul EReal EReal EReal _ (a (ix2 j k)) (w (ix2 k d)) := by
  pointwise [k0_pay1]

/-- The loads of chunk `o`'s rows and of all the weights give its rows of the tile. -/
theorem tile_of (x : Vec Ideal S1024x2048 .bf16) (w : Vec Ideal S2048x512 .bf16) (o : Nat) (ho : o + 256 ≤ 1024)
    (h : ∀ a, (![o, 0] : Fin 2 → Nat) a + S256x2048.size a ≤ S1024x2048.size a) (h' : ∀ a, (![0, 0] : Fin 2 → Nat) a + S2048x512.size a ≤ S2048x512.size a)
    (j : Fin 256) (d : Fin 512) :
    k0_pay1 (F := Ideal) (View.ld x (Rect.unit (s := S1024x2048) ![o, 0] S256x2048.size h)) (View.ld w (Rect.unit (s := S2048x512) ![0, 0] S2048x512.size h')) (ix2 j d)
      = tile x w ⟨o + j.val, by omega⟩ d := by
  refine (pay1_at _ _ j d).trans (Finset.sum_congr rfl fun k _ => ?_)
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S1024x2048 .bf16) (w : Vec Ideal S2048x512 .bf16) (y : S1024x512.Idx) :
    out0_2 (F := Ideal) x w y = tile x w (y 0 : Fin 1024) (y 1 : Fin 512) := by
  unfold out0_2
  refine View.canon_apply_of_pieces (Val := Elt Ideal) (fun y : S1024x512.Idx => tile x w (y 0 : Fin 1024) (y 1 : Fin 512)) _ ?_ y (cover0_2 _ _ _ _ y)
  intro p hp z
  have ez : ∀ z : S256x512.Idx, z = ix2 (z 0 : Fin 256) (z 1 : Fin 512) := fun z => by funext a; fin_cases a <;> rfl
  simp only [List.mem_cons, List.mem_nil_iff, or_false] at hp
  rcases hp with rfl | rfl | rfl | rfl
  · refine (congrArg _ (ez z)).trans ((tile_of x w 768 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 512 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 256 (by norm_num) _ _ (z 0 : Fin 256) (z 1 : Fin 512)).trans ?_)
    exact congr (congrArg (tile x w) (Fin.ext (by simp [Rect.unit, Rect.emb]))) (Fin.ext (by simp [Rect.unit, Rect.emb]))
  · refine (congrArg _ (ez z)).trans ((tile_of x w 0 (by norm_num) _ _ (z 0 : Fin 256) (z 1 : Fin 512)).trans ?_)
    exact congr (congrArg (tile x w) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 6144 :=
  ⟨512 * (grid0.coords t 1).val + d.val, by have : (grid0.coords t 1).val < 12 := (grid0.coords t 1).isLt; omega⟩

/-- The prepared weights. -/
theorem w_at (k : Fin 2048) (d : Fin 6144) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The product of tokens and weights. -/
def prod (n : Fin 8192) (d : Fin 6144) : EReal :=
  ∑ k : Fin 2048, @HMul.hMul EReal EReal EReal _ (m ((c : Thread nD τ).loc main_arg0) (ix2 n k)) (m ((c : Thread nD τ).loc main_arg1) (ix2 k d))

/-- The result's array by coordinates. -/
def result : Vec Ideal S8192x6144 .f32 := fun i => prod m c (i 0 : Fin 8192) (i 1 : Fin 6144)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1024 := (y 0).isLt
  have hy1 : (y 1).val < 512 := (y 1).isLt
  have ez : ((cfg0.win 2).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (ix2 ⟨(y 0).val, hy0⟩ ⟨(y 1).val, hy1⟩)).trans ?_)
  · exact congrArg _ (by funext a; fin_cases a <;> rfl)
  · exact Finset.sum_congr rfl fun k _ => congr (congrArg _ (blk_x m c t ⟨(y 0).val, hy0⟩ k)) (blk_w m c t k ⟨(y 1).val, hy1⟩)

end Cert.LinIdeal.Body

namespace Cert.LinRefIdeal.Body

open Cert.LinRefIdeal Cert.LinRefIdeal.Gen Idealize.ShloMosaic Idealize.ShloMosaic.TcCoe

/-- The reference's product at an index. -/
theorem res_at (a0 : FVec Ideal S8192x2048 .bf16) (a1 : FVec Ideal S2048x6144 .f32) (n : Fin 8192) (d : Fin 6144) :
    Host.dotGeneral dot_S8192x2048_S2048x6144_S8192x6144_1_0_0_1_n_n none (extf .f32 a0 bitsLt_bf16_f32) a1 (ix2 n d)
      = ∑ k : Fin 2048, @HMul.hMul EReal EReal EReal _ (a0 (ix2 n k)) (a1 (ix2 k d)) := by
  pointwise

end Cert.LinRefIdeal.Body

namespace Cert.Proof.LinClaims

open Idealize.ShloMosaic Idealize.ShloMosaic.TcCoe Idealize.SL.Sem

/-- The reference ends with its arguments and every counter as they were. -/
theorem frame_ref : Cert.quiescent_LinRefIdeal := fun m ρ _ =>
  (θ_run Cert.LinRefIdeal.defs _ _).mono (fun r h => ⟨fun c => (h c).2, sem_eq_zero_of_no_sems (by decide) r.2⟩)
    (Cert.LinRefIdeal.Value.run (F := Ideal) m ρ)

/-- Kernel and reference leave the same array. -/
theorem algebraic : Cert.algebraic_LinIdeal_LinRefIdeal := by
  intro m ρ m' ρ' _ hagree
  refine ⟨fun c => Cert.LinIdeal.Body.result m c,
    (θ_run Cert.LinIdeal.defs _ _).mono (fun r h c => ⟨(h c).1.trans (Cert.LinIdeal.Body.arr m c), (h c).2⟩)
      (Cert.LinIdeal.Value.run_blocks m ρ), ?_⟩
  refine (θ_run Cert.LinRefIdeal.defs _ _).mono (fun r h c => ⟨(h c).1.trans ?_, (h c).2⟩) (Cert.LinRefIdeal.Value.run (F := Ideal) m' ρ')
  obtain ⟨h0, h1⟩ := hagree c
  rw [h0, h1]
  funext i
  have ei : i = ix2 (i 0 : Fin 8192) (i 1 : Fin 6144) := by funext a; fin_cases a <;> rfl
  rw [ei]
  exact Cert.LinRefIdeal.Body.res_at _ _ (i 0 : Fin 8192) (i 1 : Fin 6144)

end Cert.Proof.LinClaims
-- ==== Proof.RopTile.lean ====
/-
  The normed and rotated projection's body: what each stored chunk holds, read index by index.
-/
module

public import proofs.«01_k».proof.Proof.Gen.RopIdeal.Value
public import Idealize.ShloMosaic.Lib.Pipeline.ValueKit
public import Idealize.ShloMosaic.Lib.Pointwise
public import Idealize.ShloMosaic.Lib.Claim

@[expose] public section

set_option maxRecDepth 16384

noncomputable section

namespace RopMath

open Idealize.ShloMosaic

/-- A head's vector over the root of its mean square, weighted. -/
def nrm (v : Fin 128 → EReal) (g : Fin 128 → EReal) (d : Fin 128) : EReal :=
  v d * Ideal.rsqrt ((∑ e : Fin 128, v e * v e) * Ideal.ofBits .f32 1006632960#32 + Ideal.ofBits .f32 897988541#32) * g d

/-- The coordinate a coordinate is rotated with. -/
def mate (d : Fin 128) : Fin 128 := if d.val % 64 < 32 then ⟨(d.val + 32) % 128, Nat.mod_lt _ (by norm_num)⟩ else ⟨(d.val + 96) % 128, Nat.mod_lt _ (by norm_num)⟩

end RopMath

namespace Cert.RopIdeal.Body

open Cert.RopIdeal Cert.RopIdeal.Gen Idealize.ShloMosaic Idealize.ShloMosaic.TcCoe Idealize.SL.Sem

/-- The normed chunk of a head. -/
def normed (v : FVec Ideal S256x128 .f32) (g : Vec Ideal S1x128 .f32) : FVec Ideal S256x128 .f32 :=
  mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C000000#32))) (broadcast S256x1 (Scalar.ofBits .f32 0x358637BD#32)))) broadcasts_S256x1_S256x128))
    (broadcastTo S256x128 (shapeCast S1x128 g shapeCasts_S1x128_S1x128) broadcasts_S1x128_S256x128)

/-- The stored chunk of a head. -/
def chunk (v : FVec Ideal S256x128 .f32) (g : Vec Ideal S1x128 .f32) (cs : Vec Ideal S256x128 .f32) (sn : Vec Ideal S256x128 .f32) : FVec Ideal S256x128 .bf16 :=
  k0_pay1 (normed v g) cs sn

/-- The normed chunk at an index. -/
theorem normed_at (v : FVec Ideal S256x128 .f32) (g : Vec Ideal S1x128 .f32) (j : Fin 256) (d : Fin 128) :
    normed v g (ix2 j d) = RopMath.nrm (fun e => v (ix2 j e)) (fun e => g (ix2 0 e)) d := by
  pointwise [normed]
  rfl

/-- The comparison at a coordinate of a lower half. -/
theorem low : ∀ d : Fin 128, d.val % 64 < 32 → IntOp.cmpi CmpIPredicate.slt (IntOp.andi (BitVec.ofNat 32 d.val) 63#32) 32#32 = 1#1 := by
  decide +kernel

/-- The comparison at a coordinate of an upper half. -/
theorem high : ∀ d : Fin 128, ¬ d.val % 64 < 32 → IntOp.cmpi CmpIPredicate.slt (IntOp.andi (BitVec.ofNat 32 d.val) 63#32) 32#32 = 0#1 := by
  decide +kernel

/-- The stored chunk at an index. -/
theorem pay1_at (u : FVec Ideal S256x128 .f32) (cs : Vec Ideal S256x128 .f32) (sn : Vec Ideal S256x128 .f32) (j : Fin 256) (d : Fin 128) :
    k0_pay1 u cs sn (ix2 j d) = @HAdd.hAdd EReal EReal EReal _ (@HMul.hMul EReal EReal EReal _ (u (ix2 j d)) (cs (ix2 j d))) (@HMul.hMul EReal EReal EReal _ (u (ix2 j (RopMath.mate d))) (sn (ix2 j d))) := by
  pointwise [k0_pay1]
  refine congrArg _ (congrArg (· * _) ?_)
  by_cases h : d.val % 64 < 32
  · have hm : RopMath.mate d = ⟨(d.val + 128 - 96) % 128, Nat.mod_lt _ (by norm_num)⟩ := by
      unfold RopMath.mate
      rw [if_pos h]
      exact Fin.ext (by dsimp only; omega)
    rw [hm, low d h]
    rfl
  · have hm : RopMath.mate d = ⟨(d.val + 128 - 32) % 128, Nat.mod_lt _ (by norm_num)⟩ := by
      unfold RopMath.mate
      rw [if_neg h]
      exact Fin.ext (by dsimp only; omega)
    rw [hm, high d h]
    rfl

/-- The tile at a row and a head's coordinate: the head's product normed, rotated with its mate. -/
def tile (x : Vec Ideal S1024x2048 .bf16) (w : Vec Ideal S2048x512 .bf16) (g : Vec Ideal S1x128 .f32) (cs : Vec Ideal S1024x128 .f32) (sn : Vec Ideal S1024x128 .f32)
    (i : Fin 1024) (h : Fin 4) (d : Fin 128) : EReal :=
  RopMath.nrm (fun e => ∑ k : Fin 2048, @HMul.hMul EReal EReal EReal _ (x (ix2 i k)) (w (ix2 k ⟨128 * h.val + e.val, by omega⟩))) (fun e => g (ix2 0 e)) d * cs (ix2 i d)
    + RopMath.nrm (fun e => ∑ k : Fin 2048, @HMul.hMul EReal EReal EReal _ (x (ix2 i k)) (w (ix2 k ⟨128 * h.val + e.val, by omega⟩))) (fun e => g (ix2 0 e)) (RopMath.mate d) * sn (ix2 i d)

/-- A chunk's product at an index. -/
theorem pay2_at (a : Vec Ideal S256x2048 .bf16) (w : Vec Ideal S2048x512 .bf16) (j : Fin 256) (d : Fin 512) :
    k0_pay2 a w (ix2 j d) = ∑ k : Fin 2048, @HMul.hMul EReal EReal EReal _ (a (ix2 j k)) (w (ix2 k d)) := by
  pointwise [k0_pay2]

/-- The loads of chunk `o`'s rows and of all the weights give head `h` of its rows of the tile. -/
theorem tile_of (x : Vec Ideal S1024x2048 .bf16) (w : Vec Ideal S2048x512 .bf16) (g : Vec Ideal S1x128 .f32) (cs : Vec Ideal S1024x128 .f32) (sn : Vec Ideal S1024x128 .f32) (o : Nat) (ho : o + 256 ≤ 1024) (h : Fin 4)
    (h0 : ∀ a, (![o, 0] : Fin 2 → Nat) a + S256x2048.size a ≤ S1024x2048.size a) (h1 : ∀ a, (![0, 0] : Fin 2 → Nat) a + S2048x512.size a ≤ S2048x512.size a)
    (h2 : ∀ a, (![0, 0] : Fin 2 → Nat) a + S1x128.size a ≤ S1x128.size a) (h3 : ∀ a, (![o, 0] : Fin 2 → Nat) a + S256x128.size a ≤ S1024x128.size a)
    (p : Nat) (hp : p = 128 * h.val) (hs : S256x512.Slices ![0, p] S256x128) (j : Fin 256) (d : Fin 128) :
    chunk (extractStridedSlice S256x128 ![0, p] (k0_pay2 (F := Ideal) (View.ld x (Rect.unit (s := S1024x2048) ![o, 0] S256x2048.size h0)) (View.ld w (Rect.unit (s := S2048x512) ![0, 0] S2048x512.size h1))) hs)
        (View.ld g (Rect.unit (s := S1x128) ![0, 0] S1x128.size h2)) (View.ld cs (Rect.unit (s := S1024x128) ![o, 0] S256x128.size h3)) (View.ld sn (Rect.unit (s := S1024x128) ![o, 0] S256x128.size h3)) (ix2 j d)
      = tile x w g cs sn ⟨o + j.val, by omega⟩ h d := by
  subst hp
  have ev : ∀ e : Fin 128, extractStridedSlice S256x128 ![0, 128 * h.val] (k0_pay2 (F := Ideal) (View.ld x (Rect.unit (s := S1024x2048) ![o, 0] S256x2048.size h0)) (View.ld w (Rect.unit (s := S2048x512) ![0, 0] S2048x512.size h1))) hs (ix2 j e)
      = ∑ k : Fin 2048, @HMul.hMul EReal EReal EReal _ (x (ix2 ⟨o + j.val, by omega⟩ k)) (w (ix2 k ⟨128 * h.val + e.val, by omega⟩)) := fun e => by
    refine Eq.trans (congrArg (k0_pay2 (F := Ideal) _ _) ?_) ((pay2_at _ _ j ⟨128 * h.val + e.val, by omega⟩).trans (Finset.sum_congr rfl fun k _ => ?_))
    · funext a; fin_cases a <;> exact Fin.ext (by simp [ix2])
    · refine congr (congrArg _ (congrArg x ?_)) (congrArg w ?_)
      · funext a; fin_cases a <;> exact Fin.ext (by simp [Rect.unit, Rect.emb, ix2])
      · funext a; fin_cases a <;> exact Fin.ext (by simp [Rect.unit, Rect.emb, ix2])
  have eg : ∀ e : Fin 128, View.ld g (Rect.unit (s := S1x128) ![0, 0] S1x128.size h2) (ix2 0 e) = g (ix2 0 e) := fun e => congrArg g (by
    funext a; fin_cases a <;> exact Fin.ext (by simp [Rect.unit, Rect.emb, ix2]))
  have et : ∀ z : Vec Ideal S1024x128 .f32, View.ld z (Rect.unit (s := S1024x128) ![o, 0] S256x128.size h3) (ix2 j d) = z (ix2 ⟨o + j.val, by omega⟩ d) := fun z => congrArg z (by
    funext a; fin_cases a <;> exact Fin.ext (by simp [Rect.unit, Rect.emb, ix2]))
  have en : ∀ e : Fin 128, normed (extractStridedSlice S256x128 ![0, 128 * h.val] (k0_pay2 (F := Ideal) (View.ld x (Rect.unit (s := S1024x2048) ![o, 0] S256x2048.size h0)) (View.ld w (Rect.unit (s := S2048x512) ![0, 0] S2048x512.size h1))) hs)
        (View.ld g (Rect.unit (s := S1x128) ![0, 0] S1x128.size h2)) (ix2 j e)
      = RopMath.nrm (fun e => ∑ k : Fin 2048, @HMul.hMul EReal EReal EReal _ (x (ix2 ⟨o + j.val, by omega⟩ k)) (w (ix2 k ⟨128 * h.val + e.val, by omega⟩))) (fun e => g (ix2 0 e)) e :=
    fun e => (normed_at _ _ j e).trans (congr (congr (congrArg RopMath.nrm (funext ev)) (funext eg)) rfl)
  refine (pay1_at _ _ _ j d).trans ?_
  exact congr (congrArg _ (congr (congrArg _ (en d)) (et cs))) (congr (congrArg _ (en (RopMath.mate d))) (et sn))

/-- What the body leaves in the result's block. -/
theorem out_at (x : Vec Ideal S1024x2048 .bf16) (w : Vec Ideal S2048x512 .bf16) (g : Vec Ideal S1x128 .f32) (cs : Vec Ideal S1024x128 .f32) (sn : Vec Ideal S1024x128 .f32) (y : S1024x512.Idx) :
    out0_5 (F := Ideal) x w g cs sn y
      = tile x w g cs sn (y 0 : Fin 1024) ⟨(y 1).val / 128, by have : (y 1).val < 512 := (y 1).isLt; omega⟩ ⟨(y 1).val % 128, Nat.mod_lt _ (by norm_num)⟩ := by
  unfold out0_5
  refine View.canon_apply_of_pieces (Val := Elt Ideal) (fun y : S1024x512.Idx => tile x w g cs sn (y 0 : Fin 1024) ⟨(y 1).val / 128, by have : (y 1).val < 512 := (y 1).isLt; omega⟩ ⟨(y 1).val % 128, Nat.mod_lt _ (by norm_num)⟩) _ ?_ y (cover0_5 _ _ _ _ _ _ _ _ _ _ _ _ _ _ _ _ y)
  intro p hp z
  have ez : ∀ z : S256x128.Idx, z = ix2 (z 0 : Fin 256) (z 1 : Fin 128) := fun z => by funext a; fin_cases a <;> rfl
  have hz : ∀ z : S256x128.Idx, (z 1).val < 128 := fun z => (z 1).isLt
  simp only [List.mem_cons, List.mem_nil_iff, or_false] at hp
  rcases hp with rfl | rfl | rfl | rfl | rfl | rfl | rfl | rfl | rfl | rfl | rfl | rfl | rfl | rfl | rfl | rfl
  · refine (congrArg _ (ez z)).trans ((tile_of x w g cs sn 768 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))

end Cert.RopIdeal.Body
-- ==== Proof.RopRefValue.lean ====
/-
  The normed and rotated projection's reference: what its result holds, read index by index.
-/
module

public import proofs.«01_k».proof.Proof.RopTile
public import proofs.«01_k».proof.Proof.Gen.RopRefIdeal.Run
public import Idealize.ShloMosaic.Lib.Pointwise
public import Idealize.ShloMosaic.Lib.Claim

@[expose] public section

set_option maxRecDepth 16384

noncomputable section

namespace RopMath

open Idealize.ShloMosaic

/-- Dividing by the number of columns is multiplying by its inverse, exact as a word. -/
theorem mean_eq (x : EReal) : Ideal.div x (Ideal.ofBits .f32 1124073472#32) = x * Ideal.ofBits .f32 1006632960#32 := by
  have e : Ideal.ofBits .f32 1124073472#32 = ((128 : ℝ) : EReal) := by
    show Ideal.ieee 8 23 (1124073472#32) = ((128 : ℝ) : EReal)
    unfold Ideal.ieee
    dsimp only
    rw [if_neg (by decide), if_neg (by decide)]
    have h1 : (BitVec.extractLsb' (8 + 23) 1 1124073472#32 == 1#1) = false := by decide
    have h2 : (BitVec.extractLsb' 23 8 1124073472#32).toNat = 134 := by decide
    have h3 : (BitVec.extractLsb' 0 23 1124073472#32).toNat = 0 := by decide
    rw [h1, h2, h3]
    refine congrArg _ ?_
    norm_num
  have e' : Ideal.ofBits .f32 1006632960#32 = (((128 : ℝ)⁻¹ : ℝ) : EReal) := by
    show Ideal.ieee 8 23 (1006632960#32) = (((128 : ℝ)⁻¹ : ℝ) : EReal)
    unfold Ideal.ieee
    dsimp only
    rw [if_neg (by decide), if_neg (by decide)]
    have h1 : (BitVec.extractLsb' (8 + 23) 1 1006632960#32 == 1#1) = false := by decide
    have h2 : (BitVec.extractLsb' 23 8 1006632960#32).toNat = 120 := by decide
    have h3 : (BitVec.extractLsb' 0 23 1006632960#32).toNat = 0 := by decide
    rw [h1, h2, h3]
    refine congrArg _ ?_
    norm_num
  have h0 : (128 : ℝ) ≠ 0 := by norm_num
  rw [e, e']
  unfold Ideal.div
  rw [if_neg (by exact_mod_cast h0), ← EReal.coe_inv]

end RopMath

namespace Cert.RopRefIdeal.Body

open Cert.RopRefIdeal Cert.RopRefIdeal.Gen Idealize.ShloMosaic Idealize.ShloMosaic.TcCoe Idealize.SL.Sem

/-- A row's frequencies under its position. -/
def turn (p : FVec Ideal S8192 .f32) : FVec Ideal S8192x32 .f32 :=
  mulf (broadcastInDim S8192x32 ![0, 1] bcast_S8192x1_S8192x32_0_1 (broadcastInDim S8192x1 ![0] bcast_S8192_S8192x1_0 p)) (broadcastInDim S8192x32 ![0, 1] bcast_S1x32_S8192x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The angles: the token's row over the first half of a head, its column over the second. -/
def ang : FVec Ideal S8192x128 .f32 :=
  concatenate S8192x128 1 [⟨S8192x32, turn (shapeCast _ (broadcastInDim S128x64 ![0] bcast_S128_S128x64_0 (sitofp .f32 (iotaInDim S128 32 0))) shapeCasts_S128x64_S8192)⟩,
      ⟨S8192x32, turn (shapeCast _ (broadcastInDim S128x64 ![0] bcast_S128_S128x64_0 (sitofp .f32 (iotaInDim S128 32 0))) shapeCasts_S128x64_S8192)⟩,
      ⟨S8192x32, turn (shapeCast _ (broadcastInDim S128x64 ![0, 1] bcast_S1x64_S128x64_0_1 (shapeCast _ (sitofp .f32 (iotaInDim S64 32 0)) shapeCasts_S64_S1x64)) shapeCasts_S128x64_S8192)⟩,
      ⟨S8192x32, turn (shapeCast _ (broadcastInDim S128x64 ![0, 1] bcast_S1x64_S128x64_0_1 (shapeCast _ (sitofp .f32 (iotaInDim S64 32 0)) shapeCasts_S64_S1x64)) shapeCasts_S128x64_S8192)⟩] concatenates_S8192x32_S8192x32_S8192x32_S8192x32_S8192x128_d1

/-- The product by heads. -/
def prod (a0 : FVec Ideal S8192x2048 .bf16) (a1 : FVec Ideal S2048x2048 .f32) : FVec Ideal S8192x16x128 .f32 :=
  shapeCast _ (Host.dotGeneral dot_S8192x2048_S2048x2048_S8192x2048_1_0_0_1_n_n none (extf .f32 a0 bitsLt_bf16_f32) a1) shapeCasts_S8192x2048_S8192x16x128

/-- The heads normed. -/
def normed (p : FVec Ideal S8192x16x128 .f32) (a2 : FVec Ideal S128 .f32) : FVec Ideal S8192x16x128 .f32 :=
  mulf (mulf p (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf p p) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 a2))

/-- The heads' mates, the lower halves' negated. -/
def turned (u : FVec Ideal S8192x16x128 .f32) : FVec Ideal S8192x16x128 .f32 :=
  concatenate S8192x16x128 2 [⟨S8192x16x32, Host.negf (extractStridedSlice S8192x16x32 ![0, 0, 32] (extractStridedSlice S8192x16x64 ![0, 0, 0] u slices_S8192x16x128_S8192x16x64_0_0_0) slices_S8192x16x64_S8192x16x32_0_0_32)⟩,
      ⟨S8192x16x32, extractStridedSlice S8192x16x32 ![0, 0, 0] (extractStridedSlice S8192x16x64 ![0, 0, 0] u slices_S8192x16x128_S8192x16x64_0_0_0) slices_S8192x16x64_S8192x16x32_0_0_0⟩,
      ⟨S8192x16x32, Host.negf (extractStridedSlice S8192x16x32 ![0, 0, 32] (extractStridedSlice S8192x16x64 ![0, 0, 64] u slices_S8192x16x128_S8192x16x64_0_0_64) slices_S8192x16x64_S8192x16x32_0_0_32)⟩,
      ⟨S8192x16x32, extractStridedSlice S8192x16x32 ![0, 0, 0] (extractStridedSlice S8192x16x64 ![0, 0, 64] u slices_S8192x16x128_S8192x16x64_0_0_64) slices_S8192x16x64_S8192x16x32_0_0_0⟩] concatenates_S8192x16x32_S8192x16x32_S8192x16x32_S8192x16x32_S8192x16x128_d2

/-- The result of normed heads. -/
def roped (u : FVec Ideal S8192x16x128 .f32) (r : FVec Ideal S8192x16x128 .f32) (a : FVec Ideal S8192x128 .f32) : FVec Ideal S8192x2048 .bf16 :=
  truncf .bf16 (shapeCast _ (addf (mulf u (broadcastInDim S8192x16x128 ![0, 1, 2] bcast_S8192x1x128_S8192x16x128_0_1_2 (broadcastInDim S8192x1x128 ![0, 2] bcast_S8192x128_S8192x1x128_0_2 (Host.cos a))))
      (mulf r (broadcastInDim S8192x16x128 ![0, 1, 2] bcast_S8192x1x128_S8192x16x128_0_1_2 (broadcastInDim S8192x1x128 ![0, 2] bcast_S8192x128_S8192x1x128_0_2 (Host.sin a))))) shapeCasts_S8192x16x128_S8192x2048) bitsLt_bf16_f32

/-- The product at an index. -/
theorem prod_at (a0 : FVec Ideal S8192x2048 .bf16) (a1 : FVec Ideal S2048x2048 .f32) (n : Fin 8192) (h : Fin 16) (d : Fin 128) :
    prod a0 a1 (ix3 n h d) = ∑ k : Fin 2048, @HMul.hMul EReal EReal EReal _ (a0 (ix2 n k)) (a1 (ix2 k ⟨128 * h.val + d.val, by omega⟩)) := by
  pointwise [prod]
  refine Finset.sum_congr rfl fun k _ => congr (congrArg _ ?_) (congrArg a1 (congrArg (ix2 k) (Fin.ext (by dsimp only; omega))))
  rfl

/-- A normed head at an index. -/
theorem normed_at (p : FVec Ideal S8192x16x128 .f32) (a2 : FVec Ideal S128 .f32) (n : Fin 8192) (h : Fin 16) (d : Fin 128) :
    normed p a2 (ix3 n h d) = RopMath.nrm (fun e => p (ix3 n h e)) (fun e => a2 (ix1 e)) d := by
  unfold RopMath.nrm
  rw [← RopMath.mean_eq]
  pointwise [normed]

/-- The mate of a lower half's coordinate. -/
theorem mate_low (d : Fin 128) (hd : d.val % 64 < 32) : (RopMath.mate d).val = d.val + 32 := by
  unfold RopMath.mate
  rw [if_pos hd]
  show (d.val + 32) % 128 = d.val + 32
  omega

/-- The mate of an upper half's coordinate. -/
theorem mate_high (d : Fin 128) (hd : ¬ d.val % 64 < 32) : (RopMath.mate d).val = d.val - 32 := by
  unfold RopMath.mate
  rw [if_neg hd]
  show (d.val + 96) % 128 = d.val - 32
  omega

/-- The mates at a coordinate of a lower half. -/
theorem turned_low (u : FVec Ideal S8192x16x128 .f32) (n : Fin 8192) (h : Fin 16) (d : Fin 128) (hd : d.val % 64 < 32) :
    turned u (ix3 n h d) = -(u (ix3 n h (RopMath.mate d)) : EReal) := by
  have hm := mate_low d hd
  have hx : ∀ e : Fin 128, e.val = d.val + 32 → -(u (ix3 n h e) : EReal) = -(u (ix3 n h (RopMath.mate d)) : EReal) := fun e he =>
    congrArg (fun e : Fin 128 => -(u (ix3 n h e) : EReal)) (Fin.ext (he.trans hm.symm))
  pointwise [turned]
  by_cases h1 : d.val < 32
  · exact (dif_pos h1).trans (hx _ (by dsimp only; omega))
  · refine (dif_neg h1).trans ((dif_neg (by omega)).trans ((dif_pos (by omega)).trans (hx _ (by dsimp only; omega))))

/-- The mates at a coordinate of an upper half. -/
theorem turned_high (u : FVec Ideal S8192x16x128 .f32) (n : Fin 8192) (h : Fin 16) (d : Fin 128) (hd : ¬ d.val % 64 < 32) :
    turned u (ix3 n h d) = u (ix3 n h (RopMath.mate d)) := by
  have hm := mate_high d hd
  have hx : ∀ e : Fin 128, e.val = d.val - 32 → u (ix3 n h e) = u (ix3 n h (RopMath.mate d)) := fun e he =>
    congrArg (fun e : Fin 128 => u (ix3 n h e)) (Fin.ext (he.trans hm.symm))
  pointwise [turned]
  by_cases h1 : d.val - 32 < 32
  · exact (dif_neg (by omega)).trans ((dif_pos h1).trans (hx _ rfl))
  · refine (dif_neg (by omega)).trans ((dif_neg h1).trans ((dif_neg (by omega)).trans (hx _ (by dsimp only; omega))))

/-- The result at an index. -/
theorem roped_at (u r : FVec Ideal S8192x16x128 .f32) (a : FVec Ideal S8192x128 .f32) (n : Fin 8192) (h : Fin 16) (d : Fin 128) :
    roped u r a (ix2 n ⟨128 * h.val + d.val, by omega⟩) = @HAdd.hAdd EReal EReal EReal _ (@HMul.hMul EReal EReal EReal _ (u (ix3 n h d)) (Ideal.cos (a (ix2 n d)))) (@HMul.hMul EReal EReal EReal _ (r (ix3 n h d)) (Ideal.sin (a (ix2 n d)))) := by
  pointwise [roped]

set_option maxHeartbeats 2000000 in
/-- The reference's result by its parts. -/
theorem res_eq (m : (ℓ : Loc nD τ sig) → Buf (Elt Ideal) ℓ) (c : Dev nD) :
    Value.res_main_v64 (F := Ideal) m c
      = roped (normed (prod (m ((c.tc : Thread nD τ).loc main_arg0)) (m ((c.tc : Thread nD τ).loc main_arg1))) (m ((c.tc : Thread nD τ).loc main_arg2)))
          (turned (normed (prod (m ((c.tc : Thread nD τ).loc main_arg0)) (m ((c.tc : Thread nD τ).loc main_arg1))) (m ((c.tc : Thread nD τ).loc main_arg2)))) ang := rfl

end Cert.RopRefIdeal.Body
-- ==== Proof.RopValue.lean ====
/-
  The normed and rotated projection's kernel: what the prepared operands hold, what each window stages of them at a grid
  point, and so what the result's array holds after the run.
-/
module

public import proofs.«01_k».proof.Proof.RopRefValue
public import proofs.«01_k».proof.Proof.Gen.RopIdeal.Value
public import Idealize.ShloMosaic.Lib.Pipeline.ValueKit
public import Idealize.ShloMosaic.Lib.StableHlo.ReadAt

@[expose] public section

set_option maxRecDepth 16384

noncomputable section

namespace Cert.RopIdeal.Body

open Cert.RopIdeal Cert.RopIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The prepared weights. -/
theorem w_at (k : Fin 2048) (d : Fin 2048) : V m c main_v40 (ix2 k d) = m ((c : Thread nD τ).loc main_arg1) (ix2 k d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.cons_append, List.nil_append]
  after_reads_at

/-- The prepared weights of the norm. -/
theorem g_at (d : Fin 128) : V m c main_v41 (ix2 0 d) = m ((c : Thread nD τ).loc main_arg2) (ix1 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.cons_append, List.nil_append]
  after_reads_at

/-- Four blocks side by side. -/
def side (a b c d : FVec Ideal S8192x32 .f32) : FVec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

/-- The angles' operation sets its four operands side by side. -/
theorem side_op (hx hy) :
    StableHlo.nary (τ := τ) ![main_v22, main_v22, main_v27, main_v27] main_v28 (fun u => (concatenate S8192x128 1 [⟨S8192x32, (u 0 : (⟨S8192x32, .f32⟩ : BufTy).Contents (Elt Ideal))⟩, ⟨S8192x32, (u 1 : (⟨S8192x32, .f32⟩ : BufTy).Contents (Elt Ideal))⟩, ⟨S8192x32, (u 2 : (⟨S8192x32, .f32⟩ : BufTy).Contents (Elt Ideal))⟩, ⟨S8192x32, (u 3 : (⟨S8192x32, .f32⟩ : BufTy).Contents (Elt Ideal))⟩] concatenates_S8192x32_S8192x32_S8192x32_S8192x32_S8192x128_d1 : (⟨S8192x128, .f32⟩ : BufTy).Contents (Elt Ideal))) hx hy
      = StableHlo.nary (τ := τ) ![main_v22, main_v22, main_v27, main_v27] main_v28 (fun u => side (u 0) (u 1) (u 2) (u 3)) hx hy := rfl

/-- The prepared cosines. -/
theorem cos_eq : V m c main_v34 = Host.cos Cert.RopRefIdeal.Body.ang := by
  show StableHlo.after (List.flatten [hostOps0, hostOps0_1, hostOps0_2, hostOps0_3, hostOps0_4]) (fun b => m (c, b)) (Proc.tc.devRef _) = _
  simp only [hostOps0, hostOps0_1, hostOps0_2, hostOps0_3, hostOps0_4, List.flatten_cons, List.flatten_nil, List.cons_append, List.nil_append, side_op]
  after_reads_simp
  dsimp only [Matrix.cons_val, Fin.cons]
  try after_reads_simp
  rfl

/-- The period of a head's halves. -/
def period : IVec S_ 32 :=
  select (cmpi CmpIPredicate.eq (id (constantI S_ 32 64#32)) (constantI S_ 32 0#32)) (constantI S_ 32 1#32) (id (constantI S_ 32 64#32))

/-- A coordinate's remainder by the period. -/
def rest : IVec S128 32 := Host.remsi (iotaInDim S128 32 0) (broadcastInDim S128 ![] bcast_S_S128 period)

/-- The coordinates of the lower halves. -/
def lows : IVec S128 1 :=
  cmpi CmpIPredicate.slt
    (select (andi (cmpi CmpIPredicate.ne (cmpi CmpIPredicate.slt rest (broadcastInDim S128 ![] bcast_S_S128 (constantI S_ 32 0#32))) (broadcastInDim S128 ![] bcast_S_S128 (cmpi CmpIPredicate.slt period (constantI S_ 32 0#32))))
        (cmpi CmpIPredicate.ne rest (broadcastInDim S128 ![] bcast_S_S128 (constantI S_ 32 0#32))))
      (addi rest (broadcastInDim S128 ![] bcast_S_S128 period)) rest)
    (broadcastInDim S128 ![] bcast_S_S128 (constantI S_ 32 32#32))

/-- The signs: minus one over the lower halves, one over the upper. -/
def sign : FVec Ideal S128 .f32 :=
  select lows (broadcastInDim S128 ![] bcast_S_S128 (constant S_ .f32 3212836864#32)) (broadcastInDim S128 ![] bcast_S_S128 (constant S_ .f32 1065353216#32))

/-- The lower halves' coordinates, one by one. -/
theorem lows_at : ∀ d : Fin 128, lows (ix1 d) = if d.val % 64 < 32 then 1#1 else 0#1 := by
  decide +kernel

/-- The word of minus one. -/
theorem neg_one : Ideal.ofBits .f32 3212836864#32 = (-1 : EReal) := by
  show Ideal.ieee 8 23 (3212836864#32) = (-1 : EReal)
  unfold Ideal.ieee
  dsimp only
  rw [if_neg (by decide), if_neg (by decide)]
  have h1 : (BitVec.extractLsb' (8 + 23) 1 3212836864#32 == 1#1) = true := by decide
  have h2 : (BitVec.extractLsb' 23 8 3212836864#32).toNat = 127 := by decide
  have h3 : (BitVec.extractLsb' 0 23 3212836864#32).toNat = 0 := by decide
  rw [h1, h2, h3]
  norm_num

/-- The word of one. -/
theorem pos_one : Ideal.ofBits .f32 1065353216#32 = (1 : EReal) := by
  show Ideal.ieee 8 23 (1065353216#32) = (1 : EReal)
  unfold Ideal.ieee
  dsimp only
  rw [if_neg (by decide), if_neg (by decide)]
  have h1 : (BitVec.extractLsb' (8 + 23) 1 1065353216#32 == 1#1) = false := by decide
  have h2 : (BitVec.extractLsb' 23 8 1065353216#32).toNat = 127 := by decide
  have h3 : (BitVec.extractLsb' 0 23 1065353216#32).toNat = 0 := by decide
  rw [h1, h2, h3]
  norm_num

/-- A coordinate's sign. -/
theorem sign_at (d : Fin 128) : sign (ix1 d) = if d.val % 64 < 32 then (-1 : EReal) else 1 := by
  have e : sign (ix1 d) = Scalar.select (lows (ix1 d)) (Ideal.ofBits .f32 3212836864#32) (Ideal.ofBits .f32 1065353216#32) := rfl
  rw [e, lows_at d]
  by_cases h : d.val % 64 < 32
  · rw [if_pos h, if_pos h]; exact neg_one
  · rw [if_neg h, if_neg h]; exact pos_one

/-- The prepared sines. -/
theorem sin_eq : V m c main_v39 = mulf (Host.sin Cert.RopRefIdeal.Body.ang) (broadcastInDim S8192x128 ![0, 1] bcast_S1x128_S8192x128_0_1 (broadcastInDim S1x128 ![1] bcast_S128_S1x128_1 sign)) := by
  show StableHlo.after (List.flatten [hostOps0, hostOps0_1, hostOps0_2, hostOps0_3, hostOps0_4]) (fun b => m (c, b)) (Proc.tc.devRef _) = _
  simp only [hostOps0, hostOps0_1, hostOps0_2, hostOps0_3, hostOps0_4, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- A token's cosine at a coordinate. -/
theorem cos_at (n : Fin 8192) (d : Fin 128) : V m c main_v34 (ix2 n d) = Ideal.cos (Cert.RopRefIdeal.Body.ang (ix2 n d)) :=
  congrFun (cos_eq m c) (ix2 n d)

/-- A token's signed sine at a coordinate. -/
theorem sin_at (n : Fin 8192) (d : Fin 128) :
    V m c main_v39 (ix2 n d) = @HMul.hMul EReal EReal EReal _ (Ideal.sin (Cert.RopRefIdeal.Body.ang (ix2 n d))) (if d.val % 64 < 32 then (-1 : EReal) else 1) := by
  refine (congrFun (sin_eq m c) (ix2 n d)).trans ?_
  refine Eq.trans ?_ (congrArg _ (sign_at d))
  pointwise

/-- The grid's indices of the windows: a block of tokens and a block of columns. -/
theorem idx : ∀ t : Fin cfg0.N, win0_0.index t = ![(grid0.coords t 0).val, 0] ∧ win0_1.index t = ![0, (grid0.coords t 1).val]
    ∧ win0_2.index t = ![0, 0] ∧ win0_3.index t = ![(grid0.coords t 0).val, 0] ∧ win0_4.index t = ![(grid0.coords t 0).val, 0]
    ∧ win0_5.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- A grid point's head `h`. -/
def head (t : Fin cfg0.N) (h : Fin 4) : Fin 16 :=
  ⟨4 * (grid0.coords t 1).val + h.val, by have : (grid0.coords t 1).val < 4 := (grid0.coords t 1).isLt; omega⟩

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The staged weights of the norm. -/
theorem blk_g (t : Fin cfg0.N) (d : Fin 128) : iblk m c 2 t (ix2 0 d) = m ((c : Thread nD τ).loc main_arg2) (ix1 d) := by
  refine Eq.trans ?_ (g_at m c d)
  blk_ext [iblk, idx t]

/-- The staged cosines. -/
theorem blk_cs (t : Fin cfg0.N) (i : Fin 1024) (d : Fin 128) : iblk m c 3 t (ix2 i d) = Ideal.cos (Cert.RopRefIdeal.Body.ang (ix2 (row t i) d)) := by
  refine Eq.trans ?_ (cos_at m c (row t i) d)
  blk_ext [iblk, idx t, row]

/-- The staged sines. -/
theorem blk_sn (t : Fin cfg0.N) (i : Fin 1024) (d : Fin 128) :
    iblk m c 4 t (ix2 i d) = @HMul.hMul EReal EReal EReal _ (Ideal.sin (Cert.RopRefIdeal.Body.ang (ix2 (row t i) d))) (if d.val % 64 < 32 then (-1 : EReal) else 1) := by
  refine Eq.trans ?_ (sin_at m c (row t i) d)
  blk_ext [iblk, idx t, row]

/-- A head of the product of tokens and weights. -/
def prod (n : Fin 8192) (h : Fin 16) (e : Fin 128) : EReal :=
  ∑ k : Fin 2048, @HMul.hMul EReal EReal EReal _ (m ((c : Thread nD τ).loc main_arg0) (ix2 n k)) (m ((c : Thread nD τ).loc main_arg1) (ix2 k ⟨128 * h.val + e.val, by omega⟩))

/-- The head normed and rotated. -/
def val (n : Fin 8192) (h : Fin 16) (d : Fin 128) : EReal :=
  RopMath.nrm (prod m c n h) (fun e => m ((c : Thread nD τ).loc main_arg2) (ix1 e)) d * Ideal.cos (Cert.RopRefIdeal.Body.ang (ix2 n d))
    + RopMath.nrm (prod m c n h) (fun e => m ((c : Thread nD τ).loc main_arg2) (ix1 e)) (RopMath.mate d) * (@HMul.hMul EReal EReal EReal _ (Ideal.sin (Cert.RopRefIdeal.Body.ang (ix2 n d))) (if d.val % 64 < 32 then (-1 : EReal) else 1))

/-- The result's array by coordinates. -/
def result : Vec Ideal S8192x2048 .bf16 := fun i =>
  val m c (i 0 : Fin 8192) ⟨(i 1).val / 128, by have : (i 1).val < 2048 := (i 1).isLt; omega⟩ ⟨(i 1).val % 128, Nat.mod_lt _ (by norm_num)⟩

/-- A block's column of a head. -/
theorem local_lt (h : Fin 4) (e : Fin 128) : 128 * h.val + e.val < 512 := by omega

/-- The column by blocks and by heads. -/
theorem local_eq (b h e : Nat) : 512 * b + (128 * h + e) = 128 * (4 * b + h) + e := by omega

/-- A tile from its product, weights, cosine and sine. -/
theorem tile_of_parts (x : Vec Ideal S1024x2048 .bf16) (w : Vec Ideal S2048x512 .bf16) (g : Vec Ideal S1x128 .f32) (cs : Vec Ideal S1024x128 .f32) (sn : Vec Ideal S1024x128 .f32)
    (i : Fin 1024) (h : Fin 4) (d : Fin 128) (v u : Fin 128 → EReal) (a b : EReal)
    (hv : (fun e : Fin 128 => ∑ k : Fin 2048, @HMul.hMul EReal EReal EReal _ (x (ix2 i k)) (w (ix2 k ⟨128 * h.val + e.val, local_lt h e⟩))) = v)
    (hu : (fun e : Fin 128 => g (ix2 0 e)) = u) (ha : cs (ix2 i d) = a) (hb : sn (ix2 i d) = b) :
    tile x w g cs sn i h d = RopMath.nrm v u d * a + RopMath.nrm v u (RopMath.mate d) * b := by
  subst hv hu ha hb
  rfl

/-- A grid point's tile of the result. -/
theorem tile_at (t : Fin cfg0.N) (i : Fin 1024) (h : Fin 4) (d : Fin 128) :
    tile (iblk m c 0 t) (iblk m c 1 t) (iblk m c 2 t) (iblk m c 3 t) (iblk m c 4 t) i h d = val m c (row t i) (head t h) d := by
  have e1 : (fun e : Fin 128 => ∑ k : Fin 2048, @HMul.hMul EReal EReal EReal _ (iblk m c 0 t (ix2 i k)) (iblk m c 1 t (ix2 k ⟨128 * h.val + e.val, local_lt h e⟩))) = prod m c (row t i) (head t h) := by
    funext e
    refine Finset.sum_congr rfl fun k _ => congr (congrArg _ (blk_x m c t i k)) ((blk_w m c t k _).trans (congrArg (fun z : Fin 2048 => m ((c : Thread nD τ).loc main_arg1) (ix2 k z)) (Fin.ext ?_)))
    exact local_eq _ _ _
  have e2 : (fun e : Fin 128 => iblk m c 2 t (ix2 0 e)) = fun e => m ((c : Thread nD τ).loc main_arg2) (ix1 e) := funext fun e => blk_g m c t e
  exact tile_of_parts _ _ _ _ _ i h d _ _ _ _ e1 e2 (blk_cs m c t i d) (blk_sn m c t i d)

/-- The result's array after the run. -/
theorem arr : (dats m 0 c).arrAt 5 cfg0.N = result m c := by
  refine (dats m 0 c).arrAt_eq_of_covers 5 _ (by decide +kernel) (fun t hf y => ?_)
  refine (congrFun (Value.flushed5 m c t) y).trans ?_
  have hy0 : (y 0).val < 1024 := (y 0).isLt
  have hy1 : (y 1).val < 512 := (y 1).isLt
  have ez : ((cfg0.win 5).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (iblk m c 3 t) (iblk m c 4 t) (ix2 ⟨(y 0).val, hy0⟩ ⟨(y 1).val, hy1⟩)).trans ?_)
  · exact congrArg _ (by funext a; fin_cases a <;> rfl)
  · refine (tile_at m c t ⟨(y 0).val, hy0⟩ ⟨(y 1).val / 128, by omega⟩ ⟨(y 1).val % 128, Nat.mod_lt _ (by norm_num)⟩).trans ?_
    refine congr (congrArg (val m c (row t ⟨(y 0).val, hy0⟩)) (Fin.ext ?_)) (Fin.ext ?_)
    · show 4 * (grid0.coords t 1).val + (y 1).val / 128 = (512 * (grid0.coords t 1).val + (y 1).val) / 128
      omega
    · show (y 1).val % 128 = (512 * (grid0.coords t 1).val + (y 1).val) % 128
      omega

end Cert.RopIdeal.Body
-- ==== Proof.RopClaims.lean ====
/-
  The normed and rotated projection's claims: the kernel's array is the reference's.
-/
module

public import proofs.«01_k».proof.Defs
public import proofs.«01_k».proof.Proof.RopValue
public import proofs.«01_k».proof.Proof.Gen.Rop.Frame
public import Idealize.ShloMosaic.Adequacy
public import Idealize.ShloMosaic.Init

@[expose] public section

set_option maxRecDepth 16384

noncomputable section

namespace Cert.Proof.RopClaims

open Idealize.ShloMosaic Idealize.ShloMosaic.TcCoe Idealize.SL.Sem

/-- The reference's rotation at an index, the sign moved to the sine. -/
theorem roped_eq (u : FVec Ideal Cert.RopRefIdeal.S8192x16x128 .f32) (n : Fin 8192) (h : Fin 16) (d : Fin 128) (s : EReal) :
    @HMul.hMul EReal EReal EReal _ (Cert.RopRefIdeal.Body.turned u (ix3 n h d)) s
      = @HMul.hMul EReal EReal EReal _ (u (ix3 n h (RopMath.mate d))) (s * (if d.val % 64 < 32 then (-1 : EReal) else 1)) := by
  by_cases hd : d.val % 64 < 32
  · rw [if_pos hd, Cert.RopRefIdeal.Body.turned_low u n h d hd, mul_neg, mul_one]
    exact (EReal.neg_mul _ _).trans (mul_neg _ _).symm
  · rw [if_neg hd, Cert.RopRefIdeal.Body.turned_high u n h d hd, mul_one]

/-- The reference ends with its arguments and every counter as they were. -/
theorem frame_ref : Cert.quiescent_RopRefIdeal := fun m ρ _ =>
  (θ_run Cert.RopRefIdeal.defs _ _).mono (fun r h => ⟨fun c => (h c).2, sem_eq_zero_of_no_sems (by decide) r.2⟩)
    (Cert.RopRefIdeal.Value.run (F := Ideal) m ρ)

/-- The reference's result at an index. -/
theorem ref_at (a0 : FVec Ideal Cert.RopRefIdeal.S8192x2048 .bf16) (a1 : FVec Ideal Cert.RopRefIdeal.S2048x2048 .f32) (a2 : FVec Ideal Cert.RopRefIdeal.S128 .f32)
    (n : Fin 8192) (h : Fin 16) (d : Fin 128) :
    Cert.RopRefIdeal.Body.roped (Cert.RopRefIdeal.Body.normed (Cert.RopRefIdeal.Body.prod a0 a1) a2) (Cert.RopRefIdeal.Body.turned (Cert.RopRefIdeal.Body.normed (Cert.RopRefIdeal.Body.prod a0 a1) a2))
        Cert.RopRefIdeal.Body.ang (ix2 n ⟨128 * h.val + d.val, by omega⟩)
      = RopMath.nrm (fun e => ∑ k : Fin 2048, @HMul.hMul EReal EReal EReal _ (a0 (ix2 n k)) (a1 (ix2 k ⟨128 * h.val + e.val, by omega⟩))) (fun e => a2 (ix1 e)) d * Ideal.cos (Cert.RopRefIdeal.Body.ang (ix2 n d))
        + RopMath.nrm (fun e => ∑ k : Fin 2048, @HMul.hMul EReal EReal EReal _ (a0 (ix2 n k)) (a1 (ix2 k ⟨128 * h.val + e.val, by omega⟩))) (fun e => a2 (ix1 e)) (RopMath.mate d)
          * (Ideal.sin (Cert.RopRefIdeal.Body.ang (ix2 n d)) * (if d.val % 64 < 32 then (-1 : EReal) else 1)) := by
  have ep : (fun e => Cert.RopRefIdeal.Body.prod a0 a1 (ix3 n h e)) = fun e => ∑ k : Fin 2048, @HMul.hMul EReal EReal EReal _ (a0 (ix2 n k)) (a1 (ix2 k ⟨128 * h.val + e.val, by omega⟩)) :=
    funext fun e => Cert.RopRefIdeal.Body.prod_at a0 a1 n h e
  have en : ∀ e : Fin 128, Cert.RopRefIdeal.Body.normed (Cert.RopRefIdeal.Body.prod a0 a1) a2 (ix3 n h e)
      = RopMath.nrm (fun e => ∑ k : Fin 2048, @HMul.hMul EReal EReal EReal _ (a0 (ix2 n k)) (a1 (ix2 k ⟨128 * h.val + e.val, by omega⟩))) (fun e => a2 (ix1 e)) e := fun e =>
    (Cert.RopRefIdeal.Body.normed_at _ a2 n h e).trans (congrArg (fun v => RopMath.nrm v (fun e => a2 (ix1 e)) e) ep)
  refine (Cert.RopRefIdeal.Body.roped_at _ _ _ n h d).trans ?_
  exact congr (congrArg _ (congr (congrArg _ (en d)) rfl)) ((roped_eq _ n h d _).trans (congr (congrArg _ (en (RopMath.mate d))) rfl))

/-- Kernel and reference leave the same array. -/
theorem algebraic : Cert.algebraic_RopIdeal_RopRefIdeal := by
  intro m ρ m' ρ' _ hagree
  refine ⟨fun c => Cert.RopIdeal.Body.result m c,
    (θ_run Cert.RopIdeal.defs _ _).mono (fun r h c => ⟨(h c).1.trans (Cert.RopIdeal.Body.arr m c), (h c).2⟩)
      (Cert.RopIdeal.Value.run_blocks m ρ), ?_⟩
  refine (θ_run Cert.RopRefIdeal.defs _ _).mono (fun r h c => ⟨(h c).1.trans ?_, (h c).2⟩) (Cert.RopRefIdeal.Value.run (F := Ideal) m' ρ')
  obtain ⟨h0, h1, h2⟩ := hagree c
  refine (Cert.RopRefIdeal.Body.res_eq m' c).trans ?_
  rw [h0, h1, h2]
  funext i
  have hi : (i 1).val < 2048 := (i 1).isLt
  have ei : i = ix2 (i 0 : Fin 8192) ⟨128 * ((i 1).val / 128) + (i 1).val % 128, by omega⟩ := by
    funext a
    fin_cases a
    · rfl
    · exact Fin.ext (Nat.div_add_mod _ _).symm
  refine (congrArg _ ei).trans ?_
  exact ref_at _ _ _ (i 0 : Fin 8192) ⟨(i 1).val / 128, by omega⟩ ⟨(i 1).val % 128, Nat.mod_lt _ (by norm_num)⟩

end Cert.Proof.RopClaims
-- ==== Proof.ValClaims.lean ====
/-
  The differential attention's values: the kernel's transposed tiles are the reference's product of the two matrices, laid out by head.
-/
module

public import proofs.«01_k».proof.Defs
public import proofs.«01_k».proof.Proof.Gen.Val.Frame
public import proofs.«01_k».proof.Proof.Gen.ValIdeal.Value
public import proofs.«01_k».proof.Proof.Gen.ValRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.ValIdeal.Body

open Cert.ValIdeal Cert.ValIdeal.Gen Idealize.ShloMosaic Idealize.ShloMosaic.TcCoe Idealize.SL.Sem
open Idealize.ShloMosaic.Pipeline (Dat)

/-- The product's element at a column of the staged weights and a staged token. -/
def tile (w : Vec Ideal S256x2048 .bf16) (x : Vec Ideal S1024x2048 .bf16) (d : Fin 256) (i : Fin 1024) : EReal :=
  ∑ k : Fin 2048, @HMul.hMul EReal EReal EReal _ (x (ix2 i k)) (w (ix2 d k))

/-- The body's product. -/
theorem pay1_at (w : Vec Ideal S256x2048 .bf16) (x : Vec Ideal S1024x2048 .bf16) (d : Fin 256) (i : Fin 1024) :
    k0_pay1 w x (ix2 d i) = ∑ k : Fin 2048, @HMul.hMul EReal EReal EReal _ (w (ix2 d k)) (x (ix2 i k)) := by
  pointwise [k0_pay1]

/-- What the body leaves in the result's block. -/
theorem out_at (w : Vec Ideal S256x2048 .bf16) (x : Vec Ideal S1024x2048 .bf16) (b : Fin 4) (d : Fin 256) (e : Fin 256) :
    out0_2 (F := Ideal) w x (ix4 0 b d e) = tile w x d ⟨256 * b.val + e.val, by omega⟩ := by
  have ew : View.ld w r0_0 = w := View.ld_unit_zero (by funext a; fin_cases a <;> rfl) _ w
  have ex : View.ld x r0_1 = x := View.ld_unit_zero (by funext a; fin_cases a <;> rfl) _ x
  unfold out0_2
  rw [ew, ex]
  refine (Value.canon2_eq w x (ix4 0 b d e)).trans ?_
  refine Eq.trans ?_ ((pay1_at w x d ⟨256 * b.val + e.val, by omega⟩).trans (Finset.sum_congr rfl fun k _ => mul_comm _ _))
  refine congrArg (k0_pay1 (F := Ideal) w x) ?_
  funext a
  fin_cases a
  · rfl
  · exact Fin.ext (show b.val * 256 + e.val = 256 * b.val + e.val by omega)

variable (m : (ℓ : Loc nD τ sig) → Buf (Elt Ideal) ℓ) (c : Dev nD)

/-- The grid's indices of the windows: a block of tokens and a head. -/
theorem idx : ∀ t : Fin cfg0.N, win0_0.index t = ![(grid0.coords t 1).val, 0] ∧ win0_1.index t = ![(grid0.coords t 0).val, 0]
    ∧ win0_2.index t = ![(grid0.coords t 1).val, (grid0.coords t 0).val, 0, 0] := by
  decide +kernel

/-- A grid point's head. -/
def hd (t : Fin cfg0.N) : Fin 8 := ⟨(grid0.coords t 1).val, (grid0.coords t 1).isLt⟩

/-- A grid point's block `b` of tokens. -/
def row (t : Fin cfg0.N) (b : Fin 4) : Fin 32 :=
  ⟨4 * (grid0.coords t 0).val + b.val, by have : (grid0.coords t 0).val < 8 := (grid0.coords t 0).isLt; omega⟩

/-- The prepared weights. -/
theorem w_at (d : Fin 2048) (k : Fin 2048) : V m c main_v1 (ix2 d k) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (b : Fin 4) (e : Fin 256) (k : Fin 2048) :
    iblk m c 1 t (ix2 ⟨256 * b.val + e.val, by omega⟩ k) = m ((c : Thread nD τ).loc main_arg0) (ix2 ⟨256 * (row t b).val + e.val, by omega⟩ k) := by
  refine Eq.trans ?_ (congrFun (V_main_arg0 m c) (ix2 ⟨256 * (row t b).val + e.val, by omega⟩ k))
  blk_ext [iblk, idx t, row]

/-- The staged weights. -/
theorem blk_w (t : Fin cfg0.N) (d : Fin 256) (k : Fin 2048) : iblk m c 0 t (ix2 d k) = m ((c : Thread nD τ).loc main_arg1) (ix2 k ⟨256 * (hd t).val + d.val, by omega⟩) := by
  refine Eq.trans ?_ (w_at m c ⟨256 * (hd t).val + d.val, by omega⟩ k)
  blk_ext [iblk, idx t, hd]

/-- The product of tokens and weights at a head, a block of tokens, a column of the head and a token of the block. -/
def prod (h : Fin 8) (b : Fin 32) (d : Fin 256) (e : Fin 256) : EReal :=
  ∑ k : Fin 2048, @HMul.hMul EReal EReal EReal _ (m ((c : Thread nD τ).loc main_arg0) (ix2 ⟨256 * b.val + e.val, by omega⟩ k)) (m ((c : Thread nD τ).loc main_arg1) (ix2 k ⟨256 * h.val + d.val, by omega⟩))

/-- The result's array by coordinates. -/
def result : Vec Ideal S8x32x256x256 .bf16 := fun i => prod m c (i 0 : Fin 8) (i 1 : Fin 32) (i 2 : Fin 256) (i 3 : Fin 256)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1 := (y 0).isLt
  have hy1 : (y 1).val < 4 := (y 1).isLt
  have hy2 : (y 2).val < 256 := (y 2).isLt
  have hy3 : (y 3).val < 256 := (y 3).isLt
  have ez : ((cfg0.win 2).blk t).view.emb y = ix4 (hd t) (row t ⟨(y 1).val, hy1⟩) ⟨(y 2).val, hy2⟩ ⟨(y 3).val, hy3⟩ := by
    blk_ext [idx t, row, hd]
  refine Eq.trans ?_ (congrArg (result m c) ez.symm)
  refine Eq.trans ?_ ((out_at (iblk m c 0 t) (iblk m c 1 t) ⟨(y 1).val, hy1⟩ ⟨(y 2).val, hy2⟩ ⟨(y 3).val, hy3⟩).trans ?_)
  · refine congrArg (out0_2 (F := Ideal) (iblk m c 0 t) (iblk m c 1 t)) ?_
    funext a
    fin_cases a
    · exact Fin.ext (show (y 0).val = 0 by omega)
    all_goals rfl
  · exact Finset.sum_congr rfl fun k _ => congr (congrArg _ (blk_x m c t ⟨(y 1).val, hy1⟩ ⟨(y 3).val, hy3⟩ k)) (blk_w m c t ⟨(y 2).val, hy2⟩ k)

end Cert.ValIdeal.Body

namespace Cert.ValRefIdeal.Body

open Cert.ValRefIdeal Cert.ValRefIdeal.Gen Idealize.ShloMosaic Idealize.ShloMosaic.TcCoe

/-- The reference's result at an index. -/
theorem res_at (a0 : FVec Ideal S8192x2048 .bf16) (a1 : FVec Ideal S2048x2048 .f32) (h : Fin 8) (b : Fin 32) (d : Fin 256) (e : Fin 256) :
    truncf .bf16 (transpose S8x32x256x256 [2, 0, 3, 1] (shapeCast _ (Host.dotGeneral dot_S8192x2048_S2048x2048_S8192x2048_1_0_0_1_n_n none (extf .f32 a0 bitsLt_bf16_f32) a1) shapeCasts_S8192x2048_S32x256x8x256) transposes_S32x256x8x256_S8x32x256x256_2_0_3_1) bitsLt_bf16_f32 (ix4 h b d e)
      = ∑ k : Fin 2048, @HMul.hMul EReal EReal EReal _ (a0 (ix2 ⟨256 * b.val + e.val, by omega⟩ k)) (a1 (ix2 k ⟨256 * h.val + d.val, by omega⟩)) := by
  pointwise
  exact Finset.sum_congr rfl fun k _ => congr (congrArg _ (congrArg a0 (congrFun (congrArg ix2 (Fin.ext (by dsimp only; omega))) k))) (congrArg a1 (congrArg (ix2 k) (Fin.ext (by dsimp only; omega))))

end Cert.ValRefIdeal.Body

namespace Cert.Proof.ValClaims

open Idealize.ShloMosaic Idealize.ShloMosaic.TcCoe Idealize.SL.Sem

/-- The reference ends with its arguments and every counter as they were. -/
theorem frame_ref : Cert.quiescent_ValRefIdeal := fun m ρ _ =>
  (θ_run Cert.ValRefIdeal.defs _ _).mono (fun r h => ⟨fun c => (h c).2, sem_eq_zero_of_no_sems (by decide) r.2⟩)
    (Cert.ValRefIdeal.Value.run (F := Ideal) m ρ)

/-- Kernel and reference leave the same array. -/
theorem algebraic : Cert.algebraic_ValIdeal_ValRefIdeal := by
  intro m ρ m' ρ' _ hagree
  refine ⟨fun c => Cert.ValIdeal.Body.result m c,
    (θ_run Cert.ValIdeal.defs _ _).mono (fun r h c => ⟨(h c).1.trans (Cert.ValIdeal.Body.arr m c), (h c).2⟩)
      (Cert.ValIdeal.Value.run_blocks m ρ), ?_⟩
  refine (θ_run Cert.ValRefIdeal.defs _ _).mono (fun r h c => ⟨(h c).1.trans ?_, (h c).2⟩) (Cert.ValRefIdeal.Value.run (F := Ideal) m' ρ')
  obtain ⟨h0, h1⟩ := hagree c
  rw [h0, h1]
  funext i
  have ei : i = ix4 (i 0 : Fin 8) (i 1 : Fin 32) (i 2 : Fin 256) (i 3 : Fin 256) := by funext a; fin_cases a <;> rfl
  rw [ei]
  exact Cert.ValRefIdeal.Body.res_at _ _ (i 0 : Fin 8) (i 1 : Fin 32) (i 2 : Fin 256) (i 3 : Fin 256)

end Cert.Proof.ValClaims
-- ==== Proof.SwkTile.lean ====
/-
  The windowed keys' projection's body: what each stored chunk holds, read index by index.
-/
module

public import proofs.«01_k».proof.Proof.Gen.SwkIdeal.Value
public import proofs.«01_k».proof.Proof.RopRefValue
public import Idealize.ShloMosaic.Lib.Pipeline.ValueKit
public import Idealize.ShloMosaic.Lib.Pointwise
public import Idealize.ShloMosaic.Lib.Claim

@[expose] public section

set_option maxRecDepth 16384

noncomputable section

namespace Cert.SwkIdeal.Body

open Cert.SwkIdeal Cert.SwkIdeal.Gen Idealize.ShloMosaic Idealize.ShloMosaic.TcCoe Idealize.SL.Sem

/-- The normed chunk of a head. -/
def normed (v : FVec Ideal S256x128 .f32) (g : Vec Ideal S1x128 .f32) : FVec Ideal S256x128 .f32 :=
  mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C000000#32))) (broadcast S256x1 (Scalar.ofBits .f32 0x358637BD#32)))) broadcasts_S256x1_S256x128))
    (broadcastTo S256x128 (shapeCast S1x128 g shapeCasts_S1x128_S1x128) broadcasts_S1x128_S256x128)

/-- The stored chunk of a head. -/
def chunk (v : FVec Ideal S256x128 .f32) (g : Vec Ideal S1x128 .f32) (cs : Vec Ideal S256x128 .f32) (sn : Vec Ideal S256x128 .f32) : FVec Ideal S256x128 .bf16 :=
  k0_pay1 (normed v g) cs sn

/-- The normed chunk at an index. -/
theorem normed_at (v : FVec Ideal S256x128 .f32) (g : Vec Ideal S1x128 .f32) (j : Fin 256) (d : Fin 128) :
    normed v g (ix2 j d) = RopMath.nrm (fun e => v (ix2 j e)) (fun e => g (ix2 0 e)) d := by
  pointwise [normed]
  rfl

/-- The comparison at a coordinate of a lower half. -/
theorem low : ∀ d : Fin 128, d.val % 64 < 32 → IntOp.cmpi CmpIPredicate.slt (IntOp.andi (BitVec.ofNat 32 d.val) 63#32) 32#32 = 1#1 := by
  decide +kernel

/-- The comparison at a coordinate of an upper half. -/
theorem high : ∀ d : Fin 128, ¬ d.val % 64 < 32 → IntOp.cmpi CmpIPredicate.slt (IntOp.andi (BitVec.ofNat 32 d.val) 63#32) 32#32 = 0#1 := by
  decide +kernel

/-- The stored chunk at an index. -/
theorem pay1_at (u : FVec Ideal S256x128 .f32) (cs : Vec Ideal S256x128 .f32) (sn : Vec Ideal S256x128 .f32) (j : Fin 256) (d : Fin 128) :
    k0_pay1 u cs sn (ix2 j d) = @HAdd.hAdd EReal EReal EReal _ (@HMul.hMul EReal EReal EReal _ (u (ix2 j d)) (cs (ix2 j d))) (@HMul.hMul EReal EReal EReal _ (u (ix2 j (RopMath.mate d))) (sn (ix2 j d))) := by
  pointwise [k0_pay1]
  refine congrArg _ (congrArg (· * _) ?_)
  by_cases h : d.val % 64 < 32
  · have hm : RopMath.mate d = ⟨(d.val + 128 - 96) % 128, Nat.mod_lt _ (by norm_num)⟩ := by
      unfold RopMath.mate
      rw [if_pos h]
      exact Fin.ext (by dsimp only; omega)
    rw [hm, low d h]
    rfl
  · have hm : RopMath.mate d = ⟨(d.val + 128 - 32) % 128, Nat.mod_lt _ (by norm_num)⟩ := by
      unfold RopMath.mate
      rw [if_neg h]
      exact Fin.ext (by dsimp only; omega)
    rw [hm, high d h]
    rfl

/-- The tile at a row and a head's coordinate: the head's product normed, rotated with its mate. -/
def tile (x : Vec Ideal S1024x2048 .bf16) (w : Vec Ideal S2048x512 .bf16) (g : Vec Ideal S1x128 .f32) (cs : Vec Ideal S1024x128 .f32) (sn : Vec Ideal S1024x128 .f32)
    (i : Fin 1024) (h : Fin 4) (d : Fin 128) : EReal :=
  RopMath.nrm (fun e => ∑ k : Fin 2048, @HMul.hMul EReal EReal EReal _ (x (ix2 i k)) (w (ix2 k ⟨128 * h.val + e.val, by omega⟩))) (fun e => g (ix2 0 e)) d * cs (ix2 i d)
    + RopMath.nrm (fun e => ∑ k : Fin 2048, @HMul.hMul EReal EReal EReal _ (x (ix2 i k)) (w (ix2 k ⟨128 * h.val + e.val, by omega⟩))) (fun e => g (ix2 0 e)) (RopMath.mate d) * sn (ix2 i d)

/-- A chunk's product at an index. -/
theorem pay2_at (a : Vec Ideal S256x2048 .bf16) (w : Vec Ideal S2048x512 .bf16) (j : Fin 256) (d : Fin 512) :
    k0_pay2 a w (ix2 j d) = ∑ k : Fin 2048, @HMul.hMul EReal EReal EReal _ (a (ix2 j k)) (w (ix2 k d)) := by
  pointwise [k0_pay2]

/-- The loads of chunk `o`'s rows and of all the weights give head `h` of its rows of the tile. -/
theorem tile_of (x : Vec Ideal S1024x2048 .bf16) (w : Vec Ideal S2048x512 .bf16) (g : Vec Ideal S1x128 .f32) (cs : Vec Ideal S1024x128 .f32) (sn : Vec Ideal S1024x128 .f32) (o : Nat) (ho : o + 256 ≤ 1024) (h : Fin 4)
    (h0 : ∀ a, (![o, 0] : Fin 2 → Nat) a + S256x2048.size a ≤ S1024x2048.size a) (h1 : ∀ a, (![0, 0] : Fin 2 → Nat) a + S2048x512.size a ≤ S2048x512.size a)
    (h2 : ∀ a, (![0, 0] : Fin 2 → Nat) a + S1x128.size a ≤ S1x128.size a) (h3 : ∀ a, (![o, 0] : Fin 2 → Nat) a + S256x128.size a ≤ S1024x128.size a)
    (p : Nat) (hp : p = 128 * h.val) (hs : S256x512.Slices ![0, p] S256x128) (j : Fin 256) (d : Fin 128) :
    chunk (extractStridedSlice S256x128 ![0, p] (k0_pay2 (F := Ideal) (View.ld x (Rect.unit (s := S1024x2048) ![o, 0] S256x2048.size h0)) (View.ld w (Rect.unit (s := S2048x512) ![0, 0] S2048x512.size h1))) hs)
        (View.ld g (Rect.unit (s := S1x128) ![0, 0] S1x128.size h2)) (View.ld cs (Rect.unit (s := S1024x128) ![o, 0] S256x128.size h3)) (View.ld sn (Rect.unit (s := S1024x128) ![o, 0] S256x128.size h3)) (ix2 j d)
      = tile x w g cs sn ⟨o + j.val, by omega⟩ h d := by
  subst hp
  have ev : ∀ e : Fin 128, extractStridedSlice S256x128 ![0, 128 * h.val] (k0_pay2 (F := Ideal) (View.ld x (Rect.unit (s := S1024x2048) ![o, 0] S256x2048.size h0)) (View.ld w (Rect.unit (s := S2048x512) ![0, 0] S2048x512.size h1))) hs (ix2 j e)
      = ∑ k : Fin 2048, @HMul.hMul EReal EReal EReal _ (x (ix2 ⟨o + j.val, by omega⟩ k)) (w (ix2 k ⟨128 * h.val + e.val, by omega⟩)) := fun e => by
    refine Eq.trans (congrArg (k0_pay2 (F := Ideal) _ _) ?_) ((pay2_at _ _ j ⟨128 * h.val + e.val, by omega⟩).trans (Finset.sum_congr rfl fun k _ => ?_))
    · funext a; fin_cases a <;> exact Fin.ext (by simp [ix2])
    · refine congr (congrArg _ (congrArg x ?_)) (congrArg w ?_)
      · funext a; fin_cases a <;> exact Fin.ext (by simp [Rect.unit, Rect.emb, ix2])
      · funext a; fin_cases a <;> exact Fin.ext (by simp [Rect.unit, Rect.emb, ix2])
  have eg : ∀ e : Fin 128, View.ld g (Rect.unit (s := S1x128) ![0, 0] S1x128.size h2) (ix2 0 e) = g (ix2 0 e) := fun e => congrArg g (by
    funext a; fin_cases a <;> exact Fin.ext (by simp [Rect.unit, Rect.emb, ix2]))
  have et : ∀ z : Vec Ideal S1024x128 .f32, View.ld z (Rect.unit (s := S1024x128) ![o, 0] S256x128.size h3) (ix2 j d) = z (ix2 ⟨o + j.val, by omega⟩ d) := fun z => congrArg z (by
    funext a; fin_cases a <;> exact Fin.ext (by simp [Rect.unit, Rect.emb, ix2]))
  have en : ∀ e : Fin 128, normed (extractStridedSlice S256x128 ![0, 128 * h.val] (k0_pay2 (F := Ideal) (View.ld x (Rect.unit (s := S1024x2048) ![o, 0] S256x2048.size h0)) (View.ld w (Rect.unit (s := S2048x512) ![0, 0] S2048x512.size h1))) hs)
        (View.ld g (Rect.unit (s := S1x128) ![0, 0] S1x128.size h2)) (ix2 j e)
      = RopMath.nrm (fun e => ∑ k : Fin 2048, @HMul.hMul EReal EReal EReal _ (x (ix2 ⟨o + j.val, by omega⟩ k)) (w (ix2 k ⟨128 * h.val + e.val, by omega⟩))) (fun e => g (ix2 0 e)) e :=
    fun e => (normed_at _ _ j e).trans (congr (congr (congrArg RopMath.nrm (funext ev)) (funext eg)) rfl)
  refine (pay1_at _ _ _ j d).trans ?_
  exact congr (congrArg _ (congr (congrArg _ (en d)) (et cs))) (congr (congrArg _ (en (RopMath.mate d))) (et sn))

/-- What the body leaves in the result's block. -/
theorem out_at (x : Vec Ideal S1024x2048 .bf16) (w : Vec Ideal S2048x512 .bf16) (g : Vec Ideal S1x128 .f32) (cs : Vec Ideal S1024x128 .f32) (sn : Vec Ideal S1024x128 .f32) (y : S1024x512.Idx) :
    out0_5 (F := Ideal) x w g cs sn y
      = tile x w g cs sn (y 0 : Fin 1024) ⟨(y 1).val / 128, by have : (y 1).val < 512 := (y 1).isLt; omega⟩ ⟨(y 1).val % 128, Nat.mod_lt _ (by norm_num)⟩ := by
  unfold out0_5
  refine View.canon_apply_of_pieces (Val := Elt Ideal) (fun y : S1024x512.Idx => tile x w g cs sn (y 0 : Fin 1024) ⟨(y 1).val / 128, by have : (y 1).val < 512 := (y 1).isLt; omega⟩ ⟨(y 1).val % 128, Nat.mod_lt _ (by norm_num)⟩) _ ?_ y (cover0_5 _ _ _ _ _ _ _ _ _ _ _ _ _ _ _ _ y)
  intro p hp z
  have ez : ∀ z : S256x128.Idx, z = ix2 (z 0 : Fin 256) (z 1 : Fin 128) := fun z => by funext a; fin_cases a <;> rfl
  have hz : ∀ z : S256x128.Idx, (z 1).val < 128 := fun z => (z 1).isLt
  simp only [List.mem_cons, List.mem_nil_iff, or_false] at hp
  rcases hp with rfl | rfl | rfl | rfl | rfl | rfl | rfl | rfl | rfl | rfl | rfl | rfl | rfl | rfl | rfl | rfl
  · refine (congrArg _ (ez z)).trans ((tile_of x w g cs sn 768 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 768 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 512 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 256 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 3 _ _ _ _ 384 rfl slices_S256x512_o0_384_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 2 _ _ _ _ 256 rfl slices_S256x512_o0_256_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 1 _ _ _ _ 128 rfl slices_S256x512_o0_128_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))
  · refine (congrArg _ (ez z)).trans ((tile_of x w g cs sn 0 (by norm_num) 0 _ _ _ _ 0 rfl slices_S256x512_o0_0_S256x128 (z 0 : Fin 256) (z 1 : Fin 128)).trans ?_)
    have := hz z
    exact congr (congr (congrArg (tile x w g cs sn) (Fin.ext (by simp [Rect.unit, Rect.emb]))) (Fin.ext (by simp [Rect.unit, Rect.emb]; omega))) (Fin.ext (by simp [Rect.unit, Rect.emb]; omega))

end Cert.SwkIdeal.Body
-- ==== Proof.SwkRefValue.lean ====
/-
  The windowed keys' projection's reference: what its result holds, read index by index.
-/
module

public import proofs.«01_k».proof.Proof.SwkTile
public import proofs.«01_k».proof.Proof.Gen.SwkRefIdeal.Run
public import Idealize.ShloMosaic.Lib.Pointwise
public import Idealize.ShloMosaic.Lib.Claim

@[expose] public section

set_option maxRecDepth 16384

noncomputable section

namespace Cert.SwkRefIdeal.Body

open Cert.SwkRefIdeal Cert.SwkRefIdeal.Gen Idealize.ShloMosaic Idealize.ShloMosaic.TcCoe Idealize.SL.Sem

/-- A row's frequencies under its position. -/
def turn (p : FVec Ideal S8192 .f32) : FVec Ideal S8192x32 .f32 :=
  mulf (broadcastInDim S8192x32 ![0, 1] bcast_S8192x1_S8192x32_0_1 (broadcastInDim S8192x1 ![0] bcast_S8192_S8192x1_0 p)) (broadcastInDim S8192x32 ![0, 1] bcast_S1x32_S8192x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The angles: the token's row over the first half of a head, its column over the second. -/
def ang : FVec Ideal S8192x128 .f32 :=
  concatenate S8192x128 1 [⟨S8192x32, turn (shapeCast _ (broadcastInDim S128x64 ![0] bcast_S128_S128x64_0 (sitofp .f32 (iotaInDim S128 32 0))) shapeCasts_S128x64_S8192)⟩,
      ⟨S8192x32, turn (shapeCast _ (broadcastInDim S128x64 ![0] bcast_S128_S128x64_0 (sitofp .f32 (iotaInDim S128 32 0))) shapeCasts_S128x64_S8192)⟩,
      ⟨S8192x32, turn (shapeCast _ (broadcastInDim S128x64 ![0, 1] bcast_S1x64_S128x64_0_1 (shapeCast _ (sitofp .f32 (iotaInDim S64 32 0)) shapeCasts_S64_S1x64)) shapeCasts_S128x64_S8192)⟩,
      ⟨S8192x32, turn (shapeCast _ (broadcastInDim S128x64 ![0, 1] bcast_S1x64_S128x64_0_1 (shapeCast _ (sitofp .f32 (iotaInDim S64 32 0)) shapeCasts_S64_S1x64)) shapeCasts_S128x64_S8192)⟩] concatenates_S8192x32_S8192x32_S8192x32_S8192x32_S8192x128_d1

/-- The product by heads. -/
def prod (a0 : FVec Ideal S8192x2048 .bf16) (a1 : FVec Ideal S2048x512 .f32) : FVec Ideal S8192x4x128 .f32 :=
  shapeCast _ (Host.dotGeneral dot_S8192x2048_S2048x512_S8192x512_1_0_0_1_n_n none (extf .f32 a0 bitsLt_bf16_f32) a1) shapeCasts_S8192x512_S8192x4x128

/-- The heads normed. -/
def normed (p : FVec Ideal S8192x4x128 .f32) (a2 : FVec Ideal S128 .f32) : FVec Ideal S8192x4x128 .f32 :=
  mulf (mulf p (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf p p) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x1x128_S8192x4x128_0_1_2 (broadcastInDim S1x1x128 ![2] bcast_S128_S1x1x128_2 a2))

/-- The heads' mates, the lower halves' negated. -/
def turned (u : FVec Ideal S8192x4x128 .f32) : FVec Ideal S8192x4x128 .f32 :=
  concatenate S8192x4x128 2 [⟨S8192x4x32, Host.negf (extractStridedSlice S8192x4x32 ![0, 0, 32] (extractStridedSlice S8192x4x64 ![0, 0, 0] u slices_S8192x4x128_S8192x4x64_0_0_0) slices_S8192x4x64_S8192x4x32_0_0_32)⟩,
      ⟨S8192x4x32, extractStridedSlice S8192x4x32 ![0, 0, 0] (extractStridedSlice S8192x4x64 ![0, 0, 0] u slices_S8192x4x128_S8192x4x64_0_0_0) slices_S8192x4x64_S8192x4x32_0_0_0⟩,
      ⟨S8192x4x32, Host.negf (extractStridedSlice S8192x4x32 ![0, 0, 32] (extractStridedSlice S8192x4x64 ![0, 0, 64] u slices_S8192x4x128_S8192x4x64_0_0_64) slices_S8192x4x64_S8192x4x32_0_0_32)⟩,
      ⟨S8192x4x32, extractStridedSlice S8192x4x32 ![0, 0, 0] (extractStridedSlice S8192x4x64 ![0, 0, 64] u slices_S8192x4x128_S8192x4x64_0_0_64) slices_S8192x4x64_S8192x4x32_0_0_0⟩] concatenates_S8192x4x32_S8192x4x32_S8192x4x32_S8192x4x32_S8192x4x128_d2

/-- The result of normed heads. -/
def roped (u : FVec Ideal S8192x4x128 .f32) (r : FVec Ideal S8192x4x128 .f32) (a : FVec Ideal S8192x128 .f32) : FVec Ideal S8192x512 .bf16 :=
  truncf .bf16 (shapeCast _ (addf (mulf u (broadcastInDim S8192x4x128 ![0, 1, 2] bcast_S8192x1x128_S8192x4x128_0_1_2 (broadcastInDim S8192x1x128 ![0, 2] bcast_S8192x128_S8192x1x128_0_2 (Host.cos a))))
      (mulf r (broadcastInDim S8192x4x128 ![0, 1, 2] bcast_S8192x1x128_S8192x4x128_0_1_2 (broadcastInDim S8192x1x128 ![0, 2] bcast_S8192x128_S8192x1x128_0_2 (Host.sin a))))) shapeCasts_S8192x4x128_S8192x512) bitsLt_bf16_f32

/-- The product at an index. -/
theorem prod_at (a0 : FVec Ideal S8192x2048 .bf16) (a1 : FVec Ideal S2048x512 .f32) (n : Fin 8192) (h : Fin 4) (d : Fin 128) :
    prod a0 a1 (ix3 n h d) = ∑ k : Fin 2048, @HMul.hMul EReal EReal EReal _ (a0 (ix2 n k)) (a1 (ix2 k ⟨128 * h.val + d.val, by omega⟩)) := by
  pointwise [prod]
  refine Finset.sum_congr rfl fun k _ => congr (congrArg _ ?_) (congrArg a1 (congrArg (ix2 k) (Fin.ext (by dsimp only; omega))))
  rfl

/-- A normed head at an index. -/
theorem normed_at (p : FVec Ideal S8192x4x128 .f32) (a2 : FVec Ideal S128 .f32) (n : Fin 8192) (h : Fin 4) (d : Fin 128) :
    normed p a2 (ix3 n h d) = RopMath.nrm (fun e => p (ix3 n h e)) (fun e => a2 (ix1 e)) d := by
  unfold RopMath.nrm
  rw [← RopMath.mean_eq]
  pointwise [normed]

/-- The mate of a lower half's coordinate. -/
theorem mate_low (d : Fin 128) (hd : d.val % 64 < 32) : (RopMath.mate d).val = d.val + 32 := by
  unfold RopMath.mate
  rw [if_pos hd]
  show (d.val + 32) % 128 = d.val + 32
  omega

/-- The mate of an upper half's coordinate. -/
theorem mate_high (d : Fin 128) (hd : ¬ d.val % 64 < 32) : (RopMath.mate d).val = d.val - 32 := by
  unfold RopMath.mate
  rw [if_neg hd]
  show (d.val + 96) % 128 = d.val - 32
  omega

/-- The mates at a coordinate of a lower half. -/
theorem turned_low (u : FVec Ideal S8192x4x128 .f32) (n : Fin 8192) (h : Fin 4) (d : Fin 128) (hd : d.val % 64 < 32) :
    turned u (ix3 n h d) = -(u (ix3 n h (RopMath.mate d)) : EReal) := by
  have hm := mate_low d hd
  have hx : ∀ e : Fin 128, e.val = d.val + 32 → -(u (ix3 n h e) : EReal) = -(u (ix3 n h (RopMath.mate d)) : EReal) := fun e he =>
    congrArg (fun e : Fin 128 => -(u (ix3 n h e) : EReal)) (Fin.ext (he.trans hm.symm))
  pointwise [turned]
  by_cases h1 : d.val < 32
  · exact (dif_pos h1).trans (hx _ (by dsimp only; omega))
  · refine (dif_neg h1).trans ((dif_neg (by omega)).trans ((dif_pos (by omega)).trans (hx _ (by dsimp only; omega))))

/-- The mates at a coordinate of an upper half. -/
theorem turned_high (u : FVec Ideal S8192x4x128 .f32) (n : Fin 8192) (h : Fin 4) (d : Fin 128) (hd : ¬ d.val % 64 < 32) :
    turned u (ix3 n h d) = u (ix3 n h (RopMath.mate d)) := by
  have hm := mate_high d hd
  have hx : ∀ e : Fin 128, e.val = d.val - 32 → u (ix3 n h e) = u (ix3 n h (RopMath.mate d)) := fun e he =>
    congrArg (fun e : Fin 128 => u (ix3 n h e)) (Fin.ext (he.trans hm.symm))
  pointwise [turned]
  by_cases h1 : d.val - 32 < 32
  · exact (dif_neg (by omega)).trans ((dif_pos h1).trans (hx _ rfl))
  · refine (dif_neg (by omega)).trans ((dif_neg h1).trans ((dif_neg (by omega)).trans (hx _ (by dsimp only; omega))))

/-- The result at an index. -/
theorem roped_at (u r : FVec Ideal S8192x4x128 .f32) (a : FVec Ideal S8192x128 .f32) (n : Fin 8192) (h : Fin 4) (d : Fin 128) :
    roped u r a (ix2 n ⟨128 * h.val + d.val, by omega⟩) = @HAdd.hAdd EReal EReal EReal _ (@HMul.hMul EReal EReal EReal _ (u (ix3 n h d)) (Ideal.cos (a (ix2 n d)))) (@HMul.hMul EReal EReal EReal _ (r (ix3 n h d)) (Ideal.sin (a (ix2 n d)))) := by
  pointwise [roped]

set_option maxHeartbeats 2000000 in
/-- The reference's result by its parts. -/
theorem res_eq (m : (ℓ : Loc nD τ sig) → Buf (Elt Ideal) ℓ) (c : Dev nD) :
    Value.res_main_v64 (F := Ideal) m c
      = roped (normed (prod (m ((c.tc : Thread nD τ).loc main_arg0)) (m ((c.tc : Thread nD τ).loc main_arg1))) (m ((c.tc : Thread nD τ).loc main_arg2)))
          (turned (normed (prod (m ((c.tc : Thread nD τ).loc main_arg0)) (m ((c.tc : Thread nD τ).loc main_arg1))) (m ((c.tc : Thread nD τ).loc main_arg2)))) ang := rfl

end Cert.SwkRefIdeal.Body
-- ==== Proof.SwkValue.lean ====
/-
  The windowed keys' projection's kernel: what the prepared operands hold, what each window stages of them at a grid
  point, and so what the result's array holds after the run.
-/
module

public import proofs.«01_k».proof.Proof.SwkRefValue
public import proofs.«01_k».proof.Proof.Gen.SwkIdeal.Value
public import Idealize.ShloMosaic.Lib.Pipeline.ValueKit
public import Idealize.ShloMosaic.Lib.StableHlo.ReadAt

@[expose] public section

set_option maxRecDepth 16384

noncomputable section

namespace Cert.SwkIdeal.Body

open Cert.SwkIdeal Cert.SwkIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The prepared weights. -/
theorem w_at (k : Fin 2048) (d : Fin 512) : V m c main_v40 (ix2 k d) = m ((c : Thread nD τ).loc main_arg1) (ix2 k d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.cons_append, List.nil_append]
  after_reads_at

/-- The prepared weights of the norm. -/
theorem g_at (d : Fin 128) : V m c main_v41 (ix2 0 d) = m ((c : Thread nD τ).loc main_arg2) (ix1 d) := by
  show StableHlo.after (List.flatten [hostOps0, hostOps0_1, hostOps0_2, hostOps0_3, hostOps0_4]) (fun b => m (c, b)) (Proc.tc.devRef _) _ = _
  simp only [hostOps0, hostOps0_1, hostOps0_2, hostOps0_3, hostOps0_4, List.flatten_cons, List.flatten_nil, List.cons_append, List.nil_append]
  after_reads_at

/-- Four blocks side by side. -/
def side (a b c d : FVec Ideal S8192x32 .f32) : FVec Ideal S8192x128 .f32 :=
  concatenate S8192x128 1 [⟨S8192x32, a⟩, ⟨S8192x32, b⟩, ⟨S8192x32, c⟩, ⟨S8192x32, d⟩] concatenates_S8192x32_S8192x32_S8192x32_S8192x32_S8192x128_d1

/-- The angles' operation sets its four operands side by side. -/
theorem side_op (hx hy) :
    StableHlo.nary (τ := τ) ![main_v22, main_v22, main_v27, main_v27] main_v28 (fun u => (concatenate S8192x128 1 [⟨S8192x32, (u 0 : (⟨S8192x32, .f32⟩ : BufTy).Contents (Elt Ideal))⟩, ⟨S8192x32, (u 1 : (⟨S8192x32, .f32⟩ : BufTy).Contents (Elt Ideal))⟩, ⟨S8192x32, (u 2 : (⟨S8192x32, .f32⟩ : BufTy).Contents (Elt Ideal))⟩, ⟨S8192x32, (u 3 : (⟨S8192x32, .f32⟩ : BufTy).Contents (Elt Ideal))⟩] concatenates_S8192x32_S8192x32_S8192x32_S8192x32_S8192x128_d1 : (⟨S8192x128, .f32⟩ : BufTy).Contents (Elt Ideal))) hx hy
      = StableHlo.nary (τ := τ) ![main_v22, main_v22, main_v27, main_v27] main_v28 (fun u => side (u 0) (u 1) (u 2) (u 3)) hx hy := rfl

/-- The prepared cosines. -/
theorem cos_eq : V m c main_v34 = Host.cos Cert.SwkRefIdeal.Body.ang := by
  show StableHlo.after (List.flatten [hostOps0, hostOps0_1, hostOps0_2, hostOps0_3, hostOps0_4]) (fun b => m (c, b)) (Proc.tc.devRef _) = _
  simp only [hostOps0, hostOps0_1, hostOps0_2, hostOps0_3, hostOps0_4, List.flatten_cons, List.flatten_nil, List.cons_append, List.nil_append, side_op]
  after_reads_simp
  dsimp only [Matrix.cons_val, Fin.cons]
  try after_reads_simp
  rfl

/-- The period of a head's halves. -/
def period : IVec S_ 32 :=
  select (cmpi CmpIPredicate.eq (id (constantI S_ 32 64#32)) (constantI S_ 32 0#32)) (constantI S_ 32 1#32) (id (constantI S_ 32 64#32))

/-- A coordinate's remainder by the period. -/
def rest : IVec S128 32 := Host.remsi (iotaInDim S128 32 0) (broadcastInDim S128 ![] bcast_S_S128 period)

/-- The coordinates of the lower halves. -/
def lows : IVec S128 1 :=
  cmpi CmpIPredicate.slt
    (select (andi (cmpi CmpIPredicate.ne (cmpi CmpIPredicate.slt rest (broadcastInDim S128 ![] bcast_S_S128 (constantI S_ 32 0#32))) (broadcastInDim S128 ![] bcast_S_S128 (cmpi CmpIPredicate.slt period (constantI S_ 32 0#32))))
        (cmpi CmpIPredicate.ne rest (broadcastInDim S128 ![] bcast_S_S128 (constantI S_ 32 0#32))))
      (addi rest (broadcastInDim S128 ![] bcast_S_S128 period)) rest)
    (broadcastInDim S128 ![] bcast_S_S128 (constantI S_ 32 32#32))

/-- The signs: minus one over the lower halves, one over the upper. -/
def sign : FVec Ideal S128 .f32 :=
  select lows (broadcastInDim S128 ![] bcast_S_S128 (constant S_ .f32 3212836864#32)) (broadcastInDim S128 ![] bcast_S_S128 (constant S_ .f32 1065353216#32))

/-- The lower halves' coordinates, one by one. -/
theorem lows_at : ∀ d : Fin 128, lows (ix1 d) = if d.val % 64 < 32 then 1#1 else 0#1 := by
  decide +kernel

/-- The word of minus one. -/
theorem neg_one : Ideal.ofBits .f32 3212836864#32 = (-1 : EReal) := by
  show Ideal.ieee 8 23 (3212836864#32) = (-1 : EReal)
  unfold Ideal.ieee
  dsimp only
  rw [if_neg (by decide), if_neg (by decide)]
  have h1 : (BitVec.extractLsb' (8 + 23) 1 3212836864#32 == 1#1) = true := by decide
  have h2 : (BitVec.extractLsb' 23 8 3212836864#32).toNat = 127 := by decide
  have h3 : (BitVec.extractLsb' 0 23 3212836864#32).toNat = 0 := by decide
  rw [h1, h2, h3]
  norm_num

/-- The word of one. -/
theorem pos_one : Ideal.ofBits .f32 1065353216#32 = (1 : EReal) := by
  show Ideal.ieee 8 23 (1065353216#32) = (1 : EReal)
  unfold Ideal.ieee
  dsimp only
  rw [if_neg (by decide), if_neg (by decide)]
  have h1 : (BitVec.extractLsb' (8 + 23) 1 1065353216#32 == 1#1) = false := by decide
  have h2 : (BitVec.extractLsb' 23 8 1065353216#32).toNat = 127 := by decide
  have h3 : (BitVec.extractLsb' 0 23 1065353216#32).toNat = 0 := by decide
  rw [h1, h2, h3]
  norm_num

/-- A coordinate's sign. -/
theorem sign_at (d : Fin 128) : sign (ix1 d) = if d.val % 64 < 32 then (-1 : EReal) else 1 := by
  have e : sign (ix1 d) = Scalar.select (lows (ix1 d)) (Ideal.ofBits .f32 3212836864#32) (Ideal.ofBits .f32 1065353216#32) := rfl
  rw [e, lows_at d]
  by_cases h : d.val % 64 < 32
  · rw [if_pos h, if_pos h]; exact neg_one
  · rw [if_neg h, if_neg h]; exact pos_one

/-- The prepared sines. -/
theorem sin_eq : V m c main_v39 = mulf (Host.sin Cert.SwkRefIdeal.Body.ang) (broadcastInDim S8192x128 ![0, 1] bcast_S1x128_S8192x128_0_1 (broadcastInDim S1x128 ![1] bcast_S128_S1x128_1 sign)) := by
  show StableHlo.after (List.flatten [hostOps0, hostOps0_1, hostOps0_2, hostOps0_3, hostOps0_4]) (fun b => m (c, b)) (Proc.tc.devRef _) = _
  simp only [hostOps0, hostOps0_1, hostOps0_2, hostOps0_3, hostOps0_4, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- A token's cosine at a coordinate. -/
theorem cos_at (n : Fin 8192) (d : Fin 128) : V m c main_v34 (ix2 n d) = Ideal.cos (Cert.SwkRefIdeal.Body.ang (ix2 n d)) :=
  congrFun (cos_eq m c) (ix2 n d)

/-- A token's signed sine at a coordinate. -/
theorem sin_at (n : Fin 8192) (d : Fin 128) :
    V m c main_v39 (ix2 n d) = @HMul.hMul EReal EReal EReal _ (Ideal.sin (Cert.SwkRefIdeal.Body.ang (ix2 n d))) (if d.val % 64 < 32 then (-1 : EReal) else 1) := by
  refine (congrFun (sin_eq m c) (ix2 n d)).trans ?_
  refine Eq.trans ?_ (congrArg _ (sign_at d))
  pointwise

/-- The grid's indices of the windows: a block of tokens and a block of columns. -/
theorem idx : ∀ t : Fin cfg0.N, win0_0.index t = ![(grid0.coords t 0).val, 0] ∧ win0_1.index t = ![0, (grid0.coords t 1).val]
    ∧ win0_2.index t = ![0, 0] ∧ win0_3.index t = ![(grid0.coords t 0).val, 0] ∧ win0_4.index t = ![(grid0.coords t 0).val, 0]
    ∧ win0_5.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 512 :=
  ⟨512 * (grid0.coords t 1).val + d.val, by have : (grid0.coords t 1).val < 1 := (grid0.coords t 1).isLt; omega⟩

/-- A grid point's head `h`. -/
def head (t : Fin cfg0.N) (h : Fin 4) : Fin 4 :=
  ⟨4 * (grid0.coords t 1).val + h.val, by have : (grid0.coords t 1).val < 1 := (grid0.coords t 1).isLt; omega⟩

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The staged weights of the norm. -/
theorem blk_g (t : Fin cfg0.N) (d : Fin 128) : iblk m c 2 t (ix2 0 d) = m ((c : Thread nD τ).loc main_arg2) (ix1 d) := by
  refine Eq.trans ?_ (g_at m c d)
  blk_ext [iblk, idx t]

/-- The staged cosines. -/
theorem blk_cs (t : Fin cfg0.N) (i : Fin 1024) (d : Fin 128) : iblk m c 3 t (ix2 i d) = Ideal.cos (Cert.SwkRefIdeal.Body.ang (ix2 (row t i) d)) := by
  refine Eq.trans ?_ (cos_at m c (row t i) d)
  blk_ext [iblk, idx t, row]

/-- The staged sines. -/
theorem blk_sn (t : Fin cfg0.N) (i : Fin 1024) (d : Fin 128) :
    iblk m c 4 t (ix2 i d) = @HMul.hMul EReal EReal EReal _ (Ideal.sin (Cert.SwkRefIdeal.Body.ang (ix2 (row t i) d))) (if d.val % 64 < 32 then (-1 : EReal) else 1) := by
  refine Eq.trans ?_ (sin_at m c (row t i) d)
  blk_ext [iblk, idx t, row]

/-- A head of the product of tokens and weights. -/
def prod (n : Fin 8192) (h : Fin 4) (e : Fin 128) : EReal :=
  ∑ k : Fin 2048, @HMul.hMul EReal EReal EReal _ (m ((c : Thread nD τ).loc main_arg0) (ix2 n k)) (m ((c : Thread nD τ).loc main_arg1) (ix2 k ⟨128 * h.val + e.val, by omega⟩))

/-- The head normed and rotated. -/
def val (n : Fin 8192) (h : Fin 4) (d : Fin 128) : EReal :=
  RopMath.nrm (prod m c n h) (fun e => m ((c : Thread nD τ).loc main_arg2) (ix1 e)) d * Ideal.cos (Cert.SwkRefIdeal.Body.ang (ix2 n d))
    + RopMath.nrm (prod m c n h) (fun e => m ((c : Thread nD τ).loc main_arg2) (ix1 e)) (RopMath.mate d) * (@HMul.hMul EReal EReal EReal _ (Ideal.sin (Cert.SwkRefIdeal.Body.ang (ix2 n d))) (if d.val % 64 < 32 then (-1 : EReal) else 1))

/-- The result's array by coordinates. -/
def result : Vec Ideal S8192x512 .bf16 := fun i =>
  val m c (i 0 : Fin 8192) ⟨(i 1).val / 128, by have : (i 1).val < 512 := (i 1).isLt; omega⟩ ⟨(i 1).val % 128, Nat.mod_lt _ (by norm_num)⟩

/-- A block's column of a head. -/
theorem local_lt (h : Fin 4) (e : Fin 128) : 128 * h.val + e.val < 512 := by omega

/-- The column by blocks and by heads. -/
theorem local_eq (b h e : Nat) : 512 * b + (128 * h + e) = 128 * (4 * b + h) + e := by omega

/-- A tile from its product, weights, cosine and sine. -/
theorem tile_of_parts (x : Vec Ideal S1024x2048 .bf16) (w : Vec Ideal S2048x512 .bf16) (g : Vec Ideal S1x128 .f32) (cs : Vec Ideal S1024x128 .f32) (sn : Vec Ideal S1024x128 .f32)
    (i : Fin 1024) (h : Fin 4) (d : Fin 128) (v u : Fin 128 → EReal) (a b : EReal)
    (hv : (fun e : Fin 128 => ∑ k : Fin 2048, @HMul.hMul EReal EReal EReal _ (x (ix2 i k)) (w (ix2 k ⟨128 * h.val + e.val, local_lt h e⟩))) = v)
    (hu : (fun e : Fin 128 => g (ix2 0 e)) = u) (ha : cs (ix2 i d) = a) (hb : sn (ix2 i d) = b) :
    tile x w g cs sn i h d = RopMath.nrm v u d * a + RopMath.nrm v u (RopMath.mate d) * b := by
  subst hv hu ha hb
  rfl

/-- A grid point's tile of the result. -/
theorem tile_at (t : Fin cfg0.N) (i : Fin 1024) (h : Fin 4) (d : Fin 128) :
    tile (iblk m c 0 t) (iblk m c 1 t) (iblk m c 2 t) (iblk m c 3 t) (iblk m c 4 t) i h d = val m c (row t i) (head t h) d := by
  have e1 : (fun e : Fin 128 => ∑ k : Fin 2048, @HMul.hMul EReal EReal EReal _ (iblk m c 0 t (ix2 i k)) (iblk m c 1 t (ix2 k ⟨128 * h.val + e.val, local_lt h e⟩))) = prod m c (row t i) (head t h) := by
    funext e
    refine Finset.sum_congr rfl fun k _ => congr (congrArg _ (blk_x m c t i k)) ((blk_w m c t k _).trans (congrArg (fun z : Fin 512 => m ((c : Thread nD τ).loc main_arg1) (ix2 k z)) (Fin.ext ?_)))
    exact local_eq _ _ _
  have e2 : (fun e : Fin 128 => iblk m c 2 t (ix2 0 e)) = fun e => m ((c : Thread nD τ).loc main_arg2) (ix1 e) := funext fun e => blk_g m c t e
  exact tile_of_parts _ _ _ _ _ i h d _ _ _ _ e1 e2 (blk_cs m c t i d) (blk_sn m c t i d)

/-- The result's array after the run. -/
theorem arr : (dats m 0 c).arrAt 5 cfg0.N = result m c := by
  refine (dats m 0 c).arrAt_eq_of_covers 5 _ (by decide +kernel) (fun t hf y => ?_)
  refine (congrFun (Value.flushed5 m c t) y).trans ?_
  have hy0 : (y 0).val < 1024 := (y 0).isLt
  have hy1 : (y 1).val < 512 := (y 1).isLt
  have ez : ((cfg0.win 5).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (iblk m c 3 t) (iblk m c 4 t) (ix2 ⟨(y 0).val, hy0⟩ ⟨(y 1).val, hy1⟩)).trans ?_)
  · exact congrArg _ (by funext a; fin_cases a <;> rfl)
  · refine (tile_at m c t ⟨(y 0).val, hy0⟩ ⟨(y 1).val / 128, by omega⟩ ⟨(y 1).val % 128, Nat.mod_lt _ (by norm_num)⟩).trans ?_
    refine congr (congrArg (val m c (row t ⟨(y 0).val, hy0⟩)) (Fin.ext ?_)) (Fin.ext ?_)
    · show 4 * (grid0.coords t 1).val + (y 1).val / 128 = (512 * (grid0.coords t 1).val + (y 1).val) / 128
      omega
    · show (y 1).val % 128 = (512 * (grid0.coords t 1).val + (y 1).val) % 128
      omega

end Cert.SwkIdeal.Body
-- ==== Proof.SwkClaims.lean ====
/-
  The windowed keys' projection's claims: the kernel's array is the reference's.
-/
module

public import proofs.«01_k».proof.Defs
public import proofs.«01_k».proof.Proof.SwkValue
public import proofs.«01_k».proof.Proof.Gen.Swk.Frame
public import Idealize.ShloMosaic.Adequacy
public import Idealize.ShloMosaic.Init

@[expose] public section

set_option maxRecDepth 16384

noncomputable section

namespace Cert.Proof.SwkClaims

open Idealize.ShloMosaic Idealize.ShloMosaic.TcCoe Idealize.SL.Sem

/-- The reference's rotation at an index, the sign moved to the sine. -/
theorem roped_eq (u : FVec Ideal Cert.SwkRefIdeal.S8192x4x128 .f32) (n : Fin 8192) (h : Fin 4) (d : Fin 128) (s : EReal) :
    @HMul.hMul EReal EReal EReal _ (Cert.SwkRefIdeal.Body.turned u (ix3 n h d)) s
      = @HMul.hMul EReal EReal EReal _ (u (ix3 n h (RopMath.mate d))) (s * (if d.val % 64 < 32 then (-1 : EReal) else 1)) := by
  by_cases hd : d.val % 64 < 32
  · rw [if_pos hd, Cert.SwkRefIdeal.Body.turned_low u n h d hd, mul_neg, mul_one]
    exact (EReal.neg_mul _ _).trans (mul_neg _ _).symm
  · rw [if_neg hd, Cert.SwkRefIdeal.Body.turned_high u n h d hd, mul_one]

/-- The reference ends with its arguments and every counter as they were. -/
theorem frame_ref : Cert.quiescent_SwkRefIdeal := fun m ρ _ =>
  (θ_run Cert.SwkRefIdeal.defs _ _).mono (fun r h => ⟨fun c => (h c).2, sem_eq_zero_of_no_sems (by decide) r.2⟩)
    (Cert.SwkRefIdeal.Value.run (F := Ideal) m ρ)

/-- The reference's result at an index. -/
theorem ref_at (a0 : FVec Ideal Cert.SwkRefIdeal.S8192x2048 .bf16) (a1 : FVec Ideal Cert.SwkRefIdeal.S2048x512 .f32) (a2 : FVec Ideal Cert.SwkRefIdeal.S128 .f32)
    (n : Fin 8192) (h : Fin 4) (d : Fin 128) :
    Cert.SwkRefIdeal.Body.roped (Cert.SwkRefIdeal.Body.normed (Cert.SwkRefIdeal.Body.prod a0 a1) a2) (Cert.SwkRefIdeal.Body.turned (Cert.SwkRefIdeal.Body.normed (Cert.SwkRefIdeal.Body.prod a0 a1) a2))
        Cert.SwkRefIdeal.Body.ang (ix2 n ⟨128 * h.val + d.val, by omega⟩)
      = RopMath.nrm (fun e => ∑ k : Fin 2048, @HMul.hMul EReal EReal EReal _ (a0 (ix2 n k)) (a1 (ix2 k ⟨128 * h.val + e.val, by omega⟩))) (fun e => a2 (ix1 e)) d * Ideal.cos (Cert.SwkRefIdeal.Body.ang (ix2 n d))
        + RopMath.nrm (fun e => ∑ k : Fin 2048, @HMul.hMul EReal EReal EReal _ (a0 (ix2 n k)) (a1 (ix2 k ⟨128 * h.val + e.val, by omega⟩))) (fun e => a2 (ix1 e)) (RopMath.mate d)
          * (Ideal.sin (Cert.SwkRefIdeal.Body.ang (ix2 n d)) * (if d.val % 64 < 32 then (-1 : EReal) else 1)) := by
  have ep : (fun e => Cert.SwkRefIdeal.Body.prod a0 a1 (ix3 n h e)) = fun e => ∑ k : Fin 2048, @HMul.hMul EReal EReal EReal _ (a0 (ix2 n k)) (a1 (ix2 k ⟨128 * h.val + e.val, by omega⟩)) :=
    funext fun e => Cert.SwkRefIdeal.Body.prod_at a0 a1 n h e
  have en : ∀ e : Fin 128, Cert.SwkRefIdeal.Body.normed (Cert.SwkRefIdeal.Body.prod a0 a1) a2 (ix3 n h e)
      = RopMath.nrm (fun e => ∑ k : Fin 2048, @HMul.hMul EReal EReal EReal _ (a0 (ix2 n k)) (a1 (ix2 k ⟨128 * h.val + e.val, by omega⟩))) (fun e => a2 (ix1 e)) e := fun e =>
    (Cert.SwkRefIdeal.Body.normed_at _ a2 n h e).trans (congrArg (fun v => RopMath.nrm v (fun e => a2 (ix1 e)) e) ep)
  refine (Cert.SwkRefIdeal.Body.roped_at _ _ _ n h d).trans ?_
  exact congr (congrArg _ (congr (congrArg _ (en d)) rfl)) ((roped_eq _ n h d _).trans (congr (congrArg _ (en (RopMath.mate d))) rfl))

/-- Kernel and reference leave the same array. -/
theorem algebraic : Cert.algebraic_SwkIdeal_SwkRefIdeal := by
  intro m ρ m' ρ' _ hagree
  refine ⟨fun c => Cert.SwkIdeal.Body.result m c,
    (θ_run Cert.SwkIdeal.defs _ _).mono (fun r h c => ⟨(h c).1.trans (Cert.SwkIdeal.Body.arr m c), (h c).2⟩)
      (Cert.SwkIdeal.Value.run_blocks m ρ), ?_⟩
  refine (θ_run Cert.SwkRefIdeal.defs _ _).mono (fun r h c => ⟨(h c).1.trans ?_, (h c).2⟩) (Cert.SwkRefIdeal.Value.run (F := Ideal) m' ρ')
  obtain ⟨h0, h1, h2⟩ := hagree c
  refine (Cert.SwkRefIdeal.Body.res_eq m' c).trans ?_
  rw [h0, h1, h2]
  funext i
  have hi : (i 1).val < 512 := (i 1).isLt
  have ei : i = ix2 (i 0 : Fin 8192) ⟨128 * ((i 1).val / 128) + (i 1).val % 128, by omega⟩ := by
    funext a
    fin_cases a
    · rfl
    · exact Fin.ext (Nat.div_add_mod _ _).symm
  refine (congrArg _ ei).trans ?_
  exact ref_at _ _ _ (i 0 : Fin 8192) ⟨(i 1).val / 128, by omega⟩ ⟨(i 1).val % 128, Nat.mod_lt _ (by norm_num)⟩

end Cert.Proof.SwkClaims
-- ==== Proof.SwvClaims.lean ====
/-
  The windowed attention's values: the kernel's transposed tiles are the reference's product of the two matrices, laid out by head.
-/
module

public import proofs.«01_k».proof.Defs
public import proofs.«01_k».proof.Proof.Gen.Swv.Frame
public import proofs.«01_k».proof.Proof.Gen.SwvIdeal.Value
public import proofs.«01_k».proof.Proof.Gen.SwvRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.SwvIdeal.Body

open Cert.SwvIdeal Cert.SwvIdeal.Gen Idealize.ShloMosaic Idealize.ShloMosaic.TcCoe Idealize.SL.Sem
open Idealize.ShloMosaic.Pipeline (Dat)

/-- The product's element at a column of the staged weights and a staged token. -/
def tile (w : Vec Ideal S128x2048 .bf16) (x : Vec Ideal S1024x2048 .bf16) (d : Fin 128) (i : Fin 1024) : EReal :=
  ∑ k : Fin 2048, @HMul.hMul EReal EReal EReal _ (x (ix2 i k)) (w (ix2 d k))

/-- The body's product. -/
theorem pay1_at (w : Vec Ideal S128x2048 .bf16) (x : Vec Ideal S1024x2048 .bf16) (d : Fin 128) (i : Fin 1024) :
    k0_pay1 w x (ix2 d i) = ∑ k : Fin 2048, @HMul.hMul EReal EReal EReal _ (w (ix2 d k)) (x (ix2 i k)) := by
  pointwise [k0_pay1]

/-- What the body leaves in the result's block. -/
theorem out_at (w : Vec Ideal S128x2048 .bf16) (x : Vec Ideal S1024x2048 .bf16) (b : Fin 4) (d : Fin 128) (e : Fin 256) :
    out0_2 (F := Ideal) w x (ix4 0 b d e) = tile w x d ⟨256 * b.val + e.val, by omega⟩ := by
  have ew : View.ld w r0_0 = w := View.ld_unit_zero (by funext a; fin_cases a <;> rfl) _ w
  have ex : View.ld x r0_1 = x := View.ld_unit_zero (by funext a; fin_cases a <;> rfl) _ x
  unfold out0_2
  rw [ew, ex]
  refine (Value.canon2_eq w x (ix4 0 b d e)).trans ?_
  refine Eq.trans ?_ ((pay1_at w x d ⟨256 * b.val + e.val, by omega⟩).trans (Finset.sum_congr rfl fun k _ => mul_comm _ _))
  refine congrArg (k0_pay1 (F := Ideal) w x) ?_
  funext a
  fin_cases a
  · rfl
  · exact Fin.ext (show b.val * 256 + e.val = 256 * b.val + e.val by omega)

variable (m : (ℓ : Loc nD τ sig) → Buf (Elt Ideal) ℓ) (c : Dev nD)

/-- The grid's indices of the windows: a block of tokens and a head. -/
theorem idx : ∀ t : Fin cfg0.N, win0_0.index t = ![(grid0.coords t 1).val, 0] ∧ win0_1.index t = ![(grid0.coords t 0).val, 0]
    ∧ win0_2.index t = ![(grid0.coords t 1).val, (grid0.coords t 0).val, 0, 0] := by
  decide +kernel

/-- A grid point's head. -/
def hd (t : Fin cfg0.N) : Fin 4 := ⟨(grid0.coords t 1).val, (grid0.coords t 1).isLt⟩

/-- A grid point's block `b` of tokens. -/
def row (t : Fin cfg0.N) (b : Fin 4) : Fin 32 :=
  ⟨4 * (grid0.coords t 0).val + b.val, by have : (grid0.coords t 0).val < 8 := (grid0.coords t 0).isLt; omega⟩

/-- The prepared weights. -/
theorem w_at (d : Fin 512) (k : Fin 2048) : V m c main_v1 (ix2 d k) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (b : Fin 4) (e : Fin 256) (k : Fin 2048) :
    iblk m c 1 t (ix2 ⟨256 * b.val + e.val, by omega⟩ k) = m ((c : Thread nD τ).loc main_arg0) (ix2 ⟨256 * (row t b).val + e.val, by omega⟩ k) := by
  refine Eq.trans ?_ (congrFun (V_main_arg0 m c) (ix2 ⟨256 * (row t b).val + e.val, by omega⟩ k))
  blk_ext [iblk, idx t, row]

/-- The staged weights. -/
theorem blk_w (t : Fin cfg0.N) (d : Fin 128) (k : Fin 2048) : iblk m c 0 t (ix2 d k) = m ((c : Thread nD τ).loc main_arg1) (ix2 k ⟨128 * (hd t).val + d.val, by omega⟩) := by
  refine Eq.trans ?_ (w_at m c ⟨128 * (hd t).val + d.val, by omega⟩ k)
  blk_ext [iblk, idx t, hd]

/-- The product of tokens and weights at a head, a block of tokens, a column of the head and a token of the block. -/
def prod (h : Fin 4) (b : Fin 32) (d : Fin 128) (e : Fin 256) : EReal :=
  ∑ k : Fin 2048, @HMul.hMul EReal EReal EReal _ (m ((c : Thread nD τ).loc main_arg0) (ix2 ⟨256 * b.val + e.val, by omega⟩ k)) (m ((c : Thread nD τ).loc main_arg1) (ix2 k ⟨128 * h.val + d.val, by omega⟩))

/-- The result's array by coordinates. -/
def result : Vec Ideal S4x32x128x256 .bf16 := fun i => prod m c (i 0 : Fin 4) (i 1 : Fin 32) (i 2 : Fin 128) (i 3 : Fin 256)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1 := (y 0).isLt
  have hy1 : (y 1).val < 4 := (y 1).isLt
  have hy2 : (y 2).val < 128 := (y 2).isLt
  have hy3 : (y 3).val < 256 := (y 3).isLt
  have ez : ((cfg0.win 2).blk t).view.emb y = ix4 (hd t) (row t ⟨(y 1).val, hy1⟩) ⟨(y 2).val, hy2⟩ ⟨(y 3).val, hy3⟩ := by
    blk_ext [idx t, row, hd]
  refine Eq.trans ?_ (congrArg (result m c) ez.symm)
  refine Eq.trans ?_ ((out_at (iblk m c 0 t) (iblk m c 1 t) ⟨(y 1).val, hy1⟩ ⟨(y 2).val, hy2⟩ ⟨(y 3).val, hy3⟩).trans ?_)
  · refine congrArg (out0_2 (F := Ideal) (iblk m c 0 t) (iblk m c 1 t)) ?_
    funext a
    fin_cases a
    · exact Fin.ext (show (y 0).val = 0 by omega)
    all_goals rfl
  · exact Finset.sum_congr rfl fun k _ => congr (congrArg _ (blk_x m c t ⟨(y 1).val, hy1⟩ ⟨(y 3).val, hy3⟩ k)) (blk_w m c t ⟨(y 2).val, hy2⟩ k)

end Cert.SwvIdeal.Body

namespace Cert.SwvRefIdeal.Body

open Cert.SwvRefIdeal Cert.SwvRefIdeal.Gen Idealize.ShloMosaic Idealize.ShloMosaic.TcCoe

/-- The reference's result at an index. -/
theorem res_at (a0 : FVec Ideal S8192x2048 .bf16) (a1 : FVec Ideal S2048x512 .f32) (h : Fin 4) (b : Fin 32) (d : Fin 128) (e : Fin 256) :
    truncf .bf16 (transpose S4x32x128x256 [2, 0, 3, 1] (shapeCast _ (Host.dotGeneral dot_S8192x2048_S2048x512_S8192x512_1_0_0_1_n_n none (extf .f32 a0 bitsLt_bf16_f32) a1) shapeCasts_S8192x512_S32x256x4x128) transposes_S32x256x4x128_S4x32x128x256_2_0_3_1) bitsLt_bf16_f32 (ix4 h b d e)
      = ∑ k : Fin 2048, @HMul.hMul EReal EReal EReal _ (a0 (ix2 ⟨256 * b.val + e.val, by omega⟩ k)) (a1 (ix2 k ⟨128 * h.val + d.val, by omega⟩)) := by
  pointwise
  exact Finset.sum_congr rfl fun k _ => congr (congrArg _ (congrArg a0 (congrFun (congrArg ix2 (Fin.ext (by dsimp only; omega))) k))) (congrArg a1 (congrArg (ix2 k) (Fin.ext (by dsimp only; omega))))

end Cert.SwvRefIdeal.Body

namespace Cert.Proof.SwvClaims

open Idealize.ShloMosaic Idealize.ShloMosaic.TcCoe Idealize.SL.Sem

/-- The reference ends with its arguments and every counter as they were. -/
theorem frame_ref : Cert.quiescent_SwvRefIdeal := fun m ρ _ =>
  (θ_run Cert.SwvRefIdeal.defs _ _).mono (fun r h => ⟨fun c => (h c).2, sem_eq_zero_of_no_sems (by decide) r.2⟩)
    (Cert.SwvRefIdeal.Value.run (F := Ideal) m ρ)

/-- Kernel and reference leave the same array. -/
theorem algebraic : Cert.algebraic_SwvIdeal_SwvRefIdeal := by
  intro m ρ m' ρ' _ hagree
  refine ⟨fun c => Cert.SwvIdeal.Body.result m c,
    (θ_run Cert.SwvIdeal.defs _ _).mono (fun r h c => ⟨(h c).1.trans (Cert.SwvIdeal.Body.arr m c), (h c).2⟩)
      (Cert.SwvIdeal.Value.run_blocks m ρ), ?_⟩
  refine (θ_run Cert.SwvRefIdeal.defs _ _).mono (fun r h c => ⟨(h c).1.trans ?_, (h c).2⟩) (Cert.SwvRefIdeal.Value.run (F := Ideal) m' ρ')
  obtain ⟨h0, h1⟩ := hagree c
  rw [h0, h1]
  funext i
  have ei : i = ix4 (i 0 : Fin 4) (i 1 : Fin 32) (i 2 : Fin 128) (i 3 : Fin 256) := by funext a; fin_cases a <;> rfl
  rw [ei]
  exact Cert.SwvRefIdeal.Body.res_at _ _ (i 0 : Fin 4) (i 1 : Fin 32) (i 2 : Fin 128) (i 3 : Fin 256)

end Cert.Proof.SwvClaims
-- ==== Proof.MlvClaims.lean ====
/-
  The latent attention's values: the kernel's transposed tiles are the reference's product of the two matrices, laid out by head.
-/
module

public import proofs.«01_k».proof.Defs
public import proofs.«01_k».proof.Proof.Gen.Mlv.Frame
public import proofs.«01_k».proof.Proof.Gen.MlvIdeal.Value
public import proofs.«01_k».proof.Proof.Gen.MlvRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MlvIdeal.Body

open Cert.MlvIdeal Cert.MlvIdeal.Gen Idealize.ShloMosaic Idealize.ShloMosaic.TcCoe Idealize.SL.Sem
open Idealize.ShloMosaic.Pipeline (Dat)

/-- The product's element at a column of the staged weights and a staged token. -/
def tile (w : Vec Ideal S128x256 .bf16) (x : Vec Ideal S1024x256 .bf16) (d : Fin 128) (i : Fin 1024) : EReal :=
  ∑ k : Fin 256, @HMul.hMul EReal EReal EReal _ (x (ix2 i k)) (w (ix2 d k))

/-- The body's product. -/
theorem pay1_at (w : Vec Ideal S128x256 .bf16) (x : Vec Ideal S1024x256 .bf16) (d : Fin 128) (i : Fin 1024) :
    k0_pay1 w x (ix2 d i) = ∑ k : Fin 256, @HMul.hMul EReal EReal EReal _ (w (ix2 d k)) (x (ix2 i k)) := by
  pointwise [k0_pay1]

/-- What the body leaves in the result's block. -/
theorem out_at (w : Vec Ideal S128x256 .bf16) (x : Vec Ideal S1024x256 .bf16) (b : Fin 4) (d : Fin 128) (e : Fin 256) :
    out0_2 (F := Ideal) w x (ix4 0 b d e) = tile w x d ⟨256 * b.val + e.val, by omega⟩ := by
  have ew : View.ld w r0_0 = w := View.ld_unit_zero (by funext a; fin_cases a <;> rfl) _ w
  have ex : View.ld x r0_1 = x := View.ld_unit_zero (by funext a; fin_cases a <;> rfl) _ x
  unfold out0_2
  rw [ew, ex]
  refine (Value.canon2_eq w x (ix4 0 b d e)).trans ?_
  refine Eq.trans ?_ ((pay1_at w x d ⟨256 * b.val + e.val, by omega⟩).trans (Finset.sum_congr rfl fun k _ => mul_comm _ _))
  refine congrArg (k0_pay1 (F := Ideal) w x) ?_
  funext a
  fin_cases a
  · rfl
  · exact Fin.ext (show b.val * 256 + e.val = 256 * b.val + e.val by omega)

variable (m : (ℓ : Loc nD τ sig) → Buf (Elt Ideal) ℓ) (c : Dev nD)

/-- The grid's indices of the windows: a block of tokens and a head. -/
theorem idx : ∀ t : Fin cfg0.N, win0_0.index t = ![(grid0.coords t 1).val, 0] ∧ win0_1.index t = ![(grid0.coords t 0).val, 0]
    ∧ win0_2.index t = ![(grid0.coords t 1).val, (grid0.coords t 0).val, 0, 0] := by
  decide +kernel

/-- A grid point's head. -/
def hd (t : Fin cfg0.N) : Fin 16 := ⟨(grid0.coords t 1).val, (grid0.coords t 1).isLt⟩

/-- A grid point's block `b` of tokens. -/
def row (t : Fin cfg0.N) (b : Fin 4) : Fin 32 :=
  ⟨4 * (grid0.coords t 0).val + b.val, by have : (grid0.coords t 0).val < 8 := (grid0.coords t 0).isLt; omega⟩

/-- The prepared weights. -/
theorem w_at (d : Fin 2048) (k : Fin 256) : V m c main_v1 (ix2 d k) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (b : Fin 4) (e : Fin 256) (k : Fin 256) :
    iblk m c 1 t (ix2 ⟨256 * b.val + e.val, by omega⟩ k) = m ((c : Thread nD τ).loc main_arg0) (ix2 ⟨256 * (row t b).val + e.val, by omega⟩ k) := by
  refine Eq.trans ?_ (congrFun (V_main_arg0 m c) (ix2 ⟨256 * (row t b).val + e.val, by omega⟩ k))
  blk_ext [iblk, idx t, row]

/-- The staged weights. -/
theorem blk_w (t : Fin cfg0.N) (d : Fin 128) (k : Fin 256) : iblk m c 0 t (ix2 d k) = m ((c : Thread nD τ).loc main_arg1) (ix2 k ⟨128 * (hd t).val + d.val, by omega⟩) := by
  refine Eq.trans ?_ (w_at m c ⟨128 * (hd t).val + d.val, by omega⟩ k)
  blk_ext [iblk, idx t, hd]

/-- The product of tokens and weights at a head, a block of tokens, a column of the head and a token of the block. -/
def prod (h : Fin 16) (b : Fin 32) (d : Fin 128) (e : Fin 256) : EReal :=
  ∑ k : Fin 256, @HMul.hMul EReal EReal EReal _ (m ((c : Thread nD τ).loc main_arg0) (ix2 ⟨256 * b.val + e.val, by omega⟩ k)) (m ((c : Thread nD τ).loc main_arg1) (ix2 k ⟨128 * h.val + d.val, by omega⟩))

/-- The result's array by coordinates. -/
def result : Vec Ideal S16x32x128x256 .bf16 := fun i => prod m c (i 0 : Fin 16) (i 1 : Fin 32) (i 2 : Fin 128) (i 3 : Fin 256)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1 := (y 0).isLt
  have hy1 : (y 1).val < 4 := (y 1).isLt
  have hy2 : (y 2).val < 128 := (y 2).isLt
  have hy3 : (y 3).val < 256 := (y 3).isLt
  have ez : ((cfg0.win 2).blk t).view.emb y = ix4 (hd t) (row t ⟨(y 1).val, hy1⟩) ⟨(y 2).val, hy2⟩ ⟨(y 3).val, hy3⟩ := by
    blk_ext [idx t, row, hd]
  refine Eq.trans ?_ (congrArg (result m c) ez.symm)
  refine Eq.trans ?_ ((out_at (iblk m c 0 t) (iblk m c 1 t) ⟨(y 1).val, hy1⟩ ⟨(y 2).val, hy2⟩ ⟨(y 3).val, hy3⟩).trans ?_)
  · refine congrArg (out0_2 (F := Ideal) (iblk m c 0 t) (iblk m c 1 t)) ?_
    funext a
    fin_cases a
    · exact Fin.ext (show (y 0).val = 0 by omega)
    all_goals rfl
  · exact Finset.sum_congr rfl fun k _ => congr (congrArg _ (blk_x m c t ⟨(y 1).val, hy1⟩ ⟨(y 3).val, hy3⟩ k)) (blk_w m c t ⟨(y 2).val, hy2⟩ k)

end Cert.MlvIdeal.Body

namespace Cert.MlvRefIdeal.Body

open Cert.MlvRefIdeal Cert.MlvRefIdeal.Gen Idealize.ShloMosaic Idealize.ShloMosaic.TcCoe

/-- The reference's result at an index. -/
theorem res_at (a0 : FVec Ideal S8192x256 .bf16) (a1 : FVec Ideal S256x2048 .f32) (h : Fin 16) (b : Fin 32) (d : Fin 128) (e : Fin 256) :
    truncf .bf16 (transpose S16x32x128x256 [2, 0, 3, 1] (shapeCast _ (Host.dotGeneral dot_S8192x256_S256x2048_S8192x2048_1_0_0_1_n_n none (extf .f32 a0 bitsLt_bf16_f32) a1) shapeCasts_S8192x2048_S32x256x16x128) transposes_S32x256x16x128_S16x32x128x256_2_0_3_1) bitsLt_bf16_f32 (ix4 h b d e)
      = ∑ k : Fin 256, @HMul.hMul EReal EReal EReal _ (a0 (ix2 ⟨256 * b.val + e.val, by omega⟩ k)) (a1 (ix2 k ⟨128 * h.val + d.val, by omega⟩)) := by
  pointwise
  exact Finset.sum_congr rfl fun k _ => congr (congrArg _ (congrArg a0 (congrFun (congrArg ix2 (Fin.ext (by dsimp only; omega))) k))) (congrArg a1 (congrArg (ix2 k) (Fin.ext (by dsimp only; omega))))

end Cert.MlvRefIdeal.Body

namespace Cert.Proof.MlvClaims

open Idealize.ShloMosaic Idealize.ShloMosaic.TcCoe Idealize.SL.Sem

/-- The reference ends with its arguments and every counter as they were. -/
theorem frame_ref : Cert.quiescent_MlvRefIdeal := fun m ρ _ =>
  (θ_run Cert.MlvRefIdeal.defs _ _).mono (fun r h => ⟨fun c => (h c).2, sem_eq_zero_of_no_sems (by decide) r.2⟩)
    (Cert.MlvRefIdeal.Value.run (F := Ideal) m ρ)

/-- Kernel and reference leave the same array. -/
theorem algebraic : Cert.algebraic_MlvIdeal_MlvRefIdeal := by
  intro m ρ m' ρ' _ hagree
  refine ⟨fun c => Cert.MlvIdeal.Body.result m c,
    (θ_run Cert.MlvIdeal.defs _ _).mono (fun r h c => ⟨(h c).1.trans (Cert.MlvIdeal.Body.arr m c), (h c).2⟩)
      (Cert.MlvIdeal.Value.run_blocks m ρ), ?_⟩
  refine (θ_run Cert.MlvRefIdeal.defs _ _).mono (fun r h c => ⟨(h c).1.trans ?_, (h c).2⟩) (Cert.MlvRefIdeal.Value.run (F := Ideal) m' ρ')
  obtain ⟨h0, h1⟩ := hagree c
  rw [h0, h1]
  funext i
  have ei : i = ix4 (i 0 : Fin 16) (i 1 : Fin 32) (i 2 : Fin 128) (i 3 : Fin 256) := by funext a; fin_cases a <;> rfl
  rw [ei]
  exact Cert.MlvRefIdeal.Body.res_at _ _ (i 0 : Fin 16) (i 1 : Fin 32) (i 2 : Fin 128) (i 3 : Fin 256)

end Cert.Proof.MlvClaims
-- ==== Proof.Rows.lean ====
/-
  The norm of a row over the root of its mean square, and the words of the widths met.
-/
module

public import Idealize.ShloMosaic.Lib.Pointwise
public import Idealize.ShloMosaic.Lib.Claim

@[expose] public section

noncomputable section

namespace RowMath

open Idealize.ShloMosaic

/-- A row over the root of its mean square, weighted; `z` is the word of one over the width. -/
def nrm {n : Nat} (z : BitVec 32) (v : Fin n → EReal) (g : Fin n → EReal) (d : Fin n) : EReal :=
  v d * Ideal.rsqrt ((∑ e : Fin n, v e * v e) * Ideal.ofBits .f32 z + Ideal.ofBits .f32 897988541#32) * g d

/-- Dividing by a word's real is multiplying by the word of its inverse. -/
theorem mean_of (x : EReal) (y z : BitVec 32) (r : ℝ) (h0 : r ≠ 0) (hy : Ideal.ofBits .f32 y = (r : EReal)) (hz : Ideal.ofBits .f32 z = ((r⁻¹ : ℝ) : EReal)) :
    Ideal.div x (Ideal.ofBits .f32 y) = x * Ideal.ofBits .f32 z := by
  rw [hy, hz]
  unfold Ideal.div
  rw [if_neg (by exact_mod_cast h0), ← EReal.coe_inv]

/-- Dividing by 512 is multiplying by its inverse. -/
theorem mean_512 (x : EReal) : Ideal.div x (Ideal.ofBits .f32 0x44000000#32) = x * Ideal.ofBits .f32 0x3B000000#32 := by
  refine mean_of x _ _ 512 (by norm_num) ?_ ?_
  · show Ideal.ieee 8 23 (0x44000000#32) = ((512 : ℝ) : EReal)
    unfold Ideal.ieee
    dsimp only
    rw [if_neg (by decide), if_neg (by decide)]
    have h1 : (BitVec.extractLsb' (8 + 23) 1 0x44000000#32 == 1#1) = false := by decide
    have h2 : (BitVec.extractLsb' 23 8 0x44000000#32).toNat = 136 := by decide
    have h3 : (BitVec.extractLsb' 0 23 0x44000000#32).toNat = 0 := by decide
    rw [h1, h2, h3]
    refine congrArg _ ?_
    norm_num
  · show Ideal.ieee 8 23 (0x3B000000#32) = (((512 : ℝ)⁻¹ : ℝ) : EReal)
    unfold Ideal.ieee
    dsimp only
    rw [if_neg (by decide), if_neg (by decide)]
    have h1 : (BitVec.extractLsb' (8 + 23) 1 0x3B000000#32 == 1#1) = false := by decide
    have h2 : (BitVec.extractLsb' 23 8 0x3B000000#32).toNat = 118 := by decide
    have h3 : (BitVec.extractLsb' 0 23 0x3B000000#32).toNat = 0 := by decide
    rw [h1, h2, h3]
    refine congrArg _ ?_
    norm_num

/-- Dividing by 256 is multiplying by its inverse. -/
theorem mean_256 (x : EReal) : Ideal.div x (Ideal.ofBits .f32 0x43800000#32) = x * Ideal.ofBits .f32 0x3B800000#32 := by
  refine mean_of x _ _ 256 (by norm_num) ?_ ?_
  · show Ideal.ieee 8 23 (0x43800000#32) = ((256 : ℝ) : EReal)
    unfold Ideal.ieee
    dsimp only
    rw [if_neg (by decide), if_neg (by decide)]
    have h1 : (BitVec.extractLsb' (8 + 23) 1 0x43800000#32 == 1#1) = false := by decide
    have h2 : (BitVec.extractLsb' 23 8 0x43800000#32).toNat = 135 := by decide
    have h3 : (BitVec.extractLsb' 0 23 0x43800000#32).toNat = 0 := by decide
    rw [h1, h2, h3]
    refine congrArg _ ?_
    norm_num
  · show Ideal.ieee 8 23 (0x3B800000#32) = (((256 : ℝ)⁻¹ : ℝ) : EReal)
    unfold Ideal.ieee
    dsimp only
    rw [if_neg (by decide), if_neg (by decide)]
    have h1 : (BitVec.extractLsb' (8 + 23) 1 0x3B800000#32 == 1#1) = false := by decide
    have h2 : (BitVec.extractLsb' 23 8 0x3B800000#32).toNat = 119 := by decide
    have h3 : (BitVec.extractLsb' 0 23 0x3B800000#32).toNat = 0 := by decide
    rw [h1, h2, h3]
    refine congrArg _ ?_
    norm_num

/-- Dividing by 64 is multiplying by its inverse. -/
theorem mean_64 (x : EReal) : Ideal.div x (Ideal.ofBits .f32 0x42800000#32) = x * Ideal.ofBits .f32 0x3C800000#32 := by
  refine mean_of x _ _ 64 (by norm_num) ?_ ?_
  · show Ideal.ieee 8 23 (0x42800000#32) = ((64 : ℝ) : EReal)
    unfold Ideal.ieee
    dsimp only
    rw [if_neg (by decide), if_neg (by decide)]
    have h1 : (BitVec.extractLsb' (8 + 23) 1 0x42800000#32 == 1#1) = false := by decide
    have h2 : (BitVec.extractLsb' 23 8 0x42800000#32).toNat = 133 := by decide
    have h3 : (BitVec.extractLsb' 0 23 0x42800000#32).toNat = 0 := by decide
    rw [h1, h2, h3]
    refine congrArg _ ?_
    norm_num
  · show Ideal.ieee 8 23 (0x3C800000#32) = (((64 : ℝ)⁻¹ : ℝ) : EReal)
    unfold Ideal.ieee
    dsimp only
    rw [if_neg (by decide), if_neg (by decide)]
    have h1 : (BitVec.extractLsb' (8 + 23) 1 0x3C800000#32 == 1#1) = false := by decide
    have h2 : (BitVec.extractLsb' 23 8 0x3C800000#32).toNat = 121 := by decide
    have h3 : (BitVec.extractLsb' 0 23 0x3C800000#32).toNat = 0 := by decide
    rw [h1, h2, h3]
    refine congrArg _ ?_
    norm_num

end RowMath
-- ==== Proof.McqClaims.lean ====
/-
  The latent mixer's low-rank rows of the queries: the kernel's rows are the reference's, normed.
-/
module

public import proofs.«01_k».proof.Defs
public import proofs.«01_k».proof.Proof.Rows
public import proofs.«01_k».proof.Proof.Gen.Mcq.Frame
public import proofs.«01_k».proof.Proof.Gen.McqIdeal.Value
public import proofs.«01_k».proof.Proof.Gen.McqRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.McqIdeal.Body

open Cert.McqIdeal Cert.McqIdeal.Gen Idealize.ShloMosaic Idealize.ShloMosaic.TcCoe Idealize.SL.Sem
open Idealize.ShloMosaic.Pipeline (Dat)

/-- A tile: the row of token `i` with the staged weights, normed, at column `d`. -/
def tile (x : Vec Ideal S1024x2048 .bf16) (w : Vec Ideal S2048x512 .bf16) (g : Vec Ideal S1x512 .f32) (i : Fin 1024) (d : Fin 512) : EReal :=
  RowMath.nrm 0x3B000000#32 (fun e : Fin 512 => ∑ k : Fin 2048, @HMul.hMul EReal EReal EReal _ (x (ix2 i k)) (w (ix2 k e))) (fun e => g (ix2 0 e)) d

/-- A chunk's product. -/
theorem pay2_at (a : Vec Ideal S256x2048 .bf16) (w : Vec Ideal S2048x512 .bf16) (j : Fin 256) (d : Fin 512) :
    k0_pay2 a w (ix2 j d) = ∑ k : Fin 2048, @HMul.hMul EReal EReal EReal _ (a (ix2 j k)) (w (ix2 k d)) := by
  pointwise [k0_pay2]

/-- A chunk's rows normed, as stored. -/
def normed (v : FVec Ideal S256x512 .f32) (g : Vec Ideal S1x512 .f32) : FVec Ideal S256x512 .bf16 :=
  truncf .bf16 (mulf (mulf v (broadcastTo S256x512 (rsqrt (addf (mulf (shapeCast S256x1 (multiReduction .add [1] S256 (mulf v v) 0x00000000#32 reduces_S256x512_S256 (.inl rfl) rfl) shapeCasts_S256_S256x1) (broadcast S256x1 (Scalar.ofBits .f32 0x3B000000#32))) (broadcast S256x1 (Scalar.ofBits .f32 0x358637BD#32)))) broadcasts_S256x1_S256x512))
    (broadcastTo S256x512 (shapeCast S1x512 g shapeCasts_S1x512_S1x512) broadcasts_S1x512_S256x512)) bitsLt_bf16_f32

/-- A chunk's normed rows at an index. -/
theorem normed_at (v : FVec Ideal S256x512 .f32) (g : Vec Ideal S1x512 .f32) (j : Fin 256) (d : Fin 512) :
    normed v g (ix2 j d) = RowMath.nrm 0x3B000000#32 (fun e => v (ix2 j e)) (fun e => g (ix2 0 e)) d := by
  pointwise [normed]
  rfl

/-- The loads of chunk `o`'s rows and of all the weights give its rows of the tile. -/
theorem tile_of (x : Vec Ideal S1024x2048 .bf16) (w : Vec Ideal S2048x512 .bf16) (g : Vec Ideal S1x512 .f32) (o : Nat) (ho : o + 256 ≤ 1024)
    (h : ∀ a, (![o, 0] : Fin 2 → Nat) a + S256x2048.size a ≤ S1024x2048.size a) (h' : ∀ a, (![0, 0] : Fin 2 → Nat) a + S2048x512.size a ≤ S2048x512.size a)
    (h2 : ∀ a, (![0, 0] : Fin 2 → Nat) a + S1x512.size a ≤ S1x512.size a) (j : Fin 256) (d : Fin 512) :
    normed (k0_pay2 (F := Ideal) (View.ld x (Rect.unit (s := S1024x2048) ![o, 0] S256x2048.size h)) (View.ld w (Rect.unit (s := S2048x512) ![0, 0] S2048x512.size h')))
        (View.ld g (Rect.unit (s := S1x512) ![0, 0] S1x512.size h2)) (ix2 j d)
      = tile x w g ⟨o + j.val, by omega⟩ d := by
  have ev : ∀ e : Fin 512, k0_pay2 (F := Ideal) (View.ld x (Rect.unit (s := S1024x2048) ![o, 0] S256x2048.size h)) (View.ld w (Rect.unit (s := S2048x512) ![0, 0] S2048x512.size h')) (ix2 j e)
      = ∑ k : Fin 2048, @HMul.hMul EReal EReal EReal _ (x (ix2 ⟨o + j.val, by omega⟩ k)) (w (ix2 k e)) := fun e => by
    refine (pay2_at _ _ j e).trans (Finset.sum_congr rfl fun k _ => ?_)
    refine congr (congrArg _ (congrArg x ?_)) (congrArg w ?_)
    · funext a; fin_cases a <;> exact Fin.ext (by simp [Rect.unit, Rect.emb, ix2])
    · funext a; fin_cases a <;> exact Fin.ext (by simp [Rect.unit, Rect.emb, ix2])
  have eg : ∀ e : Fin 512, View.ld g (Rect.unit (s := S1x512) ![0, 0] S1x512.size h2) (ix2 0 e) = g (ix2 0 e) := fun e => congrArg g (by
    funext a; fin_cases a <;> exact Fin.ext (by simp [Rect.unit, Rect.emb, ix2]))
  exact (normed_at _ _ j d).trans (congr (congr (congrArg (RowMath.nrm 0x3B000000#32) (funext ev)) (funext eg)) rfl)

/-- What the body leaves in the result's block. -/
theorem out_at (x : Vec Ideal S1024x2048 .bf16) (w : Vec Ideal S2048x512 .bf16) (g : Vec Ideal S1x512 .f32) (y : S1024x512.Idx) :
    out0_3 (F := Ideal) x w g y = tile x w g (y 0 : Fin 1024) (y 1 : Fin 512) := by
  unfold out0_3
  refine View.canon_apply_of_pieces (Val := Elt Ideal) (fun y : S1024x512.Idx => tile x w g (y 0 : Fin 1024) (y 1 : Fin 512)) _ ?_ y (cover0_3 _ _ _ _ y)
  intro p hp z
  have ez : ∀ z : S256x512.Idx, z = ix2 (z 0 : Fin 256) (z 1 : Fin 512) := fun z => by funext a; fin_cases a <;> rfl
  simp only [List.mem_cons, List.mem_nil_iff, or_false] at hp
  rcases hp with rfl | rfl | rfl | rfl
  · refine (congrArg _ (ez z)).trans ((tile_of x w g 768 (by norm_num) _ _ _ (z 0 : Fin 256) (z 1 : Fin 512)).trans ?_)
    exact congr (congrArg (tile x w g) (Fin.ext (by simp [Rect.unit, Rect.emb]))) (Fin.ext (by simp [Rect.unit, Rect.emb]))
  · refine (congrArg _ (ez z)).trans ((tile_of x w g 512 (by norm_num) _ _ _ (z 0 : Fin 256) (z 1 : Fin 512)).trans ?_)
    exact congr (congrArg (tile x w g) (Fin.ext (by simp [Rect.unit, Rect.emb]))) (Fin.ext (by simp [Rect.unit, Rect.emb]))
  · refine (congrArg _ (ez z)).trans ((tile_of x w g 256 (by norm_num) _ _ _ (z 0 : Fin 256) (z 1 : Fin 512)).trans ?_)
    exact congr (congrArg (tile x w g) (Fin.ext (by simp [Rect.unit, Rect.emb]))) (Fin.ext (by simp [Rect.unit, Rect.emb]))
  · refine (congrArg _ (ez z)).trans ((tile_of x w g 0 (by norm_num) _ _ _ (z 0 : Fin 256) (z 1 : Fin 512)).trans ?_)
    exact congr (congrArg (tile x w g) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens. -/
theorem idx : ∀ t : Fin cfg0.N, win0_0.index t = ![(grid0.coords t 0).val, 0] ∧ win0_1.index t = ![0, 0] ∧ win0_2.index t = ![0, 0]
    ∧ win0_3.index t = ![(grid0.coords t 0).val, 0] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- The prepared weights. -/
theorem w_at (k : Fin 2048) (d : Fin 512) : V m c main_v0 (ix2 k d) = m ((c : Thread nD τ).loc main_arg1) (ix2 k d) := by
  show StableHlo.after hostOps0 (fun b => m (c, b)) (Proc.tc.devRef _) _ = _
  simp only [hostOps0]
  after_reads_at

/-- The prepared weights of the norm. -/
theorem g_at (d : Fin 512) : V m c main_v1 (ix2 0 d) = m ((c : Thread nD τ).loc main_arg2) (ix1 d) := by
  show StableHlo.after hostOps0 (fun b => m (c, b)) (Proc.tc.devRef _) _ = _
  simp only [hostOps0]
  after_reads_at

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k d) := by
  refine Eq.trans ?_ (w_at m c k d)
  blk_ext [iblk, idx t]

/-- The staged weights of the norm. -/
theorem blk_g (t : Fin cfg0.N) (d : Fin 512) : iblk m c 2 t (ix2 0 d) = m ((c : Thread nD τ).loc main_arg2) (ix1 d) := by
  refine Eq.trans ?_ (g_at m c d)
  blk_ext [iblk, idx t]

/-- The product of tokens and weights, its rows normed. -/
def val (n : Fin 8192) (d : Fin 512) : EReal :=
  RowMath.nrm 0x3B000000#32 (fun e : Fin 512 => ∑ k : Fin 2048, @HMul.hMul EReal EReal EReal _ (m ((c : Thread nD τ).loc main_arg0) (ix2 n k)) (m ((c : Thread nD τ).loc main_arg1) (ix2 k e)))
    (fun e => m ((c : Thread nD τ).loc main_arg2) (ix1 e)) d

/-- The result's array by coordinates. -/
def result : Vec Ideal S8192x512 .bf16 := fun i => val m c (i 0 : Fin 8192) (i 1 : Fin 512)

/-- The result's array after the run. -/
theorem arr : (dats m 0 c).arrAt 3 cfg0.N = result m c := by
  refine (dats m 0 c).arrAt_eq_of_covers 3 _ (by decide +kernel) (fun t hf y => ?_)
  refine (congrFun (Value.flushed3 m c t) y).trans ?_
  have hy0 : (y 0).val < 1024 := (y 0).isLt
  have hy1 : (y 1).val < 512 := (y 1).isLt
  have ez : ((cfg0.win 3).blk t).view.emb y = ix2 (row t ⟨(y 0).val, hy0⟩) (⟨(y 1).val, hy1⟩ : Fin 512) := by
    blk_ext [idx t, row]
  refine Eq.trans ?_ (congrArg (result m c) ez.symm)
  refine Eq.trans ?_ ((out_at (iblk m c 0 t) (iblk m c 1 t) (iblk m c 2 t) (ix2 ⟨(y 0).val, hy0⟩ ⟨(y 1).val, hy1⟩)).trans ?_)
  · exact congrArg _ (by funext a; fin_cases a <;> rfl)
  · have ev : ∀ e : Fin 512, (∑ k : Fin 2048, @HMul.hMul EReal EReal EReal _ (iblk m c 0 t (ix2 (⟨(y 0).val, hy0⟩ : Fin 1024) k)) (iblk m c 1 t (ix2 k e)))
        = ∑ k : Fin 2048, @HMul.hMul EReal EReal EReal _ (m ((c : Thread nD τ).loc main_arg0) (ix2 (row t ⟨(y 0).val, hy0⟩) k)) (m ((c : Thread nD τ).loc main_arg1) (ix2 k e)) :=
      fun e => Finset.sum_congr rfl fun k _ => congr (congrArg _ (blk_x m c t ⟨(y 0).val, hy0⟩ k)) (blk_w m c t k e)
    exact congr (congr (congrArg (RowMath.nrm 0x3B000000#32) (funext ev)) (funext fun e => blk_g m c t e)) rfl

end Cert.McqIdeal.Body

namespace Cert.McqRefIdeal.Body

open Cert.McqRefIdeal Cert.McqRefIdeal.Gen Idealize.ShloMosaic Idealize.ShloMosaic.TcCoe

/-- The reference's product. -/
def prod (a0 : FVec Ideal S8192x2048 .bf16) (a1 : FVec Ideal S2048x512 .f32) : FVec Ideal S8192x512 .f32 :=
  Host.dotGeneral dot_S8192x2048_S2048x512_S8192x512_1_0_0_1_n_n none (extf .f32 a0 bitsLt_bf16_f32) a1

/-- The reference's product at an index. -/
theorem prod_at (a0 : FVec Ideal S8192x2048 .bf16) (a1 : FVec Ideal S2048x512 .f32) (n : Fin 8192) (d : Fin 512) :
    prod a0 a1 (ix2 n d) = ∑ k : Fin 2048, @HMul.hMul EReal EReal EReal _ (a0 (ix2 n k)) (a1 (ix2 k d)) := by
  pointwise [prod]

/-- The reference's rows normed. -/
def normed (p : FVec Ideal S8192x512 .f32) (a2 : FVec Ideal S512 .f32) : FVec Ideal S8192x512 .bf16 :=
  truncf .bf16 (mulf (mulf p (broadcastInDim S8192x512 ![0, 1] bcast_S8192x1_S8192x512_0_1 (Host.rsqrt (addf (Host.divf (broadcastInDim S8192x1 ![0] bcast_S8192_S8192x1_0 (Host.reduceAdd (mulf p p) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 a2))) bitsLt_bf16_f32

/-- The reference's normed rows at an index. -/
theorem normed_at (p : FVec Ideal S8192x512 .f32) (a2 : FVec Ideal S512 .f32) (n : Fin 8192) (d : Fin 512) :
    normed p a2 (ix2 n d) = RowMath.nrm 0x3B000000#32 (fun e => p (ix2 n e)) (fun e => a2 (ix1 e)) d := by
  unfold RowMath.nrm
  rw [← RowMath.mean_512]
  pointwise [normed]

end Cert.McqRefIdeal.Body

namespace Cert.Proof.McqClaims

open Idealize.ShloMosaic Idealize.ShloMosaic.TcCoe Idealize.SL.Sem

/-- The reference ends with its arguments and every counter as they were. -/
theorem frame_ref : Cert.quiescent_McqRefIdeal := fun m ρ _ =>
  (θ_run Cert.McqRefIdeal.defs _ _).mono (fun r h => ⟨fun c => (h c).2, sem_eq_zero_of_no_sems (by decide) r.2⟩)
    (Cert.McqRefIdeal.Value.run (F := Ideal) m ρ)

/-- Kernel and reference leave the same array. -/
theorem algebraic : Cert.algebraic_McqIdeal_McqRefIdeal := by
  intro m ρ m' ρ' _ hagree
  refine ⟨fun c => Cert.McqIdeal.Body.result m c,
    (θ_run Cert.McqIdeal.defs _ _).mono (fun r h c => ⟨(h c).1.trans (Cert.McqIdeal.Body.arr m c), (h c).2⟩)
      (Cert.McqIdeal.Value.run_blocks m ρ), ?_⟩
  refine (θ_run Cert.McqRefIdeal.defs _ _).mono (fun r h c => ⟨(h c).1.trans ?_, (h c).2⟩) (Cert.McqRefIdeal.Value.run (F := Ideal) m' ρ')
  obtain ⟨h0, h1, h2⟩ := hagree c
  rw [h0, h1, h2]
  funext i
  have ei : i = ix2 (i 0 : Fin 8192) (i 1 : Fin 512) := by funext a; fin_cases a <;> rfl
  refine (congrArg _ ei).trans ?_
  refine (Cert.McqRefIdeal.Body.normed_at (Cert.McqRefIdeal.Body.prod _ _) _ (i 0 : Fin 8192) (i 1 : Fin 512)).trans ?_
  exact congr (congr (congrArg (RowMath.nrm 0x3B000000#32) (funext fun e => Cert.McqRefIdeal.Body.prod_at _ _ (i 0 : Fin 8192) e)) rfl) rfl

end Cert.Proof.McqClaims
-- ==== Proof.MckClaims.lean ====
/-
  The latent mixer's low-rank rows of the keys and values: the kernel's rows are the reference's, normed.
-/
module

public import proofs.«01_k».proof.Defs
public import proofs.«01_k».proof.Proof.Rows
public import proofs.«01_k».proof.Proof.Gen.Mck.Frame
public import proofs.«01_k».proof.Proof.Gen.MckIdeal.Value
public import proofs.«01_k».proof.Proof.Gen.MckRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MckIdeal.Body

open Cert.MckIdeal Cert.MckIdeal.Gen Idealize.ShloMosaic Idealize.ShloMosaic.TcCoe Idealize.SL.Sem
open Idealize.ShloMosaic.Pipeline (Dat)

/-- A tile: the row of token `i` with the staged weights, normed, at column `d`. -/
def tile (x : Vec Ideal S1024x2048 .bf16) (w : Vec Ideal S2048x256 .bf16) (g : Vec Ideal S1x256 .f32) (i : Fin 1024) (d : Fin 256) : EReal :=
  RowMath.nrm 0x3B800000#32 (fun e : Fin 256 => ∑ k : Fin 2048, @HMul.hMul EReal EReal EReal _ (x (ix2 i k)) (w (ix2 k e))) (fun e => g (ix2 0 e)) d

/-- A chunk's product. -/
theorem pay2_at (a : Vec Ideal S256x2048 .bf16) (w : Vec Ideal S2048x256 .bf16) (j : Fin 256) (d : Fin 256) :
    k0_pay2 a w (ix2 j d) = ∑ k : Fin 2048, @HMul.hMul EReal EReal EReal _ (a (ix2 j k)) (w (ix2 k d)) := by
  pointwise [k0_pay2]

/-- A chunk's rows normed, as stored. -/
def normed (v : FVec Ideal S256x256 .f32) (g : Vec Ideal S1x256 .f32) : FVec Ideal S256x256 .bf16 :=
  truncf .bf16 (mulf (mulf v (broadcastTo S256x256 (rsqrt (addf (mulf (shapeCast S256x1 (multiReduction .add [1] S256 (mulf v v) 0x00000000#32 reduces_S256x256_S256 (.inl rfl) rfl) shapeCasts_S256_S256x1) (broadcast S256x1 (Scalar.ofBits .f32 0x3B800000#32))) (broadcast S256x1 (Scalar.ofBits .f32 0x358637BD#32)))) broadcasts_S256x1_S256x256))
    (broadcastTo S256x256 (shapeCast S1x256 g shapeCasts_S1x256_S1x256) broadcasts_S1x256_S256x256)) bitsLt_bf16_f32

/-- A chunk's normed rows at an index. -/
theorem normed_at (v : FVec Ideal S256x256 .f32) (g : Vec Ideal S1x256 .f32) (j : Fin 256) (d : Fin 256) :
    normed v g (ix2 j d) = RowMath.nrm 0x3B800000#32 (fun e => v (ix2 j e)) (fun e => g (ix2 0 e)) d := by
  pointwise [normed]
  rfl

/-- The loads of chunk `o`'s rows and of all the weights give its rows of the tile. -/
theorem tile_of (x : Vec Ideal S1024x2048 .bf16) (w : Vec Ideal S2048x256 .bf16) (g : Vec Ideal S1x256 .f32) (o : Nat) (ho : o + 256 ≤ 1024)
    (h : ∀ a, (![o, 0] : Fin 2 → Nat) a + S256x2048.size a ≤ S1024x2048.size a) (h' : ∀ a, (![0, 0] : Fin 2 → Nat) a + S2048x256.size a ≤ S2048x256.size a)
    (h2 : ∀ a, (![0, 0] : Fin 2 → Nat) a + S1x256.size a ≤ S1x256.size a) (j : Fin 256) (d : Fin 256) :
    normed (k0_pay2 (F := Ideal) (View.ld x (Rect.unit (s := S1024x2048) ![o, 0] S256x2048.size h)) (View.ld w (Rect.unit (s := S2048x256) ![0, 0] S2048x256.size h')))
        (View.ld g (Rect.unit (s := S1x256) ![0, 0] S1x256.size h2)) (ix2 j d)
      = tile x w g ⟨o + j.val, by omega⟩ d := by
  have ev : ∀ e : Fin 256, k0_pay2 (F := Ideal) (View.ld x (Rect.unit (s := S1024x2048) ![o, 0] S256x2048.size h)) (View.ld w (Rect.unit (s := S2048x256) ![0, 0] S2048x256.size h')) (ix2 j e)
      = ∑ k : Fin 2048, @HMul.hMul EReal EReal EReal _ (x (ix2 ⟨o + j.val, by omega⟩ k)) (w (ix2 k e)) := fun e => by
    refine (pay2_at _ _ j e).trans (Finset.sum_congr rfl fun k _ => ?_)
    refine congr (congrArg _ (congrArg x ?_)) (congrArg w ?_)
    · funext a; fin_cases a <;> exact Fin.ext (by simp [Rect.unit, Rect.emb, ix2])
    · funext a; fin_cases a <;> exact Fin.ext (by simp [Rect.unit, Rect.emb, ix2])
  have eg : ∀ e : Fin 256, View.ld g (Rect.unit (s := S1x256) ![0, 0] S1x256.size h2) (ix2 0 e) = g (ix2 0 e) := fun e => congrArg g (by
    funext a; fin_cases a <;> exact Fin.ext (by simp [Rect.unit, Rect.emb, ix2]))
  exact (normed_at _ _ j d).trans (congr (congr (congrArg (RowMath.nrm 0x3B800000#32) (funext ev)) (funext eg)) rfl)

/-- What the body leaves in the result's block. -/
theorem out_at (x : Vec Ideal S1024x2048 .bf16) (w : Vec Ideal S2048x256 .bf16) (g : Vec Ideal S1x256 .f32) (y : S1024x256.Idx) :
    out0_3 (F := Ideal) x w g y = tile x w g (y 0 : Fin 1024) (y 1 : Fin 256) := by
  unfold out0_3
  refine View.canon_apply_of_pieces (Val := Elt Ideal) (fun y : S1024x256.Idx => tile x w g (y 0 : Fin 1024) (y 1 : Fin 256)) _ ?_ y (cover0_3 _ _ _ _ y)
  intro p hp z
  have ez : ∀ z : S256x256.Idx, z = ix2 (z 0 : Fin 256) (z 1 : Fin 256) := fun z => by funext a; fin_cases a <;> rfl
  simp only [List.mem_cons, List.mem_nil_iff, or_false] at hp
  rcases hp with rfl | rfl | rfl | rfl
  · refine (congrArg _ (ez z)).trans ((tile_of x w g 768 (by norm_num) _ _ _ (z 0 : Fin 256) (z 1 : Fin 256)).trans ?_)
    exact congr (congrArg (tile x w g) (Fin.ext (by simp [Rect.unit, Rect.emb]))) (Fin.ext (by simp [Rect.unit, Rect.emb]))
  · refine (congrArg _ (ez z)).trans ((tile_of x w g 512 (by norm_num) _ _ _ (z 0 : Fin 256) (z 1 : Fin 256)).trans ?_)
    exact congr (congrArg (tile x w g) (Fin.ext (by simp [Rect.unit, Rect.emb]))) (Fin.ext (by simp [Rect.unit, Rect.emb]))
  · refine (congrArg _ (ez z)).trans ((tile_of x w g 256 (by norm_num) _ _ _ (z 0 : Fin 256) (z 1 : Fin 256)).trans ?_)
    exact congr (congrArg (tile x w g) (Fin.ext (by simp [Rect.unit, Rect.emb]))) (Fin.ext (by simp [Rect.unit, Rect.emb]))
  · refine (congrArg _ (ez z)).trans ((tile_of x w g 0 (by norm_num) _ _ _ (z 0 : Fin 256) (z 1 : Fin 256)).trans ?_)
    exact congr (congrArg (tile x w g) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens. -/
theorem idx : ∀ t : Fin cfg0.N, win0_0.index t = ![(grid0.coords t 0).val, 0] ∧ win0_1.index t = ![0, 0] ∧ win0_2.index t = ![0, 0]
    ∧ win0_3.index t = ![(grid0.coords t 0).val, 0] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- The prepared weights. -/
theorem w_at (k : Fin 2048) (d : Fin 256) : V m c main_v0 (ix2 k d) = m ((c : Thread nD τ).loc main_arg1) (ix2 k d) := by
  show StableHlo.after hostOps0 (fun b => m (c, b)) (Proc.tc.devRef _) _ = _
  simp only [hostOps0]
  after_reads_at

/-- The prepared weights of the norm. -/
theorem g_at (d : Fin 256) : V m c main_v1 (ix2 0 d) = m ((c : Thread nD τ).loc main_arg2) (ix1 d) := by
  show StableHlo.after hostOps0 (fun b => m (c, b)) (Proc.tc.devRef _) _ = _
  simp only [hostOps0]
  after_reads_at

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 256) : iblk m c 1 t (ix2 k d) = m ((c : Thread nD τ).loc main_arg1) (ix2 k d) := by
  refine Eq.trans ?_ (w_at m c k d)
  blk_ext [iblk, idx t]

/-- The staged weights of the norm. -/
theorem blk_g (t : Fin cfg0.N) (d : Fin 256) : iblk m c 2 t (ix2 0 d) = m ((c : Thread nD τ).loc main_arg2) (ix1 d) := by
  refine Eq.trans ?_ (g_at m c d)
  blk_ext [iblk, idx t]

/-- The product of tokens and weights, its rows normed. -/
def val (n : Fin 8192) (d : Fin 256) : EReal :=
  RowMath.nrm 0x3B800000#32 (fun e : Fin 256 => ∑ k : Fin 2048, @HMul.hMul EReal EReal EReal _ (m ((c : Thread nD τ).loc main_arg0) (ix2 n k)) (m ((c : Thread nD τ).loc main_arg1) (ix2 k e)))
    (fun e => m ((c : Thread nD τ).loc main_arg2) (ix1 e)) d

/-- The result's array by coordinates. -/
def result : Vec Ideal S8192x256 .bf16 := fun i => val m c (i 0 : Fin 8192) (i 1 : Fin 256)

/-- The result's array after the run. -/
theorem arr : (dats m 0 c).arrAt 3 cfg0.N = result m c := by
  refine (dats m 0 c).arrAt_eq_of_covers 3 _ (by decide +kernel) (fun t hf y => ?_)
  refine (congrFun (Value.flushed3 m c t) y).trans ?_
  have hy0 : (y 0).val < 1024 := (y 0).isLt
  have hy1 : (y 1).val < 256 := (y 1).isLt
  have ez : ((cfg0.win 3).blk t).view.emb y = ix2 (row t ⟨(y 0).val, hy0⟩) (⟨(y 1).val, hy1⟩ : Fin 256) := by
    blk_ext [idx t, row]
  refine Eq.trans ?_ (congrArg (result m c) ez.symm)
  refine Eq.trans ?_ ((out_at (iblk m c 0 t) (iblk m c 1 t) (iblk m c 2 t) (ix2 ⟨(y 0).val, hy0⟩ ⟨(y 1).val, hy1⟩)).trans ?_)
  · exact congrArg _ (by funext a; fin_cases a <;> rfl)
  · have ev : ∀ e : Fin 256, (∑ k : Fin 2048, @HMul.hMul EReal EReal EReal _ (iblk m c 0 t (ix2 (⟨(y 0).val, hy0⟩ : Fin 1024) k)) (iblk m c 1 t (ix2 k e)))
        = ∑ k : Fin 2048, @HMul.hMul EReal EReal EReal _ (m ((c : Thread nD τ).loc main_arg0) (ix2 (row t ⟨(y 0).val, hy0⟩) k)) (m ((c : Thread nD τ).loc main_arg1) (ix2 k e)) :=
      fun e => Finset.sum_congr rfl fun k _ => congr (congrArg _ (blk_x m c t ⟨(y 0).val, hy0⟩ k)) (blk_w m c t k e)
    exact congr (congr (congrArg (RowMath.nrm 0x3B800000#32) (funext ev)) (funext fun e => blk_g m c t e)) rfl

end Cert.MckIdeal.Body

namespace Cert.MckRefIdeal.Body

open Cert.MckRefIdeal Cert.MckRefIdeal.Gen Idealize.ShloMosaic Idealize.ShloMosaic.TcCoe

/-- The reference's product. -/
def prod (a0 : FVec Ideal S8192x2048 .bf16) (a1 : FVec Ideal S2048x256 .f32) : FVec Ideal S8192x256 .f32 :=
  Host.dotGeneral dot_S8192x2048_S2048x256_S8192x256_1_0_0_1_n_n none (extf .f32 a0 bitsLt_bf16_f32) a1

/-- The reference's product at an index. -/
theorem prod_at (a0 : FVec Ideal S8192x2048 .bf16) (a1 : FVec Ideal S2048x256 .f32) (n : Fin 8192) (d : Fin 256) :
    prod a0 a1 (ix2 n d) = ∑ k : Fin 2048, @HMul.hMul EReal EReal EReal _ (a0 (ix2 n k)) (a1 (ix2 k d)) := by
  pointwise [prod]

/-- The reference's rows normed. -/
def normed (p : FVec Ideal S8192x256 .f32) (a2 : FVec Ideal S256 .f32) : FVec Ideal S8192x256 .bf16 :=
  truncf .bf16 (mulf (mulf p (broadcastInDim S8192x256 ![0, 1] bcast_S8192x1_S8192x256_0_1 (Host.rsqrt (addf (Host.divf (broadcastInDim S8192x1 ![0] bcast_S8192_S8192x1_0 (Host.reduceAdd (mulf p p) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 a2))) bitsLt_bf16_f32

/-- The reference's normed rows at an index. -/
theorem normed_at (p : FVec Ideal S8192x256 .f32) (a2 : FVec Ideal S256 .f32) (n : Fin 8192) (d : Fin 256) :
    normed p a2 (ix2 n d) = RowMath.nrm 0x3B800000#32 (fun e => p (ix2 n e)) (fun e => a2 (ix1 e)) d := by
  unfold RowMath.nrm
  rw [← RowMath.mean_256]
  pointwise [normed]

end Cert.MckRefIdeal.Body

namespace Cert.Proof.MckClaims

open Idealize.ShloMosaic Idealize.ShloMosaic.TcCoe Idealize.SL.Sem

/-- The reference ends with its arguments and every counter as they were. -/
theorem frame_ref : Cert.quiescent_MckRefIdeal := fun m ρ _ =>
  (θ_run Cert.MckRefIdeal.defs _ _).mono (fun r h => ⟨fun c => (h c).2, sem_eq_zero_of_no_sems (by decide) r.2⟩)
    (Cert.MckRefIdeal.Value.run (F := Ideal) m ρ)

/-- Kernel and reference leave the same array. -/
theorem algebraic : Cert.algebraic_MckIdeal_MckRefIdeal := by
  intro m ρ m' ρ' _ hagree
  refine ⟨fun c => Cert.MckIdeal.Body.result m c,
    (θ_run Cert.MckIdeal.defs _ _).mono (fun r h c => ⟨(h c).1.trans (Cert.MckIdeal.Body.arr m c), (h c).2⟩)
      (Cert.MckIdeal.Value.run_blocks m ρ), ?_⟩
  refine (θ_run Cert.MckRefIdeal.defs _ _).mono (fun r h c => ⟨(h c).1.trans ?_, (h c).2⟩) (Cert.MckRefIdeal.Value.run (F := Ideal) m' ρ')
  obtain ⟨h0, h1, h2⟩ := hagree c
  rw [h0, h1, h2]
  funext i
  have ei : i = ix2 (i 0 : Fin 8192) (i 1 : Fin 256) := by funext a; fin_cases a <;> rfl
  refine (congrArg _ ei).trans ?_
  refine (Cert.MckRefIdeal.Body.normed_at (Cert.MckRefIdeal.Body.prod _ _) _ (i 0 : Fin 8192) (i 1 : Fin 256)).trans ?_
  exact congr (congr (congrArg (RowMath.nrm 0x3B800000#32) (funext fun e => Cert.MckRefIdeal.Body.prod_at _ _ (i 0 : Fin 8192) e)) rfl) rfl

end Cert.Proof.MckClaims
-- ==== Proof.MknClaims.lean ====
/-
  The latent mixer's keys without position: the kernel's heads are the reference's, normed.
-/
module

public import proofs.«01_k».proof.Defs
public import proofs.«01_k».proof.Proof.RopRefValue
public import proofs.«01_k».proof.Proof.Gen.Mkn.Frame
public import proofs.«01_k».proof.Proof.Gen.MknIdeal.Value
public import proofs.«01_k».proof.Proof.Gen.MknRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MknIdeal.Body

open Cert.MknIdeal Cert.MknIdeal.Gen Idealize.ShloMosaic Idealize.ShloMosaic.TcCoe Idealize.SL.Sem
open Idealize.ShloMosaic.Pipeline (Dat)

/-- The normed chunk of a head. -/
def normed (v : FVec Ideal S256x128 .f32) (g : Vec Ideal S1x128 .f32) : FVec Ideal S256x128 .bf16 :=
  truncf .bf16 (mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C000000#32))) (broadcast S256x1 (Scalar.ofBits .f32 0x358637BD#32)))) broadcasts_S256x1_S256x128))
    (broadcastTo S256x128 (shapeCast S1x128 g shapeCasts_S1x128_S1x128) broadcasts_S1x128_S256x128)) bitsLt_bf16_f32

/-- The normed chunk at an index. -/
theorem normed_at (v : FVec Ideal S256x128 .f32) (g : Vec Ideal S1x128 .f32) (j : Fin 256) (d : Fin 128) :
    normed v g (ix2 j d) = RopMath.nrm (fun e => v (ix2 j e)) (fun e => g (ix2 0 e)) d := by
  pointwise [normed]
  rfl

/-- The tile at a row and a head's coordinate: the head's product normed. -/
def tile (x : Vec Ideal S1024x256 .bf16) (w : Vec Ideal S256x512 .bf16) (g : Vec Ideal S1x128 .f32) (i : Fin 1024) (h : Fin 4) (d : Fin 128) : EReal :=
  RopMath.nrm (fun e => ∑ k : Fin 256, @HMul.hMul EReal EReal EReal _ (x (ix2 i k)) (w (ix2 k ⟨128 * h.val + e.val, by omega⟩))) (fun e => g (ix2 0 e)) d

/-- A chunk's product at an index. -/
theorem pay2_at (a : Vec Ideal S256x256 .bf16) (w : Vec Ideal S256x512 .bf16) (j : Fin 256) (d : Fin 512) :
    k0_pay2 a w (ix2 j d) = ∑ k : Fin 256, @HMul.hMul EReal EReal EReal _ (a (ix2 j k)) (w (ix2 k d)) := by
  pointwise [k0_pay2]

/-- The loads of chunk `o`'s rows and of all the weights give head `h` of its rows of the tile. -/
theorem tile_of (x : Vec Ideal S1024x256 .bf16) (w : Vec Ideal S256x512 .bf16) (g : Vec Ideal S1x128 .f32) (o : Nat) (ho : o + 256 ≤ 1024) (h : Fin 4)
    (h0 : ∀ a, (![o, 0] : Fin 2 → Nat) a + S256x256.size a ≤ S1024x256.size a) (h1 : ∀ a, (![0, 0] : Fin 2 → Nat) a + S256x512.size a ≤ S256x512.size a)
    (h2 : ∀ a, (![0, 0] : Fin 2 → Nat) a + S1x128.size a ≤ S1x128.size a)
    (p : Nat) (hp : p = 128 * h.val) (hs : S256x512.Slices ![0, p] S256x128) (j : Fin 256) (d : Fin 128) :
    normed (extractStridedSlice S256x128 ![0, p] (k0_pay2 (F := Ideal) (View.ld x (Rect.unit (s := S1024x256) ![o, 0] S256x256.size h0)) (View.ld w (Rect.unit (s := S256x512) ![0, 0] S256x512.size h1))) hs)
        (View.ld g (Rect.unit (s := S1x128) ![0, 0] S1x128.size h2)) (ix2 j d)
      = tile x w g ⟨o + j.val, by omega⟩ h d := by
  subst hp
  have ev : ∀ e : Fin 128, extractStridedSlice S256x128 ![0, 128 * h.val] (k0_pay2 (F := Ideal) (View.ld x (Rect.unit (s := S1024x256) ![o, 0] S256x256.size h0)) (View.ld w (Rect.unit (s := S256x512) ![0, 0] S256x512.size h1))) hs (ix2 j e)
      = ∑ k : Fin 256, @HMul.hMul EReal EReal EReal _ (x (ix2 ⟨o + j.val, by omega⟩ k)) (w (ix2 k ⟨128 * h.val + e.val, by omega⟩)) := fun e => by
    refine Eq.trans (congrArg (k0_pay2 (F := Ideal) _ _) ?_) ((pay2_at _ _ j ⟨128 * h.val + e.val, by omega⟩).trans (Finset.sum_congr rfl fun k _ => ?_))
    · funext a; fin_cases a <;> exact Fin.ext (by simp [ix2])
    · refine congr (congrArg _ (congrArg x ?_)) (congrArg w ?_)
      · funext a; fin_cases a <;> exact Fin.ext (by simp [Rect.unit, Rect.emb, ix2])
      · funext a; fin_cases a <;> exact Fin.ext (by simp [Rect.unit, Rect.emb, ix2])
  have eg : ∀ e : Fin 128, View.ld g (Rect.unit (s := S1x128) ![0, 0] S1x128.size h2) (ix2 0 e) = g (ix2 0 e) := fun e => congrArg g (by
    funext a; fin_cases a <;> exact Fin.ext (by simp [Rect.unit, Rect.emb, ix2]))
  exact (normed_at _ _ j d).trans (congr (congr (congrArg RopMath.nrm (funext ev)) (funext eg)) rfl)

/-- What the body leaves in the result's block. -/
theorem out_at (x : Vec Ideal S1024x256 .bf16) (w : Vec Ideal S256x512 .bf16) (g : Vec Ideal S1x128 .f32) (y : S1024x512.Idx) :
    out0_3 (F := Ideal) x w g y
      = tile x w g (y 0 : Fin 1024) ⟨(y 1).val / 128, by have : (y 1).val < 512 := (y 1).isLt; omega⟩ ⟨(y 1).val % 128, Nat.mod_lt _ (by norm_num)⟩ := by
  unfold out0_3
  refine View.canon_apply_of_pieces (Val := Elt Ideal) (fun y : S1024x512.Idx => tile x w g (y 0 : Fin 1024) ⟨(y 1).val / 128, by have : (y 1).val < 512 := (y 1).isLt; omega⟩ ⟨(y 1).val % 128, Nat.mod_lt _ (by norm_num)⟩) _ ?_ y (cover0_3 _ _ _ _ _ _ _ _ _ _ _ _ _ _ _ _ y)
  intro p hp z
  have ez : ∀ z : S256x128.Idx, z = ix2 (z 0 : Fin 256) (z 1 : Fin 128) := fun z => by funext a; fin_cases a <;> rfl
  have hz : ∀ z : S256x128.Idx, (z 1).val < 128 := fun z => (z 1).isLt
  simp only [List.mem_cons, List.mem_nil_iff, or_false] at hp
  rcases hp with rfl | rfl | rfl | rfl | rfl | rfl | rfl | rfl | rfl | rfl | rfl | rfl | rfl | rfl | rfl | rfl
  · refine (congrArg _ (ez z)).trans ((tile_of x w g 768 (by norm_num) 3 _ _ _ 384 rfl slices_S256x512_o0_384_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 768 (by norm_num) 2 _ _ _ 256 rfl slices_S256x512_o0_256_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 768 (by norm_num) 1 _ _ _ 128 rfl slices_S256x512_o0_128_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 768 (by norm_num) 0 _ _ _ 0 rfl slices_S256x512_o0_0_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 512 (by norm_num) 3 _ _ _ 384 rfl slices_S256x512_o0_384_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 512 (by norm_num) 2 _ _ _ 256 rfl slices_S256x512_o0_256_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 512 (by norm_num) 1 _ _ _ 128 rfl slices_S256x512_o0_128_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 512 (by norm_num) 0 _ _ _ 0 rfl slices_S256x512_o0_0_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 256 (by norm_num) 3 _ _ _ 384 rfl slices_S256x512_o0_384_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 256 (by norm_num) 2 _ _ _ 256 rfl slices_S256x512_o0_256_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 256 (by norm_num) 1 _ _ _ 128 rfl slices_S256x512_o0_128_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 256 (by norm_num) 0 _ _ _ 0 rfl slices_S256x512_o0_0_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 3 _ _ _ 384 rfl slices_S256x512_o0_384_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 2 _ _ _ 256 rfl slices_S256x512_o0_256_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 1 _ _ _ 128 rfl slices_S256x512_o0_128_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 0 _ _ _ 0 rfl slices_S256x512_o0_0_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))

variable (m : (ℓ : Loc nD τ sig) → Buf (Elt Ideal) ℓ) (c : Dev nD)

/-- The prepared weights. -/
theorem w_at (k : Fin 256) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The prepared weights of the norm. -/
theorem g_at (d : Fin 128) : V m c main_v1 (ix2 0 d) = m ((c : Thread nD τ).loc main_arg2) (ix1 d) := by
  show StableHlo.after hostOps0 (fun b => m (c, b)) (Proc.tc.devRef _) _ = _
  simp only [hostOps0]
  after_reads_at

/-- The grid's indices of the windows: a block of tokens and a block of columns. -/
theorem idx : ∀ t : Fin cfg0.N, win0_0.index t = ![(grid0.coords t 0).val, 0] ∧ win0_1.index t = ![0, (grid0.coords t 1).val]
    ∧ win0_2.index t = ![0, 0] ∧ win0_3.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- A grid point's head `h`. -/
def head (t : Fin cfg0.N) (h : Fin 4) : Fin 16 :=
  ⟨4 * (grid0.coords t 1).val + h.val, by have : (grid0.coords t 1).val < 4 := (grid0.coords t 1).isLt; omega⟩

/-- The staged tokens. -/
theorem blk_x (t : Fin cfg0.N) (i : Fin 1024) (k : Fin 256) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 256) (d : Fin 512) : iblk m c 1 t (ix2 k d) = m ((c : Thread nD τ).loc main_arg1) (ix2 k (col t d)) := by
  refine Eq.trans ?_ (w_at m c k (col t d))
  blk_ext [iblk, idx t, col]

/-- The staged weights of the norm. -/
theorem blk_g (t : Fin cfg0.N) (d : Fin 128) : iblk m c 2 t (ix2 0 d) = m ((c : Thread nD τ).loc main_arg2) (ix1 d) := by
  refine Eq.trans ?_ (g_at m c d)
  blk_ext [iblk, idx t]

/-- A head of the product of rows and weights. -/
def prod (n : Fin 8192) (h : Fin 16) (e : Fin 128) : EReal :=
  ∑ k : Fin 256, @HMul.hMul EReal EReal EReal _ (m ((c : Thread nD τ).loc main_arg0) (ix2 n k)) (m ((c : Thread nD τ).loc main_arg1) (ix2 k ⟨128 * h.val + e.val, by omega⟩))

/-- The head normed. -/
def val (n : Fin 8192) (h : Fin 16) (d : Fin 128) : EReal :=
  RopMath.nrm (prod m c n h) (fun e => m ((c : Thread nD τ).loc main_arg2) (ix1 e)) d

/-- The result's array by coordinates. -/
def result : Vec Ideal S8192x2048 .bf16 := fun i =>
  val m c (i 0 : Fin 8192) ⟨(i 1).val / 128, by have : (i 1).val < 2048 := (i 1).isLt; omega⟩ ⟨(i 1).val % 128, Nat.mod_lt _ (by norm_num)⟩

/-- A block's column of a head. -/
theorem local_lt (h : Fin 4) (e : Fin 128) : 128 * h.val + e.val < 512 := by omega

/-- The column by blocks and by heads. -/
theorem local_eq (b h e : Nat) : 512 * b + (128 * h + e) = 128 * (4 * b + h) + e := by omega

/-- A tile from its product and weights. -/
theorem tile_of_parts (x : Vec Ideal S1024x256 .bf16) (w : Vec Ideal S256x512 .bf16) (g : Vec Ideal S1x128 .f32)
    (i : Fin 1024) (h : Fin 4) (d : Fin 128) (v u : Fin 128 → EReal)
    (hv : (fun e : Fin 128 => ∑ k : Fin 256, @HMul.hMul EReal EReal EReal _ (x (ix2 i k)) (w (ix2 k ⟨128 * h.val + e.val, local_lt h e⟩))) = v)
    (hu : (fun e : Fin 128 => g (ix2 0 e)) = u) :
    tile x w g i h d = RopMath.nrm v u d := by
  subst hv hu
  rfl

/-- A grid point's tile of the result. -/
theorem tile_at (t : Fin cfg0.N) (i : Fin 1024) (h : Fin 4) (d : Fin 128) :
    tile (iblk m c 0 t) (iblk m c 1 t) (iblk m c 2 t) i h d = val m c (row t i) (head t h) d := by
  have e1 : (fun e : Fin 128 => ∑ k : Fin 256, @HMul.hMul EReal EReal EReal _ (iblk m c 0 t (ix2 i k)) (iblk m c 1 t (ix2 k ⟨128 * h.val + e.val, local_lt h e⟩))) = prod m c (row t i) (head t h) := by
    funext e
    refine Finset.sum_congr rfl fun k _ => congr (congrArg _ (blk_x m c t i k)) ((blk_w m c t k _).trans (congrArg (fun z : Fin 2048 => m ((c : Thread nD τ).loc main_arg1) (ix2 k z)) (Fin.ext ?_)))
    exact local_eq _ _ _
  have e2 : (fun e : Fin 128 => iblk m c 2 t (ix2 0 e)) = fun e => m ((c : Thread nD τ).loc main_arg2) (ix1 e) := funext fun e => blk_g m c t e
  exact tile_of_parts _ _ _ i h d _ _ e1 e2

/-- The result's array after the run. -/
theorem arr : (dats m 0 c).arrAt 3 cfg0.N = result m c := by
  refine (dats m 0 c).arrAt_eq_of_covers 3 _ (by decide +kernel) (fun t hf y => ?_)
  refine (congrFun (Value.flushed3 m c t) y).trans ?_
  have hy0 : (y 0).val < 1024 := (y 0).isLt
  have hy1 : (y 1).val < 512 := (y 1).isLt
  have ez : ((cfg0.win 3).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (ix2 ⟨(y 0).val, hy0⟩ ⟨(y 1).val, hy1⟩)).trans ?_)
  · exact congrArg _ (by funext a; fin_cases a <;> rfl)
  · refine (tile_at m c t ⟨(y 0).val, hy0⟩ ⟨(y 1).val / 128, by omega⟩ ⟨(y 1).val % 128, Nat.mod_lt _ (by norm_num)⟩).trans ?_
    refine congr (congrArg (val m c (row t ⟨(y 0).val, hy0⟩)) (Fin.ext ?_)) (Fin.ext ?_)
    · show 4 * (grid0.coords t 1).val + (y 1).val / 128 = (512 * (grid0.coords t 1).val + (y 1).val) / 128
      omega
    · show (y 1).val % 128 = (512 * (grid0.coords t 1).val + (y 1).val) % 128
      omega

end Cert.MknIdeal.Body

namespace Cert.MknRefIdeal.Body

open Cert.MknRefIdeal Cert.MknRefIdeal.Gen Idealize.ShloMosaic Idealize.ShloMosaic.TcCoe

/-- The product by heads. -/
def prod (a0 : FVec Ideal S8192x256 .bf16) (a1 : FVec Ideal S256x2048 .f32) : FVec Ideal S8192x16x128 .f32 :=
  shapeCast _ (Host.dotGeneral dot_S8192x256_S256x2048_S8192x2048_1_0_0_1_n_n none (extf .f32 a0 bitsLt_bf16_f32) a1) shapeCasts_S8192x2048_S8192x16x128

/-- The product at an index. -/
theorem prod_at (a0 : FVec Ideal S8192x256 .bf16) (a1 : FVec Ideal S256x2048 .f32) (n : Fin 8192) (h : Fin 16) (d : Fin 128) :
    prod a0 a1 (ix3 n h d) = ∑ k : Fin 256, @HMul.hMul EReal EReal EReal _ (a0 (ix2 n k)) (a1 (ix2 k ⟨128 * h.val + d.val, by omega⟩)) := by
  pointwise [prod]
  refine Finset.sum_congr rfl fun k _ => congr (congrArg _ ?_) (congrArg a1 (congrArg (ix2 k) (Fin.ext (by dsimp only; omega))))
  rfl

/-- The heads normed. -/
def normed (p : FVec Ideal S8192x16x128 .f32) (a2 : FVec Ideal S128 .f32) : FVec Ideal S8192x16x128 .f32 :=
  mulf (mulf p (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf p p) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 a2))

/-- A normed head at an index. -/
theorem normed_at (p : FVec Ideal S8192x16x128 .f32) (a2 : FVec Ideal S128 .f32) (n : Fin 8192) (h : Fin 16) (d : Fin 128) :
    normed p a2 (ix3 n h d) = RopMath.nrm (fun e => p (ix3 n h e)) (fun e => a2 (ix1 e)) d := by
  unfold RopMath.nrm
  rw [← RopMath.mean_eq]
  pointwise [normed]

/-- The result of normed heads. -/
def flat (u : FVec Ideal S8192x16x128 .f32) : FVec Ideal S8192x2048 .bf16 :=
  truncf .bf16 (shapeCast _ u shapeCasts_S8192x16x128_S8192x2048) bitsLt_bf16_f32

/-- The result at an index. -/
theorem flat_at (u : FVec Ideal S8192x16x128 .f32) (n : Fin 8192) (h : Fin 16) (d : Fin 128) :
    flat u (ix2 n ⟨128 * h.val + d.val, by omega⟩) = u (ix3 n h d) := by
  pointwise [flat]

end Cert.MknRefIdeal.Body

namespace Cert.Proof.MknClaims

open Idealize.ShloMosaic Idealize.ShloMosaic.TcCoe Idealize.SL.Sem

/-- The reference ends with its arguments and every counter as they were. -/
theorem frame_ref : Cert.quiescent_MknRefIdeal := fun m ρ _ =>
  (θ_run Cert.MknRefIdeal.defs _ _).mono (fun r h => ⟨fun c => (h c).2, sem_eq_zero_of_no_sems (by decide) r.2⟩)
    (Cert.MknRefIdeal.Value.run (F := Ideal) m ρ)

/-- Kernel and reference leave the same array. -/
theorem algebraic : Cert.algebraic_MknIdeal_MknRefIdeal := by
  intro m ρ m' ρ' _ hagree
  refine ⟨fun c => Cert.MknIdeal.Body.result m c,
    (θ_run Cert.MknIdeal.defs _ _).mono (fun r h c => ⟨(h c).1.trans (Cert.MknIdeal.Body.arr m c), (h c).2⟩)
      (Cert.MknIdeal.Value.run_blocks m ρ), ?_⟩
  refine (θ_run Cert.MknRefIdeal.defs _ _).mono (fun r h c => ⟨(h c).1.trans ?_, (h c).2⟩) (Cert.MknRefIdeal.Value.run (F := Ideal) m' ρ')
  obtain ⟨h0, h1, h2⟩ := hagree c
  rw [h0, h1, h2]
  funext i
  have hi : (i 1).val < 2048 := (i 1).isLt
  have ei : i = ix2 (i 0 : Fin 8192) ⟨128 * ((i 1).val / 128) + (i 1).val % 128, by omega⟩ := by
    funext a
    fin_cases a
    · rfl
    · exact Fin.ext (Nat.div_add_mod _ _).symm
  refine (congrArg _ ei).trans ?_
  refine (Cert.MknRefIdeal.Body.flat_at (Cert.MknRefIdeal.Body.normed (Cert.MknRefIdeal.Body.prod _ _) _) (i 0 : Fin 8192) ⟨(i 1).val / 128, by omega⟩ ⟨(i 1).val % 128, Nat.mod_lt _ (by norm_num)⟩).trans ?_
  refine (Cert.MknRefIdeal.Body.normed_at _ _ (i 0 : Fin 8192) ⟨(i 1).val / 128, by omega⟩ ⟨(i 1).val % 128, Nat.mod_lt _ (by norm_num)⟩).trans ?_
  exact congr (congr (congrArg RopMath.nrm (funext fun e => Cert.MknRefIdeal.Body.prod_at _ _ (i 0 : Fin 8192) ⟨(i 1).val / 128, by omega⟩ e)) rfl) rfl

end Cert.Proof.MknClaims
-- ==== Proof.Padded.lean ====
/-
  A row of 64 entries in 128 lanes, the others zero: its norm and its rotation within the 64.
-/
module

public import proofs.«01_k».proof.Proof.Rows

@[expose] public section

noncomputable section

namespace PadMath

open Idealize.ShloMosaic

/-- A padded row: its first 64 entries are the row's, the others zero. -/
def pad (f : Fin 64 → EReal) (d : Fin 128) : EReal := if hd : d.val < 64 then f ⟨d.val, hd⟩ else 0

/-- The sum of squares of a padded row is the row's. -/
theorem squares (f : Fin 64 → EReal) : ∑ d : Fin 128, pad f d * pad f d = ∑ d : Fin 64, f d * f d := by
  refine (Fin.sum_univ_add (a := 64) (b := 64) (fun d : Fin 128 => pad f d * pad f d)).trans ?_
  have h1 : ∀ d : Fin 64, pad f (Fin.castAdd 64 d) = f d := fun d => dif_pos d.isLt
  have h2 : ∀ d : Fin 64, pad f (Fin.natAdd 64 d) = 0 := fun d => dif_neg (by simp)
  simp only [h1, h2, zero_mul, Finset.sum_const_zero, add_zero]

/-- The norm of a padded row is the padded norm of the row. -/
theorem nrm_pad (z : BitVec 32) (v g : Fin 64 → EReal) (d : Fin 128) :
    RowMath.nrm z (pad v) (pad g) d = pad (RowMath.nrm z v g) d := by
  unfold RowMath.nrm
  rw [squares]
  by_cases h : d.val < 64
  · have e : ∀ f : Fin 64 → EReal, pad f d = f ⟨d.val, h⟩ := fun f => dif_pos h
    rw [e, e, e]
  · have e : ∀ f : Fin 64 → EReal, pad f d = 0 := fun f => dif_neg h
    rw [e, e, e, zero_mul, zero_mul]

/-- Products with a padded row sum to the padded sums. -/
theorem sum_pad {n : Nat} (x : Fin n → EReal) (f : Fin n → Fin 64 → EReal) (d : Fin 128) :
    ∑ k : Fin n, x k * pad (f k) d = pad (fun e => ∑ k : Fin n, x k * f k e) d := by
  by_cases h : d.val < 64
  · have e : ∀ f : Fin 64 → EReal, pad f d = f ⟨d.val, h⟩ := fun f => dif_pos h
    simp only [e]
  · have e : ∀ f : Fin 64 → EReal, pad f d = 0 := fun f => dif_neg h
    simp only [e, mul_zero, Finset.sum_const_zero]

/-- The lane a lane is rotated with. -/
def mate (d : Fin 128) : Fin 128 := if d.val % 32 < 16 then ⟨(d.val + 16) % 128, Nat.mod_lt _ (by norm_num)⟩ else ⟨(d.val + 112) % 128, Nat.mod_lt _ (by norm_num)⟩

/-- The same within the 64. -/
def mate64 (d : Fin 64) : Fin 64 := if d.val % 32 < 16 then ⟨(d.val + 16) % 64, Nat.mod_lt _ (by norm_num)⟩ else ⟨(d.val + 48) % 64, Nat.mod_lt _ (by norm_num)⟩

/-- The lanes' mates stay within the 64. -/
theorem mate_eq : ∀ (d : Fin 128) (h : d.val < 64), (mate d).val = (mate64 ⟨d.val, h⟩).val := by
  decide +kernel

/-- A row normed and rotated, by a cosine and a signed sine for each entry. -/
def pe (v g a b : Fin 64 → EReal) (d : Fin 64) : EReal :=
  RowMath.nrm 0x3C800000#32 v g d * a d + RowMath.nrm 0x3C800000#32 v g (mate64 d) * b d

/-- Norm and rotation of a padded row are the padded row's. -/
theorem pe_pad (v g a b : Fin 64 → EReal) (d : Fin 128) :
    RowMath.nrm 0x3C800000#32 (pad v) (pad g) d * pad a d + RowMath.nrm 0x3C800000#32 (pad v) (pad g) (mate d) * pad b d = pad (pe v g a b) d := by
  rw [nrm_pad, nrm_pad]
  by_cases h : d.val < 64
  · have e : ∀ f : Fin 64 → EReal, pad f d = f ⟨d.val, h⟩ := fun f => dif_pos h
    have hm : (mate d).val < 64 := (mate_eq d h).trans_lt (mate64 ⟨d.val, h⟩).isLt
    have e' : ∀ f : Fin 64 → EReal, pad f (mate d) = f (mate64 ⟨d.val, h⟩) := fun f => (dif_pos hm).trans (congrArg f (Fin.ext (mate_eq d h)))
    rw [e, e, e, e, e']
    rfl
  · have e : ∀ f : Fin 64 → EReal, pad f d = 0 := fun f => dif_neg h
    rw [e, e, e, e, mul_zero, mul_zero, zero_add]

end PadMath
-- ==== Proof.MlqTile.lean ====
/-
  The latent mixer's queries' body: what each stored chunk holds, read index by index.
-/
module

public import proofs.«01_k».proof.Proof.Padded
public import proofs.«01_k».proof.Proof.RopTile
public import proofs.«01_k».proof.Proof.Gen.MlqIdeal.Value
public import Idealize.ShloMosaic.Lib.Pipeline.ValueKit
public import Idealize.ShloMosaic.Lib.Pointwise
public import Idealize.ShloMosaic.Lib.Claim

@[expose] public section

set_option maxRecDepth 16384

noncomputable section

namespace Cert.MlqIdeal.Body

open Cert.MlqIdeal Cert.MlqIdeal.Gen Idealize.ShloMosaic Idealize.ShloMosaic.TcCoe Idealize.SL.Sem

/-- The normed chunk of a head's first part. -/
def normedN (v : FVec Ideal S256x128 .f32) (g : Vec Ideal S1x128 .f32) : FVec Ideal S256x128 .bf16 :=
  truncf .bf16 (mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C000000#32))) (broadcast S256x1 (Scalar.ofBits .f32 0x358637BD#32)))) broadcasts_S256x1_S256x128))
    (broadcastTo S256x128 (shapeCast S1x128 g shapeCasts_S1x128_S1x128) broadcasts_S1x128_S256x128)) bitsLt_bf16_f32

/-- The normed chunk of a head's second part. -/
def normedP (v : FVec Ideal S256x128 .f32) (g : Vec Ideal S1x128 .f32) : FVec Ideal S256x128 .f32 :=
  mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C800000#32))) (broadcast S256x1 (Scalar.ofBits .f32 0x358637BD#32)))) broadcasts_S256x1_S256x128))
    (broadcastTo S256x128 (shapeCast S1x128 g shapeCasts_S1x128_S1x128) broadcasts_S1x128_S256x128)

/-- The stored chunk of a head's second part. -/
def chunk (v : FVec Ideal S256x128 .f32) (g : Vec Ideal S1x128 .f32) (cs : Vec Ideal S256x128 .f32) (sn : Vec Ideal S256x128 .f32) : FVec Ideal S256x128 .bf16 :=
  k0_pay1 (normedP v g) (shapeCast S256x128 cs shapeCasts_S256x128_S256x128) sn

/-- The first part's chunk at an index. -/
theorem normedN_at (v : FVec Ideal S256x128 .f32) (g : Vec Ideal S1x128 .f32) (j : Fin 256) (d : Fin 128) :
    normedN v g (ix2 j d) = RopMath.nrm (fun e => v (ix2 j e)) (fun e => g (ix2 0 e)) d := by
  pointwise [normedN]
  rfl

/-- The second part's normed chunk at an index. -/
theorem normedP_at (v : FVec Ideal S256x128 .f32) (g : Vec Ideal S1x128 .f32) (j : Fin 256) (d : Fin 128) :
    normedP v g (ix2 j d) = RowMath.nrm 0x3C800000#32 (fun e => v (ix2 j e)) (fun e => g (ix2 0 e)) d := by
  pointwise [normedP]
  rfl

/-- The comparison at a lane of a lower half. -/
theorem low : ∀ d : Fin 128, d.val % 32 < 16 → IntOp.cmpi CmpIPredicate.slt (IntOp.andi (BitVec.ofNat 32 d.val) 31#32) 16#32 = 1#1 := by
  decide +kernel

/-- The comparison at a lane of an upper half. -/
theorem high : ∀ d : Fin 128, ¬ d.val % 32 < 16 → IntOp.cmpi CmpIPredicate.slt (IntOp.andi (BitVec.ofNat 32 d.val) 31#32) 16#32 = 0#1 := by
  decide +kernel

/-- The stored chunk at an index. -/
theorem pay1_at (u : FVec Ideal S256x128 .f32) (cs : FVec Ideal S256x128 .f32) (sn : Vec Ideal S256x128 .f32) (j : Fin 256) (d : Fin 128) :
    k0_pay1 u cs sn (ix2 j d) = @HAdd.hAdd EReal EReal EReal _ (@HMul.hMul EReal EReal EReal _ (u (ix2 j d)) (cs (ix2 j d))) (@HMul.hMul EReal EReal EReal _ (u (ix2 j (PadMath.mate d))) (sn (ix2 j d))) := by
  pointwise [k0_pay1]
  refine congrArg _ (congrArg (· * _) ?_)
  by_cases h : d.val % 32 < 16
  · have hm : PadMath.mate d = ⟨(d.val + 128 - 112) % 128, Nat.mod_lt _ (by norm_num)⟩ := by
      unfold PadMath.mate
      rw [if_pos h]
      exact Fin.ext (by dsimp only; omega)
    rw [hm, low d h]
    rfl
  · have hm : PadMath.mate d = ⟨(d.val + 128 - 16) % 128, Nat.mod_lt _ (by norm_num)⟩ := by
      unfold PadMath.mate
      rw [if_neg h]
      exact Fin.ext (by dsimp only; omega)
    rw [hm, high d h]
    rfl

/-- The tile over a head's first part: the product normed. -/
def tileN (x : Vec Ideal S1024x512 .bf16) (w : Vec Ideal S512x512 .bf16) (gn : Vec Ideal S1x128 .f32) (gp : Vec Ideal S1x128 .f32) (cs : Vec Ideal S1024x128 .f32) (sn : Vec Ideal S1024x128 .f32) (i : Fin 1024) (h : Fin 2) (d : Fin 128) : EReal :=
  RopMath.nrm (fun e => ∑ k : Fin 512, @HMul.hMul EReal EReal EReal _ (x (ix2 i k)) (w (ix2 k ⟨256 * h.val + e.val, by omega⟩))) (fun e => gn (ix2 0 e)) d

/-- The tile over a head's second part: the product normed, rotated with its mate. -/
def tileP (x : Vec Ideal S1024x512 .bf16) (w : Vec Ideal S512x512 .bf16) (gn : Vec Ideal S1x128 .f32) (gp : Vec Ideal S1x128 .f32) (cs : Vec Ideal S1024x128 .f32) (sn : Vec Ideal S1024x128 .f32) (i : Fin 1024) (h : Fin 2) (d : Fin 128) : EReal :=
  RowMath.nrm 0x3C800000#32 (fun e => ∑ k : Fin 512, @HMul.hMul EReal EReal EReal _ (x (ix2 i k)) (w (ix2 k ⟨256 * h.val + (128 + e.val), by omega⟩))) (fun e => gp (ix2 0 e)) d * cs (ix2 i d)
    + RowMath.nrm 0x3C800000#32 (fun e => ∑ k : Fin 512, @HMul.hMul EReal EReal EReal _ (x (ix2 i k)) (w (ix2 k ⟨256 * h.val + (128 + e.val), by omega⟩))) (fun e => gp (ix2 0 e)) (PadMath.mate d) * sn (ix2 i d)

/-- The tile at a row and a head's column. -/
def tile (x : Vec Ideal S1024x512 .bf16) (w : Vec Ideal S512x512 .bf16) (gn : Vec Ideal S1x128 .f32) (gp : Vec Ideal S1x128 .f32) (cs : Vec Ideal S1024x128 .f32) (sn : Vec Ideal S1024x128 .f32) (i : Fin 1024) (h : Fin 2) (d : Fin 256) : EReal :=
  if hd : d.val < 128 then tileN x w gn gp cs sn i h ⟨d.val, hd⟩ else tileP x w gn gp cs sn i h ⟨d.val - 128, by omega⟩

/-- A chunk's product at an index. -/
theorem pay2_at (a : Vec Ideal S256x512 .bf16) (w : Vec Ideal S512x512 .bf16) (j : Fin 256) (d : Fin 512) :
    k0_pay2 a w (ix2 j d) = ∑ k : Fin 512, @HMul.hMul EReal EReal EReal _ (a (ix2 j k)) (w (ix2 k d)) := by
  pointwise [k0_pay2]

/-- A slice of the product of the loads of chunk `o`'s rows and of all the weights. -/
theorem slice_at (x : Vec Ideal S1024x512 .bf16) (w : Vec Ideal S512x512 .bf16) (o : Nat) (ho : o + 256 ≤ 1024)
    (h0 : ∀ a, (![o, 0] : Fin 2 → Nat) a + S256x512.size a ≤ S1024x512.size a) (h1 : ∀ a, (![0, 0] : Fin 2 → Nat) a + S512x512.size a ≤ S512x512.size a)
    (p : Nat) (hp : p + 128 ≤ 512) (hs : S256x512.Slices ![0, p] S256x128) (j : Fin 256) (e : Fin 128) :
    extractStridedSlice S256x128 ![0, p] (k0_pay2 (F := Ideal) (View.ld x (Rect.unit (s := S1024x512) ![o, 0] S256x512.size h0)) (View.ld w (Rect.unit (s := S512x512) ![0, 0] S512x512.size h1))) hs (ix2 j e)
      = ∑ k : Fin 512, @HMul.hMul EReal EReal EReal _ (x (ix2 ⟨o + j.val, by omega⟩ k)) (w (ix2 k ⟨p + e.val, by omega⟩)) := by
  refine Eq.trans (congrArg (k0_pay2 (F := Ideal) _ _) ?_) ((pay2_at _ _ j ⟨p + e.val, by omega⟩).trans (Finset.sum_congr rfl fun k _ => ?_))
  · funext a; fin_cases a <;> exact Fin.ext (by simp [ix2])
  · refine congr (congrArg _ (congrArg x ?_)) (congrArg w ?_)
    · funext a; fin_cases a <;> exact Fin.ext (by simp [Rect.unit, Rect.emb, ix2])
    · funext a; fin_cases a <;> exact Fin.ext (by simp [Rect.unit, Rect.emb, ix2])

/-- The norm's loaded weights. -/
theorem gain_at (g : Vec Ideal S1x128 .f32) (h2 : ∀ a, (![0, 0] : Fin 2 → Nat) a + S1x128.size a ≤ S1x128.size a) (e : Fin 128) :
    View.ld g (Rect.unit (s := S1x128) ![0, 0] S1x128.size h2) (ix2 0 e) = g (ix2 0 e) := congrArg g (by
  funext a; fin_cases a <;> exact Fin.ext (by simp [Rect.unit, Rect.emb, ix2]))

/-- The first part of head `h` of chunk `o`'s rows of the tile. -/
theorem tile_ofN (x : Vec Ideal S1024x512 .bf16) (w : Vec Ideal S512x512 .bf16) (gn : Vec Ideal S1x128 .f32) (gp : Vec Ideal S1x128 .f32) (cs : Vec Ideal S1024x128 .f32) (sn : Vec Ideal S1024x128 .f32) (o : Nat) (ho : o + 256 ≤ 1024) (h : Fin 2)
    (h0 : ∀ a, (![o, 0] : Fin 2 → Nat) a + S256x512.size a ≤ S1024x512.size a) (h1 : ∀ a, (![0, 0] : Fin 2 → Nat) a + S512x512.size a ≤ S512x512.size a)
    (h2 : ∀ a, (![0, 0] : Fin 2 → Nat) a + S1x128.size a ≤ S1x128.size a)
    (p : Nat) (hp : p = 256 * h.val) (hs : S256x512.Slices ![0, p] S256x128) (j : Fin 256) (d : Fin 128) :
    normedN (extractStridedSlice S256x128 ![0, p] (k0_pay2 (F := Ideal) (View.ld x (Rect.unit (s := S1024x512) ![o, 0] S256x512.size h0)) (View.ld w (Rect.unit (s := S512x512) ![0, 0] S512x512.size h1))) hs)
        (View.ld gn (Rect.unit (s := S1x128) ![0, 0] S1x128.size h2)) (ix2 j d)
      = tile x w gn gp cs sn ⟨o + j.val, by omega⟩ h ⟨d.val, by omega⟩ := by
  subst hp
  refine Eq.trans ?_ (dif_pos d.isLt).symm
  exact (normedN_at _ _ j d).trans (congr (congr (congrArg RopMath.nrm (funext fun e => slice_at x w o ho h0 h1 _ (by omega) hs j e)) (funext fun e => gain_at gn h2 e)) rfl)

/-- The second part of head `h` of chunk `o`'s rows of the tile. -/
theorem tile_ofP (x : Vec Ideal S1024x512 .bf16) (w : Vec Ideal S512x512 .bf16) (gn : Vec Ideal S1x128 .f32) (gp : Vec Ideal S1x128 .f32) (cs : Vec Ideal S1024x128 .f32) (sn : Vec Ideal S1024x128 .f32) (o : Nat) (ho : o + 256 ≤ 1024) (h : Fin 2)
    (h0 : ∀ a, (![o, 0] : Fin 2 → Nat) a + S256x512.size a ≤ S1024x512.size a) (h1 : ∀ a, (![0, 0] : Fin 2 → Nat) a + S512x512.size a ≤ S512x512.size a)
    (h2 : ∀ a, (![0, 0] : Fin 2 → Nat) a + S1x128.size a ≤ S1x128.size a) (h3 : ∀ a, (![o, 0] : Fin 2 → Nat) a + S256x128.size a ≤ S1024x128.size a)
    (p : Nat) (hp : p = 256 * h.val + 128) (hs : S256x512.Slices ![0, p] S256x128) (j : Fin 256) (d : Fin 128) :
    chunk (extractStridedSlice S256x128 ![0, p] (k0_pay2 (F := Ideal) (View.ld x (Rect.unit (s := S1024x512) ![o, 0] S256x512.size h0)) (View.ld w (Rect.unit (s := S512x512) ![0, 0] S512x512.size h1))) hs)
        (View.ld gp (Rect.unit (s := S1x128) ![0, 0] S1x128.size h2)) (View.ld cs (Rect.unit (s := S1024x128) ![o, 0] S256x128.size h3)) (View.ld sn (Rect.unit (s := S1024x128) ![o, 0] S256x128.size h3)) (ix2 j d)
      = tile x w gn gp cs sn ⟨o + j.val, by omega⟩ h ⟨128 + d.val, by omega⟩ := by
  subst hp
  have ed : (⟨128 + d.val - 128, by omega⟩ : Fin 128) = d := Fin.ext (by dsimp only; omega)
  refine Eq.trans ?_ ((dif_neg (by dsimp only; omega)).trans (congrArg (tileP x w gn gp cs sn ⟨o + j.val, by omega⟩ h) ed)).symm
  have et : ∀ z : Vec Ideal S1024x128 .f32, View.ld z (Rect.unit (s := S1024x128) ![o, 0] S256x128.size h3) (ix2 j d) = z (ix2 ⟨o + j.val, by omega⟩ d) := fun z => congrArg z (by
    funext a; fin_cases a <;> exact Fin.ext (by simp [Rect.unit, Rect.emb, ix2]))
  have ec : shapeCast S256x128 (View.ld cs (Rect.unit (s := S1024x128) ![o, 0] S256x128.size h3)) shapeCasts_S256x128_S256x128 (ix2 j d) = cs (ix2 ⟨o + j.val, by omega⟩ d) := by
    refine Eq.trans ?_ (et cs)
    pointwise
  have en : ∀ q : Fin 128, normedP (extractStridedSlice S256x128 ![0, 256 * h.val + 128] (k0_pay2 (F := Ideal) (View.ld x (Rect.unit (s := S1024x512) ![o, 0] S256x512.size h0)) (View.ld w (Rect.unit (s := S512x512) ![0, 0] S512x512.size h1))) hs)
        (View.ld gp (Rect.unit (s := S1x128) ![0, 0] S1x128.size h2)) (ix2 j q)
      = RowMath.nrm 0x3C800000#32 (fun e => ∑ k : Fin 512, @HMul.hMul EReal EReal EReal _ (x (ix2 ⟨o + j.val, by omega⟩ k)) (w (ix2 k ⟨256 * h.val + (128 + e.val), by omega⟩))) (fun e => gp (ix2 0 e)) q :=
    fun q => (normedP_at _ _ j q).trans (congr (congr (congrArg (RowMath.nrm 0x3C800000#32) (funext fun e => (slice_at x w o ho h0 h1 _ (by omega) hs j e).trans
      (Finset.sum_congr rfl fun k _ => congrArg _ (congrArg (fun z : Fin 512 => w (ix2 k z)) (Fin.ext (Nat.add_assoc _ _ _)))))) (funext fun e => gain_at gp h2 e)) rfl)
  refine (pay1_at _ _ _ j d).trans ?_
  exact congr (congrArg _ (congr (congrArg _ (en d)) ec)) (congr (congrArg _ (en (PadMath.mate d))) (et sn))

/-- What the body leaves in the result's block. -/
theorem out_at (x : Vec Ideal S1024x512 .bf16) (w : Vec Ideal S512x512 .bf16) (gn : Vec Ideal S1x128 .f32) (gp : Vec Ideal S1x128 .f32) (cs : Vec Ideal S1024x128 .f32) (sn : Vec Ideal S1024x128 .f32) (y : S1024x512.Idx) :
    out0_6 (F := Ideal) x w gn gp cs sn y
      = tile x w gn gp cs sn (y 0 : Fin 1024) ⟨(y 1).val / 256, by have : (y 1).val < 512 := (y 1).isLt; omega⟩ ⟨(y 1).val % 256, Nat.mod_lt _ (by norm_num)⟩ := by
  unfold out0_6
  refine View.canon_apply_of_pieces (Val := Elt Ideal) (fun y : S1024x512.Idx => tile x w gn gp cs sn (y 0 : Fin 1024) ⟨(y 1).val / 256, by have : (y 1).val < 512 := (y 1).isLt; omega⟩ ⟨(y 1).val % 256, Nat.mod_lt _ (by norm_num)⟩) _ ?_ y (cover0_6 _ _ _ _ _ _ _ _ _ _ _ _ _ _ _ _ y)
  intro p hp z
  have ez : ∀ z : S256x128.Idx, z = ix2 (z 0 : Fin 256) (z 1 : Fin 128) := fun z => by funext a; fin_cases a <;> rfl
  have hz : ∀ z : S256x128.Idx, (z 1).val < 128 := fun z => (z 1).isLt
  simp only [List.mem_cons, List.mem_nil_iff, or_false] at hp
  rcases hp with rfl | rfl | rfl | rfl | rfl | rfl | rfl | rfl | rfl | rfl | rfl | rfl | rfl | rfl | rfl | rfl
  · refine (congrArg _ (ez z)).trans ((tile_ofP x w gn gp cs sn 768 (by norm_num) 1 _ _ _ _ 384 rfl slices_S256x512_o0_384_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 768 (by norm_num) 1 _ _ _ 256 rfl slices_S256x512_o0_256_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 768 (by norm_num) 0 _ _ _ _ 128 rfl slices_S256x512_o0_128_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 768 (by norm_num) 0 _ _ _ 0 rfl slices_S256x512_o0_0_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 512 (by norm_num) 1 _ _ _ _ 384 rfl slices_S256x512_o0_384_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 512 (by norm_num) 1 _ _ _ 256 rfl slices_S256x512_o0_256_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 512 (by norm_num) 0 _ _ _ _ 128 rfl slices_S256x512_o0_128_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 512 (by norm_num) 0 _ _ _ 0 rfl slices_S256x512_o0_0_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 256 (by norm_num) 1 _ _ _ _ 384 rfl slices_S256x512_o0_384_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 256 (by norm_num) 1 _ _ _ 256 rfl slices_S256x512_o0_256_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 256 (by norm_num) 0 _ _ _ _ 128 rfl slices_S256x512_o0_128_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 256 (by norm_num) 0 _ _ _ 0 rfl slices_S256x512_o0_0_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 0 (by norm_num) 1 _ _ _ _ 384 rfl slices_S256x512_o0_384_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 0 (by norm_num) 1 _ _ _ 256 rfl slices_S256x512_o0_256_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofP x w gn gp cs sn 0 (by norm_num) 0 _ _ _ _ 128 rfl slices_S256x512_o0_128_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))
  · refine (congrArg _ (ez z)).trans ((tile_ofN x w gn gp cs sn 0 (by norm_num) 0 _ _ _ 0 rfl slices_S256x512_o0_0_S256x128 (z 0 : Fin 256) (z 1 : Fin 128)).trans ?_)
    have := hz z
    exact congr (congr (congrArg (tile x w gn gp cs sn) (Fin.ext (by simp [Rect.unit, Rect.emb]))) (Fin.ext (by simp [Rect.unit, Rect.emb]; omega))) (Fin.ext (by simp [Rect.unit, Rect.emb]; omega))

end Cert.MlqIdeal.Body
-- ==== Proof.MlqRefValue.lean ====
/-
  The latent mixer's queries' reference: what its result holds, read index by index.
-/
module

public import proofs.«01_k».proof.Proof.Padded
public import proofs.«01_k».proof.Proof.RopRefValue
public import proofs.«01_k».proof.Proof.Gen.MlqRefIdeal.Run
public import Idealize.ShloMosaic.Lib.Pointwise
public import Idealize.ShloMosaic.Lib.Claim

@[expose] public section

set_option maxRecDepth 16384

noncomputable section

namespace PadMath

/-- The mate of a lower half's coordinate. -/
theorem mate64_low : ∀ d : Fin 64, d.val % 32 < 16 → (mate64 d).val = d.val + 16 := by
  decide +kernel

/-- The mate of an upper half's coordinate. -/
theorem mate64_high : ∀ d : Fin 64, ¬ d.val % 32 < 16 → (mate64 d).val = d.val - 16 := by
  decide +kernel

end PadMath

namespace Cert.MlqRefIdeal.Body

open Cert.MlqRefIdeal Cert.MlqRefIdeal.Gen Idealize.ShloMosaic Idealize.ShloMosaic.TcCoe Idealize.SL.Sem

/-- A row's frequencies under its position. -/
def turn (p : FVec Ideal S8192 .f32) : FVec Ideal S8192x16 .f32 :=
  mulf (broadcastInDim S8192x16 ![0, 1] bcast_S8192x1_S8192x16_0_1 (broadcastInDim S8192x1 ![0] bcast_S8192_S8192x1_0 p)) (broadcastInDim S8192x16 ![0, 1] bcast_S1x16_S8192x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

/-- The angles: the token's row over the first half of a head, its column over the second. -/
def ang : FVec Ideal S8192x64 .f32 :=
  concatenate S8192x64 1 [⟨S8192x16, turn (shapeCast _ (broadcastInDim S128x64 ![0] bcast_S128_S128x64_0 (sitofp .f32 (iotaInDim S128 32 0))) shapeCasts_S128x64_S8192)⟩,
      ⟨S8192x16, turn (shapeCast _ (broadcastInDim S128x64 ![0] bcast_S128_S128x64_0 (sitofp .f32 (iotaInDim S128 32 0))) shapeCasts_S128x64_S8192)⟩,
      ⟨S8192x16, turn (shapeCast _ (broadcastInDim S128x64 ![0, 1] bcast_S1x64_S128x64_0_1 (shapeCast _ (sitofp .f32 (iotaInDim S64 32 0)) shapeCasts_S64_S1x64)) shapeCasts_S128x64_S8192)⟩,
      ⟨S8192x16, turn (shapeCast _ (broadcastInDim S128x64 ![0, 1] bcast_S1x64_S128x64_0_1 (shapeCast _ (sitofp .f32 (iotaInDim S64 32 0)) shapeCasts_S64_S1x64)) shapeCasts_S128x64_S8192)⟩] concatenates_S8192x16_S8192x16_S8192x16_S8192x16_S8192x64_d1

/-- The product by heads. -/
def prod (a0 : FVec Ideal S8192x512 .bf16) (a1 : FVec Ideal S512x3072 .f32) : FVec Ideal S8192x16x192 .f32 :=
  shapeCast _ (Host.dotGeneral dot_S8192x512_S512x3072_S8192x3072_1_0_0_1_n_n none (extf .f32 a0 bitsLt_bf16_f32) a1) shapeCasts_S8192x3072_S8192x16x192

/-- The heads' first parts. -/
def fst (q : FVec Ideal S8192x16x192 .f32) : FVec Ideal S8192x16x128 .f32 :=
  extractStridedSlice S8192x16x128 ![0, 0, 0] q slices_S8192x16x192_S8192x16x128_0_0_0

/-- The heads' second parts. -/
def snd (q : FVec Ideal S8192x16x192 .f32) : FVec Ideal S8192x16x64 .f32 :=
  extractStridedSlice S8192x16x64 ![0, 0, 128] q slices_S8192x16x192_S8192x16x64_0_0_128

/-- The first parts normed. -/
def normedN (p : FVec Ideal S8192x16x128 .f32) (g : FVec Ideal S128 .f32) : FVec Ideal S8192x16x128 .f32 :=
  mulf (mulf p (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf p p) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 g))

/-- The second parts normed. -/
def normedP (p : FVec Ideal S8192x16x64 .f32) (g : FVec Ideal S64 .f32) : FVec Ideal S8192x16x64 .f32 :=
  mulf (mulf p (broadcastInDim S8192x16x64 ![0, 1, 2] bcast_S8192x16x1_S8192x16x64_0_1_2 (Host.rsqrt (addf (Host.divf (broadcastInDim S8192x16x1 ![0, 1] bcast_S8192x16_S8192x16x1_0_1 (Host.reduceAdd (mulf p p) (constant S_ .f32 0x00000000#32) reducesTo_S8192x16x64_S8192x16_d2 h_S_)) (broadcastInDim S8192x16x1 ![] bcast_S_S8192x16x1 (constant S_ .f32 0x42800000#32))) (broadcastInDim S8192x16x1 ![] bcast_S_S8192x16x1 (constant S_ .f32 0x358637BD#32)))))) (broadcastInDim S8192x16x64 ![0, 1, 2] bcast_S1x1x64_S8192x16x64_0_1_2 (broadcastInDim S1x1x64 ![2] bcast_S64_S1x1x64_2 g))

/-- The second parts' mates, the lower halves' negated. -/
def turned (u : FVec Ideal S8192x16x64 .f32) : FVec Ideal S8192x16x64 .f32 :=
  concatenate S8192x16x64 2 [⟨S8192x16x16, Host.negf (extractStridedSlice S8192x16x16 ![0, 0, 16] (extractStridedSlice S8192x16x32 ![0, 0, 0] u slices_S8192x16x64_S8192x16x32_0_0_0) slices_S8192x16x32_S8192x16x16_0_0_16)⟩,
      ⟨S8192x16x16, extractStridedSlice S8192x16x16 ![0, 0, 0] (extractStridedSlice S8192x16x32 ![0, 0, 0] u slices_S8192x16x64_S8192x16x32_0_0_0) slices_S8192x16x32_S8192x16x16_0_0_0⟩,
      ⟨S8192x16x16, Host.negf (extractStridedSlice S8192x16x16 ![0, 0, 16] (extractStridedSlice S8192x16x32 ![0, 0, 32] u slices_S8192x16x64_S8192x16x32_0_0_32) slices_S8192x16x32_S8192x16x16_0_0_16)⟩,
      ⟨S8192x16x16, extractStridedSlice S8192x16x16 ![0, 0, 0] (extractStridedSlice S8192x16x32 ![0, 0, 32] u slices_S8192x16x64_S8192x16x32_0_0_32) slices_S8192x16x32_S8192x16x16_0_0_0⟩] concatenates_S8192x16x16_S8192x16x16_S8192x16x16_S8192x16x16_S8192x16x64_d2

/-- The second parts rotated. -/
def roped (u : FVec Ideal S8192x16x64 .f32) (r : FVec Ideal S8192x16x64 .f32) (a : FVec Ideal S8192x64 .f32) : FVec Ideal S8192x16x64 .f32 :=
  addf (mulf u (broadcastInDim S8192x16x64 ![0, 1, 2] bcast_S8192x1x64_S8192x16x64_0_1_2 (broadcastInDim S8192x1x64 ![0, 2] bcast_S8192x64_S8192x1x64_0_2 (Host.cos a))))
      (mulf r (broadcastInDim S8192x16x64 ![0, 1, 2] bcast_S8192x1x64_S8192x16x64_0_1_2 (broadcastInDim S8192x1x64 ![0, 2] bcast_S8192x64_S8192x1x64_0_2 (Host.sin a))))

/-- The parts side by side, then zeros. -/
def flat (u : FVec Ideal S8192x16x128 .f32) (r : FVec Ideal S8192x16x64 .f32) : FVec Ideal S8192x4096 .bf16 :=
  truncf .bf16 (shapeCast _ (concatenate S8192x16x256 2 [⟨S8192x16x128, u⟩, ⟨S8192x16x64, r⟩, ⟨S8192x16x64, (broadcastInDim S8192x16x64 ![] bcast_S_S8192x16x64 (constant S_ .f32 0x00000000#32))⟩] concatenates_S8192x16x128_S8192x16x64_S8192x16x64_S8192x16x256_d2) shapeCasts_S8192x16x256_S8192x4096) bitsLt_bf16_f32

/-- The product at an index. -/
theorem prod_at (a0 : FVec Ideal S8192x512 .bf16) (a1 : FVec Ideal S512x3072 .f32) (n : Fin 8192) (h : Fin 16) (d : Fin 192) :
    prod a0 a1 (ix3 n h d) = ∑ k : Fin 512, @HMul.hMul EReal EReal EReal _ (a0 (ix2 n k)) (a1 (ix2 k ⟨192 * h.val + d.val, by omega⟩)) := by
  pointwise [prod]
  refine Finset.sum_congr rfl fun k _ => congr (congrArg _ ?_) (congrArg a1 (congrArg (ix2 k) (Fin.ext (by dsimp only; omega))))
  rfl

/-- The first parts at an index. -/
theorem fst_at (q : FVec Ideal S8192x16x192 .f32) (n : Fin 8192) (h : Fin 16) (d : Fin 128) : fst q (ix3 n h d) = q (ix3 n h ⟨d.val, by omega⟩) := by
  pointwise [fst]

/-- The second parts at an index. -/
theorem snd_at (q : FVec Ideal S8192x16x192 .f32) (n : Fin 8192) (h : Fin 16) (d : Fin 64) : snd q (ix3 n h d) = q (ix3 n h ⟨128 + d.val, by omega⟩) := by
  pointwise [snd]

/-- A normed first part at an index. -/
theorem normedN_at (p : FVec Ideal S8192x16x128 .f32) (g : FVec Ideal S128 .f32) (n : Fin 8192) (h : Fin 16) (d : Fin 128) :
    normedN p g (ix3 n h d) = RopMath.nrm (fun e => p (ix3 n h e)) (fun e => g (ix1 e)) d := by
  unfold RopMath.nrm
  rw [← RopMath.mean_eq]
  pointwise [normedN]

/-- A normed second part at an index. -/
theorem normedP_at (p : FVec Ideal S8192x16x64 .f32) (g : FVec Ideal S64 .f32) (n : Fin 8192) (h : Fin 16) (d : Fin 64) :
    normedP p g (ix3 n h d) = RowMath.nrm 0x3C800000#32 (fun e => p (ix3 n h e)) (fun e => g (ix1 e)) d := by
  unfold RowMath.nrm
  rw [← RowMath.mean_64]
  pointwise [normedP]

/-- The mates at a coordinate of a lower half. -/
theorem turned_low (u : FVec Ideal S8192x16x64 .f32) (n : Fin 8192) (h : Fin 16) (d : Fin 64) (hd : d.val % 32 < 16) :
    turned u (ix3 n h d) = -(u (ix3 n h (PadMath.mate64 d)) : EReal) := by
  have hm := PadMath.mate64_low d hd
  have hx : ∀ e : Fin 64, e.val = d.val + 16 → -(u (ix3 n h e) : EReal) = -(u (ix3 n h (PadMath.mate64 d)) : EReal) := fun e he =>
    congrArg (fun e : Fin 64 => -(u (ix3 n h e) : EReal)) (Fin.ext (he.trans hm.symm))
  pointwise [turned]
  by_cases h1 : d.val < 16
  · exact (dif_pos h1).trans (hx _ (by dsimp only; omega))
  · refine (dif_neg h1).trans ((dif_neg (by omega)).trans ((dif_pos (by omega)).trans (hx _ (by dsimp only; omega))))

/-- The mates at a coordinate of an upper half. -/
theorem turned_high (u : FVec Ideal S8192x16x64 .f32) (n : Fin 8192) (h : Fin 16) (d : Fin 64) (hd : ¬ d.val % 32 < 16) :
    turned u (ix3 n h d) = u (ix3 n h (PadMath.mate64 d)) := by
  have hm := PadMath.mate64_high d hd
  have hx : ∀ e : Fin 64, e.val = d.val - 16 → u (ix3 n h e) = u (ix3 n h (PadMath.mate64 d)) := fun e he =>
    congrArg (fun e : Fin 64 => u (ix3 n h e)) (Fin.ext (he.trans hm.symm))
  pointwise [turned]
  by_cases h1 : d.val - 16 < 16
  · exact (dif_neg (by omega)).trans ((dif_pos h1).trans (hx _ rfl))
  · refine (dif_neg (by omega)).trans ((dif_neg h1).trans ((dif_neg (by omega)).trans (hx _ (by dsimp only; omega))))

/-- The rotation at an index. -/
theorem roped_at (u r : FVec Ideal S8192x16x64 .f32) (a : FVec Ideal S8192x64 .f32) (n : Fin 8192) (h : Fin 16) (d : Fin 64) :
    roped u r a (ix3 n h d) = @HAdd.hAdd EReal EReal EReal _ (@HMul.hMul EReal EReal EReal _ (u (ix3 n h d)) (Ideal.cos (a (ix2 n d)))) (@HMul.hMul EReal EReal EReal _ (r (ix3 n h d)) (Ideal.sin (a (ix2 n d)))) := by
  pointwise [roped]

/-- The result over the first parts. -/
theorem flat_fst (u : FVec Ideal S8192x16x128 .f32) (r : FVec Ideal S8192x16x64 .f32) (n : Fin 8192) (h : Fin 16) (d : Fin 128) :
    flat u r (ix2 n ⟨256 * h.val + d.val, by omega⟩) = u (ix3 n h d) := by
  pointwise [flat]
  exact (dif_pos (by omega)).trans (congrArg (fun e : Fin 128 => u (ix3 n h e)) (Fin.ext (by dsimp only; omega)))

/-- The result over the second parts and the zeros. -/
theorem flat_snd (u : FVec Ideal S8192x16x128 .f32) (r : FVec Ideal S8192x16x64 .f32) (n : Fin 8192) (h : Fin 16) (d : Fin 128) :
    flat u r (ix2 n ⟨256 * h.val + (128 + d.val), by omega⟩) = PadMath.pad (fun e => r (ix3 n h e)) d := by
  pointwise [flat]
  unfold PadMath.pad
  by_cases hd : d.val < 64
  · have hr : ∀ e : Fin 64, e.val = d.val → (r (ix3 n h e) : EReal) = r (ix3 n h ⟨d.val, hd⟩) := fun e he => congrArg (fun e : Fin 64 => r (ix3 n h e)) (Fin.ext he)
    refine Eq.trans ?_ (dif_pos hd).symm
    refine (dif_neg (by omega)).trans ((dif_pos (by omega)).trans (hr _ ?_))
    dsimp only
    omega
  · refine Eq.trans ?_ (dif_neg hd).symm
    exact (dif_neg (by omega)).trans (dif_neg (by omega))

set_option maxHeartbeats 2000000 in
/-- The reference's result by its parts. -/
theorem res_eq (m : (ℓ : Loc nD τ sig) → Buf (Elt Ideal) ℓ) (c : Dev nD) :
    Value.res_main_v81 (F := Ideal) m c
      = flat (normedN (fst (prod (m ((c.tc : Thread nD τ).loc main_arg0)) (m ((c.tc : Thread nD τ).loc main_arg1)))) (m ((c.tc : Thread nD τ).loc main_arg2)))
          (roped (normedP (snd (prod (m ((c.tc : Thread nD τ).loc main_arg0)) (m ((c.tc : Thread nD τ).loc main_arg1)))) (m ((c.tc : Thread nD τ).loc main_arg3)))
            (turned (normedP (snd (prod (m ((c.tc : Thread nD τ).loc main_arg0)) (m ((c.tc : Thread nD τ).loc main_arg1)))) (m ((c.tc : Thread nD τ).loc main_arg3)))) ang) := rfl

end Cert.MlqRefIdeal.Body
-- ==== Proof.MlqValue.lean ====
/-
  The latent mixer's queries' kernel: what the prepared operands hold, what each window stages of them at a grid point,
  and so what the result's array holds after the run.
-/
module

public import proofs.«01_k».proof.Proof.MlqTile
public import proofs.«01_k».proof.Proof.MlqRefValue
public import proofs.«01_k».proof.Proof.RopValue
public import Idealize.ShloMosaic.Lib.Pipeline.ValueKit
public import Idealize.ShloMosaic.Lib.StableHlo.ReadAt

@[expose] public section

set_option maxRecDepth 16384

noncomputable section

namespace Cert.MlqIdeal.Body

open Cert.MlqIdeal Cert.MlqIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The padding's value. -/
theorem sitofp_zero : (FloatOps.sitofp (F := Ideal) .f32 (0#32 : BitVec 32) : EReal) = 0 := by
  show (((0#32 : BitVec 32).toInt : ℝ) : EReal) = 0
  simp

/-- The prepared weights over a head's first part. -/
theorem w_fst (k : Fin 512) (h : Fin 16) (e : Fin 128) : (V m c main_v43 (ix2 k ⟨256 * h.val + e.val, by omega⟩) : EReal) = m ((c : Thread nD τ).loc main_arg1) (ix2 k ⟨192 * h.val + e.val, by omega⟩) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at
  refine (dif_pos (by omega)).trans ?_
  exact congrArg (m ((c : Thread nD τ).loc main_arg1)) (congrArg (ix2 k) (Fin.ext (by dsimp only; omega)))

/-- The prepared weights over a head's second part and its padding. -/
theorem w_snd (k : Fin 512) (h : Fin 16) (e : Fin 128) :
    (V m c main_v43 (ix2 k ⟨256 * h.val + (128 + e.val), by omega⟩) : EReal) = PadMath.pad (fun e => m ((c : Thread nD τ).loc main_arg1) (ix2 k ⟨192 * h.val + (128 + e.val), by omega⟩)) e := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at
  unfold PadMath.pad
  by_cases he : e.val < 64
  · refine Eq.trans ?_ (dif_pos he).symm
    refine (dif_pos (by omega)).trans ?_
    exact congrArg (m ((c : Thread nD τ).loc main_arg1)) (congrArg (ix2 k) (Fin.ext (by dsimp only; omega)))
  · refine Eq.trans ?_ (dif_neg he).symm
    exact (dif_neg (by omega)).trans sitofp_zero

/-- The prepared weights of the first parts' norm. -/
theorem gn_at (d : Fin 128) : V m c main_v44 (ix2 0 d) = m ((c : Thread nD τ).loc main_arg2) (ix1 d) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at

/-- The prepared weights of the second parts' norm. -/
theorem gp_at (d : Fin 128) : (V m c main_v46 (ix2 0 d) : EReal) = PadMath.pad (fun e => m ((c : Thread nD τ).loc main_arg3) (ix1 e)) d := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at
  unfold PadMath.pad
  by_cases he : d.val < 64
  · rw [dif_pos (by omega), dif_pos he]
  · rw [dif_neg (by omega), dif_neg he]
    exact sitofp_zero

/-- Four blocks side by side. -/
def side (a b c d : FVec Ideal S8192x16 .f32) : FVec Ideal S8192x64 .f32 :=
  concatenate S8192x64 1 [⟨S8192x16, a⟩, ⟨S8192x16, b⟩, ⟨S8192x16, c⟩, ⟨S8192x16, d⟩] concatenates_S8192x16_S8192x16_S8192x16_S8192x16_S8192x64_d1

/-- The angles' operation sets its four operands side by side. -/
theorem side_op (hx hy) :
    StableHlo.nary (τ := τ) ![main_v24, main_v24, main_v29, main_v29] main_v30 (fun u => (concatenate S8192x64 1 [⟨S8192x16, (u 0 : (⟨S8192x16, .f32⟩ : BufTy).Contents (Elt Ideal))⟩, ⟨S8192x16, (u 1 : (⟨S8192x16, .f32⟩ : BufTy).Contents (Elt Ideal))⟩, ⟨S8192x16, (u 2 : (⟨S8192x16, .f32⟩ : BufTy).Contents (Elt Ideal))⟩, ⟨S8192x16, (u 3 : (⟨S8192x16, .f32⟩ : BufTy).Contents (Elt Ideal))⟩] concatenates_S8192x16_S8192x16_S8192x16_S8192x16_S8192x64_d1 : (⟨S8192x64, .f32⟩ : BufTy).Contents (Elt Ideal))) hx hy
      = StableHlo.nary (τ := τ) ![main_v24, main_v24, main_v29, main_v29] main_v30 (fun u => side (u 0) (u 1) (u 2) (u 3)) hx hy := rfl

/-- A table padded to the lanes. -/
def padded (z : FVec Ideal S8192x64 .f32) : FVec Ideal S8192x128 .f32 :=
  pad S8192x128 ![0, 0] ![0, 64] ![0, 0] z (sitofp .f32 (constantI S_ 32 0#32)) pads_S8192x64_S8192x128_000_0640 h_S_

/-- A padded table at an index. -/
theorem padded_at (z : FVec Ideal S8192x64 .f32) (n : Fin 8192) (d : Fin 128) : padded z (ix2 n d) = PadMath.pad (fun e => z (ix2 n e)) d := by
  pointwise [padded]
  unfold PadMath.pad
  by_cases he : d.val < 64
  · rw [dif_pos (by omega), dif_pos he]
  · rw [dif_neg (by omega), dif_neg he]
    exact sitofp_zero

/-- The prepared cosines. -/
theorem cos_eq : V m c main_v47 = padded (Host.cos Cert.MlqRefIdeal.Body.ang) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- The period of a head's halves. -/
def period : IVec S_ 32 :=
  select (cmpi CmpIPredicate.eq (id (constantI S_ 32 32#32)) (constantI S_ 32 0#32)) (constantI S_ 32 1#32) (id (constantI S_ 32 32#32))

/-- A coordinate's remainder by the period. -/
def rest : IVec S64 32 := Host.remsi (iotaInDim S64 32 0) (broadcastInDim S64 ![] bcast_S_S64 period)

/-- The coordinates of the lower halves. -/
def lows : IVec S64 1 :=
  cmpi CmpIPredicate.slt
    (select (andi (cmpi CmpIPredicate.ne (cmpi CmpIPredicate.slt rest (broadcastInDim S64 ![] bcast_S_S64 (constantI S_ 32 0#32))) (broadcastInDim S64 ![] bcast_S_S64 (cmpi CmpIPredicate.slt period (constantI S_ 32 0#32))))
        (cmpi CmpIPredicate.ne rest (broadcastInDim S64 ![] bcast_S_S64 (constantI S_ 32 0#32))))
      (addi rest (broadcastInDim S64 ![] bcast_S_S64 period)) rest)
    (broadcastInDim S64 ![] bcast_S_S64 (constantI S_ 32 16#32))

/-- The signs: minus one over the lower halves, one over the upper. -/
def sign : FVec Ideal S64 .f32 :=
  select lows (broadcastInDim S64 ![] bcast_S_S64 (constant S_ .f32 3212836864#32)) (broadcastInDim S64 ![] bcast_S_S64 (constant S_ .f32 1065353216#32))

/-- The lower halves' coordinates, one by one. -/
theorem lows_at : ∀ d : Fin 64, lows (ix1 d) = if d.val % 32 < 16 then 1#1 else 0#1 := by
  decide +kernel

/-- A coordinate's sign. -/
theorem sign_at (d : Fin 64) : sign (ix1 d) = if d.val % 32 < 16 then (-1 : EReal) else 1 := by
  have e : sign (ix1 d) = Scalar.select (lows (ix1 d)) (Ideal.ofBits .f32 3212836864#32) (Ideal.ofBits .f32 1065353216#32) := rfl
  rw [e, lows_at d]
  by_cases h : d.val % 32 < 16
  · rw [if_pos h, if_pos h]; exact Cert.RopIdeal.Body.neg_one
  · rw [if_neg h, if_neg h]; exact Cert.RopIdeal.Body.pos_one

/-- The prepared sines. -/
theorem sin_eq : V m c main_v48 = padded (mulf (Host.sin Cert.MlqRefIdeal.Body.ang) (broadcastInDim S8192x64 ![0, 1] bcast_S1x64_S8192x64_0_1 (broadcastInDim S1x64 ![1] bcast_S64_S1x64_1 sign))) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- A token's cosine at a coordinate. -/
def csn (n : Fin 8192) (d : Fin 64) : EReal := Ideal.cos (Cert.MlqRefIdeal.Body.ang (ix2 n d))

/-- A token's signed sine at a coordinate. -/
def snn (n : Fin 8192) (d : Fin 64) : EReal := @HMul.hMul EReal EReal EReal _ (Ideal.sin (Cert.MlqRefIdeal.Body.ang (ix2 n d))) (if d.val % 32 < 16 then (-1 : EReal) else 1)

/-- The prepared cosines at an index. -/
theorem cos_at (n : Fin 8192) (d : Fin 128) : V m c main_v47 (ix2 n d) = PadMath.pad (csn n) d :=
  (congrFun (cos_eq m c) (ix2 n d)).trans (padded_at _ n d)

/-- The prepared sines at an index. -/
theorem sin_at (n : Fin 8192) (d : Fin 128) : V m c main_v48 (ix2 n d) = PadMath.pad (snn n) d := by
  refine (congrFun (sin_eq m c) (ix2 n d)).trans ((padded_at _ n d).trans (congrArg (fun f => PadMath.pad f d) (funext fun e => ?_)))
  unfold snn
  refine Eq.trans ?_ (congrArg (fun s : EReal => @HMul.hMul EReal EReal EReal _ (Ideal.sin (Cert.MlqRefIdeal.Body.ang (ix2 n e))) s) (sign_at e))
  pointwise

/-- The grid's indices of the windows: a block of tokens and a block of columns. -/
theorem idx : ∀ t : Fin cfg0.N, win0_0.index t = ![(grid0.coords t 0).val, 0] ∧ win0_1.index t = ![0, (grid0.coords t 1).val]
    ∧ win0_2.index t = ![0, 0] ∧ win0_3.index t = ![0, 0] ∧ win0_4.index t = ![(grid0.coords t 0).val, 0] ∧ win0_5.index t = ![(grid0.coords t 0).val, 0]
    ∧ win0_6.index t = ![(grid0.coords t 0).val, (grid0.coords t 1).val] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- A grid point's column `d`. -/
def col (t : Fin cfg0.N) (d : Fin 512) : Fin 4096 :=
  ⟨512 * (grid0.coords t 1).val + d.val, by have : (grid0.coords t 1).val < 8 := (grid0.coords t 1).isLt; omega⟩

/-- A grid point's head `h`. -/
def head (t : Fin cfg0.N) (h : Fin 2) : Fin 16 :=
  ⟨2 * (grid0.coords t 1).val + h.val, by have : (grid0.coords t 1).val < 8 := (grid0.coords t 1).isLt; omega⟩

/-- The staged tokens. -/
theorem blk_x (t : Fin cfg0.N) (i : Fin 1024) (k : Fin 512) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 512) (d : Fin 512) : iblk m c 1 t (ix2 k d) = V m c main_v43 (ix2 k (col t d)) := by
  blk_ext [iblk, idx t, col]

/-- The staged weights of the first parts' norm. -/
theorem blk_gn (t : Fin cfg0.N) (d : Fin 128) : iblk m c 2 t (ix2 0 d) = m ((c : Thread nD τ).loc main_arg2) (ix1 d) := by
  refine Eq.trans ?_ (gn_at m c d)
  blk_ext [iblk, idx t]

/-- The staged weights of the second parts' norm. -/
theorem blk_gp (t : Fin cfg0.N) (d : Fin 128) : iblk m c 3 t (ix2 0 d) = PadMath.pad (fun e => m ((c : Thread nD τ).loc main_arg3) (ix1 e)) d := by
  refine Eq.trans ?_ (gp_at m c d)
  blk_ext [iblk, idx t]

/-- The staged cosines. -/
theorem blk_cs (t : Fin cfg0.N) (i : Fin 1024) (d : Fin 128) : iblk m c 4 t (ix2 i d) = PadMath.pad (csn (row t i)) d := by
  refine Eq.trans ?_ (cos_at m c (row t i) d)
  blk_ext [iblk, idx t, row]

/-- The staged sines. -/
theorem blk_sn (t : Fin cfg0.N) (i : Fin 1024) (d : Fin 128) : iblk m c 5 t (ix2 i d) = PadMath.pad (snn (row t i)) d := by
  refine Eq.trans ?_ (sin_at m c (row t i) d)
  blk_ext [iblk, idx t, row]

/-- The first part of a head of the product of tokens and weights. -/
def fst (n : Fin 8192) (h : Fin 16) (e : Fin 128) : EReal :=
  ∑ k : Fin 512, @HMul.hMul EReal EReal EReal _ (m ((c : Thread nD τ).loc main_arg0) (ix2 n k)) (m ((c : Thread nD τ).loc main_arg1) (ix2 k ⟨192 * h.val + e.val, by omega⟩))

/-- The second part of a head of the product of tokens and weights. -/
def snd (n : Fin 8192) (h : Fin 16) (e : Fin 64) : EReal :=
  ∑ k : Fin 512, @HMul.hMul EReal EReal EReal _ (m ((c : Thread nD τ).loc main_arg0) (ix2 n k)) (m ((c : Thread nD τ).loc main_arg1) (ix2 k ⟨192 * h.val + (128 + e.val), by omega⟩))

/-- A head of the result: the first part normed, the second normed and rotated, then zeros. -/
def val (n : Fin 8192) (h : Fin 16) (d : Fin 256) : EReal :=
  if hd : d.val < 128 then RopMath.nrm (fst m c n h) (fun e => m ((c : Thread nD τ).loc main_arg2) (ix1 e)) ⟨d.val, hd⟩
  else PadMath.pad (PadMath.pe (snd m c n h) (fun e => m ((c : Thread nD τ).loc main_arg3) (ix1 e)) (csn n) (snn n)) ⟨d.val - 128, by omega⟩

/-- The result's array by coordinates. -/
def result : Vec Ideal S8192x4096 .bf16 := fun i =>
  val m c (i 0 : Fin 8192) ⟨(i 1).val / 256, by have : (i 1).val < 4096 := (i 1).isLt; omega⟩ ⟨(i 1).val % 256, Nat.mod_lt _ (by norm_num)⟩

/-- A block's column of a head's first part. -/
theorem fst_lt (h : Fin 2) (e : Fin 128) : 256 * h.val + e.val < 512 := by omega

/-- A block's column of a head's second part. -/
theorem snd_lt (h : Fin 2) (e : Fin 128) : 256 * h.val + (128 + e.val) < 512 := by omega

/-- The column by blocks and by heads. -/
theorem local_eq (b h e : Nat) : 512 * b + (256 * h + e) = 256 * (2 * b + h) + e := by omega

/-- A tile from its parts. -/
theorem tile_of_parts (x : Vec Ideal S1024x512 .bf16) (w : Vec Ideal S512x512 .bf16) (gn : Vec Ideal S1x128 .f32) (gp : Vec Ideal S1x128 .f32) (cs : Vec Ideal S1024x128 .f32) (sn : Vec Ideal S1024x128 .f32)
    (i : Fin 1024) (h : Fin 2) (d : Fin 256) (v p u q a b : Fin 128 → EReal)
    (hv : (fun e : Fin 128 => ∑ k : Fin 512, @HMul.hMul EReal EReal EReal _ (x (ix2 i k)) (w (ix2 k ⟨256 * h.val + e.val, fst_lt h e⟩))) = v)
    (hp : (fun e : Fin 128 => ∑ k : Fin 512, @HMul.hMul EReal EReal EReal _ (x (ix2 i k)) (w (ix2 k ⟨256 * h.val + (128 + e.val), snd_lt h e⟩))) = p)
    (hu : (fun e : Fin 128 => gn (ix2 0 e)) = u) (hq : (fun e : Fin 128 => gp (ix2 0 e)) = q) (ha : (fun e : Fin 128 => cs (ix2 i e)) = a) (hb : (fun e : Fin 128 => sn (ix2 i e)) = b) :
    tile x w gn gp cs sn i h d
      = if hd : d.val < 128 then RopMath.nrm v u ⟨d.val, hd⟩
        else RowMath.nrm 0x3C800000#32 p q ⟨d.val - 128, by omega⟩ * a ⟨d.val - 128, by omega⟩ + RowMath.nrm 0x3C800000#32 p q (PadMath.mate ⟨d.val - 128, by omega⟩) * b ⟨d.val - 128, by omega⟩ := by
  subst hv hp hu hq ha hb
  rfl

/-- A grid point's tile of the result. -/
theorem tile_at (t : Fin cfg0.N) (i : Fin 1024) (h : Fin 2) (d : Fin 256) :
    tile (iblk m c 0 t) (iblk m c 1 t) (iblk m c 2 t) (iblk m c 3 t) (iblk m c 4 t) (iblk m c 5 t) i h d = val m c (row t i) (head t h) d := by
  have e1 : (fun e : Fin 128 => ∑ k : Fin 512, @HMul.hMul EReal EReal EReal _ (iblk m c 0 t (ix2 i k)) (iblk m c 1 t (ix2 k ⟨256 * h.val + e.val, fst_lt h e⟩))) = fst m c (row t i) (head t h) := by
    funext e
    refine Finset.sum_congr rfl fun k _ => congr (congrArg _ (blk_x m c t i k)) ((blk_w m c t k _).trans (Eq.trans ?_ (w_fst m c k (head t h) e)))
    exact congrArg (fun z : Fin 4096 => V m c main_v43 (ix2 k z)) (Fin.ext (local_eq _ _ _))
  have e2 : (fun e : Fin 128 => ∑ k : Fin 512, @HMul.hMul EReal EReal EReal _ (iblk m c 0 t (ix2 i k)) (iblk m c 1 t (ix2 k ⟨256 * h.val + (128 + e.val), snd_lt h e⟩))) = PadMath.pad (snd m c (row t i) (head t h)) := by
    funext e
    refine Eq.trans (Finset.sum_congr rfl fun k _ => congr (congrArg _ (blk_x m c t i k)) ((blk_w m c t k _).trans (Eq.trans ?_ (w_snd m c k (head t h) e)))) (PadMath.sum_pad _ _ e)
    exact congrArg (fun z : Fin 4096 => V m c main_v43 (ix2 k z)) (Fin.ext (local_eq _ _ _))
  have e3 : (fun e : Fin 128 => iblk m c 2 t (ix2 0 e)) = fun e => m ((c : Thread nD τ).loc main_arg2) (ix1 e) := funext fun e => blk_gn m c t e
  have e4 : (fun e : Fin 128 => iblk m c 3 t (ix2 0 e)) = PadMath.pad (fun e => m ((c : Thread nD τ).loc main_arg3) (ix1 e)) := funext fun e => blk_gp m c t e
  have e5 : (fun e : Fin 128 => iblk m c 4 t (ix2 i e)) = PadMath.pad (csn (row t i)) := funext fun e => blk_cs m c t i e
  have e6 : (fun e : Fin 128 => iblk m c 5 t (ix2 i e)) = PadMath.pad (snn (row t i)) := funext fun e => blk_sn m c t i e
  refine (tile_of_parts _ _ _ _ _ _ i h d _ _ _ _ _ _ e1 e2 e3 e4 e5 e6).trans ?_
  unfold val
  by_cases hd : d.val < 128
  · refine (dif_pos hd).trans (Eq.trans ?_ (dif_pos hd).symm)
    rfl
  · refine (dif_neg hd).trans (Eq.trans ?_ (dif_neg hd).symm)
    exact PadMath.pe_pad _ _ _ _ _

/-- The result's array after the run. -/
theorem arr : (dats m 0 c).arrAt 6 cfg0.N = result m c := by
  refine (dats m 0 c).arrAt_eq_of_covers 6 _ (by decide +kernel) (fun t hf y => ?_)
  refine (congrFun (Value.flushed6 m c t) y).trans ?_
  have hy0 : (y 0).val < 1024 := (y 0).isLt
  have hy1 : (y 1).val < 512 := (y 1).isLt
  have ez : ((cfg0.win 6).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (iblk m c 3 t) (iblk m c 4 t) (iblk m c 5 t) (ix2 ⟨(y 0).val, hy0⟩ ⟨(y 1).val, hy1⟩)).trans ?_)
  · exact congrArg _ (by funext a; fin_cases a <;> rfl)
  · refine (tile_at m c t ⟨(y 0).val, hy0⟩ ⟨(y 1).val / 256, by omega⟩ ⟨(y 1).val % 256, Nat.mod_lt _ (by norm_num)⟩).trans ?_
    refine congr (congrArg (val m c (row t ⟨(y 0).val, hy0⟩)) (Fin.ext ?_)) (Fin.ext ?_)
    · show 2 * (grid0.coords t 1).val + (y 1).val / 256 = (512 * (grid0.coords t 1).val + (y 1).val) / 256
      omega
    · show (y 1).val % 256 = (512 * (grid0.coords t 1).val + (y 1).val) % 256
      omega

end Cert.MlqIdeal.Body
-- ==== Proof.MlqClaims.lean ====
/-
  The latent mixer's queries' claims: the kernel's array is the reference's.
-/
module

public import proofs.«01_k».proof.Defs
public import proofs.«01_k».proof.Proof.MlqValue
public import proofs.«01_k».proof.Proof.Gen.Mlq.Frame
public import Idealize.ShloMosaic.Adequacy
public import Idealize.ShloMosaic.Init

@[expose] public section

set_option maxRecDepth 16384

noncomputable section

namespace Cert.Proof.MlqClaims

open Idealize.ShloMosaic Idealize.ShloMosaic.TcCoe Idealize.SL.Sem
open Cert.MlqRefIdeal.Body (prod fst snd normedN normedP turned roped flat ang prod_at fst_at snd_at normedN_at normedP_at turned_low turned_high roped_at flat_fst flat_snd)
open Cert.MlqIdeal.Body (csn snn)

/-- The reference's rotation at an index, the sign moved to the sine. -/
theorem roped_eq (u : FVec Ideal Cert.MlqRefIdeal.S8192x16x64 .f32) (n : Fin 8192) (h : Fin 16) (d : Fin 64) (s : EReal) :
    @HMul.hMul EReal EReal EReal _ (turned u (ix3 n h d)) s
      = @HMul.hMul EReal EReal EReal _ (u (ix3 n h (PadMath.mate64 d))) (s * (if d.val % 32 < 16 then (-1 : EReal) else 1)) := by
  by_cases hd : d.val % 32 < 16
  · rw [if_pos hd, turned_low u n h d hd, mul_neg, mul_one]
    exact (EReal.neg_mul _ _).trans (mul_neg _ _).symm
  · rw [if_neg hd, turned_high u n h d hd, mul_one]

/-- The reference ends with its arguments and every counter as they were. -/
theorem frame_ref : Cert.quiescent_MlqRefIdeal := fun m ρ _ =>
  (θ_run Cert.MlqRefIdeal.defs _ _).mono (fun r h => ⟨fun c => (h c).2, sem_eq_zero_of_no_sems (by decide) r.2⟩)
    (Cert.MlqRefIdeal.Value.run (F := Ideal) m ρ)

/-- The reference's first parts at an index. -/
theorem fst_eq (a0 : FVec Ideal Cert.MlqRefIdeal.S8192x512 .bf16) (a1 : FVec Ideal Cert.MlqRefIdeal.S512x3072 .f32) (a2 : FVec Ideal Cert.MlqRefIdeal.S128 .f32)
    (n : Fin 8192) (h : Fin 16) (d : Fin 128) :
    normedN (fst (prod a0 a1)) a2 (ix3 n h d)
      = RopMath.nrm (fun e => ∑ k : Fin 512, @HMul.hMul EReal EReal EReal _ (a0 (ix2 n k)) (a1 (ix2 k ⟨192 * h.val + e.val, by omega⟩))) (fun e => a2 (ix1 e)) d :=
  (normedN_at _ a2 n h d).trans (congrArg (fun v => RopMath.nrm v (fun e => a2 (ix1 e)) d) (funext fun e => (fst_at _ n h e).trans (prod_at a0 a1 n h _)))

/-- The reference's second parts at an index. -/
theorem snd_eq (a0 : FVec Ideal Cert.MlqRefIdeal.S8192x512 .bf16) (a1 : FVec Ideal Cert.MlqRefIdeal.S512x3072 .f32) (a3 : FVec Ideal Cert.MlqRefIdeal.S64 .f32)
    (n : Fin 8192) (h : Fin 16) (d : Fin 64) :
    roped (normedP (snd (prod a0 a1)) a3) (turned (normedP (snd (prod a0 a1)) a3)) ang (ix3 n h d)
      = PadMath.pe (fun e => ∑ k : Fin 512, @HMul.hMul EReal EReal EReal _ (a0 (ix2 n k)) (a1 (ix2 k ⟨192 * h.val + (128 + e.val), by omega⟩))) (fun e => a3 (ix1 e)) (csn n) (snn n) d := by
  have en : ∀ e : Fin 64, normedP (snd (prod a0 a1)) a3 (ix3 n h e)
      = RowMath.nrm 0x3C800000#32 (fun e => ∑ k : Fin 512, @HMul.hMul EReal EReal EReal _ (a0 (ix2 n k)) (a1 (ix2 k ⟨192 * h.val + (128 + e.val), by omega⟩))) (fun e => a3 (ix1 e)) e := fun e =>
    (normedP_at _ a3 n h e).trans (congrArg (fun v => RowMath.nrm 0x3C800000#32 v (fun e => a3 (ix1 e)) e) (funext fun e => (snd_at _ n h e).trans (prod_at a0 a1 n h _)))
  refine (roped_at _ _ _ n h d).trans ?_
  exact congr (congrArg _ (congr (congrArg _ (en d)) rfl)) ((roped_eq _ n h d _).trans (congr (congrArg _ (en (PadMath.mate64 d))) rfl))

/-- The reference's result at an index. -/
theorem ref_at (a0 : FVec Ideal Cert.MlqRefIdeal.S8192x512 .bf16) (a1 : FVec Ideal Cert.MlqRefIdeal.S512x3072 .f32) (a2 : FVec Ideal Cert.MlqRefIdeal.S128 .f32) (a3 : FVec Ideal Cert.MlqRefIdeal.S64 .f32)
    (n : Fin 8192) (h : Fin 16) (d : Fin 256) :
    flat (normedN (fst (prod a0 a1)) a2) (roped (normedP (snd (prod a0 a1)) a3) (turned (normedP (snd (prod a0 a1)) a3)) ang) (ix2 n ⟨256 * h.val + d.val, by omega⟩)
      = if hd : d.val < 128 then RopMath.nrm (fun e => ∑ k : Fin 512, @HMul.hMul EReal EReal EReal _ (a0 (ix2 n k)) (a1 (ix2 k ⟨192 * h.val + e.val, by omega⟩))) (fun e => a2 (ix1 e)) ⟨d.val, hd⟩
        else PadMath.pad (PadMath.pe (fun e => ∑ k : Fin 512, @HMul.hMul EReal EReal EReal _ (a0 (ix2 n k)) (a1 (ix2 k ⟨192 * h.val + (128 + e.val), by omega⟩))) (fun e => a3 (ix1 e)) (csn n) (snn n)) ⟨d.val - 128, by omega⟩ := by
  by_cases hd : d.val < 128
  · refine Eq.trans ?_ (dif_pos hd).symm
    exact (flat_fst _ _ n h ⟨d.val, hd⟩).trans (fst_eq a0 a1 a2 n h ⟨d.val, hd⟩)
  · refine Eq.trans ?_ (dif_neg hd).symm
    have hc : ∀ z : Fin 4096, z.val = 256 * h.val + d.val → z = ⟨256 * h.val + d.val, by omega⟩ := fun z hz => Fin.ext hz
    refine Eq.trans (congrArg (fun z : Fin 4096 => flat (normedN (fst (prod a0 a1)) a2) (roped (normedP (snd (prod a0 a1)) a3) (turned (normedP (snd (prod a0 a1)) a3)) ang) (ix2 n z))
      (hc ⟨256 * h.val + (128 + (d.val - 128)), by omega⟩ (by dsimp only; omega)).symm) ?_
    exact (flat_snd _ _ n h ⟨d.val - 128, by omega⟩).trans (congrArg (fun f => PadMath.pad f ⟨d.val - 128, by omega⟩) (funext fun e => snd_eq a0 a1 a3 n h e))

/-- Kernel and reference leave the same array. -/
theorem algebraic : Cert.algebraic_MlqIdeal_MlqRefIdeal := by
  intro m ρ m' ρ' _ hagree
  refine ⟨fun c => Cert.MlqIdeal.Body.result m c,
    (θ_run Cert.MlqIdeal.defs _ _).mono (fun r h c => ⟨(h c).1.trans (Cert.MlqIdeal.Body.arr m c), (h c).2⟩)
      (Cert.MlqIdeal.Value.run_blocks m ρ), ?_⟩
  refine (θ_run Cert.MlqRefIdeal.defs _ _).mono (fun r h c => ⟨(h c).1.trans ?_, (h c).2⟩) (Cert.MlqRefIdeal.Value.run (F := Ideal) m' ρ')
  obtain ⟨h0, h1, h2, h3⟩ := hagree c
  refine (Cert.MlqRefIdeal.Body.res_eq m' c).trans ?_
  rw [h0, h1, h2, h3]
  funext i
  have hi : (i 1).val < 4096 := (i 1).isLt
  have ei : i = ix2 (i 0 : Fin 8192) ⟨256 * ((i 1).val / 256) + (i 1).val % 256, by omega⟩ := by
    funext a
    fin_cases a
    · rfl
    · exact Fin.ext (Nat.div_add_mod _ _).symm
  refine (congrArg _ ei).trans ?_
  exact ref_at _ _ _ _ (i 0 : Fin 8192) ⟨(i 1).val / 256, by omega⟩ ⟨(i 1).val % 256, Nat.mod_lt _ (by norm_num)⟩

end Cert.Proof.MlqClaims
-- ==== Proof.MkrTile.lean ====
/-
  The latent mixer's rotary key's body: what each stored chunk holds, read index by index.
-/
module

public import proofs.«01_k».proof.Proof.MlqTile
public import proofs.«01_k».proof.Proof.Gen.MkrIdeal.Value
public import Idealize.ShloMosaic.Lib.Pipeline.ValueKit
public import Idealize.ShloMosaic.Lib.Pointwise
public import Idealize.ShloMosaic.Lib.Claim

@[expose] public section

set_option maxRecDepth 16384

noncomputable section

namespace Cert.MkrIdeal.Body

open Cert.MkrIdeal Cert.MkrIdeal.Gen Idealize.ShloMosaic Idealize.ShloMosaic.TcCoe Idealize.SL.Sem
open Cert.MlqIdeal.Body (chunk normedP normedP_at pay1_at)

/-- The tile: the product normed, rotated with its mate. -/
def tile (x : Vec Ideal S1024x2048 .bf16) (w : Vec Ideal S2048x128 .bf16) (gp : Vec Ideal S1x128 .f32) (cs : Vec Ideal S1024x128 .f32) (sn : Vec Ideal S1024x128 .f32) (i : Fin 1024) (d : Fin 128) : EReal :=
  RowMath.nrm 0x3C800000#32 (fun e => ∑ k : Fin 2048, @HMul.hMul EReal EReal EReal _ (x (ix2 i k)) (w (ix2 k e))) (fun e => gp (ix2 0 e)) d * cs (ix2 i d)
    + RowMath.nrm 0x3C800000#32 (fun e => ∑ k : Fin 2048, @HMul.hMul EReal EReal EReal _ (x (ix2 i k)) (w (ix2 k e))) (fun e => gp (ix2 0 e)) (PadMath.mate d) * sn (ix2 i d)

/-- A chunk's product at an index. -/
theorem pay2_at (a : Vec Ideal S256x2048 .bf16) (w : Vec Ideal S2048x128 .bf16) (j : Fin 256) (d : Fin 128) :
    k0_pay2 a w (ix2 j d) = ∑ k : Fin 2048, @HMul.hMul EReal EReal EReal _ (a (ix2 j k)) (w (ix2 k d)) := by
  pointwise [k0_pay2]

/-- The product of the loads of chunk `o`'s rows and of the weights. -/
theorem dot_at (x : Vec Ideal S1024x2048 .bf16) (w : Vec Ideal S2048x128 .bf16) (o : Nat) (ho : o + 256 ≤ 1024)
    (h0 : ∀ a, (![o, 0] : Fin 2 → Nat) a + S256x2048.size a ≤ S1024x2048.size a) (h1 : ∀ a, (![0, 0] : Fin 2 → Nat) a + S2048x128.size a ≤ S2048x128.size a) (j : Fin 256) (e : Fin 128) :
    k0_pay2 (F := Ideal) (View.ld x (Rect.unit (s := S1024x2048) ![o, 0] S256x2048.size h0)) (View.ld w (Rect.unit (s := S2048x128) ![0, 0] S2048x128.size h1)) (ix2 j e)
      = ∑ k : Fin 2048, @HMul.hMul EReal EReal EReal _ (x (ix2 ⟨o + j.val, by omega⟩ k)) (w (ix2 k e)) := by
  refine (pay2_at _ _ j e).trans (Finset.sum_congr rfl fun k _ => ?_)
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- Chunk `o`'s rows of the tile. -/
theorem tile_of (x : Vec Ideal S1024x2048 .bf16) (w : Vec Ideal S2048x128 .bf16) (gp : Vec Ideal S1x128 .f32) (cs : Vec Ideal S1024x128 .f32) (sn : Vec Ideal S1024x128 .f32) (o : Nat) (ho : o + 256 ≤ 1024)
    (h0 : ∀ a, (![o, 0] : Fin 2 → Nat) a + S256x2048.size a ≤ S1024x2048.size a) (h1 : ∀ a, (![0, 0] : Fin 2 → Nat) a + S2048x128.size a ≤ S2048x128.size a)
    (h2 : ∀ a, (![0, 0] : Fin 2 → Nat) a + S1x128.size a ≤ S1x128.size a) (h3 : ∀ a, (![o, 0] : Fin 2 → Nat) a + S256x128.size a ≤ S1024x128.size a) (j : Fin 256) (d : Fin 128) :
    chunk (k0_pay2 (F := Ideal) (View.ld x (Rect.unit (s := S1024x2048) ![o, 0] S256x2048.size h0)) (View.ld w (Rect.unit (s := S2048x128) ![0, 0] S2048x128.size h1))) (View.ld gp (Rect.unit (s := S1x128) ![0, 0] S1x128.size h2)) (View.ld cs (Rect.unit (s := S1024x128) ![o, 0] S256x128.size h3)) (View.ld sn (Rect.unit (s := S1024x128) ![o, 0] S256x128.size h3)) (ix2 j d)
      = tile x w gp cs sn ⟨o + j.val, by omega⟩ d := by
  have et : ∀ z : Vec Ideal S1024x128 .f32, View.ld z (Rect.unit (s := S1024x128) ![o, 0] S256x128.size h3) (ix2 j d) = z (ix2 ⟨o + j.val, by omega⟩ d) := fun z => congrArg z (by
    funext a; fin_cases a <;> exact Fin.ext (by simp [Rect.unit, Rect.emb, ix2]))
  have ec : shapeCast S256x128 (View.ld cs (Rect.unit (s := S1024x128) ![o, 0] S256x128.size h3)) shapeCasts_S256x128_S256x128 (ix2 j d) = cs (ix2 ⟨o + j.val, by omega⟩ d) := by
    refine Eq.trans ?_ (et cs)
    pointwise
  have eg : ∀ e : Fin 128, View.ld gp (Rect.unit (s := S1x128) ![0, 0] S1x128.size h2) (ix2 0 e) = gp (ix2 0 e) := fun e => congrArg gp (by
    funext a; fin_cases a <;> exact Fin.ext (by simp [Rect.unit, Rect.emb, ix2]))
  have en : ∀ q : Fin 128, normedP (k0_pay2 (F := Ideal) (View.ld x (Rect.unit (s := S1024x2048) ![o, 0] S256x2048.size h0)) (View.ld w (Rect.unit (s := S2048x128) ![0, 0] S2048x128.size h1))) (View.ld gp (Rect.unit (s := S1x128) ![0, 0] S1x128.size h2)) (ix2 j q)
      = RowMath.nrm 0x3C800000#32 (fun e => ∑ k : Fin 2048, @HMul.hMul EReal EReal EReal _ (x (ix2 ⟨o + j.val, by omega⟩ k)) (w (ix2 k e))) (fun e => gp (ix2 0 e)) q :=
    fun q => (normedP_at _ _ j q).trans (congr (congr (congrArg (RowMath.nrm 0x3C800000#32) (funext fun e => dot_at x w o ho h0 h1 j e)) (funext eg)) rfl)
  refine (pay1_at _ _ _ j d).trans ?_
  exact congr (congrArg _ (congr (congrArg _ (en d)) ec)) (congr (congrArg _ (en (PadMath.mate d))) (et sn))

/-- What the body leaves in the result's block. -/
theorem out_at (x : Vec Ideal S1024x2048 .bf16) (w : Vec Ideal S2048x128 .bf16) (gp : Vec Ideal S1x128 .f32) (cs : Vec Ideal S1024x128 .f32) (sn : Vec Ideal S1024x128 .f32) (y : S1024x128.Idx) :
    out0_5 (F := Ideal) x w gp cs sn y = tile x w gp cs sn (y 0 : Fin 1024) (y 1 : Fin 128) := by
  unfold out0_5
  refine View.canon_apply_of_pieces (Val := Elt Ideal) (fun y : S1024x128.Idx => tile x w gp cs sn (y 0 : Fin 1024) (y 1 : Fin 128)) _ ?_ y (cover0_5 _ _ _ _ y)
  intro p hp z
  have ez : ∀ z : S256x128.Idx, z = ix2 (z 0 : Fin 256) (z 1 : Fin 128) := fun z => by funext a; fin_cases a <;> rfl
  simp only [List.mem_cons, List.mem_nil_iff, or_false] at hp
  rcases hp with rfl | rfl | rfl | rfl
  · refine (congrArg _ (ez z)).trans ((tile_of x w gp cs sn 768 (by norm_num) _ _ _ _ (z 0 : Fin 256) (z 1 : Fin 128)).trans ?_)
    exact congr (congrArg (tile x w gp cs sn) (Fin.ext (by simp [Rect.unit, Rect.emb]))) (Fin.ext (by simp [Rect.unit, Rect.emb]))
  · refine (congrArg _ (ez z)).trans ((tile_of x w gp cs sn 512 (by norm_num) _ _ _ _ (z 0 : Fin 256) (z 1 : Fin 128)).trans ?_)
    exact congr (congrArg (tile x w gp cs sn) (Fin.ext (by simp [Rect.unit, Rect.emb]))) (Fin.ext (by simp [Rect.unit, Rect.emb]))
  · refine (congrArg _ (ez z)).trans ((tile_of x w gp cs sn 256 (by norm_num) _ _ _ _ (z 0 : Fin 256) (z 1 : Fin 128)).trans ?_)
    exact congr (congrArg (tile x w gp cs sn) (Fin.ext (by simp [Rect.unit, Rect.emb]))) (Fin.ext (by simp [Rect.unit, Rect.emb]))
  · refine (congrArg _ (ez z)).trans ((tile_of x w gp cs sn 0 (by norm_num) _ _ _ _ (z 0 : Fin 256) (z 1 : Fin 128)).trans ?_)
    exact congr (congrArg (tile x w gp cs sn) (Fin.ext (by simp [Rect.unit, Rect.emb]))) (Fin.ext (by simp [Rect.unit, Rect.emb]))

end Cert.MkrIdeal.Body
-- ==== Proof.MkrRefValue.lean ====
/-
  The latent mixer's rotary key's reference: what its result holds, read index by index.
-/
module

public import proofs.«01_k».proof.Proof.MlqRefValue
public import proofs.«01_k».proof.Proof.Gen.MkrRefIdeal.Run
public import Idealize.ShloMosaic.Lib.Pointwise
public import Idealize.ShloMosaic.Lib.Claim

@[expose] public section

set_option maxRecDepth 16384

noncomputable section

namespace Cert.MkrRefIdeal.Body

open Cert.MkrRefIdeal Cert.MkrRefIdeal.Gen Idealize.ShloMosaic Idealize.ShloMosaic.TcCoe Idealize.SL.Sem
open Cert.MlqRefIdeal.Body (ang)

/-- The product. -/
def prod (a0 : FVec Ideal S8192x2048 .bf16) (a1 : FVec Ideal S2048x64 .f32) : FVec Ideal S8192x64 .f32 :=
  Host.dotGeneral dot_S8192x2048_S2048x64_S8192x64_1_0_0_1_n_n none (extf .f32 a0 bitsLt_bf16_f32) a1

/-- The product normed. -/
def normed (p : FVec Ideal S8192x64 .f32) (g : FVec Ideal S64 .f32) : FVec Ideal S8192x64 .f32 :=
  mulf (mulf p (broadcastInDim S8192x64 ![0, 1] bcast_S8192x1_S8192x64_0_1 (Host.rsqrt (addf (Host.divf (broadcastInDim S8192x1 ![0] bcast_S8192_S8192x1_0 (Host.reduceAdd (mulf p p) (constant S_ .f32 0x00000000#32) reducesTo_S8192x64_S8192_d1 h_S_)) (broadcastInDim S8192x1 ![] bcast_S_S8192x1 (constant S_ .f32 0x42800000#32))) (broadcastInDim S8192x1 ![] bcast_S_S8192x1 (constant S_ .f32 0x358637BD#32)))))) (broadcastInDim S8192x64 ![0, 1] bcast_S1x64_S8192x64_0_1 (broadcastInDim S1x64 ![1] bcast_S64_S1x64_1 g))

/-- The rows as one head. -/
def one (u : FVec Ideal S8192x64 .f32) : FVec Ideal S8192x1x64 .f32 := broadcastInDim S8192x1x64 ![0, 2] bcast_S8192x64_S8192x1x64_0_2 u

/-- The mates, the lower halves' negated. -/
def turned (u : FVec Ideal S8192x1x64 .f32) : FVec Ideal S8192x1x64 .f32 :=
  concatenate S8192x1x64 2 [⟨S8192x1x16, Host.negf (extractStridedSlice S8192x1x16 ![0, 0, 16] (extractStridedSlice S8192x1x32 ![0, 0, 0] u slices_S8192x1x64_S8192x1x32_0_0_0) slices_S8192x1x32_S8192x1x16_0_0_16)⟩, ⟨S8192x1x16, extractStridedSlice S8192x1x16 ![0, 0, 0] (extractStridedSlice S8192x1x32 ![0, 0, 0] u slices_S8192x1x64_S8192x1x32_0_0_0) slices_S8192x1x32_S8192x1x16_0_0_0⟩,
      ⟨S8192x1x16, Host.negf (extractStridedSlice S8192x1x16 ![0, 0, 16] (extractStridedSlice S8192x1x32 ![0, 0, 32] u slices_S8192x1x64_S8192x1x32_0_0_32) slices_S8192x1x32_S8192x1x16_0_0_16)⟩, ⟨S8192x1x16, extractStridedSlice S8192x1x16 ![0, 0, 0] (extractStridedSlice S8192x1x32 ![0, 0, 32] u slices_S8192x1x64_S8192x1x32_0_0_32) slices_S8192x1x32_S8192x1x16_0_0_0⟩] concatenates_S8192x1x16_S8192x1x16_S8192x1x16_S8192x1x16_S8192x1x64_d2

/-- The rows rotated. -/
def roped (u r : FVec Ideal S8192x1x64 .f32) (a : FVec Ideal S8192x64 .f32) : FVec Ideal S8192x1x64 .f32 :=
  addf (mulf u (broadcastInDim S8192x1x64 ![0, 2] bcast_S8192x64_S8192x1x64_0_2 (Host.cos a))) (mulf r (broadcastInDim S8192x1x64 ![0, 2] bcast_S8192x64_S8192x1x64_0_2 (Host.sin a)))

/-- The rows, then zeros. -/
def flat (r : FVec Ideal S8192x1x64 .f32) : FVec Ideal S8192x128 .bf16 :=
  truncf .bf16 (concatenate S8192x128 1 [⟨S8192x64, (shapeCast _ r shapeCasts_S8192x1x64_S8192x64)⟩, ⟨S8192x64, (broadcastInDim S8192x64 ![] bcast_S_S8192x64 (constant S_ .f32 0x00000000#32))⟩] concatenates_S8192x64_S8192x64_S8192x128_d1) bitsLt_bf16_f32

/-- The product at an index. -/
theorem prod_at (a0 : FVec Ideal S8192x2048 .bf16) (a1 : FVec Ideal S2048x64 .f32) (n : Fin 8192) (d : Fin 64) :
    prod a0 a1 (ix2 n d) = ∑ k : Fin 2048, @HMul.hMul EReal EReal EReal _ (a0 (ix2 n k)) (a1 (ix2 k d)) := by
  pointwise [prod]

/-- The normed product at an index. -/
theorem normed_at (p : FVec Ideal S8192x64 .f32) (g : FVec Ideal S64 .f32) (n : Fin 8192) (d : Fin 64) :
    normed p g (ix2 n d) = RowMath.nrm 0x3C800000#32 (fun e => p (ix2 n e)) (fun e => g (ix1 e)) d := by
  unfold RowMath.nrm
  rw [← RowMath.mean_64]
  pointwise [normed]

/-- The one head at an index. -/
theorem one_at (u : FVec Ideal S8192x64 .f32) (n : Fin 8192) (h : Fin 1) (d : Fin 64) : one u (ix3 n h d) = u (ix2 n d) := by
  pointwise [one]

/-- The mates at a coordinate of a lower half. -/
theorem turned_low (u : FVec Ideal S8192x1x64 .f32) (n : Fin 8192) (h : Fin 1) (d : Fin 64) (hd : d.val % 32 < 16) :
    turned u (ix3 n h d) = -(u (ix3 n h (PadMath.mate64 d)) : EReal) := by
  have hm := PadMath.mate64_low d hd
  have hx : ∀ (h' : Fin 1) (e : Fin 64), e.val = d.val + 16 → -(u (ix3 n h' e) : EReal) = -(u (ix3 n h (PadMath.mate64 d)) : EReal) := fun h' e he => by
    obtain rfl : h' = h := Subsingleton.elim _ _
    exact congrArg (fun e : Fin 64 => -(u (ix3 n h' e) : EReal)) (Fin.ext (he.trans hm.symm))
  pointwise [turned]
  by_cases h1 : d.val < 16
  · exact (dif_pos h1).trans (hx _ _ (by dsimp only; omega))
  · refine (dif_neg h1).trans ((dif_neg (by omega)).trans ((dif_pos (by omega)).trans (hx _ _ (by dsimp only; omega))))

/-- The mates at a coordinate of an upper half. -/
theorem turned_high (u : FVec Ideal S8192x1x64 .f32) (n : Fin 8192) (h : Fin 1) (d : Fin 64) (hd : ¬ d.val % 32 < 16) :
    turned u (ix3 n h d) = u (ix3 n h (PadMath.mate64 d)) := by
  have hm := PadMath.mate64_high d hd
  have hx : ∀ (h' : Fin 1) (e : Fin 64), e.val = d.val - 16 → u (ix3 n h' e) = u (ix3 n h (PadMath.mate64 d)) := fun h' e he => by
    obtain rfl : h' = h := Subsingleton.elim _ _
    exact congrArg (fun e : Fin 64 => u (ix3 n h' e)) (Fin.ext (he.trans hm.symm))
  pointwise [turned]
  by_cases h1 : d.val - 16 < 16
  · exact (dif_neg (by omega)).trans ((dif_pos h1).trans (hx _ _ rfl))
  · refine (dif_neg (by omega)).trans ((dif_neg h1).trans ((dif_neg (by omega)).trans (hx _ _ (by dsimp only; omega))))

/-- The rotation at an index. -/
theorem roped_at (u r : FVec Ideal S8192x1x64 .f32) (a : FVec Ideal S8192x64 .f32) (n : Fin 8192) (h : Fin 1) (d : Fin 64) :
    roped u r a (ix3 n h d) = @HAdd.hAdd EReal EReal EReal _ (@HMul.hMul EReal EReal EReal _ (u (ix3 n h d)) (Ideal.cos (a (ix2 n d)))) (@HMul.hMul EReal EReal EReal _ (r (ix3 n h d)) (Ideal.sin (a (ix2 n d)))) := by
  pointwise [roped]

/-- The result at an index. -/
theorem flat_at (r : FVec Ideal S8192x1x64 .f32) (n : Fin 8192) (d : Fin 128) : flat r (ix2 n d) = PadMath.pad (fun e => r (ix3 n 0 e)) d := by
  pointwise [flat]
  unfold PadMath.pad
  by_cases hd : d.val < 64
  · refine (dif_pos hd).trans (Eq.trans ?_ (dif_pos hd).symm)
    rfl
  · refine (dif_neg hd).trans (Eq.trans ?_ (dif_neg hd).symm)
    rfl

set_option maxHeartbeats 2000000 in
/-- The reference's result by its parts. -/
theorem res_eq (m : (ℓ : Loc nD τ sig) → Buf (Elt Ideal) ℓ) (c : Dev nD) :
    Value.res_main_v64 (F := Ideal) m c
      = flat (roped (one (normed (prod (m ((c.tc : Thread nD τ).loc main_arg0)) (m ((c.tc : Thread nD τ).loc main_arg1))) (m ((c.tc : Thread nD τ).loc main_arg2))))
            (turned (one (normed (prod (m ((c.tc : Thread nD τ).loc main_arg0)) (m ((c.tc : Thread nD τ).loc main_arg1))) (m ((c.tc : Thread nD τ).loc main_arg2))))) ang) := rfl

end Cert.MkrRefIdeal.Body
-- ==== Proof.MkrValue.lean ====
/-
  The latent mixer's rotary key's kernel: what the prepared operands hold, what each window stages of them at a grid
  point, and so what the result's array holds after the run.
-/
module

public import proofs.«01_k».proof.Proof.MkrTile
public import proofs.«01_k».proof.Proof.MkrRefValue
public import proofs.«01_k».proof.Proof.MlqValue
public import Idealize.ShloMosaic.Lib.Pipeline.ValueKit
public import Idealize.ShloMosaic.Lib.StableHlo.ReadAt

@[expose] public section

set_option maxRecDepth 16384

noncomputable section

namespace Cert.MkrIdeal.Body

open Cert.MkrIdeal Cert.MkrIdeal.Gen Idealize.ShloMosaic Idealize.ShloMosaic.TcCoe Idealize.SL.Sem
open Idealize.ShloMosaic.Pipeline (Dat)
open Cert.MlqIdeal.Body (sitofp_zero side padded padded_at sign sign_at csn snn)

variable (m : (ℓ : Loc nD τ sig) → Buf (Elt Ideal) ℓ) (c : Dev nD)

/-- The prepared weights. -/
theorem w_at (k : Fin 2048) (d : Fin 128) : (V m c main_v41 (ix2 k d) : EReal) = PadMath.pad (fun e => m ((c : Thread nD τ).loc main_arg1) (ix2 k e)) d := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at
  unfold PadMath.pad
  by_cases he : d.val < 64
  · rw [dif_pos (by omega), dif_pos he]
  · rw [dif_neg (by omega), dif_neg he]
    exact sitofp_zero

/-- The prepared weights of the norm. -/
theorem g_at (d : Fin 128) : (V m c main_v43 (ix2 0 d) : EReal) = PadMath.pad (fun e => m ((c : Thread nD τ).loc main_arg2) (ix1 e)) d := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_reads_at
  unfold PadMath.pad
  by_cases he : d.val < 64
  · rw [dif_pos (by omega), dif_pos he]
  · rw [dif_neg (by omega), dif_neg he]
    exact sitofp_zero

/-- The angles' operation sets its four operands side by side. -/
theorem side_op (hx hy) :
    StableHlo.nary (τ := τ) ![main_v22, main_v22, main_v27, main_v27] main_v28 (fun u => (concatenate S8192x64 1 [⟨S8192x16, (u 0 : (⟨S8192x16, .f32⟩ : BufTy).Contents (Elt Ideal))⟩, ⟨S8192x16, (u 1 : (⟨S8192x16, .f32⟩ : BufTy).Contents (Elt Ideal))⟩, ⟨S8192x16, (u 2 : (⟨S8192x16, .f32⟩ : BufTy).Contents (Elt Ideal))⟩, ⟨S8192x16, (u 3 : (⟨S8192x16, .f32⟩ : BufTy).Contents (Elt Ideal))⟩] concatenates_S8192x16_S8192x16_S8192x16_S8192x16_S8192x64_d1 : (⟨S8192x64, .f32⟩ : BufTy).Contents (Elt Ideal))) hx hy
      = StableHlo.nary (τ := τ) ![main_v22, main_v22, main_v27, main_v27] main_v28 (fun u => side (u 0) (u 1) (u 2) (u 3)) hx hy := rfl

/-- The prepared cosines. -/
theorem cos_eq : V m c main_v44 = padded (Host.cos Cert.MlqRefIdeal.Body.ang) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- The prepared sines. -/
theorem sin_eq : V m c main_v45 = padded (mulf (Host.sin Cert.MlqRefIdeal.Body.ang) (broadcastInDim S8192x64 ![0, 1] bcast_S1x64_S8192x64_0_1 (broadcastInDim S1x64 ![1] bcast_S64_S1x64_1 sign))) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.tc.devRef _) = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append, side_op]
  after_reads_simp
  dsimp only [Matrix.cons_val, Fin.cons]
  try after_reads_simp
  simp -implicitDefEqProofs only [StableHlo.TRef.toBuf, StableHlo.TRef.ofBuf, cast_cast, cast_eq]
  clean_types
  rfl

/-- The prepared cosines at an index. -/
theorem cos_at (n : Fin 8192) (d : Fin 128) : V m c main_v44 (ix2 n d) = PadMath.pad (csn n) d :=
  (congrFun (cos_eq m c) (ix2 n d)).trans (padded_at _ n d)

/-- The prepared sines at an index. -/
theorem sin_at (n : Fin 8192) (d : Fin 128) : V m c main_v45 (ix2 n d) = PadMath.pad (snn n) d := by
  refine (congrFun (sin_eq m c) (ix2 n d)).trans ((padded_at _ n d).trans (congrArg (fun f => PadMath.pad f d) (funext fun e => ?_)))
  unfold snn
  refine Eq.trans ?_ (congrArg (fun s : EReal => @HMul.hMul EReal EReal EReal _ (Ideal.sin (Cert.MlqRefIdeal.Body.ang (ix2 n e))) s) (sign_at e))
  pointwise

/-- The grid's indices of the windows: a block of tokens. -/
theorem idx : ∀ t : Fin cfg0.N, win0_0.index t = ![(grid0.coords t 0).val, 0] ∧ win0_1.index t = ![0, 0]
    ∧ win0_2.index t = ![0, 0] ∧ win0_3.index t = ![(grid0.coords t 0).val, 0] ∧ win0_4.index t = ![(grid0.coords t 0).val, 0]
    ∧ win0_5.index t = ![(grid0.coords t 0).val, 0] := by
  decide +kernel

/-- A grid point's token `i`. -/
def row (t : Fin cfg0.N) (i : Fin 1024) : Fin 8192 :=
  ⟨1024 * (grid0.coords t 0).val + i.val, by have : (grid0.coords t 0).val < 8 := (grid0.coords t 0).isLt; omega⟩

/-- The staged tokens. -/
theorem blk_x (t : Fin cfg0.N) (i : Fin 1024) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 128) : iblk m c 1 t (ix2 k d) = PadMath.pad (fun e => m ((c : Thread nD τ).loc main_arg1) (ix2 k e)) d := by
  refine Eq.trans ?_ (w_at m c k d)
  blk_ext [iblk, idx t]

/-- The staged weights of the norm. -/
theorem blk_g (t : Fin cfg0.N) (d : Fin 128) : iblk m c 2 t (ix2 0 d) = PadMath.pad (fun e => m ((c : Thread nD τ).loc main_arg2) (ix1 e)) d := by
  refine Eq.trans ?_ (g_at m c d)
  blk_ext [iblk, idx t]

/-- The staged cosines. -/
theorem blk_cs (t : Fin cfg0.N) (i : Fin 1024) (d : Fin 128) : iblk m c 3 t (ix2 i d) = PadMath.pad (csn (row t i)) d := by
  refine Eq.trans ?_ (cos_at m c (row t i) d)
  blk_ext [iblk, idx t, row]

/-- The staged sines. -/
theorem blk_sn (t : Fin cfg0.N) (i : Fin 1024) (d : Fin 128) : iblk m c 4 t (ix2 i d) = PadMath.pad (snn (row t i)) d := by
  refine Eq.trans ?_ (sin_at m c (row t i) d)
  blk_ext [iblk, idx t, row]

/-- A row of the product of tokens and weights. -/
def prod (n : Fin 8192) (e : Fin 64) : EReal :=
  ∑ k : Fin 2048, @HMul.hMul EReal EReal EReal _ (m ((c : Thread nD τ).loc main_arg0) (ix2 n k)) (m ((c : Thread nD τ).loc main_arg1) (ix2 k e))

/-- A row of the result: the product normed and rotated, then zeros. -/
def val (n : Fin 8192) (d : Fin 128) : EReal :=
  PadMath.pad (PadMath.pe (prod m c n) (fun e => m ((c : Thread nD τ).loc main_arg2) (ix1 e)) (csn n) (snn n)) d

/-- The result's array by coordinates. -/
def result : Vec Ideal S8192x128 .bf16 := fun i => val m c (i 0 : Fin 8192) (i 1 : Fin 128)

/-- A tile from its parts. -/
theorem tile_of_parts (x : Vec Ideal S1024x2048 .bf16) (w : Vec Ideal S2048x128 .bf16) (gp : Vec Ideal S1x128 .f32) (cs : Vec Ideal S1024x128 .f32) (sn : Vec Ideal S1024x128 .f32)
    (i : Fin 1024) (d : Fin 128) (p q a b : Fin 128 → EReal) (hp : (fun e => ∑ k : Fin 2048, @HMul.hMul EReal EReal EReal _ (x (ix2 i k)) (w (ix2 k e))) = p)
    (hq : (fun e : Fin 128 => gp (ix2 0 e)) = q) (ha : (fun e : Fin 128 => cs (ix2 i e)) = a) (hb : (fun e : Fin 128 => sn (ix2 i e)) = b) :
    tile x w gp cs sn i d = RowMath.nrm 0x3C800000#32 p q d * a d + RowMath.nrm 0x3C800000#32 p q (PadMath.mate d) * b d := by
  subst hp hq ha hb
  rfl

/-- A grid point's tile of the result. -/
theorem tile_at (t : Fin cfg0.N) (i : Fin 1024) (d : Fin 128) :
    tile (iblk m c 0 t) (iblk m c 1 t) (iblk m c 2 t) (iblk m c 3 t) (iblk m c 4 t) i d = val m c (row t i) d := by
  have e2 : (fun e : Fin 128 => ∑ k : Fin 2048, @HMul.hMul EReal EReal EReal _ (iblk m c 0 t (ix2 i k)) (iblk m c 1 t (ix2 k e))) = PadMath.pad (prod m c (row t i)) := by
    funext e
    exact Eq.trans (Finset.sum_congr rfl fun k _ => congr (congrArg _ (blk_x m c t i k)) (blk_w m c t k e)) (PadMath.sum_pad _ _ e)
  have e4 : (fun e : Fin 128 => iblk m c 2 t (ix2 0 e)) = PadMath.pad (fun e => m ((c : Thread nD τ).loc main_arg2) (ix1 e)) := funext fun e => blk_g m c t e
  have e5 : (fun e : Fin 128 => iblk m c 3 t (ix2 i e)) = PadMath.pad (csn (row t i)) := funext fun e => blk_cs m c t i e
  have e6 : (fun e : Fin 128 => iblk m c 4 t (ix2 i e)) = PadMath.pad (snn (row t i)) := funext fun e => blk_sn m c t i e
  refine (tile_of_parts _ _ _ _ _ i d _ _ _ _ e2 e4 e5 e6).trans ?_
  exact PadMath.pe_pad _ _ _ _ _

/-- The result's array after the run. -/
theorem arr : (dats m 0 c).arrAt 5 cfg0.N = result m c := by
  refine (dats m 0 c).arrAt_eq_of_covers 5 _ (by decide +kernel) (fun t hf y => ?_)
  refine (congrFun (Value.flushed5 m c t) y).trans ?_
  have hy0 : (y 0).val < 1024 := (y 0).isLt
  have hy1 : (y 1).val < 128 := (y 1).isLt
  have ez : ((cfg0.win 5).blk t).view.emb y = ix2 (row t ⟨(y 0).val, hy0⟩) ⟨(y 1).val, hy1⟩ := by
    blk_ext [idx t, row]
  refine Eq.trans ?_ (congrArg (result m c) ez.symm)
  refine Eq.trans ?_ ((out_at (iblk m c 0 t) (iblk m c 1 t) (iblk m c 2 t) (iblk m c 3 t) (iblk m c 4 t) (ix2 ⟨(y 0).val, hy0⟩ ⟨(y 1).val, hy1⟩)).trans ?_)
  · exact congrArg _ (by funext a; fin_cases a <;> rfl)
  · exact tile_at m c t ⟨(y 0).val, hy0⟩ ⟨(y 1).val, hy1⟩

end Cert.MkrIdeal.Body
-- ==== Proof.MkrClaims.lean ====
/-
  The latent mixer's rotary key's claims: the kernel's array is the reference's.
-/
module

public import proofs.«01_k».proof.Defs
public import proofs.«01_k».proof.Proof.MkrValue
public import proofs.«01_k».proof.Proof.Gen.Mkr.Frame
public import Idealize.ShloMosaic.Adequacy
public import Idealize.ShloMosaic.Init

@[expose] public section

set_option maxRecDepth 16384

noncomputable section

namespace Cert.Proof.MkrClaims

open Idealize.ShloMosaic Idealize.ShloMosaic.TcCoe Idealize.SL.Sem
open Cert.MkrRefIdeal.Body (prod normed one turned roped flat prod_at normed_at one_at turned_low turned_high roped_at flat_at)
open Cert.MlqRefIdeal.Body (ang)
open Cert.MlqIdeal.Body (csn snn)

/-- The reference's rotation at an index, the sign moved to the sine. -/
theorem roped_eq (u : FVec Ideal Cert.MkrRefIdeal.S8192x1x64 .f32) (n : Fin 8192) (h : Fin 1) (d : Fin 64) (s : EReal) :
    @HMul.hMul EReal EReal EReal _ (turned u (ix3 n h d)) s
      = @HMul.hMul EReal EReal EReal _ (u (ix3 n h (PadMath.mate64 d))) (s * (if d.val % 32 < 16 then (-1 : EReal) else 1)) := by
  by_cases hd : d.val % 32 < 16
  · rw [if_pos hd, turned_low u n h d hd, mul_neg, mul_one]
    exact (EReal.neg_mul _ _).trans (mul_neg _ _).symm
  · rw [if_neg hd, turned_high u n h d hd, mul_one]

/-- The reference ends with its arguments and every counter as they were. -/
theorem frame_ref : Cert.quiescent_MkrRefIdeal := fun m ρ _ =>
  (θ_run Cert.MkrRefIdeal.defs _ _).mono (fun r h => ⟨fun c => (h c).2, sem_eq_zero_of_no_sems (by decide) r.2⟩)
    (Cert.MkrRefIdeal.Value.run (F := Ideal) m ρ)

/-- The reference's result at an index. -/
theorem ref_at (a0 : FVec Ideal Cert.MkrRefIdeal.S8192x2048 .bf16) (a1 : FVec Ideal Cert.MkrRefIdeal.S2048x64 .f32) (a2 : FVec Ideal Cert.MkrRefIdeal.S64 .f32) (n : Fin 8192) (d : Fin 128) :
    flat (roped (one (normed (prod a0 a1) a2)) (turned (one (normed (prod a0 a1) a2))) ang) (ix2 n d)
      = PadMath.pad (PadMath.pe (fun e => ∑ k : Fin 2048, @HMul.hMul EReal EReal EReal _ (a0 (ix2 n k)) (a1 (ix2 k e))) (fun e => a2 (ix1 e)) (csn n) (snn n)) d := by
  have en : ∀ e : Fin 64, one (normed (prod a0 a1) a2) (ix3 n 0 e) = RowMath.nrm 0x3C800000#32 (fun e => ∑ k : Fin 2048, @HMul.hMul EReal EReal EReal _ (a0 (ix2 n k)) (a1 (ix2 k e))) (fun e => a2 (ix1 e)) e := fun e =>
    (one_at _ n 0 e).trans ((normed_at _ a2 n e).trans (congrArg (fun v => RowMath.nrm 0x3C800000#32 v (fun e => a2 (ix1 e)) e) (funext fun e => prod_at a0 a1 n e)))
  refine (flat_at _ n d).trans (congrArg (fun f => PadMath.pad f d) (funext fun e => ?_))
  refine (roped_at _ _ _ n 0 e).trans ?_
  exact congr (congrArg _ (congr (congrArg _ (en e)) rfl)) ((roped_eq _ n 0 e _).trans (congr (congrArg _ (en (PadMath.mate64 e))) rfl))

/-- Kernel and reference leave the same array. -/
theorem algebraic : Cert.algebraic_MkrIdeal_MkrRefIdeal := by
  intro m ρ m' ρ' _ hagree
  refine ⟨fun c => Cert.MkrIdeal.Body.result m c,
    (θ_run Cert.MkrIdeal.defs _ _).mono (fun r h c => ⟨(h c).1.trans (Cert.MkrIdeal.Body.arr m c), (h c).2⟩)
      (Cert.MkrIdeal.Value.run_blocks m ρ), ?_⟩
  refine (θ_run Cert.MkrRefIdeal.defs _ _).mono (fun r h c => ⟨(h c).1.trans ?_, (h c).2⟩) (Cert.MkrRefIdeal.Value.run (F := Ideal) m' ρ')
  obtain ⟨h0, h1, h2⟩ := hagree c
  refine (Cert.MkrRefIdeal.Body.res_eq m' c).trans ?_
  rw [h0, h1, h2]
  funext i
  have ei : i = ix2 (i 0 : Fin 8192) (i 1 : Fin 128) := by
    funext a
    fin_cases a <;> rfl
  refine (congrArg _ ei).trans ?_
  exact ref_at _ _ _ (i 0 : Fin 8192) (i 1 : Fin 128)

end Cert.Proof.MkrClaims
-- ==== Proof.CouClaims.lean ====
/-
  The output projection of the context tokens: the kernel's tiles are the reference's gated product added to the tokens it began with.
-/
module

public import proofs.«01_k».proof.Defs
public import proofs.«01_k».proof.Proof.Gen.Cou.Frame
public import proofs.«01_k».proof.Proof.Gen.CouIdeal.Value
public import proofs.«01_k».proof.Proof.Gen.CouRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.CouIdeal.Body

open Cert.CouIdeal Cert.CouIdeal.Gen Idealize.ShloMosaic Idealize.ShloMosaic.TcCoe Idealize.SL.Sem
open Idealize.ShloMosaic.Pipeline (Dat)

/-- A tile of the result: token `i` of the staged tokens with column `d` of the staged weights, gated and added. -/
def tile (x : Vec Ideal S256x2048 .bf16) (w : Vec Ideal S2048x512 .bf16) (r : Vec Ideal S256x512 .f32) (g : Vec Ideal S1x512 .f32) (i : Fin 256) (d : Fin 512) : EReal :=
  @HAdd.hAdd EReal EReal EReal _ (r (ix2 i d)) <| @HMul.hMul EReal EReal EReal _ (g (ix2 0 d)) <| ∑ k : Fin 2048, @HMul.hMul EReal EReal EReal _ (x (ix2 i k)) (w (ix2 k d))

/-- The first chunk's product. -/
theorem pay1_at (a : Vec Ideal S256x2048 .bf16) (w : Vec Ideal S2048x512 .bf16) (r : Vec Ideal S256x512 .f32) (g : Vec Ideal S1x512 .f32) (j : Fin 256) (d : Fin 512) :
    k0_pay1 a w r g (ix2 j d) = @HAdd.hAdd EReal EReal EReal _ (r (ix2 j d)) (@HMul.hMul EReal EReal EReal _ (g (ix2 0 d)) (∑ k : Fin 2048, @HMul.hMul EReal EReal EReal _ (a (ix2 j k)) (w (ix2 k d)))) := by
  pointwise [k0_pay1]

/-- The loads of chunk `o`'s rows and of all the weights give its rows of the tile. -/
theorem tile_of (x : Vec Ideal S256x2048 .bf16) (w : Vec Ideal S2048x512 .bf16) (r : Vec Ideal S256x512 .f32) (g : Vec Ideal S1x512 .f32) (o : Nat) (ho : o + 256 ≤ 256)
    (h : ∀ a, (![o, 0] : Fin 2 → Nat) a + S256x2048.size a ≤ S256x2048.size a) (h' : ∀ a, (![0, 0] : Fin 2 → Nat) a + S2048x512.size a ≤ S2048x512.size a)
    (h2 : ∀ a, (![o, 0] : Fin 2 → Nat) a + S256x512.size a ≤ S256x512.size a) (h3 : ∀ a, (![0, 0] : Fin 2 → Nat) a + S1x512.size a ≤ S1x512.size a)
    (j : Fin 256) (d : Fin 512) :
    k0_pay1 (F := Ideal) (View.ld x (Rect.unit (s := S256x2048) ![o, 0] S256x2048.size h)) (View.ld w (Rect.unit (s := S2048x512) ![0, 0] S2048x512.size h'))
        (View.ld r (Rect.unit (s := S256x512) ![o, 0] S256x512.size h2)) (View.ld g (Rect.unit (s := S1x512) ![0, 0] S1x512.size h3)) (ix2 j d)
      = tile x w r g ⟨o + j.val, by omega⟩ d := by
  refine (pay1_at _ _ _ _ j d).trans (congr (congrArg _ (congrArg r ?_)) (congr (congrArg _ (congrArg g ?_)) (Finset.sum_congr rfl fun k _ => ?_)))
  · funext a; fin_cases a <;> exact Fin.ext (by simp [Rect.unit, Rect.emb, ix2])
  · funext a; fin_cases a <;> exact Fin.ext (by simp [Rect.unit, Rect.emb, ix2])
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S256x2048 .bf16) (w : Vec Ideal S2048x512 .bf16) (r : Vec Ideal S256x512 .f32) (g : Vec Ideal S1x512 .f32) (y : S256x512.Idx) :
    out0_4 (F := Ideal) x w r g y = tile x w r g (y 0 : Fin 256) (y 1 : Fin 512) := by
  unfold out0_4
  refine View.canon_apply_of_pieces (Val := Elt Ideal) (fun y : S256x512.Idx => tile x w r g (y 0 : Fin 256) (y 1 : Fin 512)) _ ?_ y (cover0_4 _ y)
  intro p hp z
  have ez : ∀ z : S256x512.Idx, z = ix2 (z 0 : Fin 256) (z 1 : Fin 512) := fun z => by funext a; fin_cases a <;> rfl
  simp only [List.mem_cons, List.mem_nil_iff, or_false] at hp
  subst hp
  refine (congrArg _ (ez z)).trans ((tile_of x w r g 0 (by norm_num) _ _ _ _ (z 0 : Fin 256) (z 1 : Fin 512)).trans ?_)
  exact congr (congrArg (tile x w r g) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![0, (grid0.coords t 1).val]
    ∧ win0_4.index t = ![(grid0.coords t 0).val, (grid0.coords t 1).val] := by
  decide +kernel

/-- A grid point's token `i`. -/
def row (t : Fin cfg0.N) (i : Fin 256) : Fin 256 :=
  ⟨256 * (grid0.coords t 0).val + i.val, by have : (grid0.coords t 0).val < 1 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- The prepared weights. -/
theorem w_at (k : Fin 2048) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 256) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The prepared gate. -/
theorem g_at (d : Fin 2048) : V m c main_v1 (ix2 0 d) = m ((c : Thread nD τ).loc main_arg3) (ix1 d) := by
  show StableHlo.after hostOps0 (fun b => m (c, b)) (Proc.tc.devRef _) _ = _
  simp only [hostOps0]
  after_reads_at

/-- The staged addend. -/
theorem blk_r (t : Fin cfg0.N) (i : Fin 256) (d : Fin 512) : iblk m c 2 t (ix2 i d) = m ((c : Thread nD τ).loc main_arg2) (ix2 (row t i) (col t d)) := by
  refine Eq.trans ?_ (congrFun (V_main_arg2 m c) (ix2 (row t i) (col t d)))
  blk_ext [iblk, idx t, row, col]

/-- The staged gate. -/
theorem blk_g (t : Fin cfg0.N) (d : Fin 512) : iblk m c 3 t (ix2 0 d) = m ((c : Thread nD τ).loc main_arg3) (ix1 (col t d)) := by
  refine Eq.trans ?_ (g_at m c (col t d))
  blk_ext [iblk, idx t, col]

/-- The gated product of tokens and weights added to the addend. -/
def prod (n : Fin 256) (d : Fin 2048) : EReal :=
  @HAdd.hAdd EReal EReal EReal _ (m ((c : Thread nD τ).loc main_arg2) (ix2 n d)) <| @HMul.hMul EReal EReal EReal _ (m ((c : Thread nD τ).loc main_arg3) (ix1 d)) <|
    ∑ k : Fin 2048, @HMul.hMul EReal EReal EReal _ (m ((c : Thread nD τ).loc main_arg0) (ix2 n k)) (m ((c : Thread nD τ).loc main_arg1) (ix2 k d))

/-- The result's array by coordinates. -/
def result : Vec Ideal S256x2048 .f32 := fun i => prod m c (i 0 : Fin 256) (i 1 : Fin 2048)

/-- The result's array after the run. -/
theorem arr : (dats m 0 c).arrAt 4 cfg0.N = result m c := by
  refine (dats m 0 c).arrAt_eq_of_covers 4 _ (by decide +kernel) (fun t hf y => ?_)
  refine (congrFun (Value.flushed4 m c t) y).trans ?_
  have hy0 : (y 0).val < 256 := (y 0).isLt
  have hy1 : (y 1).val < 512 := (y 1).isLt
  have ez : ((cfg0.win 4).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (iblk m c 3 t) (ix2 ⟨(y 0).val, hy0⟩ ⟨(y 1).val, hy1⟩)).trans ?_)
  · exact congrArg _ (by funext a; fin_cases a <;> rfl)
  · refine congr (congrArg _ (blk_r m c t ⟨(y 0).val, hy0⟩ ⟨(y 1).val, hy1⟩)) (congr (congrArg _ (blk_g m c t ⟨(y 1).val, hy1⟩)) (Finset.sum_congr rfl fun k _ => ?_))
    exact congr (congrArg _ (blk_x m c t ⟨(y 0).val, hy0⟩ k)) (blk_w m c t k ⟨(y 1).val, hy1⟩)

end Cert.CouIdeal.Body

namespace Cert.CouRefIdeal.Body

open Cert.CouRefIdeal Cert.CouRefIdeal.Gen Idealize.ShloMosaic Idealize.ShloMosaic.TcCoe

/-- The reference's result at an index. -/
theorem res_at (a0 : FVec Ideal S256x2048 .bf16) (a1 : FVec Ideal S2048x2048 .f32) (a2 : FVec Ideal S256x2048 .f32) (a3 : FVec Ideal S2048 .f32) (n : Fin 256) (d : Fin 2048) :
    addf a2 (mulf (broadcastInDim S256x2048 ![0, 1] bcast_S1x2048_S256x2048_0_1 (broadcastInDim S1x2048 ![1] bcast_S2048_S1x2048_1 a3)) (Host.dotGeneral dot_S256x2048_S2048x2048_S256x2048_1_0_0_1_n_n none (extf .f32 a0 bitsLt_bf16_f32) a1)) (ix2 n d)
      = @HAdd.hAdd EReal EReal EReal _ (a2 (ix2 n d)) (@HMul.hMul EReal EReal EReal _ (a3 (ix1 d)) (∑ k : Fin 2048, @HMul.hMul EReal EReal EReal _ (a0 (ix2 n k)) (a1 (ix2 k d)))) := by
  pointwise

end Cert.CouRefIdeal.Body

namespace Cert.Proof.CouClaims

open Idealize.ShloMosaic Idealize.ShloMosaic.TcCoe Idealize.SL.Sem

/-- The reference ends with its arguments and every counter as they were. -/
theorem frame_ref : Cert.quiescent_CouRefIdeal := fun m ρ _ =>
  (θ_run Cert.CouRefIdeal.defs _ _).mono (fun r h => ⟨fun c => (h c).2, sem_eq_zero_of_no_sems (by decide) r.2⟩)
    (Cert.CouRefIdeal.Value.run (F := Ideal) m ρ)

/-- Kernel and reference leave the same array. -/
theorem algebraic : Cert.algebraic_CouIdeal_CouRefIdeal := by
  intro m ρ m' ρ' _ hagree
  refine ⟨fun c => Cert.CouIdeal.Body.result m c,
    (θ_run Cert.CouIdeal.defs _ _).mono (fun r h c => ⟨(h c).1.trans (Cert.CouIdeal.Body.arr m c), (h c).2⟩)
      (Cert.CouIdeal.Value.run_blocks m ρ), ?_⟩
  refine (θ_run Cert.CouRefIdeal.defs _ _).mono (fun r h c => ⟨(h c).1.trans ?_, (h c).2⟩) (Cert.CouRefIdeal.Value.run (F := Ideal) m' ρ')
  obtain ⟨h0, h1, h2, h3⟩ := hagree c
  rw [h0, h1, h2, h3]
  funext i
  have ei : i = ix2 (i 0 : Fin 256) (i 1 : Fin 2048) := by funext a; fin_cases a <;> rfl
  rw [ei]
  exact Cert.CouRefIdeal.Body.res_at _ _ _ _ (i 0 : Fin 256) (i 1 : Fin 2048)

end Cert.Proof.CouClaims
-- ==== Proof.CgaClaims.lean ====
/-
  The gate path of the context tokens: the kernel's tiles are the reference's product under the logistic unit.
-/
module

public import proofs.«01_k».proof.Defs
public import proofs.«01_k».proof.Proof.Gen.Cga.Frame
public import proofs.«01_k».proof.Proof.Gen.CgaIdeal.Value
public import proofs.«01_k».proof.Proof.Gen.CgaRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.CgaIdeal.Body

open Cert.CgaIdeal Cert.CgaIdeal.Gen Idealize.ShloMosaic Idealize.ShloMosaic.TcCoe Idealize.SL.Sem
open Idealize.ShloMosaic.Pipeline (Dat)

/-- A number times its logistic value. -/
def silu (v : EReal) : EReal := v * Ideal.logistic v

/-- A tile of the result: token `i` of the staged tokens with column `d` of the staged weights. -/
def tile (x : Vec Ideal S256x2048 .bf16) (w : Vec Ideal S2048x512 .bf16) (i : Fin 256) (d : Fin 512) : EReal :=
  silu (∑ k : Fin 2048, @HMul.hMul EReal EReal EReal _ (x (ix2 i k)) (w (ix2 k d)))

/-- The first chunk's product. -/
theorem pay1_at (a : Vec Ideal S256x2048 .bf16) (w : Vec Ideal S2048x512 .bf16) (j : Fin 256) (d : Fin 512) :
    k0_pay1 a w (ix2 j d) = silu (∑ k : Fin 2048, @HMul.hMul EReal EReal EReal _ (a (ix2 j k)) (w (ix2 k d))) := by
  pointwise [k0_pay1]
  rfl

/-- The loads of chunk `o`'s rows and of all the weights give its rows of the tile. -/
theorem tile_of (x : Vec Ideal S256x2048 .bf16) (w : Vec Ideal S2048x512 .bf16) (o : Nat) (ho : o + 256 ≤ 256)
    (h : ∀ a, (![o, 0] : Fin 2 → Nat) a + S256x2048.size a ≤ S256x2048.size a) (h' : ∀ a, (![0, 0] : Fin 2 → Nat) a + S2048x512.size a ≤ S2048x512.size a)
    (j : Fin 256) (d : Fin 512) :
    k0_pay1 (F := Ideal) (View.ld x (Rect.unit (s := S256x2048) ![o, 0] S256x2048.size h)) (View.ld w (Rect.unit (s := S2048x512) ![0, 0] S2048x512.size h')) (ix2 j d)
      = tile x w ⟨o + j.val, by omega⟩ d := by
  refine (pay1_at _ _ j d).trans (congrArg silu (Finset.sum_congr rfl fun k _ => ?_))
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S256x2048 .bf16) (w : Vec Ideal S2048x512 .bf16) (y : S256x512.Idx) :
    out0_2 (F := Ideal) x w y = tile x w (y 0 : Fin 256) (y 1 : Fin 512) := by
  unfold out0_2
  refine View.canon_apply_of_pieces (Val := Elt Ideal) (fun y : S256x512.Idx => tile x w (y 0 : Fin 256) (y 1 : Fin 512)) _ ?_ y (cover0_2 _ y)
  intro p hp z
  have ez : ∀ z : S256x512.Idx, z = ix2 (z 0 : Fin 256) (z 1 : Fin 512) := fun z => by funext a; fin_cases a <;> rfl
  simp only [List.mem_cons, List.mem_nil_iff, or_false] at hp
  subst hp
  refine (congrArg _ (ez z)).trans ((tile_of x w 0 (by norm_num) _ _ (z 0 : Fin 256) (z 1 : Fin 512)).trans ?_)
  exact congr (congrArg (tile x w) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] := by
  decide +kernel

/-- A grid point's token `i`. -/
def row (t : Fin cfg0.N) (i : Fin 256) : Fin 256 :=
  ⟨256 * (grid0.coords t 0).val + i.val, by have : (grid0.coords t 0).val < 1 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- The prepared weights. -/
theorem w_at (k : Fin 2048) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 256) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The product of tokens and weights under the logistic unit. -/
def prod (n : Fin 256) (d : Fin 2048) : EReal :=
  silu (∑ k : Fin 2048, @HMul.hMul EReal EReal EReal _ (m ((c : Thread nD τ).loc main_arg0) (ix2 n k)) (m ((c : Thread nD τ).loc main_arg1) (ix2 k d)))

/-- The result's array by coordinates. -/
def result : Vec Ideal S256x2048 .bf16 := fun i => prod m c (i 0 : Fin 256) (i 1 : Fin 2048)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 256 := (y 0).isLt
  have hy1 : (y 1).val < 512 := (y 1).isLt
  have ez : ((cfg0.win 2).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (ix2 ⟨(y 0).val, hy0⟩ ⟨(y 1).val, hy1⟩)).trans ?_)
  · exact congrArg _ (by funext a; fin_cases a <;> rfl)
  · refine congrArg silu (Finset.sum_congr rfl fun k _ => ?_)
    exact congr (congrArg _ (blk_x m c t ⟨(y 0).val, hy0⟩ k)) (blk_w m c t k ⟨(y 1).val, hy1⟩)

end Cert.CgaIdeal.Body

namespace Cert.CgaRefIdeal.Body

open Cert.CgaRefIdeal Cert.CgaRefIdeal.Gen Idealize.ShloMosaic Idealize.ShloMosaic.TcCoe

/-- The reference's result at an index. -/
theorem res_at (a0 : FVec Ideal S256x2048 .bf16) (a1 : FVec Ideal S2048x2048 .f32) (n : Fin 256) (d : Fin 2048) :
    truncf .bf16 (mulf (Host.dotGeneral dot_S256x2048_S2048x2048_S256x2048_1_0_0_1_n_n none (extf .f32 a0 bitsLt_bf16_f32) a1) (Host.divf (broadcastInDim S256x2048 ![] bcast_S_S256x2048 (constant S_ .f32 0x3F800000#32)) (addf (broadcastInDim S256x2048 ![] bcast_S_S256x2048 (constant S_ .f32 0x3F800000#32)) (Host.exp (Host.negf (Host.dotGeneral dot_S256x2048_S2048x2048_S256x2048_1_0_0_1_n_n none (extf .f32 a0 bitsLt_bf16_f32) a1)))))) bitsLt_bf16_f32 (ix2 n d)
      = Cert.CgaIdeal.Body.silu (∑ k : Fin 2048, @HMul.hMul EReal EReal EReal _ (a0 (ix2 n k)) (a1 (ix2 k d))) := by
  pointwise
  rfl

end Cert.CgaRefIdeal.Body

namespace Cert.Proof.CgaClaims

open Idealize.ShloMosaic Idealize.ShloMosaic.TcCoe Idealize.SL.Sem

/-- The reference ends with its arguments and every counter as they were. -/
theorem frame_ref : Cert.quiescent_CgaRefIdeal := fun m ρ _ =>
  (θ_run Cert.CgaRefIdeal.defs _ _).mono (fun r h => ⟨fun c => (h c).2, sem_eq_zero_of_no_sems (by decide) r.2⟩)
    (Cert.CgaRefIdeal.Value.run (F := Ideal) m ρ)

/-- Kernel and reference leave the same array. -/
theorem algebraic : Cert.algebraic_CgaIdeal_CgaRefIdeal := by
  intro m ρ m' ρ' _ hagree
  refine ⟨fun c => Cert.CgaIdeal.Body.result m c,
    (θ_run Cert.CgaIdeal.defs _ _).mono (fun r h c => ⟨(h c).1.trans (Cert.CgaIdeal.Body.arr m c), (h c).2⟩)
      (Cert.CgaIdeal.Value.run_blocks m ρ), ?_⟩
  refine (θ_run Cert.CgaRefIdeal.defs _ _).mono (fun r h c => ⟨(h c).1.trans ?_, (h c).2⟩) (Cert.CgaRefIdeal.Value.run (F := Ideal) m' ρ')
  obtain ⟨h0, h1⟩ := hagree c
  rw [h0, h1]
  funext i
  have ei : i = ix2 (i 0 : Fin 256) (i 1 : Fin 2048) := by funext a; fin_cases a <;> rfl
  rw [ei]
  exact Cert.CgaRefIdeal.Body.res_at _ _ (i 0 : Fin 256) (i 1 : Fin 2048)

end Cert.Proof.CgaClaims
-- ==== Proof.CliClaims.lean ====
/-
  The Hyena branch's input projection of the context tokens: the kernel's tiles are the reference's product.
-/
module

public import proofs.«01_k».proof.Defs
public import proofs.«01_k».proof.Proof.Gen.Cli.Frame
public import proofs.«01_k».proof.Proof.Gen.CliIdeal.Value
public import proofs.«01_k».proof.Proof.Gen.CliRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.CliIdeal.Body

open Cert.CliIdeal Cert.CliIdeal.Gen Idealize.ShloMosaic Idealize.ShloMosaic.TcCoe Idealize.SL.Sem
open Idealize.ShloMosaic.Pipeline (Dat)

/-- A tile of the product: token `i` of the staged tokens with column `d` of the staged weights. -/
def tile (x : Vec Ideal S256x2048 .bf16) (w : Vec Ideal S2048x512 .bf16) (i : Fin 256) (d : Fin 512) : EReal :=
  ∑ k : Fin 2048, @HMul.hMul EReal EReal EReal _ (x (ix2 i k)) (w (ix2 k d))

/-- The first chunk's product. -/
theorem pay1_at (a : Vec Ideal S256x2048 .bf16) (w : Vec Ideal S2048x512 .bf16) (j : Fin 256) (d : Fin 512) :
    k0_pay1 a w (ix2 j d) = ∑ k : Fin 2048, @HMul.hMul EReal EReal EReal _ (a (ix2 j k)) (w (ix2 k d)) := by
  pointwise [k0_pay1]

/-- The loads of chunk `o`'s rows and of all the weights give its rows of the tile. -/
theorem tile_of (x : Vec Ideal S256x2048 .bf16) (w : Vec Ideal S2048x512 .bf16) (o : Nat) (ho : o + 256 ≤ 256)
    (h : ∀ a, (![o, 0] : Fin 2 → Nat) a + S256x2048.size a ≤ S256x2048.size a) (h' : ∀ a, (![0, 0] : Fin 2 → Nat) a + S2048x512.size a ≤ S2048x512.size a)
    (j : Fin 256) (d : Fin 512) :
    k0_pay1 (F := Ideal) (View.ld x (Rect.unit (s := S256x2048) ![o, 0] S256x2048.size h)) (View.ld w (Rect.unit (s := S2048x512) ![0, 0] S2048x512.size h')) (ix2 j d)
      = tile x w ⟨o + j.val, by omega⟩ d := by
  refine (pay1_at _ _ j d).trans (Finset.sum_congr rfl fun k _ => ?_)
  refine congr (congrArg _ (congrArg x ?_)) (congrArg w ?_)
  · funext a; fin_cases a <;> exact Fin.ext (by simp [Rect.unit, Rect.emb, ix2])
  · funext a; fin_cases a <;> exact Fin.ext (by simp [Rect.unit, Rect.emb, ix2])

/-- What the body leaves in the result's block. -/
theorem out_at (x : Vec Ideal S256x2048 .bf16) (w : Vec Ideal S2048x512 .bf16) (y : S256x512.Idx) :
    out0_2 (F := Ideal) x w y = tile x w (y 0 : Fin 256) (y 1 : Fin 512) := by
  unfold out0_2
  refine View.canon_apply_of_pieces (Val := Elt Ideal) (fun y : S256x512.Idx => tile x w (y 0 : Fin 256) (y 1 : Fin 512)) _ ?_ y (cover0_2 _ y)
  intro p hp z
  have ez : ∀ z : S256x512.Idx, z = ix2 (z 0 : Fin 256) (z 1 : Fin 512) := fun z => by funext a; fin_cases a <;> rfl
  simp only [List.mem_cons, List.mem_nil_iff, or_false] at hp
  subst hp
  refine (congrArg _ (ez z)).trans ((tile_of x w 0 (by norm_num) _ _ (z 0 : Fin 256) (z 1 : Fin 512)).trans ?_)
  exact congr (congrArg (tile x w) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a block of columns. -/
theorem idx : ∀ t : Fin cfg0.N, win0_0.index t = ![(grid0.coords t 0).val, 0] ∧ win0_1.index t = ![0, (grid0.coords t 1).val]
    ∧ win0_2.index t = ![(grid0.coords t 0).val, (grid0.coords t 1).val] := by
  decide +kernel

/-- A grid point's token `i`. -/
def row (t : Fin cfg0.N) (i : Fin 256) : Fin 256 :=
  ⟨256 * (grid0.coords t 0).val + i.val, by have : (grid0.coords t 0).val < 1 := (grid0.coords t 0).isLt; omega⟩

/-- A grid point's column `d`. -/
def col (t : Fin cfg0.N) (d : Fin 512) : Fin 6144 :=
  ⟨512 * (grid0.coords t 1).val + d.val, by have : (grid0.coords t 1).val < 12 := (grid0.coords t 1).isLt; omega⟩

/-- The prepared weights. -/
theorem w_at (k : Fin 2048) (d : Fin 6144) : V m c main_v0 (ix2 k d) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (i : Fin 256) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The product of tokens and weights. -/
def prod (n : Fin 256) (d : Fin 6144) : EReal :=
  ∑ k : Fin 2048, @HMul.hMul EReal EReal EReal _ (m ((c : Thread nD τ).loc main_arg0) (ix2 n k)) (m ((c : Thread nD τ).loc main_arg1) (ix2 k d))

/-- The result's array by coordinates. -/
def result : Vec Ideal S256x6144 .f32 := fun i => prod m c (i 0 : Fin 256) (i 1 : Fin 6144)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 256 := (y 0).isLt
  have hy1 : (y 1).val < 512 := (y 1).isLt
  have ez : ((cfg0.win 2).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (ix2 ⟨(y 0).val, hy0⟩ ⟨(y 1).val, hy1⟩)).trans ?_)
  · exact congrArg _ (by funext a; fin_cases a <;> rfl)
  · exact Finset.sum_congr rfl fun k _ => congr (congrArg _ (blk_x m c t ⟨(y 0).val, hy0⟩ k)) (blk_w m c t k ⟨(y 1).val, hy1⟩)

end Cert.CliIdeal.Body

namespace Cert.CliRefIdeal.Body

open Cert.CliRefIdeal Cert.CliRefIdeal.Gen Idealize.ShloMosaic Idealize.ShloMosaic.TcCoe

/-- The reference's product at an index. -/
theorem res_at (a0 : FVec Ideal S256x2048 .bf16) (a1 : FVec Ideal S2048x6144 .f32) (n : Fin 256) (d : Fin 6144) :
    Host.dotGeneral dot_S256x2048_S2048x6144_S256x6144_1_0_0_1_n_n none (extf .f32 a0 bitsLt_bf16_f32) a1 (ix2 n d)
      = ∑ k : Fin 2048, @HMul.hMul EReal EReal EReal _ (a0 (ix2 n k)) (a1 (ix2 k d)) := by
  pointwise

end Cert.CliRefIdeal.Body

namespace Cert.Proof.CliClaims

open Idealize.ShloMosaic Idealize.ShloMosaic.TcCoe Idealize.SL.Sem

/-- The reference ends with its arguments and every counter as they were. -/
theorem frame_ref : Cert.quiescent_CliRefIdeal := fun m ρ _ =>
  (θ_run Cert.CliRefIdeal.defs _ _).mono (fun r h => ⟨fun c => (h c).2, sem_eq_zero_of_no_sems (by decide) r.2⟩)
    (Cert.CliRefIdeal.Value.run (F := Ideal) m ρ)

/-- Kernel and reference leave the same array. -/
theorem algebraic : Cert.algebraic_CliIdeal_CliRefIdeal := by
  intro m ρ m' ρ' _ hagree
  refine ⟨fun c => Cert.CliIdeal.Body.result m c,
    (θ_run Cert.CliIdeal.defs _ _).mono (fun r h c => ⟨(h c).1.trans (Cert.CliIdeal.Body.arr m c), (h c).2⟩)
      (Cert.CliIdeal.Value.run_blocks m ρ), ?_⟩
  refine (θ_run Cert.CliRefIdeal.defs _ _).mono (fun r h c => ⟨(h c).1.trans ?_, (h c).2⟩) (Cert.CliRefIdeal.Value.run (F := Ideal) m' ρ')
  obtain ⟨h0, h1⟩ := hagree c
  rw [h0, h1]
  funext i
  have ei : i = ix2 (i 0 : Fin 256) (i 1 : Fin 6144) := by funext a; fin_cases a <;> rfl
  rw [ei]
  exact Cert.CliRefIdeal.Body.res_at _ _ (i 0 : Fin 256) (i 1 : Fin 6144)

end Cert.Proof.CliClaims
-- ==== Proof.ChnClaims.lean ====
/-
  Context tokens by heads (queries of the windowed mixer, keys of the differential one): the kernel's tiles are the
  reference's product, each head normed.
-/
module

public import proofs.«01_k».proof.Defs
public import proofs.«01_k».proof.Proof.RopRefValue
public import proofs.«01_k».proof.Proof.Gen.Chn.Frame
public import proofs.«01_k».proof.Proof.Gen.ChnIdeal.Value
public import proofs.«01_k».proof.Proof.Gen.ChnRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.ChnIdeal.Body

open Cert.ChnIdeal Cert.ChnIdeal.Gen Idealize.ShloMosaic Idealize.ShloMosaic.TcCoe Idealize.SL.Sem
open Idealize.ShloMosaic.Pipeline (Dat)

/-- The normed chunk of a head. -/
def normed (v : FVec Ideal S256x128 .f32) (g : Vec Ideal S1x128 .f32) : FVec Ideal S256x128 .bf16 :=
  truncf .bf16 (mulf (mulf v (broadcastTo S256x128 (rsqrt (addf (mulf (shapeCast S256x1 (multiReduction .add [1] S256 (mulf v v) 0x00000000#32 reduces_S256x128_S256 (.inl rfl) rfl) shapeCasts_S256_S256x1) (broadcast S256x1 (Scalar.ofBits .f32 0x3C000000#32))) (broadcast S256x1 (Scalar.ofBits .f32 0x358637BD#32)))) broadcasts_S256x1_S256x128))
    (broadcastTo S256x128 (shapeCast S1x128 g shapeCasts_S1x128_S1x128) broadcasts_S1x128_S256x128)) bitsLt_bf16_f32

/-- The normed chunk at an index. -/
theorem normed_at (v : FVec Ideal S256x128 .f32) (g : Vec Ideal S1x128 .f32) (j : Fin 256) (d : Fin 128) :
    normed v g (ix2 j d) = RopMath.nrm (fun e => v (ix2 j e)) (fun e => g (ix2 0 e)) d := by
  pointwise [normed]
  rfl

/-- The tile at a row and a head's coordinate: the head's product normed. -/
def tile (x : Vec Ideal S256x2048 .bf16) (w : Vec Ideal S2048x512 .bf16) (g : Vec Ideal S1x128 .f32) (i : Fin 256) (h : Fin 4) (d : Fin 128) : EReal :=
  RopMath.nrm (fun e => ∑ k : Fin 2048, @HMul.hMul EReal EReal EReal _ (x (ix2 i k)) (w (ix2 k ⟨128 * h.val + e.val, by omega⟩))) (fun e => g (ix2 0 e)) d

/-- A chunk's product at an index. -/
theorem pay3_at (a : Vec Ideal S256x2048 .bf16) (w : Vec Ideal S2048x512 .bf16) (j : Fin 256) (d : Fin 512) :
    k0_pay3 a w (ix2 j d) = ∑ k : Fin 2048, @HMul.hMul EReal EReal EReal _ (a (ix2 j k)) (w (ix2 k d)) := by
  pointwise [k0_pay3]

/-- The loads of chunk `o`'s rows and of all the weights give head `h` of its rows of the tile. -/
theorem tile_of (x : Vec Ideal S256x2048 .bf16) (w : Vec Ideal S2048x512 .bf16) (g : Vec Ideal S1x128 .f32) (o : Nat) (ho : o + 256 ≤ 256) (h : Fin 4)
    (h0 : ∀ a, (![o, 0] : Fin 2 → Nat) a + S256x2048.size a ≤ S256x2048.size a) (h1 : ∀ a, (![0, 0] : Fin 2 → Nat) a + S2048x512.size a ≤ S2048x512.size a)
    (h2 : ∀ a, (![0, 0] : Fin 2 → Nat) a + S1x128.size a ≤ S1x128.size a)
    (p : Nat) (hp : p = 128 * h.val) (hs : S256x512.Slices ![0, p] S256x128) (j : Fin 256) (d : Fin 128) :
    normed (extractStridedSlice S256x128 ![0, p] (k0_pay3 (F := Ideal) (View.ld x (Rect.unit (s := S256x2048) ![o, 0] S256x2048.size h0)) (View.ld w (Rect.unit (s := S2048x512) ![0, 0] S2048x512.size h1))) hs)
        (View.ld g (Rect.unit (s := S1x128) ![0, 0] S1x128.size h2)) (ix2 j d)
      = tile x w g ⟨o + j.val, by omega⟩ h d := by
  subst hp
  have ev : ∀ e : Fin 128, extractStridedSlice S256x128 ![0, 128 * h.val] (k0_pay3 (F := Ideal) (View.ld x (Rect.unit (s := S256x2048) ![o, 0] S256x2048.size h0)) (View.ld w (Rect.unit (s := S2048x512) ![0, 0] S2048x512.size h1))) hs (ix2 j e)
      = ∑ k : Fin 2048, @HMul.hMul EReal EReal EReal _ (x (ix2 ⟨o + j.val, by omega⟩ k)) (w (ix2 k ⟨128 * h.val + e.val, by omega⟩)) := fun e => by
    refine Eq.trans (congrArg (k0_pay3 (F := Ideal) _ _) ?_) ((pay3_at _ _ j ⟨128 * h.val + e.val, by omega⟩).trans (Finset.sum_congr rfl fun k _ => ?_))
    · funext a; fin_cases a <;> exact Fin.ext (by simp [ix2])
    · refine congr (congrArg _ (congrArg x ?_)) (congrArg w ?_)
      · funext a; fin_cases a <;> exact Fin.ext (by simp [Rect.unit, Rect.emb, ix2])
      · funext a; fin_cases a <;> exact Fin.ext (by simp [Rect.unit, Rect.emb, ix2])
  have eg : ∀ e : Fin 128, View.ld g (Rect.unit (s := S1x128) ![0, 0] S1x128.size h2) (ix2 0 e) = g (ix2 0 e) := fun e => congrArg g (by
    funext a; fin_cases a <;> exact Fin.ext (by simp [Rect.unit, Rect.emb, ix2]))
  exact (normed_at _ _ j d).trans (congr (congr (congrArg RopMath.nrm (funext ev)) (funext eg)) rfl)

/-- What the body leaves in the result's block. -/
theorem out_at (x : Vec Ideal S256x2048 .bf16) (w : Vec Ideal S2048x512 .bf16) (g : Vec Ideal S1x128 .f32) (y : S256x512.Idx) :
    out0_3 (F := Ideal) x w g y
      = tile x w g (y 0 : Fin 256) ⟨(y 1).val / 128, by have : (y 1).val < 512 := (y 1).isLt; omega⟩ ⟨(y 1).val % 128, Nat.mod_lt _ (by norm_num)⟩ := by
  unfold out0_3
  refine View.canon_apply_of_pieces (Val := Elt Ideal) (fun y : S256x512.Idx => tile x w g (y 0 : Fin 256) ⟨(y 1).val / 128, by have : (y 1).val < 512 := (y 1).isLt; omega⟩ ⟨(y 1).val % 128, Nat.mod_lt _ (by norm_num)⟩) _ ?_ y (cover0_3 _ _ _ _ y)
  intro p hp z
  have ez : ∀ z : S256x128.Idx, z = ix2 (z 0 : Fin 256) (z 1 : Fin 128) := fun z => by funext a; fin_cases a <;> rfl
  have hz : ∀ z : S256x128.Idx, (z 1).val < 128 := fun z => (z 1).isLt
  simp only [List.mem_cons, List.mem_nil_iff, or_false] at hp
  rcases hp with rfl | rfl | rfl | rfl
  · refine (congrArg _ (ez z)).trans ((tile_of x w g 0 (by norm_num) 3 _ _ _ 384 rfl slices_S256x512_o0_384_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 2 _ _ _ 256 rfl slices_S256x512_o0_256_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 1 _ _ _ 128 rfl slices_S256x512_o0_128_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))
  · refine (congrArg _ (ez z)).trans ((tile_of x w g 0 (by norm_num) 0 _ _ _ 0 rfl slices_S256x512_o0_0_S256x128 (z 0 : Fin 256) (z 1 : Fin 128)).trans ?_)
    have := hz z
    exact congr (congr (congrArg (tile x w g) (Fin.ext (by simp [Rect.unit, Rect.emb]))) (Fin.ext (by simp [Rect.unit, Rect.emb]; omega))) (Fin.ext (by simp [Rect.unit, Rect.emb]; omega))

variable (m : (ℓ : Loc nD τ sig) → Buf (Elt Ideal) ℓ) (c : Dev nD)

/-- The prepared weights. -/
theorem w_at (k : Fin 2048) (d : Fin 2048) : V m c main_v0 (ix2 k d) = m ((c : Thread nD τ).loc main_arg1) (ix2 k d) := by
  show StableHlo.after hostOps0 (fun b => m (c, b)) (Proc.tc.devRef _) _ = _
  simp only [hostOps0]
  after_reads_at

/-- The prepared weights of the norm. -/
theorem g_at (d : Fin 128) : V m c main_v1 (ix2 0 d) = m ((c : Thread nD τ).loc main_arg2) (ix1 d) := by
  show StableHlo.after hostOps0 (fun b => m (c, b)) (Proc.tc.devRef _) _ = _
  simp only [hostOps0]
  after_reads_at

/-- The grid's indices of the windows: a block of tokens and a block of columns. -/
theorem idx : ∀ t : Fin cfg0.N, win0_0.index t = ![(grid0.coords t 0).val, 0] ∧ win0_1.index t = ![0, (grid0.coords t 1).val]
    ∧ win0_2.index t = ![0, 0] ∧ win0_3.index t = ![(grid0.coords t 0).val, (grid0.coords t 1).val] := by
  decide +kernel

/-- A grid point's token `i`. -/
def row (t : Fin cfg0.N) (i : Fin 256) : Fin 256 :=
  ⟨256 * (grid0.coords t 0).val + i.val, by have : (grid0.coords t 0).val < 1 := (grid0.coords t 0).isLt; omega⟩

/-- A grid point's column `d`. -/
def col (t : Fin cfg0.N) (d : Fin 512) : Fin 2048 :=
  ⟨512 * (grid0.coords t 1).val + d.val, by have : (grid0.coords t 1).val < 4 := (grid0.coords t 1).isLt; omega⟩

/-- A grid point's head `h`. -/
def head (t : Fin cfg0.N) (h : Fin 4) : Fin 16 :=
  ⟨4 * (grid0.coords t 1).val + h.val, by have : (grid0.coords t 1).val < 4 := (grid0.coords t 1).isLt; omega⟩

/-- The staged tokens. -/
theorem blk_x (t : Fin cfg0.N) (i : Fin 256) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- The staged weights. -/
theorem blk_w (t : Fin cfg0.N) (k : Fin 2048) (d : Fin 512) : iblk m c 1 t (ix2 k d) = m ((c : Thread nD τ).loc main_arg1) (ix2 k (col t d)) := by
  refine Eq.trans ?_ (w_at m c k (col t d))
  blk_ext [iblk, idx t, col]

/-- The staged weights of the norm. -/
theorem blk_g (t : Fin cfg0.N) (d : Fin 128) : iblk m c 2 t (ix2 0 d) = m ((c : Thread nD τ).loc main_arg2) (ix1 d) := by
  refine Eq.trans ?_ (g_at m c d)
  blk_ext [iblk, idx t]

/-- A head of the product of rows and weights. -/
def prod (n : Fin 256) (h : Fin 16) (e : Fin 128) : EReal :=
  ∑ k : Fin 2048, @HMul.hMul EReal EReal EReal _ (m ((c : Thread nD τ).loc main_arg0) (ix2 n k)) (m ((c : Thread nD τ).loc main_arg1) (ix2 k ⟨128 * h.val + e.val, by omega⟩))

/-- The head normed. -/
def val (n : Fin 256) (h : Fin 16) (d : Fin 128) : EReal :=
  RopMath.nrm (prod m c n h) (fun e => m ((c : Thread nD τ).loc main_arg2) (ix1 e)) d

/-- The result's array by coordinates. -/
def result : Vec Ideal S256x2048 .bf16 := fun i =>
  val m c (i 0 : Fin 256) ⟨(i 1).val / 128, by have : (i 1).val < 2048 := (i 1).isLt; omega⟩ ⟨(i 1).val % 128, Nat.mod_lt _ (by norm_num)⟩

/-- A block's column of a head. -/
theorem local_lt (h : Fin 4) (e : Fin 128) : 128 * h.val + e.val < 512 := by omega

/-- The column by blocks and by heads. -/
theorem local_eq (b h e : Nat) : 512 * b + (128 * h + e) = 128 * (4 * b + h) + e := by omega

/-- A tile from its product and weights. -/
theorem tile_of_parts (x : Vec Ideal S256x2048 .bf16) (w : Vec Ideal S2048x512 .bf16) (g : Vec Ideal S1x128 .f32)
    (i : Fin 256) (h : Fin 4) (d : Fin 128) (v u : Fin 128 → EReal)
    (hv : (fun e : Fin 128 => ∑ k : Fin 2048, @HMul.hMul EReal EReal EReal _ (x (ix2 i k)) (w (ix2 k ⟨128 * h.val + e.val, local_lt h e⟩))) = v)
    (hu : (fun e : Fin 128 => g (ix2 0 e)) = u) :
    tile x w g i h d = RopMath.nrm v u d := by
  subst hv hu
  rfl

/-- A grid point's tile of the result. -/
theorem tile_at (t : Fin cfg0.N) (i : Fin 256) (h : Fin 4) (d : Fin 128) :
    tile (iblk m c 0 t) (iblk m c 1 t) (iblk m c 2 t) i h d = val m c (row t i) (head t h) d := by
  have e1 : (fun e : Fin 128 => ∑ k : Fin 2048, @HMul.hMul EReal EReal EReal _ (iblk m c 0 t (ix2 i k)) (iblk m c 1 t (ix2 k ⟨128 * h.val + e.val, local_lt h e⟩))) = prod m c (row t i) (head t h) := by
    funext e
    refine Finset.sum_congr rfl fun k _ => congr (congrArg _ (blk_x m c t i k)) ((blk_w m c t k _).trans (congrArg (fun z : Fin 2048 => m ((c : Thread nD τ).loc main_arg1) (ix2 k z)) (Fin.ext ?_)))
    exact local_eq _ _ _
  have e2 : (fun e : Fin 128 => iblk m c 2 t (ix2 0 e)) = fun e => m ((c : Thread nD τ).loc main_arg2) (ix1 e) := funext fun e => blk_g m c t e
  exact tile_of_parts _ _ _ i h d _ _ e1 e2

/-- The result's array after the run. -/
theorem arr : (dats m 0 c).arrAt 3 cfg0.N = result m c := by
  refine (dats m 0 c).arrAt_eq_of_covers 3 _ (by decide +kernel) (fun t hf y => ?_)
  refine (congrFun (Value.flushed3 m c t) y).trans ?_
  have hy0 : (y 0).val < 256 := (y 0).isLt
  have hy1 : (y 1).val < 512 := (y 1).isLt
  have ez : ((cfg0.win 3).blk t).view.emb y = ix2 (row t ⟨(y 0).val, hy0⟩) (col t ⟨(y 1).val, hy1⟩) := by
    blk_ext [idx t, row, col]
  refine Eq.trans ?_ (congrArg (result m c) ez.symm)
  refine Eq.trans ?_ ((out_at (iblk m c 0 t) (iblk m c 1 t) (iblk m c 2 t) (ix2 ⟨(y 0).val, hy0⟩ ⟨(y 1).val, hy1⟩)).trans ?_)
  · exact congrArg _ (by funext a; fin_cases a <;> rfl)
  · refine (tile_at m c t ⟨(y 0).val, hy0⟩ ⟨(y 1).val / 128, by omega⟩ ⟨(y 1).val % 128, Nat.mod_lt _ (by norm_num)⟩).trans ?_
    refine congr (congrArg (val m c (row t ⟨(y 0).val, hy0⟩)) (Fin.ext ?_)) (Fin.ext ?_)
    · show 4 * (grid0.coords t 1).val + (y 1).val / 128 = (512 * (grid0.coords t 1).val + (y 1).val) / 128
      omega
    · show (y 1).val % 128 = (512 * (grid0.coords t 1).val + (y 1).val) % 128
      omega

end Cert.ChnIdeal.Body

namespace Cert.ChnRefIdeal.Body

open Cert.ChnRefIdeal Cert.ChnRefIdeal.Gen Idealize.ShloMosaic Idealize.ShloMosaic.TcCoe

/-- The product by heads. -/
def prod (a0 : FVec Ideal S256x2048 .bf16) (a1 : FVec Ideal S2048x2048 .f32) : FVec Ideal S256x16x128 .f32 :=
  shapeCast _ (Host.dotGeneral dot_S256x2048_S2048x2048_S256x2048_1_0_0_1_n_n none (extf .f32 a0 bitsLt_bf16_f32) a1) shapeCasts_S256x2048_S256x16x128

/-- The product at an index. -/
theorem prod_at (a0 : FVec Ideal S256x2048 .bf16) (a1 : FVec Ideal S2048x2048 .f32) (n : Fin 256) (h : Fin 16) (d : Fin 128) :
    prod a0 a1 (ix3 n h d) = ∑ k : Fin 2048, @HMul.hMul EReal EReal EReal _ (a0 (ix2 n k)) (a1 (ix2 k ⟨128 * h.val + d.val, by omega⟩)) := by
  pointwise [prod]
  refine Finset.sum_congr rfl fun k _ => congr (congrArg _ ?_) (congrArg a1 (congrArg (ix2 k) (Fin.ext (by dsimp only; omega))))
  rfl

/-- The heads normed. -/
def normed (p : FVec Ideal S256x16x128 .f32) (a2 : FVec Ideal S128 .f32) : FVec Ideal S256x16x128 .f32 :=
  mulf (mulf p (broadcastInDim S256x16x128 ![0, 1, 2] bcast_S256x16x1_S256x16x128_0_1_2 (Host.rsqrt (addf (Host.divf (broadcastInDim S256x16x1 ![0, 1] bcast_S256x16_S256x16x1_0_1 (Host.reduceAdd (mulf p p) (constant S_ .f32 0x00000000#32) reducesTo_S256x16x128_S256x16_d2 h_S_)) (broadcastInDim S256x16x1 ![] bcast_S_S256x16x1 (constant S_ .f32 0x43000000#32))) (broadcastInDim S256x16x1 ![] bcast_S_S256x16x1 (constant S_ .f32 0x358637BD#32)))))) (broadcastInDim S256x16x128 ![0, 1, 2] bcast_S1x1x128_S256x16x128_0_1_2 (broadcastInDim S1x1x128 ![2] bcast_S128_S1x1x128_2 a2))

/-- A normed head at an index. -/
theorem normed_at (p : FVec Ideal S256x16x128 .f32) (a2 : FVec Ideal S128 .f32) (n : Fin 256) (h : Fin 16) (d : Fin 128) :
    normed p a2 (ix3 n h d) = RopMath.nrm (fun e => p (ix3 n h e)) (fun e => a2 (ix1 e)) d := by
  unfold RopMath.nrm
  rw [← RopMath.mean_eq]
  pointwise [normed]

/-- The result of normed heads. -/
def flat (u : FVec Ideal S256x16x128 .f32) : FVec Ideal S256x2048 .bf16 :=
  truncf .bf16 (shapeCast _ u shapeCasts_S256x16x128_S256x2048) bitsLt_bf16_f32

/-- The result at an index. -/
theorem flat_at (u : FVec Ideal S256x16x128 .f32) (n : Fin 256) (h : Fin 16) (d : Fin 128) :
    flat u (ix2 n ⟨128 * h.val + d.val, by omega⟩) = u (ix3 n h d) := by
  pointwise [flat]

end Cert.ChnRefIdeal.Body

namespace Cert.Proof.ChnClaims

open Idealize.ShloMosaic Idealize.ShloMosaic.TcCoe Idealize.SL.Sem

/-- The reference ends with its arguments and every counter as they were. -/
theorem frame_ref : Cert.quiescent_ChnRefIdeal := fun m ρ _ =>
  (θ_run Cert.ChnRefIdeal.defs _ _).mono (fun r h => ⟨fun c => (h c).2, sem_eq_zero_of_no_sems (by decide) r.2⟩)
    (Cert.ChnRefIdeal.Value.run (F := Ideal) m ρ)

/-- Kernel and reference leave the same array. -/
theorem algebraic : Cert.algebraic_ChnIdeal_ChnRefIdeal := by
  intro m ρ m' ρ' _ hagree
  refine ⟨fun c => Cert.ChnIdeal.Body.result m c,
    (θ_run Cert.ChnIdeal.defs _ _).mono (fun r h c => ⟨(h c).1.trans (Cert.ChnIdeal.Body.arr m c), (h c).2⟩)
      (Cert.ChnIdeal.Value.run_blocks m ρ), ?_⟩
  refine (θ_run Cert.ChnRefIdeal.defs _ _).mono (fun r h c => ⟨(h c).1.trans ?_, (h c).2⟩) (Cert.ChnRefIdeal.Value.run (F := Ideal) m' ρ')
  obtain ⟨h0, h1, h2⟩ := hagree c
  rw [h0, h1, h2]
  funext i
  have hi : (i 1).val < 2048 := (i 1).isLt
  have ei : i = ix2 (i 0 : Fin 256) ⟨128 * ((i 1).val / 128) + (i 1).val % 128, by omega⟩ := by
    funext a
    fin_cases a
    · rfl
    · exact Fin.ext (Nat.div_add_mod _ _).symm
  refine (congrArg _ ei).trans ?_
  refine (Cert.ChnRefIdeal.Body.flat_at (Cert.ChnRefIdeal.Body.normed (Cert.ChnRefIdeal.Body.prod _ _) _) (i 0 : Fin 256) ⟨(i 1).val / 128, by omega⟩ ⟨(i 1).val % 128, Nat.mod_lt _ (by norm_num)⟩).trans ?_
  refine (Cert.ChnRefIdeal.Body.normed_at _ _ (i 0 : Fin 256) ⟨(i 1).val / 128, by omega⟩ ⟨(i 1).val % 128, Nat.mod_lt _ (by norm_num)⟩).trans ?_
  exact congr (congr (congrArg RopMath.nrm (funext fun e => Cert.ChnRefIdeal.Body.prod_at _ _ (i 0 : Fin 256) ⟨(i 1).val / 128, by omega⟩ e)) rfl) rfl

end Cert.Proof.ChnClaims
-- ==== Proof.CvaClaims.lean ====
/-
  The differential mixer's values of the context tokens: the kernel's transposed tiles are the reference's product, laid
  out by head.
-/
module

public import proofs.«01_k».proof.Defs
public import proofs.«01_k».proof.Proof.Gen.Cva.Frame
public import proofs.«01_k».proof.Proof.Gen.CvaIdeal.Value
public import proofs.«01_k».proof.Proof.Gen.CvaRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.CvaIdeal.Body

open Cert.CvaIdeal Cert.CvaIdeal.Gen Idealize.ShloMosaic Idealize.ShloMosaic.TcCoe Idealize.SL.Sem
open Idealize.ShloMosaic.Pipeline (Dat)

/-- The product's element at a column of the staged weights and a staged token. -/
def tile (w : Vec Ideal S256x2048 .bf16) (x : Vec Ideal S256x2048 .bf16) (d : Fin 256) (i : Fin 256) : EReal :=
  ∑ k : Fin 2048, @HMul.hMul EReal EReal EReal _ (x (ix2 i k)) (w (ix2 d k))

/-- The body's product. -/
theorem pay1_at (w : Vec Ideal S256x2048 .bf16) (x : Vec Ideal S256x2048 .bf16) (d : Fin 256) (i : Fin 256) :
    k0_pay1 w x (ix4 0 0 d i) = ∑ k : Fin 2048, @HMul.hMul EReal EReal EReal _ (w (ix2 d k)) (x (ix2 i k)) := by
  pointwise [k0_pay1]

/-- What the body leaves in the result's block. -/
theorem out_at (w : Vec Ideal S256x2048 .bf16) (x : Vec Ideal S256x2048 .bf16) (y : S1x1x256x256.Idx) :
    out0_2 (F := Ideal) w x y = tile w x (y 2 : Fin 256) (y 3 : Fin 256) := by
  have ew : View.ld w r0_0 = w := View.ld_unit_zero (by funext a; fin_cases a <;> rfl) _ w
  have ex : View.ld x r0_0 = x := View.ld_unit_zero (by funext a; fin_cases a <;> rfl) _ x
  unfold out0_2
  rw [ew, ex]
  refine View.canon_apply_of_pieces (Val := Elt Ideal) (fun y : S1x1x256x256.Idx => tile w x (y 2 : Fin 256) (y 3 : Fin 256)) _ ?_ y (cover0_2 _ y)
  intro p hp z
  have ez : ∀ z : S1x1x256x256.Idx, z = ix4 0 0 (z 2 : Fin 256) (z 3 : Fin 256) := fun z => by
    have h0 : (z 0).val < 1 := (z 0).isLt
    have h1 : (z 1).val < 1 := (z 1).isLt
    funext a
    fin_cases a
    · exact Fin.ext (show (z 0).val = 0 by omega)
    · exact Fin.ext (show (z 1).val = 0 by omega)
    · rfl
    · rfl
  simp only [List.mem_cons, List.mem_nil_iff, or_false] at hp
  subst hp
  refine (congrArg _ (ez z)).trans ((pay1_at w x (z 2 : Fin 256) (z 3 : Fin 256)).trans ((Finset.sum_congr rfl fun k _ => mul_comm _ _).trans ?_))
  show tile w x (z 2 : Fin 256) (z 3 : Fin 256) = tile w x _ _
  exact congr (congrArg (tile w x) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens and a head. -/
theorem idx : ∀ t : Fin cfg0.N, win0_0.index t = ![(grid0.coords t 1).val, 0] ∧ win0_1.index t = ![(grid0.coords t 0).val, 0]
    ∧ win0_2.index t = ![(grid0.coords t 1).val, (grid0.coords t 0).val, 0, 0] := by
  decide +kernel

/-- A grid point's head. -/
def hd (t : Fin cfg0.N) : Fin 8 := ⟨(grid0.coords t 1).val, (grid0.coords t 1).isLt⟩

/-- A grid point's block `b` of tokens. -/
def row (t : Fin cfg0.N) (b : Fin 1) : Fin 1 :=
  ⟨1 * (grid0.coords t 0).val + b.val, by have : (grid0.coords t 0).val < 1 := (grid0.coords t 0).isLt; omega⟩

/-- The prepared weights. -/
theorem w_at (d : Fin 2048) (k : Fin 2048) : V m c main_v1 (ix2 d k) = m ((c : Thread nD τ).loc main_arg1) (ix2 k d) := by
  show StableHlo.after hostOps0 (fun b => m (c, b)) (Proc.tc.devRef _) _ = _
  simp only [hostOps0]
  after_reads_at

/-- The staged tokens. -/
theorem blk_x (t : Fin cfg0.N) (b : Fin 1) (e : Fin 256) (k : Fin 2048) :
    iblk m c 1 t (ix2 ⟨256 * b.val + e.val, by omega⟩ k) = m ((c : Thread nD τ).loc main_arg0) (ix2 ⟨256 * (row t b).val + e.val, by omega⟩ k) := by
  refine Eq.trans ?_ (congrFun (V_main_arg0 m c) (ix2 ⟨256 * (row t b).val + e.val, by omega⟩ k))
  blk_ext [iblk, idx t, row]

/-- The staged weights. -/
theorem blk_w (t : Fin cfg0.N) (d : Fin 256) (k : Fin 2048) : iblk m c 0 t (ix2 d k) = m ((c : Thread nD τ).loc main_arg1) (ix2 k ⟨256 * (hd t).val + d.val, by omega⟩) := by
  refine Eq.trans ?_ (w_at m c ⟨256 * (hd t).val + d.val, by omega⟩ k)
  blk_ext [iblk, idx t, hd]

/-- The product of tokens and weights at a head, a block of tokens, a column of the head and a token of the block. -/
def prod (h : Fin 8) (b : Fin 1) (d : Fin 256) (e : Fin 256) : EReal :=
  ∑ k : Fin 2048, @HMul.hMul EReal EReal EReal _ (m ((c : Thread nD τ).loc main_arg0) (ix2 ⟨256 * b.val + e.val, by omega⟩ k)) (m ((c : Thread nD τ).loc main_arg1) (ix2 k ⟨256 * h.val + d.val, by omega⟩))

/-- The result's array by coordinates. -/
def result : Vec Ideal S8x1x256x256 .bf16 := fun i => prod m c (i 0 : Fin 8) (i 1 : Fin 1) (i 2 : Fin 256) (i 3 : Fin 256)

/-- The result's array after the run. -/
theorem arr : (dats m 0 c).arrAt 2 cfg0.N = result m c := by
  refine (dats m 0 c).arrAt_eq_of_covers 2 _ (by decide +kernel) (fun t hf y => ?_)
  refine (congrFun (Value.flushed2 m c t) y).trans ?_
  have hy0 : (y 0).val < 1 := (y 0).isLt
  have hy1 : (y 1).val < 1 := (y 1).isLt
  have hy2 : (y 2).val < 256 := (y 2).isLt
  have hy3 : (y 3).val < 256 := (y 3).isLt
  have ez : ((cfg0.win 2).blk t).view.emb y = ix4 (hd t) (row t ⟨(y 1).val, hy1⟩) ⟨(y 2).val, hy2⟩ ⟨(y 3).val, hy3⟩ := by
    blk_ext [idx t, row, hd]
  refine Eq.trans ?_ (congrArg (result m c) ez.symm)
  refine (out_at (iblk m c 0 t) (iblk m c 1 t) y).trans ?_
  show _ = prod m c (hd t) (row t ⟨(y 1).val, hy1⟩) ⟨(y 2).val, hy2⟩ ⟨(y 3).val, hy3⟩
  refine Eq.trans ?_ (Finset.sum_congr (s₁ := Finset.univ) rfl fun k _ => congr (congrArg (@HMul.hMul EReal EReal EReal _) (blk_x m c t ⟨(y 1).val, hy1⟩ ⟨(y 3).val, hy3⟩ k)) (blk_w m c t ⟨(y 2).val, hy2⟩ k))
  refine Finset.sum_congr rfl fun k _ => congr (congrArg _ (congrArg (iblk m c 1 t) (congrFun (congrArg ix2 (Fin.ext ?_)) k))) rfl
  show (y 3).val = 256 * (y 1).val + (y 3).val
  omega

end Cert.CvaIdeal.Body

namespace Cert.CvaRefIdeal.Body

open Cert.CvaRefIdeal Cert.CvaRefIdeal.Gen Idealize.ShloMosaic Idealize.ShloMosaic.TcCoe

/-- The reference's result at an index. -/
theorem res_at (a0 : FVec Ideal S256x2048 .bf16) (a1 : FVec Ideal S2048x2048 .f32) (h : Fin 8) (b : Fin 1) (d : Fin 256) (e : Fin 256) :
    truncf .bf16 (transpose S8x1x256x256 [2, 0, 3, 1] (shapeCast _ (Host.dotGeneral dot_S256x2048_S2048x2048_S256x2048_1_0_0_1_n_n none (extf .f32 a0 bitsLt_bf16_f32) a1) shapeCasts_S256x2048_S1x256x8x256) transposes_S1x256x8x256_S8x1x256x256_2_0_3_1) bitsLt_bf16_f32 (ix4 h b d e)
      = ∑ k : Fin 2048, @HMul.hMul EReal EReal EReal _ (a0 (ix2 ⟨256 * b.val + e.val, by omega⟩ k)) (a1 (ix2 k ⟨256 * h.val + d.val, by omega⟩)) := by
  pointwise
  exact Finset.sum_congr rfl fun k _ => congr (congrArg _ (congrArg a0 (congrFun (congrArg ix2 (Fin.ext (by dsimp only))) k))) (congrArg a1 (congrArg (ix2 k) (Fin.ext (by dsimp only; omega))))

end Cert.CvaRefIdeal.Body

namespace Cert.Proof.CvaClaims

open Idealize.ShloMosaic Idealize.ShloMosaic.TcCoe Idealize.SL.Sem

/-- The reference ends with its arguments and every counter as they were. -/
theorem frame_ref : Cert.quiescent_CvaRefIdeal := fun m ρ _ =>
  (θ_run Cert.CvaRefIdeal.defs _ _).mono (fun r h => ⟨fun c => (h c).2, sem_eq_zero_of_no_sems (by decide) r.2⟩)
    (Cert.CvaRefIdeal.Value.run (F := Ideal) m ρ)

/-- Kernel and reference leave the same array. -/
theorem algebraic : Cert.algebraic_CvaIdeal_CvaRefIdeal := by
  intro m ρ m' ρ' _ hagree
  refine ⟨fun c => Cert.CvaIdeal.Body.result m c,
    (θ_run Cert.CvaIdeal.defs _ _).mono (fun r h c => ⟨(h c).1.trans (Cert.CvaIdeal.Body.arr m c), (h c).2⟩)
      (Cert.CvaIdeal.Value.run_blocks m ρ), ?_⟩
  refine (θ_run Cert.CvaRefIdeal.defs _ _).mono (fun r h c => ⟨(h c).1.trans ?_, (h c).2⟩) (Cert.CvaRefIdeal.Value.run (F := Ideal) m' ρ')
  obtain ⟨h0, h1⟩ := hagree c
  rw [h0, h1]
  funext i
  have ei : i = ix4 (i 0 : Fin 8) (i 1 : Fin 1) (i 2 : Fin 256) (i 3 : Fin 256) := by funext a; fin_cases a <;> rfl
  rw [ei]
  exact Cert.CvaRefIdeal.Body.res_at _ _ (i 0 : Fin 8) (i 1 : Fin 1) (i 2 : Fin 256) (i 3 : Fin 256)

end Cert.Proof.CvaClaims
-- ==== Proof.AdaClaims.lean ====
/-
  The modulation of all layers: the kernel's tiles are the reference's projections of the two conditions.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.AdaIdeal.Body

open Cert.AdaIdeal Cert.AdaIdeal.Gen Idealize.ShloMosaic Idealize.ShloMosaic.TcCoe Idealize.SL.Sem
open Idealize.ShloMosaic.Pipeline (Dat)

/-- A number times its logistic value. -/
def silu (v : EReal) : EReal := v * Ideal.logistic v

/-- A tile: the projection of condition `j` with the staged weights and its bias, at column `d`. -/
def tile (x : Vec Ideal S2048x2 .f32) (w : Vec Ideal S1x2048x512 .f32) (b : Vec Ideal S1x1x512 .f32) (j : Fin 2) (d : Fin 512) : EReal :=
  (∑ k : Fin 2048, @HMul.hMul EReal EReal EReal _ (w (ix3 0 k d)) (silu (x (ix2 k j)))) + b (ix3 0 0 d)

/-- The conditions under the logistic unit. -/
def cond (x : Vec Ideal S2048x2 .f32) : FVec Ideal S2048x2 .f32 :=
  mulf (shapeCast S2048x2 x shapeCasts_S2048x2_S2048x2) (logistic (shapeCast S2048x2 x shapeCasts_S2048x2_S2048x2))

/-- The first condition's projection. -/
def part0 (x : Vec Ideal S2048x2 .f32) (w : Vec Ideal S1x2048x512 .f32) : FVec Ideal S1x512 .f32 :=
  shapeCast S1x512 (multiReduction .add [0] S512 (mulf (shapeCast S2048x512 w shapeCasts_S1x2048x512_S2048x512)
    (broadcastTo S2048x512 (extractStridedSlice S2048x1 ![0, 0] (cond x) slices_S2048x2_o0_0_S2048x1) broadcasts_S2048x1_S2048x512)) 0x00000000#32 reduces_S2048x512_S512 (.inl rfl) rfl) shapeCasts_S512_S1x512

/-- The second condition's projection. -/
def part1 (x : Vec Ideal S2048x2 .f32) (w : Vec Ideal S1x2048x512 .f32) : FVec Ideal S1x512 .f32 :=
  shapeCast S1x512 (multiReduction .add [0] S512 (mulf (shapeCast S2048x512 w shapeCasts_S1x2048x512_S2048x512)
    (broadcastTo S2048x512 (extractStridedSlice S2048x1 ![0, 1] (cond x) slices_S2048x2_o0_1_S2048x1) broadcasts_S2048x1_S2048x512)) 0x00000000#32 reduces_S2048x512_S512 (.inl rfl) rfl) shapeCasts_S512_S1x512

/-- The first condition's projection at a column. -/
theorem part0_at (x : Vec Ideal S2048x2 .f32) (w : Vec Ideal S1x2048x512 .f32) (d : Fin 512) :
    part0 x w (ix2 0 d) = ∑ k : Fin 2048, @HMul.hMul EReal EReal EReal _ (w (ix3 0 k d)) (silu (x (ix2 k 0))) := by
  unfold silu
  pointwise [part0, cond]

/-- The second condition's projection at a column. -/
theorem part1_at (x : Vec Ideal S2048x2 .f32) (w : Vec Ideal S1x2048x512 .f32) (d : Fin 512) :
    part1 x w (ix2 0 d) = ∑ k : Fin 2048, @HMul.hMul EReal EReal EReal _ (w (ix3 0 k d)) (silu (x (ix2 k 1))) := by
  unfold silu
  pointwise [part1, cond]

/-- What the body stores of the two projections `u`. -/
def stored (u : FVec Ideal S2x512 .f32) (b : Vec Ideal S1x1x512 .f32) : FVec Ideal S1x2x512 .f32 :=
  shapeCast S1x2x512 (addf u (broadcastTo S2x512 (shapeCast S1x512 b shapeCasts_S1x1x512_S1x512) broadcasts_S1x512_S2x512)) shapeCasts_S2x512_S1x2x512

/-- What the body stores of the two projections, at an index. -/
theorem stored_at (u : FVec Ideal S2x512 .f32) (b : Vec Ideal S1x1x512 .f32) (j : Fin 2) (d : Fin 512) :
    stored u b (ix3 0 j d) = @HAdd.hAdd EReal EReal EReal _ (u (ix2 j d)) (b (ix3 0 0 d)) := by
  pointwise [stored]

/-- Of two rows put together, the first. -/
theorem rows0 (a b : FVec Ideal S1x512 .f32) (d : Fin 512) :
    concatenate S2x512 0 [⟨S1x512, a⟩, ⟨S1x512, b⟩] concatenates_S1x512_S1x512_S2x512_d0 (ix2 0 d) = a (ix2 0 d) := by
  refine concatenate_pair_apply_left (t := S2x512) 0 a b _ (ix2 0 d) rfl (ix2 0 d) ?_
  intro e; fin_cases e <;> rfl

/-- Of two rows put together, the second. -/
theorem rows1 (a b : FVec Ideal S1x512 .f32) (d : Fin 512) :
    concatenate S2x512 0 [⟨S1x512, a⟩, ⟨S1x512, b⟩] concatenates_S1x512_S1x512_S2x512_d0 (ix2 1 d) = b (ix2 0 d) := by
  refine concatenate_pair_apply_right (t := S2x512) 0 a b _ (ix2 1 d) rfl rfl (ix2 0 d) ?_ rfl
  intro e he; fin_cases e
  · exact absurd rfl he
  · rfl

/-- Of two columns put together, the first. -/
theorem cols0 (a b : FVec Ideal S2048x1 .f32) (d : Fin 2048) :
    concatenate S2048x2 1 [⟨S2048x1, a⟩, ⟨S2048x1, b⟩] concatenates_S2048x1_S2048x1_S2048x2_d1 (ix2 d 0) = a (ix2 d 0) := by
  refine concatenate_pair_apply_left (t := S2048x2) 1 a b _ (ix2 d 0) rfl (ix2 d 0) ?_
  intro e; fin_cases e <;> rfl

/-- Of two columns put together, the second. -/
theorem cols1 (a b : FVec Ideal S2048x1 .f32) (d : Fin 2048) :
    concatenate S2048x2 1 [⟨S2048x1, a⟩, ⟨S2048x1, b⟩] concatenates_S2048x1_S2048x1_S2048x2_d1 (ix2 d 1) = b (ix2 d 0) := by
  refine concatenate_pair_apply_right (t := S2048x2) 1 a b _ (ix2 d 1) rfl rfl (ix2 d 0) ?_ rfl
  intro e he; fin_cases e
  · rfl
  · exact absurd rfl he

/-- What the body stores. -/
theorem pay1_at (x : Vec Ideal S2048x2 .f32) (w : Vec Ideal S1x2048x512 .f32) (b : Vec Ideal S1x1x512 .f32) (j : Fin 2) (d : Fin 512) :
    k0_pay1 x w b (ix3 0 j d) = tile x w b j d := by
  show stored (concatenate S2x512 0 [⟨S1x512, part0 x w⟩, ⟨S1x512, part1 x w⟩] concatenates_S1x512_S1x512_S2x512_d0) b (ix3 0 j d) = _
  refine (stored_at _ b j d).trans ?_
  refine congrArg (fun u : EReal => u + b (ix3 0 0 d)) ?_
  match j with
  | 0 => exact (rows0 _ _ d).trans (part0_at x w d)
  | 1 => exact (rows1 _ _ d).trans (part1_at x w d)

/-- What the body leaves in the result's block. -/
theorem out_at (x : Vec Ideal S2048x2 .f32) (w : Vec Ideal S1x2048x512 .f32) (b : Vec Ideal S1x1x512 .f32) (y : S1x2x512.Idx) :
    out0_3 (F := Ideal) x w b y = tile x w b (y 1 : Fin 2) (y 2 : Fin 512) := by
  unfold out0_3
  refine View.canon_apply_of_pieces (Val := Elt Ideal) (fun y : S1x2x512.Idx => tile x w b (y 1 : Fin 2) (y 2 : Fin 512)) _ ?_ y (cover0_3 _ y)
  intro p hp z
  simp only [List.mem_cons, List.mem_nil_iff, or_false] at hp
  subst hp
  have ez : z = ix3 (0 : Fin 1) (z 1 : Fin 2) (z 2 : Fin 512) := by
    funext a; fin_cases a
    · exact Subsingleton.elim (α := Fin 1) _ _
    · rfl
    · rfl
  have e0 : View.ld x r0_0 = x := View.ld_unit_zero (by funext a; fin_cases a <;> rfl) _ x
  have e1 : View.ld w r0_1 = w := View.ld_unit_zero (by funext a; fin_cases a <;> rfl) _ w
  have e2 : View.ld b r0_2 = b := View.ld_unit_zero (by funext a; fin_cases a <;> rfl) _ b
  show k0_pay1 (View.ld x r0_0) (View.ld w r0_1) (View.ld b r0_2) z = _
  rw [e0, e1, e2]
  refine (congrArg _ ez).trans ((pay1_at x w b (z 1 : Fin 2) (z 2 : Fin 512)).trans ?_)
  exact congr (congrArg (tile x w b) (Fin.ext (by simp [Rect.unit, Rect.emb]))) (Fin.ext (by simp [Rect.unit, Rect.emb]))

variable (m : (ℓ : Loc nD τ sig) → Buf (Elt Ideal) ℓ) (c : Dev nD)

/-- The grid's indices of the windows: a layer and a block of columns. -/
theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] := by
  decide +kernel

/-- A grid point's layer. -/
def lay (t : Fin cfg0.N) : Fin 4 := ⟨(grid0.coords t 0).val, (grid0.coords t 0).isLt⟩

/-- A grid point's column `d`. -/
def col (t : Fin cfg0.N) (d : Fin 512) : Fin 6144 :=
  ⟨512 * (grid0.coords t 1).val + d.val, by have : (grid0.coords t 1).val < 12 := (grid0.coords t 1).isLt; omega⟩

/-- Condition `j`: that of the latent tokens, or that of the context tokens. -/
def cnd (j : Fin 2) (k : Fin 2048) : EReal :=
  match j with
  | 0 => m ((c : Thread nD τ).loc main_arg0) (ix1 k)
  | 1 => m ((c : Thread nD τ).loc main_arg1) (ix1 k)

/-- A column of a vector. -/
theorem column_at (a : FVec Ideal S2048 .f32) (k : Fin 2048) : broadcastInDim S2048x1 ![0] bcast_S2048_S2048x1_0 a (ix2 k 0) = a (ix1 k) := by
  pointwise []

/-- The two conditions side by side. -/
theorem x_eq : V m c main_v2 = concatenate S2048x2 1 [⟨S2048x1, broadcastInDim S2048x1 ![0] bcast_S2048_S2048x1_0 (m ((c : Thread nD τ).loc main_arg0))⟩,
    ⟨S2048x1, broadcastInDim S2048x1 ![0] bcast_S2048_S2048x1_0 (m ((c : Thread nD τ).loc main_arg1))⟩] concatenates_S2048x1_S2048x1_S2048x2_d1 := by
  show StableHlo.after hostOps0 (fun b => m (c, b)) (Proc.tc.devRef _) = _
  simp only [hostOps0]
  after_results

/-- The prepared conditions. -/
theorem x_at (k : Fin 2048) (j : Fin 2) : V m c main_v2 (ix2 k j) = cnd m c j k := by
  refine (congrFun (x_eq m c) (ix2 k j)).trans ?_
  match j with
  | 0 => exact (cols0 _ _ k).trans (column_at _ k)
  | 1 => exact (cols1 _ _ k).trans (column_at _ k)

/-- The prepared bias. -/
theorem b_at (l : Fin 4) (d : Fin 6144) : V m c main_v3 (ix3 l 0 d) = m ((c : Thread nD τ).loc main_arg3) (ix2 l d) := by
  show StableHlo.after hostOps0 (fun b => m (c, b)) (Proc.tc.devRef _) _ = _
  simp only [hostOps0]
  after_reads_at

/-- The staged conditions. -/
theorem blk_x (t : Fin cfg0.N) (k : Fin 2048) (j : Fin 2) : iblk m c 0 t (ix2 k j) = cnd m c j k := by
  refine Eq.trans ?_ (x_at m c k j)
  blk_ext [iblk, idx t]

/-- The staged weights. -/
theorem blk_w (t : Fin cfg0.N) (k : Fin 2048) (d : Fin 512) : iblk m c 1 t (ix3 0 k d) = m ((c : Thread nD τ).loc main_arg2) (ix3 (lay t) k (col t d)) := by
  refine Eq.trans ?_ (congrFun (V_main_arg2 m c) (ix3 (lay t) k (col t d)))
  blk_ext [iblk, idx t, lay, col]

/-- The staged bias. -/
theorem blk_b (t : Fin cfg0.N) (d : Fin 512) : iblk m c 2 t (ix3 0 0 d) = m ((c : Thread nD τ).loc main_arg3) (ix2 (lay t) (col t d)) := by
  refine Eq.trans ?_ (b_at m c (lay t) (col t d))
  blk_ext [iblk, idx t, lay, col]

/-- The projection of condition `j` by layer `l`. -/
def val (l : Fin 4) (j : Fin 2) (d : Fin 6144) : EReal :=
  (∑ k : Fin 2048, @HMul.hMul EReal EReal EReal _ (m ((c : Thread nD τ).loc main_arg2) (ix3 l k d)) (silu (cnd m c j k))) + m ((c : Thread nD τ).loc main_arg3) (ix2 l d)

/-- The result's array by coordinates. -/
def result : Vec Ideal S4x2x6144 .f32 := fun i => val m c (i 0 : Fin 4) (i 1 : Fin 2) (i 2 : Fin 6144)

/-- The result's array after the run. -/
theorem arr : (dats m 0 c).arrAt 3 cfg0.N = result m c := by
  refine (dats m 0 c).arrAt_eq_of_covers 3 _ (by decide +kernel) (fun t hf y => ?_)
  refine (congrFun (Value.flushed3 m c t) y).trans ?_
  have hy0 : (y 0).val < 1 := (y 0).isLt
  have hy1 : (y 1).val < 2 := (y 1).isLt
  have hy2 : (y 2).val < 512 := (y 2).isLt
  have ez : ((cfg0.win 3).blk t).view.emb y = ix3 (lay t) (⟨(y 1).val, hy1⟩ : Fin 2) (col t ⟨(y 2).val, hy2⟩) := by
    blk_ext [idx t, lay, col]
  refine Eq.trans ?_ (congrArg (result m c) ez.symm)
  refine Eq.trans ?_ ((out_at (iblk m c 0 t) (iblk m c 1 t) (iblk m c 2 t) (ix3 ⟨(y 0).val, hy0⟩ ⟨(y 1).val, hy1⟩ ⟨(y 2).val, hy2⟩)).trans ?_)
  · exact congrArg _ (by funext a; fin_cases a <;> rfl)
  · show tile _ _ _ (⟨(y 1).val, hy1⟩ : Fin 2) ⟨(y 2).val, hy2⟩ = val m c (lay t) ⟨(y 1).val, hy1⟩ (col t ⟨(y 2).val, hy2⟩)
    unfold tile val
    refine congr (congrArg (@HAdd.hAdd EReal EReal EReal _) (Finset.sum_congr rfl fun k _ => ?_)) (blk_b m c t ⟨(y 2).val, hy2⟩)
    exact congr (congrArg (@HMul.hMul EReal EReal EReal _) (blk_w m c t k ⟨(y 2).val, hy2⟩)) (congrArg silu (blk_x m c t k ⟨(y 1).val, hy1⟩))

end Cert.AdaIdeal.Body

namespace Cert.AdaRefIdeal.Body

open Cert.AdaRefIdeal Cert.AdaRefIdeal.Gen Idealize.ShloMosaic Idealize.ShloMosaic.TcCoe

/-- The reference's projection of one condition. -/
def part (a : FVec Ideal S2048 .f32) (w : FVec Ideal S4x2048x6144 .f32) (b : FVec Ideal S4x6144 .f32) : FVec Ideal S4x1x6144 .f32 :=
  broadcastInDim S4x1x6144 ![0, 2] bcast_S4x6144_S4x1x6144_0_2 (addf (Host.dotGeneral dot_S2048_S4x2048x6144_S4x6144_0_1_n_02_n_n none (mulf a (Host.divf (broadcastInDim S2048 ![] bcast_S_S2048 (constant S_ .f32 0x3F800000#32)) (addf (broadcastInDim S2048 ![] bcast_S_S2048 (constant S_ .f32 0x3F800000#32)) (Host.exp (Host.negf a))))) w) b)

/-- The reference's projection of one condition at an index. -/
theorem part_at (a : FVec Ideal S2048 .f32) (w : FVec Ideal S4x2048x6144 .f32) (b : FVec Ideal S4x6144 .f32) (l : Fin 4) (d : Fin 6144) :
    part a w b (ix3 l 0 d) = (∑ k : Fin 2048, @HMul.hMul EReal EReal EReal _ (w (ix3 l k d)) (Cert.AdaIdeal.Body.silu (a (ix1 k)))) + b (ix2 l d) := by
  have e : part a w b (ix3 l 0 d) = (∑ k : Fin 2048, @HMul.hMul EReal EReal EReal _ (Cert.AdaIdeal.Body.silu (a (ix1 k))) (w (ix3 l k d))) + b (ix2 l d) := by
    unfold Cert.AdaIdeal.Body.silu
    pointwise [part]
    rfl
  exact e.trans (congrArg (fun u : EReal => u + b (ix2 l d)) (Finset.sum_congr rfl fun k _ => mul_comm _ _))

/-- The reference's two projections. -/
def res (a0 a1 : FVec Ideal S2048 .f32) (a2 : FVec Ideal S4x2048x6144 .f32) (a3 : FVec Ideal S4x6144 .f32) : FVec Ideal S4x2x6144 .f32 :=
  concatenate S4x2x6144 1 [⟨S4x1x6144, part a0 a2 a3⟩, ⟨S4x1x6144, part a1 a2 a3⟩] concatenates_S4x1x6144_S4x1x6144_S4x2x6144_d1

/-- The reference's first projection at an index. -/
theorem res_at0 (a0 a1 : FVec Ideal S2048 .f32) (a2 : FVec Ideal S4x2048x6144 .f32) (a3 : FVec Ideal S4x6144 .f32) (l : Fin 4) (d : Fin 6144) :
    res a0 a1 a2 a3 (ix3 l 0 d) = part a0 a2 a3 (ix3 l 0 d) := by
  refine concatenate_pair_apply_left (t := S4x2x6144) 1 (part a0 a2 a3) (part a1 a2 a3) _ (ix3 l 0 d) rfl (ix3 l 0 d) ?_
  intro a; fin_cases a <;> rfl

/-- The reference's second projection at an index. -/
theorem res_at1 (a0 a1 : FVec Ideal S2048 .f32) (a2 : FVec Ideal S4x2048x6144 .f32) (a3 : FVec Ideal S4x6144 .f32) (l : Fin 4) (d : Fin 6144) :
    res a0 a1 a2 a3 (ix3 l 1 d) = part a1 a2 a3 (ix3 l 0 d) := by
  refine concatenate_pair_apply_right (t := S4x2x6144) 1 (part a0 a2 a3) (part a1 a2 a3) _ (ix3 l 1 d) rfl rfl (ix3 l 0 d) ?_ rfl
  intro a ha; fin_cases a
  · rfl
  · exact absurd rfl ha
  · rfl

end Cert.AdaRefIdeal.Body

namespace Cert.Proof.AdaClaims

open Idealize.ShloMosaic Idealize.ShloMosaic.TcCoe Idealize.SL.Sem

/-- The reference ends with its arguments and every counter as they were. -/
theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The kernel's result is the reference's. -/
theorem result_eq (m : (ℓ : Loc Cert.AdaIdeal.nD Cert.AdaIdeal.τ Cert.AdaIdeal.sig) → Buf (Elt Ideal) ℓ) (c : Dev Cert.AdaIdeal.nD) (l : Fin 4) (j : Fin 2) (d : Fin 6144) :
    Cert.AdaRefIdeal.Body.res (m ((c.tc : Thread Cert.AdaIdeal.nD Cert.AdaIdeal.τ).loc Cert.AdaIdeal.main_arg0)) (m ((c.tc : Thread Cert.AdaIdeal.nD Cert.AdaIdeal.τ).loc Cert.AdaIdeal.main_arg1))
        (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (ix3 l j d)
      = Cert.AdaIdeal.Body.val m c l j d := by
  match j with
  | 0 => exact (Cert.AdaRefIdeal.Body.res_at0 _ _ _ _ l d).trans (Cert.AdaRefIdeal.Body.part_at _ _ _ l d)
  | 1 => exact (Cert.AdaRefIdeal.Body.res_at1 _ _ _ _ l d).trans (Cert.AdaRefIdeal.Body.part_at _ _ _ l d)

/-- Kernel and reference leave the same array. -/
theorem algebraic : Cert.algebraic_AdaIdeal_AdaRefIdeal := by
  intro m ρ m' ρ' _ hagree
  refine ⟨fun c => Cert.AdaIdeal.Body.result m c,
    (θ_run Cert.AdaIdeal.defs _ _).mono (fun r h c => ⟨(h c).1.trans (Cert.AdaIdeal.Body.arr m c), (h c).2⟩)
      (Cert.AdaIdeal.Value.run_blocks m ρ), ?_⟩
  refine (θ_run Cert.AdaRefIdeal.defs _ _).mono (fun r h c => ⟨(h c).1.trans ?_, (h c).2⟩) (Cert.AdaRefIdeal.Value.run (F := Ideal) m' ρ')
  obtain ⟨h0, h1, h2, h3⟩ := hagree c
  rw [h0, h1, h2, h3]
  funext i
  have ei : i = ix3 (i 0 : Fin 4) (i 1 : Fin 2) (i 2 : Fin 6144) := by funext a; fin_cases a <;> rfl
  exact (congrArg _ ei).trans (result_eq m c (i 0 : Fin 4) (i 1 : Fin 2) (i 2 : Fin 6144))

end Cert.Proof.AdaClaims
-- ==== Proof.ModRow.lean ====
/-
  A row normed over the root of its mean square, then scaled and shifted by the modulation.
-/
module

public import Idealize.ShloMosaic.Lib.Pointwise
public import Idealize.ShloMosaic.Lib.Claim

@[expose] public section

noncomputable section

namespace ModRow

open Idealize.ShloMosaic

/-- A row of 2048 over the root of its mean square, weighted by `g`, scaled by one and `s`, shifted by `h`. -/
def mod {n : Nat} (v g s h : Fin n → EReal) (d : Fin n) : EReal :=
  v d * Ideal.rsqrt (Ideal.div (∑ e : Fin n, v e * v e) (Ideal.ofBits .f32 0x45000000#32) + Ideal.ofBits .f32 0x358637BD#32) * g d
    * (1 + s d) + h d

end ModRow
-- ==== Proof.MnoClaims.lean ====
/-
  A layer's norm of the latent tokens and their modulation.
-/
module

public import proofs.«01_k».proof.Defs
public import proofs.«01_k».proof.Proof.ModRow
public import proofs.«01_k».proof.Proof.Gen.Mno.Frame
public import proofs.«01_k».proof.Proof.Gen.MnoIdeal.Value
public import proofs.«01_k».proof.Proof.Gen.MnoRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.MnoIdeal.Body

open Cert.MnoIdeal Cert.MnoIdeal.Gen Idealize.ShloMosaic Idealize.ShloMosaic.TcCoe Idealize.SL.Sem
open Idealize.ShloMosaic.Pipeline (Dat)

/-- A tile: token `i`'s row normed and modulated, at column `d`. -/
def tile (x : Vec Ideal S512x2048 .f32) (g s h : Vec Ideal S1x2048 .f32) (i : Fin 512) (d : Fin 2048) : EReal :=
  ModRow.mod (fun e : Fin 2048 => x (ix2 i e)) (fun e => g (ix2 0 e)) (fun e => s (ix2 0 e)) (fun e => h (ix2 0 e)) d

/-- What the body stores. -/
theorem pay1_at (x : Vec Ideal S512x2048 .f32) (g s h : Vec Ideal S1x2048 .f32) (i : Fin 512) (d : Fin 2048) :
    k0_pay1 x g s h (ix2 i d) = tile x g s h i d := by
  unfold tile
  pointwise [k0_pay1]
  rfl

/-- What the body leaves in the result's block. -/
theorem out_at (x : Vec Ideal S512x2048 .f32) (g s h : Vec Ideal S1x2048 .f32) (y : S512x2048.Idx) :
    out0_4 (F := Ideal) x g s h y = tile x g s h (y 0 : Fin 512) (y 1 : Fin 2048) := by
  unfold out0_4
  refine View.canon_apply_of_pieces (Val := Elt Ideal) (fun y : S512x2048.Idx => tile x g s h (y 0 : Fin 512) (y 1 : Fin 2048)) _ ?_ y (cover0_4 _ y)
  intro p hp z
  simp only [List.mem_cons, List.mem_nil_iff, or_false] at hp
  subst hp
  have ez : z = ix2 (z 0 : Fin 512) (z 1 : Fin 2048) := by funext a; fin_cases a <;> rfl
  have ex : View.ld x r0_0 = x := View.ld_unit_zero (by funext a; fin_cases a <;> rfl) _ x
  have e1 : ∀ v : Vec Ideal S1x2048 .f32, View.ld v r0_1 = v := fun v => View.ld_unit_zero (by funext a; fin_cases a <;> rfl) _ v
  show k0_pay1 (View.ld x r0_0) (View.ld g r0_1) (View.ld s r0_1) (View.ld h r0_1) z = _
  rw [ex, e1 g, e1 s, e1 h]
  refine (congrArg _ ez).trans ((pay1_at x g s h (z 0 : Fin 512) (z 1 : Fin 2048)).trans ?_)
  exact congr (congrArg (tile x g s h) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![(grid0.coords t 0).val, 0] := by
  decide +kernel

/-- A grid point's token `i`. -/
def row (t : Fin cfg0.N) (i : Fin 512) : Fin 8192 :=
  ⟨512 * (grid0.coords t 0).val + i.val, by have : (grid0.coords t 0).val < 16 := (grid0.coords t 0).isLt; omega⟩

/-- The prepared weights of the norm. -/
theorem g_at (d : Fin 2048) : V m c main_v0 (ix2 0 d) = m ((c : Thread nD τ).loc main_arg1) (ix1 d) := by
  show StableHlo.after hostOps0 (fun b => m (c, b)) (Proc.tc.devRef _) _ = _
  simp only [hostOps0]
  after_reads_at

/-- The staged weights of the norm. -/
theorem blk_g (t : Fin cfg0.N) (d : Fin 2048) : iblk m c 1 t (ix2 0 d) = m ((c : Thread nD τ).loc main_arg1) (ix1 d) := by
  refine Eq.trans ?_ (g_at m c d)
  blk_ext [iblk, idx t]

/-- The prepared scale. -/
theorem s_at (d : Fin 2048) : V m c main_v1 (ix2 0 d) = m ((c : Thread nD τ).loc main_arg2) (ix1 d) := by
  show StableHlo.after hostOps0 (fun b => m (c, b)) (Proc.tc.devRef _) _ = _
  simp only [hostOps0]
  after_reads_at

/-- The staged scale. -/
theorem blk_s (t : Fin cfg0.N) (d : Fin 2048) : iblk m c 2 t (ix2 0 d) = m ((c : Thread nD τ).loc main_arg2) (ix1 d) := by
  refine Eq.trans ?_ (s_at m c d)
  blk_ext [iblk, idx t]

/-- The prepared shift. -/
theorem h_at (d : Fin 2048) : V m c main_v2 (ix2 0 d) = m ((c : Thread nD τ).loc main_arg3) (ix1 d) := by
  show StableHlo.after hostOps0 (fun b => m (c, b)) (Proc.tc.devRef _) _ = _
  simp only [hostOps0]
  after_reads_at

/-- The staged shift. -/
theorem blk_h (t : Fin cfg0.N) (d : Fin 2048) : iblk m c 3 t (ix2 0 d) = m ((c : Thread nD τ).loc main_arg3) (ix1 d) := by
  refine Eq.trans ?_ (h_at m c d)
  blk_ext [iblk, idx t]

/-- The staged tokens. -/
theorem blk_x (t : Fin cfg0.N) (i : Fin 512) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- A token's row normed and modulated. -/
def val (n : Fin 8192) (d : Fin 2048) : EReal :=
  ModRow.mod (fun e : Fin 2048 => m ((c : Thread nD τ).loc main_arg0) (ix2 n e)) (fun e => m ((c : Thread nD τ).loc main_arg1) (ix1 e))
    (fun e => m ((c : Thread nD τ).loc main_arg2) (ix1 e)) (fun e => m ((c : Thread nD τ).loc main_arg3) (ix1 e)) d

/-- The result's array by coordinates. -/
def result : Vec Ideal S8192x2048 .bf16 := fun i => val m c (i 0 : Fin 8192) (i 1 : Fin 2048)

/-- The result's array after the run. -/
theorem arr : (dats m 0 c).arrAt 4 cfg0.N = result m c := by
  refine (dats m 0 c).arrAt_eq_of_covers 4 _ (by decide +kernel) (fun t hf y => ?_)
  refine (congrFun (Value.flushed4 m c t) y).trans ?_
  have hy0 : (y 0).val < 512 := (y 0).isLt
  have hy1 : (y 1).val < 2048 := (y 1).isLt
  have ez : ((cfg0.win 4).blk t).view.emb y = ix2 (row t ⟨(y 0).val, hy0⟩) (⟨(y 1).val, hy1⟩ : Fin 2048) := by
    blk_ext [idx t, row]
  refine Eq.trans ?_ (congrArg (result m c) ez.symm)
  refine Eq.trans ?_ ((out_at (iblk m c 0 t) (iblk m c 1 t) (iblk m c 2 t) (iblk m c 3 t) (ix2 ⟨(y 0).val, hy0⟩ ⟨(y 1).val, hy1⟩)).trans ?_)
  · exact congrArg _ (by funext a; fin_cases a <;> rfl)
  · show tile _ _ _ _ ⟨(y 0).val, hy0⟩ ⟨(y 1).val, hy1⟩ = val m c (row t ⟨(y 0).val, hy0⟩) ⟨(y 1).val, hy1⟩
    unfold tile val
    exact congr (congr (congr (congr (congrArg ModRow.mod (funext fun e => blk_x m c t ⟨(y 0).val, hy0⟩ e)) (funext fun e => blk_g m c t e))
      (funext fun e => blk_s m c t e)) (funext fun e => blk_h m c t e)) rfl

end Cert.MnoIdeal.Body

namespace Cert.MnoRefIdeal.Body

open Cert.MnoRefIdeal Cert.MnoRefIdeal.Gen Idealize.ShloMosaic Idealize.ShloMosaic.TcCoe

/-- The reference's result. -/
def res (a0 : FVec Ideal S8192x2048 .f32) (a1 a2 a3 : FVec Ideal S2048 .f32) : FVec Ideal S8192x2048 .bf16 :=
  truncf .bf16 (addf (mulf (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) a2)))) (broadcastInDim S8192x2048 ![0, 1] bcast_S1x2048_S8192x2048_0_1 (broadcastInDim S1x2048 ![1] bcast_S2048_S1x2048_1 a3))) bitsLt_bf16_f32

/-- The reference's result at an index. -/
theorem res_at (a0 : FVec Ideal S8192x2048 .f32) (a1 a2 a3 : FVec Ideal S2048 .f32) (n : Fin 8192) (d : Fin 2048) :
    res a0 a1 a2 a3 (ix2 n d) = ModRow.mod (fun e => a0 (ix2 n e)) (fun e => a1 (ix1 e)) (fun e => a2 (ix1 e)) (fun e => a3 (ix1 e)) d := by
  unfold ModRow.mod
  pointwise [res]

end Cert.MnoRefIdeal.Body

namespace Cert.Proof.MnoClaims

open Idealize.ShloMosaic Idealize.ShloMosaic.TcCoe Idealize.SL.Sem

/-- The reference ends with its arguments and every counter as they were. -/
theorem frame_ref : Cert.quiescent_MnoRefIdeal := fun m ρ _ =>
  (θ_run Cert.MnoRefIdeal.defs _ _).mono (fun r h => ⟨fun c => (h c).2, sem_eq_zero_of_no_sems (by decide) r.2⟩)
    (Cert.MnoRefIdeal.Value.run (F := Ideal) m ρ)

/-- Kernel and reference leave the same array. -/
theorem algebraic : Cert.algebraic_MnoIdeal_MnoRefIdeal := by
  intro m ρ m' ρ' _ hagree
  refine ⟨fun c => Cert.MnoIdeal.Body.result m c,
    (θ_run Cert.MnoIdeal.defs _ _).mono (fun r h c => ⟨(h c).1.trans (Cert.MnoIdeal.Body.arr m c), (h c).2⟩)
      (Cert.MnoIdeal.Value.run_blocks m ρ), ?_⟩
  refine (θ_run Cert.MnoRefIdeal.defs _ _).mono (fun r h c => ⟨(h c).1.trans ?_, (h c).2⟩) (Cert.MnoRefIdeal.Value.run (F := Ideal) m' ρ')
  obtain ⟨h0, h1, h2, h3⟩ := hagree c
  rw [h0, h1, h2, h3]
  funext i
  have ei : i = ix2 (i 0 : Fin 8192) (i 1 : Fin 2048) := by funext a; fin_cases a <;> rfl
  exact (congrArg _ ei).trans (Cert.MnoRefIdeal.Body.res_at _ _ _ _ (i 0 : Fin 8192) (i 1 : Fin 2048))

end Cert.Proof.MnoClaims
-- ==== Proof.CmnClaims.lean ====
/-
  A layer's norm of the context tokens and their modulation.
-/
module

public import proofs.«01_k».proof.Defs
public import proofs.«01_k».proof.Proof.ModRow
public import proofs.«01_k».proof.Proof.Gen.Cmn.Frame
public import proofs.«01_k».proof.Proof.Gen.CmnIdeal.Value
public import proofs.«01_k».proof.Proof.Gen.CmnRefIdeal.Run
public import Idealize.ShloMosaic.Lib.Pipeline.ValueKit
public import Idealize.ShloMosaic.Lib.StableHlo.ReadAt
public import Idealize.ShloMosaic.Lib.Pointwise
public import Idealize.ShloMosaic.Lib.Claim
public import Idealize.ShloMosaic.Adequacy
public import Idealize.ShloMosaic.Init

@[expose] public section

set_option maxRecDepth 16384

noncomputable section

namespace Cert.CmnIdeal.Body

open Cert.CmnIdeal Cert.CmnIdeal.Gen Idealize.ShloMosaic Idealize.ShloMosaic.TcCoe Idealize.SL.Sem
open Idealize.ShloMosaic.Pipeline (Dat)

/-- A tile: token `i`'s row normed and modulated, at column `d`. -/
def tile (x : Vec Ideal S256x2048 .f32) (g s h : Vec Ideal S1x2048 .f32) (i : Fin 256) (d : Fin 2048) : EReal :=
  ModRow.mod (fun e : Fin 2048 => x (ix2 i e)) (fun e => g (ix2 0 e)) (fun e => s (ix2 0 e)) (fun e => h (ix2 0 e)) d

/-- What the body stores. -/
theorem pay1_at (x : Vec Ideal S256x2048 .f32) (g s h : Vec Ideal S1x2048 .f32) (i : Fin 256) (d : Fin 2048) :
    k0_pay1 x g s h (ix2 i d) = tile x g s h i d := by
  unfold tile
  pointwise [k0_pay1]
  rfl

/-- What the body leaves in the result's block. -/
theorem out_at (x : Vec Ideal S256x2048 .f32) (g s h : Vec Ideal S1x2048 .f32) (y : S256x2048.Idx) :
    out0_4 (F := Ideal) x g s h y = tile x g s h (y 0 : Fin 256) (y 1 : Fin 2048) := by
  unfold out0_4
  refine View.canon_apply_of_pieces (Val := Elt Ideal) (fun y : S256x2048.Idx => tile x g s h (y 0 : Fin 256) (y 1 : Fin 2048)) _ ?_ y (cover0_4 _ y)
  intro p hp z
  simp only [List.mem_cons, List.mem_nil_iff, or_false] at hp
  subst hp
  have ez : z = ix2 (z 0 : Fin 256) (z 1 : Fin 2048) := by funext a; fin_cases a <;> rfl
  have ex : View.ld x r0_0 = x := View.ld_unit_zero (by funext a; fin_cases a <;> rfl) _ x
  have e1 : ∀ v : Vec Ideal S1x2048 .f32, View.ld v r0_1 = v := fun v => View.ld_unit_zero (by funext a; fin_cases a <;> rfl) _ v
  show k0_pay1 (View.ld x r0_0) (View.ld g r0_1) (View.ld s r0_1) (View.ld h r0_1) z = _
  rw [ex, e1 g, e1 s, e1 h]
  refine (congrArg _ ez).trans ((pay1_at x g s h (z 0 : Fin 256) (z 1 : Fin 2048)).trans ?_)
  exact congr (congrArg (tile x g s h) (Fin.ext (by simp [Rect.unit, Rect.emb]))) (Fin.ext (by simp [Rect.unit, Rect.emb]))

variable (m : (ℓ : Loc nD τ sig) → Buf (Elt Ideal) ℓ) (c : Dev nD)

/-- The grid's indices of the windows: a block of tokens. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![(grid0.coords t 0).val, 0] := by
  decide +kernel

/-- A grid point's token `i`. -/
def row (t : Fin cfg0.N) (i : Fin 256) : Fin 256 :=
  ⟨256 * (grid0.coords t 0).val + i.val, by have : (grid0.coords t 0).val < 1 := (grid0.coords t 0).isLt; omega⟩

/-- The prepared weights of the norm. -/
theorem g_at (d : Fin 2048) : V m c main_v0 (ix2 0 d) = m ((c : Thread nD τ).loc main_arg1) (ix1 d) := by
  show StableHlo.after hostOps0 (fun b => m (c, b)) (Proc.tc.devRef _) _ = _
  simp only [hostOps0]
  after_reads_at

/-- The staged weights of the norm. -/
theorem blk_g (t : Fin cfg0.N) (d : Fin 2048) : iblk m c 1 t (ix2 0 d) = m ((c : Thread nD τ).loc main_arg1) (ix1 d) := by
  refine Eq.trans ?_ (g_at m c d)
  blk_ext [iblk, idx t]

/-- The prepared scale. -/
theorem s_at (d : Fin 2048) : V m c main_v1 (ix2 0 d) = m ((c : Thread nD τ).loc main_arg2) (ix1 d) := by
  show StableHlo.after hostOps0 (fun b => m (c, b)) (Proc.tc.devRef _) _ = _
  simp only [hostOps0]
  after_reads_at

/-- The staged scale. -/
theorem blk_s (t : Fin cfg0.N) (d : Fin 2048) : iblk m c 2 t (ix2 0 d) = m ((c : Thread nD τ).loc main_arg2) (ix1 d) := by
  refine Eq.trans ?_ (s_at m c d)
  blk_ext [iblk, idx t]

/-- The prepared shift. -/
theorem h_at (d : Fin 2048) : V m c main_v2 (ix2 0 d) = m ((c : Thread nD τ).loc main_arg3) (ix1 d) := by
  show StableHlo.after hostOps0 (fun b => m (c, b)) (Proc.tc.devRef _) _ = _
  simp only [hostOps0]
  after_reads_at

/-- The staged shift. -/
theorem blk_h (t : Fin cfg0.N) (d : Fin 2048) : iblk m c 3 t (ix2 0 d) = m ((c : Thread nD τ).loc main_arg3) (ix1 d) := by
  refine Eq.trans ?_ (h_at m c d)
  blk_ext [iblk, idx t]

/-- The staged tokens. -/
theorem blk_x (t : Fin cfg0.N) (i : Fin 256) (k : Fin 2048) : iblk m c 0 t (ix2 i k) = m ((c : Thread nD τ).loc main_arg0) (ix2 (row t i) k) := by
  refine Eq.trans ?_ (congrFun (V_main_arg0 m c) (ix2 (row t i) k))
  blk_ext [iblk, idx t, row]

/-- A token's row normed and modulated. -/
def val (n : Fin 256) (d : Fin 2048) : EReal :=
  ModRow.mod (fun e : Fin 2048 => m ((c : Thread nD τ).loc main_arg0) (ix2 n e)) (fun e => m ((c : Thread nD τ).loc main_arg1) (ix1 e))
    (fun e => m ((c : Thread nD τ).loc main_arg2) (ix1 e)) (fun e => m ((c : Thread nD τ).loc main_arg3) (ix1 e)) d

/-- The result's array by coordinates. -/
def result : Vec Ideal S256x2048 .bf16 := fun i => val m c (i 0 : Fin 256) (i 1 : Fin 2048)

/-- The result's array after the run. -/
theorem arr : (dats m 0 c).arrAt 4 cfg0.N = result m c := by
  refine (dats m 0 c).arrAt_eq_of_covers 4 _ (by decide +kernel) (fun t hf y => ?_)
  refine (congrFun (Value.flushed4 m c t) y).trans ?_
  have hy0 : (y 0).val < 256 := (y 0).isLt
  have hy1 : (y 1).val < 2048 := (y 1).isLt
  have ez : ((cfg0.win 4).blk t).view.emb y = ix2 (row t ⟨(y 0).val, hy0⟩) (⟨(y 1).val, hy1⟩ : Fin 2048) := by
    blk_ext [idx t, row]
  refine Eq.trans ?_ (congrArg (result m c) ez.symm)
  refine Eq.trans ?_ ((out_at (iblk m c 0 t) (iblk m c 1 t) (iblk m c 2 t) (iblk m c 3 t) (ix2 ⟨(y 0).val, hy0⟩ ⟨(y 1).val, hy1⟩)).trans ?_)
  · exact congrArg _ (by funext a; fin_cases a <;> rfl)
  · show tile _ _ _ _ ⟨(y 0).val, hy0⟩ ⟨(y 1).val, hy1⟩ = val m c (row t ⟨(y 0).val, hy0⟩) ⟨(y 1).val, hy1⟩
    unfold tile val
    exact congr (congr (congr (congr (congrArg ModRow.mod (funext fun e => blk_x m c t ⟨(y 0).val, hy0⟩ e)) (funext fun e => blk_g m c t e))
      (funext fun e => blk_s m c t e)) (funext fun e => blk_h m c t e)) rfl

end Cert.CmnIdeal.Body

namespace Cert.CmnRefIdeal.Body

open Cert.CmnRefIdeal Cert.CmnRefIdeal.Gen Idealize.ShloMosaic Idealize.ShloMosaic.TcCoe

/-- The reference's result. -/
def res (a0 : FVec Ideal S256x2048 .f32) (a1 a2 a3 : FVec Ideal S2048 .f32) : FVec Ideal S256x2048 .bf16 :=
  truncf .bf16 (addf (mulf (mulf (mulf a0 (broadcastInDim S256x2048 ![0, 1] bcast_S256x1_S256x2048_0_1 (Host.rsqrt (addf (Host.divf (broadcastInDim S256x1 ![0] bcast_S256_S256x1_0 (Host.reduceAdd (mulf a0 a0) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 a1))) (broadcastInDim S256x2048 ![0, 1] bcast_S1x2048_S256x2048_0_1 (broadcastInDim S1x2048 ![1] bcast_S2048_S1x2048_1 (addf (broadcastInDim S2048 ![] bcast_S_S2048 (constant S_ .f32 0x3F800000#32)) a2)))) (broadcastInDim S256x2048 ![0, 1] bcast_S1x2048_S256x2048_0_1 (broadcastInDim S1x2048 ![1] bcast_S2048_S1x2048_1 a3))) bitsLt_bf16_f32

/-- The reference's result at an index. -/
theorem res_at (a0 : FVec Ideal S256x2048 .f32) (a1 a2 a3 : FVec Ideal S2048 .f32) (n : Fin 256) (d : Fin 2048) :
    res a0 a1 a2 a3 (ix2 n d) = ModRow.mod (fun e => a0 (ix2 n e)) (fun e => a1 (ix1 e)) (fun e => a2 (ix1 e)) (fun e => a3 (ix1 e)) d := by
  unfold ModRow.mod
  pointwise [res]

end Cert.CmnRefIdeal.Body

namespace Cert.Proof.CmnClaims

open Idealize.ShloMosaic Idealize.ShloMosaic.TcCoe Idealize.SL.Sem

/-- The reference ends with its arguments and every counter as they were. -/
theorem frame_ref : Cert.quiescent_CmnRefIdeal := fun m ρ _ =>
  (θ_run Cert.CmnRefIdeal.defs _ _).mono (fun r h => ⟨fun c => (h c).2, sem_eq_zero_of_no_sems (by decide) r.2⟩)
    (Cert.CmnRefIdeal.Value.run (F := Ideal) m ρ)

/-- Kernel and reference leave the same array. -/
theorem algebraic : Cert.algebraic_CmnIdeal_CmnRefIdeal := by
  intro m ρ m' ρ' _ hagree
  refine ⟨fun c => Cert.CmnIdeal.Body.result m c,
    (θ_run Cert.CmnIdeal.defs _ _).mono (fun r h c => ⟨(h c).1.trans (Cert.CmnIdeal.Body.arr m c), (h c).2⟩)
      (Cert.CmnIdeal.Value.run_blocks m ρ), ?_⟩
  refine (θ_run Cert.CmnRefIdeal.defs _ _).mono (fun r h c => ⟨(h c).1.trans ?_, (h c).2⟩) (Cert.CmnRefIdeal.Value.run (F := Ideal) m' ρ')
  obtain ⟨h0, h1, h2, h3⟩ := hagree c
  rw [h0, h1, h2, h3]
  funext i
  have ei : i = ix2 (i 0 : Fin 256) (i 1 : Fin 2048) := by funext a; fin_cases a <;> rfl
  exact (congrArg _ ei).trans (Cert.CmnRefIdeal.Body.res_at _ _ _ _ (i 0 : Fin 256) (i 1 : Fin 2048))

end Cert.Proof.CmnClaims
-- ==== Proof.lean ====
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Dif
public import proofs.«01_k».proof.Proof.Gen.Dif.Skeleton
public import proofs.«01_k».proof.Proof.Gen.Dif.Loops
public import proofs.«01_k».proof.Proof.Gen.Dif.Launch
public import proofs.«01_k».proof.Proof.Gen.Dif.Points
public import proofs.«01_k».proof.Proof.Gen.Dif.Frame
public import proofs.«01_k».proof.Proof.Gen.DifIdeal
public import proofs.«01_k».proof.Proof.Gen.DifIdeal.Skeleton
public import proofs.«01_k».proof.Proof.Gen.DifIdeal.Loops
public import proofs.«01_k».proof.Proof.Gen.DifIdeal.Launch
public import proofs.«01_k».proof.Proof.Gen.DifIdeal.Points
public import proofs.«01_k».proof.Proof.Gen.DifIdeal.Frame
public import proofs.«01_k».proof.Proof.Gen.DifRefIdeal
public import proofs.«01_k».proof.Proof.Gen.Pre_finite
public import proofs.«01_k».proof.Proof.Gen.Pre_finite_diff
public import proofs.«01_k».proof.Proof.MlaClaims
public import proofs.«01_k».proof.Proof.DifClaims
public import proofs.«01_k».proof.Proof.OutClaims
public import proofs.«01_k».proof.Proof.GatClaims
public import proofs.«01_k».proof.Proof.LinClaims
public import proofs.«01_k».proof.Proof.RopClaims
public import proofs.«01_k».proof.Proof.ValClaims
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Gat
public import proofs.«01_k».proof.Proof.Gen.Gat.Skeleton
public import proofs.«01_k».proof.Proof.Gen.Gat.Launch
public import proofs.«01_k».proof.Proof.Gen.Gat.Points
public import proofs.«01_k».proof.Proof.Gen.Gat.Frame
public import proofs.«01_k».proof.Proof.Gen.GatIdeal
public import proofs.«01_k».proof.Proof.Gen.GatIdeal.Skeleton
public import proofs.«01_k».proof.Proof.Gen.GatIdeal.Launch
public import proofs.«01_k».proof.Proof.Gen.GatIdeal.Points
public import proofs.«01_k».proof.Proof.Gen.GatIdeal.Frame
public import proofs.«01_k».proof.Proof.Gen.GatIdeal.Value
public import proofs.«01_k».proof.Proof.Gen.GatRefIdeal
public import proofs.«01_k».proof.Proof.Gen.GatRefIdeal.Run
public import proofs.«01_k».proof.Proof.Gen.Lin
public import proofs.«01_k».proof.Proof.Gen.Lin.Skeleton
public import proofs.«01_k».proof.Proof.Gen.Lin.Launch
public import proofs.«01_k».proof.Proof.Gen.Lin.Points
public import proofs.«01_k».proof.Proof.Gen.Lin.Frame
public import proofs.«01_k».proof.Proof.Gen.LinIdeal
public import proofs.«01_k».proof.Proof.Gen.LinIdeal.Skeleton
public import proofs.«01_k».proof.Proof.Gen.LinIdeal.Launch
public import proofs.«01_k».proof.Proof.Gen.LinIdeal.Points
public import proofs.«01_k».proof.Proof.Gen.LinIdeal.Frame
public import proofs.«01_k».proof.Proof.Gen.LinIdeal.Value
public import proofs.«01_k».proof.Proof.Gen.LinRefIdeal
public import proofs.«01_k».proof.Proof.Gen.LinRefIdeal.Run
public import proofs.«01_k».proof.Proof.Gen.Rop
public import proofs.«01_k».proof.Proof.Gen.Rop.Skeleton
public import proofs.«01_k».proof.Proof.Gen.Rop.Launch
public import proofs.«01_k».proof.Proof.Gen.Rop.Points
public import proofs.«01_k».proof.Proof.Gen.Rop.Frame
public import proofs.«01_k».proof.Proof.Gen.RopIdeal
public import proofs.«01_k».proof.Proof.Gen.RopIdeal.Skeleton
public import proofs.«01_k».proof.Proof.Gen.RopIdeal.Launch
public import proofs.«01_k».proof.Proof.Gen.RopIdeal.Points
public import proofs.«01_k».proof.Proof.Gen.RopIdeal.Frame
public import proofs.«01_k».proof.Proof.Gen.RopIdeal.Value
public import proofs.«01_k».proof.Proof.Gen.RopRefIdeal
public import proofs.«01_k».proof.Proof.Gen.RopRefIdeal.Run
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValIdeal.Value
public import proofs.«01_k».proof.Proof.Gen.ValRefIdeal
public import proofs.«01_k».proof.Proof.Gen.ValRefIdeal.Run
public import proofs.«01_k».proof.Proof.SwkClaims
public import proofs.«01_k».proof.Proof.Gen.Swk
public import proofs.«01_k».proof.Proof.Gen.Swk.Skeleton
public import proofs.«01_k».proof.Proof.Gen.Swk.Launch
public import proofs.«01_k».proof.Proof.Gen.Swk.Points
public import proofs.«01_k».proof.Proof.Gen.Swk.Frame
public import proofs.«01_k».proof.Proof.Gen.SwkIdeal
public import proofs.«01_k».proof.Proof.Gen.SwkIdeal.Skeleton
public import proofs.«01_k».proof.Proof.Gen.SwkIdeal.Launch
public import proofs.«01_k».proof.Proof.Gen.SwkIdeal.Points
public import proofs.«01_k».proof.Proof.Gen.SwkIdeal.Frame
public import proofs.«01_k».proof.Proof.Gen.SwkIdeal.Value
public import proofs.«01_k».proof.Proof.Gen.SwkRefIdeal
public import proofs.«01_k».proof.Proof.Gen.SwkRefIdeal.Run
public import proofs.«01_k».proof.Proof.SwvClaims
public import proofs.«01_k».proof.Proof.Gen.Swv
public import proofs.«01_k».proof.Proof.Gen.Swv.Skeleton
public import proofs.«01_k».proof.Proof.Gen.Swv.Launch
public import proofs.«01_k».proof.Proof.Gen.Swv.Points
public import proofs.«01_k».proof.Proof.Gen.Swv.Frame
public import proofs.«01_k».proof.Proof.Gen.SwvIdeal
public import proofs.«01_k».proof.Proof.Gen.SwvIdeal.Skeleton
public import proofs.«01_k».proof.Proof.Gen.SwvIdeal.Launch
public import proofs.«01_k».proof.Proof.Gen.SwvIdeal.Points
public import proofs.«01_k».proof.Proof.Gen.SwvIdeal.Frame
public import proofs.«01_k».proof.Proof.Gen.SwvIdeal.Value
public import proofs.«01_k».proof.Proof.Gen.SwvRefIdeal
public import proofs.«01_k».proof.Proof.Gen.SwvRefIdeal.Run
public import proofs.«01_k».proof.Proof.MlvClaims
public import proofs.«01_k».proof.Proof.Gen.Mlv
public import proofs.«01_k».proof.Proof.Gen.Mlv.Skeleton
public import proofs.«01_k».proof.Proof.Gen.Mlv.Launch
public import proofs.«01_k».proof.Proof.Gen.Mlv.Points
public import proofs.«01_k».proof.Proof.Gen.Mlv.Frame
public import proofs.«01_k».proof.Proof.Gen.MlvIdeal
public import proofs.«01_k».proof.Proof.Gen.MlvIdeal.Skeleton
public import proofs.«01_k».proof.Proof.Gen.MlvIdeal.Launch
public import proofs.«01_k».proof.Proof.Gen.MlvIdeal.Points
public import proofs.«01_k».proof.Proof.Gen.MlvIdeal.Frame
public import proofs.«01_k».proof.Proof.Gen.MlvIdeal.Value
public import proofs.«01_k».proof.Proof.Gen.MlvRefIdeal
public import proofs.«01_k».proof.Proof.Gen.MlvRefIdeal.Run
public import proofs.«01_k».proof.Proof.McqClaims
public import proofs.«01_k».proof.Proof.Gen.Mcq
public import proofs.«01_k».proof.Proof.Gen.Mcq.Skeleton
public import proofs.«01_k».proof.Proof.Gen.Mcq.Launch
public import proofs.«01_k».proof.Proof.Gen.Mcq.Points
public import proofs.«01_k».proof.Proof.Gen.Mcq.Frame
public import proofs.«01_k».proof.Proof.Gen.McqIdeal
public import proofs.«01_k».proof.Proof.Gen.McqIdeal.Skeleton
public import proofs.«01_k».proof.Proof.Gen.McqIdeal.Launch
public import proofs.«01_k».proof.Proof.Gen.McqIdeal.Points
public import proofs.«01_k».proof.Proof.Gen.McqIdeal.Frame
public import proofs.«01_k».proof.Proof.Gen.McqIdeal.Value
public import proofs.«01_k».proof.Proof.Gen.McqRefIdeal
public import proofs.«01_k».proof.Proof.Gen.McqRefIdeal.Run
public import proofs.«01_k».proof.Proof.MckClaims
public import proofs.«01_k».proof.Proof.Gen.Mck
public import proofs.«01_k».proof.Proof.Gen.Mck.Skeleton
public import proofs.«01_k».proof.Proof.Gen.Mck.Launch
public import proofs.«01_k».proof.Proof.Gen.Mck.Points
public import proofs.«01_k».proof.Proof.Gen.Mck.Frame
public import proofs.«01_k».proof.Proof.Gen.MckIdeal
public import proofs.«01_k».proof.Proof.Gen.MckIdeal.Skeleton
public import proofs.«01_k».proof.Proof.Gen.MckIdeal.Launch
public import proofs.«01_k».proof.Proof.Gen.MckIdeal.Points
public import proofs.«01_k».proof.Proof.Gen.MckIdeal.Frame
public import proofs.«01_k».proof.Proof.Gen.MckIdeal.Value
public import proofs.«01_k».proof.Proof.Gen.MckRefIdeal
public import proofs.«01_k».proof.Proof.Gen.MckRefIdeal.Run
public import proofs.«01_k».proof.Proof.MknClaims
public import proofs.«01_k».proof.Proof.Gen.Mkn
public import proofs.«01_k».proof.Proof.Gen.Mkn.Skeleton
public import proofs.«01_k».proof.Proof.Gen.Mkn.Launch
public import proofs.«01_k».proof.Proof.Gen.Mkn.Points
public import proofs.«01_k».proof.Proof.Gen.Mkn.Frame
public import proofs.«01_k».proof.Proof.Gen.MknIdeal
public import proofs.«01_k».proof.Proof.Gen.MknIdeal.Skeleton
public import proofs.«01_k».proof.Proof.Gen.MknIdeal.Launch
public import proofs.«01_k».proof.Proof.Gen.MknIdeal.Points
public import proofs.«01_k».proof.Proof.Gen.MknIdeal.Frame
public import proofs.«01_k».proof.Proof.Gen.MknIdeal.Value
public import proofs.«01_k».proof.Proof.Gen.MknRefIdeal
public import proofs.«01_k».proof.Proof.Gen.MknRefIdeal.Run
public import proofs.«01_k».proof.Proof.MlqClaims
public import proofs.«01_k».proof.Proof.Gen.Mlq
public import proofs.«01_k».proof.Proof.Gen.Mlq.Skeleton
public import proofs.«01_k».proof.Proof.Gen.Mlq.Launch
public import proofs.«01_k».proof.Proof.Gen.Mlq.Points
public import proofs.«01_k».proof.Proof.Gen.Mlq.Frame
public import proofs.«01_k».proof.Proof.Gen.MlqIdeal
public import proofs.«01_k».proof.Proof.Gen.MlqIdeal.Skeleton
public import proofs.«01_k».proof.Proof.Gen.MlqIdeal.Launch
public import proofs.«01_k».proof.Proof.Gen.MlqIdeal.Points
public import proofs.«01_k».proof.Proof.Gen.MlqIdeal.Frame
public import proofs.«01_k».proof.Proof.Gen.MlqIdeal.Value
public import proofs.«01_k».proof.Proof.Gen.MlqRefIdeal
public import proofs.«01_k».proof.Proof.Gen.MlqRefIdeal.Run
public import proofs.«01_k».proof.Proof.MkrClaims
public import proofs.«01_k».proof.Proof.Gen.Mkr
public import proofs.«01_k».proof.Proof.Gen.Mkr.Skeleton
public import proofs.«01_k».proof.Proof.Gen.Mkr.Launch
public import proofs.«01_k».proof.Proof.Gen.Mkr.Points
public import proofs.«01_k».proof.Proof.Gen.Mkr.Frame
public import proofs.«01_k».proof.Proof.Gen.MkrIdeal
public import proofs.«01_k».proof.Proof.Gen.MkrIdeal.Skeleton
public import proofs.«01_k».proof.Proof.Gen.MkrIdeal.Launch
public import proofs.«01_k».proof.Proof.Gen.MkrIdeal.Points
public import proofs.«01_k».proof.Proof.Gen.MkrIdeal.Frame
public import proofs.«01_k».proof.Proof.Gen.MkrIdeal.Value
public import proofs.«01_k».proof.Proof.Gen.MkrRefIdeal
public import proofs.«01_k».proof.Proof.Gen.MkrRefIdeal.Run
public import proofs.«01_k».proof.Proof.CouClaims
public import proofs.«01_k».proof.Proof.Gen.Cou
public import proofs.«01_k».proof.Proof.Gen.Cou.Skeleton
public import proofs.«01_k».proof.Proof.Gen.Cou.Launch
public import proofs.«01_k».proof.Proof.Gen.Cou.Points
public import proofs.«01_k».proof.Proof.Gen.Cou.Frame
public import proofs.«01_k».proof.Proof.Gen.CouIdeal
public import proofs.«01_k».proof.Proof.Gen.CouIdeal.Skeleton
public import proofs.«01_k».proof.Proof.Gen.CouIdeal.Launch
public import proofs.«01_k».proof.Proof.Gen.CouIdeal.Points
public import proofs.«01_k».proof.Proof.Gen.CouIdeal.Frame
public import proofs.«01_k».proof.Proof.Gen.CouIdeal.Value
public import proofs.«01_k».proof.Proof.Gen.CouRefIdeal
public import proofs.«01_k».proof.Proof.Gen.CouRefIdeal.Run
public import proofs.«01_k».proof.Proof.CgaClaims
public import proofs.«01_k».proof.Proof.Gen.Cga
public import proofs.«01_k».proof.Proof.Gen.Cga.Skeleton
public import proofs.«01_k».proof.Proof.Gen.Cga.Launch
public import proofs.«01_k».proof.Proof.Gen.Cga.Points
public import proofs.«01_k».proof.Proof.Gen.Cga.Frame
public import proofs.«01_k».proof.Proof.Gen.CgaIdeal
public import proofs.«01_k».proof.Proof.Gen.CgaIdeal.Skeleton
public import proofs.«01_k».proof.Proof.Gen.CgaIdeal.Launch
public import proofs.«01_k».proof.Proof.Gen.CgaIdeal.Points
public import proofs.«01_k».proof.Proof.Gen.CgaIdeal.Frame
public import proofs.«01_k».proof.Proof.Gen.CgaIdeal.Value
public import proofs.«01_k».proof.Proof.Gen.CgaRefIdeal
public import proofs.«01_k».proof.Proof.Gen.CgaRefIdeal.Run
public import proofs.«01_k».proof.Proof.CliClaims
public import proofs.«01_k».proof.Proof.Gen.Cli
public import proofs.«01_k».proof.Proof.Gen.Cli.Skeleton
public import proofs.«01_k».proof.Proof.Gen.Cli.Launch
public import proofs.«01_k».proof.Proof.Gen.Cli.Points
public import proofs.«01_k».proof.Proof.Gen.Cli.Frame
public import proofs.«01_k».proof.Proof.Gen.CliIdeal
public import proofs.«01_k».proof.Proof.Gen.CliIdeal.Skeleton
public import proofs.«01_k».proof.Proof.Gen.CliIdeal.Launch
public import proofs.«01_k».proof.Proof.Gen.CliIdeal.Points
public import proofs.«01_k».proof.Proof.Gen.CliIdeal.Frame
public import proofs.«01_k».proof.Proof.Gen.CliIdeal.Value
public import proofs.«01_k».proof.Proof.Gen.CliRefIdeal
public import proofs.«01_k».proof.Proof.Gen.CliRefIdeal.Run
public import proofs.«01_k».proof.Proof.ChnClaims
public import proofs.«01_k».proof.Proof.Gen.Chn
public import proofs.«01_k».proof.Proof.Gen.Chn.Skeleton
public import proofs.«01_k».proof.Proof.Gen.Chn.Launch
public import proofs.«01_k».proof.Proof.Gen.Chn.Points
public import proofs.«01_k».proof.Proof.Gen.Chn.Frame
public import proofs.«01_k».proof.Proof.Gen.ChnIdeal
public import proofs.«01_k».proof.Proof.Gen.ChnIdeal.Skeleton
public import proofs.«01_k».proof.Proof.Gen.ChnIdeal.Launch
public import proofs.«01_k».proof.Proof.Gen.ChnIdeal.Points
public import proofs.«01_k».proof.Proof.Gen.ChnIdeal.Frame
public import proofs.«01_k».proof.Proof.Gen.ChnIdeal.Value
public import proofs.«01_k».proof.Proof.Gen.ChnRefIdeal
public import proofs.«01_k».proof.Proof.Gen.ChnRefIdeal.Run
public import proofs.«01_k».proof.Proof.CvaClaims
public import proofs.«01_k».proof.Proof.Gen.Cva
public import proofs.«01_k».proof.Proof.Gen.Cva.Skeleton
public import proofs.«01_k».proof.Proof.Gen.Cva.Launch
public import proofs.«01_k».proof.Proof.Gen.Cva.Points
public import proofs.«01_k».proof.Proof.Gen.Cva.Frame
public import proofs.«01_k».proof.Proof.Gen.CvaIdeal
public import proofs.«01_k».proof.Proof.Gen.CvaIdeal.Skeleton
public import proofs.«01_k».proof.Proof.Gen.CvaIdeal.Launch
public import proofs.«01_k».proof.Proof.Gen.CvaIdeal.Points
public import proofs.«01_k».proof.Proof.Gen.CvaIdeal.Frame
public import proofs.«01_k».proof.Proof.Gen.CvaIdeal.Value
public import proofs.«01_k».proof.Proof.Gen.CvaRefIdeal
public import proofs.«01_k».proof.Proof.Gen.CvaRefIdeal.Run
public import proofs.«01_k».proof.Proof.AdaClaims
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.MnoClaims
public import proofs.«01_k».proof.Proof.Gen.Mno
public import proofs.«01_k».proof.Proof.Gen.Mno.Skeleton
public import proofs.«01_k».proof.Proof.Gen.Mno.Launch
public import proofs.«01_k».proof.Proof.Gen.Mno.Points
public import proofs.«01_k».proof.Proof.Gen.Mno.Frame
public import proofs.«01_k».proof.Proof.Gen.MnoIdeal
public import proofs.«01_k».proof.Proof.Gen.MnoIdeal.Skeleton
public import proofs.«01_k».proof.Proof.Gen.MnoIdeal.Launch
public import proofs.«01_k».proof.Proof.Gen.MnoIdeal.Points
public import proofs.«01_k».proof.Proof.Gen.MnoIdeal.Frame
public import proofs.«01_k».proof.Proof.Gen.MnoIdeal.Value
public import proofs.«01_k».proof.Proof.Gen.MnoRefIdeal
public import proofs.«01_k».proof.Proof.Gen.MnoRefIdeal.Run
public import proofs.«01_k».proof.Proof.CmnClaims
public import proofs.«01_k».proof.Proof.Gen.Cmn
public import proofs.«01_k».proof.Proof.Gen.Cmn.Skeleton
public import proofs.«01_k».proof.Proof.Gen.Cmn.Launch
public import proofs.«01_k».proof.Proof.Gen.Cmn.Points
public import proofs.«01_k».proof.Proof.Gen.Cmn.Frame
public import proofs.«01_k».proof.Proof.Gen.CmnIdeal
public import proofs.«01_k».proof.Proof.Gen.CmnIdeal.Skeleton
public import proofs.«01_k».proof.Proof.Gen.CmnIdeal.Launch
public import proofs.«01_k».proof.Proof.Gen.CmnIdeal.Points
public import proofs.«01_k».proof.Proof.Gen.CmnIdeal.Frame
public import proofs.«01_k».proof.Proof.Gen.CmnIdeal.Value
public import proofs.«01_k».proof.Proof.Gen.CmnRefIdeal
public import proofs.«01_k».proof.Proof.Gen.CmnRefIdeal.Run
public import Idealize.ShloMosaic.Adequacy
public import Idealize.ShloMosaic.Init
public import proofs.«01_k».proof.Proof.Gen.DifRefIdeal.Run
public import proofs.«01_k».proof.Proof.Gen.DifIdeal.Value
public import proofs.«01_k».proof.Proof.Gen.MlaRefIdeal.Run
public import proofs.«01_k».proof.Proof.Gen.MlaIdeal.Value

@[expose] public section

noncomputable section

namespace Cert.Proof

open Idealize.ShloMosaic Idealize.SL.Sem

/-- Every claim of the certificate. -/
theorem claim : Cert.Claim :=
  ⟨Cert.Mla.Gen.facts, Cert.MlaIdeal.Gen.facts, Cert.MlaRefIdeal.Gen.facts,
    Cert.Dif.Gen.facts, Cert.DifIdeal.Gen.facts, Cert.DifRefIdeal.Gen.facts,
    Cert.Out.Gen.facts, Cert.OutIdeal.Gen.facts, Cert.OutRefIdeal.Gen.facts,
    Cert.Gat.Gen.facts, Cert.GatIdeal.Gen.facts, Cert.GatRefIdeal.Gen.facts,
    Cert.Lin.Gen.facts, Cert.LinIdeal.Gen.facts, Cert.LinRefIdeal.Gen.facts,
    Cert.Rop.Gen.facts, Cert.RopIdeal.Gen.facts, Cert.RopRefIdeal.Gen.facts,
    Cert.Val.Gen.facts, Cert.ValIdeal.Gen.facts, Cert.ValRefIdeal.Gen.facts,
    Cert.Swk.Gen.facts, Cert.SwkIdeal.Gen.facts, Cert.SwkRefIdeal.Gen.facts,
    Cert.Swv.Gen.facts, Cert.SwvIdeal.Gen.facts, Cert.SwvRefIdeal.Gen.facts,
    Cert.Mlv.Gen.facts, Cert.MlvIdeal.Gen.facts, Cert.MlvRefIdeal.Gen.facts,
    Cert.Mcq.Gen.facts, Cert.McqIdeal.Gen.facts, Cert.McqRefIdeal.Gen.facts,
    Cert.Mck.Gen.facts, Cert.MckIdeal.Gen.facts, Cert.MckRefIdeal.Gen.facts,
    Cert.Mkn.Gen.facts, Cert.MknIdeal.Gen.facts, Cert.MknRefIdeal.Gen.facts,
    Cert.Mlq.Gen.facts, Cert.MlqIdeal.Gen.facts, Cert.MlqRefIdeal.Gen.facts,
    Cert.Mkr.Gen.facts, Cert.MkrIdeal.Gen.facts, Cert.MkrRefIdeal.Gen.facts,
    Cert.Cou.Gen.facts, Cert.CouIdeal.Gen.facts, Cert.CouRefIdeal.Gen.facts,
    Cert.Cga.Gen.facts, Cert.CgaIdeal.Gen.facts, Cert.CgaRefIdeal.Gen.facts,
    Cert.Cli.Gen.facts, Cert.CliIdeal.Gen.facts, Cert.CliRefIdeal.Gen.facts,
    Cert.Chn.Gen.facts, Cert.ChnIdeal.Gen.facts, Cert.ChnRefIdeal.Gen.facts,
    Cert.Cva.Gen.facts, Cert.CvaIdeal.Gen.facts, Cert.CvaRefIdeal.Gen.facts,
    Cert.Ada.Gen.facts, Cert.AdaIdeal.Gen.facts, Cert.AdaRefIdeal.Gen.facts,
    Cert.Mno.Gen.facts, Cert.MnoIdeal.Gen.facts, Cert.MnoRefIdeal.Gen.facts,
    Cert.Cmn.Gen.facts, Cert.CmnIdeal.Gen.facts, Cert.CmnRefIdeal.Gen.facts,
    Cert.Pre_finite.Gen.facts, Cert.Pre_finite_diff.Gen.facts,
    fun m ρ _ => Cert.Mla.Gen.frame m ρ,
    fun m ρ _ => Cert.MlaIdeal.Gen.frame m ρ,
    fun m ρ _ => Cert.MlaIdeal.Gen.frame m ρ,
    MlaClaims.frame_ref,
    fun m ρ _ => MlaClaims.frame_ref m ρ trivial,
    fun m ρ _ => Cert.Dif.Gen.frame m ρ,
    fun m ρ _ => Cert.DifIdeal.Gen.frame m ρ,
    fun m ρ _ => Cert.DifIdeal.Gen.frame m ρ,
    DifClaims.frame_ref,
    fun m ρ _ => DifClaims.frame_ref m ρ trivial,
    fun m ρ _ => Cert.Out.Gen.frame m ρ, fun m ρ _ => Cert.OutIdeal.Gen.frame m ρ, OutClaims.frame_ref,
    fun m ρ _ => Cert.Gat.Gen.frame m ρ, fun m ρ _ => Cert.GatIdeal.Gen.frame m ρ, GatClaims.frame_ref,
    fun m ρ _ => Cert.Lin.Gen.frame m ρ, fun m ρ _ => Cert.LinIdeal.Gen.frame m ρ, LinClaims.frame_ref,
    fun m ρ _ => Cert.Rop.Gen.frame m ρ, fun m ρ _ => Cert.RopIdeal.Gen.frame m ρ, RopClaims.frame_ref,
    fun m ρ _ => Cert.Val.Gen.frame m ρ, fun m ρ _ => Cert.ValIdeal.Gen.frame m ρ, ValClaims.frame_ref,
    fun m ρ _ => Cert.Swk.Gen.frame m ρ, fun m ρ _ => Cert.SwkIdeal.Gen.frame m ρ, SwkClaims.frame_ref,
    fun m ρ _ => Cert.Swv.Gen.frame m ρ, fun m ρ _ => Cert.SwvIdeal.Gen.frame m ρ, SwvClaims.frame_ref,
    fun m ρ _ => Cert.Mlv.Gen.frame m ρ, fun m ρ _ => Cert.MlvIdeal.Gen.frame m ρ, MlvClaims.frame_ref,
    fun m ρ _ => Cert.Mcq.Gen.frame m ρ, fun m ρ _ => Cert.McqIdeal.Gen.frame m ρ, McqClaims.frame_ref,
    fun m ρ _ => Cert.Mck.Gen.frame m ρ, fun m ρ _ => Cert.MckIdeal.Gen.frame m ρ, MckClaims.frame_ref,
    fun m ρ _ => Cert.Mkn.Gen.frame m ρ, fun m ρ _ => Cert.MknIdeal.Gen.frame m ρ, MknClaims.frame_ref,
    fun m ρ _ => Cert.Mlq.Gen.frame m ρ, fun m ρ _ => Cert.MlqIdeal.Gen.frame m ρ, MlqClaims.frame_ref,
    fun m ρ _ => Cert.Mkr.Gen.frame m ρ, fun m ρ _ => Cert.MkrIdeal.Gen.frame m ρ, MkrClaims.frame_ref,
    fun m ρ _ => Cert.Cou.Gen.frame m ρ, fun m ρ _ => Cert.CouIdeal.Gen.frame m ρ, CouClaims.frame_ref,
    fun m ρ _ => Cert.Cga.Gen.frame m ρ, fun m ρ _ => Cert.CgaIdeal.Gen.frame m ρ, CgaClaims.frame_ref,
    fun m ρ _ => Cert.Cli.Gen.frame m ρ, fun m ρ _ => Cert.CliIdeal.Gen.frame m ρ, CliClaims.frame_ref,
    fun m ρ _ => Cert.Chn.Gen.frame m ρ, fun m ρ _ => Cert.ChnIdeal.Gen.frame m ρ, ChnClaims.frame_ref,
    fun m ρ _ => Cert.Cva.Gen.frame m ρ, fun m ρ _ => Cert.CvaIdeal.Gen.frame m ρ, CvaClaims.frame_ref,
    fun m ρ _ => Cert.Ada.Gen.frame m ρ, fun m ρ _ => Cert.AdaIdeal.Gen.frame m ρ, AdaClaims.frame_ref,
    fun m ρ _ => Cert.Mno.Gen.frame m ρ, fun m ρ _ => Cert.MnoIdeal.Gen.frame m ρ, MnoClaims.frame_ref,
    fun m ρ _ => Cert.Cmn.Gen.frame m ρ, fun m ρ _ => Cert.CmnIdeal.Gen.frame m ρ, CmnClaims.frame_ref,
    trivial, MlaClaims.algebraic, trivial, DifClaims.algebraic,
    trivial, OutClaims.algebraic, trivial, GatClaims.algebraic, trivial, LinClaims.algebraic, trivial, RopClaims.algebraic, trivial, ValClaims.algebraic,
    trivial, SwkClaims.algebraic, trivial, SwvClaims.algebraic, trivial, MlvClaims.algebraic, trivial, McqClaims.algebraic, trivial, MckClaims.algebraic, trivial, MknClaims.algebraic, trivial, MlqClaims.algebraic, trivial, MkrClaims.algebraic,
    trivial, CouClaims.algebraic, trivial, CgaClaims.algebraic, trivial, CliClaims.algebraic, trivial, ChnClaims.algebraic, trivial, CvaClaims.algebraic,
    trivial, AdaClaims.algebraic, trivial, MnoClaims.algebraic, trivial, CmnClaims.algebraic⟩

end Cert.Proof

end
